-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inproj [hPre_finite_inproj : Cert.Pre_finite_inproj.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inproj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inproj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inproj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inproj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inproj [hPre_finite_inproj : Cert.Pre_finite_inproj.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inproj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inproj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inproj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inproj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_fox [hPre_finite_fox : Cert.Pre_finite_fox.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.1 = (fun _ => 1#1)
    ∧ (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_fox [hPre_finite_fox : Cert.Pre_finite_fox.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.1 = (fun _ => 1#1)
    ∧ (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_attn [hPre_finite_attn : Cert.Pre_finite_attn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_attn [hPre_finite_attn : Cert.Pre_finite_attn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_rwkv [hPre_finite_rwkv : Cert.Pre_finite_rwkv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.2.2.2.2.1 = (fun _ => 1#1)
    ∧ (Cert.Pre_finite_rwkv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))).2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_rwkv [hPre_finite_rwkv : Cert.Pre_finite_rwkv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.2.2.2.2.1 = (fun _ => 1#1)
    ∧ (Cert.Pre_finite_rwkv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))).2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_merge [hPre_finite_merge : Cert.Pre_finite_merge.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.2.2.2.2.1 = (fun _ => 1#1)
    ∧ (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17))).2.2.2.2.2.2.2.2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_merge [hPre_finite_merge : Cert.Pre_finite_merge.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.2.2.2.2.1 = (fun _ => 1#1)
    ∧ (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17))).2.2.2.2.2.2.2.2.2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_attn [hPre_finite_attn : Cert.Pre_finite_attn.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_attn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_attn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_attn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_attn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite_attn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_attn [hPre_finite_attn : Cert.Pre_finite_attn.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_attn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_attn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_attn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_attn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite_attn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inproj [hKernelIdeal : Cert.KernelIdeal.Facts] [hPre_finite_inproj : Cert.Pre_finite_inproj.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inproj m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inproj [hReferenceIdeal : Cert.ReferenceIdeal.Facts] [hPre_finite_inproj : Cert.Pre_finite_inproj.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inproj m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_fox [hKernel2Ideal : Cert.Kernel2Ideal.Facts] [hPre_finite_fox : Cert.Pre_finite_fox.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_fox m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_fox [hReference2Ideal : Cert.Reference2Ideal.Facts] [hPre_finite_fox : Cert.Pre_finite_fox.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_fox m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_attn [hKernel3Ideal : Cert.Kernel3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_attn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_attn [hReference3Ideal : Cert.Reference3Ideal.Facts] [hPre_finite_attn : Cert.Pre_finite_attn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_attn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Kernel4Ideal_pre_finite_rwkv [hKernel4Ideal : Cert.Kernel4Ideal.Facts] [hPre_finite_rwkv : Cert.Pre_finite_rwkv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_rwkv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Reference4Ideal_pre_finite_rwkv [hReference4Ideal : Cert.Reference4Ideal.Facts] [hPre_finite_rwkv : Cert.Pre_finite_rwkv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_rwkv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Kernel5Ideal_pre_finite_merge [hKernel5Ideal : Cert.Kernel5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_merge m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Reference5Ideal_pre_finite_merge [hReference5Ideal : Cert.Reference5Ideal.Facts] [hPre_finite_merge : Cert.Pre_finite_merge.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_merge m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_attn [hKernel6Ideal : Cert.Kernel6Ideal.Facts] [hPre_finite_attn : Cert.Pre_finite_attn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_attn m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_attn [hReference6Ideal : Cert.Reference6Ideal.Facts] [hPre_finite_attn : Cert.Pre_finite_attn.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_attn m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite_inproj [hKernelIdeal : Cert.KernelIdeal.Facts] [hReferenceIdeal : Cert.ReferenceIdeal.Facts] [hPre_finite_inproj : Cert.Pre_finite_inproj.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inproj m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_fox [hKernel2Ideal : Cert.Kernel2Ideal.Facts] [hReference2Ideal : Cert.Reference2Ideal.Facts] [hPre_finite_fox : Cert.Pre_finite_fox.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_fox m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v27)) (v3 : (c : Dev Cert.Kernel2Ideal.nD) → Buf (Elt Ideal) ((c.tc : Thread Cert.Kernel2Ideal.nD Cert.Kernel2Ideal.τ).loc Cert.Kernel2Ideal.main_v30)) (v4 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v27) = v2 c
          ∧ r.2.mem ((c.tc : Thread Cert.Kernel2Ideal.nD Cert.Kernel2Ideal.τ).loc Cert.Kernel2Ideal.main_v30) = v3 c
          ∧ r.2.mem ((c.tc : Thread Cert.Kernel2Ideal.nD Cert.Kernel2Ideal.τ).loc Cert.Kernel2Ideal.main_v31) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v113) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_v115) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "mask" .f32 0xF149F2CA#32 ⊥

def algebraic_Kernel3Ideal_Reference3Ideal_pre_finite_attn [hKernel3Ideal : Cert.Kernel3Ideal.Facts] [hReference3Ideal : Cert.Reference3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_attn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_1)) (v2 : (c : Dev Cert.Kernel3Ideal.nD) → Buf (Elt Ideal) ((c.tc : Thread Cert.Kernel3Ideal.nD Cert.Kernel3Ideal.τ).loc Cert.Kernel3Ideal.main_v61_2)) (v3 : (c : Dev Cert.Kernel3Ideal.nD) → Buf (Elt Ideal) ((c.tc : Thread Cert.Kernel3Ideal.nD Cert.Kernel3Ideal.τ).loc Cert.Kernel3Ideal.main_v61_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_1) = v1 c
          ∧ r.2.mem ((c.tc : Thread Cert.Kernel3Ideal.nD Cert.Kernel3Ideal.τ).loc Cert.Kernel3Ideal.main_v61_2) = v2 c
          ∧ r.2.mem ((c.tc : Thread Cert.Kernel3Ideal.nD Cert.Kernel3Ideal.τ).loc Cert.Kernel3Ideal.main_v61_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_rwkv [hKernel4Ideal : Cert.Kernel4Ideal.Facts] [hReference4Ideal : Cert.Reference4Ideal.Facts] [hPre_finite_rwkv : Cert.Pre_finite_rwkv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_rwkv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v24)) (v4 : (c : Dev Cert.Kernel4Ideal.nD) → Buf (Elt Ideal) ((c.tc : Thread Cert.Kernel4Ideal.nD Cert.Kernel4Ideal.τ).loc Cert.Kernel4Ideal.main_v23_4)) (v5 : (c : Dev Cert.Kernel4Ideal.nD) → Buf (Elt Ideal) ((c.tc : Thread Cert.Kernel4Ideal.nD Cert.Kernel4Ideal.τ).loc Cert.Kernel4Ideal.main_v25)) (v6 : (c : Dev Cert.Kernel4Ideal.nD) → Buf (Elt Ideal) ((c.tc : Thread Cert.Kernel4Ideal.nD Cert.Kernel4Ideal.τ).loc Cert.Kernel4Ideal.main_v23_5)) (v7 : (c : Dev Cert.Kernel4Ideal.nD) → Buf (Elt Ideal) ((c.tc : Thread Cert.Kernel4Ideal.nD Cert.Kernel4Ideal.τ).loc Cert.Kernel4Ideal.main_v23_6)) (v8 : (c : Dev Cert.Kernel4Ideal.nD) → Buf (Elt Ideal) ((c.tc : Thread Cert.Kernel4Ideal.nD Cert.Kernel4Ideal.τ).loc Cert.Kernel4Ideal.main_v23_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v24) = v3 c
          ∧ r.2.mem ((c.tc : Thread Cert.Kernel4Ideal.nD Cert.Kernel4Ideal.τ).loc Cert.Kernel4Ideal.main_v23_4) = v4 c
          ∧ r.2.mem ((c.tc : Thread Cert.Kernel4Ideal.nD Cert.Kernel4Ideal.τ).loc Cert.Kernel4Ideal.main_v25) = v5 c
          ∧ r.2.mem ((c.tc : Thread Cert.Kernel4Ideal.nD Cert.Kernel4Ideal.τ).loc Cert.Kernel4Ideal.main_v23_5) = v6 c
          ∧ r.2.mem ((c.tc : Thread Cert.Kernel4Ideal.nD Cert.Kernel4Ideal.τ).loc Cert.Kernel4Ideal.main_v23_6) = v7 c
          ∧ r.2.mem ((c.tc : Thread Cert.Kernel4Ideal.nD Cert.Kernel4Ideal.τ).loc Cert.Kernel4Ideal.main_v23_7) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v166) = v0 c
          ∧ r.2.mem ((c.tc : Thread Cert.Reference4Ideal.nD Cert.Reference4Ideal.τ).loc Cert.Reference4Ideal.main_v165) = v1 c
          ∧ r.2.mem ((c.tc : Thread Cert.Reference4Ideal.nD Cert.Reference4Ideal.τ).loc Cert.Reference4Ideal.main_v167) = v2 c
          ∧ r.2.mem ((c.tc : Thread Cert.Reference4Ideal.nD Cert.Reference4Ideal.τ).loc Cert.Reference4Ideal.main_v148) = v3 c
          ∧ r.2.mem ((c.tc : Thread Cert.Reference4Ideal.nD Cert.Reference4Ideal.τ).loc Cert.Reference4Ideal.main_v168) = v4 c
          ∧ r.2.mem ((c.tc : Thread Cert.Reference4Ideal.nD Cert.Reference4Ideal.τ).loc Cert.Reference4Ideal.main_v136) = v5 c
          ∧ r.2.mem ((c.tc : Thread Cert.Reference4Ideal.nD Cert.Reference4Ideal.τ).loc Cert.Reference4Ideal.main_v169) = v6 c
          ∧ r.2.mem ((c.tc : Thread Cert.Reference4Ideal.nD Cert.Reference4Ideal.τ).loc Cert.Reference4Ideal.main_v170) = v7 c
          ∧ r.2.mem ((c.tc : Thread Cert.Reference4Ideal.nD Cert.Reference4Ideal.τ).loc Cert.Reference4Ideal.main_v171) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18))

def preserves_Kernel5_Kernel5Ideal : Prop :=
  True

def algebraic_Kernel5Ideal_Reference5Ideal_pre_finite_merge [hKernel5Ideal : Cert.Kernel5Ideal.Facts] [hReference5Ideal : Cert.Reference5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_merge m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)) (v3 : (c : Dev Cert.Kernel5Ideal.nD) → Buf (Elt Ideal) ((c.tc : Thread Cert.Kernel5Ideal.nD Cert.Kernel5Ideal.τ).loc Cert.Kernel5Ideal.main_v21_3)) (v4 : (c : Dev Cert.Kernel5Ideal.nD) → Buf (Elt Ideal) ((c.tc : Thread Cert.Kernel5Ideal.nD Cert.Kernel5Ideal.τ).loc Cert.Kernel5Ideal.main_v21_4)) (v5 : (c : Dev Cert.Kernel5Ideal.nD) → Buf (Elt Ideal) ((c.tc : Thread Cert.Kernel5Ideal.nD Cert.Kernel5Ideal.τ).loc Cert.Kernel5Ideal.main_v21_5)) (v6 : (c : Dev Cert.Kernel5Ideal.nD) → Buf (Elt Ideal) ((c.tc : Thread Cert.Kernel5Ideal.nD Cert.Kernel5Ideal.τ).loc Cert.Kernel5Ideal.main_v22)) (v7 : (c : Dev Cert.Kernel5Ideal.nD) → Buf (Elt Ideal) ((c.tc : Thread Cert.Kernel5Ideal.nD Cert.Kernel5Ideal.τ).loc Cert.Kernel5Ideal.main_v21_7)) (v8 : (c : Dev Cert.Kernel5Ideal.nD) → Buf (Elt Ideal) ((c.tc : Thread Cert.Kernel5Ideal.nD Cert.Kernel5Ideal.τ).loc Cert.Kernel5Ideal.main_v21_8)) (v9 : (c : Dev Cert.Kernel5Ideal.nD) → Buf (Elt Ideal) ((c.tc : Thread Cert.Kernel5Ideal.nD Cert.Kernel5Ideal.τ).loc Cert.Kernel5Ideal.main_v21_9)) (v10 : (c : Dev Cert.Kernel5Ideal.nD) → Buf (Elt Ideal) ((c.tc : Thread Cert.Kernel5Ideal.nD Cert.Kernel5Ideal.τ).loc Cert.Kernel5Ideal.main_v21_10)) (v11 : (c : Dev Cert.Kernel5Ideal.nD) → Buf (Elt Ideal) ((c.tc : Thread Cert.Kernel5Ideal.nD Cert.Kernel5Ideal.τ).loc Cert.Kernel5Ideal.main_v21_11)) (v12 : (c : Dev Cert.Kernel5Ideal.nD) → Buf (Elt Ideal) ((c.tc : Thread Cert.Kernel5Ideal.nD Cert.Kernel5Ideal.τ).loc Cert.Kernel5Ideal.main_v23)) (v13 : (c : Dev Cert.Kernel5Ideal.nD) → Buf (Elt Ideal) ((c.tc : Thread Cert.Kernel5Ideal.nD Cert.Kernel5Ideal.τ).loc Cert.Kernel5Ideal.main_v25)) (v14 : (c : Dev Cert.Kernel5Ideal.nD) → Buf (Elt Ideal) ((c.tc : Thread Cert.Kernel5Ideal.nD Cert.Kernel5Ideal.τ).loc Cert.Kernel5Ideal.main_v21_14)) (v15 : (c : Dev Cert.Kernel5Ideal.nD) → Buf (Elt Ideal) ((c.tc : Thread Cert.Kernel5Ideal.nD Cert.Kernel5Ideal.τ).loc Cert.Kernel5Ideal.main_v21_15)) (v16 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_v21_3) = v3 c
          ∧ r.2.mem ((c.tc : Thread Cert.Kernel5Ideal.nD Cert.Kernel5Ideal.τ).loc Cert.Kernel5Ideal.main_v21_4) = v4 c
          ∧ r.2.mem ((c.tc : Thread Cert.Kernel5Ideal.nD Cert.Kernel5Ideal.τ).loc Cert.Kernel5Ideal.main_v21_5) = v5 c
          ∧ r.2.mem ((c.tc : Thread Cert.Kernel5Ideal.nD Cert.Kernel5Ideal.τ).loc Cert.Kernel5Ideal.main_v22) = v6 c
          ∧ r.2.mem ((c.tc : Thread Cert.Kernel5Ideal.nD Cert.Kernel5Ideal.τ).loc Cert.Kernel5Ideal.main_v21_7) = v7 c
          ∧ r.2.mem ((c.tc : Thread Cert.Kernel5Ideal.nD Cert.Kernel5Ideal.τ).loc Cert.Kernel5Ideal.main_v21_8) = v8 c
          ∧ r.2.mem ((c.tc : Thread Cert.Kernel5Ideal.nD Cert.Kernel5Ideal.τ).loc Cert.Kernel5Ideal.main_v21_9) = v9 c
          ∧ r.2.mem ((c.tc : Thread Cert.Kernel5Ideal.nD Cert.Kernel5Ideal.τ).loc Cert.Kernel5Ideal.main_v21_10) = v10 c
          ∧ r.2.mem ((c.tc : Thread Cert.Kernel5Ideal.nD Cert.Kernel5Ideal.τ).loc Cert.Kernel5Ideal.main_v21_11) = v11 c
          ∧ r.2.mem ((c.tc : Thread Cert.Kernel5Ideal.nD Cert.Kernel5Ideal.τ).loc Cert.Kernel5Ideal.main_v23) = v12 c
          ∧ r.2.mem ((c.tc : Thread Cert.Kernel5Ideal.nD Cert.Kernel5Ideal.τ).loc Cert.Kernel5Ideal.main_v25) = v13 c
          ∧ r.2.mem ((c.tc : Thread Cert.Kernel5Ideal.nD Cert.Kernel5Ideal.τ).loc Cert.Kernel5Ideal.main_v21_14) = v14 c
          ∧ r.2.mem ((c.tc : Thread Cert.Kernel5Ideal.nD Cert.Kernel5Ideal.τ).loc Cert.Kernel5Ideal.main_v21_15) = v15 c
          ∧ r.2.mem ((c.tc : Thread Cert.Kernel5Ideal.nD Cert.Kernel5Ideal.τ).loc Cert.Kernel5Ideal.main_v26) = v16 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v220) = v0 c
          ∧ r.2.mem ((c.tc : Thread Cert.Reference5Ideal.nD Cert.Reference5Ideal.τ).loc Cert.Reference5Ideal.main_v221) = v1 c
          ∧ r.2.mem ((c.tc : Thread Cert.Reference5Ideal.nD Cert.Reference5Ideal.τ).loc Cert.Reference5Ideal.main_v222) = v2 c
          ∧ r.2.mem ((c.tc : Thread Cert.Reference5Ideal.nD Cert.Reference5Ideal.τ).loc Cert.Reference5Ideal.main_v223) = v3 c
          ∧ r.2.mem ((c.tc : Thread Cert.Reference5Ideal.nD Cert.Reference5Ideal.τ).loc Cert.Reference5Ideal.main_v224) = v4 c
          ∧ r.2.mem ((c.tc : Thread Cert.Reference5Ideal.nD Cert.Reference5Ideal.τ).loc Cert.Reference5Ideal.main_v225) = v5 c
          ∧ r.2.mem ((c.tc : Thread Cert.Reference5Ideal.nD Cert.Reference5Ideal.τ).loc Cert.Reference5Ideal.main_v226) = v6 c
          ∧ r.2.mem ((c.tc : Thread Cert.Reference5Ideal.nD Cert.Reference5Ideal.τ).loc Cert.Reference5Ideal.main_v227) = v7 c
          ∧ r.2.mem ((c.tc : Thread Cert.Reference5Ideal.nD Cert.Reference5Ideal.τ).loc Cert.Reference5Ideal.main_v228) = v8 c
          ∧ r.2.mem ((c.tc : Thread Cert.Reference5Ideal.nD Cert.Reference5Ideal.τ).loc Cert.Reference5Ideal.main_v157) = v9 c
          ∧ r.2.mem ((c.tc : Thread Cert.Reference5Ideal.nD Cert.Reference5Ideal.τ).loc Cert.Reference5Ideal.main_v151) = v10 c
          ∧ r.2.mem ((c.tc : Thread Cert.Reference5Ideal.nD Cert.Reference5Ideal.τ).loc Cert.Reference5Ideal.main_v141) = v11 c
          ∧ r.2.mem ((c.tc : Thread Cert.Reference5Ideal.nD Cert.Reference5Ideal.τ).loc Cert.Reference5Ideal.main_v124) = v12 c
          ∧ r.2.mem ((c.tc : Thread Cert.Reference5Ideal.nD Cert.Reference5Ideal.τ).loc Cert.Reference5Ideal.main_v112) = v13 c
          ∧ r.2.mem ((c.tc : Thread Cert.Reference5Ideal.nD Cert.Reference5Ideal.τ).loc Cert.Reference5Ideal.main_v229) = v14 c
          ∧ r.2.mem ((c.tc : Thread Cert.Reference5Ideal.nD Cert.Reference5Ideal.τ).loc Cert.Reference5Ideal.main_v230) = v15 c
          ∧ r.2.mem ((c.tc : Thread Cert.Reference5Ideal.nD Cert.Reference5Ideal.τ).loc Cert.Reference5Ideal.main_v231) = v16 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17))

def preserves_Kernel6_Kernel6Ideal : Prop :=
  IdealRules.named_const.Statement Cert.Kernel6Ideal.κ "mask" .f32 0xF149F2CA#32 ⊥

def algebraic_Kernel6Ideal_Reference6Ideal_pre_finite_attn [hKernel6Ideal : Cert.Kernel6Ideal.Facts] [hReference6Ideal : Cert.Reference6Ideal.Facts] [hPre_finite_attn : Cert.Pre_finite_attn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_attn m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v61)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v61) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inproj : Cert.Pre_finite_inproj.Facts) (hPre_finite_fox : Cert.Pre_finite_fox.Facts) (hPre_finite_attn : Cert.Pre_finite_attn.Facts) (hPre_finite_rwkv : Cert.Pre_finite_rwkv.Facts) (hPre_finite_merge : Cert.Pre_finite_merge.Facts),
    quiescent_Kernel (hKernel := hKernel)
    ∧ quiescent_KernelIdeal (hKernelIdeal := hKernelIdeal)
    ∧ quiescent_KernelIdeal_pre_finite_inproj (hKernelIdeal := hKernelIdeal) (hPre_finite_inproj := hPre_finite_inproj)
    ∧ quiescent_ReferenceIdeal (hReferenceIdeal := hReferenceIdeal)
    ∧ quiescent_ReferenceIdeal_pre_finite_inproj (hReferenceIdeal := hReferenceIdeal) (hPre_finite_inproj := hPre_finite_inproj)
    ∧ quiescent_Kernel2 (hKernel2 := hKernel2)
    ∧ quiescent_Kernel2Ideal (hKernel2Ideal := hKernel2Ideal)
    ∧ quiescent_Kernel2Ideal_pre_finite_fox (hKernel2Ideal := hKernel2Ideal) (hPre_finite_fox := hPre_finite_fox)
    ∧ quiescent_Reference2Ideal (hReference2Ideal := hReference2Ideal)
    ∧ quiescent_Reference2Ideal_pre_finite_fox (hReference2Ideal := hReference2Ideal) (hPre_finite_fox := hPre_finite_fox)
    ∧ quiescent_Kernel3 (hKernel3 := hKernel3)
    ∧ quiescent_Kernel3Ideal (hKernel3Ideal := hKernel3Ideal)
    ∧ quiescent_Kernel3Ideal_pre_finite_attn (hKernel3Ideal := hKernel3Ideal) (hPre_finite_attn := hPre_finite_attn)
    ∧ quiescent_Reference3Ideal (hReference3Ideal := hReference3Ideal)
    ∧ quiescent_Reference3Ideal_pre_finite_attn (hReference3Ideal := hReference3Ideal) (hPre_finite_attn := hPre_finite_attn)
    ∧ quiescent_Kernel4 (hKernel4 := hKernel4)
    ∧ quiescent_Kernel4Ideal (hKernel4Ideal := hKernel4Ideal)
    ∧ quiescent_Kernel4Ideal_pre_finite_rwkv (hKernel4Ideal := hKernel4Ideal) (hPre_finite_rwkv := hPre_finite_rwkv)
    ∧ quiescent_Reference4Ideal (hReference4Ideal := hReference4Ideal)
    ∧ quiescent_Reference4Ideal_pre_finite_rwkv (hReference4Ideal := hReference4Ideal) (hPre_finite_rwkv := hPre_finite_rwkv)
    ∧ quiescent_Kernel5 (hKernel5 := hKernel5)
    ∧ quiescent_Kernel5Ideal (hKernel5Ideal := hKernel5Ideal)
    ∧ quiescent_Kernel5Ideal_pre_finite_merge (hKernel5Ideal := hKernel5Ideal) (hPre_finite_merge := hPre_finite_merge)
    ∧ quiescent_Reference5Ideal (hReference5Ideal := hReference5Ideal)
    ∧ quiescent_Reference5Ideal_pre_finite_merge (hReference5Ideal := hReference5Ideal) (hPre_finite_merge := hPre_finite_merge)
    ∧ quiescent_Kernel6 (hKernel6 := hKernel6)
    ∧ quiescent_Kernel6Ideal (hKernel6Ideal := hKernel6Ideal)
    ∧ quiescent_Kernel6Ideal_pre_finite_attn (hKernel6Ideal := hKernel6Ideal) (hPre_finite_attn := hPre_finite_attn)
    ∧ quiescent_Reference6Ideal (hReference6Ideal := hReference6Ideal)
    ∧ quiescent_Reference6Ideal_pre_finite_attn (hReference6Ideal := hReference6Ideal) (hPre_finite_attn := hPre_finite_attn)
    ∧ preserves_Kernel_KernelIdeal
    ∧ algebraic_KernelIdeal_ReferenceIdeal_pre_finite_inproj (hKernelIdeal := hKernelIdeal) (hReferenceIdeal := hReferenceIdeal) (hPre_finite_inproj := hPre_finite_inproj)
    ∧ preserves_Kernel2_Kernel2Ideal
    ∧ algebraic_Kernel2Ideal_Reference2Ideal_pre_finite_fox (hKernel2Ideal := hKernel2Ideal) (hReference2Ideal := hReference2Ideal) (hPre_finite_fox := hPre_finite_fox)
    ∧ preserves_Kernel3_Kernel3Ideal
    ∧ algebraic_Kernel3Ideal_Reference3Ideal_pre_finite_attn (hKernel3Ideal := hKernel3Ideal) (hReference3Ideal := hReference3Ideal) (hPre_finite_attn := hPre_finite_attn)
    ∧ preserves_Kernel4_Kernel4Ideal
    ∧ algebraic_Kernel4Ideal_Reference4Ideal_pre_finite_rwkv (hKernel4Ideal := hKernel4Ideal) (hReference4Ideal := hReference4Ideal) (hPre_finite_rwkv := hPre_finite_rwkv)
    ∧ preserves_Kernel5_Kernel5Ideal
    ∧ algebraic_Kernel5Ideal_Reference5Ideal_pre_finite_merge (hKernel5Ideal := hKernel5Ideal) (hReference5Ideal := hReference5Ideal) (hPre_finite_merge := hPre_finite_merge)
    ∧ preserves_Kernel6_Kernel6Ideal
    ∧ algebraic_Kernel6Ideal_Reference6Ideal_pre_finite_attn (hKernel6Ideal := hKernel6Ideal) (hReference6Ideal := hReference6Ideal) (hPre_finite_attn := hPre_finite_attn)
-- ==== Pre_finite_attn.lean ====
abbrev S1x8x2048x64 : Shape := ⟨4, ![1, 8, 2048, 64]⟩
abbrev S1x8x2048 : Shape := ⟨3, ![1, 8, 2048]⟩
abbrev S_ : Shape := ⟨0, ![]⟩

class Facts : Prop where
  bcast_S_S1x8x2048x64 : S_.BroadcastsInDim S1x8x2048x64 (![] : Fin 0 → Fin S1x8x2048x64.rank)
  bcast_S_S1x8x2048 : S_.BroadcastsInDim S1x8x2048 (![] : Fin 0 → Fin S1x8x2048.rank)

variable [Facts]

def fn {F : FTy → Type} [FloatOps F] (main_arg0 : FVec F S1x8x2048x64 .f32) (main_arg1 : FVec F S1x8x2048x64 .f32) (main_arg2 : FVec F S1x8x2048x64 .f32) (main_arg3 : FVec F S1x8x2048 .f32) (main_arg4 : FVec F S1x8x2048x64 .f32) : IVec S1x8x2048x64 1 × IVec S1x8x2048x64 1 × IVec S1x8x2048x64 1 × IVec S1x8x2048 1 × IVec S1x8x2048x64 1 :=
  let main_v0 : FVec F S1x8x2048x64 .f32 := Host.absf main_arg0
  let main_cst : FVec F S_ .f32 := constant S_ .f32 0x7F800000#32
  let main_v1 : FVec F S1x8x2048x64 .f32 := broadcastInDim S1x8x2048x64 ![] bcast_S_S1x8x2048x64 main_cst
  let main_v2 : IVec S1x8x2048x64 1 := cmpf .olt main_v0 main_v1
  let main_v3 : FVec F S1x8x2048x64 .f32 := Host.absf main_arg1
  let main_cst_0 : FVec F S_ .f32 := constant S_ .f32 0x7F800000#32
  let main_v4 : FVec F S1x8x2048x64 .f32 := broadcastInDim S1x8x2048x64 ![] bcast_S_S1x8x2048x64 main_cst_0
  let main_v5 : IVec S1x8x2048x64 1 := cmpf .olt main_v3 main_v4
  let main_v6 : FVec F S1x8x2048x64 .f32 := Host.absf main_arg2
  let main_cst_1 : FVec F S_ .f32 := constant S_ .f32 0x7F800000#32
  let main_v7 : FVec F S1x8x2048x64 .f32 := broadcastInDim S1x8x2048x64 ![] bcast_S_S1x8x2048x64 main_cst_1
  let main_v8 : IVec S1x8x2048x64 1 := cmpf .olt main_v6 main_v7
  let main_v9 : FVec F S1x8x2048 .f32 := Host.absf main_arg3
  let main_cst_2 : FVec F S_ .f32 := constant S_ .f32 0x7F800000#32
  let main_v10 : FVec F S1x8x2048 .f32 := broadcastInDim S1x8x2048 ![] bcast_S_S1x8x2048 main_cst_2
  let main_v11 : IVec S1x8x2048 1 := cmpf .olt main_v9 main_v10
  let main_v12 : FVec F S1x8x2048x64 .f32 := Host.absf main_arg4
  let main_cst_3 : FVec F S_ .f32 := constant S_ .f32 0x7F800000#32
  let main_v13 : FVec F S1x8x2048x64 .f32 := broadcastInDim S1x8x2048x64 ![] bcast_S_S1x8x2048x64 main_cst_3
  let main_v14 : IVec S1x8x2048x64 1 := cmpf .olt main_v12 main_v13
  (main_v2, main_v5, main_v8, main_v11, main_v14)
-- ==== Pre_finite_fox.lean ====
abbrev S1x2048x1024 : Shape := ⟨3, ![1, 2048, 1024]⟩
abbrev S1024x2056 : Shape := ⟨2, ![1024, 2056]⟩
abbrev S1x8 : Shape := ⟨2, ![1, 8]⟩
abbrev S1x64 : Shape := ⟨2, ![1, 64]⟩
abbrev S1x8x2048x64 : Shape := ⟨4, ![1, 8, 2048, 64]⟩
abbrev S1x2048x512 : Shape := ⟨3, ![1, 2048, 512]⟩
abbrev S1x8x2048 : Shape := ⟨3, ![1, 8, 2048]⟩
abbrev S_ : Shape := ⟨0, ![]⟩

class Facts : Prop where
  bcast_S_S1x2048x1024 : S_.BroadcastsInDim S1x2048x1024 (![] : Fin 0 → Fin S1x2048x1024.rank)
  bcast_S_S1024x2056 : S_.BroadcastsInDim S1024x2056 (![] : Fin 0 → Fin S1024x2056.rank)
  bcast_S_S1x8 : S_.BroadcastsInDim S1x8 (![] : Fin 0 → Fin S1x8.rank)
  bcast_S_S1x64 : S_.BroadcastsInDim S1x64 (![] : Fin 0 → Fin S1x64.rank)
  bcast_S_S1x8x2048x64 : S_.BroadcastsInDim S1x8x2048x64 (![] : Fin 0 → Fin S1x8x2048x64.rank)
  bcast_S_S1x8x2048 : S_.BroadcastsInDim S1x8x2048 (![] : Fin 0 → Fin S1x8x2048.rank)

variable [Facts]

def fn_part1 {F : FTy → Type} [FloatOps F] (main_arg6 : FVec F S1x8x2048x64 .f32) (main_arg9 : FVec F S1x8x2048 .f32) (main_v2 : IVec S1x2048x1024 1) (main_v5 : IVec S1024x2056 1) (main_v8 : IVec S1x8 1) (main_v11 : IVec S1x64 1) (main_v14 : IVec S1x64 1) (main_v17 : IVec S1x8x2048x64 1) : IVec S1x2048x1024 1 × IVec S1024x2056 1 × IVec S1x8 1 × IVec S1x64 1 × IVec S1x64 1 × IVec S1x8x2048x64 1 × IVec S1x8x2048x64 1 × IVec S1x8x2048 1 :=
  let main_v18 : FVec F S1x8x2048x64 .f32 := Host.absf main_arg6
  let main_cst_5 : FVec F S_ .f32 := constant S_ .f32 0x7F800000#32
  let main_v19 : FVec F S1x8x2048x64 .f32 := broadcastInDim S1x8x2048x64 ![] bcast_S_S1x8x2048x64 main_cst_5
  let main_v20 : IVec S1x8x2048x64 1 := cmpf .olt main_v18 main_v19
  let main_v21 : FVec F S1x8x2048 .f32 := Host.absf main_arg9
  let main_cst_6 : FVec F S_ .f32 := constant S_ .f32 0x7F800000#32
  let main_v22 : FVec F S1x8x2048 .f32 := broadcastInDim S1x8x2048 ![] bcast_S_S1x8x2048 main_cst_6
  let main_v23 : IVec S1x8x2048 1 := cmpf .olt main_v21 main_v22
  (main_v2, main_v5, main_v8, main_v11, main_v14, main_v17, main_v20, main_v23)

def fn {F : FTy → Type} [FloatOps F] (main_arg0 : FVec F S1x2048x1024 .f32) (main_arg1 : FVec F S1024x2056 .f32) (main_arg2 : FVec F S1x8 .f32) (main_arg3 : FVec F S1x64 .f32) (main_arg4 : FVec F S1x64 .f32) (main_arg5 : FVec F S1x8x2048x64 .f32) (main_arg6 : FVec F S1x8x2048x64 .f32) (main_arg7 : FVec F S1x8x2048x64 .f32) (main_arg8 : FVec F S1x2048x512 .f32) (main_arg9 : FVec F S1x8x2048 .f32) : IVec S1x2048x1024 1 × IVec S1024x2056 1 × IVec S1x8 1 × IVec S1x64 1 × IVec S1x64 1 × IVec S1x8x2048x64 1 × IVec S1x8x2048x64 1 × IVec S1x8x2048 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x2056 .f32 := Host.absf main_arg1
  let main_cst_0 : FVec F S_ .f32 := constant S_ .f32 0x7F800000#32
  let main_v4 : FVec F S1024x2056 .f32 := broadcastInDim S1024x2056 ![] bcast_S_S1024x2056 main_cst_0
  let main_v5 : IVec S1024x2056 1 := cmpf .olt main_v3 main_v4
  let main_v6 : FVec F S1x8 .f32 := Host.absf main_arg2
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x8x2048x64 .f32 := Host.absf main_arg5
  let main_cst_4 : FVec F S_ .f32 := constant S_ .f32 0x7F800000#32
  let main_v16 : FVec F S1x8x2048x64 .f32 := broadcastInDim S1x8x2048x64 ![] bcast_S_S1x8x2048x64 main_cst_4
  let main_v17 : IVec S1x8x2048x64 1 := cmpf .olt main_v15 main_v16
  fn_part1 (F := F) main_arg6 main_arg9 main_v2 main_v5 main_v8 main_v11 main_v14 main_v17
-- ==== Pre_finite_inproj.lean ====
abbrev S1x2048x1024 : Shape := ⟨3, ![1, 2048, 1024]⟩
abbrev S1x1024 : Shape := ⟨2, ![1, 1024]⟩
abbrev S1x1024x6280 : Shape := ⟨3, ![1, 1024, 6280]⟩
abbrev S1x2048x6280 : Shape := ⟨3, ![1, 2048, 6280]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x6280 : S_.BroadcastsInDim S1x1024x6280 (![] : Fin 0 → Fin S1x1024x6280.rank)
  bcast_S_S1x2048x6280 : S_.BroadcastsInDim S1x2048x6280 (![] : Fin 0 → Fin S1x2048x6280.rank)

variable [Facts]

def fn {F : FTy → Type} [FloatOps F] (main_arg0 : FVec F S1x2048x1024 .f32) (main_arg1 : FVec F S1x1024 .f32) (main_arg2 : FVec F S1x1024x6280 .f32) (main_arg3 : FVec F S1x2048x1024 .f32) (main_arg4 : FVec F S1x2048x6280 .f32) : IVec S1x2048x1024 1 × IVec S1x1024 1 × IVec S1x1024x6280 1 × IVec S1x2048x6280 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x6280 .f32 := Host.absf main_arg2
  let main_cst_1 : FVec F S_ .f32 := constant S_ .f32 0x7F800000#32
  let main_v7 : FVec F S1x1024x6280 .f32 := broadcastInDim S1x1024x6280 ![] bcast_S_S1x1024x6280 main_cst_1
  let main_v8 : IVec S1x1024x6280 1 := cmpf .olt main_v6 main_v7
  let main_v9 : FVec F S1x2048x6280 .f32 := Host.absf main_arg4
  let main_cst_2 : FVec F S_ .f32 := constant S_ .f32 0x7F800000#32
  let main_v10 : FVec F S1x2048x6280 .f32 := broadcastInDim S1x2048x6280 ![] bcast_S_S1x2048x6280 main_cst_2
  let main_v11 : IVec S1x2048x6280 1 := cmpf .olt main_v9 main_v10
  (main_v2, main_v5, main_v8, main_v11)
-- ==== Pre_finite_merge.lean ====
abbrev S1x2048x512 : Shape := ⟨3, ![1, 2048, 512]⟩
abbrev S1x2048x2056 : Shape := ⟨3, ![1, 2048, 2056]⟩
abbrev S1x2048x1024 : Shape := ⟨3, ![1, 2048, 1024]⟩
abbrev S1024x2048 : Shape := ⟨2, ![1024, 2048]⟩
abbrev S1x512 : Shape := ⟨2, ![1, 512]⟩
abbrev S1x8x64 : Shape := ⟨3, ![1, 8, 64]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩

class Facts : Prop where
  slices_S1x2048x2056_S1x2048x512_0_0_1536 : S1x2048x2056.Slices ![0, 0, 1536] S1x2048x512
  bcast_S_S1x2048x512 : S_.BroadcastsInDim S1x2048x512 (![] : Fin 0 → Fin S1x2048x512.rank)
  bcast_S_S1x2048x1024 : S_.BroadcastsInDim S1x2048x1024 (![] : Fin 0 → Fin S1x2048x1024.rank)
  bcast_S_S1024x2048 : S_.BroadcastsInDim S1024x2048 (![] : Fin 0 → Fin S1024x2048.rank)
  bcast_S_S1x512 : S_.BroadcastsInDim S1x512 (![] : Fin 0 → Fin S1x512.rank)
  bcast_S_S1x8x64 : S_.BroadcastsInDim S1x8x64 (![] : Fin 0 → Fin S1x8x64.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn_part3 {F : FTy → Type} [FloatOps F] (main_v3 : IVec S1x2048x512 1) (main_v6 : IVec S1x2048x512 1) (main_v9 : IVec S1x2048x512 1) (main_v12 : IVec S1x2048x512 1) (main_v15 : IVec S1x2048x512 1) (main_v18 : IVec S1x2048x512 1) (main_v21 : IVec S1x2048x512 1) (main_v24 : IVec S1x2048x1024 1) (main_v27 : IVec S1x2048x1024 1) (main_v30 : IVec S1024x2048 1) (main_v33 : IVec S1x512 1) (main_v36 : IVec S1x512 1) (main_v39 : IVec S1x8x64 1) (main_v42 : IVec S1x512x1024 1) (main_v45 : IVec S1x512x1024 1) (main_v48 : IVec S1x1024x1024 1) (main_v51 : IVec S1024 1) (main_v52 : FVec F S1x2048x1024 .f32) (main_v53 : FVec F S1x2048x1024 .f32) : IVec S1x2048x512 1 × IVec S1x2048x512 1 × IVec S1x2048x512 1 × IVec S1x2048x512 1 × IVec S1x2048x512 1 × IVec S1x2048x512 1 × IVec S1x2048x512 1 × IVec S1x2048x1024 1 × IVec S1x2048x1024 1 × IVec S1024x2048 1 × IVec S1x512 1 × IVec S1x512 1 × IVec S1x8x64 1 × IVec S1x512x1024 1 × IVec S1x512x1024 1 × IVec S1x1024x1024 1 × IVec S1024 1 × IVec S1x2048x1024 1 :=
  let main_v54 : IVec S1x2048x1024 1 := cmpf .olt main_v52 main_v53
  (main_v3, main_v6, main_v9, main_v12, main_v15, main_v18, main_v21, main_v24, main_v27, main_v30, main_v33, main_v36, main_v39, main_v42, main_v45, main_v48, main_v51, main_v54)

def fn_part2 {F : FTy → Type} [FloatOps F] (main_arg12 : FVec F S1x8x64 .f32) (main_arg13 : FVec F S1x512x1024 .f32) (main_arg14 : FVec F S1x512x1024 .f32) (main_arg15 : FVec F S1x1024x1024 .f32) (main_arg16 : FVec F S1024 .f32) (main_arg17 : FVec F S1x2048x1024 .f32) (main_v3 : IVec S1x2048x512 1) (main_v6 : IVec S1x2048x512 1) (main_v9 : IVec S1x2048x512 1) (main_v12 : IVec S1x2048x512 1) (main_v15 : IVec S1x2048x512 1) (main_v18 : IVec S1x2048x512 1) (main_v21 : IVec S1x2048x512 1) (main_v24 : IVec S1x2048x1024 1) (main_v27 : IVec S1x2048x1024 1) (main_v30 : IVec S1024x2048 1) (main_v33 : IVec S1x512 1) (main_v34 : FVec F S1x512 .f32) (main_v35 : FVec F S1x512 .f32) : IVec S1x2048x512 1 × IVec S1x2048x512 1 × IVec S1x2048x512 1 × IVec S1x2048x512 1 × IVec S1x2048x512 1 × IVec S1x2048x512 1 × IVec S1x2048x512 1 × IVec S1x2048x1024 1 × IVec S1x2048x1024 1 × IVec S1024x2048 1 × IVec S1x512 1 × IVec S1x512 1 × IVec S1x8x64 1 × IVec S1x512x1024 1 × IVec S1x512x1024 1 × IVec S1x1024x1024 1 × IVec S1024 1 × IVec S1x2048x1024 1 :=
  let main_v36 : IVec S1x512 1 := cmpf .olt main_v34 main_v35
  let main_v37 : FVec F S1x8x64 .f32 := Host.absf main_arg12
  let main_cst_11 : FVec F S_ .f32 := constant S_ .f32 0x7F800000#32
  let main_v38 : FVec F S1x8x64 .f32 := broadcastInDim S1x8x64 ![] bcast_S_S1x8x64 main_cst_11
  let main_v39 : IVec S1x8x64 1 := cmpf .olt main_v37 main_v38
  let main_v40 : FVec F S1x512x1024 .f32 := Host.absf main_arg13
  let main_cst_12 : FVec F S_ .f32 := constant S_ .f32 0x7F800000#32
  let main_v41 : FVec F S1x512x1024 .f32 := broadcastInDim S1x512x1024 ![] bcast_S_S1x512x1024 main_cst_12
  let main_v42 : IVec S1x512x1024 1 := cmpf .olt main_v40 main_v41
  let main_v43 : FVec F S1x512x1024 .f32 := Host.absf main_arg14
  let main_cst_13 : FVec F S_ .f32 := constant S_ .f32 0x7F800000#32
  let main_v44 : FVec F S1x512x1024 .f32 := broadcastInDim S1x512x1024 ![] bcast_S_S1x512x1024 main_cst_13
  let main_v45 : IVec S1x512x1024 1 := cmpf .olt main_v43 main_v44
  let main_v46 : FVec F S1x1024x1024 .f32 := Host.absf main_arg15
  let main_cst_14 : FVec F S_ .f32 := constant S_ .f32 0x7F800000#32
  let main_v47 : FVec F S1x1024x1024 .f32 := broadcastInDim S1x1024x1024 ![] bcast_S_S1x1024x1024 main_cst_14
  let main_v48 : IVec S1x1024x1024 1 := cmpf .olt main_v46 main_v47
  let main_v49 : FVec F S1024 .f32 := Host.absf main_arg16
  let main_cst_15 : FVec F S_ .f32 := constant S_ .f32 0x7F800000#32
  let main_v50 : FVec F S1024 .f32 := broadcastInDim S1024 ![] bcast_S_S1024 main_cst_15
  let main_v51 : IVec S1024 1 := cmpf .olt main_v49 main_v50
  let main_v52 : FVec F S1x2048x1024 .f32 := Host.absf main_arg17
  let main_cst_16 : FVec F S_ .f32 := constant S_ .f32 0x7F800000#32
  let main_v53 : FVec F S1x2048x1024 .f32 := broadcastInDim S1x2048x1024 ![] bcast_S_S1x2048x1024 main_cst_16
  fn_part3 (F := F) main_v3 main_v6 main_v9 main_v12 main_v15 main_v18 main_v21 main_v24 main_v27 main_v30 main_v33 main_v36 main_v39 main_v42 main_v45 main_v48 main_v51 main_v52 main_v53

def fn_part1 {F : FTy → Type} [FloatOps F] (main_arg7 : FVec F S1x2048x1024 .f32) (main_arg8 : FVec F S1x2048x1024 .f32) (main_arg9 : FVec F S1024x2048 .f32) (main_arg10 : FVec F S1x512 .f32) (main_arg11 : FVec F S1x512 .f32) (main_arg12 : FVec F S1x8x64 .f32) (main_arg13 : FVec F S1x512x1024 .f32) (main_arg14 : FVec F S1x512x1024 .f32) (main_arg15 : FVec F S1x1024x1024 .f32) (main_arg16 : FVec F S1024 .f32) (main_arg17 : FVec F S1x2048x1024 .f32) (main_v0 : FVec F S1x2048x512 .f32) (main_v3 : IVec S1x2048x512 1) (main_v6 : IVec S1x2048x512 1) (main_v9 : IVec S1x2048x512 1) (main_v12 : IVec S1x2048x512 1) (main_v15 : IVec S1x2048x512 1) (main_v16 : FVec F S1x2048x512 .f32) (main_v17 : FVec F S1x2048x512 .f32) : IVec S1x2048x512 1 × IVec S1x2048x512 1 × IVec S1x2048x512 1 × IVec S1x2048x512 1 × IVec S1x2048x512 1 × IVec S1x2048x512 1 × IVec S1x2048x512 1 × IVec S1x2048x1024 1 × IVec S1x2048x1024 1 × IVec S1024x2048 1 × IVec S1x512 1 × IVec S1x512 1 × IVec S1x8x64 1 × IVec S1x512x1024 1 × IVec S1x512x1024 1 × IVec S1x1024x1024 1 × IVec S1024 1 × IVec S1x2048x1024 1 :=
  let main_v18 : IVec S1x2048x512 1 := cmpf .olt main_v16 main_v17
  let main_v19 : FVec F S1x2048x512 .f32 := Host.absf main_v0
  let main_cst_5 : FVec F S_ .f32 := constant S_ .f32 0x7F800000#32
  let main_v20 : FVec F S1x2048x512 .f32 := broadcastInDim S1x2048x512 ![] bcast_S_S1x2048x512 main_cst_5
  let main_v21 : IVec S1x2048x512 1 := cmpf .olt main_v19 main_v20
  let main_v22 : FVec F S1x2048x1024 .f32 := Host.absf main_arg7
  let main_cst_6 : FVec F S_ .f32 := constant S_ .f32 0x7F800000#32
  let main_v23 : FVec F S1x2048x1024 .f32 := broadcastInDim S1x2048x1024 ![] bcast_S_S1x2048x1024 main_cst_6
  let main_v24 : IVec S1x2048x1024 1 := cmpf .olt main_v22 main_v23
  let main_v25 : FVec F S1x2048x1024 .f32 := Host.absf main_arg8
  let main_cst_7 : FVec F S_ .f32 := constant S_ .f32 0x7F800000#32
  let main_v26 : FVec F S1x2048x1024 .f32 := broadcastInDim S1x2048x1024 ![] bcast_S_S1x2048x1024 main_cst_7
  let main_v27 : IVec S1x2048x1024 1 := cmpf .olt main_v25 main_v26
  let main_v28 : FVec F S1024x2048 .f32 := Host.absf main_arg9
  let main_cst_8 : FVec F S_ .f32 := constant S_ .f32 0x7F800000#32
  let main_v29 : FVec F S1024x2048 .f32 := broadcastInDim S1024x2048 ![] bcast_S_S1024x2048 main_cst_8
  let main_v30 : IVec S1024x2048 1 := cmpf .olt main_v28 main_v29
  let main_v31 : FVec F S1x512 .f32 := Host.absf main_arg10
  let main_cst_9 : FVec F S_ .f32 := constant S_ .f32 0x7F800000#32
  let main_v32 : FVec F S1x512 .f32 := broadcastInDim S1x512 ![] bcast_S_S1x512 main_cst_9
  let main_v33 : IVec S1x512 1 := cmpf .olt main_v31 main_v32
  let main_v34 : FVec F S1x512 .f32 := Host.absf main_arg11
  let main_cst_10 : FVec F S_ .f32 := constant S_ .f32 0x7F800000#32
  let main_v35 : FVec F S1x512 .f32 := broadcastInDim S1x512 ![] bcast_S_S1x512 main_cst_10
  fn_part2 (F := F) main_arg12 main_arg13 main_arg14 main_arg15 main_arg16 main_arg17 main_v3 main_v6 main_v9 main_v12 main_v15 main_v18 main_v21 main_v24 main_v27 main_v30 main_v33 main_v34 main_v35

def fn {F : FTy → Type} [FloatOps F] (main_arg0 : FVec F S1x2048x512 .f32) (main_arg1 : FVec F S1x2048x512 .f32) (main_arg2 : FVec F S1x2048x512 .f32) (main_arg3 : FVec F S1x2048x512 .f32) (main_arg4 : FVec F S1x2048x512 .f32) (main_arg5 : FVec F S1x2048x512 .f32) (main_arg6 : FVec F S1x2048x2056 .f32) (main_arg7 : FVec F S1x2048x1024 .f32) (main_arg8 : FVec F S1x2048x1024 .f32) (main_arg9 : FVec F S1024x2048 .f32) (main_arg10 : FVec F S1x512 .f32) (main_arg11 : FVec F S1x512 .f32) (main_arg12 : FVec F S1x8x64 .f32) (main_arg13 : FVec F S1x512x1024 .f32) (main_arg14 : FVec F S1x512x1024 .f32) (main_arg15 : FVec F S1x1024x1024 .f32) (main_arg16 : FVec F S1024 .f32) (main_arg17 : FVec F S1x2048x1024 .f32) : IVec S1x2048x512 1 × IVec S1x2048x512 1 × IVec S1x2048x512 1 × IVec S1x2048x512 1 × IVec S1x2048x512 1 × IVec S1x2048x512 1 × IVec S1x2048x512 1 × IVec S1x2048x1024 1 × IVec S1x2048x1024 1 × IVec S1024x2048 1 × IVec S1x512 1 × IVec S1x512 1 × IVec S1x8x64 1 × IVec S1x512x1024 1 × IVec S1x512x1024 1 × IVec S1x1024x1024 1 × IVec S1024 1 × IVec S1x2048x1024 1 :=
  let main_v0 : FVec F S1x2048x512 .f32 := (extractStridedSlice S1x2048x512 ![0, 0, 1536] · slices_S1x2048x2056_S1x2048x512_0_0_1536) main_arg6
  let main_v1 : FVec F S1x2048x512 .f32 := Host.absf main_arg0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  let main_v4 : FVec F S1x2048x512 .f32 := Host.absf main_arg1
  let main_cst_0 : FVec F S_ .f32 := constant S_ .f32 0x7F800000#32
  let main_v5 : FVec F S1x2048x512 .f32 := broadcastInDim S1x2048x512 ![] bcast_S_S1x2048x512 main_cst_0
  let main_v6 : IVec S1x2048x512 1 := cmpf .olt main_v4 main_v5
  let main_v7 : FVec F S1x2048x512 .f32 := Host.absf main_arg2
  let main_cst_1 : FVec F S_ .f32 := constant S_ .f32 0x7F800000#32
  let main_v8 : FVec F S1x2048x512 .f32 := broadcastInDim S1x2048x512 ![] bcast_S_S1x2048x512 main_cst_1
  let main_v9 : IVec S1x2048x512 1 := cmpf .olt main_v7 main_v8
  let main_v10 : FVec F S1x2048x512 .f32 := Host.absf main_arg3
  let main_cst_2 : FVec F S_ .f32 := constant S_ .f32 0x7F800000#32
  let main_v11 : FVec F S1x2048x512 .f32 := broadcastInDim S1x2048x512 ![] bcast_S_S1x2048x512 main_cst_2
  let main_v12 : IVec S1x2048x512 1 := cmpf .olt main_v10 main_v11
  let main_v13 : FVec F S1x2048x512 .f32 := Host.absf main_arg4
  let main_cst_3 : FVec F S_ .f32 := constant S_ .f32 0x7F800000#32
  let main_v14 : FVec F S1x2048x512 .f32 := broadcastInDim S1x2048x512 ![] bcast_S_S1x2048x512 main_cst_3
  let main_v15 : IVec S1x2048x512 1 := cmpf .olt main_v13 main_v14
  let main_v16 : FVec F S1x2048x512 .f32 := Host.absf main_arg5
  let main_cst_4 : FVec F S_ .f32 := constant S_ .f32 0x7F800000#32
  let main_v17 : FVec F S1x2048x512 .f32 := broadcastInDim S1x2048x512 ![] bcast_S_S1x2048x512 main_cst_4
  fn_part1 (F := F) main_arg7 main_arg8 main_arg9 main_arg10 main_arg11 main_arg12 main_arg13 main_arg14 main_arg15 main_arg16 main_arg17 main_v0 main_v3 main_v6 main_v9 main_v12 main_v15 main_v16 main_v17
-- ==== Pre_finite_rwkv.lean ====
abbrev S1x2048x1024 : Shape := ⟨3, ![1, 2048, 1024]⟩
abbrev S1024x2176 : Shape := ⟨2, ![1024, 2176]⟩
abbrev S1x2176 : Shape := ⟨2, ![1, 2176]⟩
abbrev S1x64x512 : Shape := ⟨3, ![1, 64, 512]⟩
abbrev S1x512 : Shape := ⟨2, ![1, 512]⟩
abbrev S1x2048x8x64 : Shape := ⟨4, ![1, 2048, 8, 64]⟩
abbrev S1x2048x512 : Shape := ⟨3, ![1, 2048, 512]⟩
abbrev S1x2048x2176 : Shape := ⟨3, ![1, 2048, 2176]⟩
abbrev S1x1x2176 : Shape := ⟨3, ![1, 1, 2176]⟩
abbrev S_ : Shape := ⟨0, ![]⟩
abbrev S1x2047x2176 : Shape := ⟨3, ![1, 2047, 2176]⟩
abbrev S2176 : Shape := ⟨1, ![2176]⟩
abbrev S512 : Shape := ⟨1, ![512]⟩
abbrev S1x1x512 : Shape := ⟨3, ![1, 1, 512]⟩
abbrev S1x2048x8 : Shape := ⟨3, ![1, 2048, 8]⟩

class Facts : Prop where
  slices_S1x2048x2176_S1x1x2176_0_0_0 : S1x2048x2176.Slices ![0, 0, 0] S1x1x2176
  bcast_S_S1x1x2176 : S_.BroadcastsInDim S1x1x2176 (![] : Fin 0 → Fin S1x1x2176.rank)
  slices_S1x2048x2176_S1x2047x2176_0_0_0 : S1x2048x2176.Slices ![0, 0, 0] S1x2047x2176
  concatenates_S1x1x2176_S1x2047x2176_S1x2048x2176_d1 : Shape.Concatenates [S1x1x2176, S1x2047x2176] S1x2048x2176 1
  shapeCasts_S1x2176_S2176 : S1x2176.ShapeCasts S2176
  bcast_S2176_S1x1x2176_2 : S2176.BroadcastsInDim S1x1x2176 (![2] : Fin 1 → Fin S1x1x2176.rank)
  bcast_S1x1x2176_S1x2048x2176_0_1_2 : S1x1x2176.BroadcastsInDim S1x2048x2176 (![0, 1, 2] : Fin 3 → Fin S1x2048x2176.rank)
  slices_S1x2048x2176_S1x2048x512_0_0_512 : S1x2048x2176.Slices ![0, 0, 512] S1x2048x512
  shapeCasts_S1x512_S512 : S1x512.ShapeCasts S512
  bcast_S512_S1x1x512_2 : S512.BroadcastsInDim S1x1x512 (![2] : Fin 1 → Fin S1x1x512.rank)
  bcast_S1x1x512_S1x2048x512_0_1_2 : S1x1x512.BroadcastsInDim S1x2048x512 (![0, 1, 2] : Fin 3 → Fin S1x2048x512.rank)
  shapeCasts_S1x2048x512_S1x2048x8x64 : S1x2048x512.ShapeCasts S1x2048x8x64
  bcast_S_S1x2048x1024 : S_.BroadcastsInDim S1x2048x1024 (![] : Fin 0 → Fin S1x2048x1024.rank)
  bcast_S_S1024x2176 : S_.BroadcastsInDim S1024x2176 (![] : Fin 0 → Fin S1024x2176.rank)
  bcast_S_S1x2176 : S_.BroadcastsInDim S1x2176 (![] : Fin 0 → Fin S1x2176.rank)
  bcast_S_S1x64x512 : S_.BroadcastsInDim S1x64x512 (![] : Fin 0 → Fin S1x64x512.rank)
  bcast_S_S1x512 : S_.BroadcastsInDim S1x512 (![] : Fin 0 → Fin S1x512.rank)
  bcast_S_S1x2048x8x64 : S_.BroadcastsInDim S1x2048x8x64 (![] : Fin 0 → Fin S1x2048x8x64.rank)
  reducesTo_S1x2048x8x64_S1x2048x8_d3 : S1x2048x8x64.ReducesTo [3] S1x2048x8
  h_S_ : 0 < S_.numel
  bcast_S_S1x2048x8 : S_.BroadcastsInDim S1x2048x8 (![] : Fin 0 → Fin S1x2048x8.rank)
  dot_S1x2048x1024_S1024x2176_S1x2048x2176_2_0_01_1_n_n_wf : DotDims.WF S1x2048x1024 S1024x2176 S1x2048x2176 [2] [0] [0, 1] [1] [] []

variable [Facts]

def dot_S1x2048x1024_S1024x2176_S1x2048x2176_2_0_01_1_n_n : DotDims S1x2048x1024 S1024x2176 S1x2048x2176 where
  lhsContracting := [2]
  rhsContracting := [0]
  lhsNonContracting := [0, 1]
  rhsNonContracting := [1]
  lhsBatch := []
  rhsBatch := []
  wf := dot_S1x2048x1024_S1024x2176_S1x2048x2176_2_0_01_1_n_n_wf
def fn_part2 {F : FTy → Type} [FloatOps F] (main_arg8 : FVec F S1x512 .f32) (main_arg13 : FVec F S1x2048x8x64 .f32) (main_arg14 : FVec F S1x2048x8x64 .f32) (main_v16 : FVec F S1x2048x8x64 .f32) (main_v19 : IVec S1x2048x1024 1) (main_v22 : IVec S1024x2176 1) (main_v25 : IVec S1x2176 1) (main_v28 : IVec S1x64x512 1) (main_v31 : IVec S1x512 1) (main_v34 : IVec S1x64x512 1) (main_v37 : IVec S1x512 1) (main_v38 : FVec F S1x512 .f32) (main_cst_7 : FVec F S_ .f32) : IVec S1x2048x1024 1 × IVec S1024x2176 1 × IVec S1x2176 1 × IVec S1x64x512 1 × IVec S1x512 1 × IVec S1x64x512 1 × IVec S1x512 1 × IVec S1x512 1 × IVec S1x512 1 × IVec S1x2048x8x64 1 × IVec S1x2048x8x64 1 × IVec S1x2048x8 1 :=
  let main_v39 : FVec F S1x512 .f32 := broadcastInDim S1x512 ![] bcast_S_S1x512 main_cst_7
  let main_v40 : IVec S1x512 1 := cmpf .olt main_v38 main_v39
  let main_v41 : FVec F S1x512 .f32 := Host.absf main_arg8
  let main_cst_8 : FVec F S_ .f32 := constant S_ .f32 0x7F800000#32
  let main_v42 : FVec F S1x512 .f32 := broadcastInDim S1x512 ![] bcast_S_S1x512 main_cst_8
  let main_v43 : IVec S1x512 1 := cmpf .olt main_v41 main_v42
  let main_v44 : FVec F S1x2048x8x64 .f32 := Host.absf main_arg13
  let main_cst_9 : FVec F S_ .f32 := constant S_ .f32 0x7F800000#32
  let main_v45 : FVec F S1x2048x8x64 .f32 := broadcastInDim S1x2048x8x64 ![] bcast_S_S1x2048x8x64 main_cst_9
  let main_v46 : IVec S1x2048x8x64 1 := cmpf .olt main_v44 main_v45
  let main_v47 : FVec F S1x2048x8x64 .f32 := Host.absf main_arg14
  let main_cst_10 : FVec F S_ .f32 := constant S_ .f32 0x7F800000#32
  let main_v48 : FVec F S1x2048x8x64 .f32 := broadcastInDim S1x2048x8x64 ![] bcast_S_S1x2048x8x64 main_cst_10
  let main_v49 : IVec S1x2048x8x64 1 := cmpf .olt main_v47 main_v48
  let main_v50 : FVec F S1x2048x8x64 .f32 := mulf main_v16 main_v16
  let main_cst_11 : FVec F S_ .f32 := constant S_ .f32 0x00000000#32
  let main_v51 : FVec F S1x2048x8 .f32 := (fun x v => Host.reduceAdd x v reducesTo_S1x2048x8x64_S1x2048x8_d3 h_S_) main_v50 main_cst_11
  let main_cst_12 : FVec F S_ .f32 := constant S_ .f32 0x179ABE15#32
  let main_v52 : FVec F S1x2048x8 .f32 := broadcastInDim S1x2048x8 ![] bcast_S_S1x2048x8 main_cst_12
  let main_v53 : IVec S1x2048x8 1 := cmpf .ogt main_v51 main_v52
  (main_v19, main_v22, main_v25, main_v28, main_v31, main_v34, main_v37, main_v40, main_v43, main_v46, main_v49, main_v53)

def fn_part1 {F : FTy → Type} [FloatOps F] (main_arg2 : FVec F S1x2176 .f32) (main_arg3 : FVec F S1x64x512 .f32) (main_arg4 : FVec F S1x512 .f32) (main_arg5 : FVec F S1x64x512 .f32) (main_arg6 : FVec F S1x512 .f32) (main_arg7 : FVec F S1x512 .f32) (main_arg8 : FVec F S1x512 .f32) (main_arg13 : FVec F S1x2048x8x64 .f32) (main_arg14 : FVec F S1x2048x8x64 .f32) (main_v16 : FVec F S1x2048x8x64 .f32) (main_v19 : IVec S1x2048x1024 1) (main_v20 : FVec F S1024x2176 .f32) (main_cst_1 : FVec F S_ .f32) : IVec S1x2048x1024 1 × IVec S1024x2176 1 × IVec S1x2176 1 × IVec S1x64x512 1 × IVec S1x512 1 × IVec S1x64x512 1 × IVec S1x512 1 × IVec S1x512 1 × IVec S1x512 1 × IVec S1x2048x8x64 1 × IVec S1x2048x8x64 1 × IVec S1x2048x8 1 :=
  let main_v21 : FVec F S1024x2176 .f32 := broadcastInDim S1024x2176 ![] bcast_S_S1024x2176 main_cst_1
  let main_v22 : IVec S1024x2176 1 := cmpf .olt main_v20 main_v21
  let main_v23 : FVec F S1x2176 .f32 := Host.absf main_arg2
  let main_cst_2 : FVec F S_ .f32 := constant S_ .f32 0x7F800000#32
  let main_v24 : FVec F S1x2176 .f32 := broadcastInDim S1x2176 ![] bcast_S_S1x2176 main_cst_2
  let main_v25 : IVec S1x2176 1 := cmpf .olt main_v23 main_v24
  let main_v26 : FVec F S1x64x512 .f32 := Host.absf main_arg3
  let main_cst_3 : FVec F S_ .f32 := constant S_ .f32 0x7F800000#32
  let main_v27 : FVec F S1x64x512 .f32 := broadcastInDim S1x64x512 ![] bcast_S_S1x64x512 main_cst_3
  let main_v28 : IVec S1x64x512 1 := cmpf .olt main_v26 main_v27
  let main_v29 : FVec F S1x512 .f32 := Host.absf main_arg4
  let main_cst_4 : FVec F S_ .f32 := constant S_ .f32 0x7F800000#32
  let main_v30 : FVec F S1x512 .f32 := broadcastInDim S1x512 ![] bcast_S_S1x512 main_cst_4
  let main_v31 : IVec S1x512 1 := cmpf .olt main_v29 main_v30
  let main_v32 : FVec F S1x64x512 .f32 := Host.absf main_arg5
  let main_cst_5 : FVec F S_ .f32 := constant S_ .f32 0x7F800000#32
  let main_v33 : FVec F S1x64x512 .f32 := broadcastInDim S1x64x512 ![] bcast_S_S1x64x512 main_cst_5
  let main_v34 : IVec S1x64x512 1 := cmpf .olt main_v32 main_v33
  let main_v35 : FVec F S1x512 .f32 := Host.absf main_arg6
  let main_cst_6 : FVec F S_ .f32 := constant S_ .f32 0x7F800000#32
  let main_v36 : FVec F S1x512 .f32 := broadcastInDim S1x512 ![] bcast_S_S1x512 main_cst_6
  let main_v37 : IVec S1x512 1 := cmpf .olt main_v35 main_v36
  let main_v38 : FVec F S1x512 .f32 := Host.absf main_arg7
  let main_cst_7 : FVec F S_ .f32 := constant S_ .f32 0x7F800000#32
  fn_part2 (F := F) main_arg8 main_arg13 main_arg14 main_v16 main_v19 main_v22 main_v25 main_v28 main_v31 main_v34 main_v37 main_v38 main_cst_7

def fn {F : FTy → Type} [FloatOps F] (main_arg0 : FVec F S1x2048x1024 .f32) (main_arg1 : FVec F S1024x2176 .f32) (main_arg2 : FVec F S1x2176 .f32) (main_arg3 : FVec F S1x64x512 .f32) (main_arg4 : FVec F S1x512 .f32) (main_arg5 : FVec F S1x64x512 .f32) (main_arg6 : FVec F S1x512 .f32) (main_arg7 : FVec F S1x512 .f32) (main_arg8 : FVec F S1x512 .f32) (main_arg9 : FVec F S1x2048x8x64 .f32) (main_arg10 : FVec F S1x2048x8x64 .f32) (main_arg11 : FVec F S1x2048x8x64 .f32) (main_arg12 : FVec F S1x2048x8x64 .f32) (main_arg13 : FVec F S1x2048x8x64 .f32) (main_arg14 : FVec F S1x2048x8x64 .f32) (main_arg15 : FVec F S1x2048x8x64 .f32) (main_arg16 : FVec F S1x2048x8x64 .f32) (main_arg17 : FVec F S1x2048x8x64 .f32) (main_arg18 : FVec F S1x2048x512 .f32) : IVec S1x2048x1024 1 × IVec S1024x2176 1 × IVec S1x2176 1 × IVec S1x64x512 1 × IVec S1x512 1 × IVec S1x64x512 1 × IVec S1x512 1 × IVec S1x512 1 × IVec S1x512 1 × IVec S1x2048x8x64 1 × IVec S1x2048x8x64 1 × IVec S1x2048x8 1 :=
  let main_v0 : FVec F S1x2048x2176 .f32 := (fun l r => Host.dotGeneral dot_S1x2048x1024_S1024x2176_S1x2048x2176_2_0_01_1_n_n none l r) main_arg0 main_arg1
  let main_v1 : FVec F S1x1x2176 .f32 := (extractStridedSlice S1x1x2176 ![0, 0, 0] · slices_S1x2048x2176_S1x1x2176_0_0_0) main_v0
  let main_cst : FVec F S_ .f32 := constant S_ .f32 0x00000000#32
  let main_v2 : FVec F S1x1x2176 .f32 := broadcastInDim S1x1x2176 ![] bcast_S_S1x1x2176 main_cst
  let main_v3 : FVec F S1x2047x2176 .f32 := (extractStridedSlice S1x2047x2176 ![0, 0, 0] · slices_S1x2048x2176_S1x2047x2176_0_0_0) main_v0
  let main_v4 : FVec F S1x2048x2176 .f32 := (fun a b => concatenate S1x2048x2176 1 [⟨S1x1x2176, a⟩, ⟨S1x2047x2176, b⟩] concatenates_S1x1x2176_S1x2047x2176_S1x2048x2176_d1) main_v2 main_v3
  let main_v5 : FVec F S1x2048x2176 .f32 := subf main_v4 main_v0
  let main_v6 : FVec F S2176 .f32 := shapeCast S2176 main_arg2 shapeCasts_S1x2176_S2176
  let main_v7 : FVec F S1x1x2176 .f32 := broadcastInDim S1x1x2176 ![2] bcast_S2176_S1x1x2176_2 main_v6
  let main_v8 : FVec F S1x2048x2176 .f32 := broadcastInDim S1x2048x2176 ![0, 1, 2] bcast_S1x1x2176_S1x2048x2176_0_1_2 main_v7
  let main_v9 : FVec F S1x2048x2176 .f32 := mulf main_v5 main_v8
  let main_v10 : FVec F S1x2048x2176 .f32 := addf main_v0 main_v9
  let main_v11 : FVec F S1x2048x512 .f32 := (extractStridedSlice S1x2048x512 ![0, 0, 512] · slices_S1x2048x2176_S1x2048x512_0_0_512) main_v10
  let main_v12 : FVec F S512 .f32 := shapeCast S512 main_arg7 shapeCasts_S1x512_S512
  let main_v13 : FVec F S1x1x512 .f32 := broadcastInDim S1x1x512 ![2] bcast_S512_S1x1x512_2 main_v12
  let main_v14 : FVec F S1x2048x512 .f32 := broadcastInDim S1x2048x512 ![0, 1, 2] bcast_S1x1x512_S1x2048x512_0_1_2 main_v13
  let main_v15 : FVec F S1x2048x512 .f32 := mulf main_v11 main_v14
  let main_v16 : FVec F S1x2048x8x64 .f32 := shapeCast S1x2048x8x64 main_v15 shapeCasts_S1x2048x512_S1x2048x8x64
  let main_v17 : FVec F S1x2048x1024 .f32 := Host.absf main_arg0
  let main_cst_0 : FVec F S_ .f32 := constant S_ .f32 0x7F800000#32
  let main_v18 : FVec F S1x2048x1024 .f32 := broadcastInDim S1x2048x1024 ![] bcast_S_S1x2048x1024 main_cst_0
  let main_v19 : IVec S1x2048x1024 1 := cmpf .olt main_v17 main_v18
  let main_v20 : FVec F S1024x2176 .f32 := Host.absf main_arg1
  let main_cst_1 : FVec F S_ .f32 := constant S_ .f32 0x7F800000#32
  fn_part1 (F := F) main_arg2 main_arg3 main_arg4 main_arg5 main_arg6 main_arg7 main_arg8 main_arg13 main_arg14 main_v16 main_v19 main_v20 main_cst_1
-- ==== Kernel.lean ====
abbrev S1x2048x1024 : Shape := ⟨3, ![1, 2048, 1024]⟩
abbrev S1x1024 : Shape := ⟨2, ![1, 1024]⟩
abbrev S1x1024x6280 : Shape := ⟨3, ![1, 1024, 6280]⟩
abbrev S1x2048x6280 : Shape := ⟨3, ![1, 2048, 6280]⟩
abbrev S1024x6280 : Shape := ⟨2, ![1024, 6280]⟩
abbrev S1024x2176 : Shape := ⟨2, ![1024, 2176]⟩
abbrev S1024x2056 : Shape := ⟨2, ![1024, 2056]⟩
abbrev S_ : Shape := ⟨0, ![]⟩
abbrev S1024x120 : Shape := ⟨2, ![1024, 120]⟩
abbrev S1024x2048 : Shape := ⟨2, ![1024, 2048]⟩
abbrev S1x2048x2176 : Shape := ⟨3, ![1, 2048, 2176]⟩
abbrev S2048x2176 : Shape := ⟨2, ![2048, 2176]⟩
abbrev S1x2048x2056 : Shape := ⟨3, ![1, 2048, 2056]⟩
abbrev S2048x2056 : Shape := ⟨2, ![2048, 2056]⟩
abbrev S2048x120 : Shape := ⟨2, ![2048, 120]⟩
abbrev S1x2048x2048 : Shape := ⟨3, ![1, 2048, 2048]⟩
abbrev S2048x2048 : Shape := ⟨2, ![2048, 2048]⟩
abbrev S2048x1024 : Shape := ⟨2, ![2048, 1024]⟩
abbrev S256x2176 : Shape := ⟨2, ![256, 2176]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x6280, .f32⟩
  | .hbm, ⟨3, _⟩ => ⟨S1x2048x1024, .f32⟩
  | .hbm, ⟨4, _⟩ => ⟨S1x2048x6280, .f32⟩
  | .hbm, ⟨5, _⟩ => ⟨S1024x6280, .f32⟩
  | .hbm, ⟨6, _⟩ => ⟨S1024x6280, .bf16⟩
  | .hbm, ⟨7, _⟩ => ⟨S1024x2176, .bf16⟩
  | .hbm, ⟨8, _⟩ => ⟨S1024x2056, .bf16⟩
  | .hbm, ⟨9, _⟩ => ⟨S_, .bf16⟩
  | .hbm, ⟨10, _⟩ => ⟨S1024x120, .bf16⟩
  | .hbm, ⟨11, _⟩ => ⟨S1024x2176, .bf16⟩
  | .hbm, ⟨12, _⟩ => ⟨S1024x2048, .bf16⟩
  | .hbm, ⟨13, _⟩ => ⟨S1x2048x2176, .f32⟩
  | .hbm, ⟨14, _⟩ => ⟨S2048x2176, .f32⟩
  | .hbm, ⟨15, _⟩ => ⟨S1x2048x2056, .f32⟩
  | .hbm, ⟨16, _⟩ => ⟨S2048x2056, .f32⟩
  | .hbm, ⟨17, _⟩ => ⟨S_, .f32⟩
  | .hbm, ⟨18, _⟩ => ⟨S2048x120, .f32⟩
  | .hbm, ⟨19, _⟩ => ⟨S2048x2176, .f32⟩
  | .hbm, ⟨20, _⟩ => ⟨S1x2048x2048, .f32⟩
  | .hbm, ⟨21, _⟩ => ⟨S2048x2048, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .local _ .vmem, ⟨0, _⟩ => ⟨S256x2176, .f32⟩
  | .local _ .vmem, ⟨1, _⟩ => ⟨S256x2176, .f32⟩
  | .local _ .vmem, ⟨2, _⟩ => ⟨S256x2176, .f32⟩
  | .local _ .vmem, ⟨3, _⟩ => ⟨S256x2176, .f32⟩
  | .local _ .vmem, ⟨4, _⟩ => ⟨S256x2048, .f32⟩
  | .local _ .vmem, ⟨5, _⟩ => ⟨S256x2048, .f32⟩
  | .local _ .vmem, ⟨6, _⟩ => ⟨S1024x2176, .bf16⟩
  | .local _ .vmem, ⟨7, _⟩ => ⟨S1024x2176, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x2048x1024 : Shape := ⟨3, ![1, 2048, 1024]⟩
abbrev S1x1024 : Shape := ⟨2, ![1, 1024]⟩
abbrev S1x1024x6280 : Shape := ⟨3, ![1, 1024, 6280]⟩
abbrev S1x2048x6280 : Shape := ⟨3, ![1, 2048, 6280]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x6280 : Shape := ⟨2, ![1024, 6280]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x6280, .f32⟩
  | .hbm, ⟨3, _⟩ => ⟨S1x2048x1024, .f32⟩
  | .hbm, ⟨4, _⟩ => ⟨S1x2048x6280, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x6280, .f32⟩
  | .hbm, ⟨27, _⟩ => ⟨S1x2048x6280, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S1x2048x1024 : Shape := ⟨3, ![1, 2048, 1024]⟩
abbrev S1024x2056 : Shape := ⟨2, ![1024, 2056]⟩
abbrev S1x8 : Shape := ⟨2, ![1, 8]⟩
abbrev S1x64 : Shape := ⟨2, ![1, 64]⟩
abbrev S1x8x2048x64 : Shape := ⟨4, ![1, 8, 2048, 64]⟩
abbrev S1x2048x512 : Shape := ⟨3, ![1, 2048, 512]⟩
abbrev S1x8x2048 : Shape := ⟨3, ![1, 8, 2048]⟩
abbrev S2048x1024 : Shape := ⟨2, ![2048, 1024]⟩
abbrev S_ : Shape := ⟨0, ![]⟩
abbrev S1024x120 : Shape := ⟨2, ![1024, 120]⟩
abbrev S1024x2176 : Shape := ⟨2, ![1024, 2176]⟩
abbrev S1x128 : Shape := ⟨2, ![1, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S2048x2176 : Shape := ⟨2, ![2048, 2176]⟩
abbrev S8x2048 : Shape := ⟨2, ![8, 2048]⟩
abbrev S2048x8 : Shape := ⟨2, ![2048, 8]⟩
abbrev S2048x128 : Shape := ⟨2, ![2048, 128]⟩
abbrev S1024x2048 : Shape := ⟨2, ![1024, 2048]⟩
abbrev S1x2048x8x64 : Shape := ⟨4, ![1, 2048, 8, 64]⟩
abbrev S2048x512 : Shape := ⟨2, ![2048, 512]⟩
abbrev S256x2176 : Shape := ⟨2, ![256, 2176]⟩
abbrev S1024x256 : Shape := ⟨2, ![1024, 256]⟩
abbrev S256x512 : Shape := ⟨2, ![256, 512]⟩
abbrev S256x128 : Shape := ⟨2, ![256, 128]⟩
abbrev S128x128 : Shape := ⟨2, ![128, 128]⟩
abbrev S512 : Shape := ⟨1, ![512]⟩
abbrev S256x256 : Shape := ⟨2, ![256, 256]⟩
abbrev S128 : Shape := ⟨1, ![128]⟩
abbrev S8x64 : Shape := ⟨2, ![8, 64]⟩
abbrev S64 : Shape := ⟨1, ![64]⟩

abbrev nBuf : Space → Nat
  | .hbm => 53
  | .vmem => 24
  | .smem => 0
  | _ => 0

abbrev bufTy : (tb : Table) → Fin (tcTables nBuf tb) → BufTy
  | .hbm, ⟨0, _⟩ => ⟨S1x2048x1024, .f32⟩
  | .hbm, ⟨1, _⟩ => ⟨S1024x2056, .f32⟩
  | .hbm, ⟨2, _⟩ => ⟨S1x8, .f32⟩
  | .hbm, ⟨3, _⟩ => ⟨S1x64, .f32⟩
  | .hbm, ⟨4, _⟩ => ⟨S1x64, .f32⟩
  | .hbm, ⟨5, _⟩ => ⟨S1x8x2048x64, .f32⟩
  | .hbm, ⟨6, _⟩ => ⟨S1x8x2048x64, .f32⟩
  | .hbm, ⟨7, _⟩ => ⟨S1x8x2048x64, .f32⟩
  | .hbm, ⟨8, _⟩ => ⟨S1x2048x512, .f32⟩
  | .hbm, ⟨9, _⟩ => ⟨S1x8x2048, .f32⟩
  | .hbm, ⟨10, _⟩ => ⟨S2048x1024, .f32⟩
  | .hbm, ⟨11, _⟩ => ⟨S2048x1024, .bf16⟩
  | .hbm, ⟨12, _⟩ => ⟨S1024x2056, .bf16⟩
  | .hbm, ⟨13, _⟩ => ⟨S_, .bf16⟩
  | .hbm, ⟨14, _⟩ => ⟨S1024x120, .bf16⟩
  | .hbm, ⟨15, _⟩ => ⟨S1024x2176, .bf16⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1x1x1x64, .f32⟩
  | .hbm, ⟨20, _⟩ => ⟨S1x1x8x64, .f32⟩
  | .hbm, ⟨21, _⟩ => ⟨S1x512, .f32⟩
  | .hbm, ⟨22, _⟩ => ⟨S1x1x1x64, .f32⟩
  | .hbm, ⟨23, _⟩ => ⟨S1x1x8x64, .f32⟩
  | .hbm, ⟨24, _⟩ => ⟨S1x512, .f32⟩
  | .hbm, ⟨25, _⟩ => ⟨S2048x2176, .f32⟩
  | .hbm, ⟨26, _⟩ => ⟨S8x2048, .f32⟩
  | .hbm, ⟨27, _⟩ => ⟨S2048x8, .f32⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S1024x2048, .bf16⟩
  | .hbm, ⟨32, _⟩ => ⟨S1x2048x8x64, .f32⟩
  | .hbm, ⟨33, _⟩ => ⟨S2048x512, .f32⟩
  | .hbm, ⟨34, _⟩ => ⟨S1x2048x8x64, .f32⟩
  | .hbm, ⟨35, _⟩ => ⟨S2048x512, .f32⟩
  | .hbm, ⟨36, _⟩ => ⟨S1x2048x8x64, .f32⟩
  | .hbm, ⟨37, _⟩ => ⟨S2048x512, .f32⟩
  | .hbm, ⟨38, _⟩ => ⟨S2048x512, .f32⟩
  | .hbm, ⟨39, _⟩ => ⟨S2048x2176, .f32⟩
  | .hbm, ⟨40, _⟩ => ⟨S1024x2176, .f32⟩
  | .hbm, ⟨41, _⟩ => ⟨S1x512, .f32⟩
  | .hbm, ⟨42, _⟩ => ⟨S1x512, .f32⟩
  | .hbm, ⟨43, _⟩ => ⟨S1x128, .f32⟩
  | .hbm, ⟨44, _⟩ => ⟨S8x64, .f32⟩
  | .hbm, ⟨45, _⟩ => ⟨S_, .f32⟩
  | .hbm, ⟨46, _⟩ => ⟨S64, .f32⟩
  | .hbm, ⟨47, _⟩ => ⟨S1x64, .f32⟩
  | .hbm, ⟨48, _⟩ => ⟨S8x64, .f32⟩
  | .hbm, ⟨49, _⟩ => ⟨S_, .f32⟩
  | .hbm, ⟨50, _⟩ => ⟨S64, .f32⟩
  | .hbm, ⟨51, _⟩ => ⟨S1x64, .f32⟩
  | .hbm, ⟨52, _⟩ => ⟨S1x8, .f32⟩
  | .local _ .vmem, ⟨0, _⟩ => ⟨S256x2176, .f32⟩
  | .local _ .vmem, ⟨1, _⟩ => ⟨S256x2176, .f32⟩
  | .local _ .vmem, ⟨2, _⟩ => ⟨S1024x256, .bf16⟩
  | .local _ .vmem, ⟨3, _⟩ => ⟨S1024x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x512, .f32⟩
  | .local _ .vmem, ⟨16, _⟩ => ⟨S1x512, .f32⟩
  | .local _ .vmem, ⟨17, _⟩ => ⟨S256x2176, .f32⟩
  | .local _ .vmem, ⟨18, _⟩ => ⟨S256x2176, .f32⟩
  | .local _ .vmem, ⟨19, _⟩ => ⟨S1024x2176, .f32⟩
  | .local _ .vmem, ⟨20, _⟩ => ⟨S1x512, .f32⟩
  | .local _ .vmem, ⟨21, _⟩ => ⟨S1x512, .f32⟩
  | .local _ .vmem, ⟨22, _⟩ => ⟨S1x128, .f32⟩
  | .local _ .vmem, ⟨23, _⟩ => ⟨S1x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S1x2048x1024 : Shape := ⟨3, ![1, 2048, 1024]⟩
abbrev S1024x2056 : Shape := ⟨2, ![1024, 2056]⟩
abbrev S1x8 : Shape := ⟨2, ![1, 8]⟩
abbrev S1x64 : Shape := ⟨2, ![1, 64]⟩
abbrev S1x8x2048x64 : Shape := ⟨4, ![1, 8, 2048, 64]⟩
abbrev S1x2048x512 : Shape := ⟨3, ![1, 2048, 512]⟩
abbrev S1x8x2048 : Shape := ⟨3, ![1, 8, 2048]⟩
abbrev S1x2048x2056 : Shape := ⟨3, ![1, 2048, 2056]⟩
abbrev S8 : Shape := ⟨1, ![8]⟩
abbrev S64 : Shape := ⟨1, ![64]⟩
abbrev S1x2048x8 : Shape := ⟨3, ![1, 2048, 8]⟩
abbrev S1x2048x8x64 : Shape := ⟨4, ![1, 2048, 8, 64]⟩
abbrev S_ : Shape := ⟨0, ![]⟩
abbrev S1x2048x8x1 : Shape := ⟨4, ![1, 2048, 8, 1]⟩
abbrev S1x1x1x64 : Shape := ⟨4, ![1, 1, 1, 64]⟩
abbrev S1x1x8 : Shape := ⟨3, ![1, 1, 8]⟩
abbrev S2048x8 : Shape := ⟨2, ![2048, 8]⟩
abbrev S2056x1024 : Shape := ⟨2, ![2056, 1024]⟩
abbrev S2048x2056 : Shape := ⟨2, ![2048, 2056]⟩
abbrev S2048x2176 : Shape := ⟨2, ![2048, 2176]⟩
abbrev S1024x2176 : Shape := ⟨2, ![1024, 2176]⟩

abbrev nBuf : Space → Nat
  | .hbm => 203
  | .vmem => 0
  | .smem => 0
  | _ => 0

abbrev hbmTy0_0 (i : Nat) : BufTy := match i % 128 with
  | 0 => ⟨S1x2048x1024, .f32⟩
  | 1 => ⟨S1024x2056, .f32⟩
  | 2 => ⟨S1x8, .f32⟩
  | 3 => ⟨S1x64, .f32⟩
  | 4 => ⟨S1x64, .f32⟩
  | 5 => ⟨S1x8x2048x64, .f32⟩
  | 6 => ⟨S1x8x2048x64, .f32⟩
  | 7 => ⟨S1x8x2048x64, .f32⟩
  | 8 => ⟨S1x2048x512, .f32⟩
  | 9 => ⟨S1x8x2048, .f32⟩
  | 10 => ⟨S1x2048x2056, .f32⟩
  | 11 => ⟨S8, .f32⟩
  | 12 => ⟨S64, .f32⟩
  | 13 => ⟨S64, .f32⟩
  | 14 => ⟨S1x2048x512, .f32⟩
  | 15 => ⟨S1x2048x512, .f32⟩
  | 16 => ⟨S1x2048x512, .f32⟩
  | 17 => ⟨S1x2048x512, .f32⟩
  | 18 => ⟨S1x2048x8, .f32⟩
  | 19 => ⟨S1x2048x8x64, .f32⟩
  | 20 => ⟨S1x2048x8x64, .f32⟩
  | 21 => ⟨S_, .f32⟩
  | 22 => ⟨S1x2048x8, .f32⟩
  | 23 => ⟨S1x2048x8x1, .f32⟩
  | 24 => ⟨S_, .f32⟩
  | 25 => ⟨S1x2048x8x1, .f32⟩
  | 26 => ⟨S1x2048x8x1, .f32⟩
  | 27 => ⟨S_, .f32⟩
  | 28 => ⟨S1x2048x8x1, .f32⟩
  | 29 => ⟨S1x2048x8x1, .f32⟩
  | 30 => ⟨S1x2048x8x1, .f32⟩
  | 31 => ⟨S1x2048x8x1, .f32⟩
  | 32 => ⟨S_, .f32⟩
  | 33 => ⟨S1x2048x8x1, .f32⟩
  | 34 => ⟨S1x2048x8x1, .f32⟩
  | 35 => ⟨S1x2048x8x64, .f32⟩
  | 36 => ⟨S1x2048x8x64, .f32⟩
  | 37 => ⟨S1x1x1x64, .f32⟩
  | 38 => ⟨S1x2048x8x64, .f32⟩
  | 39 => ⟨S1x2048x8x64, .f32⟩
  | 40 => ⟨S1x8x2048x64, .f32⟩
  | 41 => ⟨S1x2048x8x64, .f32⟩
  | 42 => ⟨S1x2048x8x64, .f32⟩
  | 43 => ⟨S_, .f32⟩
  | 44 => ⟨S1x2048x8, .f32⟩
  | 45 => ⟨S1x2048x8x1, .f32⟩
  | 46 => ⟨S_, .f32⟩
  | 47 => ⟨S1x2048x8x1, .f32⟩
  | 48 => ⟨S1x2048x8x1, .f32⟩
  | 49 => ⟨S_, .f32⟩
  | 50 => ⟨S1x2048x8x1, .f32⟩
  | 51 => ⟨S1x2048x8x1, .f32⟩
  | 52 => ⟨S1x2048x8x1, .f32⟩
  | 53 => ⟨S1x2048x8x1, .f32⟩
  | 54 => ⟨S_, .f32⟩
  | 55 => ⟨S1x2048x8x1, .f32⟩
  | 56 => ⟨S1x2048x8x1, .f32⟩
  | 57 => ⟨S1x2048x8x64, .f32⟩
  | 58 => ⟨S1x2048x8x64, .f32⟩
  | 59 => ⟨S1x1x1x64, .f32⟩
  | 60 => ⟨S1x2048x8x64, .f32⟩
  | 61 => ⟨S1x2048x8x64, .f32⟩
  | 62 => ⟨S1x8x2048x64, .f32⟩
  | 63 => ⟨S1x2048x8x64, .f32⟩
  | 64 => ⟨S1x8x2048x64, .f32⟩
  | 65 => ⟨S1x1x8, .f32⟩
  | 66 => ⟨S1x2048x8, .f32⟩
  | 67 => ⟨S1x2048x8, .f32⟩
  | 68 => ⟨S1x2048x8, .f32⟩
  | 69 => ⟨S_, .f32⟩
  | 70 => ⟨S1x2048x8, .f32⟩
  | 71 => ⟨S1x2048x8, .f32⟩
  | 72 => ⟨S1x2048x8, .f32⟩
  | 73 => ⟨S1x2048x8, .f32⟩
  | 74 => ⟨S1x2048x8, .i1⟩
  | 75 => ⟨S1x2048x8, .f32⟩
  | 76 => ⟨S1x2048x8, .f32⟩
  | 77 => ⟨S1x2048x8, .f32⟩
  | 78 => ⟨S1x2048x8, .f32⟩
  | 79 => ⟨S1x2048x8, .f32⟩
  | 80 => ⟨S1x2048x8, .f32⟩
  | 81 => ⟨S1x2048x8, .f32⟩
  | 82 => ⟨S1x2048x8, .f32⟩
  | 83 => ⟨S_, .f32⟩
  | 84 => ⟨S1x2048x8, .f32⟩
  | 85 => ⟨S1x2048x8, .i1⟩
  | 86 => ⟨S_, .f32⟩
  | 87 => ⟨S1x2048x8, .f32⟩
  | 88 => ⟨S1x2048x8, .f32⟩
  | 89 => ⟨S_, .f32⟩
  | 90 => ⟨S1x2048x8, .f32⟩
  | 91 => ⟨S1x2048x8, .i1⟩
  | 92 => ⟨S_, .f32⟩
  | 93 => ⟨S1x2048x8, .f32⟩
  | 94 => ⟨S1x2048x8, .f32⟩
  | 95 => ⟨S1x2048x8, .f32⟩
  | 96 => ⟨S1x2048x8, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S1x2048x8, .f32⟩
  | 105 => ⟨S1x2048x8, .i1⟩
  | 106 => ⟨S_, .f32⟩
  | 107 => ⟨S1x2048x8, .f32⟩
  | 108 => ⟨S1x2048x8, .f32⟩
  | 109 => ⟨S1x2048x8, .f32⟩
  | 110 => ⟨S1x2048x8, .f32⟩
  | 111 => ⟨S1x2048x8, .f32⟩
  | 112 => ⟨S_, .f32⟩
  | 113 => ⟨S1x2048x8, .f32⟩
  | 114 => ⟨S1x2048x8, .f32⟩
  | 115 => ⟨S1x2048x8, .f32⟩
  | 116 => ⟨S_, .f32⟩
  | 117 => ⟨S_, .f32⟩
  | 118 => ⟨S1x2048x8, .f32⟩
  | 119 => ⟨S1x8x2048, .f32⟩
  | 120 => ⟨S1x2048x8, .f32⟩
  | 121 => ⟨S_, .f32⟩
  | 122 => ⟨S_, .f32⟩
  | 123 => ⟨S1x2048x8, .f32⟩
  | 124 => ⟨S1x2048x8, .f32⟩
  | 125 => ⟨S1x2048x8, .f32⟩
  | 126 => ⟨S1x2048x8, .f32⟩
  | 127 => ⟨S_, .f32⟩
  | _ => ⟨S1x2048x1024, .f32⟩

abbrev hbmTy0_1 (i : Nat) : BufTy := match i % 128 with
  | 0 => ⟨S1x8, .f32⟩
  | 1 => ⟨S1x1x8, .f32⟩
  | 2 => ⟨S_, .f32⟩
  | 3 => ⟨S8, .f32⟩
  | 4 => ⟨S1x2048x8x64, .f32⟩
  | 5 => ⟨S1x2048x512, .f32⟩
  | 6 => ⟨S1x2048x8x64, .f32⟩
  | 7 => ⟨S1x2048x8x64, .f32⟩
  | 8 => ⟨S_, .f32⟩
  | 9 => ⟨S1x64, .f32⟩
  | 10 => ⟨S1x1x1x64, .f32⟩
  | 11 => ⟨S1x2048x8x64, .f32⟩
  | 12 => ⟨S1x2048x8x64, .f32⟩
  | 13 => ⟨S_, .f32⟩
  | 14 => ⟨S64, .f32⟩
  | 15 => ⟨S1x2048x8x64, .f32⟩
  | 16 => ⟨S_, .f32⟩
  | 17 => ⟨S1x2048x8, .f32⟩
  | 18 => ⟨S1x2048x8x1, .f32⟩
  | 19 => ⟨S1x2048x8x64, .f32⟩
  | 20 => ⟨S1x2048x8x64, .f32⟩
  | 21 => ⟨S1x2048x8x1, .f32⟩
  | 22 => ⟨S_, .f32⟩
  | 23 => ⟨S1x2048x8x1, .f32⟩
  | 24 => ⟨S1x2048x8x1, .f32⟩
  | 25 => ⟨S_, .f32⟩
  | 26 => ⟨S2048x8, .f32⟩
  | 27 => ⟨S1x2048x8, .f32⟩
  | 28 => ⟨S1x2048x8x64, .f32⟩
  | 29 => ⟨S1x2048x8x64, .f32⟩
  | 30 => ⟨S1x2048x8x64, .f32⟩
  | 31 => ⟨S1x2048x8x64, .f32⟩
  | 32 => ⟨S1x2048x8x64, .f32⟩
  | 33 => ⟨S1x2048x512, .f32⟩
  | 34 => ⟨S1x2048x8x64, .f32⟩
  | 35 => ⟨S1x2048x8x64, .f32⟩
  | 36 => ⟨S_, .f32⟩
  | 37 => ⟨S1x64, .f32⟩
  | 38 => ⟨S1x1x1x64, .f32⟩
  | 39 => ⟨S1x2048x8x64, .f32⟩
  | 40 => ⟨S1x2048x8x64, .f32⟩
  | 41 => ⟨S_, .f32⟩
  | 42 => ⟨S64, .f32⟩
  | 43 => ⟨S1x2048x8x64, .f32⟩
  | 44 => ⟨S_, .f32⟩
  | 45 => ⟨S1x2048x8, .f32⟩
  | 46 => ⟨S1x2048x8x1, .f32⟩
  | 47 => ⟨S1x2048x8x64, .f32⟩
  | 48 => ⟨S1x2048x8x64, .f32⟩
  | 49 => ⟨S1x2048x8x1, .f32⟩
  | 50 => ⟨S_, .f32⟩
  | 51 => ⟨S1x2048x8x1, .f32⟩
  | 52 => ⟨S1x2048x8x1, .f32⟩
  | 53 => ⟨S_, .f32⟩
  | 54 => ⟨S2048x8, .f32⟩
  | 55 => ⟨S1x2048x8, .f32⟩
  | 56 => ⟨S1x2048x8x64, .f32⟩
  | 57 => ⟨S1x2048x8x64, .f32⟩
  | 58 => ⟨S1x2048x8x64, .f32⟩
  | 59 => ⟨S1x2048x8x64, .f32⟩
  | 60 => ⟨S1x2048x8x64, .f32⟩
  | 61 => ⟨S1x2048x512, .f32⟩
  | 62 => ⟨S1x2048x2056, .f32⟩
  | 63 => ⟨S2056x1024, .f32⟩
  | 64 => ⟨S1024x2056, .f32⟩
  | 65 => ⟨S2048x2056, .f32⟩
  | 66 => ⟨S_, .i32⟩
  | 67 => ⟨S_, .f32⟩
  | 68 => ⟨S2048x2176, .f32⟩
  | 69 => ⟨S_, .i32⟩
  | 70 => ⟨S_, .f32⟩
  | 71 => ⟨S1024x2176, .f32⟩
  | 72 => ⟨S1x64, .f32⟩
  | 73 => ⟨S1x64, .f32⟩
  | 74 => ⟨S1x8, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_call0_cst : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_v1_0 : Ref sig .tc := ⟨.hbm, 82, rfl⟩
abbrev main_call0_call0_cst_0 : Ref sig .tc := ⟨.hbm, 83, rfl⟩
abbrev main_call0_call0_v13 : Ref sig .tc := ⟨.hbm, 84, rfl⟩
abbrev main_call0_call0_v14 : Ref sig .tc := ⟨.hbm, 85, rfl⟩
abbrev main_call0_call0_cst_1 : Ref sig .tc := ⟨.hbm, 86, rfl⟩
abbrev main_call0_call0_v15 : Ref sig .tc := ⟨.hbm, 87, rfl⟩
abbrev main_call0_call0_v16 : Ref sig .tc := ⟨.hbm, 88, rfl⟩
abbrev main_call0_call0_cst_2 : Ref sig .tc := ⟨.hbm, 89, rfl⟩
abbrev main_call0_call0_v17 : Ref sig .tc := ⟨.hbm, 90, rfl⟩
abbrev main_call0_call0_v18 : Ref sig .tc := ⟨.hbm, 91, rfl⟩
abbrev main_call0_call0_cst_3 : Ref sig .tc := ⟨.hbm, 92, rfl⟩
abbrev main_call0_call0_v19 : Ref sig .tc := ⟨.hbm, 93, rfl⟩
abbrev main_call0_call0_v20 : Ref sig .tc := ⟨.hbm, 94, rfl⟩
abbrev main_call0_call0_v21 : Ref sig .tc := ⟨.hbm, 95, rfl⟩
abbrev main_v50_1 : Ref sig .tc := ⟨.hbm, 96, rfl⟩
abbrev main_call0_call0_cst_4 : Ref sig .tc := ⟨.hbm, 97, rfl⟩
abbrev main_call0_call0_cst_5 : Ref sig .tc := ⟨.hbm, 98, rfl⟩
abbrev main_call0_call0_v23 : Ref sig .tc := ⟨.hbm, 99, rfl⟩
abbrev main_call0_call0_cst_6 : Ref sig .tc := ⟨.hbm, 100, rfl⟩
abbrev main_call0_call0_cst_7 : Ref sig .tc := ⟨.hbm, 101, rfl⟩
abbrev main_call0_call0_v24 : Ref sig .tc := ⟨.hbm, 102, rfl⟩
abbrev main_call0_call0_cst_8 : Ref sig .tc := ⟨.hbm, 103, rfl⟩
abbrev main_call0_call0_v25 : Ref sig .tc := ⟨.hbm, 104, rfl⟩
abbrev main_call0_call0_v26 : Ref sig .tc := ⟨.hbm, 105, rfl⟩
abbrev main_call0_call0_cst_9 : Ref sig .tc := ⟨.hbm, 106, rfl⟩
abbrev main_call0_call0_v27 : Ref sig .tc := ⟨.hbm, 107, rfl⟩
abbrev main_call0_call0_v28 : Ref sig .tc := ⟨.hbm, 108, rfl⟩
abbrev main_call0_call0_v29 : Ref sig .tc := ⟨.hbm, 109, rfl⟩
abbrev main_call0_call0_v30 : Ref sig .tc := ⟨.hbm, 110, rfl⟩
abbrev main_call0_call0_v31 : Ref sig .tc := ⟨.hbm, 111, rfl⟩
abbrev main_call0_call0_cst_10 : Ref sig .tc := ⟨.hbm, 112, rfl⟩
abbrev main_call0_call0_v32 : Ref sig .tc := ⟨.hbm, 113, rfl⟩
abbrev main_v50_2 : Ref sig .tc := ⟨.hbm, 114, rfl⟩
abbrev main_v50_0 : Ref sig .tc := ⟨.hbm, 115, rfl⟩
abbrev main_call1_call0_cst : Ref sig .tc := ⟨.hbm, 116, rfl⟩
abbrev main_call1_call0_v0 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_call2_call0_cst : Ref sig .tc := ⟨.hbm, 121, rfl⟩
abbrev main_call2_call0_v0 : Ref sig .tc := ⟨.hbm, 122, rfl⟩
abbrev main_v54 : Ref sig .tc := ⟨.hbm, 123, rfl⟩
abbrev main_call3_v0 : Ref sig .tc := ⟨.hbm, 124, rfl⟩
abbrev main_call3_v1 : Ref sig .tc := ⟨.hbm, 125, rfl⟩
abbrev main_v55 : Ref sig .tc := ⟨.hbm, 126, rfl⟩
abbrev main_cst_7 : Ref sig .tc := ⟨.hbm, 127, rfl⟩
abbrev main_v56 : Ref sig .tc := ⟨.hbm, 128, rfl⟩
abbrev main_v57 : Ref sig .tc := ⟨.hbm, 129, rfl⟩
abbrev main_cst_8 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_9 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_10 : Ref sig .tc := ⟨.hbm, 141, rfl⟩
abbrev main_v67 : Ref sig .tc := ⟨.hbm, 142, rfl⟩
abbrev main_v68 : Ref sig .tc := ⟨.hbm, 143, rfl⟩
abbrev main_cst_11 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_12 : Ref sig .tc := ⟨.hbm, 150, rfl⟩
abbrev main_v74 : Ref sig .tc := ⟨.hbm, 151, rfl⟩
abbrev main_v75 : Ref sig .tc := ⟨.hbm, 152, rfl⟩
abbrev main_cst_13 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_14 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_15 : Ref sig .tc := ⟨.hbm, 169, rfl⟩
abbrev main_v90 : Ref sig .tc := ⟨.hbm, 170, rfl⟩
abbrev main_v91 : Ref sig .tc := ⟨.hbm, 171, rfl⟩
abbrev main_cst_16 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_17 : Ref sig .tc := ⟨.hbm, 178, rfl⟩
abbrev main_v97 : Ref sig .tc := ⟨.hbm, 179, rfl⟩
abbrev main_v98 : Ref sig .tc := ⟨.hbm, 180, rfl⟩
abbrev main_cst_18 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_c : Ref sig .tc := ⟨.hbm, 194, rfl⟩
abbrev main_call4_v0 : Ref sig .tc := ⟨.hbm, 195, rfl⟩
abbrev main_v111 : Ref sig .tc := ⟨.hbm, 196, rfl⟩
abbrev main_c_19 : Ref sig .tc := ⟨.hbm, 197, rfl⟩
abbrev main_call5_v0 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩

abbrev nD : Nat := 1
abbrev τ : Topo := Topo.v7x

variable {F : FTy → Type} [FloatOps F]
-- ==== Kernel3.lean ====
abbrev S1x8x2048x64 : Shape := ⟨4, ![1, 8, 2048, 64]⟩
abbrev S1x8x2048 : Shape := ⟨3, ![1, 8, 2048]⟩
abbrev S36 : Shape := ⟨1, ![36]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x64 : Shape := ⟨3, ![8, 2048, 64]⟩
abbrev S2048x8x64 : Shape := ⟨3, ![2048, 8, 64]⟩
abbrev S2048x512 : Shape := ⟨2, ![2048, 512]⟩
abbrev S8x2048 : Shape := ⟨2, ![8, 2048]⟩
abbrev S8x2048x1 : Shape := ⟨3, ![8, 2048, 1]⟩
abbrev S8x2048x128 : Shape := ⟨3, ![8, 2048, 128]⟩
abbrev S256x512 : Shape := ⟨2, ![256, 512]⟩
abbrev S1 : Shape := ⟨1, ![1]⟩
abbrev S8x256x128 : Shape := ⟨3, ![8, 256, 128]⟩
abbrev S8x256 : Shape := ⟨2, ![8, 256]⟩
abbrev S1x128 : Shape := ⟨2, ![1, 128]⟩
abbrev S256x128 : Shape := ⟨2, ![256, 128]⟩
abbrev S1x256x128 : Shape := ⟨3, ![1, 256, 128]⟩
abbrev S256x256 : Shape := ⟨2, ![256, 256]⟩
abbrev S1x256 : Shape := ⟨2, ![1, 256]⟩
abbrev S256 : Shape := ⟨1, ![256]⟩

abbrev nBuf : Space → Nat
  | .hbm => 76
  | .vmem => 26
  | .smem => 2
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048, .f32⟩
  | .hbm, ⟨4, _⟩ => ⟨S1x8x2048x64, .f32⟩
  | .hbm, ⟨5, _⟩ => ⟨S1x8x2048x2048, .f32⟩
  | .hbm, ⟨6, _⟩ => ⟨S_, .f32⟩
  | .hbm, ⟨7, _⟩ => ⟨S1x8x2048x2048, .f32⟩
  | .hbm, ⟨8, _⟩ => ⟨S1x8x2048x2048, .f32⟩
  | .hbm, ⟨9, _⟩ => ⟨S1x8x2048x1, .f32⟩
  | .hbm, ⟨10, _⟩ => ⟨S1x8x2048x2048, .f32⟩
  | .hbm, ⟨11, _⟩ => ⟨S1x8x2048x2048, .f32⟩
  | .hbm, ⟨12, _⟩ => ⟨S1x8x1x2048, .f32⟩
  | .hbm, ⟨13, _⟩ => ⟨S1x8x2048x2048, .f32⟩
  | .hbm, ⟨14, _⟩ => ⟨S1x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S1x8x2048x2048, .i1⟩
  | .hbm, ⟨23, _⟩ => ⟨S_, .f32⟩
  | .hbm, ⟨24, _⟩ => ⟨S1x8x2048x2048, .f32⟩
  | .hbm, ⟨25, _⟩ => ⟨S1x8x2048x2048, .f32⟩
  | .hbm, ⟨26, _⟩ => ⟨S_, .f32⟩
  | .hbm, ⟨27, _⟩ => ⟨S1x8x2048, .f32⟩
  | .hbm, ⟨28, _⟩ => ⟨S1x8x2048x1, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S_, .f32⟩
  | .hbm, ⟨33, _⟩ => ⟨S1x8x2048, .f32⟩
  | .hbm, ⟨34, _⟩ => ⟨S1x8x2048x1, .f32⟩
  | .hbm, ⟨35, _⟩ => ⟨S1x8x2048x2048, .f32⟩
  | .hbm, ⟨36, _⟩ => ⟨S1x8x2048x2048, .f32⟩
  | .hbm, ⟨37, _⟩ => ⟨S1x8x2048x64, .f32⟩
  | .hbm, ⟨38, _⟩ => ⟨S1x8x2048x64, .f32⟩
  | .hbm, ⟨39, _⟩ => ⟨S_, .f32⟩
  | .hbm, ⟨40, _⟩ => ⟨S1x8x2048, .f32⟩
  | .hbm, ⟨41, _⟩ => ⟨S8x2048x64, .f32⟩
  | .hbm, ⟨42, _⟩ => ⟨S2048x8x64, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S2048x512, .bf16⟩
  | .hbm, ⟨48, _⟩ => ⟨S8x2048x64, .f32⟩
  | .hbm, ⟨49, _⟩ => ⟨S2048x8x64, .f32⟩
  | .hbm, ⟨50, _⟩ => ⟨S2048x512, .f32⟩
  | .hbm, ⟨51, _⟩ => ⟨S2048x512, .bf16⟩
  | .hbm, ⟨52, _⟩ => ⟨S8x2048x64, .f32⟩
  | .hbm, ⟨53, _⟩ => ⟨S2048x8x64, .f32⟩
  | .hbm, ⟨54, _⟩ => ⟨S2048x512, .f32⟩
  | .hbm, ⟨55, _⟩ => ⟨S2048x512, .bf16⟩
  | .hbm, ⟨56, _⟩ => ⟨S8x2048x64, .f32⟩
  | .hbm, ⟨57, _⟩ => ⟨S2048x8x64, .f32⟩
  | .hbm, ⟨58, _⟩ => ⟨S2048x512, .f32⟩
  | .hbm, ⟨59, _⟩ => ⟨S2048x512, .bf16⟩
  | .hbm, ⟨60, _⟩ => ⟨S1x8x2048, .f32⟩
  | .hbm, ⟨61, _⟩ => ⟨S1x8x2048, .f32⟩
  | .hbm, ⟨62, _⟩ => ⟨S8x2048, .f32⟩
  | .hbm, ⟨63, _⟩ => ⟨S8x2048x1, .f32⟩
  | .hbm, ⟨64, _⟩ => ⟨S8x2048x128, .f32⟩
  | .hbm, ⟨65, _⟩ => ⟨S8x2048, .f32⟩
  | .hbm, ⟨66, _⟩ => ⟨S8x2048x1, .f32⟩
  | .hbm, ⟨67, _⟩ => ⟨S8x2048x128, .f32⟩
  | .hbm, ⟨68, _⟩ => ⟨S8x2048, .f32⟩
  | .hbm, ⟨69, _⟩ => ⟨S8x2048x1, .f32⟩
  | .hbm, ⟨70, _⟩ => ⟨S8x2048x128, .f32⟩
  | .hbm, ⟨71, _⟩ => ⟨S8x2048, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S8x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | .local _ .vmem, ⟨13, _⟩ => ⟨S8x256x128, .f32⟩
  | .local _ .vmem, ⟨14, _⟩ => ⟨S8x256, .f32⟩
  | .local _ .vmem, ⟨15, _⟩ => ⟨S8x256, .f32⟩
  | .local _ .vmem, ⟨16, _⟩ => ⟨S2048x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S8x256, .f32⟩
  | .local _ .vmem, ⟨22, _⟩ => ⟨S8x256, .f32⟩
  | .local _ .vmem, ⟨23, _⟩ => ⟨S256x512, .f32⟩
  | .local _ .vmem, ⟨24, _⟩ => ⟨S256x512, .f32⟩
  | .local _ .vmem, ⟨25, _⟩ => ⟨S8x256, .f32⟩
  | .local _ .smem, ⟨0, _⟩ => ⟨S36, .i32⟩
  | .local _ .smem, ⟨1, _⟩ => ⟨S36, .i32⟩
  | _, _ => ⟨S1x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61_0 : Ref sig .tc := ⟨.hbm, 72, rfl⟩
abbrev main_v61_1 : Ref sig .tc := ⟨.hbm, 73, rfl⟩
abbrev main_v61_2 : Ref sig .tc := ⟨.hbm, 74, rfl⟩
abbrev main_v61_3 : Ref sig .tc := ⟨.hbm, 75, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c256_i32 : BitVec 32 := 256#32
  let v22 : BitVec 32 := Scalar.muli v1 c256_i32
  v22
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c256_i32 : BitVec 32 := 256#32
  let v22 : BitVec 32 := Scalar.muli v1 c256_i32
  let v23 : BitVec 32 := v22
  let v131 : Index := Scalar.indexCast v23
  let c0_61 : Index := 0#32
  ![v131.toNat, 0]
def k0_off3 (v1 : BitVec 32) : Fin 2 → Nat :=
  let c256_i32 : BitVec 32 := 256#32
  let v22 : BitVec 32 := Scalar.muli v1 c256_i32
  let v23 : BitVec 32 := v22
  let v256 : Index := Scalar.indexCast v23
  let c128_128 : Index := 128#32
  ![v256.toNat, 128]
def k0_off4 (v1 : BitVec 32) : Fin 2 → Nat :=
  let c256_i32 : BitVec 32 := 256#32
  let v22 : BitVec 32 := Scalar.muli v1 c256_i32
  let v23 : BitVec 32 := v22
  let v381 : Index := Scalar.indexCast v23
  let c256_195 : Index := 256#32
  ![v381.toNat, 256]
def k0_off5 (v1 : BitVec 32) : Fin 2 → Nat :=
  let c256_i32 : BitVec 32 := 256#32
  let v22 : BitVec 32 := Scalar.muli v1 c256_i32
  let v23 : BitVec 32 := v22
  let v506 : Index := Scalar.indexCast v23
  let c384_262 : Index := 384#32
  ![v506.toNat, 384]
def k0_mult2 (v1 : BitVec 32) : BitVec 32 :=
  let c256_i32 : BitVec 32 := 256#32
  let v25 : BitVec 32 := Scalar.muli v1 c256_i32
  v25
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off6 (v1 : BitVec 32) : Fin 2 → Nat :=
  let c256_i32 : BitVec 32 := 256#32
  let v25 : BitVec 32 := Scalar.muli v1 c256_i32
  let v26 : BitVec 32 := v25
  let v138 : Index := Scalar.indexCast v26
  let c0_63 : Index := 0#32
  ![v138.toNat, 0]
def k0_off7 (v1 : BitVec 32) : Fin 2 → Nat :=
  let c256_i32 : BitVec 32 := 256#32
  let v25 : BitVec 32 := Scalar.muli v1 c256_i32
  let v26 : BitVec 32 := v25
  let v267 : Index := Scalar.indexCast v26
  let c128_132 : Index := 128#32
  ![v267.toNat, 128]
def k0_off8 (v1 : BitVec 32) : Fin 2 → Nat :=
  let c256_i32 : BitVec 32 := 256#32
  let v25 : BitVec 32 := Scalar.muli v1 c256_i32
  let v26 : BitVec 32 := v25
  let v396 : Index := Scalar.indexCast v26
  let c256_201 : Index := 256#32
  ![v396.toNat, 256]
def k0_off9 (v1 : BitVec 32) : Fin 2 → Nat :=
  let c256_i32 : BitVec 32 := 256#32
  let v25 : BitVec 32 := Scalar.muli v1 c256_i32
  let v26 : BitVec 32 := v25
  let v525 : Index := Scalar.indexCast v26
  let c384_270 : Index := 384#32
  ![v525.toNat, 384]

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ a, (k0_off2 v1) a + S256x128.size a ≤ S2048x512.size a) ∧
  (∀ (k0_h3 : k0_cond3 v1 v3 = 1#1), ∀ a, (k0_off3 v1) a + S256x128.size a ≤ S2048x512.size a) ∧
  (∀ (k0_h3 : k0_cond3 v1 v3 = 1#1), ∀ a, (k0_off4 v1) a + S256x128.size a ≤ S2048x512.size a) ∧
  (∀ (k0_h3 : k0_cond3 v1 v3 = 1#1), ∀ a, (k0_off5 v1) a + S256x128.size a ≤ S2048x512.size a) ∧
  (∀ (k0_h4 : k0_cond4 v1 v3 = 1#1), 256 ∣ (k0_mult2 v1).toNat) ∧
  (∀ (k0_h4 : k0_cond4 v1 v3 = 1#1), ∀ a, (k0_off6 v1) a + S256x128.size a ≤ S2048x512.size a) ∧
  (∀ (k0_h4 : k0_cond4 v1 v3 = 1#1), ∀ a, (k0_off7 v1) a + S256x128.size a ≤ S2048x512.size a) ∧
  (∀ (k0_h4 : k0_cond4 v1 v3 = 1#1), ∀ a, (k0_off8 v1) a + S256x128.size a ≤ S2048x512.size a) ∧
  (∀ (k0_h4 : k0_cond4 v1 v3 = 1#1), ∀ a, (k0_off9 v1) a + S256x128.size a ≤ S2048x512.size a)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S256x128.size a ≤ S2048x512.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S256x128.size a ≤ S2048x512.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S256x128.size a ≤ S2048x512.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S256x128.size a ≤ S2048x512.size a := fun v1 v3 k0_hw1 k0_h3 => k0_hw1.2.2.2.2.1 k0_h3
theorem k0_mult2_dvd : ∀ (v1 : BitVec 32) (v3 : BitVec 32) (k0_hw1 : k0_chk1 v1 v3), ∀ (k0_h4 : k0_cond4 v1 v3 = 1#1), 256 ∣ (k0_mult2 v1).toNat := fun v1 v3 k0_hw1 k0_h4 => k0_hw1.2.2.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S256x128.size a ≤ S2048x512.size a := fun v1 v3 k0_hw1 k0_h4 => k0_hw1.2.2.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S256x128.size a ≤ S2048x512.size a := fun v1 v3 k0_hw1 k0_h4 => k0_hw1.2.2.2.2.2.2.2.1 k0_h4
theorem k0_off8_inb : ∀ (v1 : BitVec 32) (v3 : BitVec 32) (k0_hw1 : k0_chk1 v1 v3), ∀ (k0_h4 : k0_cond4 v1 v3 = 1#1), ∀ a, (k0_off8 v1) a + S256x128.size a ≤ S2048x512.size a := fun v1 v3 k0_hw1 k0_h4 => k0_hw1.2.2.2.2.2.2.2.2.1 k0_h4
theorem k0_off9_inb : ∀ (v1 : BitVec 32) (v3 : BitVec 32) (k0_hw1 : k0_chk1 v1 v3), ∀ (k0_h4 : k0_cond4 v1 v3 = 1#1), ∀ a, (k0_off9 v1) a + S256x128.size a ≤ S2048x512.size a := fun v1 v3 k0_hw1 k0_h4 => k0_hw1.2.2.2.2.2.2.2.2.2 k0_h4

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_10 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_11 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S1x8x2048x64 : Shape := ⟨4, ![1, 8, 2048, 64]⟩
abbrev S1x8x2048 : Shape := ⟨3, ![1, 8, 2048]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x8x64x2048 : Shape := ⟨4, ![1, 8, 64, 2048]⟩
abbrev S8x2048 : Shape := ⟨2, ![8, 2048]⟩
abbrev S8x2048x64 : Shape := ⟨3, ![8, 2048, 64]⟩
abbrev S2048x8x64 : Shape := ⟨3, ![2048, 8, 64]⟩
abbrev S2048x512 : Shape := ⟨2, ![2048, 512]⟩

abbrev nBuf : Space → Nat
  | .hbm => 118
  | .vmem => 0
  | .smem => 0
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048, .f32⟩
  | .hbm, ⟨4, _⟩ => ⟨S1x8x2048x64, .f32⟩
  | .hbm, ⟨5, _⟩ => ⟨S1x8x2048x2048, .f32⟩
  | .hbm, ⟨6, _⟩ => ⟨S_, .f32⟩
  | .hbm, ⟨7, _⟩ => ⟨S1x8x2048x2048, .f32⟩
  | .hbm, ⟨8, _⟩ => ⟨S1x8x2048x2048, .f32⟩
  | .hbm, ⟨9, _⟩ => ⟨S1x8x2048x1, .f32⟩
  | .hbm, ⟨10, _⟩ => ⟨S1x8x2048x2048, .f32⟩
  | .hbm, ⟨11, _⟩ => ⟨S1x8x2048x2048, .f32⟩
  | .hbm, ⟨12, _⟩ => ⟨S1x8x1x2048, .f32⟩
  | .hbm, ⟨13, _⟩ => ⟨S1x8x2048x2048, .f32⟩
  | .hbm, ⟨14, _⟩ => ⟨S1x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S1x8x2048x2048, .i1⟩
  | .hbm, ⟨25, _⟩ => ⟨S1x8x2048x2048, .f32⟩
  | .hbm, ⟨26, _⟩ => ⟨S1x8x2048x2048, .f32⟩
  | .hbm, ⟨27, _⟩ => ⟨S_, .f32⟩
  | .hbm, ⟨28, _⟩ => ⟨S1x8x2048x2048, .f32⟩
  | .hbm, ⟨29, _⟩ => ⟨S_, .f32⟩
  | .hbm, ⟨30, _⟩ => ⟨S1x8x2048, .f32⟩
  | .hbm, ⟨31, _⟩ => ⟨S1x8x2048x1, .f32⟩
  | .hbm, ⟨32, _⟩ => ⟨S1x8x2048x2048, .f32⟩
  | .hbm, ⟨33, _⟩ => ⟨S1x8x2048x2048, .i1⟩
  | .hbm, ⟨34, _⟩ => ⟨S1x8x2048x2048, .f32⟩
  | .hbm, ⟨35, _⟩ => ⟨S_, .f32⟩
  | .hbm, ⟨36, _⟩ => ⟨S1x8x2048, .f32⟩
  | .hbm, ⟨37, _⟩ => ⟨S_, .f32⟩
  | .hbm, ⟨38, _⟩ => ⟨S1x8x2048, .f32⟩
  | .hbm, ⟨39, _⟩ => ⟨S1x8x2048, .f32⟩
  | .hbm, ⟨40, _⟩ => ⟨S_, .f32⟩
  | .hbm, ⟨41, _⟩ => ⟨S1x8x2048, .f32⟩
  | .hbm, ⟨42, _⟩ => ⟨S1x8x2048, .i1⟩
  | .hbm, ⟨43, _⟩ => ⟨S_, .f32⟩
  | .hbm, ⟨44, _⟩ => ⟨S1x8x2048, .f32⟩
  | .hbm, ⟨45, _⟩ => ⟨S1x8x2048, .i1⟩
  | .hbm, ⟨46, _⟩ => ⟨S_, .f32⟩
  | .hbm, ⟨47, _⟩ => ⟨S1x8x2048, .f32⟩
  | .hbm, ⟨48, _⟩ => ⟨S_, .f32⟩
  | .hbm, ⟨49, _⟩ => ⟨S1x8x2048, .f32⟩
  | .hbm, ⟨50, _⟩ => ⟨S_, .f32⟩
  | .hbm, ⟨51, _⟩ => ⟨S1x8x2048, .f32⟩
  | .hbm, ⟨52, _⟩ => ⟨S1x8x2048, .f32⟩
  | .hbm, ⟨53, _⟩ => ⟨S1x8x2048, .f32⟩
  | .hbm, ⟨54, _⟩ => ⟨S1x8x2048x1, .f32⟩
  | .hbm, ⟨55, _⟩ => ⟨S1x8x2048x2048, .f32⟩
  | .hbm, ⟨56, _⟩ => ⟨S1x8x2048x2048, .f32⟩
  | .hbm, ⟨57, _⟩ => ⟨S1x8x2048x2048, .f32⟩
  | .hbm, ⟨58, _⟩ => ⟨S_, .f32⟩
  | .hbm, ⟨59, _⟩ => ⟨S1x8x2048, .f32⟩
  | .hbm, ⟨60, _⟩ => ⟨S1x8x2048x1, .f32⟩
  | .hbm, ⟨61, _⟩ => ⟨S1x8x2048x2048, .f32⟩
  | .hbm, ⟨62, _⟩ => ⟨S1x8x2048x2048, .f32⟩
  | .hbm, ⟨63, _⟩ => ⟨S1x8x2048x1, .f32⟩
  | .hbm, ⟨64, _⟩ => ⟨S_, .f32⟩
  | .hbm, ⟨65, _⟩ => ⟨S1x8x2048x1, .f32⟩
  | .hbm, ⟨66, _⟩ => ⟨S1x8x2048x1, .f32⟩
  | .hbm, ⟨67, _⟩ => ⟨S1x8x2048x64, .f32⟩
  | .hbm, ⟨68, _⟩ => ⟨S1x8x64x2048, .f32⟩
  | .hbm, ⟨69, _⟩ => ⟨S1x8x2048x64, .f32⟩
  | .hbm, ⟨70, _⟩ => ⟨S1x8x2048x2048, .f32⟩
  | .hbm, ⟨71, _⟩ => ⟨S1x8x2048x2048, .f32⟩
  | .hbm, ⟨72, _⟩ => ⟨S1x8x2048x2048, .f32⟩
  | .hbm, ⟨73, _⟩ => ⟨S1x8x2048x2048, .f32⟩
  | .hbm, ⟨74, _⟩ => ⟨S_, .f32⟩
  | .hbm, ⟨75, _⟩ => ⟨S1x8x2048, .f32⟩
  | .hbm, ⟨76, _⟩ => ⟨S1x8x2048x1, .f32⟩
  | .hbm, ⟨77, _⟩ => ⟨S1x8x2048x1, .f32⟩
  | .hbm, ⟨78, _⟩ => ⟨S1x8x2048x2048, .f32⟩
  | .hbm, ⟨79, _⟩ => ⟨S1x8x2048x2048, .f32⟩
  | .hbm, ⟨80, _⟩ => ⟨S_, .f32⟩
  | .hbm, ⟨81, _⟩ => ⟨S8x2048, .f32⟩
  | .hbm, ⟨82, _⟩ => ⟨S1x8x2048, .f32⟩
  | .hbm, ⟨83, _⟩ => ⟨S1x8x2048x2048, .f32⟩
  | .hbm, ⟨84, _⟩ => ⟨S1x8x2048x2048, .f32⟩
  | .hbm, ⟨85, _⟩ => ⟨S1x8x2048x2048, .f32⟩
  | .hbm, ⟨86, _⟩ => ⟨S_, .f32⟩
  | .hbm, ⟨87, _⟩ => ⟨S1x8x2048x2048, .f32⟩
  | .hbm, ⟨88, _⟩ => ⟨S1x8x2048x2048, .f32⟩
  | .hbm, ⟨89, _⟩ => ⟨S1x8x2048x2048, .f32⟩
  | .hbm, ⟨90, _⟩ => ⟨S_, .f32⟩
  | .hbm, ⟨91, _⟩ => ⟨S1x8x2048, .f32⟩
  | .hbm, ⟨92, _⟩ => ⟨S1x8x1x2048, .f32⟩
  | .hbm, ⟨93, _⟩ => ⟨S_, .f32⟩
  | .hbm, ⟨94, _⟩ => ⟨S8x2048, .f32⟩
  | .hbm, ⟨95, _⟩ => ⟨S1x8x2048, .f32⟩
  | .hbm, ⟨96, _⟩ => ⟨S_, .f32⟩
  | .hbm, ⟨97, _⟩ => ⟨S1x8x2048, .f32⟩
  | .hbm, ⟨98, _⟩ => ⟨S1x8x2048x1, .f32⟩
  | .hbm, ⟨99, _⟩ => ⟨S_, .f32⟩
  | .hbm, ⟨100, _⟩ => ⟨S8x2048, .f32⟩
  | .hbm, ⟨101, _⟩ => ⟨S1x8x2048, .f32⟩
  | .hbm, ⟨102, _⟩ => ⟨S1x8x2048, .f32⟩
  | .hbm, ⟨103, _⟩ => ⟨S_, .f32⟩
  | .hbm, ⟨104, _⟩ => ⟨S1x8x2048x2048, .f32⟩
  | .hbm, ⟨105, _⟩ => ⟨S1x8x2048x2048, .f32⟩
  | .hbm, ⟨106, _⟩ => ⟨S1x8x2048x64, .f32⟩
  | .hbm, ⟨107, _⟩ => ⟨S1x8x2048x64, .f32⟩
  | .hbm, ⟨108, _⟩ => ⟨S8x2048x64, .f32⟩
  | .hbm, ⟨109, _⟩ => ⟨S2048x8x64, .f32⟩
  | .hbm, ⟨110, _⟩ => ⟨S2048x512, .f32⟩
  | .hbm, ⟨111, _⟩ => ⟨S8x2048x64, .f32⟩
  | .hbm, ⟨112, _⟩ => ⟨S2048x8x64, .f32⟩
  | .hbm, ⟨113, _⟩ => ⟨S2048x512, .f32⟩
  | .hbm, ⟨114, _⟩ => ⟨S8x2048x64, .f32⟩
  | .hbm, ⟨115, _⟩ => ⟨S2048x8x64, .f32⟩
  | .hbm, ⟨116, _⟩ => ⟨S2048x512, .f32⟩
  | .hbm, ⟨117, _⟩ => ⟨S8x2048, .f32⟩
  | _, _ => ⟨S1x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel4.lean ====
abbrev S1x2048x1024 : Shape := ⟨3, ![1, 2048, 1024]⟩
abbrev S1024x2176 : Shape := ⟨2, ![1024, 2176]⟩
abbrev S1x2176 : Shape := ⟨2, ![1, 2176]⟩
abbrev S1x64x512 : Shape := ⟨3, ![1, 64, 512]⟩
abbrev S1x512 : Shape := ⟨2, ![1, 512]⟩
abbrev S1x2048x8x64 : Shape := ⟨4, ![1, 2048, 8, 64]⟩
abbrev S1x2048x512 : Shape := ⟨3, ![1, 2048, 512]⟩
abbrev S2048x1024 : Shape := ⟨2, ![2048, 1024]⟩
abbrev S2048x2176 : Shape := ⟨2, ![2048, 2176]⟩
abbrev S64x512 : Shape := ⟨2, ![64, 512]⟩
abbrev S_ : Shape := ⟨0, ![]⟩
abbrev S64x1024 : Shape := ⟨2, ![64, 1024]⟩
abbrev S128x1024 : Shape := ⟨2, ![128, 1024]⟩
abbrev S1024x2048 : Shape := ⟨2, ![1024, 2048]⟩
abbrev S2048x512 : Shape := ⟨2, ![2048, 512]⟩
abbrev S256x2176 : Shape := ⟨2, ![256, 2176]⟩
abbrev S8x2176 : Shape := ⟨2, ![8, 2176]⟩
abbrev S1024x256 : Shape := ⟨2, ![1024, 256]⟩
abbrev S256x512 : Shape := ⟨2, ![256, 512]⟩
abbrev S128x128 : Shape := ⟨2, ![128, 128]⟩
abbrev S256x1 : Shape := ⟨2, ![256, 1]⟩
abbrev S256x128 : Shape := ⟨2, ![256, 128]⟩
abbrev S1x128 : Shape := ⟨2, ![1, 128]⟩
abbrev S256x1024 : Shape := ⟨2, ![256, 1024]⟩
abbrev S512 : Shape := ⟨1, ![512]⟩
abbrev S2176 : Shape := ⟨1, ![2176]⟩

abbrev nBuf : Space → Nat
  | .hbm => 53
  | .vmem => 42
  | .smem => 0
  | _ => 0

abbrev bufTy : (tb : Table) → Fin (tcTables nBuf tb) → BufTy
  | .hbm, ⟨0, _⟩ => ⟨S1x2048x1024, .f32⟩
  | .hbm, ⟨1, _⟩ => ⟨S1024x2176, .f32⟩
  | .hbm, ⟨2, _⟩ => ⟨S1x2176, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x2048x8x64, .f32⟩
  | .hbm, ⟨10, _⟩ => ⟨S1x2048x8x64, .f32⟩
  | .hbm, ⟨11, _⟩ => ⟨S1x2048x8x64, .f32⟩
  | .hbm, ⟨12, _⟩ => ⟨S1x2048x8x64, .f32⟩
  | .hbm, ⟨13, _⟩ => ⟨S1x2048x8x64, .f32⟩
  | .hbm, ⟨14, _⟩ => ⟨S1x2048x8x64, .f32⟩
  | .hbm, ⟨15, _⟩ => ⟨S1x2048x8x64, .f32⟩
  | .hbm, ⟨16, _⟩ => ⟨S1x2048x8x64, .f32⟩
  | .hbm, ⟨17, _⟩ => ⟨S1x2048x8x64, .f32⟩
  | .hbm, ⟨18, _⟩ => ⟨S1x2048x512, .f32⟩
  | .hbm, ⟨19, _⟩ => ⟨S2048x1024, .f32⟩
  | .hbm, ⟨20, _⟩ => ⟨S2048x1024, .bf16⟩
  | .hbm, ⟨21, _⟩ => ⟨S1024x2176, .bf16⟩
  | .hbm, ⟨22, _⟩ => ⟨S2048x2176, .f32⟩
  | .hbm, ⟨23, _⟩ => ⟨S64x512, .f32⟩
  | .hbm, ⟨24, _⟩ => ⟨S64x512, .bf16⟩
  | .hbm, ⟨25, _⟩ => ⟨S64x512, .f32⟩
  | .hbm, ⟨26, _⟩ => ⟨S64x512, .bf16⟩
  | .hbm, ⟨27, _⟩ => ⟨S_, .bf16⟩
  | .hbm, ⟨28, _⟩ => ⟨S64x512, .bf16⟩
  | .hbm, ⟨29, _⟩ => ⟨S64x1024, .bf16⟩
  | .hbm, ⟨30, _⟩ => ⟨S64x1024, .bf16⟩
  | .hbm, ⟨31, _⟩ => ⟨S128x1024, .bf16⟩
  | .hbm, ⟨32, _⟩ => ⟨S1024x2048, .bf16⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x2176, .f32⟩
  | .hbm, ⟨44, _⟩ => ⟨S1024x2176, .f32⟩
  | .hbm, ⟨45, _⟩ => ⟨S1x2176, .f32⟩
  | .hbm, ⟨46, _⟩ => ⟨S128x1024, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S64x512, .f32⟩
  | .hbm, ⟨52, _⟩ => ⟨S64x512, .f32⟩
  | .local _ .vmem, ⟨0, _⟩ => ⟨S256x2176, .f32⟩
  | .local _ .vmem, ⟨1, _⟩ => ⟨S256x2176, .f32⟩
  | .local _ .vmem, ⟨2, _⟩ => ⟨S8x2176, .f32⟩
  | .local _ .vmem, ⟨3, _⟩ => ⟨S8x2176, .f32⟩
  | .local _ .vmem, ⟨4, _⟩ => ⟨S1024x256, .bf16⟩
  | .local _ .vmem, ⟨5, _⟩ => ⟨S1024x256, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S1x2176, .f32⟩
  | .local _ .vmem, ⟨27, _⟩ => ⟨S128x1024, .bf16⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S256x2176, .f32⟩
  | .local _ .vmem, ⟨33, _⟩ => ⟨S256x2176, .f32⟩
  | .local _ .vmem, ⟨34, _⟩ => ⟨S1024x2176, .f32⟩
  | .local _ .vmem, ⟨35, _⟩ => ⟨S1x2176, .f32⟩
  | .local _ .vmem, ⟨36, _⟩ => ⟨S128x1024, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x2176, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev main_v23_3 : Ref sig .tc := ⟨.hbm, 46, rfl⟩
abbrev main_v23_4 : Ref sig .tc := ⟨.hbm, 47, rfl⟩
abbrev main_v23_5 : Ref sig .tc := ⟨.hbm, 48, rfl⟩
abbrev main_v23_6 : Ref sig .tc := ⟨.hbm, 49, rfl⟩
abbrev main_v23_7 : Ref sig .tc := ⟨.hbm, 50, rfl⟩
abbrev main_v24 : Ref sig .tc := ⟨.hbm, 51, rfl⟩
abbrev main_v25 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2176 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2176 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x2176 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x2176 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== Reference4Ideal.lean ====
abbrev S1x2048x1024 : Shape := ⟨3, ![1, 2048, 1024]⟩
abbrev S1024x2176 : Shape := ⟨2, ![1024, 2176]⟩
abbrev S1x2176 : Shape := ⟨2, ![1, 2176]⟩
abbrev S1x64x512 : Shape := ⟨3, ![1, 64, 512]⟩
abbrev S1x512 : Shape := ⟨2, ![1, 512]⟩
abbrev S1x2048x8x64 : Shape := ⟨4, ![1, 2048, 8, 64]⟩
abbrev S1x2048x512 : Shape := ⟨3, ![1, 2048, 512]⟩
abbrev S1x2048x2176 : Shape := ⟨3, ![1, 2048, 2176]⟩
abbrev S2176 : Shape := ⟨1, ![2176]⟩
abbrev S64x512 : Shape := ⟨2, ![64, 512]⟩
abbrev S512 : Shape := ⟨1, ![512]⟩
abbrev S1x1x2176 : Shape := ⟨3, ![1, 1, 2176]⟩
abbrev S_ : Shape := ⟨0, ![]⟩
abbrev S1x2047x2176 : Shape := ⟨3, ![1, 2047, 2176]⟩
abbrev S1x2048x64 : Shape := ⟨3, ![1, 2048, 64]⟩
abbrev S1x1x512 : Shape := ⟨3, ![1, 1, 512]⟩
abbrev S1x2048x8 : Shape := ⟨3, ![1, 2048, 8]⟩
abbrev S1x2048x8x1 : Shape := ⟨4, ![1, 2048, 8, 1]⟩
abbrev S2048x8 : Shape := ⟨2, ![2048, 8]⟩
abbrev S512x64 : Shape := ⟨2, ![512, 64]⟩
abbrev S2176x1024 : Shape := ⟨2, ![2176, 1024]⟩
abbrev S2048x2176 : Shape := ⟨2, ![2048, 2176]⟩

abbrev nBuf : Space → Nat
  | .hbm => 279
  | .vmem => 0
  | .smem => 0
  | _ => 0

abbrev hbmTy0_0 (i : Nat) : BufTy := match i % 128 with
  | 0 => ⟨S1x2048x1024, .f32⟩
  | 1 => ⟨S1024x2176, .f32⟩
  | 2 => ⟨S1x2176, .f32⟩
  | 3 => ⟨S1x64x512, .f32⟩
  | 4 => ⟨S1x512, .f32⟩
  | 5 => ⟨S1x64x512, .f32⟩
  | 6 => ⟨S1x512, .f32⟩
  | 7 => ⟨S1x512, .f32⟩
  | 8 => ⟨S1x512, .f32⟩
  | 9 => ⟨S1x2048x8x64, .f32⟩
  | 10 => ⟨S1x2048x8x64, .f32⟩
  | 11 => ⟨S1x2048x8x64, .f32⟩
  | 12 => ⟨S1x2048x8x64, .f32⟩
  | 13 => ⟨S1x2048x8x64, .f32⟩
  | 14 => ⟨S1x2048x8x64, .f32⟩
  | 15 => ⟨S1x2048x8x64, .f32⟩
  | 16 => ⟨S1x2048x8x64, .f32⟩
  | 17 => ⟨S1x2048x8x64, .f32⟩
  | 18 => ⟨S1x2048x512, .f32⟩
  | 19 => ⟨S1x2048x2176, .f32⟩
  | 20 => ⟨S2176, .f32⟩
  | 21 => ⟨S64x512, .f32⟩
  | 22 => ⟨S512, .f32⟩
  | 23 => ⟨S64x512, .f32⟩
  | 24 => ⟨S512, .f32⟩
  | 25 => ⟨S512, .f32⟩
  | 26 => ⟨S512, .f32⟩
  | 27 => ⟨S1x1x2176, .f32⟩
  | 28 => ⟨S_, .f32⟩
  | 29 => ⟨S1x1x2176, .f32⟩
  | 30 => ⟨S1x2047x2176, .f32⟩
  | 31 => ⟨S1x2048x2176, .f32⟩
  | 32 => ⟨S_, .f32⟩
  | 33 => ⟨S1x1x2176, .f32⟩
  | 34 => ⟨S1x2048x2176, .f32⟩
  | 35 => ⟨S1x1x2176, .f32⟩
  | 36 => ⟨S1x2048x2176, .f32⟩
  | 37 => ⟨S1x2048x2176, .f32⟩
  | 38 => ⟨S1x2048x2176, .f32⟩
  | 39 => ⟨S1x2048x512, .f32⟩
  | 40 => ⟨S1x2048x512, .f32⟩
  | 41 => ⟨S1x2048x512, .f32⟩
  | 42 => ⟨S1x2048x64, .f32⟩
  | 43 => ⟨S1x2048x64, .f32⟩
  | 44 => ⟨S1x2048x512, .f32⟩
  | 45 => ⟨S1x2048x64, .f32⟩
  | 46 => ⟨S_, .f32⟩
  | 47 => ⟨S1x2048x64, .f32⟩
  | 48 => ⟨S1x2048x64, .f32⟩
  | 49 => ⟨S_, .f32⟩
  | 50 => ⟨S1x2048x64, .f32⟩
  | 51 => ⟨S1x2048x64, .f32⟩
  | 52 => ⟨S1x2048x64, .f32⟩
  | 53 => ⟨S1x2048x512, .f32⟩
  | 54 => ⟨S1x1x512, .f32⟩
  | 55 => ⟨S1x2048x512, .f32⟩
  | 56 => ⟨S1x2048x512, .f32⟩
  | 57 => ⟨S1x2048x512, .f32⟩
  | 58 => ⟨S_, .f32⟩
  | 59 => ⟨S1x2048x512, .f32⟩
  | 60 => ⟨S1x2048x512, .f32⟩
  | 61 => ⟨S1x2048x512, .f32⟩
  | 62 => ⟨S1x2048x512, .f32⟩
  | 63 => ⟨S1x2048x512, .i1⟩
  | 64 => ⟨S1x2048x512, .f32⟩
  | 65 => ⟨S1x2048x512, .f32⟩
  | 66 => ⟨S1x2048x512, .f32⟩
  | 67 => ⟨S1x2048x512, .f32⟩
  | 68 => ⟨S1x2048x512, .f32⟩
  | 69 => ⟨S1x2048x512, .f32⟩
  | 70 => ⟨S1x2048x512, .f32⟩
  | 71 => ⟨S1x2048x512, .f32⟩
  | 72 => ⟨S_, .f32⟩
  | 73 => ⟨S1x2048x512, .f32⟩
  | 74 => ⟨S1x2048x512, .i1⟩
  | 75 => ⟨S_, .f32⟩
  | 76 => ⟨S1x2048x512, .f32⟩
  | 77 => ⟨S1x2048x512, .f32⟩
  | 78 => ⟨S_, .f32⟩
  | 79 => ⟨S1x2048x512, .f32⟩
  | 80 => ⟨S1x2048x512, .i1⟩
  | 81 => ⟨S_, .f32⟩
  | 82 => ⟨S1x2048x512, .f32⟩
  | 83 => ⟨S1x2048x512, .f32⟩
  | 84 => ⟨S1x2048x512, .f32⟩
  | 85 => ⟨S1x2048x512, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S1x2048x512, .f32⟩
  | 94 => ⟨S1x2048x512, .i1⟩
  | 95 => ⟨S_, .f32⟩
  | 96 => ⟨S1x2048x512, .f32⟩
  | 97 => ⟨S1x2048x512, .f32⟩
  | 98 => ⟨S1x2048x512, .f32⟩
  | 99 => ⟨S1x2048x512, .f32⟩
  | 100 => ⟨S1x2048x512, .f32⟩
  | 101 => ⟨S_, .f32⟩
  | 102 => ⟨S1x2048x512, .f32⟩
  | 103 => ⟨S1x2048x512, .f32⟩
  | 104 => ⟨S1x2048x512, .f32⟩
  | 105 => ⟨S_, .f32⟩
  | 106 => ⟨S1x2048x512, .f32⟩
  | 107 => ⟨S1x2048x512, .f32⟩
  | 108 => ⟨S1x2048x512, .f32⟩
  | 109 => ⟨S1x2048x512, .f32⟩
  | 110 => ⟨S1x2048x512, .f32⟩
  | 111 => ⟨S1x2048x512, .f32⟩
  | 112 => ⟨S1x1x512, .f32⟩
  | 113 => ⟨S1x2048x512, .f32⟩
  | 114 => ⟨S1x2048x512, .f32⟩
  | 115 => ⟨S1x2048x512, .f32⟩
  | 116 => ⟨S1x2048x512, .f32⟩
  | 117 => ⟨S_, .f32⟩
  | 118 => ⟨S1x2048x512, .f32⟩
  | 119 => ⟨S1x2048x512, .f32⟩
  | 120 => ⟨S_, .f32⟩
  | 121 => ⟨S1x2048x512, .f32⟩
  | 122 => ⟨S1x2048x512, .f32⟩
  | 123 => ⟨S_, .f32⟩
  | 124 => ⟨S1x2048x512, .f32⟩
  | 125 => ⟨S1x2048x512, .f32⟩
  | 126 => ⟨S1x2048x512, .f32⟩
  | 127 => ⟨S1x1x512, .f32⟩
  | _ => ⟨S1x2048x1024, .f32⟩

abbrev hbmTy0_1 (i : Nat) : BufTy := match i % 128 with
  | 0 => ⟨S1x2048x512, .f32⟩
  | 1 => ⟨S1x2048x512, .f32⟩
  | 2 => ⟨S1x2048x8x64, .f32⟩
  | 3 => ⟨S1x2048x8x64, .f32⟩
  | 4 => ⟨S_, .f32⟩
  | 5 => ⟨S1x2048x8, .f32⟩
  | 6 => ⟨S1x2048x8x1, .f32⟩
  | 7 => ⟨S1x2048x8x1, .f32⟩
  | 8 => ⟨S_, .f32⟩
  | 9 => ⟨S1x2048x8x1, .f32⟩
  | 10 => ⟨S1x2048x8x1, .f32⟩
  | 11 => ⟨S_, .f32⟩
  | 12 => ⟨S1x2048x8x1, .f32⟩
  | 13 => ⟨S1x2048x8x1, .f32⟩
  | 14 => ⟨S_, .f32⟩
  | 15 => ⟨S1x2048x8x1, .f32⟩
  | 16 => ⟨S1x2048x8x1, .i1⟩
  | 17 => ⟨S_, .f32⟩
  | 18 => ⟨S1x2048x8x1, .f32⟩
  | 19 => ⟨S1x2048x8x1, .i1⟩
  | 20 => ⟨S_, .f32⟩
  | 21 => ⟨S1x2048x8x1, .f32⟩
  | 22 => ⟨S_, .f32⟩
  | 23 => ⟨S1x2048x8x1, .f32⟩
  | 24 => ⟨S_, .f32⟩
  | 25 => ⟨S1x2048x8x1, .f32⟩
  | 26 => ⟨S1x2048x8x1, .f32⟩
  | 27 => ⟨S1x2048x8x1, .f32⟩
  | 28 => ⟨S1x2048x8x64, .f32⟩
  | 29 => ⟨S1x2048x8x64, .f32⟩
  | 30 => ⟨S1x2048x8x1, .f32⟩
  | 31 => ⟨S_, .f32⟩
  | 32 => ⟨S1x2048x8x1, .f32⟩
  | 33 => ⟨S1x2048x8x1, .f32⟩
  | 34 => ⟨S_, .f32⟩
  | 35 => ⟨S1x2048x512, .f32⟩
  | 36 => ⟨S1x2048x512, .f32⟩
  | 37 => ⟨S1x1x512, .f32⟩
  | 38 => ⟨S1x2048x512, .f32⟩
  | 39 => ⟨S1x2048x512, .f32⟩
  | 40 => ⟨S_, .f32⟩
  | 41 => ⟨S1x2048x512, .f32⟩
  | 42 => ⟨S1x2048x512, .f32⟩
  | 43 => ⟨S1x2048x512, .f32⟩
  | 44 => ⟨S1x2048x8x64, .f32⟩
  | 45 => ⟨S1x2048x8x64, .f32⟩
  | 46 => ⟨S1x2048x8x64, .f32⟩
  | 47 => ⟨S1x2048x8x64, .f32⟩
  | 48 => ⟨S1x2048x8x64, .f32⟩
  | 49 => ⟨S1x2048x8x64, .f32⟩
  | 50 => ⟨S1x2048x8x64, .f32⟩
  | 51 => ⟨S1x2048x8x64, .f32⟩
  | 52 => ⟨S1x2048x8x64, .f32⟩
  | 53 => ⟨S1x2048x8x64, .f32⟩
  | 54 => ⟨S1x2048x8x64, .f32⟩
  | 55 => ⟨S1x2048x8x64, .f32⟩
  | 56 => ⟨S1x2048x8x64, .f32⟩
  | 57 => ⟨S1x2048x8x64, .f32⟩
  | 58 => ⟨S1x2048x512, .f32⟩
  | 59 => ⟨S1x2048x512, .f32⟩
  | 60 => ⟨S1x2048x512, .f32⟩
  | 61 => ⟨S1x2048x512, .f32⟩
  | 62 => ⟨S1x2048x512, .f32⟩
  | 63 => ⟨S1x2048x512, .f32⟩
  | 64 => ⟨S1x2048x512, .f32⟩
  | 65 => ⟨S1x2048x512, .f32⟩
  | 66 => ⟨S_, .f32⟩
  | 67 => ⟨S1x512, .f32⟩
  | 68 => ⟨S1x1x512, .f32⟩
  | 69 => ⟨S1x2048x512, .f32⟩
  | 70 => ⟨S1x2048x512, .f32⟩
  | 71 => ⟨S1x2048x512, .f32⟩
  | 72 => ⟨S_, .f32⟩
  | 73 => ⟨S512, .f32⟩
  | 74 => ⟨S1x2048x8x64, .f32⟩
  | 75 => ⟨S1x2048x8x64, .f32⟩
  | 76 => ⟨S1x2048x8x64, .f32⟩
  | 77 => ⟨S_, .f32⟩
  | 78 => ⟨S1x2048x8, .f32⟩
  | 79 => ⟨S1x2048x8x1, .f32⟩
  | 80 => ⟨S1x2048x8x1, .f32⟩
  | 81 => ⟨S1x2048x8x64, .f32⟩
  | 82 => ⟨S1x2048x8x64, .f32⟩
  | 83 => ⟨S1x2048x8x1, .f32⟩
  | 84 => ⟨S1x2048x8x1, .f32⟩
  | 85 => ⟨S_, .f32⟩
  | 86 => ⟨S2048x8, .f32⟩
  | 87 => ⟨S1x2048x8, .f32⟩
  | 88 => ⟨S1x2048x8x64, .f32⟩
  | 89 => ⟨S1x2048x8x64, .f32⟩
  | 90 => ⟨S1x2048x8x64, .f32⟩
  | 91 => ⟨S1x2048x8x64, .f32⟩
  | 92 => ⟨S1x2048x8x64, .f32⟩
  | 93 => ⟨S1x2048x512, .f32⟩
  | 94 => ⟨S1x2048x512, .f32⟩
  | 95 => ⟨S_, .f32⟩
  | 96 => ⟨S1x512, .f32⟩
  | 97 => ⟨S1x1x512, .f32⟩
  | 98 => ⟨S1x2048x512, .f32⟩
  | 99 => ⟨S1x2048x512, .f32⟩
  | 100 => ⟨S1x2048x512, .f32⟩
  | 101 => ⟨S_, .f32⟩
  | 102 => ⟨S512, .f32⟩
  | 103 => ⟨S1x2048x512, .f32⟩
  | 104 => ⟨S_, .f32⟩
  | 105 => ⟨S1x512, .f32⟩
  | 106 => ⟨S1x1x512, .f32⟩
  | 107 => ⟨S_, .f32⟩
  | 108 => ⟨S512, .f32⟩
  | 109 => ⟨S512x64, .f32⟩
  | 110 => ⟨S64x512, .f32⟩
  | 111 => ⟨S1x2048x64, .f32⟩
  | 112 => ⟨S1x2048x512, .f32⟩
  | 113 => ⟨S1x2048x512, .f32⟩
  | 114 => ⟨S1x2048x512, .f32⟩
  | 115 => ⟨S1x2048x512, .f32⟩
  | 116 => ⟨S1x2048x512, .f32⟩
  | 117 => ⟨S1x2048x512, .f32⟩
  | 118 => ⟨S_, .f32⟩
  | 119 => ⟨S1x512, .f32⟩
  | 120 => ⟨S1x1x512, .f32⟩
  | 121 => ⟨S_, .f32⟩
  | 122 => ⟨S512, .f32⟩
  | 123 => ⟨S512x64, .f32⟩
  | 124 => ⟨S64x512, .f32⟩
  | 125 => ⟨S1x2048x64, .f32⟩
  | 126 => ⟨S1x2048x64, .f32⟩
  | 127 => ⟨S1x2048x2176, .f32⟩
  | _ => ⟨S1x2048x1024, .f32⟩

abbrev hbmTy0_2 (i : Nat) : BufTy := match i % 128 with
  | 0 => ⟨S1x2048x2176, .f32⟩
  | 1 => ⟨S_, .f32⟩
  | 2 => ⟨S1x2176, .f32⟩
  | 3 => ⟨S1x1x2176, .f32⟩
  | 4 => ⟨S1x2048x2176, .f32⟩
  | 5 => ⟨S1x2048x2176, .f32⟩
  | 6 => ⟨S_, .f32⟩
  | 7 => ⟨S2176, .f32⟩
  | 8 => ⟨S1x2048x2176, .f32⟩
  | 9 => ⟨S1x2048x2176, .f32⟩
  | 10 => ⟨S1x1x2176, .f32⟩
  | 11 => ⟨S1x2047x2176, .f32⟩
  | 12 => ⟨S_, .f32⟩
  | 13 => ⟨S1x2048x2176, .f32⟩
  | 14 => ⟨S1x2048x2176, .f32⟩
  | 15 => ⟨S2176x1024, .f32⟩
  | 16 => ⟨S1024x2176, .f32⟩
  | 17 => ⟨S2048x2176, .f32⟩
  | 18 => ⟨S1x2176, .f32⟩
  | 19 => ⟨S1x512, .f32⟩
  | 20 => ⟨S1x512, .f32⟩
  | 21 => ⟨S1x512, .f32⟩
  | 22 => ⟨S1x512, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_v35_0 : Ref sig .tc := ⟨.hbm, 71, rfl⟩
abbrev main_call0_cst_0 : Ref sig .tc := ⟨.hbm, 72, rfl⟩
abbrev main_call0_v13 : Ref sig .tc := ⟨.hbm, 73, rfl⟩
abbrev main_call0_v14 : Ref sig .tc := ⟨.hbm, 74, rfl⟩
abbrev main_call0_cst_1 : Ref sig .tc := ⟨.hbm, 75, rfl⟩
abbrev main_call0_v15 : Ref sig .tc := ⟨.hbm, 76, rfl⟩
abbrev main_call0_v16 : Ref sig .tc := ⟨.hbm, 77, rfl⟩
abbrev main_call0_cst_2 : Ref sig .tc := ⟨.hbm, 78, rfl⟩
abbrev main_call0_v17 : Ref sig .tc := ⟨.hbm, 79, rfl⟩
abbrev main_call0_v18 : Ref sig .tc := ⟨.hbm, 80, rfl⟩
abbrev main_call0_cst_3 : Ref sig .tc := ⟨.hbm, 81, rfl⟩
abbrev main_call0_v19 : Ref sig .tc := ⟨.hbm, 82, rfl⟩
abbrev main_call0_v20 : Ref sig .tc := ⟨.hbm, 83, rfl⟩
abbrev main_call0_v21 : Ref sig .tc := ⟨.hbm, 84, rfl⟩
abbrev main_v35_1 : Ref sig .tc := ⟨.hbm, 85, rfl⟩
abbrev main_call0_cst_4 : Ref sig .tc := ⟨.hbm, 86, rfl⟩
abbrev main_call0_cst_5 : Ref sig .tc := ⟨.hbm, 87, rfl⟩
abbrev main_call0_v23 : Ref sig .tc := ⟨.hbm, 88, rfl⟩
abbrev main_call0_cst_6 : Ref sig .tc := ⟨.hbm, 89, rfl⟩
abbrev main_call0_cst_7 : Ref sig .tc := ⟨.hbm, 90, rfl⟩
abbrev main_call0_v24 : Ref sig .tc := ⟨.hbm, 91, rfl⟩
abbrev main_call0_cst_8 : Ref sig .tc := ⟨.hbm, 92, rfl⟩
abbrev main_call0_v25 : Ref sig .tc := ⟨.hbm, 93, rfl⟩
abbrev main_call0_v26 : Ref sig .tc := ⟨.hbm, 94, rfl⟩
abbrev main_call0_cst_9 : Ref sig .tc := ⟨.hbm, 95, rfl⟩
abbrev main_call0_v27 : Ref sig .tc := ⟨.hbm, 96, rfl⟩
abbrev main_call0_v28 : Ref sig .tc := ⟨.hbm, 97, rfl⟩
abbrev main_call0_v29 : Ref sig .tc := ⟨.hbm, 98, rfl⟩
abbrev main_call0_v30 : Ref sig .tc := ⟨.hbm, 99, rfl⟩
abbrev main_call0_v31 : Ref sig .tc := ⟨.hbm, 100, rfl⟩
abbrev main_call0_cst_10 : Ref sig .tc := ⟨.hbm, 101, rfl⟩
abbrev main_call0_v32 : Ref sig .tc := ⟨.hbm, 102, rfl⟩
abbrev main_v35_2 : Ref sig .tc := ⟨.hbm, 103, rfl⟩
abbrev main_v36 : Ref sig .tc := ⟨.hbm, 104, rfl⟩
abbrev main_cst_3 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_4 : Ref sig .tc := ⟨.hbm, 117, rfl⟩
abbrev main_v48 : Ref sig .tc := ⟨.hbm, 118, rfl⟩
abbrev main_v49 : Ref sig .tc := ⟨.hbm, 119, rfl⟩
abbrev main_cst_5 : Ref sig .tc := ⟨.hbm, 120, rfl⟩
abbrev main_v50 : Ref sig .tc := ⟨.hbm, 121, rfl⟩
abbrev main_v51 : Ref sig .tc := ⟨.hbm, 122, rfl⟩
abbrev main_cst_6 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_call1_v0 : Ref sig .tc := ⟨.hbm, 131, rfl⟩
abbrev main_call1_cst : Ref sig .tc := ⟨.hbm, 132, rfl⟩
abbrev main_call1_v1 : Ref sig .tc := ⟨.hbm, 133, rfl⟩
abbrev main_call1_v2 : Ref sig .tc := ⟨.hbm, 134, rfl⟩
abbrev main_v59_0 : Ref sig .tc := ⟨.hbm, 135, rfl⟩
abbrev main_call1_cst_0 : Ref sig .tc := ⟨.hbm, 136, rfl⟩
abbrev main_call1_v4 : Ref sig .tc := ⟨.hbm, 137, rfl⟩
abbrev main_v59_1 : Ref sig .tc := ⟨.hbm, 138, rfl⟩
abbrev main_cst_7 : Ref sig .tc := ⟨.hbm, 139, rfl⟩
abbrev main_v60 : Ref sig .tc := ⟨.hbm, 140, rfl⟩
abbrev main_v61 : Ref sig .tc := ⟨.hbm, 141, rfl⟩
abbrev main_cst_8 : Ref sig .tc := ⟨.hbm, 142, rfl⟩
abbrev main_v62 : Ref sig .tc := ⟨.hbm, 143, rfl⟩
abbrev main_v63 : Ref sig .tc := ⟨.hbm, 144, rfl⟩
abbrev main_cst_9 : Ref sig .tc := ⟨.hbm, 145, rfl⟩
abbrev main_v64 : Ref sig .tc := ⟨.hbm, 146, rfl⟩
abbrev main_v65 : Ref sig .tc := ⟨.hbm, 147, rfl⟩
abbrev main_cst_10 : Ref sig .tc := ⟨.hbm, 148, rfl⟩
abbrev main_v66 : Ref sig .tc := ⟨.hbm, 149, rfl⟩
abbrev main_cst_11 : Ref sig .tc := ⟨.hbm, 150, rfl⟩
abbrev main_v67 : Ref sig .tc := ⟨.hbm, 151, rfl⟩
abbrev main_cst_12 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_cst_13 : Ref sig .tc := ⟨.hbm, 159, rfl⟩
abbrev main_v74 : Ref sig .tc := ⟨.hbm, 160, rfl⟩
abbrev main_v75 : Ref sig .tc := ⟨.hbm, 161, rfl⟩
abbrev main_cst_14 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_15 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_16 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_cst_17 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_cst_18 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_call2_v0 : Ref sig .tc := ⟨.hbm, 212, rfl⟩
abbrev main_call2_cst : Ref sig .tc := ⟨.hbm, 213, rfl⟩
abbrev main_call2_v1 : Ref sig .tc := ⟨.hbm, 214, rfl⟩
abbrev main_call2_v2 : Ref sig .tc := ⟨.hbm, 215, rfl⟩
abbrev main_call2_v3 : Ref sig .tc := ⟨.hbm, 216, rfl⟩
abbrev main_call2_v4 : Ref sig .tc := ⟨.hbm, 217, rfl⟩
abbrev main_call2_v5 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_cst_19 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_cst_20 : Ref sig .tc := ⟨.hbm, 229, rfl⟩
abbrev main_v130 : Ref sig .tc := ⟨.hbm, 230, rfl⟩
abbrev main_v131 : Ref sig .tc := ⟨.hbm, 231, rfl⟩
abbrev main_cst_21 : Ref sig .tc := ⟨.hbm, 232, rfl⟩
abbrev main_v132 : Ref sig .tc := ⟨.hbm, 233, rfl⟩
abbrev main_v133 : Ref sig .tc := ⟨.hbm, 234, rfl⟩
abbrev main_cst_22 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_cst_23 : Ref sig .tc := ⟨.hbm, 246, rfl⟩
abbrev main_v144 : Ref sig .tc := ⟨.hbm, 247, rfl⟩
abbrev main_v145 : Ref sig .tc := ⟨.hbm, 248, rfl⟩
abbrev main_cst_24 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_cst_25 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_cst_26 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_cst_27 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩

abbrev nD : Nat := 1
abbrev τ : Topo := Topo.v7x

variable {F : FTy → Type} [FloatOps F]
-- ==== Kernel5.lean ====
abbrev S1x2048x512 : Shape := ⟨3, ![1, 2048, 512]⟩
abbrev S1x2048x2056 : Shape := ⟨3, ![1, 2048, 2056]⟩
abbrev S1x2048x1024 : Shape := ⟨3, ![1, 2048, 1024]⟩
abbrev S1024x2048 : Shape := ⟨2, ![1024, 2048]⟩
abbrev S1x512 : Shape := ⟨2, ![1, 512]⟩
abbrev S1x8x64 : Shape := ⟨3, ![1, 8, 64]⟩
abbrev S1x512x1024 : Shape := ⟨3, ![1, 512, 1024]⟩
abbrev S1x1024x1024 : Shape := ⟨3, ![1, 1024, 1024]⟩
abbrev S1024 : Shape := ⟨1, ![1024]⟩
abbrev S2048x512 : Shape := ⟨2, ![2048, 512]⟩
abbrev S2048x2056 : Shape := ⟨2, ![2048, 2056]⟩
abbrev S_ : Shape := ⟨0, ![]⟩
abbrev S2048x2176 : Shape := ⟨2, ![2048, 2176]⟩
abbrev S2048x1024 : Shape := ⟨2, ![2048, 1024]⟩
abbrev S512x1024 : Shape := ⟨2, ![512, 1024]⟩
abbrev S1024x1024 : Shape := ⟨2, ![1024, 1024]⟩
abbrev S1x1024 : Shape := ⟨2, ![1, 1024]⟩
abbrev S2048x2048 : Shape := ⟨2, ![2048, 2048]⟩
abbrev S256x512 : Shape := ⟨2, ![256, 512]⟩
abbrev S256x1024 : Shape := ⟨2, ![256, 1024]⟩
abbrev S256x2048 : Shape := ⟨2, ![256, 2048]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S512 : Shape := ⟨1, ![512]⟩

abbrev nBuf : Space → Nat
  | .hbm => 65
  | .vmem => 54
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x2056, .f32⟩
  | .hbm, ⟨7, _⟩ => ⟨S1x2048x1024, .f32⟩
  | .hbm, ⟨8, _⟩ => ⟨S1x2048x1024, .f32⟩
  | .hbm, ⟨9, _⟩ => ⟨S1024x2048, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1x512x1024, .f32⟩
  | .hbm, ⟨14, _⟩ => ⟨S1x512x1024, .f32⟩
  | .hbm, ⟨15, _⟩ => ⟨S1x1024x1024, .f32⟩
  | .hbm, ⟨16, _⟩ => ⟨S1024, .f32⟩
  | .hbm, ⟨17, _⟩ => ⟨S1x2048x1024, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x2056, .f32⟩
  | .hbm, ⟨25, _⟩ => ⟨S_, .i32⟩
  | .hbm, ⟨26, _⟩ => ⟨S_, .f32⟩
  | .hbm, ⟨27, _⟩ => ⟨S2048x2176, .f32⟩
  | .hbm, ⟨28, _⟩ => ⟨S2048x1024, .f32⟩
  | .hbm, ⟨29, _⟩ => ⟨S2048x1024, .bf16⟩
  | .hbm, ⟨30, _⟩ => ⟨S2048x1024, .f32⟩
  | .hbm, ⟨31, _⟩ => ⟨S2048x1024, .f32⟩
  | .hbm, ⟨32, _⟩ => ⟨S1024x2048, .bf16⟩
  | .hbm, ⟨33, _⟩ => ⟨S512x1024, .f32⟩
  | .hbm, ⟨34, _⟩ => ⟨S512x1024, .bf16⟩
  | .hbm, ⟨35, _⟩ => ⟨S512x1024, .f32⟩
  | .hbm, ⟨36, _⟩ => ⟨S512x1024, .bf16⟩
  | .hbm, ⟨37, _⟩ => ⟨S1024x1024, .f32⟩
  | .hbm, ⟨38, _⟩ => ⟨S1024x1024, .bf16⟩
  | .hbm, ⟨39, _⟩ => ⟨S1x1024, .f32⟩
  | .hbm, ⟨40, _⟩ => ⟨S1x512, .f32⟩
  | .hbm, ⟨41, _⟩ => ⟨S2048x1024, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .bf16⟩
  | .hbm, ⟨48, _⟩ => ⟨S2048x512, .f32⟩
  | .hbm, ⟨49, _⟩ => ⟨S2048x2048, .f32⟩
  | .hbm, ⟨50, _⟩ => ⟨S512x1024, .f32⟩
  | .hbm, ⟨51, _⟩ => ⟨S512x1024, .f32⟩
  | .hbm, ⟨52, _⟩ => ⟨S1024x1024, .f32⟩
  | .hbm, ⟨53, _⟩ => ⟨S1x1024, .f32⟩
  | .hbm, ⟨54, _⟩ => ⟨S1x1024, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S2048x512, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x8x64, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1024x2048, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S256x1024, .f32⟩
  | .local _ .vmem, ⟨29, _⟩ => ⟨S256x1024, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .bf16⟩
  | .local _ .vmem, ⟨41, _⟩ => ⟨S256x512, .bf16⟩
  | .local _ .vmem, ⟨42, _⟩ => ⟨S256x512, .f32⟩
  | .local _ .vmem, ⟨43, _⟩ => ⟨S256x512, .f32⟩
  | .local _ .vmem, ⟨44, _⟩ => ⟨S256x2048, .f32⟩
  | .local _ .vmem, ⟨45, _⟩ => ⟨S256x2048, .f32⟩
  | .local _ .vmem, ⟨46, _⟩ => ⟨S512x1024, .f32⟩
  | .local _ .vmem, ⟨47, _⟩ => ⟨S512x1024, .f32⟩
  | .local _ .vmem, ⟨48, _⟩ => ⟨S1024x1024, .f32⟩
  | .local _ .vmem, ⟨49, _⟩ => ⟨S1x1024, .f32⟩
  | .local _ .vmem, ⟨50, _⟩ => ⟨S1x1024, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev main_v21_4 : Ref sig .tc := ⟨.hbm, 45, rfl⟩
abbrev main_v21_5 : Ref sig .tc := ⟨.hbm, 46, rfl⟩
abbrev main_v21_6 : Ref sig .tc := ⟨.hbm, 47, rfl⟩
abbrev main_v21_7 : Ref sig .tc := ⟨.hbm, 48, rfl⟩
abbrev main_v21_8 : Ref sig .tc := ⟨.hbm, 49, rfl⟩
abbrev main_v21_9 : Ref sig .tc := ⟨.hbm, 50, rfl⟩
abbrev main_v21_10 : Ref sig .tc := ⟨.hbm, 51, rfl⟩
abbrev main_v21_11 : Ref sig .tc := ⟨.hbm, 52, rfl⟩
abbrev main_v21_12 : Ref sig .tc := ⟨.hbm, 53, rfl⟩
abbrev main_v21_13 : Ref sig .tc := ⟨.hbm, 54, rfl⟩
abbrev main_v21_14 : Ref sig .tc := ⟨.hbm, 55, rfl⟩
abbrev main_v21_15 : Ref sig .tc := ⟨.hbm, 56, rfl⟩
abbrev main_v21_16 : Ref sig .tc := ⟨.hbm, 57, rfl⟩
abbrev main_v22 : Ref sig .tc := ⟨.hbm, 58, rfl⟩
abbrev main_v23 : Ref sig .tc := ⟨.hbm, 59, rfl⟩
abbrev main_cst : Ref sig .tc := ⟨.hbm, 60, rfl⟩
abbrev main_v24 : Ref sig .tc := ⟨.hbm, 61, rfl⟩
abbrev main_cst_0 : Ref sig .tc := ⟨.hbm, 62, rfl⟩
abbrev main_v25 : Ref sig .tc := ⟨.hbm, 63, rfl⟩
abbrev main_v26 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg28_0 : Ref sig .tc := ⟨.vmem, 47, rfl⟩
abbrev cc0_stg29_0 : Ref sig .tc := ⟨.vmem, 48, rfl⟩
abbrev cc0_stg30_0 : Ref sig .tc := ⟨.vmem, 49, rfl⟩
abbrev cc0_stg31_0 : Ref sig .tc := ⟨.vmem, 50, rfl⟩
abbrev cc0_stg32_0 : Ref sig .tc := ⟨.vmem, 51, rfl⟩
abbrev cc0_stg33_0 : Ref sig .tc := ⟨.vmem, 52, rfl⟩
abbrev cc0_stg34_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem28_0 : DmaSem sig := 47
abbrev cc0_sem29_0 : DmaSem sig := 48
abbrev cc0_sem30_0 : DmaSem sig := 49
abbrev cc0_sem31_0 : DmaSem sig := 50
abbrev cc0_sem32_0 : DmaSem sig := 51
abbrev cc0_sem33_0 : DmaSem sig := 52
abbrev cc0_sem34_0 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S512x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S512x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== Reference5Ideal.lean ====
abbrev S1x2048x512 : Shape := ⟨3, ![1, 2048, 512]⟩
abbrev S1x2048x2056 : Shape := ⟨3, ![1, 2048, 2056]⟩
abbrev S1x2048x1024 : Shape := ⟨3, ![1, 2048, 1024]⟩
abbrev S1024x2048 : Shape := ⟨2, ![1024, 2048]⟩
abbrev S1x512 : Shape := ⟨2, ![1, 512]⟩
abbrev S1x8x64 : Shape := ⟨3, ![1, 8, 64]⟩
abbrev S1x512x1024 : Shape := ⟨3, ![1, 512, 1024]⟩
abbrev S1x1024x1024 : Shape := ⟨3, ![1, 1024, 1024]⟩
abbrev S1024 : Shape := ⟨1, ![1024]⟩
abbrev S1x2048x8 : Shape := ⟨3, ![1, 2048, 8]⟩
abbrev S1x2048x2048 : Shape := ⟨3, ![1, 2048, 2048]⟩
abbrev S512 : Shape := ⟨1, ![512]⟩
abbrev S8x64 : Shape := ⟨2, ![8, 64]⟩
abbrev S512x1024 : Shape := ⟨2, ![512, 1024]⟩
abbrev S1024x1024 : Shape := ⟨2, ![1024, 1024]⟩
abbrev S1x2048x8x64 : Shape := ⟨4, ![1, 2048, 8, 64]⟩
abbrev S_ : Shape := ⟨0, ![]⟩
abbrev S1x2048x8x1 : Shape := ⟨4, ![1, 2048, 8, 1]⟩
abbrev S1x1x8x64 : Shape := ⟨4, ![1, 1, 8, 64]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S1024x512 : Shape := ⟨2, ![1024, 512]⟩
abbrev S2048x8 : Shape := ⟨2, ![2048, 8]⟩
abbrev S2048x1024 : Shape := ⟨2, ![2048, 1024]⟩
abbrev S2048x512 : Shape := ⟨2, ![2048, 512]⟩
abbrev S2048x2048 : Shape := ⟨2, ![2048, 2048]⟩

abbrev nBuf : Space → Nat
  | .hbm => 326
  | .vmem => 0
  | .smem => 0
  | _ => 0

abbrev hbmTy0_0 (i : Nat) : BufTy := match i % 128 with
  | 0 => ⟨S1x2048x512, .f32⟩
  | 1 => ⟨S1x2048x512, .f32⟩
  | 2 => ⟨S1x2048x512, .f32⟩
  | 3 => ⟨S1x2048x512, .f32⟩
  | 4 => ⟨S1x2048x512, .f32⟩
  | 5 => ⟨S1x2048x512, .f32⟩
  | 6 => ⟨S1x2048x2056, .f32⟩
  | 7 => ⟨S1x2048x1024, .f32⟩
  | 8 => ⟨S1x2048x1024, .f32⟩
  | 9 => ⟨S1024x2048, .f32⟩
  | 10 => ⟨S1x512, .f32⟩
  | 11 => ⟨S1x512, .f32⟩
  | 12 => ⟨S1x8x64, .f32⟩
  | 13 => ⟨S1x512x1024, .f32⟩
  | 14 => ⟨S1x512x1024, .f32⟩
  | 15 => ⟨S1x1024x1024, .f32⟩
  | 16 => ⟨S1024, .f32⟩
  | 17 => ⟨S1x2048x1024, .f32⟩
  | 18 => ⟨S1x2048x512, .f32⟩
  | 19 => ⟨S1x2048x512, .f32⟩
  | 20 => ⟨S1x2048x512, .f32⟩
  | 21 => ⟨S1x2048x512, .f32⟩
  | 22 => ⟨S1x2048x8, .f32⟩
  | 23 => ⟨S1x2048x2048, .f32⟩
  | 24 => ⟨S512, .f32⟩
  | 25 => ⟨S512, .f32⟩
  | 26 => ⟨S8x64, .f32⟩
  | 27 => ⟨S512x1024, .f32⟩
  | 28 => ⟨S512x1024, .f32⟩
  | 29 => ⟨S1024x1024, .f32⟩
  | 30 => ⟨S1x2048x8x64, .f32⟩
  | 31 => ⟨S1x2048x8x64, .f32⟩
  | 32 => ⟨S1x2048x8x64, .f32⟩
  | 33 => ⟨S1x2048x8x64, .f32⟩
  | 34 => ⟨S_, .f32⟩
  | 35 => ⟨S1x2048x8, .f32⟩
  | 36 => ⟨S1x2048x8x1, .f32⟩
  | 37 => ⟨S_, .f32⟩
  | 38 => ⟨S1x2048x8x1, .f32⟩
  | 39 => ⟨S1x2048x8x1, .f32⟩
  | 40 => ⟨S1x2048x8x64, .f32⟩
  | 41 => ⟨S1x2048x8x64, .f32⟩
  | 42 => ⟨S1x2048x8x64, .f32⟩
  | 43 => ⟨S_, .f32⟩
  | 44 => ⟨S1x2048x8x64, .f32⟩
  | 45 => ⟨S1x2048x8x64, .f32⟩
  | 46 => ⟨S_, .f32⟩
  | 47 => ⟨S1x2048x8, .f32⟩
  | 48 => ⟨S1x2048x8x1, .f32⟩
  | 49 => ⟨S_, .f32⟩
  | 50 => ⟨S1x2048x8x1, .f32⟩
  | 51 => ⟨S1x2048x8x1, .f32⟩
  | 52 => ⟨S1x2048x8x64, .f32⟩
  | 53 => ⟨S1x2048x8x64, .f32⟩
  | 54 => ⟨S_, .f32⟩
  | 55 => ⟨S1x2048x8x1, .f32⟩
  | 56 => ⟨S1x2048x8x1, .f32⟩
  | 57 => ⟨S1x2048x8x1, .f32⟩
  | 58 => ⟨S1x2048x8x1, .f32⟩
  | 59 => ⟨S_, .f32⟩
  | 60 => ⟨S1x2048x8x1, .f32⟩
  | 61 => ⟨S1x2048x8x1, .f32⟩
  | 62 => ⟨S1x2048x8x64, .f32⟩
  | 63 => ⟨S1x2048x8x64, .f32⟩
  | 64 => ⟨S8x64, .f32⟩
  | 65 => ⟨S1x1x8x64, .f32⟩
  | 66 => ⟨S1x2048x8x64, .f32⟩
  | 67 => ⟨S1x2048x8x64, .f32⟩
  | 68 => ⟨S8x64, .f32⟩
  | 69 => ⟨S1x1x8x64, .f32⟩
  | 70 => ⟨S1x2048x8x64, .f32⟩
  | 71 => ⟨S1x2048x8x64, .f32⟩
  | 72 => ⟨S1x2048x8x64, .f32⟩
  | 73 => ⟨S1x1x8x64, .f32⟩
  | 74 => ⟨S1x2048x8x64, .f32⟩
  | 75 => ⟨S1x2048x8x64, .f32⟩
  | 76 => ⟨S_, .f32⟩
  | 77 => ⟨S1x2048x8, .f32⟩
  | 78 => ⟨S1x2048x8x1, .f32⟩
  | 79 => ⟨S1x2048x8x64, .f32⟩
  | 80 => ⟨S1x2048x8x64, .f32⟩
  | 81 => ⟨S1x2048x8x64, .f32⟩
  | 82 => ⟨S1x2048x512, .f32⟩
  | 83 => ⟨S1x2048x512, .f32⟩
  | 84 => ⟨S1x2048x512, .f32⟩
  | 85 => ⟨S_, .f32⟩
  | 86 => ⟨S1x2048x512, .f32⟩
  | 87 => ⟨S1x2048x512, .f32⟩
  | 88 => ⟨S_, .f32⟩
  | 89 => ⟨S1x2048x512, .f32⟩
  | 90 => ⟨S1x2048x512, .f32⟩
  | 91 => ⟨S_, .f32⟩
  | 92 => ⟨S1x2048x512, .f32⟩
  | 93 => ⟨S1x2048x512, .f32⟩
  | 94 => ⟨S1x2048x512, .f32⟩
  | 95 => ⟨S1x2048x512, .f32⟩
  | 96 => ⟨S1x2048x512, .f32⟩
  | 97 => ⟨S1x2048x1024, .f32⟩
  | 98 => ⟨S1x2048x512, .f32⟩
  | 99 => ⟨S1x2048x512, .f32⟩
  | 100 => ⟨S_, .f32⟩
  | 101 => ⟨S1x2048x512, .f32⟩
  | 102 => ⟨S1x2048x512, .f32⟩
  | 103 => ⟨S_, .f32⟩
  | 104 => ⟨S1x2048x512, .f32⟩
  | 105 => ⟨S1x2048x512, .f32⟩
  | 106 => ⟨S_, .f32⟩
  | 107 => ⟨S1x2048x512, .f32⟩
  | 108 => ⟨S1x2048x512, .f32⟩
  | 109 => ⟨S1x2048x512, .f32⟩
  | 110 => ⟨S1x2048x512, .f32⟩
  | 111 => ⟨S1x2048x512, .f32⟩
  | 112 => ⟨S1x2048x1024, .f32⟩
  | 113 => ⟨S1x2048x1024, .f32⟩
  | 114 => ⟨S1x2048x1024, .f32⟩
  | 115 => ⟨S1x2048x1024, .f32⟩
  | 116 => ⟨S1x2048x1024, .f32⟩
  | 117 => ⟨S_, .f32⟩
  | 118 => ⟨S1x2048x1024, .f32⟩
  | 119 => ⟨S1x2048x1024, .f32⟩
  | 120 => ⟨S_, .f32⟩
  | 121 => ⟨S1x2048x1024, .f32⟩
  | 122 => ⟨S1x2048x1024, .f32⟩
  | 123 => ⟨S_, .f32⟩
  | 124 => ⟨S1x2048x1024, .f32⟩
  | 125 => ⟨S1x2048x1024, .f32⟩
  | 126 => ⟨S1x2048x1024, .f32⟩
  | 127 => ⟨S1x2048x1024, .f32⟩
  | _ => ⟨S1x2048x512, .f32⟩

abbrev hbmTy0_1 (i : Nat) : BufTy := match i % 128 with
  | 0 => ⟨S1x2048x1024, .f32⟩
  | 1 => ⟨S1x2048x1024, .f32⟩
  | 2 => ⟨S_, .f32⟩
  | 3 => ⟨S1x2048x1024, .f32⟩
  | 4 => ⟨S1x2048x1024, .f32⟩
  | 5 => ⟨S_, .f32⟩
  | 6 => ⟨S1x2048x1024, .f32⟩
  | 7 => ⟨S1x2048x1024, .f32⟩
  | 8 => ⟨S_, .f32⟩
  | 9 => ⟨S1x2048x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S_, .f32⟩
  | 18 => ⟨S1x2048, .f32⟩
  | 19 => ⟨S1x2048x1, .f32⟩
  | 20 => ⟨S_, .f32⟩
  | 21 => ⟨S1x2048x1, .f32⟩
  | 22 => ⟨S1x2048x1, .f32⟩
  | 23 => ⟨S_, .f32⟩
  | 24 => ⟨S1x2048x1, .f32⟩
  | 25 => ⟨S1x2048x1, .f32⟩
  | 26 => ⟨S1x2048x1, .f32⟩
  | 27 => ⟨S1x2048x1, .f32⟩
  | 28 => ⟨S_, .f32⟩
  | 29 => ⟨S1x2048x1, .f32⟩
  | 30 => ⟨S1x2048x1, .f32⟩
  | 31 => ⟨S1x2048x1024, .f32⟩
  | 32 => ⟨S1x2048x1024, .f32⟩
  | 33 => ⟨S1x1x1024, .f32⟩
  | 34 => ⟨S1x2048x1024, .f32⟩
  | 35 => ⟨S1x2048x1024, .f32⟩
  | 36 => ⟨S1x2048x1024, .f32⟩
  | 37 => ⟨S1x2048x1024, .f32⟩
  | 38 => ⟨S_, .f32⟩
  | 39 => ⟨S1x2048x1024, .f32⟩
  | 40 => ⟨S1x2048x1024, .f32⟩
  | 41 => ⟨S_, .f32⟩
  | 42 => ⟨S1x2048, .f32⟩
  | 43 => ⟨S_, .f32⟩
  | 44 => ⟨S1x2048, .f32⟩
  | 45 => ⟨S1x2048, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1x2048, .f32⟩
  | 54 => ⟨S_, .f32⟩
  | 55 => ⟨S1x2048, .f32⟩
  | 56 => ⟨S1x2048, .f32⟩
  | 57 => ⟨S1x2048x1024, .f32⟩
  | 58 => ⟨S1x2048x1024, .f32⟩
  | 59 => ⟨S1x2048x1024, .f32⟩
  | 60 => ⟨S_, .f32⟩
  | 61 => ⟨S1x1024, .f32⟩
  | 62 => ⟨S1x1x1024, .f32⟩
  | 63 => ⟨S1x2048x1024, .f32⟩
  | 64 => ⟨S1x2048x1024, .f32⟩
  | 65 => ⟨S_, .f32⟩
  | 66 => ⟨S1024, .f32⟩
  | 67 => ⟨S1x2048x1024, .f32⟩
  | 68 => ⟨S_, .f32⟩
  | 69 => ⟨S1x2048, .f32⟩
  | 70 => ⟨S1x2048x1, .f32⟩
  | 71 => ⟨S1x2048x1024, .f32⟩
  | 72 => ⟨S1x2048x1024, .f32⟩
  | 73 => ⟨S1x2048x1, .f32⟩
  | 74 => ⟨S_, .f32⟩
  | 75 => ⟨S1x2048x1, .f32⟩
  | 76 => ⟨S1x2048x1, .f32⟩
  | 77 => ⟨S_, .f32⟩
  | 78 => ⟨S2048, .f32⟩
  | 79 => ⟨S1x2048, .f32⟩
  | 80 => ⟨S1x2048x1024, .f32⟩
  | 81 => ⟨S1x2048x1024, .f32⟩
  | 82 => ⟨S1x2048x1024, .f32⟩
  | 83 => ⟨S1x2048x1024, .f32⟩
  | 84 => ⟨S1x2048x1024, .f32⟩
  | 85 => ⟨S1024x1024, .f32⟩
  | 86 => ⟨S1024x1024, .f32⟩
  | 87 => ⟨S1x2048x1024, .f32⟩
  | 88 => ⟨S1x2048x1024, .f32⟩
  | 89 => ⟨S1x2048x1024, .f32⟩
  | 90 => ⟨S1x2048x1024, .f32⟩
  | 91 => ⟨S1x2048x1024, .f32⟩
  | 92 => ⟨S1x2048x1024, .f32⟩
  | 93 => ⟨S1x2048x1024, .f32⟩
  | 94 => ⟨S1x2048x2048, .f32⟩
  | 95 => ⟨S1024x512, .f32⟩
  | 96 => ⟨S512x1024, .f32⟩
  | 97 => ⟨S1x2048x512, .f32⟩
  | 98 => ⟨S1x2048x512, .f32⟩
  | 99 => ⟨S1x2048x512, .f32⟩
  | 100 => ⟨S1x2048x512, .f32⟩
  | 101 => ⟨S1x2048x512, .f32⟩
  | 102 => ⟨S1x2048x512, .f32⟩
  | 103 => ⟨S1x2048x512, .f32⟩
  | 104 => ⟨S1024x512, .f32⟩
  | 105 => ⟨S512x1024, .f32⟩
  | 106 => ⟨S1x2048x512, .f32⟩
  | 107 => ⟨S1x2048x512, .f32⟩
  | 108 => ⟨S1x2048x512, .f32⟩
  | 109 => ⟨S1x2048x512, .f32⟩
  | 110 => ⟨S1x2048x512, .f32⟩
  | 111 => ⟨S1x2048x512, .f32⟩
  | 112 => ⟨S1x2048x512, .f32⟩
  | 113 => ⟨S1x2048x8x64, .f32⟩
  | 114 => ⟨S1x2048x8x64, .f32⟩
  | 115 => ⟨S1x2048x8x64, .f32⟩
  | 116 => ⟨S1x2048x8x64, .f32⟩
  | 117 => ⟨S_, .f32⟩
  | 118 => ⟨S1x2048x8, .f32⟩
  | 119 => ⟨S1x2048x8x1, .f32⟩
  | 120 => ⟨S_, .f32⟩
  | 121 => ⟨S2048x8, .f32⟩
  | 122 => ⟨S1x2048x8, .f32⟩
  | 123 => ⟨S1x2048x8x64, .f32⟩
  | 124 => ⟨S1x2048x8x64, .f32⟩
  | 125 => ⟨S_, .f32⟩
  | 126 => ⟨S1x8x64, .f32⟩
  | 127 => ⟨S1x1x8x64, .f32⟩
  | _ => ⟨S1x2048x512, .f32⟩

abbrev hbmTy0_2 (i : Nat) : BufTy := match i % 128 with
  | 0 => ⟨S1x2048x8x64, .f32⟩
  | 1 => ⟨S1x2048x8x64, .f32⟩
  | 2 => ⟨S_, .f32⟩
  | 3 => ⟨S8x64, .f32⟩
  | 4 => ⟨S1x2048x8x64, .f32⟩
  | 5 => ⟨S1x2048x8x64, .f32⟩
  | 6 => ⟨S_, .f32⟩
  | 7 => ⟨S1x8x64, .f32⟩
  | 8 => ⟨S1x1x8x64, .f32⟩
  | 9 => ⟨S_, .f32⟩
  | 10 => ⟨S8x64, .f32⟩
  | 11 => ⟨S512, .f32⟩
  | 12 => ⟨S1x2048x8x64, .f32⟩
  | 13 => ⟨S_, .f32⟩
  | 14 => ⟨S1x8x64, .f32⟩
  | 15 => ⟨S1x1x8x64, .f32⟩
  | 16 => ⟨S1x2048x8x64, .f32⟩
  | 17 => ⟨S1x2048x8x64, .f32⟩
  | 18 => ⟨S_, .f32⟩
  | 19 => ⟨S8x64, .f32⟩
  | 20 => ⟨S512, .f32⟩
  | 21 => ⟨S1x2048x8x64, .f32⟩
  | 22 => ⟨S_, .f32⟩
  | 23 => ⟨S1x2048x8, .f32⟩
  | 24 => ⟨S1x2048x8x1, .f32⟩
  | 25 => ⟨S1x2048x8x64, .f32⟩
  | 26 => ⟨S1x2048x8x64, .f32⟩
  | 27 => ⟨S1x2048x8x1, .f32⟩
  | 28 => ⟨S1x2048x8x64, .f32⟩
  | 29 => ⟨S_, .f32⟩
  | 30 => ⟨S1x2048x8, .f32⟩
  | 31 => ⟨S1x2048x8x1, .f32⟩
  | 32 => ⟨S_, .f32⟩
  | 33 => ⟨S1x2048x8x1, .f32⟩
  | 34 => ⟨S1x2048x8x1, .f32⟩
  | 35 => ⟨S_, .f32⟩
  | 36 => ⟨S2048x8, .f32⟩
  | 37 => ⟨S1x2048x8, .f32⟩
  | 38 => ⟨S1x2048x8x64, .f32⟩
  | 39 => ⟨S1x2048x8x64, .f32⟩
  | 40 => ⟨S1x2048x8x64, .f32⟩
  | 41 => ⟨S_, .f32⟩
  | 42 => ⟨S1x2048x8, .f32⟩
  | 43 => ⟨S1x2048x8x1, .f32⟩
  | 44 => ⟨S1x2048x8x64, .f32⟩
  | 45 => ⟨S1x2048x8x1, .f32⟩
  | 46 => ⟨S_, .f32⟩
  | 47 => ⟨S1x2048x8x1, .f32⟩
  | 48 => ⟨S1x2048x8x1, .f32⟩
  | 49 => ⟨S_, .f32⟩
  | 50 => ⟨S2048x8, .f32⟩
  | 51 => ⟨S1x2048x8, .f32⟩
  | 52 => ⟨S1x2048x8x64, .f32⟩
  | 53 => ⟨S1x2048x8x64, .f32⟩
  | 54 => ⟨S1x2048x512, .f32⟩
  | 55 => ⟨S1x2048x512, .f32⟩
  | 56 => ⟨S1x2048x512, .f32⟩
  | 57 => ⟨S1x2048x512, .f32⟩
  | 58 => ⟨S2048x1024, .f32⟩
  | 59 => ⟨S2048x512, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x2048, .f32⟩
  | 67 => ⟨S1x512, .f32⟩
  | 68 => ⟨S1x512, .f32⟩
  | 69 => ⟨S1x8x64, .f32⟩
  | _ => ⟨S1x2048x512, .f32⟩

abbrev hbmTy (i : Nat) : BufTy := match i / 128 with
  | 0 => hbmTy0_0 i
  | 1 => hbmTy0_1 i
  | 2 => hbmTy0_2 i
  | _ => ⟨S1x2048x512, .f32⟩

abbrev bufTy : (tb : Table) → Fin (tcTables nBuf tb) → BufTy
  | .hbm, ⟨i, _⟩ => hbmTy i
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_v57_2 : Ref sig .tc := ⟨.hbm, 90, rfl⟩
abbrev main_call0_cst_1 : Ref sig .tc := ⟨.hbm, 91, rfl⟩
abbrev main_call0_v6 : Ref sig .tc := ⟨.hbm, 92, rfl⟩
abbrev main_call0_v7 : Ref sig .tc := ⟨.hbm, 93, rfl⟩
abbrev main_v57_1 : Ref sig .tc := ⟨.hbm, 94, rfl⟩
abbrev main_v57_0 : Ref sig .tc := ⟨.hbm, 95, rfl⟩
abbrev main_v58 : Ref sig .tc := ⟨.hbm, 96, rfl⟩
abbrev main_v59 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_v60_2 : Ref sig .tc := ⟨.hbm, 105, rfl⟩
abbrev main_call1_cst_1 : Ref sig .tc := ⟨.hbm, 106, rfl⟩
abbrev main_call1_v6 : Ref sig .tc := ⟨.hbm, 107, rfl⟩
abbrev main_call1_v7 : Ref sig .tc := ⟨.hbm, 108, rfl⟩
abbrev main_v60_1 : Ref sig .tc := ⟨.hbm, 109, rfl⟩
abbrev main_v60_0 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_7 : Ref sig .tc := ⟨.hbm, 117, rfl⟩
abbrev main_v67 : Ref sig .tc := ⟨.hbm, 118, rfl⟩
abbrev main_v68 : Ref sig .tc := ⟨.hbm, 119, rfl⟩
abbrev main_cst_8 : Ref sig .tc := ⟨.hbm, 120, rfl⟩
abbrev main_v69 : Ref sig .tc := ⟨.hbm, 121, rfl⟩
abbrev main_v70 : Ref sig .tc := ⟨.hbm, 122, rfl⟩
abbrev main_cst_9 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_10 : Ref sig .tc := ⟨.hbm, 130, rfl⟩
abbrev main_v77 : Ref sig .tc := ⟨.hbm, 131, rfl⟩
abbrev main_v78 : Ref sig .tc := ⟨.hbm, 132, rfl⟩
abbrev main_cst_11 : Ref sig .tc := ⟨.hbm, 133, rfl⟩
abbrev main_v79 : Ref sig .tc := ⟨.hbm, 134, rfl⟩
abbrev main_v80 : Ref sig .tc := ⟨.hbm, 135, rfl⟩
abbrev main_cst_12 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_13 : Ref sig .tc := ⟨.hbm, 145, rfl⟩
abbrev main_v89 : Ref sig .tc := ⟨.hbm, 146, rfl⟩
abbrev main_v90 : Ref sig .tc := ⟨.hbm, 147, rfl⟩
abbrev main_cst_14 : Ref sig .tc := ⟨.hbm, 148, rfl⟩
abbrev main_v91 : Ref sig .tc := ⟨.hbm, 149, rfl⟩
abbrev main_v92 : Ref sig .tc := ⟨.hbm, 150, rfl⟩
abbrev main_cst_15 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_16 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_17 : Ref sig .tc := ⟨.hbm, 166, rfl⟩
abbrev main_v106 : Ref sig .tc := ⟨.hbm, 167, rfl⟩
abbrev main_v107 : Ref sig .tc := ⟨.hbm, 168, rfl⟩
abbrev main_cst_18 : Ref sig .tc := ⟨.hbm, 169, rfl⟩
abbrev main_v108 : Ref sig .tc := ⟨.hbm, 170, rfl⟩
abbrev main_cst_19 : Ref sig .tc := ⟨.hbm, 171, rfl⟩
abbrev main_v109 : Ref sig .tc := ⟨.hbm, 172, rfl⟩
abbrev main_v110 : Ref sig .tc := ⟨.hbm, 173, rfl⟩
abbrev main_cst_20 : Ref sig .tc := ⟨.hbm, 174, rfl⟩
abbrev main_v111 : Ref sig .tc := ⟨.hbm, 175, rfl⟩
abbrev main_cst_21 : Ref sig .tc := ⟨.hbm, 176, rfl⟩
abbrev main_v112 : Ref sig .tc := ⟨.hbm, 177, rfl⟩
abbrev main_cst_22 : Ref sig .tc := ⟨.hbm, 178, rfl⟩
abbrev main_cst_23 : Ref sig .tc := ⟨.hbm, 179, rfl⟩
abbrev main_v113 : Ref sig .tc := ⟨.hbm, 180, rfl⟩
abbrev main_v114 : Ref sig .tc := ⟨.hbm, 181, rfl⟩
abbrev main_cst_24 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_25 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_26 : Ref sig .tc := ⟨.hbm, 193, rfl⟩
abbrev main_v124 : Ref sig .tc := ⟨.hbm, 194, rfl⟩
abbrev main_v125 : Ref sig .tc := ⟨.hbm, 195, rfl⟩
abbrev main_cst_27 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_28 : Ref sig .tc := ⟨.hbm, 202, rfl⟩
abbrev main_v131 : Ref sig .tc := ⟨.hbm, 203, rfl⟩
abbrev main_v132 : Ref sig .tc := ⟨.hbm, 204, rfl⟩
abbrev main_cst_29 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_call3_v0 : Ref sig .tc := ⟨.hbm, 237, rfl⟩
abbrev main_call3_v1 : Ref sig .tc := ⟨.hbm, 238, rfl⟩
abbrev main_call3_v2 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_30 : Ref sig .tc := ⟨.hbm, 245, rfl⟩
abbrev main_v166 : Ref sig .tc := ⟨.hbm, 246, rfl⟩
abbrev main_v167 : Ref sig .tc := ⟨.hbm, 247, rfl⟩
abbrev main_cst_31 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_cst_32 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_cst_33 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_cst_34 : Ref sig .tc := ⟨.hbm, 262, rfl⟩
abbrev main_v179 : Ref sig .tc := ⟨.hbm, 263, rfl⟩
abbrev main_v180 : Ref sig .tc := ⟨.hbm, 264, rfl⟩
abbrev main_cst_35 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_cst_36 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_cst_37 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_cst_38 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_cst_39 : Ref sig .tc := ⟨.hbm, 285, rfl⟩
abbrev main_v197 : Ref sig .tc := ⟨.hbm, 286, rfl⟩
abbrev main_v198 : Ref sig .tc := ⟨.hbm, 287, rfl⟩
abbrev main_cst_40 : Ref sig .tc := ⟨.hbm, 288, rfl⟩
abbrev main_v199 : Ref sig .tc := ⟨.hbm, 289, rfl⟩
abbrev main_v200 : Ref sig .tc := ⟨.hbm, 290, rfl⟩
abbrev main_cst_41 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_cst_42 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_cst_43 : Ref sig .tc := ⟨.hbm, 302, rfl⟩
abbrev main_v210 : Ref sig .tc := ⟨.hbm, 303, rfl⟩
abbrev main_v211 : Ref sig .tc := ⟨.hbm, 304, rfl⟩
abbrev main_cst_44 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩

abbrev nD : Nat := 1
abbrev τ : Topo := Topo.v7x

variable {F : FTy → Type} [FloatOps F]
-- ==== Kernel6.lean ====
abbrev S1x8x2048x64 : Shape := ⟨4, ![1, 8, 2048, 64]⟩
abbrev S1x8x2048 : Shape := ⟨3, ![1, 8, 2048]⟩
abbrev S36 : Shape := ⟨1, ![36]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x64 : Shape := ⟨3, ![8, 2048, 64]⟩
abbrev S2048x8x64 : Shape := ⟨3, ![2048, 8, 64]⟩
abbrev S2048x512 : Shape := ⟨2, ![2048, 512]⟩
abbrev S8x2048 : Shape := ⟨2, ![8, 2048]⟩
abbrev S8x2048x1 : Shape := ⟨3, ![8, 2048, 1]⟩
abbrev S8x2048x128 : Shape := ⟨3, ![8, 2048, 128]⟩
abbrev S256x512 : Shape := ⟨2, ![256, 512]⟩
abbrev S1 : Shape := ⟨1, ![1]⟩
abbrev S8x256x128 : Shape := ⟨3, ![8, 256, 128]⟩
abbrev S8x256 : Shape := ⟨2, ![8, 256]⟩
abbrev S1x128 : Shape := ⟨2, ![1, 128]⟩
abbrev S256x128 : Shape := ⟨2, ![256, 128]⟩
abbrev S1x256x128 : Shape := ⟨3, ![1, 256, 128]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 73
  | .vmem => 17
  | .smem => 2
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048, .f32⟩
  | .hbm, ⟨4, _⟩ => ⟨S1x8x2048x64, .f32⟩
  | .hbm, ⟨5, _⟩ => ⟨S1x8x2048x2048, .f32⟩
  | .hbm, ⟨6, _⟩ => ⟨S_, .f32⟩
  | .hbm, ⟨7, _⟩ => ⟨S1x8x2048x2048, .f32⟩
  | .hbm, ⟨8, _⟩ => ⟨S1x8x2048x2048, .f32⟩
  | .hbm, ⟨9, _⟩ => ⟨S1x8x2048x1, .f32⟩
  | .hbm, ⟨10, _⟩ => ⟨S1x8x2048x2048, .f32⟩
  | .hbm, ⟨11, _⟩ => ⟨S1x8x2048x2048, .f32⟩
  | .hbm, ⟨12, _⟩ => ⟨S1x8x1x2048, .f32⟩
  | .hbm, ⟨13, _⟩ => ⟨S1x8x2048x2048, .f32⟩
  | .hbm, ⟨14, _⟩ => ⟨S1x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S1x8x2048x2048, .i1⟩
  | .hbm, ⟨23, _⟩ => ⟨S_, .f32⟩
  | .hbm, ⟨24, _⟩ => ⟨S1x8x2048x2048, .f32⟩
  | .hbm, ⟨25, _⟩ => ⟨S1x8x2048x2048, .f32⟩
  | .hbm, ⟨26, _⟩ => ⟨S_, .f32⟩
  | .hbm, ⟨27, _⟩ => ⟨S1x8x2048, .f32⟩
  | .hbm, ⟨28, _⟩ => ⟨S1x8x2048x1, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S_, .f32⟩
  | .hbm, ⟨33, _⟩ => ⟨S1x8x2048, .f32⟩
  | .hbm, ⟨34, _⟩ => ⟨S1x8x2048x1, .f32⟩
  | .hbm, ⟨35, _⟩ => ⟨S1x8x2048x2048, .f32⟩
  | .hbm, ⟨36, _⟩ => ⟨S1x8x2048x2048, .f32⟩
  | .hbm, ⟨37, _⟩ => ⟨S1x8x2048x64, .f32⟩
  | .hbm, ⟨38, _⟩ => ⟨S1x8x2048x64, .f32⟩
  | .hbm, ⟨39, _⟩ => ⟨S_, .f32⟩
  | .hbm, ⟨40, _⟩ => ⟨S1x8x2048, .f32⟩
  | .hbm, ⟨41, _⟩ => ⟨S8x2048x64, .f32⟩
  | .hbm, ⟨42, _⟩ => ⟨S2048x8x64, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S2048x512, .bf16⟩
  | .hbm, ⟨48, _⟩ => ⟨S8x2048x64, .f32⟩
  | .hbm, ⟨49, _⟩ => ⟨S2048x8x64, .f32⟩
  | .hbm, ⟨50, _⟩ => ⟨S2048x512, .f32⟩
  | .hbm, ⟨51, _⟩ => ⟨S2048x512, .bf16⟩
  | .hbm, ⟨52, _⟩ => ⟨S8x2048x64, .f32⟩
  | .hbm, ⟨53, _⟩ => ⟨S2048x8x64, .f32⟩
  | .hbm, ⟨54, _⟩ => ⟨S2048x512, .f32⟩
  | .hbm, ⟨55, _⟩ => ⟨S2048x512, .bf16⟩
  | .hbm, ⟨56, _⟩ => ⟨S8x2048x64, .f32⟩
  | .hbm, ⟨57, _⟩ => ⟨S2048x8x64, .f32⟩
  | .hbm, ⟨58, _⟩ => ⟨S2048x512, .f32⟩
  | .hbm, ⟨59, _⟩ => ⟨S2048x512, .bf16⟩
  | .hbm, ⟨60, _⟩ => ⟨S1x8x2048, .f32⟩
  | .hbm, ⟨61, _⟩ => ⟨S1x8x2048, .f32⟩
  | .hbm, ⟨62, _⟩ => ⟨S8x2048, .f32⟩
  | .hbm, ⟨63, _⟩ => ⟨S8x2048x1, .f32⟩
  | .hbm, ⟨64, _⟩ => ⟨S8x2048x128, .f32⟩
  | .hbm, ⟨65, _⟩ => ⟨S8x2048, .f32⟩
  | .hbm, ⟨66, _⟩ => ⟨S8x2048x1, .f32⟩
  | .hbm, ⟨67, _⟩ => ⟨S8x2048x128, .f32⟩
  | .hbm, ⟨68, _⟩ => ⟨S8x2048, .f32⟩
  | .hbm, ⟨69, _⟩ => ⟨S8x2048x1, .f32⟩
  | .hbm, ⟨70, _⟩ => ⟨S8x2048x128, .f32⟩
  | .hbm, ⟨71, _⟩ => ⟨S8x2048, .f32⟩
  | .hbm, ⟨72, _⟩ => ⟨S8x2048x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S8x256, .f32⟩
  | .local _ .vmem, ⟨13, _⟩ => ⟨S8x256, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .smem, ⟨0, _⟩ => ⟨S36, .i32⟩
  | .local _ .smem, ⟨1, _⟩ => ⟨S36, .i32⟩
  | _, _ => ⟨S1x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S1x8x2048x64 : Shape := ⟨4, ![1, 8, 2048, 64]⟩
abbrev S1x8x2048 : Shape := ⟨3, ![1, 8, 2048]⟩
abbrev S_ : Shape := ⟨0, ![]⟩
abbrev S1x8x2048x1 : Shape := ⟨4, ![1, 8, 2048, 1]⟩
abbrev S1x8x2048x2048 : Shape := ⟨4, ![1, 8, 2048, 2048]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1 : Shape := ⟨3, ![8, 2048, 1]⟩
abbrev S8x2048x128 : Shape := ⟨3, ![8, 2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048, .f32⟩
  | .hbm, ⟨4, _⟩ => ⟨S1x8x2048x64, .f32⟩
  | .hbm, ⟨5, _⟩ => ⟨S_, .f32⟩
  | .hbm, ⟨6, _⟩ => ⟨S1x8x2048x1, .f32⟩
  | .hbm, ⟨7, _⟩ => ⟨S1x8x2048x2048, .f32⟩
  | .hbm, ⟨8, _⟩ => ⟨S_, .f32⟩
  | .hbm, ⟨9, _⟩ => ⟨S1x8x2048x2048, .f32⟩
  | .hbm, ⟨10, _⟩ => ⟨S1x8x2048x2048, .f32⟩
  | .hbm, ⟨11, _⟩ => ⟨S1x8x2048x1, .f32⟩
  | .hbm, ⟨12, _⟩ => ⟨S1x8x2048x2048, .f32⟩
  | .hbm, ⟨13, _⟩ => ⟨S1x8x2048x2048, .f32⟩
  | .hbm, ⟨14, _⟩ => ⟨S1x8x1x2048, .f32⟩
  | .hbm, ⟨15, _⟩ => ⟨S1x8x2048x2048, .f32⟩
  | .hbm, ⟨16, _⟩ => ⟨S1x8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S1x8x2048x2048, .i1⟩
  | .hbm, ⟨27, _⟩ => ⟨S1x8x2048x2048, .f32⟩
  | .hbm, ⟨28, _⟩ => ⟨S1x8x2048x2048, .f32⟩
  | .hbm, ⟨29, _⟩ => ⟨S_, .f32⟩
  | .hbm, ⟨30, _⟩ => ⟨S1x8x2048, .f32⟩
  | .hbm, ⟨31, _⟩ => ⟨S_, .f32⟩
  | .hbm, ⟨32, _⟩ => ⟨S1x8x2048, .f32⟩
  | .hbm, ⟨33, _⟩ => ⟨S1x8x2048, .f32⟩
  | .hbm, ⟨34, _⟩ => ⟨S1x8x2048x1, .f32⟩
  | .hbm, ⟨35, _⟩ => ⟨S1x8x2048x2048, .f32⟩
  | .hbm, ⟨36, _⟩ => ⟨S1x8x2048x2048, .f32⟩
  | .hbm, ⟨37, _⟩ => ⟨S1x8x2048x2048, .f32⟩
  | .hbm, ⟨38, _⟩ => ⟨S_, .f32⟩
  | .hbm, ⟨39, _⟩ => ⟨S1x8x2048, .f32⟩
  | .hbm, ⟨40, _⟩ => ⟨S1x8x2048x1, .f32⟩
  | .hbm, ⟨41, _⟩ => ⟨S1x8x2048x2048, .f32⟩
  | .hbm, ⟨42, _⟩ => ⟨S1x8x2048x2048, .f32⟩
  | .hbm, ⟨43, _⟩ => ⟨S1x8x2048x64, .f32⟩
  | .hbm, ⟨44, _⟩ => ⟨S1x8x2048x64, .f32⟩
  | .hbm, ⟨45, _⟩ => ⟨S1x8x2048x64, .f32⟩
  | .hbm, ⟨46, _⟩ => ⟨S1x8x2048x64, .f32⟩
  | .hbm, ⟨47, _⟩ => ⟨S_, .f32⟩
  | .hbm, ⟨48, _⟩ => ⟨S1x8x2048, .f32⟩
  | .hbm, ⟨49, _⟩ => ⟨S1x8x2048x1, .f32⟩
  | .hbm, ⟨50, _⟩ => ⟨S8x2048x1, .f32⟩
  | .hbm, ⟨51, _⟩ => ⟨S8x2048x128, .f32⟩
  | _, _ => ⟨S1x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Reals.lean ====
/-
  Facts about sums and finite extended reals the value proofs share: finite entries as reals, sums of reals, a long sum
  cut into consecutive parts, a sum over rows taken tile by tile, and what the programs' literals denote.
-/
module

public import Idealize.ShloMosaic.PureOps.Ideal
public import Idealize.ShloMosaic.Lib.Pointwise

@[expose] public section

noncomputable section

namespace Cert.Reals

open Idealize.ShloMosaic

/-- A sum of reals, read in the extended reals, is the sum there. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- An array whose entries all have absolute value below infinity is an array of reals. -/
theorem real_of_abs_lt {s : Shape} (x : FVec Ideal s .f32) (t : FVec Ideal s .f32) (ht : t = fun _ => (⊤ : EReal))
    (h : cmpf .olt (Host.absf x) t = fun _ => 1#1) : ∃ X : s.Idx → ℝ, x = fun i => ((X i : ℝ) : EReal) := by
  subst ht
  have key : ∀ i, x i ≠ ⊤ ∧ x i ≠ ⊥ := by
    intro i
    have hi := congrFun h i
    have hlt : Ideal.cmp CmpFPredicate.olt (max (x i) (-(x i)) : EReal) (⊤ : EReal) = 1#1 := hi
    constructor
    · intro e
      rw [e] at hlt
      exact absurd hlt (by simp [Ideal.cmp])
    · intro e
      rw [e] at hlt
      exact absurd hlt (by simp [Ideal.cmp])
  exact ⟨fun i => (x i).toReal, funext fun i => (EReal.coe_toReal (key i).1 (key i).2).symm⟩

theorem lit_top : Ideal.ofBits .f32 0x7F800000#32 = ⊤ := by simp [Ideal.ofBits, Ideal.ieee]

theorem lit_1024 : Ideal.ofBits .f32 0x44800000#32 = ((1024 : ℝ) : EReal) := by
  simp [Ideal.ofBits, Ideal.ieee, -EReal.coe_mul]
  try norm_num

theorem lit_neg_half : Ideal.ofBits .f32 0xBF000000#32 = ((-(1 / 2) : ℝ) : EReal) := by
  simp [Ideal.ofBits, Ideal.ieee, -EReal.coe_mul]; norm_num

/-- The small constant the root mean square adds. -/
theorem lit_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

section
variable {M : Type*} [AddCommMonoid M]

/-- A sum over `a·b` rows is the sum over `a` tiles of the sums over their `b` rows. -/
theorem sum_tiles (a b : ℕ) (f : ℕ → M) :
    ∑ i ∈ Finset.range (a * b), f i = ∑ t ∈ Finset.range a, ∑ r ∈ Finset.range b, f (b * t + r) := by
  induction a with
  | zero => simp
  | succ a ih =>
    rw [Finset.sum_range_succ, ← ih, Nat.succ_mul, Finset.sum_range_add]
    simp only [Nat.mul_comm a b]

/-- A sum over columns cut into three runs of them. -/
theorem sum_three (a b c d n : ℕ) (hd : d = a + b) (h : n = d + c) (f : Fin n → M) :
    ∑ k, f k = ∑ k : Fin a, f ⟨k.val, by omega⟩ + ∑ k : Fin b, f ⟨a + k.val, by omega⟩ + ∑ k : Fin c, f ⟨d + k.val, by omega⟩ := by
  subst h
  subst hd
  rw [Fin.sum_univ_add, Fin.sum_univ_add]
  rfl

/-- Columns past `b`, padded with zeros, add nothing. -/
theorem sum_padded (b n : ℕ) (h : b ≤ n) (f : Fin b → M) :
    ∑ k : Fin n, (if hk : k.val < b then f ⟨k.val, hk⟩ else 0) = ∑ k, f k := by
  obtain ⟨p, rfl⟩ := Nat.exists_eq_add_of_le h
  rw [Fin.sum_univ_add]
  simp

end

end Cert.Reals

end
-- ==== Proof.TopArray.lean ====
/-
  The bound the finiteness preconditions compare with: infinity, at every place.
-/
module

public import proofs.«01_k».proof.Proof.Reals
public import Idealize.ShloMosaic.PureOps.Ideal

@[expose] public section

noncomputable section

namespace Cert.Reals

open Idealize.ShloMosaic

theorem top_array {s : Shape} (h : (⟨0, ![]⟩ : Shape).BroadcastsInDim s (![] : Fin 0 → Fin s.rank)) :
    (broadcastInDim s ![] h (constant (F := Ideal) ⟨0, ![]⟩ .f32 0x7F800000#32) : FVec Ideal s .f32) = fun _ => (⊤ : EReal) :=
  funext fun _ => lit_top

end Cert.Reals

end
-- ==== Proof.InprojPoint.lean ====
/-
  What one grid point of the in-projection backward kernel leaves in its two output blocks, as its payload
  functions of the input blocks it reads: the input gradient's row block is written whole, the norm gain's
  gradient is added to what the point before left (to zeros at the first point).
-/
module

public import proofs.«01_k».proof.Proof.Gen.KernelIdeal.Value
public import Idealize.ShloMosaic.Lib.Tactic
public import Idealize.ShloMosaic.Lib.Pointwise

@[expose] public section

set_option maxRecDepth 16384

noncomputable section

namespace Cert.Inproj

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords)
  (a1 : Memref sig .tc .vmem S256x2176 .f32) (h1 : a1.IsWhole) (a2 : Memref sig .tc .vmem S256x2176 .f32) (h2 : a2.IsWhole)
  (a3 : Memref sig .tc .vmem S256x2048 .f32) (h3 : a3.IsWhole) (a4 : Memref sig .tc .vmem S1024x2176 .bf16) (h4 : a4.IsWhole)
  (a5 : Memref sig .tc .vmem S1024x2176 .bf16) (h5 : a5.IsWhole) (a6 : Memref sig .tc .vmem S1024x2048 .bf16) (h6 : a6.IsWhole)
  (a7 : Memref sig .tc .vmem S256x1024 .f32) (h7 : a7.IsWhole) (a8 : Memref sig .tc .vmem S256x1024 .f32) (h8 : a8.IsWhole)
  (a9 : Memref sig .tc .vmem S1x1024 .f32) (h9 : a9.IsWhole) (a10 : Memref sig .tc .vmem S256x1024 .f32) (h10 : a10.IsWhole)
  (a11 : Memref sig .tc .vmem S1x1024 .f32) (h11 : a11.IsWhole)
  (x0 : Vec F S256x2176 .f32) (x1 : Vec F S256x2176 .f32) (x2 : Vec F S256x2048 .f32) (x3 : Vec F S1024x2176 .bf16)
  (x4 : Vec F S1024x2176 .bf16) (x5 : Vec F S1024x2048 .bf16) (x6 : Vec F S256x1024 .f32) (x7 : Vec F S256x1024 .f32)
  (x8 : Vec F S1x1024 .f32) (xo : Vec F S1x1024 .f32)

theorem out_B_9 (hc : ¬cond0_0 i) :
    out0_B_9 c i a1 h1 a2 h2 a3 h3 a4 h4 a5 h5 a6 h6 a7 h7 a8 h8 a9 h9 a10 h10 a11 h11 hc x0 x1 x2 x3 x4 x5 x6 x7 x8 xo
      = k0_pay2 (k0_pay4 x0 x3 x1 x4 x2 x5) (k0_pay6 x6) (k0_pay7 x6) x8 x7 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S256x2176) hz, View.ld_unit_zero (S := S256x2048) hz, View.ld_unit_zero (S := S1024x2176) hz,
    View.ld_unit_zero (S := S1024x2048) hz, View.ld_unit_zero (S := S256x1024) hz, View.ld_unit_zero (S := S1x1024) hz]

theorem out_B_10 (hc : ¬cond0_0 i) :
    out0_B_10 c i a1 h1 a2 h2 a3 h3 a4 h4 a5 h5 a6 h6 a7 h7 a8 h8 a9 h9 a10 h10 a11 h11 hc x0 x1 x2 x3 x4 x5 x6 x7 x8 xo
      = k0_pay1 (k0_pay4 x0 x3 x1 x4 x2 x5) (k0_pay7 x6) xo := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S256x2176) hz, View.ld_unit_zero (S := S256x2048) hz, View.ld_unit_zero (S := S1024x2176) hz,
    View.ld_unit_zero (S := S1024x2048) hz, View.ld_unit_zero (S := S256x1024) hz, View.ld_unit_zero (S := S1x1024) hz]

theorem out_A_9 (hc : cond0_0 i) :
    out0_A_9 c i a1 h1 a2 h2 a3 h3 a4 h4 a5 h5 a6 h6 a7 h7 a8 h8 a9 h9 a10 h10 a11 h11 hc x0 x1 x2 x3 x4 x5 x6 x7 x8
      = k0_pay2 (k0_pay4 x0 x3 x1 x4 x2 x5) (k0_pay6 x6) (k0_pay7 x6) x8 x7 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S256x2176) hz, View.ld_unit_zero (S := S256x2048) hz, View.ld_unit_zero (S := S1024x2176) hz,
    View.ld_unit_zero (S := S1024x2048) hz, View.ld_unit_zero (S := S256x1024) hz, View.ld_unit_zero (S := S1x1024) hz]

theorem out_A_10 (hc : cond0_0 i) :
    out0_A_10 c i a1 h1 a2 h2 a3 h3 a4 h4 a5 h5 a6 h6 a7 h7 a8 h8 a9 h9 a10 h10 a11 h11 hc x0 x1 x2 x3 x4 x5 x6 x7 x8
      = k0_pay1 (k0_pay4 x0 x3 x1 x4 x2 x5) (k0_pay7 x6) k0_pay3 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S256x2176) hz, View.ld_unit_zero (S := S256x2048) hz, View.ld_unit_zero (S := S1024x2176) hz,
    View.ld_unit_zero (S := S1024x2048) hz, View.ld_unit_zero (S := S256x1024) hz, View.ld_unit_zero (S := S1x1024) hz]

end

end Cert.Inproj

end
-- ==== Proof.InprojKernel.lean ====
/-
  The value of the in-projection backward kernel over the extended reals: each block a grid point reads is a piece of
  an argument, so the two result arrays are functions of the arguments alone — the input gradient row by row, the norm
  gain's gradient as one sum over all rows.
-/
module

public import proofs.«01_k».proof.Proof.InprojPoint
public import proofs.«01_k».proof.Proof.Reals

@[expose] public section

set_option maxRecDepth 16384

noncomputable section

namespace Cert.Inproj

open Cert.KernelIdeal Cert.KernelIdeal.Gen Idealize.ShloMosaic Idealize.ShloMosaic.TcCoe Idealize.SL.Sem

/-! ## The specification -/

section Spec
variable (x : FVec Ideal S1x2048x1024 .f32) (g : FVec Ideal S1x1024 .f32) (w : FVec Ideal S1x1024x6280 .f32)
  (dx2 : FVec Ideal S1x2048x1024 .f32) (du : FVec Ideal S1x2048x6280 .f32)

/-- The gradient at the normed row, `du · wᵀ`. -/
def dh (r : Fin 2048) (l : Fin 1024) : EReal := ∑ k : Fin 6280, du (ix3 0 r k) * w (ix3 0 l k)

/-- The reciprocal root mean square of a row. -/
def rs (r : Fin 2048) : EReal :=
  Ideal.rsqrt (Ideal.div (∑ k : Fin 1024, x (ix3 0 r k) * x (ix3 0 r k)) (Ideal.ofBits .f32 0x44800000#32)
    + Ideal.ofBits .f32 0x358637BD#32)

/-- The kernel's input gradient. -/
def gradX (r : Fin 2048) (l : Fin 1024) : EReal :=
  dx2 (ix3 0 r l) + rs x r * (dh w du r l * g (ix2 0 l) - x (ix3 0 r l) * rs x r
    * Ideal.div (∑ k : Fin 1024, dh w du r k * g (ix2 0 k) * (x (ix3 0 r k) * rs x r)) (Ideal.ofBits .f32 0x44800000#32))

/-- One row's part of the norm gain's gradient. -/
def gainRow (l : Fin 1024) (r : ℕ) : EReal :=
  if h : r < 2048 then dh w du ⟨r, h⟩ l * (x (ix3 0 ⟨r, h⟩ l) * rs x ⟨r, h⟩) else 0

/-- The norm gain's gradient. -/
def gradG (l : Fin 1024) : EReal := ∑ r ∈ Finset.range 2048, gainRow x w du l r

end Spec

/-! ## The payloads at an index -/

theorem pay4_apply (v3 : Vec Ideal S256x2176 .f32) (v6 : Vec Ideal S1024x2176 .bf16) (v9 : Vec Ideal S256x2176 .f32)
    (v12 : Vec Ideal S1024x2176 .bf16) (v16 : Vec Ideal S256x2048 .f32) (v19 : Vec Ideal S1024x2048 .bf16) (r : Fin 256) (l : Fin 1024) :
    k0_pay4 v3 v6 v9 v12 v16 v19 (ix2 r l) = (∑ k : Fin 2176, (v3 (ix2 r k) * v6 (ix2 l k) : EReal))
      + (∑ k : Fin 2176, (v9 (ix2 r k) * v12 (ix2 l k) : EReal)) + ∑ k : Fin 2048, (v16 (ix2 r k) * v19 (ix2 l k) : EReal) := by
  unfold k0_pay4
  pointwise

theorem pay6_apply (v : Vec Ideal S256x1024 .f32) (r : Fin 256) (l : Fin 1) :
    k0_pay6 v (ix2 r l) = Ideal.rsqrt (Ideal.div (∑ k : Fin 1024, (v (ix2 r k) * v (ix2 r k) : EReal)) (Ideal.ofBits .f32 0x44800000#32)
      + Ideal.ofBits .f32 0x358637BD#32) := by
  unfold k0_pay6 k0_pay5
  pointwise

theorem pay7_apply (v : Vec Ideal S256x1024 .f32) (r : Fin 256) (l : Fin 1024) :
    k0_pay7 v (ix2 r l) = (v (ix2 r l) * k0_pay6 v (ix2 r 0) : EReal) := by
  unfold k0_pay7 k0_pay5
  pointwise

theorem pay1_apply (a b : FVec Ideal S256x1024 .f32) (o : Vec Ideal S1x1024 .f32) (l : Fin 1024) :
    k0_pay1 a b o (ix2 0 l) = (o (ix2 0 l) + ∑ r : Fin 256, (a (ix2 r l) * b (ix2 r l) : EReal) : EReal) := by
  unfold k0_pay1
  pointwise

theorem pay3_apply (l : Fin 1024) : k0_pay3 (F := Ideal) (ix2 0 l) = (0 : EReal) := by
  unfold k0_pay3
  pointwise

theorem pay2_apply (a : FVec Ideal S256x1024 .f32) (r1 : FVec Ideal S256x1 .f32) (h : FVec Ideal S256x1024 .f32)
    (g : Vec Ideal S1x1024 .f32) (d : Vec Ideal S256x1024 .f32) (r : Fin 256) (l : Fin 1024) :
    k0_pay2 a r1 h g d (ix2 r l) = (d (ix2 r l) + r1 (ix2 r 0) * (a (ix2 r l) * g (ix2 0 l) - h (ix2 r l)
      * Ideal.div (∑ k : Fin 1024, (a (ix2 r k) * g (ix2 0 k) * h (ix2 r k) : EReal)) (Ideal.ofBits .f32 0x44800000#32)) : EReal) := by
  unfold k0_pay2
  pointwise

/-! ## The arrays the region finds -/

variable (m : (ℓ : Loc nD τ sig) → Buf (Elt Ideal) ℓ) (c : Dev nD)

abbrev X : FVec Ideal S1x2048x1024 .f32 := m ((c : Thread nD τ).loc main_arg0)
abbrev G : FVec Ideal S1x1024 .f32 := m ((c : Thread nD τ).loc main_arg1)
abbrev W : FVec Ideal S1x1024x6280 .f32 := m ((c : Thread nD τ).loc main_arg2)
abbrev DX : FVec Ideal S1x2048x1024 .f32 := m ((c : Thread nD τ).loc main_arg3)
abbrev DU : FVec Ideal S1x2048x6280 .f32 := m ((c : Thread nD τ).loc main_arg4)

theorem N8 : cfg0.N = 8 := by decide +kernel

theorem V_v8 (r : Fin 2048) (k : Fin 2176) : V m c main_v8 (ix2 r k) = DU m c (ix3 0 r ⟨k.val, by omega⟩) := by
  show StableHlo.after hostOps0 (fun b => m (c, b)) main_v8 _ = _
  unfold hostOps0
  after_results
  pointwise
  try rfl

theorem V_v12 (r : Fin 2048) (k : Fin 2176) : V m c main_v12 (ix2 r k) = (if h : k.val < 2056 then DU m c (ix3 0 r ⟨2176 + k.val, by omega⟩) else 0 : EReal) := by
  show StableHlo.after hostOps0 (fun b => m (c, b)) main_v12 _ = _
  unfold hostOps0
  after_results
  pointwise
  try rfl

theorem V_v14 (r : Fin 2048) (k : Fin 2048) : V m c main_v14 (ix2 r k) = DU m c (ix3 0 r ⟨4232 + k.val, by omega⟩) := by
  show StableHlo.after hostOps0 (fun b => m (c, b)) main_v14 _ = _
  unfold hostOps0
  after_results
  pointwise
  try rfl

theorem V_v2 (l : Fin 1024) (k : Fin 2176) : V m c main_v2 (ix2 l k) = W m c (ix3 0 l ⟨k.val, by omega⟩) := by
  show StableHlo.after hostOps0 (fun b => m (c, b)) main_v2 _ = _
  unfold hostOps0
  after_results
  pointwise
  try rfl

theorem V_v5 (l : Fin 1024) (k : Fin 2176) : V m c main_v5 (ix2 l k) = (if h : k.val < 2056 then W m c (ix3 0 l ⟨2176 + k.val, by omega⟩) else 0 : EReal) := by
  show StableHlo.after hostOps0 (fun b => m (c, b)) main_v5 _ = _
  unfold hostOps0
  after_results
  pointwise
  try rfl

theorem V_v6 (l : Fin 1024) (k : Fin 2048) : V m c main_v6 (ix2 l k) = W m c (ix3 0 l ⟨4232 + k.val, by omega⟩) := by
  show StableHlo.after hostOps0 (fun b => m (c, b)) main_v6 _ = _
  unfold hostOps0
  after_results
  pointwise
  try rfl

theorem V_v15 (r : Fin 2048) (l : Fin 1024) : V m c main_v15 (ix2 r l) = X m c (ix3 0 r l) := by
  show StableHlo.after hostOps0 (fun b => m (c, b)) main_v15 _ = _
  unfold hostOps0
  after_results
  pointwise
  try rfl

theorem V_v16 (r : Fin 2048) (l : Fin 1024) : V m c main_v16 (ix2 r l) = DX m c (ix3 0 r l) := by
  show StableHlo.after hostOps0 (fun b => m (c, b)) main_v16 _ = _
  unfold hostOps0
  after_results
  pointwise
  try rfl

/-! ## The blocks a point reads -/

/-- Row `r` of the block at point `t`. -/
abbrev row (t : Fin cfg0.N) (r : Fin 256) : Fin 2048 := ⟨256 * t.val + r.val, by have := t.isLt; have := N8; omega⟩

theorem idx0 : ∀ t : Fin cfg0.N, win0_0.index t 0 = t.val ∧ win0_0.index t 1 = 0 :=
  (by decide +kernel : ∀ t : Fin grid0.N, win0_0.index t 0 = t.val ∧ win0_0.index t 1 = 0)

theorem iblk0 (t : Fin cfg0.N) (r : Fin 256) (k : Fin 2176) : iblk m c 0 t (ix2 r k) = V m c main_v8 (ix2 (row t r) k) := by
  unfold iblk
  rw [View.read_apply]
  show V m c main_v8 _ = V m c main_v8 _
  congr 1
  funext a
  apply Fin.ext
  match a with
  | ⟨0, _⟩ => show win0_0.index t 0 * 256 + 1 * r.val = 256 * t.val + r.val; rw [(idx0 t).1]; omega
  | ⟨1, _⟩ => show win0_0.index t 1 * 2176 + 1 * k.val = k.val; rw [(idx0 t).2]; omega

theorem in0 (t : Fin cfg0.N) (r : Fin 256) (k : Fin 2176) : iblk m c 0 t (ix2 r k) = DU m c (ix3 0 (row t r) ⟨k.val, by omega⟩) :=
  (iblk0 m c t r k).trans (V_v8 m c _ _)

theorem idx1 : ∀ t : Fin cfg0.N, win0_1.index t 0 = t.val ∧ win0_1.index t 1 = 0 :=
  (by decide +kernel : ∀ t : Fin grid0.N, win0_1.index t 0 = t.val ∧ win0_1.index t 1 = 0)

theorem iblk1 (t : Fin cfg0.N) (r : Fin 256) (k : Fin 2176) : iblk m c 1 t (ix2 r k) = V m c main_v12 (ix2 (row t r) k) := by
  unfold iblk
  rw [View.read_apply]
  show V m c main_v12 _ = V m c main_v12 _
  congr 1
  funext a
  apply Fin.ext
  match a with
  | ⟨0, _⟩ => show win0_1.index t 0 * 256 + 1 * r.val = 256 * t.val + r.val; rw [(idx1 t).1]; omega
  | ⟨1, _⟩ => show win0_1.index t 1 * 2176 + 1 * k.val = k.val; rw [(idx1 t).2]; omega

theorem in1 (t : Fin cfg0.N) (r : Fin 256) (k : Fin 2176) : iblk m c 1 t (ix2 r k) = (if h : k.val < 2056 then DU m c (ix3 0 (row t r) ⟨2176 + k.val, by omega⟩) else 0 : EReal) :=
  (iblk1 m c t r k).trans (V_v12 m c _ _)

theorem idx2 : ∀ t : Fin cfg0.N, win0_2.index t 0 = t.val ∧ win0_2.index t 1 = 0 :=
  (by decide +kernel : ∀ t : Fin grid0.N, win0_2.index t 0 = t.val ∧ win0_2.index t 1 = 0)

theorem iblk2 (t : Fin cfg0.N) (r : Fin 256) (k : Fin 2048) : iblk m c 2 t (ix2 r k) = V m c main_v14 (ix2 (row t r) k) := by
  unfold iblk
  rw [View.read_apply]
  show V m c main_v14 _ = V m c main_v14 _
  congr 1
  funext a
  apply Fin.ext
  match a with
  | ⟨0, _⟩ => show win0_2.index t 0 * 256 + 1 * r.val = 256 * t.val + r.val; rw [(idx2 t).1]; omega
  | ⟨1, _⟩ => show win0_2.index t 1 * 2048 + 1 * k.val = k.val; rw [(idx2 t).2]; omega

theorem in2 (t : Fin cfg0.N) (r : Fin 256) (k : Fin 2048) : iblk m c 2 t (ix2 r k) = DU m c (ix3 0 (row t r) ⟨4232 + k.val, by omega⟩) :=
  (iblk2 m c t r k).trans (V_v14 m c _ _)

theorem idx3 : ∀ t : Fin cfg0.N, win0_3.index t 0 = 0 ∧ win0_3.index t 1 = 0 :=
  (by decide +kernel : ∀ t : Fin grid0.N, win0_3.index t 0 = 0 ∧ win0_3.index t 1 = 0)

theorem iblk3 (t : Fin cfg0.N) (r : Fin 1024) (k : Fin 2176) : iblk m c 3 t (ix2 r k) = V m c main_v2 (ix2 (r) k) := by
  unfold iblk
  rw [View.read_apply]
  show V m c main_v2 _ = V m c main_v2 _
  congr 1
  funext a
  apply Fin.ext
  match a with
  | ⟨0, _⟩ => show win0_3.index t 0 * 1024 + 1 * r.val = r.val; rw [(idx3 t).1]; omega
  | ⟨1, _⟩ => show win0_3.index t 1 * 2176 + 1 * k.val = k.val; rw [(idx3 t).2]; omega

theorem in3 (t : Fin cfg0.N) (r : Fin 1024) (k : Fin 2176) : iblk m c 3 t (ix2 r k) = W m c (ix3 0 (r) ⟨k.val, by omega⟩) :=
  (iblk3 m c t r k).trans (V_v2 m c _ _)

theorem idx4 : ∀ t : Fin cfg0.N, win0_4.index t 0 = 0 ∧ win0_4.index t 1 = 0 :=
  (by decide +kernel : ∀ t : Fin grid0.N, win0_4.index t 0 = 0 ∧ win0_4.index t 1 = 0)

theorem iblk4 (t : Fin cfg0.N) (r : Fin 1024) (k : Fin 2176) : iblk m c 4 t (ix2 r k) = V m c main_v5 (ix2 (r) k) := by
  unfold iblk
  rw [View.read_apply]
  show V m c main_v5 _ = V m c main_v5 _
  congr 1
  funext a
  apply Fin.ext
  match a with
  | ⟨0, _⟩ => show win0_4.index t 0 * 1024 + 1 * r.val = r.val; rw [(idx4 t).1]; omega
  | ⟨1, _⟩ => show win0_4.index t 1 * 2176 + 1 * k.val = k.val; rw [(idx4 t).2]; omega

theorem in4 (t : Fin cfg0.N) (r : Fin 1024) (k : Fin 2176) : iblk m c 4 t (ix2 r k) = (if h : k.val < 2056 then W m c (ix3 0 (r) ⟨2176 + k.val, by omega⟩) else 0 : EReal) :=
  (iblk4 m c t r k).trans (V_v5 m c _ _)

theorem idx5 : ∀ t : Fin cfg0.N, win0_5.index t 0 = 0 ∧ win0_5.index t 1 = 0 :=
  (by decide +kernel : ∀ t : Fin grid0.N, win0_5.index t 0 = 0 ∧ win0_5.index t 1 = 0)

theorem iblk5 (t : Fin cfg0.N) (r : Fin 1024) (k : Fin 2048) : iblk m c 5 t (ix2 r k) = V m c main_v6 (ix2 (r) k) := by
  unfold iblk
  rw [View.read_apply]
  show V m c main_v6 _ = V m c main_v6 _
  congr 1
  funext a
  apply Fin.ext
  match a with
  | ⟨0, _⟩ => show win0_5.index t 0 * 1024 + 1 * r.val = r.val; rw [(idx5 t).1]; omega
  | ⟨1, _⟩ => show win0_5.index t 1 * 2048 + 1 * k.val = k.val; rw [(idx5 t).2]; omega

theorem in5 (t : Fin cfg0.N) (r : Fin 1024) (k : Fin 2048) : iblk m c 5 t (ix2 r k) = W m c (ix3 0 (r) ⟨4232 + k.val, by omega⟩) :=
  (iblk5 m c t r k).trans (V_v6 m c _ _)

theorem idx6 : ∀ t : Fin cfg0.N, win0_6.index t 0 = t.val ∧ win0_6.index t 1 = 0 :=
  (by decide +kernel : ∀ t : Fin grid0.N, win0_6.index t 0 = t.val ∧ win0_6.index t 1 = 0)

theorem iblk6 (t : Fin cfg0.N) (r : Fin 256) (k : Fin 1024) : iblk m c 6 t (ix2 r k) = V m c main_v15 (ix2 (row t r) k) := by
  unfold iblk
  rw [View.read_apply]
  show V m c main_v15 _ = V m c main_v15 _
  congr 1
  funext a
  apply Fin.ext
  match a with
  | ⟨0, _⟩ => show win0_6.index t 0 * 256 + 1 * r.val = 256 * t.val + r.val; rw [(idx6 t).1]; omega
  | ⟨1, _⟩ => show win0_6.index t 1 * 1024 + 1 * k.val = k.val; rw [(idx6 t).2]; omega

theorem in6 (t : Fin cfg0.N) (r : Fin 256) (k : Fin 1024) : iblk m c 6 t (ix2 r k) = X m c (ix3 0 (row t r) k) :=
  (iblk6 m c t r k).trans (V_v15 m c _ _)

theorem idx7 : ∀ t : Fin cfg0.N, win0_7.index t 0 = t.val ∧ win0_7.index t 1 = 0 :=
  (by decide +kernel : ∀ t : Fin grid0.N, win0_7.index t 0 = t.val ∧ win0_7.index t 1 = 0)

theorem iblk7 (t : Fin cfg0.N) (r : Fin 256) (k : Fin 1024) : iblk m c 7 t (ix2 r k) = V m c main_v16 (ix2 (row t r) k) := by
  unfold iblk
  rw [View.read_apply]
  show V m c main_v16 _ = V m c main_v16 _
  congr 1
  funext a
  apply Fin.ext
  match a with
  | ⟨0, _⟩ => show win0_7.index t 0 * 256 + 1 * r.val = 256 * t.val + r.val; rw [(idx7 t).1]; omega
  | ⟨1, _⟩ => show win0_7.index t 1 * 1024 + 1 * k.val = k.val; rw [(idx7 t).2]; omega

theorem in7 (t : Fin cfg0.N) (r : Fin 256) (k : Fin 1024) : iblk m c 7 t (ix2 r k) = DX m c (ix3 0 (row t r) k) :=
  (iblk7 m c t r k).trans (V_v16 m c _ _)

theorem idx8 : ∀ t : Fin cfg0.N, win0_8.index t 0 = 0 ∧ win0_8.index t 1 = 0 :=
  (by decide +kernel : ∀ t : Fin grid0.N, win0_8.index t 0 = 0 ∧ win0_8.index t 1 = 0)

theorem iblk8 (t : Fin cfg0.N) (r : Fin 1) (k : Fin 1024) : iblk m c 8 t (ix2 r k) = V m c main_arg1 (ix2 (r) k) := by
  unfold iblk
  rw [View.read_apply]
  show V m c main_arg1 _ = V m c main_arg1 _
  congr 1
  funext a
  apply Fin.ext
  match a with
  | ⟨0, _⟩ => show win0_8.index t 0 * 1 + 1 * r.val = r.val; rw [(idx8 t).1]; omega
  | ⟨1, _⟩ => show win0_8.index t 1 * 1024 + 1 * k.val = k.val; rw [(idx8 t).2]; omega

theorem in8 (t : Fin cfg0.N) (r : Fin 1) (k : Fin 1024) : iblk m c 8 t (ix2 r k) = G m c (ix2 r k) :=
  (iblk8 m c t r k).trans (congrFun (V_main_arg1 m c) _)

/-! ## A point's values -/

/-- The three partial products add up to the product over all columns. -/
theorem dh_block (t : Fin cfg0.N) (r : Fin 256) (l : Fin 1024) :
    k0_pay4 (iblk m c 0 t) (iblk m c 3 t) (iblk m c 1 t) (iblk m c 4 t) (iblk m c 2 t) (iblk m c 5 t) (ix2 r l)
      = dh (W m c) (DU m c) (row t r) l := by
  rw [pay4_apply]
  simp only [in0, in1, in2, in3, in4, in5]
  unfold dh
  rw [Reals.sum_three 2176 2056 2048 4232 6280 rfl rfl,
    ← Reals.sum_padded 2056 2176 (by omega) (fun k => DU m c (ix3 0 (row t r) ⟨2176 + k.val, by omega⟩) * W m c (ix3 0 l ⟨2176 + k.val, by omega⟩))]
  refine congrArg₂ (· + ·) (congrArg₂ (· + ·) rfl (Finset.sum_congr rfl fun k _ => ?_)) rfl
  by_cases h : k.val < 2056
  · rw [dif_pos h, dif_pos h, dif_pos h]
  · rw [dif_neg h, dif_neg h, dif_neg h, mul_zero]

theorem rs_block (t : Fin cfg0.N) (r : Fin 256) : k0_pay6 (iblk m c 6 t) (ix2 r 0) = rs (X m c) (row t r) := by
  rw [pay6_apply]
  simp only [in6]
  rfl

theorem xh_block (t : Fin cfg0.N) (r : Fin 256) (l : Fin 1024) :
    k0_pay7 (iblk m c 6 t) (ix2 r l) = (X m c (ix3 0 (row t r) l) * rs (X m c) (row t r) : EReal) := by
  rw [pay7_apply, rs_block, in6]

theorem gx_block (t : Fin cfg0.N) (r : Fin 256) (l : Fin 1024) :
    k0_pay2 (k0_pay4 (iblk m c 0 t) (iblk m c 3 t) (iblk m c 1 t) (iblk m c 4 t) (iblk m c 2 t) (iblk m c 5 t))
      (k0_pay6 (iblk m c 6 t)) (k0_pay7 (iblk m c 6 t)) (iblk m c 8 t) (iblk m c 7 t) (ix2 r l)
      = gradX (X m c) (G m c) (W m c) (DX m c) (DU m c) (row t r) l := by
  rw [pay2_apply]
  simp only [dh_block, rs_block, xh_block, in7, in8]
  rfl

theorem gg_block (t : Fin cfg0.N) (o : Vec Ideal S1x1024 .f32) (l : Fin 1024) :
    k0_pay1 (k0_pay4 (iblk m c 0 t) (iblk m c 3 t) (iblk m c 1 t) (iblk m c 4 t) (iblk m c 2 t) (iblk m c 5 t))
      (k0_pay7 (iblk m c 6 t)) o (ix2 0 l)
      = (o (ix2 0 l) + ∑ r ∈ Finset.range 256, gainRow (X m c) (W m c) (DU m c) l (256 * t.val + r) : EReal) := by
  rw [pay1_apply, ← Fin.sum_univ_eq_sum_range (fun r => gainRow (X m c) (W m c) (DU m c) l (256 * t.val + r))]
  congr 1
  refine Finset.sum_congr rfl fun r _ => ?_
  rw [dh_block, xh_block]
  unfold gainRow
  rw [dif_pos (row t r).isLt]

/-! ## The outputs point by point -/

theorem outs9 (t : Fin cfg0.N) (r : Fin 256) (l : Fin 1024) :
    (outsAt0 m c t.val t.isLt).1 (ix2 r l) = gradX (X m c) (G m c) (W m c) (DX m c) (DU m c) (row t r) l := by
  by_cases h0 : t.val % 8 = 0
  · rw [outsAt0_A m c t h0]
    dsimp only
    rw [out_A_9, gx_block]
  · rw [outsAt0_B m c t h0]
    dsimp only
    rw [out_B_9, gx_block]

theorem outs10 (n : ℕ) (hn : n < cfg0.N) (l : Fin 1024) :
    (outsAt0 m c n hn).2 (ix2 0 l)
      = ∑ t ∈ Finset.range (n + 1), ∑ r ∈ Finset.range 256, gainRow (X m c) (W m c) (DU m c) l (256 * t + r) := by
  induction n with
  | zero =>
    rw [outsAt0_A m c ⟨0, hn⟩ rfl]
    dsimp only
    rw [out_A_10, gg_block, pay3_apply, zero_add, Finset.sum_range_one]
  | succ n ih =>
    have h8 := N8
    rw [outsAt0_B m c ⟨n + 1, hn⟩ (by show ¬(n + 1) % 8 = 0; omega)]
    dsimp only
    rw [out_B_10, gg_block, Finset.sum_range_succ _ (n + 1)]
    congr 1
    exact ih (Nat.lt_of_succ_lt hn)

/-! ## The result arrays -/

/-- The input gradient as an array. -/
def arrX : Buf (Elt Ideal) ((c : Thread nD τ).loc main_v17_0) :=
  fun i : S2048x1024.Idx => gradX (X m c) (G m c) (W m c) (DX m c) (DU m c) (i 0) (i 1)

/-- The norm gain's gradient as an array. -/
def arrG : Buf (Elt Ideal) ((c : Thread nD τ).loc main_v17_1) :=
  fun i : S1x1024.Idx => gradG (X m c) (W m c) (DU m c) (i 1)

theorem idx9 : ∀ t : Fin cfg0.N, win0_9.index t 0 = t.val ∧ win0_9.index t 1 = 0 :=
  (by decide +kernel : ∀ t : Fin grid0.N, win0_9.index t 0 = t.val ∧ win0_9.index t 1 = 0)

theorem idx10 : ∀ t : Fin cfg0.N, win0_10.index t 0 = 0 ∧ win0_10.index t 1 = 0 :=
  (by decide +kernel : ∀ t : Fin grid0.N, win0_10.index t 0 = 0 ∧ win0_10.index t 1 = 0)

theorem ix2_eta {a b : ℕ} (j : (⟨2, ![a, b]⟩ : Shape).Idx) : j = ix2 (j 0) (j 1) := by
  funext k
  match k with
  | ⟨0, _⟩ => rfl
  | ⟨1, _⟩ => rfl

theorem flush9 (t : Fin cfg0.N) : (dats m 0 c).flushed 9 t = ((cfg0.win 9).blk t).view.read (Elt Ideal) (arrX m c) := by
  rw [Value.flushed9]
  funext j
  rw [View.read_apply]
  obtain ⟨r, l, rfl⟩ : ∃ (r : Fin 256) (l : Fin 1024), j = ix2 r l := ⟨j 0, j 1, ix2_eta (a := 256) (b := 1024) j⟩
  refine (outs9 m c t r l).trans ?_
  show gradX (X m c) (G m c) (W m c) (DX m c) (DU m c) (row t r) l = gradX _ _ _ _ _ _ _
  congr 1
  · apply Fin.ext
    show 256 * t.val + r.val = win0_9.index t 0 * 256 + 1 * r.val
    rw [(idx9 t).1]; omega
  · apply Fin.ext
    show l.val = win0_9.index t 1 * 1024 + 1 * l.val
    rw [(idx9 t).2]; omega

theorem flush10 (t : Fin cfg0.N) (hf : (cfg0.win 10).flush t = true) :
    (dats m 0 c).flushed 10 t = ((cfg0.win 10).blk t).view.read (Elt Ideal) (arrG m c) := by
  have hN := N8
  have h7 : t.val = 7 := by have := (flush0_10 t).mp hf; have := t.isLt; omega
  rw [Value.flushed10]
  funext j
  rw [View.read_apply]
  obtain ⟨r, l, rfl⟩ : ∃ (r : Fin 1) (l : Fin 1024), j = ix2 r l := ⟨j 0, j 1, ix2_eta (a := 1) (b := 1024) j⟩
  obtain rfl : r = 0 := Subsingleton.elim _ _
  refine (outs10 m c t.val t.isLt l).trans ?_
  have hs : ∑ t ∈ Finset.range (t.val + 1), ∑ r ∈ Finset.range 256, gainRow (X m c) (W m c) (DU m c) l (256 * t + r)
      = gradG (X m c) (W m c) (DU m c) l := by
    rw [h7]
    exact (Reals.sum_tiles 8 256 (gainRow (X m c) (W m c) (DU m c) l)).symm
  rw [hs]
  show gradG (X m c) (W m c) (DU m c) _ = gradG (X m c) (W m c) (DU m c) _
  congr 1
  apply Fin.ext
  show l.val = win0_10.index t 1 * 1024 + 1 * l.val
  rw [(idx10 t).2]; omega

theorem final9 : (dats m 0 c).arrAt 9 cfg0.N = arrX m c :=
  (dats m 0 c).arrAt_eq_of_cover 9 (arrX m c) (fun t _ => flush9 m c t) fun i => by
    have hN := N8
    have h0 : (i 0 : Nat) < 2048 := (i 0).isLt
    have h1 : (i 1 : Nat) < 1024 := (i 1).isLt
    have ht : (i 0 : Nat) / 256 < cfg0.N := by omega
    refine ⟨⟨(i 0 : Nat) / 256, ht⟩, (by decide +kernel : ∀ t : Fin grid0.N, (cfg0.win 9).flush t = true) _, ?_⟩
    show i ∈ ((View.whole main_v17_0).slice (win0_9.rect ⟨(i 0 : Nat) / 256, ht⟩)).set
    rw [View.set_slice_whole, Rect.mem_set_unit]
    have hi := idx9 ⟨(i 0 : Nat) / 256, ht⟩
    intro a
    match a with
    | ⟨0, _⟩ =>
      show win0_9.index _ 0 * 256 ≤ (i 0 : Nat) ∧ (i 0 : Nat) < win0_9.index _ 0 * 256 + 256
      rw [hi.1]; dsimp only; omega
    | ⟨1, _⟩ =>
      show win0_9.index _ 1 * 1024 ≤ (i 1 : Nat) ∧ (i 1 : Nat) < win0_9.index _ 1 * 1024 + 1024
      rw [hi.2]; omega

theorem final10 : (dats m 0 c).arrAt 10 cfg0.N = arrG m c :=
  (dats m 0 c).arrAt_eq_of_cover 10 (arrG m c) (flush10 m c) fun i => by
    have hN := N8
    have h0 : (i 0 : Nat) < 1 := (i 0).isLt
    have h1 : (i 1 : Nat) < 1024 := (i 1).isLt
    have ht : 7 < cfg0.N := by omega
    refine ⟨⟨7, ht⟩, (flush0_10 _).mpr rfl, ?_⟩
    show i ∈ ((View.whole main_v17_1).slice (win0_10.rect ⟨7, ht⟩)).set
    rw [View.set_slice_whole, Rect.mem_set_unit]
    have hi := idx10 ⟨7, ht⟩
    intro a
    match a with
    | ⟨0, _⟩ =>
      show win0_10.index _ 0 * 1 ≤ (i 0 : Nat) ∧ (i 0 : Nat) < win0_10.index _ 0 * 1 + 1
      rw [hi.1]; omega
    | ⟨1, _⟩ =>
      show win0_10.index _ 1 * 1024 ≤ (i 1 : Nat) ∧ (i 1 : Nat) < win0_10.index _ 1 * 1024 + 1024
      rw [hi.2]; omega

end Cert.Inproj

end
-- ==== Proof.HostSums.lean ====
/-
  The host's sums over several axes of an array at once, and its running sums, read at an index.
-/
module

public import Idealize.ShloMosaic.PureOps.Ideal
public import Idealize.ShloMosaic.Lib.Pointwise

@[expose] public section

noncomputable section

namespace Cert.HostSums

open Idealize.ShloMosaic

variable {n0 n1 n2 : ℕ}

/-- Summing out the first and last of three axes. -/
theorem sum_02 (h : (⟨3, ![n0, n1, n2]⟩ : Shape).ReducesTo [0, 2] ⟨1, ![n1]⟩) (v : (⟨3, ![n0, n1, n2]⟩ : Shape).Idx → EReal)
    (init : EReal) (r : Fin n1) :
    Ideal.hostReduceAdd h v init (ix1 r) = init + ∑ a : Fin n0, ∑ b : Fin n2, v (ix3 a r b) := by
  unfold Ideal.hostReduceAdd
  congr 1
  rw [← Fintype.sum_prod_type' (f := fun a b => v (ix3 a r b))]
  refine Finset.sum_filter_eq_sum_of_fiber _ (fun p : Fin n0 × Fin n2 => ix3 p.1 r p.2)
    (fun p q e => Prod.ext (congrFun e 0) (congrFun e 2)) (fun i => ?_) v
  constructor
  · intro e
    have h1 : (i 1).val = r.val := congrArg Fin.val (congrFun e 0)
    refine ⟨(i 0, i 2), ?_⟩
    funext a
    match a with
    | ⟨0, _⟩ => rfl
    | ⟨1, _⟩ => exact Fin.ext h1.symm
    | ⟨2, _⟩ => rfl
  · rintro ⟨p, rfl⟩
    funext a
    match a with
    | ⟨0, _⟩ => rfl

/-- Summing out the first two of three axes. -/
theorem sum_01 (h : (⟨3, ![n0, n1, n2]⟩ : Shape).ReducesTo [0, 1] ⟨1, ![n2]⟩) (v : (⟨3, ![n0, n1, n2]⟩ : Shape).Idx → EReal)
    (init : EReal) (l : Fin n2) :
    Ideal.hostReduceAdd h v init (ix1 l) = init + ∑ a : Fin n0, ∑ b : Fin n1, v (ix3 a b l) := by
  unfold Ideal.hostReduceAdd
  congr 1
  rw [← Fintype.sum_prod_type' (f := fun a b => v (ix3 a b l))]
  refine Finset.sum_filter_eq_sum_of_fiber _ (fun p : Fin n0 × Fin n1 => ix3 p.1 p.2 l)
    (fun p q e => Prod.ext (congrFun e 0) (congrFun e 1)) (fun i => ?_) v
  constructor
  · intro e
    have h1 : (i 2).val = l.val := congrArg Fin.val (congrFun e 0)
    refine ⟨(i 0, i 1), ?_⟩
    funext a
    match a with
    | ⟨0, _⟩ => rfl
    | ⟨1, _⟩ => rfl
    | ⟨2, _⟩ => exact Fin.ext h1.symm
  · rintro ⟨p, rfl⟩
    funext a
    match a with
    | ⟨0, _⟩ => rfl

variable {n3 : ℕ}

/-- Summing out the two middle axes of four. -/
theorem sum4_12 (h : (⟨4, ![n0, n1, n2, n3]⟩ : Shape).ReducesTo [1, 2] ⟨2, ![n0, n3]⟩) (v : (⟨4, ![n0, n1, n2, n3]⟩ : Shape).Idx → EReal)
    (init : EReal) (a : Fin n0) (d : Fin n3) :
    Ideal.hostReduceAdd h v init (ix2 a d) = init + ∑ b : Fin n1, ∑ c : Fin n2, v (ix4 a b c d) := by
  unfold Ideal.hostReduceAdd
  congr 1
  rw [← Fintype.sum_prod_type' (f := fun b c => v (ix4 a b c d))]
  refine Finset.sum_filter_eq_sum_of_fiber _ (fun p : Fin n1 × Fin n2 => ix4 a p.1 p.2 d)
    (fun p q e => Prod.ext (congrFun e 1) (congrFun e 2)) (fun i => ?_) v
  constructor
  · intro e
    have h0 : (i 0).val = a.val := congrArg Fin.val (congrFun e 0)
    have h1 : (i 3).val = d.val := congrArg Fin.val (congrFun e 1)
    refine ⟨(i 1, i 2), ?_⟩
    funext x
    match x with
    | ⟨0, _⟩ => exact Fin.ext h0.symm
    | ⟨1, _⟩ => rfl
    | ⟨2, _⟩ => rfl
    | ⟨3, _⟩ => exact Fin.ext h1.symm
  · rintro ⟨p, rfl⟩
    funext x
    match x with
    | ⟨0, _⟩ => rfl
    | ⟨1, _⟩ => rfl

/-- Summing out the first and last of four axes. -/
theorem sum4_03 (h : (⟨4, ![n0, n1, n2, n3]⟩ : Shape).ReducesTo [0, 3] ⟨2, ![n1, n2]⟩) (v : (⟨4, ![n0, n1, n2, n3]⟩ : Shape).Idx → EReal)
    (init : EReal) (b : Fin n1) (c : Fin n2) :
    Ideal.hostReduceAdd h v init (ix2 b c) = init + ∑ a : Fin n0, ∑ d : Fin n3, v (ix4 a b c d) := by
  unfold Ideal.hostReduceAdd
  congr 1
  rw [← Fintype.sum_prod_type' (f := fun a d => v (ix4 a b c d))]
  refine Finset.sum_filter_eq_sum_of_fiber _ (fun p : Fin n0 × Fin n3 => ix4 p.1 b c p.2)
    (fun p q e => Prod.ext (congrFun e 0) (congrFun e 3)) (fun i => ?_) v
  constructor
  · intro e
    have h0 : (i 1).val = b.val := congrArg Fin.val (congrFun e 0)
    have h1 : (i 2).val = c.val := congrArg Fin.val (congrFun e 1)
    refine ⟨(i 0, i 3), ?_⟩
    funext x
    match x with
    | ⟨0, _⟩ => rfl
    | ⟨1, _⟩ => exact Fin.ext h0.symm
    | ⟨2, _⟩ => exact Fin.ext h1.symm
    | ⟨3, _⟩ => rfl
  · rintro ⟨p, rfl⟩
    funext x
    match x with
    | ⟨0, _⟩ => rfl
    | ⟨1, _⟩ => rfl

/-- Summing out the first and third of four axes. -/
theorem sum4_02 (h : (⟨4, ![n0, n1, n2, n3]⟩ : Shape).ReducesTo [0, 2] ⟨2, ![n1, n3]⟩) (v : (⟨4, ![n0, n1, n2, n3]⟩ : Shape).Idx → EReal)
    (init : EReal) (b : Fin n1) (d : Fin n3) :
    Ideal.hostReduceAdd h v init (ix2 b d) = init + ∑ a : Fin n0, ∑ c : Fin n2, v (ix4 a b c d) := by
  unfold Ideal.hostReduceAdd
  congr 1
  rw [← Fintype.sum_prod_type' (f := fun a c => v (ix4 a b c d))]
  refine Finset.sum_filter_eq_sum_of_fiber _ (fun p : Fin n0 × Fin n2 => ix4 p.1 b p.2 d)
    (fun p q e => Prod.ext (congrFun e 0) (congrFun e 2)) (fun i => ?_) v
  constructor
  · intro e
    have h0 : (i 1).val = b.val := congrArg Fin.val (congrFun e 0)
    have h1 : (i 3).val = d.val := congrArg Fin.val (congrFun e 1)
    refine ⟨(i 0, i 2), ?_⟩
    funext x
    match x with
    | ⟨0, _⟩ => rfl
    | ⟨1, _⟩ => exact Fin.ext h0.symm
    | ⟨2, _⟩ => rfl
    | ⟨3, _⟩ => exact Fin.ext h1.symm
  · rintro ⟨p, rfl⟩
    funext x
    match x with
    | ⟨0, _⟩ => rfl
    | ⟨1, _⟩ => rfl

/-- Summing out the first three of four axes, each of the three of one element. -/
theorem sum4_012 (h : (⟨4, ![1, 1, 1, n3]⟩ : Shape).ReducesTo [0, 1, 2] ⟨1, ![n3]⟩) (v : (⟨4, ![1, 1, 1, n3]⟩ : Shape).Idx → EReal)
    (init : EReal) (d : Fin n3) : Ideal.hostReduceAdd h v init (ix1 d) = init + v (ix4 0 0 0 d) := by
  unfold Ideal.hostReduceAdd
  congr 1
  rw [← Fintype.sum_unique (fun _ : Unit => v (ix4 0 0 0 d))]
  refine Finset.sum_filter_eq_sum_of_fiber _ (fun _ : Unit => ix4 0 0 0 d) (fun _ _ _ => rfl) (fun i => ?_) v
  constructor
  · intro e
    have h1 : (i 3).val = d.val := congrArg Fin.val (congrFun e 0)
    refine ⟨(), ?_⟩
    funext x
    match x with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Fin.ext h1.symm
  · rintro ⟨p, rfl⟩
    funext x
    match x with
    | ⟨0, _⟩ => rfl

theorem foldl_add {β : Type*} (f : β → EReal) : ∀ (l : List β) (v : EReal), l.foldl (fun r n => r + f n) v = v + (l.map f).sum
  | [], v => by simp
  | b :: l, v => by rw [List.foldl_cons, foldl_add f l, List.map_cons, List.sum_cons, add_assoc]

/-- One position of a window: the element there, or zero where the window has left the array. -/
theorem window_elt {n p : ℕ} (x : (⟨3, ![1, n, p]⟩ : Shape).Idx → EReal) (r : Fin n) (k : Fin p) (w : (⟨3, ![1, n, 1]⟩ : Shape).Idx)
    (D : Decidable (∀ a : Fin 3, (![0, 0, 0] : Fin 3 → ℕ) a ≤ ((ix3 (0 : Fin 1) r k : (⟨3, ![1, n, p]⟩ : Shape).Idx) a).val * (![1, 1, 1] : Fin 3 → ℕ) a + (w a).val
      ∧ ((ix3 (0 : Fin 1) r k : (⟨3, ![1, n, p]⟩ : Shape).Idx) a).val * (![1, 1, 1] : Fin 3 → ℕ) a + (w a).val - (![0, 0, 0] : Fin 3 → ℕ) a
        < (![1, n, p] : Fin 3 → ℕ) a)) :
    @dite EReal _ D (fun hin => x (fun a => ⟨_, (hin a).2⟩)) (fun _ => 0)
      = if h : r.val + (w 1).val < n then x (ix3 0 ⟨r.val + (w 1).val, h⟩ k) else 0 := by
  have h0 : (w 0).val = 0 := congrArg Fin.val (Subsingleton.elim (α := Fin 1) (w 0) 0)
  have h2 : (w 2).val = 0 := congrArg Fin.val (Subsingleton.elim (α := Fin 1) (w 2) 0)
  by_cases hr : r.val + (w 1).val < n
  · rw [dif_pos hr, dif_pos]
    · congr 1
      funext a
      apply Fin.ext
      match a with
      | ⟨0, _⟩ => show 0 * 1 + (w 0).val - 0 = 0; omega
      | ⟨1, _⟩ => show r.val * 1 + (w 1).val - 0 = r.val + (w 1).val; omega
      | ⟨2, _⟩ => show k.val * 1 + (w 2).val - 0 = k.val; omega
    · intro a
      match a with
      | ⟨0, _⟩ => show 0 ≤ 0 * 1 + (w 0).val ∧ 0 * 1 + (w 0).val - 0 < 1; omega
      | ⟨1, _⟩ => show 0 ≤ r.val * 1 + (w 1).val ∧ r.val * 1 + (w 1).val - 0 < n; omega
      | ⟨2, _⟩ => show 0 ≤ k.val * 1 + (w 2).val ∧ k.val * 1 + (w 2).val - 0 < p; have := k.isLt; omega
  · rw [dif_neg hr, dif_neg]
    intro hh
    have := (hh 1).2
    have t : r.val * 1 + (w 1).val - 0 < n := this
    omega

/-- A running sum from the end, along the middle of three axes. -/
theorem suffix_sum {n p : ℕ} (x : (⟨3, ![1, n, p]⟩ : Shape).Idx → EReal)
    (h : (⟨3, ![1, n, p]⟩ : Shape).ReduceWindows ![1, n, 1] ![1, 1, 1] ![0, 0, 0] ![0, n - 1, 0] ⟨3, ![1, n, p]⟩) (r : Fin n) (k : Fin p) :
    Ideal.hostReduceWindowAdd ![1, n, 1] ![1, 1, 1] ![0, 0, 0] ![0, n - 1, 0] h x 0 (ix3 0 r k)
      = ∑ i : Fin n, if h : r.val + i.val < n then x (ix3 0 ⟨r.val + i.val, h⟩ k) else 0 := by
  unfold Ideal.hostReduceWindowAdd Host.reduceWindow
  dsimp only
  rw [foldl_add, zero_add, ← Fin.sum_univ_def]
  let e : (⟨3, ![1, n, 1]⟩ : Shape).Idx ≃ Fin n :=
    ⟨fun w => w 1, fun i => ix3 0 i 0, fun w => by
      funext a
      match a with
      | ⟨0, _⟩ => exact Subsingleton.elim (α := Fin 1) _ _
      | ⟨1, _⟩ => rfl
      | ⟨2, _⟩ => exact Subsingleton.elim (α := Fin 1) _ _, fun i => rfl⟩
  refine Fintype.sum_equiv ((Shape.rowMajor ⟨3, ![1, n, 1]⟩).symm.trans e) _ _ fun q => ?_
  exact window_elt x r k ((Shape.rowMajor ⟨3, ![1, n, 1]⟩).symm q) _

/-- Folding a commutative and associative operation along the last of four axes. -/
theorem fold4_3 {α : Type} {u : Shape} (f : α → α → α) [Std.Commutative f] [Std.Associative f]
    (h : (⟨4, ![n0, n1, n2, n3]⟩ : Shape).ReducesTo [3] ⟨3, ![n0, n1, n2]⟩) (v : (⟨4, ![n0, n1, n2, n3]⟩ : Shape).Idx → α)
    (init : u.Idx → α) (hu : 0 < u.numel) (a : Fin n0) (b : Fin n1) (c : Fin n2) :
    Host.reduce f v init h hu (ix3 a b c) = Finset.fold f (init (Shape.Idx.first hu)) (fun d => v (ix4 a b c d)) Finset.univ := by
  have fiber : (Finset.univ.filter fun i => h.drop i = ix3 a b c) = Finset.univ.image fun d : Fin n3 => ix4 a b c d := by
    ext i
    rw [Finset.mem_filter, Finset.mem_image]
    constructor
    · rintro ⟨-, e⟩
      have h0 : (i 0).val = a.val := congrArg Fin.val (congrFun e 0)
      have h1 : (i 1).val = b.val := congrArg Fin.val (congrFun e 1)
      have h2 : (i 2).val = c.val := congrArg Fin.val (congrFun e 2)
      refine ⟨i 3, Finset.mem_univ _, ?_⟩
      funext k
      match k with
      | ⟨0, _⟩ => exact Fin.ext h0.symm
      | ⟨1, _⟩ => exact Fin.ext h1.symm
      | ⟨2, _⟩ => exact Fin.ext h2.symm
      | ⟨3, _⟩ => rfl
    · rintro ⟨d, -, rfl⟩
      refine ⟨Finset.mem_univ _, ?_⟩
      funext k
      match k with
      | ⟨0, _⟩ => rfl
      | ⟨1, _⟩ => rfl
      | ⟨2, _⟩ => rfl
  rw [Host.reduce_eq_fold, fiber, Finset.fold_image (fun d _ e _ q => congrFun q 3)]
  rfl

/-- The maximum along the last of four axes. -/
theorem max4_3 {u : Shape} (h : (⟨4, ![n0, n1, n2, n3]⟩ : Shape).ReducesTo [3] ⟨3, ![n0, n1, n2]⟩) (v : FVec Ideal ⟨4, ![n0, n1, n2, n3]⟩ .f32)
    (w : BitVec 32) (hu : 0 < u.numel) (a : Fin n0) (b : Fin n1) (c : Fin n2) :
    Host.reduce FloatOps.maximumf v (constant u .f32 w) h hu (ix3 a b c)
      = Finset.fold max (Ideal.ofBits .f32 w) (fun d => (v (ix4 a b c d) : EReal)) Finset.univ :=
  fold4_3 _ h v _ hu a b c

end Cert.HostSums

end
-- ==== Proof.InprojReference.lean ====
/-
  The reference of the in-projection backward call read at an index: the same gradient at the normed row and the same
  reciprocal root mean square, put together by the chain rule.
-/
module

public import proofs.«01_k».proof.Proof.Gen.ReferenceIdeal.Read
public import proofs.«01_k».proof.Proof.InprojKernel
public import proofs.«01_k».proof.Proof.HostSums

@[expose] public section

set_option maxRecDepth 16384

noncomputable section

namespace Cert.Inproj

open Cert.ReferenceIdeal Cert.ReferenceIdeal.Gen Cert.ReferenceIdeal.Read
open Idealize.ShloMosaic Idealize.ShloMosaic.TcCoe Idealize.SL.Sem

section
variable (x0 : FVec Ideal S1x2048x1024 .f32) (x1 : FVec Ideal S1x1024 .f32) (x2 : FVec Ideal S1x1024x6280 .f32)
  (x3 : FVec Ideal S1x2048x1024 .f32) (x4 : FVec Ideal S1x2048x6280 .f32)

theorem ref_dh (r : Fin 2048) (l : Fin 1024) : val_main_v19 (F := Ideal) x2 x4 (ix3 0 r l) = dh x2 x4 r l := by
  unfold val_main_v19 val_main_v17
  pointwise
  rfl

/-- A row's mean square with the small constant added. -/
def ms (r : Fin 2048) : EReal :=
  Ideal.div (∑ k : Fin 1024, x0 (ix3 0 r k) * x0 (ix3 0 r k)) (Ideal.ofBits .f32 0x44800000#32) + Ideal.ofBits .f32 0x358637BD#32

theorem ref_ms (r : Fin 2048) : val_main_v7 (F := Ideal) x0 (ix3 0 r 0) = ms x0 r := by
  unfold val_main_v7 val_main_v6 val_main_v5 val_main_v4 val_main_v3 val_main_v2 val_main_v1 val_main_cst val_main_cst_0 val_main_cst_1
  pointwise
  rfl

theorem ref_rs (r : Fin 2048) : val_main_v8 (F := Ideal) x0 (ix3 0 r 0) = rs x0 r := by
  unfold val_main_v8
  pointwise
  rw [ref_ms]
  rfl

theorem ref_dxh (r : Fin 2048) (l : Fin 1024) :
    val_main_v24 (F := Ideal) x1 x2 x4 (ix3 0 r l) = (dh x2 x4 r l * x1 (ix2 0 l) : EReal) := by
  unfold val_main_v24 val_main_v23 val_main_v14 val_main_v0
  pointwise
  rw [ref_dh]

theorem ref_dot (r : Fin 2048) :
    val_main_v28 (F := Ideal) x0 x1 x2 x4 (ix3 0 r 0) = ∑ k : Fin 1024, (x0 (ix3 0 r k) * (dh x2 x4 r k * x1 (ix2 0 k)) : EReal) := by
  unfold val_main_v28 val_main_v27 val_main_v26 val_main_cst_5
  pointwise
  simp only [ref_dxh]

theorem ref_scale (r : Fin 2048) : val_main_v11 (F := Ideal) x0 (ix3 0 r 0)
    = (Ideal.ofBits .f32 0xBF000000#32 * Ideal.div (rs x0 r) (ms x0 r) : EReal) := by
  unfold val_main_v11 val_main_v10 val_main_v9 val_main_cst_2
  pointwise
  rw [ref_rs, ref_ms]

theorem ref_row (r : Fin 2048) : val_main_v35 (F := Ideal) x0 x1 x2 x4 (ix1 r)
    = (Ideal.div (val_main_v28 (F := Ideal) x0 x1 x2 x4 (ix3 0 r 0) * val_main_v11 (F := Ideal) x0 (ix3 0 r 0)) (Ideal.ofBits .f32 0x44800000#32) : EReal) := by
  unfold val_main_v35 val_main_v34 val_main_v33 val_main_v32 val_main_cst_6 val_main_cst_7
  pointwise
  refine (HostSums.sum_02 _ _ _ r).trans ?_
  rw [zero_add, Fin.sum_univ_one, Fin.sum_univ_one]
  pointwise

theorem ref_x (r : Fin 2048) (l : Fin 1024) : val_main_v43 (F := Ideal) x0 x1 x2 x3 x4 (ix2 r l)
    = (x3 (ix3 0 r l) + dh x2 x4 r l * x1 (ix2 0 l) * rs x0 r + x0 (ix3 0 r l) * val_main_v35 (F := Ideal) x0 x1 x2 x4 (ix1 r)
        + val_main_v35 (F := Ideal) x0 x1 x2 x4 (ix1 r) * x0 (ix3 0 r l) : EReal) := by
  unfold val_main_v43 val_main_v41 val_main_v40 val_main_v39 val_main_v38 val_main_v37 val_main_v36 val_main_v31 val_main_v30 val_main_v29
  pointwise
  rw [ref_dxh, ref_rs]

theorem ref_g (l : Fin 1024) : val_main_v42 (F := Ideal) x0 x2 x4 (ix2 0 l)
    = ∑ r : Fin 2048, (x0 (ix3 0 r l) * rs x0 r * dh x2 x4 r l : EReal) := by
  unfold val_main_v42 val_main_v25 val_main_v22 val_main_v21 val_main_v20 val_main_v13 val_main_v12 val_main_cst_3 val_main_cst_4
  pointwise
  refine (HostSums.sum_01 _ _ _ l).trans ?_
  rw [zero_add, Fin.sum_univ_one, Fin.sum_univ_one]
  pointwise
  simp only [ref_dh, ref_rs]
/-! ## The two gradients agree -/

theorem ref_g_eq (l : Fin 1024) : val_main_v42 (F := Ideal) x0 x2 x4 (ix2 0 l) = gradG x0 x2 x4 l := by
  rw [ref_g]
  unfold gradG
  rw [← Fin.sum_univ_eq_sum_range (gainRow x0 x2 x4 l)]
  refine Finset.sum_congr rfl fun r _ => ?_
  unfold gainRow
  rw [dif_pos r.isLt]
  exact mul_comm _ _

/-- Over the reals: the kernel's one division of the row's inner product and the reference's two halves of it. -/
theorem chain_rule (n : ℕ) (x d g : Fin n → ℝ) (q c : ℝ) (hq : 0 < q) (l : Fin n) :
    (Real.sqrt q)⁻¹ * (d l * g l - x l * (Real.sqrt q)⁻¹ * ((∑ k, d k * g k * (x k * (Real.sqrt q)⁻¹)) / c))
      = d l * g l * (Real.sqrt q)⁻¹ + x l * ((∑ k, x k * (d k * g k)) * (-(1 / 2) * ((Real.sqrt q)⁻¹ / q)) / c)
        + ((∑ k, x k * (d k * g k)) * (-(1 / 2) * ((Real.sqrt q)⁻¹ / q)) / c) * x l := by
  have hs : (∑ k, d k * g k * (x k * (Real.sqrt q)⁻¹)) = (Real.sqrt q)⁻¹ * ∑ k, x k * (d k * g k) := by
    rw [Finset.mul_sum]
    exact Finset.sum_congr rfl fun k _ => by ring
  have hr : (Real.sqrt q)⁻¹ * (Real.sqrt q)⁻¹ = 1 / q := by
    rw [← mul_inv, Real.mul_self_sqrt hq.le, one_div]
  rw [hs]
  generalize (∑ k, x k * (d k * g k)) = S
  generalize (Real.sqrt q)⁻¹ = s at *
  have e1 : s / q = s * (s * s) := by rw [hr]; ring
  rw [e1]
  ring

theorem ref_x_eq (X : S1x2048x1024.Idx → ℝ) (G : S1x1024.Idx → ℝ) (W : S1x1024x6280.Idx → ℝ) (U : S1x2048x6280.Idx → ℝ)
    (h0 : x0 = fun i => (X i : EReal)) (h1 : x1 = fun i => (G i : EReal)) (h2 : x2 = fun i => (W i : EReal))
    (h4 : x4 = fun i => (U i : EReal)) (r : Fin 2048) (l : Fin 1024) :
    val_main_v43 (F := Ideal) x0 x1 x2 x3 x4 (ix2 r l) = gradX x0 x1 x2 x3 x4 r l := by
  obtain ⟨e, he, hE⟩ := Reals.lit_eps
  have hd : ∀ k, dh x2 x4 r k = ((∑ j : Fin 6280, U (ix3 0 r j) * W (ix3 0 k j) : ℝ) : EReal) := fun k => by
    unfold dh
    rw [h2, h4, ← Reals.sum_coe]
    exact Finset.sum_congr rfl fun j _ => (EReal.coe_mul _ _).symm
  have hm : ms x0 r = (((∑ k : Fin 1024, X (ix3 0 r k) * X (ix3 0 r k)) / 1024 + e : ℝ) : EReal) := by
    unfold ms
    rw [h0, hE, Reals.lit_1024, EReal.coe_add, ← Reals.div_real _ _ (by norm_num), ← Reals.sum_coe]
    simp only [EReal.coe_mul]
  have hq : 0 < (∑ k : Fin 1024, X (ix3 0 r k) * X (ix3 0 r k)) / 1024 + e :=
    add_pos_of_nonneg_of_pos (div_nonneg (Finset.sum_nonneg fun k _ => mul_self_nonneg _) (by norm_num)) he
  have hr : rs x0 r = _ := (congrArg Ideal.rsqrt hm).trans (Reals.rsqrt_real _ hq)
  rw [ref_x, ref_row, ref_dot, ref_scale, Reals.lit_neg_half, Reals.lit_1024, hr, hm]
  unfold gradX
  rw [Reals.lit_1024, hr]
  simp only [hd]
  generalize ((∑ k : Fin 1024, X (ix3 0 r k) * X (ix3 0 r k)) / 1024 + e) = q at hq
  generalize hD : (fun k => (∑ j : Fin 6280, U (ix3 0 r j) * W (ix3 0 k j) : ℝ)) = D
  have hD' : ∀ k, (∑ j : Fin 6280, U (ix3 0 r j) * W (ix3 0 k j) : ℝ) = D k := fun k => congrFun hD k
  simp only [hD', h0, h1]
  rw [Reals.div_real _ _ hq.ne']
  simp only [← EReal.coe_mul, ← EReal.coe_sub, Reals.sum_coe]
  rw [Reals.div_real _ _ (by norm_num), Reals.div_real _ _ (by norm_num)]
  simp only [← EReal.coe_mul, ← EReal.coe_sub, add_assoc, ← EReal.coe_add]
  congr 2
  have := chain_rule 1024 (fun k => X (ix3 0 r k)) D (fun k => G (ix2 0 k)) q 1024 hq l
  rw [add_assoc] at this
  exact this.symm
end

end Cert.Inproj

end
-- ==== Proof.InprojClaim.lean ====
/-
  The claims about the in-projection backward call: the reference's run leaves its arguments and every counter as it
  found them, and on finite arguments both programs end with equal gradients.
-/
module

public import proofs.«01_k».proof.Defs
public import proofs.«01_k».proof.Proof.TopArray
public import proofs.«01_k».proof.Proof.InprojReference
public import Idealize.ShloMosaic.Lib.Quiescent

@[expose] public section

set_option maxRecDepth 16384

noncomputable section

namespace Cert.Inproj

open Idealize.ShloMosaic Idealize.ShloMosaic.TcCoe Idealize.SL.Sem

instance preFacts : Cert.Pre_finite_inproj.Facts where
  bcast_S_S1x2048x1024 := by decide +kernel
  bcast_S_S1x1024 := by decide +kernel
  bcast_S_S1x1024x6280 := by decide +kernel
  bcast_S_S1x2048x6280 := by decide +kernel

theorem reference_frame : Cert.quiescent_ReferenceIdeal := fun m ρ _ =>
  (θ_run _ _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite_inproj := by
  intro m ρ m' ρ' hpre hag
  refine ⟨fun c => arrX m c, fun c => arrG m c, ?_, ?_⟩
  · refine (θ_run _ _ _).mono (fun r h c => ?_) (Cert.KernelIdeal.Value.run_blocks (F := Ideal) m ρ)
    exact ⟨(h c).1.trans (final9 m c), (h c).2.1.trans (final10 m c), (h c).2.2⟩
  · refine (θ_run _ _ _).mono (fun r h c => ?_) (Cert.ReferenceIdeal.Value.run (F := Ideal) m' ρ')
    obtain ⟨e0, e1, e2, e3, e4⟩ := hag c
    obtain ⟨p0, p1, p2, p4⟩ := hpre c
    obtain ⟨X', hX⟩ := Reals.real_of_abs_lt _ _ (Reals.top_array _) p0
    obtain ⟨G', hG⟩ := Reals.real_of_abs_lt _ _ (Reals.top_array _) p1
    obtain ⟨W', hW⟩ := Reals.real_of_abs_lt _ _ (Reals.top_array _) p2
    obtain ⟨U', hU⟩ := Reals.real_of_abs_lt _ _ (Reals.top_array _) p4
    refine ⟨(h c).1.trans ?_, (h c).2.1.trans ?_, (h c).2.2⟩
    · refine (Cert.ReferenceIdeal.Read.val_main_v43_eq (F := Ideal) m' c).trans ?_
      rw [e0, e1, e2, e3, e4]
      funext j
      obtain ⟨r, l, rfl⟩ : ∃ (r : Fin 2048) (l : Fin 1024), j = ix2 r l := ⟨j 0, j 1, ix2_eta (a := 2048) (b := 1024) j⟩
      exact ref_x_eq _ _ _ _ _ X' G' W' U' hX hG hW hU r l
    · refine (Cert.ReferenceIdeal.Read.val_main_v42_eq (F := Ideal) _ _ _).trans ?_
      rw [e0, e2, e4]
      funext j
      obtain ⟨r, l, rfl⟩ : ∃ (r : Fin 1) (l : Fin 1024), j = ix2 r l := ⟨j 0, j 1, ix2_eta (a := 1) (b := 1024) j⟩
      obtain rfl : r = 0 := Subsingleton.elim _ _
      exact ref_g_eq _ _ _ l

end Cert.Inproj

end
-- ==== Proof.Heads.lean ====
/-
  Sums over the heads' columns. A row of 512 columns is eight heads of 64 columns; the kernels sum each head by products
  with a 128 × 128 matrix of ones on its two diagonal blocks, after splitting every entry into three parts that add up
  to it. Over the extended reals the second and third part of a real entry are zero, so what is left is the sum over the
  64 columns of the entry's head.
-/
module

public import proofs.«01_k».proof.Proof.Reals
public import Idealize.ShloMosaic.PureOps

@[expose] public section

noncomputable section

namespace Cert.Heads

open Idealize.ShloMosaic

/-- The matrix of ones at an entry: one when both column numbers lie in the same head. -/
theorem ones_bits : ∀ k l : Fin 128,
    BitVec.setWidth 32 (IntOp.cmpi CmpIPredicate.eq (IntOp.shrsi ArithUnit.vector (BitVec.ofNat 32 k.val) 6#32)
      (IntOp.shrsi ArithUnit.vector (BitVec.ofNat 32 l.val) 6#32)) = if k.val / 64 = l.val / 64 then 1#32 else 0#32 := by
  decide +kernel

theorem ones_at (k l : Fin 128) :
    FloatOps.sitofp (F := Ideal) FTy.f32 (BitVec.setWidth 32 (IntOp.cmpi CmpIPredicate.eq (IntOp.shrsi ArithUnit.vector (BitVec.ofNat 32 k.val) 6#32)
      (IntOp.shrsi ArithUnit.vector (BitVec.ofNat 32 l.val) 6#32))) = if k.val / 64 = l.val / 64 then (1 : EReal) else 0 := by
  rw [ones_bits]
  split <;> simp [FloatOps.sitofp]

/-- The triangle of ones: one at and above the diagonal. -/
theorem upper_bits (k l : Fin 256) :
    BitVec.setWidth 32 (IntOp.cmpi CmpIPredicate.sle (BitVec.ofNat 32 k.val) (BitVec.ofNat 32 l.val)) = if k.val ≤ l.val then 1#32 else 0#32 := by
  have e : ∀ n : Fin 256, (BitVec.ofNat 32 n.val).toInt = (n.val : ℤ) := fun n => by
    rw [BitVec.toInt_eq_toNat_of_lt (by rw [BitVec.toNat_ofNat]; omega), BitVec.toNat_ofNat, Nat.mod_eq_of_lt (by omega)]
  by_cases h : k.val ≤ l.val <;> simp [IntOp.cmpi, BitVec.sle, e, h]

theorem upper_at (k l : Fin 256) :
    FloatOps.sitofp (F := Ideal) FTy.f32 (BitVec.setWidth 32 (IntOp.cmpi CmpIPredicate.sle (BitVec.ofNat 32 k.val) (BitVec.ofNat 32 l.val)))
      = if k.val ≤ l.val then (1 : EReal) else 0 := by
  rw [upper_bits]
  split <;> simp [FloatOps.sitofp]

/-- The sum over the head of column `l`. -/
def hsum (f : ℕ → ℝ) (l : ℕ) : ℝ := ∑ j ∈ Finset.range 64, f (64 * (l / 64) + j)

theorem head_sum (f : ℕ → ℝ) (o : ℕ) (ho : o % 64 = 0) (l : Fin 128) :
    ∑ x : Fin 128, ((f (o + x.val) : ℝ) : EReal) * (if x.val / 64 = l.val / 64 then (1 : EReal) else 0) = ((hsum f (o + l.val) : ℝ) : EReal) := by
  have e : ∀ x : Fin 128, ((f (o + x.val) : ℝ) : EReal) * (if x.val / 64 = l.val / 64 then (1 : EReal) else 0)
      = (((if x.val / 64 = l.val / 64 then f (o + x.val) else 0) : ℝ) : EReal) := fun x => by split <;> simp
  simp only [e]
  rw [Reals.sum_coe, EReal.coe_eq_coe_iff, Fin.sum_univ_eq_sum_range (fun x => if x / 64 = l.val / 64 then f (o + x) else 0) 128]
  rw [Finset.sum_range_add (fun x => if x / 64 = l.val / 64 then f (o + x) else 0) 64 64]
  unfold hsum
  have hl : l.val / 64 = 0 ∨ l.val / 64 = 1 := by omega
  rcases hl with h | h
  · have h1 : ∀ j ∈ Finset.range 64, (if (64 + j) / 64 = l.val / 64 then f (o + (64 + j)) else 0) = 0 := fun j hj => by
      rw [if_neg]; have := Finset.mem_range.mp hj; omega
    rw [Finset.sum_congr rfl h1, Finset.sum_const_zero, add_zero]
    refine Finset.sum_congr rfl fun j hj => ?_
    have := Finset.mem_range.mp hj
    rw [if_pos (by omega)]
    congr 1; omega
  · have h1 : ∀ j ∈ Finset.range 64, (if j / 64 = l.val / 64 then f (o + j) else 0) = 0 := fun j hj => by
      rw [if_neg]; have := Finset.mem_range.mp hj; omega
    rw [Finset.sum_congr rfl h1, Finset.sum_const_zero, zero_add]
    refine Finset.sum_congr rfl fun j hj => ?_
    have := Finset.mem_range.mp hj
    rw [if_pos (by omega)]
    congr 1; omega

/-- The four head sums side by side, at a column. -/
theorem quarters (f : ℕ → ℝ) (l : Fin 512) :
    (if _h : l.val < 128 then ∑ x : Fin 128, ((f x.val : ℝ) : EReal) * (if x.val / 64 = l.val / 64 then (1 : EReal) else 0)
      else if _h : l.val - 128 < 128 then ∑ x : Fin 128, ((f (128 + x.val) : ℝ) : EReal) * (if x.val / 64 = (l.val - 128) / 64 then (1 : EReal) else 0)
      else if _h : l.val - 128 - 128 < 128 then ∑ x : Fin 128, ((f (256 + x.val) : ℝ) : EReal) * (if x.val / 64 = (l.val - 128 - 128) / 64 then (1 : EReal) else 0)
      else ∑ x : Fin 128, ((f (384 + x.val) : ℝ) : EReal) * (if x.val / 64 = (l.val - 128 - 128 - 128) / 64 then (1 : EReal) else 0))
      = ((hsum f l.val : ℝ) : EReal) := by
  have h0 : ∀ o, o % 64 = 0 → ∀ a : ℕ, a < 128 → o + a = l.val →
      ∑ x : Fin 128, ((f (o + x.val) : ℝ) : EReal) * (if x.val / 64 = a / 64 then (1 : EReal) else 0) = ((hsum f l.val : ℝ) : EReal) :=
    fun o ho a ha e => by rw [← e]; exact head_sum f o ho ⟨a, ha⟩
  split_ifs with c0 c1 c2
  · simpa only [Nat.zero_add] using h0 0 rfl l.val c0 (Nat.zero_add _)
  · exact h0 128 rfl _ c1 (by omega)
  · exact h0 256 rfl _ c2 (by omega)
  · exact h0 384 rfl _ (by omega) (by omega)

/-- A sum of products of a real row split into its three parts is the sum of the products of the row. -/
theorem three_parts {ι : Type*} [Fintype ι] (f : ι → ℝ) (o : ι → EReal) :
    ∑ x, (f x : EReal) * o x + ∑ x, ((f x : EReal) - (f x : EReal)) * o x
      + ∑ x, ((f x : EReal) - (f x : EReal) - ((f x : EReal) - (f x : EReal))) * o x = ∑ x, (f x : EReal) * o x := by
  simp only [← EReal.coe_sub, sub_self, EReal.coe_zero, sub_zero, zero_mul, Finset.sum_const_zero, add_zero]

theorem three_parts' {ι : Type*} [Fintype ι] (f : ι → ℝ) (o : ι → EReal) :
    ∑ x, o x * (f x : EReal) + ∑ x, o x * ((f x : EReal) - (f x : EReal))
      + ∑ x, o x * ((f x : EReal) - (f x : EReal) - ((f x : EReal) - (f x : EReal))) = ∑ x, o x * (f x : EReal) := by
  simp only [← EReal.coe_sub, sub_self, EReal.coe_zero, sub_zero, mul_zero, Finset.sum_const_zero, add_zero]

theorem lit_64th : Ideal.ofBits .f32 0x3C800000#32 = ((1 / 64 : ℝ) : EReal) := by
  simp [Ideal.ofBits, Ideal.ieee, -EReal.coe_mul]; norm_num

end Cert.Heads

end
-- ==== Proof.FoxPoint.lean ====
/-
  The arithmetic of one grid point of the fox preparation's backward kernel, at real entries: the gradient through the
  normalisation of each head of the query and key columns, and the running sum behind the forget gate's gradient.
-/
module

public import proofs.«01_k».proof.Proof.Gen.Kernel2Ideal.Frame
public import proofs.«01_k».proof.Proof.Heads
public import Idealize.ShloMosaic.Lib.Tactic
public import Idealize.ShloMosaic.Lib.Pointwise

@[expose] public section

set_option maxRecDepth 16384

noncomputable section

namespace Cert.Fox

open Cert.Kernel2Ideal Cert.Kernel2Ideal.Gen Idealize.ShloMosaic Idealize.ShloMosaic.TcCoe Idealize.SL.Sem Cert.Heads

/-- The number added under the root of the root mean square. -/
def eps : ℝ := Reals.lit_eps.choose

theorem eps_pos : 0 < eps := Reals.lit_eps.choose_spec.1

theorem lit_eps : Ideal.ofBits .f32 0x358637BD#32 = (eps : EReal) := Reals.lit_eps.choose_spec.2

/-- One over the root mean square of the head of column `l`. -/
def rin (U : ℕ → ℝ) (l : ℕ) : ℝ := (Real.sqrt (hsum (fun k => U k * U k) l * (1 / 64) + eps))⁻¹

/-- The gradient through the normalisation of a head, at column `l`: `G` the gains, `D` the row's cotangent, `U` the row. -/
def dnorm (G D U : ℕ → ℝ) (l : ℕ) : ℝ :=
  rin U l * (D l * G l - U l * rin U l * (hsum (fun k => D k * G k * (U k * rin U k)) l * (1 / 64)))

theorem hsum_nonneg (U : ℕ → ℝ) (l : ℕ) : 0 < hsum (fun k => U k * U k) l * (1 / 64) + eps :=
  add_pos_of_nonneg_of_pos (mul_nonneg (Finset.sum_nonneg fun _ _ => mul_self_nonneg _) (by norm_num)) eps_pos

theorem pay7_at (k l : Fin 128) : k0_pay7 (F := Ideal) (ix2 k l) = if k.val / 64 = l.val / 64 then (1 : EReal) else 0 := by
  unfold k0_pay7
  pointwise
  exact ones_at k l

section
variable (x d : Vec Ideal S256x512 .f32) (g a : Vec Ideal S1x512 .f32) (U D G : ℕ → ℝ) (X : ℕ → ℕ → ℝ) (r : Fin 256)

theorem rms_q (hx : ∀ k : Fin 512, x (ix2 r k) = ((U k.val : ℝ) : EReal)) (l : Fin 512) :
    k0_pay13 (F := Ideal) k0_pay7 (k0_pay9 x) (k0_pay10 x) (k0_pay11 x) (k0_pay12 x) (ix2 r l) = ((rin U l.val : ℝ) : EReal) := by
  unfold k0_pay13 k0_pay12 k0_pay11 k0_pay10 k0_pay9 k0_pay8
  pointwise
  simp only [hx, ← EReal.coe_mul, three_parts, pay7_at, lit_64th, lit_eps]
  refine (congrArg (fun z => Ideal.rsqrt (z * _ + _)) (quarters (fun k => U k * U k) l)).trans ?_
  rw [← EReal.coe_mul, ← EReal.coe_add, Reals.rsqrt_real _ (hsum_nonneg U _)]
  rfl

theorem norm_q (hx : ∀ k : Fin 512, x (ix2 r k) = ((U k.val : ℝ) : EReal)) (l : Fin 512) :
    k0_pay14 (F := Ideal) k0_pay7 (k0_pay8 x) (k0_pay9 x) (k0_pay10 x) (k0_pay11 x) (k0_pay12 x) (ix2 r l) = ((U l.val * rin U l.val : ℝ) : EReal) := by
  unfold k0_pay14 k0_pay8
  pointwise
  rw [hx, rms_q x U r hx l, EReal.coe_mul]

theorem dn_q (hd : ∀ k : Fin 512, d (ix2 r k) = ((D k.val : ℝ) : EReal)) (hg : ∀ k : Fin 512, g (ix2 0 k) = ((G k.val : ℝ) : EReal)) (l : Fin 512) :
    k0_pay17 (F := Ideal) g d (ix2 r l) = ((D l.val * G l.val : ℝ) : EReal) := by
  unfold k0_pay17 k0_pay15
  pointwise
  rw [hd, hg, EReal.coe_mul]

theorem prod_q (hx : ∀ k : Fin 512, x (ix2 r k) = ((U k.val : ℝ) : EReal)) (hd : ∀ k : Fin 512, d (ix2 r k) = ((D k.val : ℝ) : EReal))
    (hg : ∀ k : Fin 512, g (ix2 0 k) = ((G k.val : ℝ) : EReal)) (l : Fin 512) :
    k0_pay18 (F := Ideal) k0_pay7 g (k0_pay8 x) (k0_pay9 x) (k0_pay10 x) (k0_pay11 x) (k0_pay12 x) d (ix2 r l)
      = ((D l.val * G l.val * (U l.val * rin U l.val) : ℝ) : EReal) := by
  unfold k0_pay18
  pointwise
  rw [dn_q d g D G r hd hg, norm_q x U r hx, ← EReal.coe_mul]

theorem du_q (hx : ∀ k : Fin 512, x (ix2 r k) = ((U k.val : ℝ) : EReal)) (hd : ∀ k : Fin 512, d (ix2 r k) = ((D k.val : ℝ) : EReal))
    (hg : ∀ k : Fin 512, g (ix2 0 k) = ((G k.val : ℝ) : EReal)) (l : Fin 512) :
    k0_pay29 (F := Ideal) k0_pay7 (k0_pay13 k0_pay7 (k0_pay9 x) (k0_pay10 x) (k0_pay11 x) (k0_pay12 x))
      (k0_pay14 k0_pay7 (k0_pay8 x) (k0_pay9 x) (k0_pay10 x) (k0_pay11 x) (k0_pay12 x)) (k0_pay17 g d)
      (k0_pay19 k0_pay7 (k0_pay18 k0_pay7 g (k0_pay8 x) (k0_pay9 x) (k0_pay10 x) (k0_pay11 x) (k0_pay12 x) d))
      (k0_pay20 k0_pay7 (k0_pay18 k0_pay7 g (k0_pay8 x) (k0_pay9 x) (k0_pay10 x) (k0_pay11 x) (k0_pay12 x) d))
      (k0_pay21 k0_pay7 (k0_pay18 k0_pay7 g (k0_pay8 x) (k0_pay9 x) (k0_pay10 x) (k0_pay11 x) (k0_pay12 x) d))
      (k0_pay26 (k0_pay18 k0_pay7 g (k0_pay8 x) (k0_pay9 x) (k0_pay10 x) (k0_pay11 x) (k0_pay12 x) d))
      (k0_pay27 k0_pay7 (k0_pay18 k0_pay7 g (k0_pay8 x) (k0_pay9 x) (k0_pay10 x) (k0_pay11 x) (k0_pay12 x) d))
      (k0_pay28 k0_pay7 (k0_pay18 k0_pay7 g (k0_pay8 x) (k0_pay9 x) (k0_pay10 x) (k0_pay11 x) (k0_pay12 x) d)) (ix2 r l)
      = ((dnorm G D U l.val : ℝ) : EReal) := by
  have hp := prod_q x d g U D G r hx hd hg
  have hn := norm_q x U r hx
  have hr := rms_q x U r hx
  have hq := dn_q d g D G r hd hg
  generalize k0_pay18 (F := Ideal) k0_pay7 g (k0_pay8 x) (k0_pay9 x) (k0_pay10 x) (k0_pay11 x) (k0_pay12 x) d = v at hp ⊢
  generalize k0_pay14 (F := Ideal) k0_pay7 (k0_pay8 x) (k0_pay9 x) (k0_pay10 x) (k0_pay11 x) (k0_pay12 x) = n at hn ⊢
  generalize k0_pay13 (F := Ideal) k0_pay7 (k0_pay9 x) (k0_pay10 x) (k0_pay11 x) (k0_pay12 x) = i at hr ⊢
  generalize k0_pay17 (F := Ideal) g d = q at hq ⊢
  unfold k0_pay29 k0_pay19 k0_pay20 k0_pay21 k0_pay26 k0_pay27 k0_pay28 k0_pay25 k0_pay24 k0_pay23 k0_pay22
  pointwise
  simp only [hp, hn, hr, hq, three_parts, pay7_at, lit_64th]
  refine (congrArg (fun z => _ * (_ - _ * (z * _))) (quarters (fun k => D k * G k * (U k * rin U k)) l)).trans ?_
  simp only [← EReal.coe_mul, ← EReal.coe_sub]
  rfl

theorem dgain_q (l : Fin 512) (hx : ∀ r : Fin 256, ∀ k : Fin 512, x (ix2 r k) = ((X r.val k.val : ℝ) : EReal)) :
    k0_pay16 (F := Ideal) k0_pay7 (k0_pay8 x) (k0_pay9 x) (k0_pay10 x) (k0_pay11 x) (k0_pay12 x) d a (ix2 0 l)
      = a (ix2 0 l) + ∑ r : Fin 256, d (ix2 r l) * ((X r.val l.val * rin (X r.val) l.val : ℝ) : EReal) := by
  have hn := fun r => norm_q x (X r.val) r (hx r) l
  unfold k0_pay16 k0_pay15
  pointwise
  simp only [hn]

abbrev rmsK := k0_pay38 (F := Ideal) k0_pay7 (k0_pay31 x) (k0_pay32 k0_pay7 x) (k0_pay33 k0_pay7 x) (k0_pay35 x) (k0_pay36 x) (k0_pay37 x)

abbrev normK := k0_pay39 (F := Ideal) k0_pay7 (k0_pay30 x) (k0_pay31 x) (k0_pay32 k0_pay7 x) (k0_pay33 k0_pay7 x) (k0_pay35 x) (k0_pay36 x) (k0_pay37 x)

abbrev prodK := k0_pay43 (F := Ideal) k0_pay7 g (k0_pay30 x) (k0_pay31 x) (k0_pay32 k0_pay7 x) (k0_pay33 k0_pay7 x) (k0_pay35 x) (k0_pay36 x) (k0_pay37 x) d

theorem rms_k (hx : ∀ k : Fin 512, x (ix2 r k) = ((U k.val : ℝ) : EReal)) (l : Fin 512) : rmsK x (ix2 r l) = ((rin U l.val : ℝ) : EReal) := by
  unfold rmsK k0_pay38 k0_pay37 k0_pay36 k0_pay35 k0_pay34 k0_pay33 k0_pay32 k0_pay31 k0_pay30
  pointwise
  simp only [hx, ← EReal.coe_mul, three_parts, pay7_at, lit_64th, lit_eps]
  refine (congrArg (fun z => Ideal.rsqrt (z * _ + _)) (quarters (fun k => U k * U k) l)).trans ?_
  rw [← EReal.coe_mul, ← EReal.coe_add, Reals.rsqrt_real _ (hsum_nonneg U _)]
  rfl

theorem norm_k (hx : ∀ k : Fin 512, x (ix2 r k) = ((U k.val : ℝ) : EReal)) (l : Fin 512) :
    normK x (ix2 r l) = ((U l.val * rin U l.val : ℝ) : EReal) := by
  have := rms_k x U r hx l
  unfold rmsK at this
  unfold normK k0_pay39 k0_pay30
  pointwise
  rw [hx, this, EReal.coe_mul]

theorem dn_k (hd : ∀ k : Fin 512, d (ix2 r k) = ((D k.val : ℝ) : EReal)) (hg : ∀ k : Fin 512, g (ix2 0 k) = ((G k.val : ℝ) : EReal)) (l : Fin 512) :
    k0_pay42 (F := Ideal) g d (ix2 r l) = ((D l.val * G l.val : ℝ) : EReal) := by
  unfold k0_pay42 k0_pay40
  pointwise
  rw [hd, hg, EReal.coe_mul]

theorem prod_k (hx : ∀ k : Fin 512, x (ix2 r k) = ((U k.val : ℝ) : EReal)) (hd : ∀ k : Fin 512, d (ix2 r k) = ((D k.val : ℝ) : EReal))
    (hg : ∀ k : Fin 512, g (ix2 0 k) = ((G k.val : ℝ) : EReal)) (l : Fin 512) :
    prodK x d g (ix2 r l) = ((D l.val * G l.val * (U l.val * rin U l.val) : ℝ) : EReal) := by
  have h1 := norm_k x U r hx l
  unfold normK at h1
  unfold prodK k0_pay43
  pointwise
  rw [dn_k d g D G r hd hg, h1, ← EReal.coe_mul]

theorem du_k (hx : ∀ k : Fin 512, x (ix2 r k) = ((U k.val : ℝ) : EReal)) (hd : ∀ k : Fin 512, d (ix2 r k) = ((D k.val : ℝ) : EReal))
    (hg : ∀ k : Fin 512, g (ix2 0 k) = ((G k.val : ℝ) : EReal)) (l : Fin 512) :
    k0_pay51 (F := Ideal) (rmsK x) (normK x) (k0_pay42 g d)
      (k0_pay47 k0_pay7
        (k0_pay45 k0_pay7 g (k0_pay30 x) (k0_pay31 x) (k0_pay32 k0_pay7 x) (k0_pay33 k0_pay7 x) (k0_pay35 x) (k0_pay36 x) (k0_pay37 x) d)
        (k0_pay46 k0_pay7 g (k0_pay30 x) (k0_pay31 x) (k0_pay32 k0_pay7 x) (k0_pay33 k0_pay7 x) (k0_pay35 x) (k0_pay36 x) (k0_pay37 x) d))
      (k0_pay48 k0_pay7 (prodK x d g)) (k0_pay49 k0_pay7 (prodK x d g)) (k0_pay50 k0_pay7 (prodK x d g)) (ix2 r l)
      = ((dnorm G D U l.val : ℝ) : EReal) := by
  have hp := prod_k x d g U D G r hx hd hg
  have hn := norm_k x U r hx
  have hr := rms_k x U r hx
  have hq := dn_k d g D G r hd hg
  unfold k0_pay45 k0_pay46 k0_pay45 k0_pay44
  unfold prodK at hp ⊢
  generalize k0_pay43 (F := Ideal) k0_pay7 g (k0_pay30 x) (k0_pay31 x) (k0_pay32 k0_pay7 x) (k0_pay33 k0_pay7 x) (k0_pay35 x) (k0_pay36 x) (k0_pay37 x) d = v at hp ⊢
  generalize normK x = n at hn ⊢
  generalize rmsK x = i at hr ⊢
  generalize k0_pay42 (F := Ideal) g d = q at hq ⊢
  unfold k0_pay51 k0_pay47 k0_pay48 k0_pay49 k0_pay50
  pointwise
  simp only [hp, hn, hr, hq, three_parts, pay7_at, lit_64th]
  refine (congrArg (fun z => _ * (_ - _ * (z * _))) (quarters (fun k => D k * G k * (U k * rin U k)) l)).trans ?_
  simp only [← EReal.coe_mul, ← EReal.coe_sub]
  rfl

theorem dgain_k (l : Fin 512) (hx : ∀ r : Fin 256, ∀ k : Fin 512, x (ix2 r k) = ((X r.val k.val : ℝ) : EReal)) :
    k0_pay41 (F := Ideal) k0_pay7 (k0_pay30 x) (k0_pay31 x) (k0_pay32 k0_pay7 x) (k0_pay33 k0_pay7 x) (k0_pay35 x) (k0_pay36 x) (k0_pay37 x) d a (ix2 0 l)
      = a (ix2 0 l) + ∑ r : Fin 256, d (ix2 r l) * ((X r.val l.val * rin (X r.val) l.val : ℝ) : EReal) := by
  have hn := fun r => norm_k x (X r.val) r (hx r) l
  unfold normK at hn
  unfold k0_pay41 k0_pay40
  pointwise
  simp only [hn]
end

section
variable (dc : Vec Ideal S256x128 .f32) (ca : Vec Ideal S1x128 .f32) (C : ℕ → ℝ) (r : Fin 256) (l : Fin 128)

/-- The sum from a row to the tile's last row, over what the rows below the tile left. -/
theorem suffix_at (hc : ∀ k : Fin 256, dc (ix2 k l) = ((C k.val : ℝ) : EReal)) :
    k0_pay55 (F := Ideal) dc ca (ix2 r l) = ((∑ k ∈ Finset.range 256, if r.val ≤ k then C k else 0 : ℝ) : EReal) + ca (ix2 0 l) := by
  unfold k0_pay55 k0_pay54
  pointwise
  simp only [hc, three_parts', upper_at]
  congr 1
  rw [← Fin.sum_univ_eq_sum_range (fun k => if r.val ≤ k then C k else 0), ← Reals.sum_coe]
  exact Finset.sum_congr rfl fun k _ => by split <;> simp

theorem carry_at : k0_pay56 (F := Ideal) (k0_pay54 dc) ca (ix2 0 l) = ca (ix2 0 l) + ∑ k : Fin 256, dc (ix2 k l) := by
  unfold k0_pay56 k0_pay54
  pointwise

theorem lane_bits : ∀ l : Fin 128, IntOp.cmpi CmpIPredicate.slt (BitVec.ofNat 32 l.val) 8#32 = if l.val < 8 then 1#1 else 0#1 := by
  decide +kernel

/-- The forget gate's gradient at a row and column, nought outside the eight heads' columns. -/
theorem gate_at (v : FVec Ideal S256x128 .f32) (u : Vec Ideal S256x128 .f32) (b : Vec Ideal S1x128 .f32) :
    k0_pay57 (F := Ideal) (iota .tc S1x128 32 [1] iota_S1x128_d1_w32) v u b (ix2 r l)
      = if l.val < 8 then v (ix2 r l) * (1 - Ideal.div 1 (1 + Ideal.exp (0 - (u (ix2 r l) + b (ix2 0 l))))) else 0 := by
  unfold k0_pay57
  pointwise
  rw [lane_bits]
  split <;> simp [Scalar.select]

theorem dbias_at (v : FVec Ideal S256x128 .f32) (u : Vec Ideal S256x128 .f32) (b a : Vec Ideal S1x128 .f32) :
    k0_pay58 (F := Ideal) (iota .tc S1x128 32 [1] iota_S1x128_d1_w32) v u b a (ix2 0 l)
      = a (ix2 0 l) + ∑ r : Fin 256, k0_pay57 (F := Ideal) (iota .tc S1x128 32 [1] iota_S1x128_d1_w32) v u b (ix2 r l) := by
  unfold k0_pay58
  pointwise

theorem dw_at (a : Vec Ideal S1024x2176 .f32) (ht : Vec Ideal S1024x256 .bf16) (du : Vec Ideal S256x2176 .f32) (i : Fin 1024) (j : Fin 2176) :
    k0_pay1 (F := Ideal) a ht du (ix2 i j) = a (ix2 i j) + ∑ r : Fin 256, ht (ix2 i r) * du (ix2 r j) := by
  unfold k0_pay1
  pointwise
end
end Cert.Fox
-- ==== Proof.FoxInputs.lean ====
/-
  What the fox preparation's backward kernel reads: the arrays the host prepares, and the blocks of them a grid point
  sees. The points go through the row blocks from the last to the first.
-/
module

public import proofs.«01_k».proof.Proof.FoxPoint
public import Idealize.ShloMosaic.Lib.Pipeline.ValueKit

@[expose] public section

set_option maxRecDepth 16384

noncomputable section

namespace Cert.Fox

open Cert.Kernel2Ideal Cert.Kernel2Ideal.Gen Idealize.ShloMosaic Idealize.ShloMosaic.TcCoe Idealize.SL.Sem Cert.Heads

variable (m : (ℓ : Loc nD τ sig) → Buf (Elt Ideal) ℓ) (c : Dev nD)

abbrev aH : FVec Ideal S1x2048x1024 .f32 := m ((c : Thread nD τ).loc main_arg0)
abbrev aW : FVec Ideal S1024x2056 .f32 := m ((c : Thread nD τ).loc main_arg1)
abbrev aB : FVec Ideal S1x8 .f32 := m ((c : Thread nD τ).loc main_arg2)
abbrev aQG : FVec Ideal S1x64 .f32 := m ((c : Thread nD τ).loc main_arg3)
abbrev aKG : FVec Ideal S1x64 .f32 := m ((c : Thread nD τ).loc main_arg4)
abbrev aDQ : FVec Ideal S1x8x2048x64 .f32 := m ((c : Thread nD τ).loc main_arg5)
abbrev aDK : FVec Ideal S1x8x2048x64 .f32 := m ((c : Thread nD τ).loc main_arg6)
abbrev aDV : FVec Ideal S1x8x2048x64 .f32 := m ((c : Thread nD τ).loc main_arg7)
abbrev aDG : FVec Ideal S1x2048x512 .f32 := m ((c : Thread nD τ).loc main_arg8)
abbrev aDC : FVec Ideal S1x8x2048 .f32 := m ((c : Thread nD τ).loc main_arg9)

theorem N8 : cfg0.N = 8 := by decide +kernel

/-- Row `r` of the row block that point `t` works on. -/
abbrev row (t : Fin cfg0.N) (r : Fin 256) : Fin 2048 := ⟨256 * (7 - t.val) + r.val, by omega⟩

theorem V_v12 (r : Fin 2048) (k : Fin 2176) : V m c main_v12 (ix2 r k) = (∑ i : Fin 1024, aH m c (ix3 0 r i) * (if h : k.val < 2056 then aW m c (ix2 i ⟨k.val, h⟩) else 0) : EReal) := by
  show StableHlo.after (List.flatten [hostOps0, hostOps0_1, hostOps0_2, hostOps0_3, hostOps0_4]) (fun b => m (c, b)) main_v12 _ = _
  unfold hostOps0 hostOps0_1 hostOps0_2 hostOps0_3 hostOps0_4
  simp only [List.flatten_cons, List.flatten_nil, List.append_nil, List.cons_append, List.nil_append]
  after_results
  pointwise
  try rfl

theorem V_v16 (r : Fin 1024) (k : Fin 2048) : V m c main_v16 (ix2 r k) = (aH m c (ix3 0 k r) : EReal) := by
  show StableHlo.after (List.flatten [hostOps0, hostOps0_1, hostOps0_2, hostOps0_3, hostOps0_4]) (fun b => m (c, b)) main_v16 _ = _
  unfold hostOps0 hostOps0_1 hostOps0_2 hostOps0_3 hostOps0_4
  simp only [List.flatten_cons, List.flatten_nil, List.append_nil, List.cons_append, List.nil_append]
  after_results
  pointwise
  try rfl

theorem V_v18 (r : Fin 2048) (k : Fin 512) : V m c main_v18 (ix2 r k) = (aDQ m c (ix4 0 ⟨k.val / 64, by omega⟩ r ⟨k.val % 64, by omega⟩) : EReal) := by
  show StableHlo.after (List.flatten [hostOps0, hostOps0_1, hostOps0_2, hostOps0_3, hostOps0_4]) (fun b => m (c, b)) main_v18 _ = _
  unfold hostOps0 hostOps0_1 hostOps0_2 hostOps0_3 hostOps0_4
  simp only [List.flatten_cons, List.flatten_nil, List.append_nil, List.cons_append, List.nil_append]
  after_results
  pointwise
  try rfl

theorem V_v20 (r : Fin 2048) (k : Fin 512) : V m c main_v20 (ix2 r k) = (aDK m c (ix4 0 ⟨k.val / 64, by omega⟩ r ⟨k.val % 64, by omega⟩) : EReal) := by
  show StableHlo.after (List.flatten [hostOps0, hostOps0_1, hostOps0_2, hostOps0_3, hostOps0_4]) (fun b => m (c, b)) main_v20 _ = _
  unfold hostOps0 hostOps0_1 hostOps0_2 hostOps0_3 hostOps0_4
  simp only [List.flatten_cons, List.flatten_nil, List.append_nil, List.cons_append, List.nil_append]
  after_results
  pointwise
  try rfl

theorem V_v22 (r : Fin 2048) (k : Fin 512) : V m c main_v22 (ix2 r k) = (aDV m c (ix4 0 ⟨k.val / 64, by omega⟩ r ⟨k.val % 64, by omega⟩) : EReal) := by
  show StableHlo.after (List.flatten [hostOps0, hostOps0_1, hostOps0_2, hostOps0_3, hostOps0_4]) (fun b => m (c, b)) main_v22 _ = _
  unfold hostOps0 hostOps0_1 hostOps0_2 hostOps0_3 hostOps0_4
  simp only [List.flatten_cons, List.flatten_nil, List.append_nil, List.cons_append, List.nil_append]
  after_results
  pointwise
  try rfl

theorem V_v23 (r : Fin 2048) (k : Fin 512) : V m c main_v23 (ix2 r k) = (aDG m c (ix3 0 r k) : EReal) := by
  show StableHlo.after (List.flatten [hostOps0, hostOps0_1, hostOps0_2, hostOps0_3, hostOps0_4]) (fun b => m (c, b)) main_v23 _ = _
  unfold hostOps0 hostOps0_1 hostOps0_2 hostOps0_3 hostOps0_4
  simp only [List.flatten_cons, List.flatten_nil, List.append_nil, List.cons_append, List.nil_append]
  after_results
  pointwise
  try rfl

theorem V_v15 (r : Fin 2048) (k : Fin 128) : V m c main_v15 (ix2 r k) = (if h : k.val < 8 then aDC m c (ix3 0 ⟨k.val, h⟩ r) else 0 : EReal) := by
  show StableHlo.after (List.flatten [hostOps0, hostOps0_1, hostOps0_2, hostOps0_3, hostOps0_4]) (fun b => m (c, b)) main_v15 _ = _
  unfold hostOps0 hostOps0_1 hostOps0_2 hostOps0_3 hostOps0_4
  simp only [List.flatten_cons, List.flatten_nil, List.append_nil, List.cons_append, List.nil_append]
  after_results
  show pad S2048x128 ![0, 0] ![0, 120] ![0, 0] (transpose S2048x8 [1, 0] (shapeCast S8x2048 (aDC m c) shapeCasts_S1x8x2048_S8x2048) transposes_S8x2048_S2048x8_1_0)
    (sitofp (F := Ideal) .f32 (constantI S_ 32 0#32)) pads_S2048x8_S2048x128_000_01200 h_S_ _ = _
  pointwise
  simp [FloatOps.sitofp]

theorem V_v5 (r : Fin 1) (k : Fin 128) : V m c main_v5 (ix2 r k) = (if h : k.val < 8 then aB m c (ix2 0 ⟨k.val, h⟩) else 0 : EReal) := by
  show StableHlo.after (List.flatten [hostOps0, hostOps0_1, hostOps0_2, hostOps0_3, hostOps0_4]) (fun b => m (c, b)) main_v5 _ = _
  unfold hostOps0 hostOps0_1 hostOps0_2 hostOps0_3 hostOps0_4
  simp only [List.flatten_cons, List.flatten_nil, List.append_nil, List.cons_append, List.nil_append]
  after_results
  show pad S1x128 ![0, 0] ![0, 120] ![0, 0] (aB m c) (sitofp (F := Ideal) .f32 (constantI S_ 32 0#32)) pads_S1x8_S1x128_000_01200 h_S_ _ = _
  pointwise
  simp [FloatOps.sitofp]

theorem V_v8 (r : Fin 1) (k : Fin 512) : V m c main_v8 (ix2 r k) = (aQG m c (ix2 0 ⟨k.val % 64, by omega⟩) : EReal) := by
  show StableHlo.after (List.flatten [hostOps0, hostOps0_1, hostOps0_2, hostOps0_3, hostOps0_4]) (fun b => m (c, b)) main_v8 _ = _
  unfold hostOps0 hostOps0_1 hostOps0_2 hostOps0_3 hostOps0_4
  simp only [List.flatten_cons, List.flatten_nil, List.append_nil, List.cons_append, List.nil_append]
  after_results
  pointwise
  try rfl

theorem V_v11 (r : Fin 1) (k : Fin 512) : V m c main_v11 (ix2 r k) = (aKG m c (ix2 0 ⟨k.val % 64, by omega⟩) : EReal) := by
  show StableHlo.after (List.flatten [hostOps0, hostOps0_1, hostOps0_2, hostOps0_3, hostOps0_4]) (fun b => m (c, b)) main_v11 _ = _
  unfold hostOps0 hostOps0_1 hostOps0_2 hostOps0_3 hostOps0_4
  simp only [List.flatten_cons, List.flatten_nil, List.append_nil, List.cons_append, List.nil_append]
  after_results
  pointwise
  try rfl

theorem idx0 : ∀ t : Fin cfg0.N, win0_0.index t 0 = 7 - t.val ∧ win0_0.index t 1 = 0 :=
  (by decide +kernel : ∀ t : Fin grid0.N, win0_0.index t 0 = 7 - t.val ∧ win0_0.index t 1 = 0)

theorem iblk0 (t : Fin cfg0.N) (r : Fin 256) (k : Fin 2176) : iblk m c 0 t (ix2 r k) = V m c main_v12 (ix2 (row t r) k) := by
  unfold iblk
  rw [View.read_apply]
  show V m c main_v12 _ = V m c main_v12 _
  congr 1
  funext a
  apply Fin.ext
  match a with
  | ⟨0, _⟩ => show win0_0.index t 0 * 256 + 1 * r.val = 256 * (7 - t.val) + r.val; rw [(idx0 t).1]; omega
  | ⟨1, _⟩ => show win0_0.index t 1 * 2176 + 1 * k.val = k.val; rw [(idx0 t).2]; omega

theorem idx1 : ∀ t : Fin cfg0.N, win0_1.index t 0 = 0 ∧ win0_1.index t 1 = 7 - t.val :=
  (by decide +kernel : ∀ t : Fin grid0.N, win0_1.index t 0 = 0 ∧ win0_1.index t 1 = 7 - t.val)

theorem iblk1 (t : Fin cfg0.N) (r : Fin 1024) (k : Fin 256) : iblk m c 1 t (ix2 r k) = V m c main_v16 (ix2 r (row t k)) := by
  unfold iblk
  rw [View.read_apply]
  show V m c main_v16 _ = V m c main_v16 _
  congr 1
  funext a
  apply Fin.ext
  match a with
  | ⟨0, _⟩ => show win0_1.index t 0 * 1024 + 1 * r.val = r.val; rw [(idx1 t).1]; omega
  | ⟨1, _⟩ => show win0_1.index t 1 * 256 + 1 * k.val = 256 * (7 - t.val) + k.val; rw [(idx1 t).2]; omega

theorem idx2 : ∀ t : Fin cfg0.N, win0_2.index t 0 = 7 - t.val ∧ win0_2.index t 1 = 0 :=
  (by decide +kernel : ∀ t : Fin grid0.N, win0_2.index t 0 = 7 - t.val ∧ win0_2.index t 1 = 0)

theorem iblk2 (t : Fin cfg0.N) (r : Fin 256) (k : Fin 512) : iblk m c 2 t (ix2 r k) = V m c main_v18 (ix2 (row t r) k) := by
  unfold iblk
  rw [View.read_apply]
  show V m c main_v18 _ = V m c main_v18 _
  congr 1
  funext a
  apply Fin.ext
  match a with
  | ⟨0, _⟩ => show win0_2.index t 0 * 256 + 1 * r.val = 256 * (7 - t.val) + r.val; rw [(idx2 t).1]; omega
  | ⟨1, _⟩ => show win0_2.index t 1 * 512 + 1 * k.val = k.val; rw [(idx2 t).2]; omega

theorem idx3 : ∀ t : Fin cfg0.N, win0_3.index t 0 = 7 - t.val ∧ win0_3.index t 1 = 0 :=
  (by decide +kernel : ∀ t : Fin grid0.N, win0_3.index t 0 = 7 - t.val ∧ win0_3.index t 1 = 0)

theorem iblk3 (t : Fin cfg0.N) (r : Fin 256) (k : Fin 512) : iblk m c 3 t (ix2 r k) = V m c main_v20 (ix2 (row t r) k) := by
  unfold iblk
  rw [View.read_apply]
  show V m c main_v20 _ = V m c main_v20 _
  congr 1
  funext a
  apply Fin.ext
  match a with
  | ⟨0, _⟩ => show win0_3.index t 0 * 256 + 1 * r.val = 256 * (7 - t.val) + r.val; rw [(idx3 t).1]; omega
  | ⟨1, _⟩ => show win0_3.index t 1 * 512 + 1 * k.val = k.val; rw [(idx3 t).2]; omega

theorem idx4 : ∀ t : Fin cfg0.N, win0_4.index t 0 = 7 - t.val ∧ win0_4.index t 1 = 0 :=
  (by decide +kernel : ∀ t : Fin grid0.N, win0_4.index t 0 = 7 - t.val ∧ win0_4.index t 1 = 0)

theorem iblk4 (t : Fin cfg0.N) (r : Fin 256) (k : Fin 512) : iblk m c 4 t (ix2 r k) = V m c main_v22 (ix2 (row t r) k) := by
  unfold iblk
  rw [View.read_apply]
  show V m c main_v22 _ = V m c main_v22 _
  congr 1
  funext a
  apply Fin.ext
  match a with
  | ⟨0, _⟩ => show win0_4.index t 0 * 256 + 1 * r.val = 256 * (7 - t.val) + r.val; rw [(idx4 t).1]; omega
  | ⟨1, _⟩ => show win0_4.index t 1 * 512 + 1 * k.val = k.val; rw [(idx4 t).2]; omega

theorem idx5 : ∀ t : Fin cfg0.N, win0_5.index t 0 = 7 - t.val ∧ win0_5.index t 1 = 0 :=
  (by decide +kernel : ∀ t : Fin grid0.N, win0_5.index t 0 = 7 - t.val ∧ win0_5.index t 1 = 0)

theorem iblk5 (t : Fin cfg0.N) (r : Fin 256) (k : Fin 512) : iblk m c 5 t (ix2 r k) = V m c main_v23 (ix2 (row t r) k) := by
  unfold iblk
  rw [View.read_apply]
  show V m c main_v23 _ = V m c main_v23 _
  congr 1
  funext a
  apply Fin.ext
  match a with
  | ⟨0, _⟩ => show win0_5.index t 0 * 256 + 1 * r.val = 256 * (7 - t.val) + r.val; rw [(idx5 t).1]; omega
  | ⟨1, _⟩ => show win0_5.index t 1 * 512 + 1 * k.val = k.val; rw [(idx5 t).2]; omega

theorem idx6 : ∀ t : Fin cfg0.N, win0_6.index t 0 = 7 - t.val ∧ win0_6.index t 1 = 0 :=
  (by decide +kernel : ∀ t : Fin grid0.N, win0_6.index t 0 = 7 - t.val ∧ win0_6.index t 1 = 0)

theorem iblk6 (t : Fin cfg0.N) (r : Fin 256) (k : Fin 128) : iblk m c 6 t (ix2 r k) = V m c main_v15 (ix2 (row t r) k) := by
  unfold iblk
  rw [View.read_apply]
  show V m c main_v15 _ = V m c main_v15 _
  congr 1
  funext a
  apply Fin.ext
  match a with
  | ⟨0, _⟩ => show win0_6.index t 0 * 256 + 1 * r.val = 256 * (7 - t.val) + r.val; rw [(idx6 t).1]; omega
  | ⟨1, _⟩ => show win0_6.index t 1 * 128 + 1 * k.val = k.val; rw [(idx6 t).2]; omega

theorem idx7 : ∀ t : Fin cfg0.N, win0_7.index t 0 = 0 ∧ win0_7.index t 1 = 0 :=
  (by decide +kernel : ∀ t : Fin grid0.N, win0_7.index t 0 = 0 ∧ win0_7.index t 1 = 0)

theorem iblk7 (t : Fin cfg0.N) (r : Fin 1) (k : Fin 128) : iblk m c 7 t (ix2 r k) = V m c main_v5 (ix2 r k) := by
  unfold iblk
  rw [View.read_apply]
  show V m c main_v5 _ = V m c main_v5 _
  congr 1
  funext a
  apply Fin.ext
  match a with
  | ⟨0, _⟩ => show win0_7.index t 0 * 1 + 1 * r.val = r.val; rw [(idx7 t).1]; omega
  | ⟨1, _⟩ => show win0_7.index t 1 * 128 + 1 * k.val = k.val; rw [(idx7 t).2]; omega

theorem idx8 : ∀ t : Fin cfg0.N, win0_8.index t 0 = 0 ∧ win0_8.index t 1 = 0 :=
  (by decide +kernel : ∀ t : Fin grid0.N, win0_8.index t 0 = 0 ∧ win0_8.index t 1 = 0)

theorem iblk8 (t : Fin cfg0.N) (r : Fin 1) (k : Fin 512) : iblk m c 8 t (ix2 r k) = V m c main_v8 (ix2 r k) := by
  unfold iblk
  rw [View.read_apply]
  show V m c main_v8 _ = V m c main_v8 _
  congr 1
  funext a
  apply Fin.ext
  match a with
  | ⟨0, _⟩ => show win0_8.index t 0 * 1 + 1 * r.val = r.val; rw [(idx8 t).1]; omega
  | ⟨1, _⟩ => show win0_8.index t 1 * 512 + 1 * k.val = k.val; rw [(idx8 t).2]; omega

theorem idx9 : ∀ t : Fin cfg0.N, win0_9.index t 0 = 0 ∧ win0_9.index t 1 = 0 :=
  (by decide +kernel : ∀ t : Fin grid0.N, win0_9.index t 0 = 0 ∧ win0_9.index t 1 = 0)

theorem iblk9 (t : Fin cfg0.N) (r : Fin 1) (k : Fin 512) : iblk m c 9 t (ix2 r k) = V m c main_v11 (ix2 r k) := by
  unfold iblk
  rw [View.read_apply]
  show V m c main_v11 _ = V m c main_v11 _
  congr 1
  funext a
  apply Fin.ext
  match a with
  | ⟨0, _⟩ => show win0_9.index t 0 * 1 + 1 * r.val = r.val; rw [(idx9 t).1]; omega
  | ⟨1, _⟩ => show win0_9.index t 1 * 512 + 1 * k.val = k.val; rw [(idx9 t).2]; omega

end Cert.Fox

end
-- ==== Proof.FoxKernel.lean ====
/-
  What the fox preparation's backward kernel leaves in its results, at real entries: the gradient at the projected rows,
  row by row, and the sums over all rows that the points add up from the last row block to the first.
-/
module

public import proofs.«01_k».proof.Proof.FoxInputs

@[expose] public section

set_option maxRecDepth 16384

noncomputable section

namespace Cert.Fox

open Cert.Kernel2Ideal Cert.Kernel2Ideal.Gen Idealize.ShloMosaic Idealize.ShloMosaic.TcCoe Idealize.SL.Sem Cert.Heads

variable (m : (ℓ : Loc nD τ sig) → Buf (Elt Ideal) ℓ) (c : Dev nD)

abbrev blkC (t : Fin cfg0.N) : Vec Ideal S256x128 .f32 := iblk m c 6 t

theorem ld_cols {n : ℕ} {o : ℕ} (f : Vec Ideal S256x2176 .f32) (h : ∀ a, (![0, o] : Fin 2 → ℕ) a + (![256, n] : Fin 2 → ℕ) a ≤ S256x2176.size a)
    (r : Fin 256) (l : Fin n) (hl : o + l.val < 2176) :
    View.ld f (Rect.unit (s := S256x2176) ![0, o] ![256, n] h) (ix2 r l) = f (ix2 r ⟨o + l.val, hl⟩) := by
  show f _ = f _
  congr 1
  funext a
  apply Fin.ext
  match a with
  | ⟨0, _⟩ => show 0 + 1 * r.val = r.val; omega
  | ⟨1, _⟩ => show o + 1 * l.val = o + l.val; omega

/-- What a point finds in the carried row: what the point before left, zeros at the first. -/
def carryIn (t : Fin cfg0.N) : Vec Ideal S1x128 .f32 :=
  if t.val % 8 = 0 then k0_pay2 (F := Ideal) else (outsAt0 m c (t.val - 1) (by omega)).2.2.2.2.2

/-- The numbers the arguments hold. -/
structure Holds (U DQ DK : ℕ → ℕ → ℝ) (C : ℕ → ℕ → ℝ) (B QG KG : ℕ → ℝ) : Prop where
  u : ∀ (r : Fin 2048) (k : Fin 2176), V m c main_v12 (ix2 r k) = ((U r.val k.val : ℝ) : EReal)
  dq : ∀ (r : Fin 2048) (k : Fin 512), V m c main_v18 (ix2 r k) = ((DQ r.val k.val : ℝ) : EReal)
  dk : ∀ (r : Fin 2048) (k : Fin 512), V m c main_v20 (ix2 r k) = ((DK r.val k.val : ℝ) : EReal)
  dc : ∀ (r : Fin 2048) (k : Fin 128), V m c main_v15 (ix2 r k) = ((C k.val r.val : ℝ) : EReal)
  b : ∀ k : Fin 128, V m c main_v5 (ix2 0 k) = ((B k.val : ℝ) : EReal)
  qg : ∀ k : Fin 512, V m c main_v8 (ix2 0 k) = ((QG k.val : ℝ) : EReal)
  kg : ∀ k : Fin 512, V m c main_v11 (ix2 0 k) = ((KG k.val : ℝ) : EReal)

section
variable {m} {c} {U DQ DK C : ℕ → ℕ → ℝ} {B QG KG : ℕ → ℝ} (H : Holds m c U DQ DK C B QG KG)
include H

theorem carryIn_eq : ∀ (n : ℕ) (hn : n < cfg0.N) (l : Fin 128),
    carryIn m c ⟨n, hn⟩ (ix2 0 l) = ((∑ k ∈ Finset.Ico (256 * (8 - n)) 2048, C l.val k : ℝ) : EReal) := by
  intro n
  induction n with
  | zero =>
    intro hn l
    unfold carryIn
    rw [if_pos (by simp)]
    unfold k0_pay2
    pointwise
    simp
  | succ n ih =>
    intro hn l
    have hN := N8
    have hmod : ¬ (n + 1) % 8 = 0 := by omega
    have key : (outsAt0 m c n (by omega)).2.2.2.2.2 (ix2 0 l)
        = (carryIn m c ⟨n, by omega⟩ (ix2 0 l) + ∑ r : Fin 256, blkC m c ⟨n, by omega⟩ (ix2 r l) : EReal) := by
      unfold carryIn
      by_cases hz : n % 8 = 0
      · rw [if_pos hz]
        have e : (outsAt0 m c n (by omega)).2.2.2.2.2 = k0_pay56 (k0_pay54 (blkC m c ⟨n, by omega⟩)) (k0_pay2 (F := Ideal)) := by
          rw [show outsAt0 m c n _ = _ from outsAt0_A m c ⟨n, by omega⟩ hz]; frame_out
        exact (congrFun e _).trans (carry_at _ _ _)
      · rw [if_neg hz]
        have e : (outsAt0 m c n (by omega)).2.2.2.2.2 = k0_pay56 (k0_pay54 (blkC m c ⟨n, by omega⟩)) (outsAt0 m c (n - 1) (by omega)).2.2.2.2.2 := by
          rw [show outsAt0 m c n _ = _ from outsAt0_B m c ⟨n, by omega⟩ hz]; frame_out
          rw [(Memref.isWhole_whole _).read_unread]
        exact (congrFun e _).trans (carry_at _ _ _)
    have e : carryIn m c ⟨n + 1, hn⟩ = (outsAt0 m c n (by omega)).2.2.2.2.2 := if_neg hmod
    rw [e, key, ih (by omega) l]
    have hs : ∀ r : Fin 256, iblk m c 6 ⟨n, by omega⟩ (ix2 r l) = ((C l.val (256 * (7 - n) + r.val) : ℝ) : EReal) := fun r =>
      (iblk6 m c _ r l).trans (H.dc _ _)
    rw [show (∑ r : Fin 256, blkC m c ⟨n, by omega⟩ (ix2 r l) : EReal) = _ from Finset.sum_congr rfl fun r _ => hs r, Reals.sum_coe, ← EReal.coe_add, Fin.sum_univ_eq_sum_range (fun k => C l.val (256 * (7 - n) + k))]
    congr 1
    rw [show 256 * (8 - (n + 1)) = 256 * (7 - n) by omega, show 256 * (8 - n) = 256 * (7 - n) + 256 by omega,
      ← Finset.sum_Ico_consecutive _ (show 256 * (7 - n) ≤ 256 * (7 - n) + 256 by omega) (show 256 * (7 - n) + 256 ≤ 2048 by omega),
      add_comm]
    congr 1
    rw [Finset.sum_Ico_eq_sum_range, Nat.add_sub_cancel_left]

/-- The gradient at the running sum's terms: the sum over the rows from `r` on. -/
theorem suffix_eq (t : Fin cfg0.N) (r : Fin 256) (l : Fin 128) :
    k0_pay55 (F := Ideal) (iblk m c 6 t) (carryIn m c t) (ix2 r l) = ((∑ k ∈ Finset.Ico (row t r).val 2048, C l.val k : ℝ) : EReal) := by
  have hN := N8
  have hc : ∀ k : Fin 256, iblk m c 6 t (ix2 k l) = (((fun k => C l.val (256 * (7 - t.val) + k)) k.val : ℝ) : EReal) := fun k =>
    (iblk6 m c _ k l).trans (H.dc _ _)
  rw [suffix_at _ _ (fun k => C l.val (256 * (7 - t.val) + k)) _ _ hc, carryIn_eq H t.val t.isLt l, ← EReal.coe_add]
  congr 1
  have ht : t.val ≤ 7 := by omega
  show _ = ∑ k ∈ Finset.Ico (256 * (7 - t.val) + r.val) 2048, C l.val k
  rw [show 256 * (8 - t.val) = 256 * (7 - t.val) + 256 by omega,
    ← Finset.sum_Ico_consecutive _ (show 256 * (7 - t.val) + r.val ≤ 256 * (7 - t.val) + 256 by omega) (show 256 * (7 - t.val) + 256 ≤ 2048 by omega),
    ← Finset.sum_filter]
  congr 1
  rw [Finset.sum_Ico_eq_sum_range, show 256 * (7 - t.val) + 256 - (256 * (7 - t.val) + r.val) = 256 - r.val by omega]
  rw [show (Finset.range 256).filter (fun k => r.val ≤ k) = Finset.Ico r.val 256 from by ext; simp [Finset.mem_Ico]; omega,
    Finset.sum_Ico_eq_sum_range]
  exact Finset.sum_congr rfl fun k _ => by rw [add_assoc]
end

/-- One less the sigmoid. -/
def gateFactor (x : EReal) : EReal := 1 - Ideal.div 1 (1 + Ideal.exp (0 - x))

/-- The gradient at the projected rows. -/
def duAt (U DQ DK C : ℕ → ℕ → ℝ) (B QG KG : ℕ → ℝ) (dv : FVec Ideal S1x8x2048x64 .f32) (dg : FVec Ideal S1x2048x512 .f32)
    (r : Fin 2048) (j : Fin 2176) : EReal :=
  if j.val < 512 then ((dnorm QG (DQ r.val) (U r.val) j.val : ℝ) : EReal)
  else if j.val < 1024 then ((dnorm KG (DK r.val) (fun k => U r.val (512 + k)) (j.val - 512) : ℝ) : EReal)
  else if h : j.val < 1536 then dv (ix4 0 ⟨(j.val - 1024) / 64, by omega⟩ r ⟨(j.val - 1024) % 64, by omega⟩)
  else if h : j.val < 2048 then dg (ix3 0 r ⟨j.val - 1536, by omega⟩)
  else if j.val < 2056 then ((∑ k ∈ Finset.Ico r.val 2048, C (j.val - 2048) k : ℝ) : EReal) * gateFactor (((U r.val j.val + B (j.val - 2048) : ℝ)) : EReal)
  else 0

section
variable (U DQ DK C : ℕ → ℕ → ℝ) (B QG KG : ℕ → ℝ) (dv : FVec Ideal S1x8x2048x64 .f32) (dg : FVec Ideal S1x2048x512 .f32) (r : Fin 2048) (l : Fin 512)

theorem duAt_q : duAt U DQ DK C B QG KG dv dg r ⟨l.val, by omega⟩ = ((dnorm QG (DQ r.val) (U r.val) l.val : ℝ) : EReal) := if_pos l.isLt

theorem duAt_k : duAt U DQ DK C B QG KG dv dg r ⟨512 + l.val, by omega⟩
    = ((dnorm KG (DK r.val) (fun k => U r.val (512 + k)) l.val : ℝ) : EReal) := by
  unfold duAt
  simp only [show ¬ 512 + l.val < 512 by omega, show 512 + l.val < 1024 by omega, if_false, if_true, Nat.add_sub_cancel_left]

theorem duAt_v : duAt U DQ DK C B QG KG dv dg r ⟨1024 + l.val, by omega⟩ = dv (ix4 0 ⟨l.val / 64, by omega⟩ r ⟨l.val % 64, by omega⟩) := by
  unfold duAt
  simp only [show ¬ 1024 + l.val < 512 by omega, show ¬ 1024 + l.val < 1024 by omega, show 1024 + l.val < 1536 by omega, if_false, dite_true, Nat.add_sub_cancel_left]

theorem duAt_g : duAt U DQ DK C B QG KG dv dg r ⟨1536 + l.val, by omega⟩ = dg (ix3 0 r l) := by
  unfold duAt
  simp only [show ¬ 1536 + l.val < 512 by omega, show ¬ 1536 + l.val < 1024 by omega, show ¬ 1536 + l.val < 1536 by omega,
    show 1536 + l.val < 2048 by omega, if_false, dite_true, dite_false, Nat.add_sub_cancel_left]
end

/-- A row of five stores side by side, read at a column. -/
theorem tiles_du (p0 : Vec Ideal S256x128 .f32) (p1 p2 p3 p4 : Vec Ideal S256x512 .f32) (r : Fin 256) (j : Fin 2176) (f : Fin 2176 → EReal)
    (h0 : ∀ l : Fin 128, p0 (ix2 r l) = f ⟨2048 + l.val, by omega⟩) (h1 : ∀ l : Fin 512, p1 (ix2 r l) = f ⟨1536 + l.val, by omega⟩)
    (h2 : ∀ l : Fin 512, p2 (ix2 r l) = f ⟨1024 + l.val, by omega⟩) (h3 : ∀ l : Fin 512, p3 (ix2 r l) = f ⟨512 + l.val, by omega⟩)
    (h4 : ∀ l : Fin 512, p4 (ix2 r l) = f ⟨l.val, by omega⟩) :
    View.canon (Val := Elt Ideal) (s := S256x2176) (e := .f32) [⟨Rect.unit ![0, 2048] ![256, 128] inb_S256x2176_S256x128_0_2048, p0⟩,
      ⟨Rect.unit ![0, 1536] ![256, 512] inb_S256x2176_S256x512_0_1536, p1⟩, ⟨Rect.unit ![0, 1024] ![256, 512] inb_S256x2176_S256x512_0_1024, p2⟩,
      ⟨Rect.unit ![0, 512] ![256, 512] inb_S256x2176_S256x512_0_512, p3⟩, ⟨Rect.unit ![0, 0] ![256, 512] inb_S256x2176_S256x512_0_0, p4⟩] (ix2 r j) = f j := by
  have E : ∀ x : S256x512.Idx, ∃ (a : Fin 256) (b : Fin 512), x = ix2 a b := fun x => ⟨x 0, x 1, (ix2_eta x).symm⟩
  have E' : ∀ x : S256x128.Idx, ∃ (a : Fin 256) (b : Fin 128), x = ix2 a b := fun x => ⟨x 0, x 1, (ix2_eta x).symm⟩
  canon_tiles x hh using View.cover_of_tiledBy _ ![256, 128] (by sl_kernel_rfl) _
  · obtain ⟨a, b, rfl⟩ := E' x; obtain rfl : r = a := Fin.ext hh0; exact (h0 b).trans (congrArg f (Fin.ext (hh1.trans rfl).symm))
  · obtain ⟨a, b, rfl⟩ := E x; obtain rfl : r = a := Fin.ext hh0; exact (h1 b).trans (congrArg f (Fin.ext (hh1.trans rfl).symm))
  · obtain ⟨a, b, rfl⟩ := E x; obtain rfl : r = a := Fin.ext hh0; exact (h2 b).trans (congrArg f (Fin.ext (hh1.trans rfl).symm))
  · obtain ⟨a, b, rfl⟩ := E x; obtain rfl : r = a := Fin.ext hh0; exact (h3 b).trans (congrArg f (Fin.ext (hh1.trans rfl).symm))
  · obtain ⟨a, b, rfl⟩ := E x; obtain rfl : r = a := Fin.ext hh0; exact (h4 b).trans (congrArg f (Fin.ext (hh1.trans rfl).symm))

section
variable {m} {c} {U DQ DK C : ℕ → ℕ → ℝ} {B QG KG : ℕ → ℝ} (H : Holds m c U DQ DK C B QG KG) (t : Fin cfg0.N)
include H

theorem blk_u (r : Fin 256) (k : Fin 2176) : iblk m c 0 t (ix2 r k) = ((U (row t r).val k.val : ℝ) : EReal) := (iblk0 m c t r k).trans (H.u _ _)

theorem u_q (r : Fin 256) (k : Fin 512) (h) : View.ld (iblk m c 0 t) (Rect.unit (s := S256x2176) ![0, 0] ![256, 512] h) (ix2 r k)
    = ((U (row t r).val k.val : ℝ) : EReal) := by
  refine (ld_cols _ _ _ _ (by omega)).trans ?_
  rw [blk_u H]
  simp

theorem u_k (r : Fin 256) (k : Fin 512) (h) : View.ld (iblk m c 0 t) (Rect.unit (s := S256x2176) ![0, 512] ![256, 512] h) (ix2 r k)
    = ((U (row t r).val (512 + k.val) : ℝ) : EReal) :=
  (ld_cols _ _ _ _ (by omega)).trans (blk_u H t r _)

theorem u_f (r : Fin 256) (k : Fin 128) (h) : View.ld (iblk m c 0 t) (Rect.unit (s := S256x2176) ![0, 2048] ![256, 128] h) (ix2 r k)
    = ((U (row t r).val (2048 + k.val) : ℝ) : EReal) :=
  (ld_cols _ _ _ _ (by omega)).trans (blk_u H t r _)

theorem gate_eq (r : Fin 256) (l : Fin 128) (h) :
    k0_pay57 (F := Ideal) (iota .tc S1x128 32 [1] iota_S1x128_d1_w32) (k0_pay55 (iblk m c 6 t) (carryIn m c t))
      (View.ld (iblk m c 0 t) (Rect.unit (s := S256x2176) ![0, 2048] ![256, 128] h)) (iblk m c 7 t) (ix2 r l)
      = duAt U DQ DK C B QG KG (aDV m c) (aDG m c) (row t r) ⟨2048 + l.val, by omega⟩ := by
  rw [gate_at, suffix_eq H, u_f H, show iblk m c 7 t (ix2 0 l) = _ from (iblk7 m c t 0 l).trans (H.b l), ← EReal.coe_add]
  unfold duAt gateFactor
  simp only [show ¬ 2048 + l.val < 512 by omega, show ¬ 2048 + l.val < 1024 by omega, show ¬ 2048 + l.val < 1536 by omega,
    show ¬ 2048 + l.val < 2048 by omega, if_false, dif_neg, not_false_eq_true, show 2048 + l.val - 2048 = l.val by omega,
    show (2048 + l.val < 2056) = (l.val < 8) from propext (by omega)]

theorem du_point (r : Fin 256) (j : Fin 2176) :
    (outsAt0 m c t.val t.isLt).1 (ix2 r j) = duAt U DQ DK C B QG KG (aDV m c) (aDG m c) (row t r) j := by
  have G := gate_eq H t r
  have Q := fun (l : Fin 512) => du_q (View.ld (iblk m c 0 t) (Rect.unit ![0, 0] ![256, 512] inb_S256x2176_S256x512_0_0)) (iblk m c 2 t) (iblk m c 8 t)
    (U (row t r).val) (DQ (row t r).val) QG r (fun k => u_q H t r k _) (fun k => (iblk2 m c t r k).trans (H.dq _ _)) (fun k => (iblk8 m c t 0 k).trans (H.qg _)) l
  have K := fun (l : Fin 512) => du_k (View.ld (iblk m c 0 t) (Rect.unit ![0, 512] ![256, 512] inb_S256x2176_S256x512_0_512)) (iblk m c 3 t) (iblk m c 9 t)
    (fun k => U (row t r).val (512 + k)) (DK (row t r).val) KG r (fun k => u_k H t r k _) (fun k => (iblk3 m c t r k).trans (H.dk _ _)) (fun k => (iblk9 m c t 0 k).trans (H.kg _)) l
  have hV : ∀ l : Fin 512, k0_pay52 (iblk m c 4 t) (ix2 r l) = aDV m c (ix4 0 ⟨l.val / 64, by omega⟩ (row t r) ⟨l.val % 64, by omega⟩) := fun l => by
    unfold k0_pay52
    pointwise
    exact (iblk4 m c t r l).trans (V_v22 m c _ _)
  have hG : ∀ l : Fin 512, k0_pay53 (iblk m c 5 t) (ix2 r l) = aDG m c (ix3 0 (row t r) l) := fun l => by
    unfold k0_pay53
    pointwise
    exact (iblk5 m c t r l).trans (V_v23 m c _ _)
  unfold carryIn at G
  by_cases h : t.val % 8 = 0
  · simp only [if_pos h] at G
    rw [outsAt0_A m c t h]; frame_out
    exact tiles_du _ _ _ _ _ r j _ (fun l => G l _) (fun l => (hG l).trans (duAt_g ..).symm) (fun l => (hV l).trans (duAt_v ..).symm)
      (fun l => (K l).trans (duAt_k ..).symm) (fun l => (Q l).trans (duAt_q ..).symm)
  · simp only [if_neg h] at G
    rw [outsAt0_B m c t h]; frame_out
    rw [(Memref.isWhole_whole _).read_unread]
    exact tiles_du _ _ _ _ _ r j _ (fun l => G l _) (fun l => (hG l).trans (duAt_g ..).symm) (fun l => (hV l).trans (duAt_v ..).symm)
      (fun l => (K l).trans (duAt_k ..).symm) (fun l => (Q l).trans (duAt_q ..).symm)
/-- The block of `dq` at a point. -/
abbrev blkQ (m : (ℓ : Loc nD τ sig) → Buf (Elt Ideal) ℓ) (c : Dev nD) (t : Fin cfg0.N) : Vec Ideal S256x512 .f32 := iblk m c 2 t

/-- The block of `dk` at a point. -/
abbrev blkK (m : (ℓ : Loc nD τ sig) → Buf (Elt Ideal) ℓ) (c : Dev nD) (t : Fin cfg0.N) : Vec Ideal S256x512 .f32 := iblk m c 3 t

/-- The block of the transposed layer input at a point. -/
abbrev blkH (m : (ℓ : Loc nD τ sig) → Buf (Elt Ideal) ℓ) (c : Dev nD) (t : Fin cfg0.N) : Vec Ideal S1024x256 .f32 := iblk m c 1 t

/-- The block of `du` that a point writes. -/
abbrev blkU (m : (ℓ : Loc nD τ sig) → Buf (Elt Ideal) ℓ) (c : Dev nD) (t : Fin cfg0.N) : Vec Ideal S256x2176 .f32 := (outsAt0 m c t.val t.isLt).1

/-- A sum that the points add up, from the last row block to the first. -/
theorem sum_rows (g : ∀ n, n < cfg0.N → EReal) (f : Fin 2048 → EReal)
    (h : ∀ t : Fin cfg0.N, g t.val t.isLt = (if t.val % 8 = 0 then 0 else g (t.val - 1) (by omega)) + ∑ r : Fin 256, f (row t r)) (h7 : 7 < cfg0.N) :
    g 7 h7 = ∑ r : Fin 2048, f r := by
  have hN := N8
  let f' : ℕ → EReal := fun k => if hk : k < 2048 then f ⟨k, hk⟩ else 0
  have tile : ∀ t : Fin cfg0.N, ∑ r : Fin 256, f (row t r) = ∑ k ∈ Finset.Ico (256 * (7 - t.val)) (256 * (7 - t.val) + 256), f' k := fun t => by
    rw [Finset.sum_Ico_eq_sum_range, Nat.add_sub_cancel_left, ← Fin.sum_univ_eq_sum_range (fun k => f' (256 * (7 - t.val) + k))]
    refine Finset.sum_congr rfl fun r _ => ?_
    show f (row t r) = dite ((row t r).val < 2048) (fun hk => f ⟨(row t r).val, hk⟩) (fun _ => 0)
    rw [dif_pos (row t r).isLt]
  have key : ∀ (n : ℕ) (hn : n < cfg0.N), g n hn = ∑ k ∈ Finset.Ico (256 * (7 - n)) 2048, f' k := by
    intro n
    induction n with
    | zero => intro hn; rw [h ⟨0, hn⟩, tile]; simp
    | succ n ih =>
      intro hn
      rw [h ⟨n + 1, hn⟩, tile, if_neg (show ¬ (n + 1) % 8 = 0 by omega)]
      show g n _ + ∑ k ∈ Finset.Ico (256 * (7 - (n + 1))) (256 * (7 - (n + 1)) + 256), f' k = _
      rw [ih, ← Finset.sum_Ico_consecutive f' (show 256 * (7 - (n + 1)) ≤ 256 * (7 - (n + 1)) + 256 by omega)
        (show 256 * (7 - (n + 1)) + 256 ≤ 2048 by omega), add_comm, show 256 * (7 - (n + 1)) + 256 = 256 * (7 - n) by omega]
  rw [key, Nat.sub_self, Nat.mul_zero, ← Finset.range_eq_Ico, ← Fin.sum_univ_eq_sum_range f']
  exact Finset.sum_congr rfl fun r _ => dif_pos r.isLt

theorem gain_q_sum (l : Fin 512) (h7 : 7 < cfg0.N) :
    (outsAt0 m c 7 h7).2.2.1 (ix2 0 l) = ∑ r : Fin 2048, ((DQ r.val l.val * (U r.val l.val * rin (U r.val) l.val) : ℝ) : EReal) := by
  refine sum_rows H (fun n hn => (outsAt0 m c n hn).2.2.1 (ix2 0 l)) _ (fun t => ?_) h7
  have A := fun a => dgain_q (View.ld (iblk m c 0 t) (Rect.unit ![0, 0] ![256, 512] inb_S256x2176_S256x512_0_0)) (iblk m c 2 t) a
    (fun r k => U (256 * (7 - t.val) + r) k) l (fun r k => u_q H t r k _)
  have hs : ∀ r : Fin 256, blkQ m c t (ix2 r l) * ((U (256 * (7 - t.val) + r.val) l.val * rin (U (256 * (7 - t.val) + r.val)) l.val : ℝ) : EReal)
      = ((DQ (row t r).val l.val * (U (row t r).val l.val * rin (U (row t r).val) l.val) : ℝ) : EReal) := fun r => by
    rw [show blkQ m c t (ix2 r l) = _ from (iblk2 m c t r l).trans (H.dq _ _), ← EReal.coe_mul]
  rw [← Finset.sum_congr rfl fun r _ => hs r]
  by_cases h : t.val % 8 = 0
  · rw [if_pos h]
    have e := A (k0_pay4 (F := Ideal))
    rw [show k0_pay4 (F := Ideal) (ix2 0 l) = 0 from by unfold k0_pay4; pointwise] at e
    refine Eq.trans ?_ e
    show (outsAt0 m c t.val t.isLt).2.2.1 _ = _
    rw [outsAt0_A m c t h]; frame_out; rfl
  · rw [if_neg h]
    refine Eq.trans ?_ (A _)
    show (outsAt0 m c t.val t.isLt).2.2.1 _ = _
    rw [outsAt0_B m c t h]; frame_out; rfl

theorem gain_k_sum (l : Fin 512) (h7 : 7 < cfg0.N) :
    (outsAt0 m c 7 h7).2.2.2.1 (ix2 0 l)
      = ∑ r : Fin 2048, ((DK r.val l.val * (U r.val (512 + l.val) * rin (fun k => U r.val (512 + k)) l.val) : ℝ) : EReal) := by
  refine sum_rows H (fun n hn => (outsAt0 m c n hn).2.2.2.1 (ix2 0 l)) _ (fun t => ?_) h7
  have A := fun a => dgain_k (View.ld (iblk m c 0 t) (Rect.unit ![0, 512] ![256, 512] inb_S256x2176_S256x512_0_512)) (iblk m c 3 t) a
    (fun r k => U (256 * (7 - t.val) + r) (512 + k)) l (fun r k => u_k H t r k _)
  have hs : ∀ r : Fin 256, blkK m c t (ix2 r l) * ((U (256 * (7 - t.val) + r.val) (512 + l.val) * rin (fun k => U (256 * (7 - t.val) + r.val) (512 + k)) l.val : ℝ) : EReal)
      = ((DK (row t r).val l.val * (U (row t r).val (512 + l.val) * rin (fun k => U (row t r).val (512 + k)) l.val) : ℝ) : EReal) := fun r => by
    rw [show blkK m c t (ix2 r l) = _ from (iblk3 m c t r l).trans (H.dk _ _), ← EReal.coe_mul]
  rw [← Finset.sum_congr rfl fun r _ => hs r]
  by_cases h : t.val % 8 = 0
  · rw [if_pos h]
    have e := A (k0_pay5 (F := Ideal))
    rw [show k0_pay5 (F := Ideal) (ix2 0 l) = 0 from by unfold k0_pay5; pointwise] at e
    refine Eq.trans ?_ e
    show (outsAt0 m c t.val t.isLt).2.2.2.1 _ = _
    rw [outsAt0_A m c t h]; frame_out; rfl
  · rw [if_neg h]
    refine Eq.trans ?_ (A _)
    show (outsAt0 m c t.val t.isLt).2.2.2.1 _ = _
    rw [outsAt0_B m c t h]; frame_out; rfl

set_option maxHeartbeats 2000000 in
theorem dbias_sum (l : Fin 128) (h7 : 7 < cfg0.N) :
    (outsAt0 m c 7 h7).2.2.2.2.1 (ix2 0 l) = ∑ r : Fin 2048, duAt U DQ DK C B QG KG (aDV m c) (aDG m c) r ⟨2048 + l.val, by omega⟩ := by
  refine sum_rows H (fun n hn => (outsAt0 m c n hn).2.2.2.2.1 (ix2 0 l)) _ (fun t => ?_) h7
  have G := fun r => gate_eq H t r l inb_S256x2176_S256x128_0_2048
  rw [← Finset.sum_congr rfl fun r _ => G r]
  unfold carryIn
  by_cases h : t.val % 8 = 0
  · simp only [if_pos h]
    have e := dbias_at l (k0_pay55 (F := Ideal) (iblk m c 6 t) (k0_pay2 (F := Ideal)))
      (View.ld (iblk m c 0 t) (Rect.unit (s := S256x2176) ![0, 2048] ![256, 128] inb_S256x2176_S256x128_0_2048)) (iblk m c 7 t) (k0_pay6 (F := Ideal))
    rw [show k0_pay6 (F := Ideal) (ix2 0 l) = 0 from by unfold k0_pay6; pointwise] at e
    refine Eq.trans ?_ e
    show (outsAt0 m c t.val t.isLt).2.2.2.2.1 _ = _
    rw [outsAt0_A m c t h]; frame_out; rfl
  · simp only [if_neg h]
    refine Eq.trans ?_ (dbias_at l _ _ _ _)
    show (outsAt0 m c t.val t.isLt).2.2.2.2.1 _ = _
    rw [outsAt0_B m c t h]; frame_out
    rw [(Memref.isWhole_whole _).read_unread]
    rfl

omit H in
theorem whole_idx (h : ∀ a, (![0, 0] : Fin 2 → ℕ) a + (![256, 2176] : Fin 2 → ℕ) a ≤ S256x2176.size a) (j : S256x2176.Idx) :
    (Rect.unit (s := S256x2176) ![0, 0] ![256, 2176] h).toLoadRect.idx j = j := by
  funext a
  apply Fin.ext
  match a with
  | ⟨0, _⟩ => exact (Nat.zero_add _).trans (Nat.one_mul _)
  | ⟨1, _⟩ => exact (Nat.zero_add _).trans (Nat.one_mul _)

theorem dw_sum (i : Fin 1024) (j : Fin 2176) (h7 : 7 < cfg0.N) :
    (outsAt0 m c 7 h7).2.1 (ix2 i j) = ∑ r : Fin 2048, aH m c (ix3 0 r i) * duAt U DQ DK C B QG KG (aDV m c) (aDG m c) r j := by
  refine sum_rows H (fun n hn => (outsAt0 m c n hn).2.1 (ix2 i j)) _ (fun t => ?_) h7
  have hs : ∀ r : Fin 256, blkH m c t (ix2 i r) * blkU m c t (ix2 r j)
      = aH m c (ix3 0 (row t r) i) * duAt U DQ DK C B QG KG (aDV m c) (aDG m c) (row t r) j := fun r => by
    rw [show blkU m c t (ix2 r j) = _ from du_point H t r j, show blkH m c t (ix2 i r) = _ from (iblk1 m c t i r).trans (V_v16 m c _ _)]
  rw [← Finset.sum_congr rfl fun r _ => hs r]
  by_cases h : t.val % 8 = 0
  · rw [if_pos h]
    have e := dw_at (k0_pay3 (F := Ideal)) (iblk m c 1 t) (outsAt0 m c t.val t.isLt).1 i j
    rw [show k0_pay3 (F := Ideal) (ix2 i j) = 0 from by unfold k0_pay3; pointwise] at e
    refine Eq.trans ?_ e
    show (outsAt0 m c t.val t.isLt).2.1 _ = _
    rw [outsAt0_A m c t h]; frame_out
    refine congrArg (fun v => k0_pay1 _ _ v _) ?_
    rw [View.readCov_eq_canon']
    exact funext fun j => congrArg _ (whole_idx _ j)
  · rw [if_neg h]
    refine Eq.trans ?_ (dw_at _ (iblk m c 1 t) (outsAt0 m c t.val t.isLt).1 i j)
    show (outsAt0 m c t.val t.isLt).2.1 _ = _
    rw [outsAt0_B m c t h]; frame_out
    refine congrArg (fun v => k0_pay1 _ _ v _) ?_
    rw [View.readCov_eq_canon']
    exact funext fun j => congrArg _ (whole_idx _ j)
end

end Cert.Fox

end
-- ==== Proof.FoxReference.lean ====
/-
  The reference of the attention input's backward call read at an index: the chain rule through the head norms, the
  log-sigmoid of the forget gate and its running sum, at the projected rows.
-/
module

public import proofs.«01_k».proof.Proof.Gen.Reference2Ideal.Read
public import proofs.«01_k».proof.Proof.FoxKernel
public import proofs.«01_k».proof.Proof.InprojReference
public import proofs.«01_k».proof.Proof.HostSums

@[expose] public section

set_option maxRecDepth 16384

noncomputable section

namespace Cert.Fox

open Cert.Reference2Ideal Cert.Reference2Ideal.Gen Cert.Reference2Ideal.Read
open Idealize.ShloMosaic Idealize.ShloMosaic.TcCoe Idealize.SL.Sem Cert.Heads

/-! ## A head norm and its backward lines, for the queries and the keys alike -/

section
variable (a d : FVec Ideal S1x2048x8x64 .f32) (g : FVec Ideal S64 .f32)

/-- A head's mean square with the small constant added. -/
def headMs : FVec Ideal S1x2048x8x1 .f32 :=
  addf (Host.divf (broadcastInDim S1x2048x8x1 ![0, 1, 2] bcast_S1x2048x8_S1x2048x8x1_0_1_2
      (Host.reduceAdd (mulf a a) (constant S_ .f32 0x00000000#32) reducesTo_S1x2048x8x64_S1x2048x8_d3 h_S_))
    (broadcastInDim S1x2048x8x1 ![] bcast_S_S1x2048x8x1 (constant S_ .f32 0x42800000#32)))
    (broadcastInDim S1x2048x8x1 ![] bcast_S_S1x2048x8x1 (constant S_ .f32 0x358637BD#32))

/-- The normed heads. -/
def headNorm : FVec Ideal S1x2048x8x64 .f32 :=
  mulf a (broadcastInDim S1x2048x8x64 ![0, 1, 2, 3] bcast_S1x2048x8x1_S1x2048x8x64_0_1_2_3 (Host.rsqrt (headMs a)))

/-- The cotangent times the gains. -/
def headCt : FVec Ideal S1x2048x8x64 .f32 :=
  mulf d (broadcastInDim S1x2048x8x64 ![0, 1, 2, 3] bcast_S1x1x1x64_S1x2048x8x64_0_1_2_3 (broadcastInDim S1x1x1x64 ![3] bcast_S64_S1x1x1x64_3 g))

/-- What reaches a head through its mean square, for each of the two equal factors of the squares. -/
def headRow : FVec Ideal S2048x8 .f32 :=
  Host.reduceAdd (Host.divf (mulf (shapeCast _ (Host.reduceAdd (mulf a (headCt d g)) (constant S_ .f32 0x00000000#32)
      reducesTo_S1x2048x8x64_S1x2048x8_d3 h_S_) shapeCasts_S1x2048x8_S1x2048x8x1)
      (mulf (broadcastInDim S1x2048x8x1 ![] bcast_S_S1x2048x8x1 (constant S_ .f32 0xBF000000#32)) (Host.divf (Host.rsqrt (headMs a)) (headMs a))))
    (broadcastInDim S1x2048x8x1 ![] bcast_S_S1x2048x8x1 (constant S_ .f32 0x42800000#32)))
    (constant S_ .f32 0x00000000#32) reducesTo_S1x2048x8x1_S2048x8_d0_3 h_S_

/-- The gradient at the heads. -/
def headBack : FVec Ideal S1x2048x8x64 .f32 :=
  let w := broadcastInDim S1x2048x8x64 ![0, 1, 2] bcast_S1x2048x8_S1x2048x8x64_0_1_2 (broadcastInDim S1x2048x8 ![1, 2] bcast_S2048x8_S1x2048x8_1_2 (headRow a d g))
  addf (addf (mulf (headCt d g) (broadcastInDim S1x2048x8x64 ![0, 1, 2, 3] bcast_S1x2048x8x1_S1x2048x8x64_0_1_2_3 (Host.rsqrt (headMs a))))
    (mulf a w)) (mulf w a)

/-- The gradient at the gains. -/
def headGain : FVec Ideal S64 .f32 :=
  Host.reduceAdd (shapeCast _ (Host.reduceAdd (mulf (headNorm a) d) (constant S_ .f32 0x00000000#32) reducesTo_S1x2048x8x64_S1x64_d1_2 h_S_)
    shapeCasts_S1x64_S1x1x1x64) (constant S_ .f32 0x00000000#32) reducesTo_S1x1x1x64_S64_d0_1_2 h_S_

end

section
variable (x0 : FVec Ideal S1x2048x1024 .f32) (x1 : FVec Ideal S1024x2056 .f32) (x2 : FVec Ideal S1x8 .f32) (x3 x4 : FVec Ideal S1x64 .f32)
  (x5 x6 x7 : FVec Ideal S1x8x2048x64 .f32) (x8 : FVec Ideal S1x2048x512 .f32) (x9 : FVec Ideal S1x8x2048 .f32)

theorem back_k : val_main_v82 (F := Ideal) x0 x1 x4 x6 = headBack (val_main_v27 (F := Ideal) x0 x1) (val_main_v61 (F := Ideal) x6) (val_main_v3 (F := Ideal) x4) := rfl
theorem back_q : val_main_v105 (F := Ideal) x0 x1 x3 x5 = headBack (val_main_v9 (F := Ideal) x0 x1) (val_main_v84 (F := Ideal) x5) (val_main_v2 (F := Ideal) x3) := rfl
theorem gain_k : val_main_v67 (F := Ideal) x0 x1 x6 = headGain (val_main_v27 (F := Ideal) x0 x1) (val_main_v61 (F := Ideal) x6) := rfl
theorem gain_q : val_main_v90 (F := Ideal) x0 x1 x5 = headGain (val_main_v9 (F := Ideal) x0 x1) (val_main_v84 (F := Ideal) x5) := rfl
end

section
variable {a d : FVec Ideal S1x2048x8x64 .f32} {g : FVec Ideal S64 .f32} {A D : ℕ → ℕ → ℝ} {G : ℕ → ℝ}
  (ha : ∀ (r : Fin 2048) (h : Fin 8) (k : Fin 64), a (ix4 0 r h k) = ((A r.val (64 * h.val + k.val) : ℝ) : EReal))
  (hd : ∀ (r : Fin 2048) (h : Fin 8) (k : Fin 64), d (ix4 0 r h k) = ((D r.val (64 * h.val + k.val) : ℝ) : EReal))
  (hg : ∀ k : Fin 64, g (ix1 k) = ((G k.val : ℝ) : EReal))

theorem hsum_head (f : ℕ → ℝ) (h k : ℕ) (hk : k < 64) : hsum f (64 * h + k) = ∑ j : Fin 64, f (64 * h + j.val) := by
  unfold hsum
  rw [show (64 * h + k) / 64 = h by omega, ← Fin.sum_univ_eq_sum_range (fun j => f (64 * h + j))]

theorem lit_64 : Ideal.ofBits .f32 0x42800000#32 = ((64 : ℝ) : EReal) := by
  simp [Ideal.ofBits, Ideal.ieee, -EReal.coe_mul]; norm_num

/-- The mean square of head `h` at row `r`, with the small constant added. -/
def msq (A : ℕ → ℕ → ℝ) (r h : ℕ) : ℝ := (∑ k : Fin 64, A r (64 * h + k.val) * A r (64 * h + k.val)) / 64 + eps

theorem msq_pos (A : ℕ → ℕ → ℝ) (r h : ℕ) : 0 < msq A r h :=
  add_pos_of_nonneg_of_pos (div_nonneg (Finset.sum_nonneg fun k _ => mul_self_nonneg _) (by norm_num)) eps_pos

theorem rin_head (A : ℕ → ℕ → ℝ) (r h k : ℕ) (hk : k < 64) : rin (A r) (64 * h + k) = (Real.sqrt (msq A r h))⁻¹ := by
  unfold rin msq
  rw [hsum_head _ h k hk, ← div_eq_mul_one_div]

include ha in
theorem headMs_at (r : Fin 2048) (h : Fin 8) : headMs a (ix4 0 r h 0) = ((msq A r.val h.val : ℝ) : EReal) := by
  unfold headMs
  pointwise
  simp only [ha, ← EReal.coe_mul, Reals.sum_coe]
  rw [lit_64, lit_eps, Reals.div_real _ _ (by norm_num), ← EReal.coe_add]
  rfl

/-- The row's inner product with the cotangent, brought through the reciprocal root and one of the two factors of the squares. -/
def rowBack (A D : ℕ → ℕ → ℝ) (G : ℕ → ℝ) (r h : ℕ) : ℝ :=
  (∑ k : Fin 64, A r (64 * h + k.val) * (D r (64 * h + k.val) * G k.val)) * (-(1 / 2) * ((Real.sqrt (msq A r h))⁻¹ / msq A r h)) / 64

include ha hd hg in
theorem headRow_at (r : Fin 2048) (h : Fin 8) : headRow a d g (ix2 r h) = ((rowBack A D G r.val h.val : ℝ) : EReal) := by
  have hq := msq_pos A r.val h.val
  unfold headRow headCt
  pointwise
  refine (HostSums.sum4_03 _ _ _ r h).trans ?_
  rw [zero_add, Fin.sum_univ_one, Fin.sum_univ_one]
  pointwise
  simp only [ha, hd, hg, headMs_at ha, Reals.rsqrt_real _ hq, Reals.div_real _ _ hq.ne', Reals.lit_neg_half, lit_64, ← EReal.coe_mul, Reals.sum_coe]
  rw [Reals.div_real _ _ (by norm_num)]
  rfl

include ha hd hg in
theorem headBack_at (r : Fin 2048) (h : Fin 8) (k : Fin 64) :
    headBack a d g (ix4 0 r h k) = ((dnorm (fun l => G (l % 64)) (D r.val) (A r.val) (64 * h.val + k.val) : ℝ) : EReal) := by
  unfold headBack headCt
  pointwise
  rw [headMs_at ha, headRow_at ha hd hg, ha, hd, hg, Reals.rsqrt_real _ (msq_pos _ _ _)]
  simp only [← EReal.coe_mul, ← EReal.coe_add]
  congr 1
  have hm : ∀ j : Fin 64, (64 * h.val + j.val) % 64 = j.val := fun j => by omega
  unfold dnorm
  rw [rin_head A r.val h.val k.val k.isLt, hsum_head _ h.val k.val k.isLt, ← div_eq_mul_one_div]
  simp only [hm, rin_head A r.val h.val _ (Fin.isLt _)]
  exact (Cert.Inproj.chain_rule 64 (fun j => A r.val (64 * h.val + j.val)) (fun j => D r.val (64 * h.val + j.val)) (fun j => G j.val)
    (msq A r.val h.val) 64 (msq_pos _ _ _) k).symm

include ha hd in
theorem headGain_at (k : Fin 64) :
    headGain a d (ix1 k) = ((∑ r : Fin 2048, ∑ h : Fin 8, A r.val (64 * h.val + k.val) * rin (A r.val) (64 * h.val + k.val) * D r.val (64 * h.val + k.val) : ℝ) : EReal) := by
  unfold headGain headNorm
  pointwise
  refine (HostSums.sum4_012 _ _ _ k).trans ?_
  rw [zero_add]
  pointwise
  refine (HostSums.sum4_12 _ _ _ 0 k).trans ?_
  rw [zero_add]
  pointwise
  simp only [ha, hd, headMs_at ha, Reals.rsqrt_real _ (msq_pos _ _ _), ← EReal.coe_mul, Reals.sum_coe, rin_head A _ _ _ k.isLt]
end

/-! ## The projected rows, the queries, the keys and the forget gate -/

section
variable {x0 : FVec Ideal S1x2048x1024 .f32} {x1 : FVec Ideal S1024x2056 .f32} {x2 : FVec Ideal S1x8 .f32} {x3 x4 : FVec Ideal S1x64 .f32}
  {x5 x6 x7 : FVec Ideal S1x8x2048x64 .f32} {x8 : FVec Ideal S1x2048x512 .f32} {x9 : FVec Ideal S1x8x2048 .f32}
  {U : ℕ → ℕ → ℝ} (hU : ∀ (r : Fin 2048) (j : Fin 2056), val_main_v0 (F := Ideal) x0 x1 (ix3 0 r j) = ((U r.val j.val : ℝ) : EReal))

include hU in
theorem heads_q (r : Fin 2048) (h : Fin 8) (k : Fin 64) : val_main_v9 (F := Ideal) x0 x1 (ix4 0 r h k) = ((U r.val (64 * h.val + k.val) : ℝ) : EReal) := by
  unfold val_main_v9 val_main_v4
  pointwise
  rw [hU]
  show ((U r.val (h.val * 64 + k.val) : ℝ) : EReal) = _
  rw [mul_comm]

include hU in
theorem heads_k (r : Fin 2048) (h : Fin 8) (k : Fin 64) : val_main_v27 (F := Ideal) x0 x1 (ix4 0 r h k) = ((U r.val (512 + (64 * h.val + k.val)) : ℝ) : EReal) := by
  unfold val_main_v27 val_main_v5
  pointwise
  rw [hU]
  show ((U r.val (512 + (h.val * 64 + k.val)) : ℝ) : EReal) = _
  rw [mul_comm h.val]

theorem ct_k (r : Fin 2048) (h : Fin 8) (k : Fin 64) : val_main_v61 (F := Ideal) x6 (ix4 0 r h k) = x6 (ix4 0 h r k) := by
  unfold val_main_v61
  pointwise

theorem ct_q (r : Fin 2048) (h : Fin 8) (k : Fin 64) : val_main_v84 (F := Ideal) x5 (ix4 0 r h k) = x5 (ix4 0 h r k) := by
  unfold val_main_v84
  pointwise

theorem g_q (k : Fin 64) : val_main_v2 (F := Ideal) x3 (ix1 k) = x3 (ix2 0 k) := by
  unfold val_main_v2
  pointwise

theorem g_k (k : Fin 64) : val_main_v3 (F := Ideal) x4 (ix1 k) = x4 (ix2 0 k) := by
  unfold val_main_v3
  pointwise

/-- The softplus of a real number, as the reference writes it to keep the exponential's argument from growing. -/
theorem softplus_real (s : ℝ) : (max (s : EReal) 0 + Ideal.log1p (Ideal.exp (-max (s : EReal) (-(s : EReal)))) : EReal)
    = ((Real.log (1 + Real.exp s) : ℝ) : EReal) := by
  have hm : max (s : EReal) (-(s : EReal)) = ((|s| : ℝ) : EReal) := by
    rw [← EReal.coe_neg, ← EReal.coe_strictMono.monotone.map_max]; rfl
  have h0 : max (s : EReal) 0 = ((max s 0 : ℝ) : EReal) := by
    rw [← EReal.coe_zero, ← EReal.coe_strictMono.monotone.map_max]
  have hp : 0 < 1 + Real.exp (-|s|) := by positivity
  have hl : Ideal.log1p (Ideal.exp ((-|s| : ℝ) : EReal)) = ((Real.log (1 + Real.exp (-|s|)) : ℝ) : EReal) := by
    show Ideal.log (1 + ((Real.exp (-|s|) : ℝ) : EReal)) = _
    rw [← EReal.coe_one, ← EReal.coe_add]
    exact if_neg (not_le.mpr hp)
  rw [hm, h0, ← EReal.coe_neg, hl, ← EReal.coe_add]
  congr 1
  rcases le_total 0 s with h | h
  · rw [max_eq_left h, abs_of_nonneg h]
    have : 1 + Real.exp s = Real.exp s * (1 + Real.exp (-s)) := by rw [mul_add, ← Real.exp_add]; simp [add_comm]
    rw [this, Real.log_mul (Real.exp_pos _).ne' (by positivity), Real.log_exp]
  · rw [max_eq_right h, abs_of_nonpos h, neg_neg, zero_add]

/-- The derivative of the log-sigmoid, in the reference's form and in the kernel's. -/
theorem gate_real (t : ℝ) : Ideal.exp (((-t - Real.log (1 + Real.exp (-t)) : ℝ)) : EReal) = gateFactor (t : EReal) := by
  have hp : 0 < 1 + Real.exp (-t) := by positivity
  have e : gateFactor (t : EReal) = ((1 - 1 / (1 + Real.exp (0 - t)) : ℝ) : EReal) := by
    unfold gateFactor
    rw [← EReal.coe_zero, ← EReal.coe_sub]
    show 1 - Ideal.div 1 (1 + ((Real.exp (0 - t) : ℝ) : EReal)) = _
    rw [← EReal.coe_one, ← EReal.coe_add, Reals.div_real _ _ (by rw [zero_sub]; exact hp.ne'), ← EReal.coe_sub]
  rw [e]
  show ((Real.exp _ : ℝ) : EReal) = _
  congr 1
  rw [Real.exp_sub, Real.exp_log hp, zero_sub]
  field_simp
  ring

theorem log_gate (r : Fin 2048) (k : Fin 8) : val_main_v49 (F := Ideal) x0 x1 x2 (ix3 0 r k)
    = (val_main_v0 (F := Ideal) x0 x1 (ix3 0 r ⟨2048 + k.val, by omega⟩) + x2 (ix2 0 k) : EReal) := by
  unfold val_main_v49 val_main_v48 val_main_v47 val_main_v8 val_main_v1
  pointwise

theorem suffix_ct (r : Fin 2048) (k : Fin 8) : val_main_v54 (F := Ideal) x9 (ix3 0 r k)
    = ∑ i : Fin 2048, if h : r.val + i.val < 2048 then x9 (ix3 0 k ⟨r.val + i.val, h⟩) else (0 : EReal) := by
  have e : ∀ (r : Fin 2048) (k : Fin 8), val_main_v53 (F := Ideal) x9 (ix3 0 r k) = x9 (ix3 0 k r) := fun r k => by
    unfold val_main_v53
    pointwise
  have z : val_main_call2_call0_v0 (F := Ideal) (Shape.Idx.first h_S_) = (0 : EReal) := by
    unfold val_main_call2_call0_v0 val_main_call2_call0_cst
    pointwise
  unfold val_main_v54 Host.reduceWindowAdd
  rw [Ideal.hostReduceWindowAdd_def, z]
  refine (HostSums.suffix_sum (n := 2048) (p := 8) _ _ r k).trans ?_
  simp only [e]

theorem gate_ct (r : Fin 2048) (k : Fin 8) (t : ℝ) (ht : val_main_v49 (F := Ideal) x0 x1 x2 (ix3 0 r k) = (t : EReal)) : val_main_v55 (F := Ideal) x0 x1 x2 x9 (ix3 0 r k)
    = (val_main_v54 (F := Ideal) x9 (ix3 0 r k) * gateFactor (t : EReal) : EReal) := by
  unfold val_main_v55 val_main_call3_v1 val_main_call3_v0 val_main_v50_1 val_main_call0_call0_v21 val_main_call0_call0_v16 val_main_call0_call0_v20 val_main_call0_call0_v14 val_main_call0_call0_v15 val_main_call0_call0_v18 val_main_call0_call0_v19 val_main_call0_v1_0 val_main_call0_call0_v13 val_main_call0_call0_v17 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0 val_main_call0_call0_cst val_main_call0_call0_cst_0 val_main_call0_call0_cst_1 val_main_call0_call0_cst_2 val_main_call0_call0_cst_3
  pointwise
  rw [ht]
  have hn : (-(t : EReal)) ≠ Ideal.ofBits .f32 0x7F800000#32 := by
    rw [Reals.lit_top, ← EReal.coe_neg]; exact EReal.coe_ne_top _
  have hs := softplus_real (-t)
  rw [EReal.coe_neg] at hs
  have hl : ∀ x : EReal, FloatOps.absf (F := Ideal) (φ := .f32) x = max x (-x) := fun _ => rfl
  rw [if_neg hn]
  simp only [ne_eq, not_true_eq_false, if_false, hl, hs]
  rw [if_neg (by rw [Reals.lit_top]; exact EReal.coe_ne_top _), ← EReal.coe_neg, ← EReal.coe_sub, gate_real, EReal.neg_mul, neg_neg]

theorem df_at (k : Fin 8) : val_main_v115 (F := Ideal) x0 x1 x2 x9 (ix2 0 k) = ∑ r : Fin 2048, val_main_v55 (F := Ideal) x0 x1 x2 x9 (ix3 0 r k) := by
  unfold val_main_v115 val_main_v58
  pointwise
  refine (HostSums.sum_01 _ _ _ k).trans ?_
  unfold val_main_cst_8 val_main_v57 val_main_v56 val_main_cst_7
  pointwise
  rw [Fin.sum_univ_one, Fin.sum_univ_one]

end

/-- The arguments as arrays of reals: `U` the projected rows, `DQ`, `DK` the cotangents by row and column, `C` that of the
    running sums, `B` the biases and `G`, `K` the gains. -/
structure Finite (x0 : FVec Ideal S1x2048x1024 .f32) (x1 : FVec Ideal S1024x2056 .f32) (x2 : FVec Ideal S1x8 .f32) (x3 x4 : FVec Ideal S1x64 .f32)
    (x5 x6 : FVec Ideal S1x8x2048x64 .f32) (x9 : FVec Ideal S1x8x2048 .f32) (U DQ DK C : ℕ → ℕ → ℝ) (B G K : ℕ → ℝ) : Prop where
  u : ∀ (r : Fin 2048) (j : Fin 2056), val_main_v0 (F := Ideal) x0 x1 (ix3 0 r j) = ((U r.val j.val : ℝ) : EReal)
  b : ∀ k : Fin 8, x2 (ix2 0 k) = ((B k.val : ℝ) : EReal)
  g : ∀ k : Fin 64, x3 (ix2 0 k) = ((G k.val : ℝ) : EReal)
  k : ∀ k : Fin 64, x4 (ix2 0 k) = ((K k.val : ℝ) : EReal)
  dq : ∀ (r : Fin 2048) (h : Fin 8) (k : Fin 64), x5 (ix4 0 h r k) = ((DQ r.val (64 * h.val + k.val) : ℝ) : EReal)
  dk : ∀ (r : Fin 2048) (h : Fin 8) (k : Fin 64), x6 (ix4 0 h r k) = ((DK r.val (64 * h.val + k.val) : ℝ) : EReal)
  c : ∀ (k : Fin 8) (r : Fin 2048), x9 (ix3 0 k r) = ((C k.val r.val : ℝ) : EReal)

section
variable {x0 : FVec Ideal S1x2048x1024 .f32} {x1 : FVec Ideal S1024x2056 .f32} {x2 : FVec Ideal S1x8 .f32} {x3 x4 : FVec Ideal S1x64 .f32}
  {x5 x6 : FVec Ideal S1x8x2048x64 .f32} {x7 : FVec Ideal S1x8x2048x64 .f32} {x8 : FVec Ideal S1x2048x512 .f32} {x9 : FVec Ideal S1x8x2048 .f32}
  {U DQ DK C : ℕ → ℕ → ℝ} {B G K : ℕ → ℝ} (H : Finite x0 x1 x2 x3 x4 x5 x6 x9 U DQ DK C B G K)

include H in
theorem suffix_real (r : Fin 2048) (k : Fin 8) : val_main_v54 (F := Ideal) x9 (ix3 0 r k) = ((∑ i ∈ Finset.Ico r.val 2048, C k.val i : ℝ) : EReal) := by
  rw [suffix_ct]
  have e : ∀ i : Fin 2048, (if h : r.val + i.val < 2048 then x9 (ix3 0 k ⟨r.val + i.val, h⟩) else (0 : EReal))
      = (((if r.val + i.val < 2048 then C k.val (r.val + i.val) else 0) : ℝ) : EReal) := fun i => by
    by_cases h : r.val + i.val < 2048
    · rw [dif_pos h, if_pos h]; exact H.c k ⟨_, h⟩
    · rw [dif_neg h, if_neg h]; rfl
  simp only [e, Reals.sum_coe]
  rw [Fin.sum_univ_eq_sum_range (fun i => if r.val + i < 2048 then C k.val (r.val + i) else 0) 2048, Finset.sum_Ico_eq_sum_range, ← Finset.sum_filter]
  congr 2
  ext i
  simp only [Finset.mem_filter, Finset.mem_range]
  omega

include H in
theorem gate_du (r : Fin 2048) (k : Fin 8) : val_main_v55 (F := Ideal) x0 x1 x2 x9 (ix3 0 r k)
    = ((∑ i ∈ Finset.Ico r.val 2048, C k.val i : ℝ) : EReal) * gateFactor ((U r.val (2048 + k.val) + B k.val : ℝ) : EReal) := by
  rw [gate_ct r k (U r.val (2048 + k.val) + B k.val) (by rw [log_gate, H.u, H.b, EReal.coe_add]), suffix_real H]

include H in
/-- The gradient at the projected rows. -/
theorem du_ref (r : Fin 2048) (j : Fin 2056) : val_main_v107 (F := Ideal) x0 x1 x2 x3 x4 x5 x6 x7 x8 x9 (ix3 0 r j)
    = duAt U DQ DK C B (fun l => G (l % 64)) (fun l => K (l % 64)) x7 x8 r ⟨j.val, by omega⟩ := by
  have hq := fun (h : Fin 8) (k : Fin 64) => headBack_at (heads_q H.u) (fun r h k => (ct_q (x5 := x5) r h k).trans (H.dq r h k)) (fun k => (g_q (x3 := x3) k).trans (H.g k)) r h k
  have hk := fun (h : Fin 8) (k : Fin 64) => headBack_at (A := fun r k => U r (512 + k)) (heads_k H.u) (fun r h k => (ct_k (x6 := x6) r h k).trans (H.dk r h k)) (fun k => (g_k (x4 := x4) k).trans (H.k k)) r h k
  unfold val_main_v107 val_main_v60 val_main_v59 val_main_v83 val_main_v106
  pointwise
  unfold duAt
  dsimp only
  by_cases h1 : j.val < 512
  · rw [dif_pos h1, if_pos h1, back_q]
    refine (hq ⟨j.val / 64, by omega⟩ ⟨j.val % 64, by omega⟩).trans ?_
    show ((dnorm _ _ _ (64 * (j.val / 64) + j.val % 64) : ℝ) : EReal) = _
    rw [Nat.div_add_mod]
  rw [dif_neg h1, if_neg h1]
  by_cases h2 : j.val < 1024
  · rw [dif_pos (show j.val - 512 < 512 by omega), if_pos h2, back_k]
    refine (hk ⟨(j.val - 512) / 64, by omega⟩ ⟨(j.val - 512) % 64, by omega⟩).trans ?_
    show ((dnorm _ _ _ (64 * ((j.val - 512) / 64) + (j.val - 512) % 64) : ℝ) : EReal) = _
    rw [Nat.div_add_mod]
  rw [dif_neg (show ¬ j.val - 512 < 512 by omega), if_neg h2]
  by_cases h3 : j.val < 1536
  · rw [dif_pos (show j.val - 512 - 512 < 512 by omega), dif_pos h3]
    congr 2
  rw [dif_neg (show ¬ j.val - 512 - 512 < 512 by omega), dif_neg h3]
  by_cases h4 : j.val < 2048
  · rw [dif_pos (show j.val - 512 - 512 - 512 < 512 by omega), dif_pos h4]
    congr 2
  rw [dif_neg (show ¬ j.val - 512 - 512 - 512 < 512 by omega), dif_neg h4, if_pos j.isLt]
  refine (gate_du H r ⟨j.val - 512 - 512 - 512 - 512, by omega⟩).trans ?_
  dsimp only
  rw [show j.val - 512 - 512 - 512 - 512 = j.val - 2048 by omega, show 2048 + (j.val - 2048) = j.val by omega]

include H in
theorem ref_du (r : Fin 2048) (j : Fin 2176) : val_main_v111 (F := Ideal) x0 x1 x2 x3 x4 x5 x6 x7 x8 x9 (ix2 r j)
    = duAt U DQ DK C B (fun l => G (l % 64)) (fun l => K (l % 64)) x7 x8 r j := by
  unfold val_main_v111 val_main_v110
  pointwise
  by_cases h : j.val < 2056
  · rw [dif_pos h]
    exact du_ref H r ⟨j.val, h⟩
  · rw [dif_neg h]
    unfold duAt
    rw [if_neg (by omega), if_neg (by omega), dif_neg (by omega), dif_neg (by omega), if_neg h]
    unfold val_main_call4_v0 val_main_c
    pointwise
    simp [FloatOps.sitofp]

include H in
theorem ref_dw (i : Fin 1024) (j : Fin 2176) : val_main_v112 (F := Ideal) x0 x1 x2 x3 x4 x5 x6 x7 x8 x9 (ix2 i j)
    = ∑ r : Fin 2048, (x0 (ix3 0 r i) * duAt U DQ DK C B (fun l => G (l % 64)) (fun l => K (l % 64)) x7 x8 r j : EReal) := by
  unfold val_main_v112 val_main_v109 val_main_v108
  pointwise
  by_cases h : j.val < 2056
  · rw [dif_pos h, Fin.sum_univ_one]
    refine Finset.sum_congr rfl fun r _ => ?_
    exact (congrArg (· * _) (du_ref H r ⟨j.val, h⟩)).trans (mul_comm _ _)
  · rw [dif_neg h]
    have z : ∀ r, duAt U DQ DK C B (fun l => G (l % 64)) (fun l => K (l % 64)) x7 x8 r j = 0 := fun r => by
      unfold duAt
      rw [if_neg (by omega), if_neg (by omega), dif_neg (by omega), dif_neg (by omega), if_neg h]
    simp only [z, mul_zero, Finset.sum_const_zero]
    unfold val_main_call5_v0 val_main_c_19
    pointwise
    simp [FloatOps.sitofp]

include H in
theorem ref_dqg (k : Fin 64) : val_main_v113 (F := Ideal) x0 x1 x5 (ix2 0 k)
    = ((∑ r : Fin 2048, ∑ h : Fin 8, U r.val (64 * h.val + k.val) * rin (U r.val) (64 * h.val + k.val) * DQ r.val (64 * h.val + k.val) : ℝ) : EReal) := by
  unfold val_main_v113
  pointwise
  rw [gain_q]
  exact headGain_at (heads_q H.u) (fun r h k => (ct_q (x5 := x5) r h k).trans (H.dq r h k)) k

include H in
theorem ref_dkg (k : Fin 64) : val_main_v114 (F := Ideal) x0 x1 x6 (ix2 0 k)
    = ((∑ r : Fin 2048, ∑ h : Fin 8, U r.val (512 + (64 * h.val + k.val)) * rin (fun l => U r.val (512 + l)) (64 * h.val + k.val) * DK r.val (64 * h.val + k.val) : ℝ) : EReal) := by
  unfold val_main_v114
  pointwise
  rw [gain_k]
  exact headGain_at (A := fun r k => U r (512 + k)) (heads_k H.u) (fun r h k => (ct_k (x6 := x6) r h k).trans (H.dk r h k)) k

include H in
theorem ref_df (k : Fin 8) : val_main_v115 (F := Ideal) x0 x1 x2 x9 (ix2 0 k)
    = ∑ r : Fin 2048, duAt U DQ DK C B (fun l => G (l % 64)) (fun l => K (l % 64)) x7 x8 r ⟨2048 + k.val, by omega⟩ := by
  rw [df_at]
  refine Finset.sum_congr rfl fun r _ => (gate_du H r k).trans ?_
  unfold duAt
  dsimp only
  rw [if_neg (by omega), if_neg (by omega), dif_neg (by omega), dif_neg (by omega), if_pos (by omega), show 2048 + k.val - 2048 = k.val by omega]
end

end Cert.Fox

end
-- ==== Proof.FoxResults.lean ====
/-
  The fox preparation's backward kernel run to its end: what the five arrays the call returns hold, and what the host
  lines after it make of three of them.
-/
module

public import proofs.«01_k».proof.Proof.FoxKernel

@[expose] public section

set_option maxRecDepth 16384

noncomputable section

namespace Cert.Fox

open Cert.Kernel2Ideal Cert.Kernel2Ideal.Gen Idealize.ShloMosaic Idealize.ShloMosaic.TcCoe Idealize.SL.Sem Cert.Heads

variable (m : (ℓ : Loc nD τ sig) → Buf (Elt Ideal) ℓ) (c : Dev nD)

theorem ix2_eta {a b : ℕ} (j : (⟨2, ![a, b]⟩ : Shape).Idx) : j = ix2 (j 0) (j 1) := by
  funext k
  match k with
  | ⟨0, _⟩ => rfl
  | ⟨1, _⟩ => rfl

theorem lt7 : 7 < cfg0.N := by decide +kernel

theorem seven (t : Fin cfg0.N) (h : t.val % 8 = 7) : t = ⟨7, lt7⟩ := by
  have hN := N8
  have ht := t.isLt
  apply Fin.ext
  show t.val = 7
  omega

/-- The point that works on row `r`. -/
abbrev pointOf (r : Fin 2048) : Fin cfg0.N := ⟨7 - r.val / 256, by have := N8; omega⟩

/-- The gradient at the projected rows as an array. -/
def arr10 : Buf (Elt Ideal) ((c : Thread nD τ).loc main_v24_0) :=
  fun i : S2048x2176.Idx => (outsAt0 m c (pointOf (i 0)).val (pointOf (i 0)).isLt).1 (ix2 (⟨(i 0).val % 256, by omega⟩ : Fin 256) (i 1))

theorem idx10 : ∀ t : Fin cfg0.N, win0_10.index t 0 = 7 - t.val ∧ win0_10.index t 1 = 0 :=
  (by decide +kernel : ∀ t : Fin grid0.N, win0_10.index t 0 = 7 - t.val ∧ win0_10.index t 1 = 0)

theorem outs_congr (t t' : Fin cfg0.N) (h : t = t') (r r' : Fin 256) (hr : r = r') (l l' : Fin 2176) (hl : l = l') :
    (outsAt0 m c t.val t.isLt).1 (ix2 r l) = (outsAt0 m c t'.val t'.isLt).1 (ix2 r' l') := by
  subst h hr hl; rfl

theorem flush10 (t : Fin cfg0.N) : (dats m 0 c).flushed 10 t = ((cfg0.win 10).blk t).view.read (Elt Ideal) (arr10 m c) := by
  have hN := N8
  have ht := t.isLt
  show (cfg0.win 10).cut (grid0.coords t) ((dats m 0 c).after 10 t) = _
  rw [after0_10]
  funext j
  rw [View.read_apply]
  obtain ⟨r, l, rfl⟩ : ∃ (r : Fin 256) (l : Fin 2176), j = ix2 r l := ⟨j 0, j 1, ix2_eta (a := 256) (b := 2176) j⟩
  have hr := r.isLt
  refine outs_congr m c t _ (Fin.ext ?_) r _ (Fin.ext ?_) l _ (Fin.ext ?_)
  · show t.val = 7 - (win0_10.index t 0 * 256 + 1 * r.val) / 256
    rw [(idx10 t).1]; omega
  · show r.val = (win0_10.index t 0 * 256 + 1 * r.val) % 256
    rw [(idx10 t).1]; omega
  · show l.val = win0_10.index t 1 * 2176 + 1 * l.val
    rw [(idx10 t).2]; omega

theorem final10 : (dats m 0 c).arrAt 10 cfg0.N = arr10 m c :=
  (dats m 0 c).arrAt_eq_of_cover 10 (arr10 m c) (fun t _ => flush10 m c t) fun i => by
    have hN := N8
    have h0 : (i 0 : Nat) < 2048 := (i 0).isLt
    have h1 : (i 1 : Nat) < 2176 := (i 1).isLt
    have ht : 7 - (i 0 : Nat) / 256 < cfg0.N := by omega
    refine ⟨⟨7 - (i 0 : Nat) / 256, ht⟩, (by decide +kernel : ∀ t : Fin grid0.N, (cfg0.win 10).flush t = true) _, ?_⟩
    show i ∈ ((View.whole main_v24_0).slice (win0_10.rect ⟨7 - (i 0 : Nat) / 256, ht⟩)).set
    rw [View.set_slice_whole, Rect.mem_set_unit]
    have hi := idx10 ⟨7 - (i 0 : Nat) / 256, ht⟩
    intro a
    match a with
    | ⟨0, _⟩ =>
      show win0_10.index _ 0 * 256 ≤ (i 0 : Nat) ∧ (i 0 : Nat) < win0_10.index _ 0 * 256 + 256
      rw [hi.1]; dsimp only; omega
    | ⟨1, _⟩ =>
      show win0_10.index _ 1 * 2176 ≤ (i 1 : Nat) ∧ (i 1 : Nat) < win0_10.index _ 1 * 2176 + 2176
      rw [hi.2]; omega

/-- The projection gradient, as the last point leaves it. -/
def arr11 : Buf (Elt Ideal) ((c : Thread nD τ).loc main_v24_1) := (outsAt0 m c 7 lt7).2.1

theorem idx11 : ∀ t : Fin cfg0.N, win0_11.index t 0 = 0 ∧ win0_11.index t 1 = 0 :=
  (by decide +kernel : ∀ t : Fin grid0.N, win0_11.index t 0 = 0 ∧ win0_11.index t 1 = 0)

theorem at11 (t : Fin cfg0.N) : (dats m 0 c).flushed 11 t = ((cfg0.win 11).blk t).view.read (Elt Ideal) (outsAt0 m c t.val t.isLt).2.1 := by
  show (cfg0.win 11).cut (grid0.coords t) ((dats m 0 c).after 11 t) = _
  rw [after0_11]
  generalize (outsAt0 m c t.val t.isLt).2.1 = f
  funext j
  rw [View.read_apply]
  obtain ⟨r, l, rfl⟩ : ∃ (r : Fin 1024) (l : Fin 2176), j = ix2 r l := ⟨j 0, j 1, ix2_eta (a := 1024) (b := 2176) j⟩
  show f (ix2 r l) = f _
  congr 1
  funext a
  apply Fin.ext
  match a with
  | ⟨0, _⟩ =>
    show r.val = win0_11.index t 0 * 1024 + 1 * r.val
    rw [(idx11 _).1]; omega
  | ⟨1, _⟩ =>
    show l.val = win0_11.index t 1 * 2176 + 1 * l.val
    rw [(idx11 _).2]; omega

theorem flush11 (t : Fin cfg0.N) (hf : (cfg0.win 11).flush t = true) :
    (dats m 0 c).flushed 11 t = ((cfg0.win 11).blk t).view.read (Elt Ideal) (arr11 m c) := by
  rw [seven t ((flush0_11 t).mp hf)]
  exact at11 m c ⟨7, lt7⟩

theorem final11 : (dats m 0 c).arrAt 11 cfg0.N = arr11 m c :=
  (dats m 0 c).arrAt_eq_of_cover 11 (arr11 m c) (flush11 m c) fun i => by
    have h0 : (i 0 : Nat) < 1024 := (i 0).isLt
    have h1 : (i 1 : Nat) < 2176 := (i 1).isLt
    refine ⟨⟨7, lt7⟩, (flush0_11 _).mpr rfl, ?_⟩
    show i ∈ ((View.whole main_v24_1).slice (win0_11.rect ⟨7, lt7⟩)).set
    rw [View.set_slice_whole, Rect.mem_set_unit]
    have hi := idx11 ⟨7, lt7⟩
    intro a
    match a with
    | ⟨0, _⟩ =>
      show win0_11.index _ 0 * 1024 ≤ (i 0 : Nat) ∧ (i 0 : Nat) < win0_11.index _ 0 * 1024 + 1024
      rw [hi.1]; omega
    | ⟨1, _⟩ =>
      show win0_11.index _ 1 * 2176 ≤ (i 1 : Nat) ∧ (i 1 : Nat) < win0_11.index _ 1 * 2176 + 2176
      rw [hi.2]; omega

/-- The query gain gradient, by column, as the last point leaves it. -/
def arr12 : Buf (Elt Ideal) ((c : Thread nD τ).loc main_v24_2) := (outsAt0 m c 7 lt7).2.2.1

theorem idx12 : ∀ t : Fin cfg0.N, win0_12.index t 0 = 0 ∧ win0_12.index t 1 = 0 :=
  (by decide +kernel : ∀ t : Fin grid0.N, win0_12.index t 0 = 0 ∧ win0_12.index t 1 = 0)

theorem at12 (t : Fin cfg0.N) : (dats m 0 c).flushed 12 t = ((cfg0.win 12).blk t).view.read (Elt Ideal) (outsAt0 m c t.val t.isLt).2.2.1 := by
  show (cfg0.win 12).cut (grid0.coords t) ((dats m 0 c).after 12 t) = _
  rw [after0_12]
  generalize (outsAt0 m c t.val t.isLt).2.2.1 = f
  funext j
  rw [View.read_apply]
  obtain ⟨r, l, rfl⟩ : ∃ (r : Fin 1) (l : Fin 512), j = ix2 r l := ⟨j 0, j 1, ix2_eta (a := 1) (b := 512) j⟩
  show f (ix2 r l) = f _
  congr 1
  funext a
  apply Fin.ext
  match a with
  | ⟨0, _⟩ =>
    show r.val = win0_12.index t 0 * 1 + 1 * r.val
    rw [(idx12 _).1]; omega
  | ⟨1, _⟩ =>
    show l.val = win0_12.index t 1 * 512 + 1 * l.val
    rw [(idx12 _).2]; omega

theorem flush12 (t : Fin cfg0.N) (hf : (cfg0.win 12).flush t = true) :
    (dats m 0 c).flushed 12 t = ((cfg0.win 12).blk t).view.read (Elt Ideal) (arr12 m c) := by
  rw [seven t ((flush0_12 t).mp hf)]
  exact at12 m c ⟨7, lt7⟩

theorem final12 : (dats m 0 c).arrAt 12 cfg0.N = arr12 m c :=
  (dats m 0 c).arrAt_eq_of_cover 12 (arr12 m c) (flush12 m c) fun i => by
    have h0 : (i 0 : Nat) < 1 := (i 0).isLt
    have h1 : (i 1 : Nat) < 512 := (i 1).isLt
    refine ⟨⟨7, lt7⟩, (flush0_12 _).mpr rfl, ?_⟩
    show i ∈ ((View.whole main_v24_2).slice (win0_12.rect ⟨7, lt7⟩)).set
    rw [View.set_slice_whole, Rect.mem_set_unit]
    have hi := idx12 ⟨7, lt7⟩
    intro a
    match a with
    | ⟨0, _⟩ =>
      show win0_12.index _ 0 * 1 ≤ (i 0 : Nat) ∧ (i 0 : Nat) < win0_12.index _ 0 * 1 + 1
      rw [hi.1]; omega
    | ⟨1, _⟩ =>
      show win0_12.index _ 1 * 512 ≤ (i 1 : Nat) ∧ (i 1 : Nat) < win0_12.index _ 1 * 512 + 512
      rw [hi.2]; omega

/-- The key gain gradient, by column, as the last point leaves it. -/
def arr13 : Buf (Elt Ideal) ((c : Thread nD τ).loc main_v24_3) := (outsAt0 m c 7 lt7).2.2.2.1

theorem idx13 : ∀ t : Fin cfg0.N, win0_13.index t 0 = 0 ∧ win0_13.index t 1 = 0 :=
  (by decide +kernel : ∀ t : Fin grid0.N, win0_13.index t 0 = 0 ∧ win0_13.index t 1 = 0)

theorem at13 (t : Fin cfg0.N) : (dats m 0 c).flushed 13 t = ((cfg0.win 13).blk t).view.read (Elt Ideal) (outsAt0 m c t.val t.isLt).2.2.2.1 := by
  show (cfg0.win 13).cut (grid0.coords t) ((dats m 0 c).after 13 t) = _
  rw [after0_13]
  generalize (outsAt0 m c t.val t.isLt).2.2.2.1 = f
  funext j
  rw [View.read_apply]
  obtain ⟨r, l, rfl⟩ : ∃ (r : Fin 1) (l : Fin 512), j = ix2 r l := ⟨j 0, j 1, ix2_eta (a := 1) (b := 512) j⟩
  show f (ix2 r l) = f _
  congr 1
  funext a
  apply Fin.ext
  match a with
  | ⟨0, _⟩ =>
    show r.val = win0_13.index t 0 * 1 + 1 * r.val
    rw [(idx13 _).1]; omega
  | ⟨1, _⟩ =>
    show l.val = win0_13.index t 1 * 512 + 1 * l.val
    rw [(idx13 _).2]; omega

theorem flush13 (t : Fin cfg0.N) (hf : (cfg0.win 13).flush t = true) :
    (dats m 0 c).flushed 13 t = ((cfg0.win 13).blk t).view.read (Elt Ideal) (arr13 m c) := by
  rw [seven t ((flush0_13 t).mp hf)]
  exact at13 m c ⟨7, lt7⟩

theorem final13 : (dats m 0 c).arrAt 13 cfg0.N = arr13 m c :=
  (dats m 0 c).arrAt_eq_of_cover 13 (arr13 m c) (flush13 m c) fun i => by
    have h0 : (i 0 : Nat) < 1 := (i 0).isLt
    have h1 : (i 1 : Nat) < 512 := (i 1).isLt
    refine ⟨⟨7, lt7⟩, (flush0_13 _).mpr rfl, ?_⟩
    show i ∈ ((View.whole main_v24_3).slice (win0_13.rect ⟨7, lt7⟩)).set
    rw [View.set_slice_whole, Rect.mem_set_unit]
    have hi := idx13 ⟨7, lt7⟩
    intro a
    match a with
    | ⟨0, _⟩ =>
      show win0_13.index _ 0 * 1 ≤ (i 0 : Nat) ∧ (i 0 : Nat) < win0_13.index _ 0 * 1 + 1
      rw [hi.1]; omega
    | ⟨1, _⟩ =>
      show win0_13.index _ 1 * 512 ≤ (i 1 : Nat) ∧ (i 1 : Nat) < win0_13.index _ 1 * 512 + 512
      rw [hi.2]; omega

/-- The bias gradient, as the last point leaves it. -/
def arr14 : Buf (Elt Ideal) ((c : Thread nD τ).loc main_v24_4) := (outsAt0 m c 7 lt7).2.2.2.2.1

theorem idx14 : ∀ t : Fin cfg0.N, win0_14.index t 0 = 0 ∧ win0_14.index t 1 = 0 :=
  (by decide +kernel : ∀ t : Fin grid0.N, win0_14.index t 0 = 0 ∧ win0_14.index t 1 = 0)

theorem at14 (t : Fin cfg0.N) : (dats m 0 c).flushed 14 t = ((cfg0.win 14).blk t).view.read (Elt Ideal) (outsAt0 m c t.val t.isLt).2.2.2.2.1 := by
  show (cfg0.win 14).cut (grid0.coords t) ((dats m 0 c).after 14 t) = _
  rw [after0_14]
  generalize (outsAt0 m c t.val t.isLt).2.2.2.2.1 = f
  funext j
  rw [View.read_apply]
  obtain ⟨r, l, rfl⟩ : ∃ (r : Fin 1) (l : Fin 128), j = ix2 r l := ⟨j 0, j 1, ix2_eta (a := 1) (b := 128) j⟩
  show f (ix2 r l) = f _
  congr 1
  funext a
  apply Fin.ext
  match a with
  | ⟨0, _⟩ =>
    show r.val = win0_14.index t 0 * 1 + 1 * r.val
    rw [(idx14 _).1]; omega
  | ⟨1, _⟩ =>
    show l.val = win0_14.index t 1 * 128 + 1 * l.val
    rw [(idx14 _).2]; omega

theorem flush14 (t : Fin cfg0.N) (hf : (cfg0.win 14).flush t = true) :
    (dats m 0 c).flushed 14 t = ((cfg0.win 14).blk t).view.read (Elt Ideal) (arr14 m c) := by
  rw [seven t ((flush0_14 t).mp hf)]
  exact at14 m c ⟨7, lt7⟩

theorem final14 : (dats m 0 c).arrAt 14 cfg0.N = arr14 m c :=
  (dats m 0 c).arrAt_eq_of_cover 14 (arr14 m c) (flush14 m c) fun i => by
    have h0 : (i 0 : Nat) < 1 := (i 0).isLt
    have h1 : (i 1 : Nat) < 128 := (i 1).isLt
    refine ⟨⟨7, lt7⟩, (flush0_14 _).mpr rfl, ?_⟩
    show i ∈ ((View.whole main_v24_4).slice (win0_14.rect ⟨7, lt7⟩)).set
    rw [View.set_slice_whole, Rect.mem_set_unit]
    have hi := idx14 ⟨7, lt7⟩
    intro a
    match a with
    | ⟨0, _⟩ =>
      show win0_14.index _ 0 * 1 ≤ (i 0 : Nat) ∧ (i 0 : Nat) < win0_14.index _ 0 * 1 + 1
      rw [hi.1]; omega
    | ⟨1, _⟩ =>
      show win0_14.index _ 1 * 128 ≤ (i 1 : Nat) ∧ (i 1 : Nat) < win0_14.index _ 1 * 128 + 128
      rw [hi.2]; omega

/-! ## The host lines after the call -/

/-- What the host lines after the call leave in a buffer. -/
abbrev tail (b : Ref sig .tc) : Buf (Elt Ideal) ((c : Thread nD τ).loc b) := Pipeline.afterTail₀ cfgs (dats m) 0 (V0 m) [hostOps1] c b

theorem spec_inj : Function.Injective (Pipeline.arrRef (cfgs 0).spec) := by decide +kernel

/-- The buffers as the call leaves them. -/
abbrev atEnd : Valuation τ sig (Elt Ideal) := Pipeline.withArrays (cfgs 0).spec c (V0 m c) fun w => (dats m 0 c).arrAt w (cfgs 0).N

theorem end12 : atEnd m c (Proc.devRef .tc main_v24_2) = arr12 m c := (Pipeline.withArrays_arr _ spec_inj c _ _ 12).trans (final12 m c)
theorem end13 : atEnd m c (Proc.devRef .tc main_v24_3) = arr13 m c := (Pipeline.withArrays_arr _ spec_inj c _ _ 13).trans (final13 m c)
theorem end14 : atEnd m c (Proc.devRef .tc main_v24_4) = arr14 m c := (Pipeline.withArrays_arr _ spec_inj c _ _ 14).trans (final14 m c)

theorem tail27 (k : Fin 64) : tail m c main_v27 (ix2 0 k) = (∑ h : Fin 8, arr12 m c (ix2 0 ⟨64 * h.val + k.val, by omega⟩) : EReal) := by
  show StableHlo.after (List.flatten [hostOps1]) (atEnd m c) (Proc.devRef .tc main_v27) _ = _
  unfold hostOps1
  simp only [List.flatten_cons, List.flatten_nil, List.append_nil]
  after_results
  rw [end12]
  pointwise
  simp only [mul_comm 64]

theorem tail30 (k : Fin 64) : tail m c main_v30 (ix2 0 k) = (∑ h : Fin 8, arr13 m c (ix2 0 ⟨64 * h.val + k.val, by omega⟩) : EReal) := by
  show StableHlo.after (List.flatten [hostOps1]) (atEnd m c) (Proc.devRef .tc main_v30) _ = _
  unfold hostOps1
  simp only [List.flatten_cons, List.flatten_nil, List.append_nil]
  after_results
  rw [end13]
  pointwise
  simp only [mul_comm 64]

theorem tail31 (k : Fin 8) : tail m c main_v31 (ix2 0 k) = (arr14 m c (ix2 0 ⟨k.val, by omega⟩) : EReal) := by
  show StableHlo.after (List.flatten [hostOps1]) (atEnd m c) (Proc.devRef .tc main_v31) _ = _
  unfold hostOps1
  simp only [List.flatten_cons, List.flatten_nil, List.append_nil]
  after_results
  rw [end14]
  pointwise

variable (ρ : Dev nD → PrngReg)

/-- The kernel's run: its five results, and its arguments unchanged. -/
theorem kernel_run : θ_run (defs (F := Ideal)) (onTc (τ := τ) (main (F := Ideal))) ⟨m, fun _ => 0, ρ⟩ (fun r => (∀ c : Dev nD,
      r.2.mem ((c.tc : Thread nD τ).loc main_v24_0) = arr10 m c
      ∧ r.2.mem ((c.tc : Thread nD τ).loc main_v24_1) = arr11 m c
      ∧ r.2.mem ((c.tc : Thread nD τ).loc main_v27) = tail m c main_v27
      ∧ r.2.mem ((c.tc : Thread nD τ).loc main_v30) = tail m c main_v30
      ∧ r.2.mem ((c.tc : Thread nD τ).loc main_v31) = tail m c main_v31)) := by
  refine (θ_run _ _ _).mono (fun r h c => ?_) (run_main m ρ)
  refine ⟨((h c).1 10).trans (final10 m c), ((h c).1 11).trans (final11 m c), (h c).2 main_v27 (Pipeline.mem_restRefs_of main_v27 (by decide) (by decide)), (h c).2 main_v30 (Pipeline.mem_restRefs_of main_v30 (by decide) (by decide)), (h c).2 main_v31 (Pipeline.mem_restRefs_of main_v31 (by decide) (by decide))⟩

end Cert.Fox

end
-- ==== Proof.FoxClaim.lean ====
/-
  The claims about the fox preparation's backward call: the reference's run leaves its arguments and every counter as it
  found them, and on finite arguments both programs end with equal gradients.
-/
module

public import proofs.«01_k».proof.Defs
public import proofs.«01_k».proof.Proof.TopArray
public import proofs.«01_k».proof.Proof.FoxReference
public import proofs.«01_k».proof.Proof.FoxResults
public import Idealize.ShloMosaic.Lib.Quiescent

@[expose] public section

set_option maxRecDepth 16384

noncomputable section

namespace Cert.Fox

open Idealize.ShloMosaic Idealize.ShloMosaic.TcCoe Idealize.SL.Sem
open Cert.Kernel2Ideal (nD τ sig S1x2048x1024 S1024x2056 S1x8 S1x64 S1x8x2048x64 S1x2048x512 S1x8x2048)

instance preFacts : Cert.Pre_finite_fox.Facts where
  bcast_S_S1x2048x1024 := by decide +kernel
  bcast_S_S1024x2056 := by decide +kernel
  bcast_S_S1x8 := by decide +kernel
  bcast_S_S1x64 := by decide +kernel
  bcast_S_S1x8x2048x64 := by decide +kernel
  bcast_S_S1x8x2048 := by decide +kernel

theorem reference_frame : Cert.quiescent_Reference2Ideal := fun m ρ _ =>
  (θ_run _ _ _).mono (fun r h => ⟨fun c => (h c).2.2.2.2.2, sem_eq_zero_of_no_sems (by decide) r.2⟩)
    (Cert.Reference2Ideal.Value.run (F := Ideal) m ρ)

/-! ## The real numbers in the arguments -/

section
variable (X0 : S1x2048x1024.Idx → ℝ) (X1 : S1024x2056.Idx → ℝ) (X2 : S1x8.Idx → ℝ) (X3 X4 : S1x64.Idx → ℝ) (X5 X6 : S1x8x2048x64.Idx → ℝ) (X9 : S1x8x2048.Idx → ℝ)

/-- The projected rows, zero past the columns of the projection. -/
def projected (r j : ℕ) : ℝ := if h : r < 2048 ∧ j < 2056 then ∑ i : Fin 1024, X0 (ix3 0 ⟨r, h.1⟩ i) * X1 (ix2 i ⟨j, h.2⟩) else 0

/-- A cotangent of the heads by row and column. -/
def byColumn (r l : ℕ) : ℝ := if h : r < 2048 ∧ l < 512 then X5 (ix4 0 ⟨l / 64, by omega⟩ ⟨r, h.1⟩ ⟨l % 64, by omega⟩) else 0

/-- The cotangent of the running sums, zero past the heads. -/
def byHead (k r : ℕ) : ℝ := if h : k < 8 ∧ r < 2048 then X9 (ix3 0 ⟨k, h.1⟩ ⟨r, h.2⟩) else 0

/-- The biases, zero past the heads. -/
def biases (k : ℕ) : ℝ := if h : k < 8 then X2 (ix2 0 ⟨k, h⟩) else 0

/-- The gains of a head's columns. -/
def gains (k : ℕ) : ℝ := X3 (ix2 0 ⟨k % 64, by omega⟩)

theorem byColumn_head (r : Fin 2048) (h : Fin 8) (k : Fin 64) : byColumn X5 r.val (64 * h.val + k.val) = X5 (ix4 0 h r k) := by
  unfold byColumn
  rw [dif_pos ⟨r.isLt, by omega⟩]
  congr 2
  · apply Fin.ext; show (64 * h.val + k.val) / 64 = h.val; omega
  · apply Fin.ext; show (64 * h.val + k.val) % 64 = k.val; omega

theorem finite_of {X0 : S1x2048x1024.Idx → ℝ} {X1 : S1024x2056.Idx → ℝ} {X2 : S1x8.Idx → ℝ} {X3 X4 : S1x64.Idx → ℝ} {X5 X6 : S1x8x2048x64.Idx → ℝ} {X9 : S1x8x2048.Idx → ℝ}
    {x0 : FVec Ideal S1x2048x1024 .f32} {x1 : FVec Ideal S1024x2056 .f32} {x2 : FVec Ideal S1x8 .f32} {x3 x4 : FVec Ideal S1x64 .f32}
    {x5 x6 : FVec Ideal S1x8x2048x64 .f32} {x9 : FVec Ideal S1x8x2048 .f32}
    (h0 : x0 = fun i => ((X0 i : ℝ) : EReal)) (h1 : x1 = fun i => ((X1 i : ℝ) : EReal)) (h2 : x2 = fun i => ((X2 i : ℝ) : EReal))
    (h3 : x3 = fun i => ((X3 i : ℝ) : EReal)) (h4 : x4 = fun i => ((X4 i : ℝ) : EReal)) (h5 : x5 = fun i => ((X5 i : ℝ) : EReal))
    (h6 : x6 = fun i => ((X6 i : ℝ) : EReal)) (h9 : x9 = fun i => ((X9 i : ℝ) : EReal)) :
    Finite x0 x1 x2 x3 x4 x5 x6 x9 (projected X0 X1) (byColumn X5) (byColumn X6) (byHead X9) (biases X2) (gains X3) (gains X4) := by
  subst h0 h1 h2 h3 h4 h5 h6 h9
  exact {
  u r j := by
    unfold Cert.Reference2Ideal.Read.val_main_v0
    pointwise
    unfold projected
    rw [dif_pos ⟨r.isLt, j.isLt⟩]
    simp only [← EReal.coe_mul, Reals.sum_coe]
  b k := by unfold biases; rw [dif_pos k.isLt]
  g k := by unfold gains; simp only [Nat.mod_eq_of_lt k.isLt]
  k k := by unfold gains; simp only [Nat.mod_eq_of_lt k.isLt]
  dq r h k := by rw [byColumn_head]
  dk r h k := by rw [byColumn_head]
  c k r := by unfold byHead; rw [dif_pos ⟨k.isLt, r.isLt⟩] }
end

theorem holds_of (m : (ℓ : Loc nD τ sig) → Buf (Elt Ideal) ℓ) (c : Dev nD)
    {X0 : S1x2048x1024.Idx → ℝ} {X1 : S1024x2056.Idx → ℝ} {X2 : S1x8.Idx → ℝ} {X3 X4 : S1x64.Idx → ℝ} {X5 X6 : S1x8x2048x64.Idx → ℝ} {X9 : S1x8x2048.Idx → ℝ}
    (h0 : aH m c = fun i => ((X0 i : ℝ) : EReal)) (h1 : aW m c = fun i => ((X1 i : ℝ) : EReal)) (h2 : aB m c = fun i => ((X2 i : ℝ) : EReal))
    (h3 : aQG m c = fun i => ((X3 i : ℝ) : EReal)) (h4 : aKG m c = fun i => ((X4 i : ℝ) : EReal)) (h5 : aDQ m c = fun i => ((X5 i : ℝ) : EReal))
    (h6 : aDK m c = fun i => ((X6 i : ℝ) : EReal)) (h9 : aDC m c = fun i => ((X9 i : ℝ) : EReal)) :
    Holds m c (projected X0 X1) (byColumn X5) (byColumn X6) (byHead X9) (biases X2) (fun l => gains X3 (l % 64)) (fun l => gains X4 (l % 64)) where
  u r k := by
    rw [V_v12, h0, h1]
    unfold projected
    by_cases h : k.val < 2056
    · rw [dif_pos ⟨r.isLt, h⟩]
      simp only [dif_pos h, ← EReal.coe_mul, Reals.sum_coe]
    · rw [dif_neg (fun h' => h h'.2)]
      simp only [dif_neg h, mul_zero, Finset.sum_const_zero, EReal.coe_zero]
  dq r k := by
    rw [V_v18, h5]
    unfold byColumn
    rw [dif_pos ⟨r.isLt, k.isLt⟩]
  dk r k := by
    rw [V_v20, h6]
    unfold byColumn
    rw [dif_pos ⟨r.isLt, k.isLt⟩]
  dc r k := by
    rw [V_v15, h9]
    unfold byHead
    by_cases h : k.val < 8
    · rw [dif_pos h, dif_pos ⟨h, r.isLt⟩]
    · rw [dif_neg h, dif_neg (fun h' => h h'.1), EReal.coe_zero]
  b k := by
    rw [V_v5, h2]
    unfold biases
    by_cases h : k.val < 8
    · rw [dif_pos h, dif_pos h]
    · rw [dif_neg h, dif_neg h, EReal.coe_zero]
  qg k := by
    rw [V_v8, h3]
    unfold gains
    simp only [Nat.mod_mod]
  kg k := by
    rw [V_v11, h4]
    unfold gains
    simp only [Nat.mod_mod]

section
variable {m : (ℓ : Loc nD τ sig) → Buf (Elt Ideal) ℓ} {c : Dev nD} {U DQ DK C : ℕ → ℕ → ℝ} {B QG KG : ℕ → ℝ} (H : Holds m c U DQ DK C B QG KG)
include H

theorem arr10_at (r : Fin 2048) (j : Fin 2176) : arr10 m c (ix2 r j) = duAt U DQ DK C B QG KG (aDV m c) (aDG m c) r j := by
  refine (du_point H (pointOf r) ⟨r.val % 256, by omega⟩ j).trans ?_
  congr 1
  apply Fin.ext
  show 256 * (7 - (7 - r.val / 256)) + r.val % 256 = r.val
  omega

theorem tail27_at (k : Fin 64) : tail m c Cert.Kernel2Ideal.main_v27 (ix2 0 k)
    = ((∑ r : Fin 2048, ∑ h : Fin 8, U r.val (64 * h.val + k.val) * rin (U r.val) (64 * h.val + k.val) * DQ r.val (64 * h.val + k.val) : ℝ) : EReal) := by
  refine (tail27 m c k).trans (Eq.trans (b := (∑ h : Fin 8, ((∑ r : Fin 2048, U r.val (64 * h.val + k.val) * rin (U r.val) (64 * h.val + k.val) * DQ r.val (64 * h.val + k.val) : ℝ) : EReal) : EReal))
    (Finset.sum_congr rfl fun h _ => ?_) ?_)
  · refine (gain_q_sum H ⟨64 * h.val + k.val, by omega⟩ lt7).trans ?_
    rw [Reals.sum_coe]
    congr 1
    exact Finset.sum_congr rfl fun r _ => mul_comm _ _
  · rw [Reals.sum_coe, Finset.sum_comm]

theorem tail30_at (k : Fin 64) : tail m c Cert.Kernel2Ideal.main_v30 (ix2 0 k)
    = ((∑ r : Fin 2048, ∑ h : Fin 8, U r.val (512 + (64 * h.val + k.val)) * rin (fun l => U r.val (512 + l)) (64 * h.val + k.val) * DK r.val (64 * h.val + k.val) : ℝ) : EReal) := by
  refine (tail30 m c k).trans (Eq.trans (b := (∑ h : Fin 8, ((∑ r : Fin 2048, U r.val (512 + (64 * h.val + k.val)) * rin (fun l => U r.val (512 + l)) (64 * h.val + k.val) * DK r.val (64 * h.val + k.val) : ℝ) : EReal) : EReal))
    (Finset.sum_congr rfl fun h _ => ?_) ?_)
  · refine (gain_k_sum H ⟨64 * h.val + k.val, by omega⟩ lt7).trans ?_
    rw [Reals.sum_coe]
    congr 1
    exact Finset.sum_congr rfl fun r _ => mul_comm _ _
  · rw [Reals.sum_coe, Finset.sum_comm]
end

/-! ## The reference's run -/

section
variable (m : (ℓ : Loc Cert.Reference2Ideal.nD Cert.Reference2Ideal.τ Cert.Reference2Ideal.sig) → Buf (Elt Ideal) ℓ) (ρ : Dev Cert.Reference2Ideal.nD → PrngReg)
  (c : Dev Cert.Reference2Ideal.nD)

abbrev b0 : FVec Ideal S1x2048x1024 .f32 := m ((c.tc : Thread Cert.Reference2Ideal.nD Cert.Reference2Ideal.τ).loc Cert.Reference2Ideal.main_arg0)
abbrev b1 : FVec Ideal S1024x2056 .f32 := m ((c.tc : Thread Cert.Reference2Ideal.nD Cert.Reference2Ideal.τ).loc Cert.Reference2Ideal.main_arg1)
abbrev b2 : FVec Ideal S1x8 .f32 := m ((c.tc : Thread Cert.Reference2Ideal.nD Cert.Reference2Ideal.τ).loc Cert.Reference2Ideal.main_arg2)
abbrev b3 : FVec Ideal S1x64 .f32 := m ((c.tc : Thread Cert.Reference2Ideal.nD Cert.Reference2Ideal.τ).loc Cert.Reference2Ideal.main_arg3)
abbrev b4 : FVec Ideal S1x64 .f32 := m ((c.tc : Thread Cert.Reference2Ideal.nD Cert.Reference2Ideal.τ).loc Cert.Reference2Ideal.main_arg4)
abbrev b5 : FVec Ideal S1x8x2048x64 .f32 := m ((c.tc : Thread Cert.Reference2Ideal.nD Cert.Reference2Ideal.τ).loc Cert.Reference2Ideal.main_arg5)
abbrev b6 : FVec Ideal S1x8x2048x64 .f32 := m ((c.tc : Thread Cert.Reference2Ideal.nD Cert.Reference2Ideal.τ).loc Cert.Reference2Ideal.main_arg6)
abbrev b7 : FVec Ideal S1x8x2048x64 .f32 := m ((c.tc : Thread Cert.Reference2Ideal.nD Cert.Reference2Ideal.τ).loc Cert.Reference2Ideal.main_arg7)
abbrev b8 : FVec Ideal S1x2048x512 .f32 := m ((c.tc : Thread Cert.Reference2Ideal.nD Cert.Reference2Ideal.τ).loc Cert.Reference2Ideal.main_arg8)
abbrev b9 : FVec Ideal S1x8x2048 .f32 := m ((c.tc : Thread Cert.Reference2Ideal.nD Cert.Reference2Ideal.τ).loc Cert.Reference2Ideal.main_arg9)

theorem reference_run : θ_run (Cert.Reference2Ideal.defs (F := Ideal)) (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v111) = Cert.Reference2Ideal.Read.val_main_v111 (F := Ideal) (b0 m c) (b1 m c) (b2 m c) (b3 m c) (b4 m c) (b5 m c) (b6 m c) (b7 m c) (b8 m c) (b9 m c)
      ∧ r.2.mem ((c.tc : Thread Cert.Reference2Ideal.nD Cert.Reference2Ideal.τ).loc Cert.Reference2Ideal.main_v112) = Cert.Reference2Ideal.Read.val_main_v112 (F := Ideal) (b0 m c) (b1 m c) (b2 m c) (b3 m c) (b4 m c) (b5 m c) (b6 m c) (b7 m c) (b8 m c) (b9 m c)
      ∧ r.2.mem ((c.tc : Thread Cert.Reference2Ideal.nD Cert.Reference2Ideal.τ).loc Cert.Reference2Ideal.main_v113) = Cert.Reference2Ideal.Read.val_main_v113 (F := Ideal) (b0 m c) (b1 m c) (b5 m c)
      ∧ r.2.mem ((c.tc : Thread Cert.Reference2Ideal.nD Cert.Reference2Ideal.τ).loc Cert.Reference2Ideal.main_v114) = Cert.Reference2Ideal.Read.val_main_v114 (F := Ideal) (b0 m c) (b1 m c) (b6 m c)
      ∧ r.2.mem ((c.tc : Thread Cert.Reference2Ideal.nD Cert.Reference2Ideal.τ).loc Cert.Reference2Ideal.main_v115) = Cert.Reference2Ideal.Read.val_main_v115 (F := Ideal) (b0 m c) (b1 m c) (b2 m c) (b9 m c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)) := by
  refine (θ_run _ _ _).mono (fun r h c => ?_) (Cert.Reference2Ideal.Value.run (F := Ideal) m ρ)
  obtain ⟨r0, r1, r2, r3, r4, rest⟩ := h c
  exact ⟨r0.trans (Cert.Reference2Ideal.Read.val_main_v111_eq (F := Ideal) _), r1.trans (Cert.Reference2Ideal.Read.val_main_v112_eq (F := Ideal) _), r2.trans (Cert.Reference2Ideal.Read.val_main_v113_eq (F := Ideal) _), r3.trans (Cert.Reference2Ideal.Read.val_main_v114_eq (F := Ideal) _), r4.trans (Cert.Reference2Ideal.Read.val_main_v115_eq (F := Ideal) _), rest⟩
end

theorem algebraic : Cert.algebraic_Kernel2Ideal_Reference2Ideal_pre_finite_fox := by
  intro m ρ m' ρ' hpre hag
  refine ⟨fun c => arr10 m c, fun c => arr11 m c, fun c => tail m c Cert.Kernel2Ideal.main_v27, fun c => tail m c Cert.Kernel2Ideal.main_v30,
    fun c => tail m c Cert.Kernel2Ideal.main_v31, ?_, ?_⟩
  · refine (θ_run _ _ _).mono (fun r h c => ?_) (θ_run_and (kernel_run m ρ) (Cert.Kernel2Ideal.Gen.unchanged (F := Ideal) m ρ))
    obtain ⟨h0, h1, h2, h3, h4⟩ := h.1 c
    exact ⟨h0, h1, h2, h3, h4, h.2 c⟩
  · refine (θ_run _ _ _).mono (fun r h c => ?_) (reference_run m' ρ')
    obtain ⟨e0, e1, e2, e3, e4, e5, e6, e7, e8, e9⟩ := hag c
    replace e0 : b0 m' c = aH m c := e0
    replace e1 : b1 m' c = aW m c := e1
    replace e2 : b2 m' c = aB m c := e2
    replace e3 : b3 m' c = aQG m c := e3
    replace e4 : b4 m' c = aKG m c := e4
    replace e5 : b5 m' c = aDQ m c := e5
    replace e6 : b6 m' c = aDK m c := e6
    replace e7 : b7 m' c = aDV m c := e7
    replace e8 : b8 m' c = aDG m c := e8
    replace e9 : b9 m' c = aDC m c := e9
    obtain ⟨p0, p1, p2, p3, p4, p5, p6, p9⟩ := hpre c
    obtain ⟨X0, h0⟩ := Reals.real_of_abs_lt _ _ (Reals.top_array _) p0
    obtain ⟨X1, h1⟩ := Reals.real_of_abs_lt _ _ (Reals.top_array _) p1
    obtain ⟨X2, h2⟩ := Reals.real_of_abs_lt _ _ (Reals.top_array _) p2
    obtain ⟨X3, h3⟩ := Reals.real_of_abs_lt _ _ (Reals.top_array _) p3
    obtain ⟨X4, h4⟩ := Reals.real_of_abs_lt _ _ (Reals.top_array _) p4
    obtain ⟨X5, h5⟩ := Reals.real_of_abs_lt _ _ (Reals.top_array _) p5
    obtain ⟨X6, h6⟩ := Reals.real_of_abs_lt _ _ (Reals.top_array _) p6
    obtain ⟨X9, h9⟩ := Reals.real_of_abs_lt _ _ (Reals.top_array _) p9
    have K := holds_of m c h0 h1 h2 h3 h4 h5 h6 h9
    have R := finite_of h0 h1 h2 h3 h4 h5 h6 h9
    obtain ⟨r0, r1, r2, r3, r4, rest⟩ := h c
    refine ⟨r0.trans ?_, r1.trans ?_, r2.trans ?_, r3.trans ?_, r4.trans ?_, rest⟩
    · rw [e0, e1, e2, e3, e4, e5, e6, e7, e8, e9]
      funext j
      obtain ⟨r, l, rfl⟩ : ∃ (r : Fin 2048) (l : Fin 2176), j = ix2 r l := ⟨j 0, j 1, ix2_eta (a := 2048) (b := 2176) j⟩
      exact (ref_du R r l).trans (arr10_at K r l).symm
    · rw [e0, e1, e2, e3, e4, e5, e6, e7, e8, e9]
      funext j
      obtain ⟨r, l, rfl⟩ : ∃ (r : Fin 1024) (l : Fin 2176), j = ix2 r l := ⟨j 0, j 1, ix2_eta (a := 1024) (b := 2176) j⟩
      exact (ref_dw R r l).trans (dw_sum K r l lt7).symm
    · rw [e0, e1, e5]
      funext j
      obtain ⟨r, k, rfl⟩ : ∃ (r : Fin 1) (k : Fin 64), j = ix2 r k := ⟨j 0, j 1, ix2_eta (a := 1) (b := 64) j⟩
      obtain rfl : r = 0 := Subsingleton.elim _ _
      exact (ref_dqg R k).trans (tail27_at K k).symm
    · rw [e0, e1, e6]
      funext j
      obtain ⟨r, k, rfl⟩ : ∃ (r : Fin 1) (k : Fin 64), j = ix2 r k := ⟨j 0, j 1, ix2_eta (a := 1) (b := 64) j⟩
      obtain rfl : r = 0 := Subsingleton.elim _ _
      exact (ref_dkg R k).trans (tail30_at K k).symm
    · rw [e0, e1, e2, e9]
      funext j
      obtain ⟨r, k, rfl⟩ : ∃ (r : Fin 1) (k : Fin 8), j = ix2 r k := ⟨j 0, j 1, ix2_eta (a := 1) (b := 8) j⟩
      obtain rfl : r = 0 := Subsingleton.elim _ _
      exact (ref_df R k).trans ((tail31 m c k).trans (dbias_sum K ⟨k.val, by omega⟩ lt7)).symm

end Cert.Fox

end
-- ==== Proof.AttnBody.lean ====
/-
  What the attention backward kernel's body is handed at a grid point: the two tables of tile numbers, and the words it
  reads in them.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The table of query tiles and the table of key tiles, as the body is handed them. -/
abbrev tabI : Memref sig .tc .smem S36 .i32 := Memref.whole main_c
abbrev tabJ : Memref sig .tc .smem S36 .i32 := Memref.whole main_c_0

/-- A table's contents on core `c`, and the table held for reading. -/
abbrev TabBuf (c : Dev nD) (M : Memref sig .tc .smem S36 .i32) : Type := Buf (Elt F) (M.view.loc (c : Thread nD τ))
abbrev tabHeld (c : Dev nD) (M : Memref sig .tc .smem S36 .i32) (f : TabBuf (F := F) c M) : sProp 𝕄 :=
  M.view.loc (c : Thread nD τ) ↦{fullShare.right} f

/-- The word a table of contents `f` gives at the point of coordinates `i`. -/
abbrev wordAt (c : Dev nD) (M : Memref sig .tc .smem S36 .i32) (f : TabBuf (F := F) c M) (i : grid0.Coords) : BitVec 32 :=
  M.view.readAt (Elt F) (Rect.unit (s := S36) (k0_off1 i) S1.size (k0_off1_inb i)).toLoadRect f (Shape.Idx.first (numel1_S1.symm ▸ Nat.one_pos))

/-- The test for a tile on the diagonal, as the body spells it before it clears its running sums. -/
abbrev onDiag (v w : BitVec 32) : Prop := Scalar.cmpi .ne (Scalar.extui (Scalar.cmpi .eq v w) : BitVec 32) 0#32 = 1#1

end Cert.Attn

end
-- ==== Proof.AttnPlan.lean ====
/-
  The schedule of the attention backward kernel: which tiles the 36 grid points work on, as its two tables say, and what
  follows of the body's branches and of its windows.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables -/

/-- The place of a table a point reads. -/
def cellAt (i : grid0.Coords) : S36.Idx :=
  (Rect.unit (s := S36) (k0_off1 i) S1.size (k0_off1_inb i)).emb (Shape.Idx.first (numel1_S1.symm ▸ Nat.one_pos))

/-- The query tile and the key tile of a point. -/
def qTile (i : grid0.Coords) : BitVec 32 := lit0 (S36.rowMajor (cellAt i))
def kTile (i : grid0.Coords) : BitVec 32 := lit1 (S36.rowMajor (cellAt i))

/-- The two tables as the program's constants give them. -/
def tbl : pre0.Contents (Elt F) := fun
  | 0 => fun x => lit0 (S36.rowMajor x)
  | 1 => fun x => lit1 (S36.rowMajor x)

theorem tbl_at_0 (i : grid0.Coords) : (tbl (F := F)).at 0 (Rect.unit (s := S36) (k0_off1 i) S1.size (k0_off1_inb i)) numel1_S1 = qTile i := rfl
theorem tbl_at_1 (i : grid0.Coords) : (tbl (F := F)).at 1 (Rect.unit (s := S36) (k0_off1 i) S1.size (k0_off1_inb i)) numel1_S1 = kTile i := rfl
theorem in_table : ∀ (i : grid0.Coords) (a : Fin 1), k0_off1 i a + 1 ≤ S36.size a := by decide +kernel

theorem tbl_atD_0 (i : grid0.Coords) : (tbl (F := F)).atD 0 (k0_off1 i) = qTile i :=
  (dif_pos (c := ∀ a : Fin (pre0.ref 0).ty.shape.rank, k0_off1 i a + 1 ≤ (pre0.ref 0).ty.shape.size a) (in_table i)).trans rfl
theorem tbl_atD_1 (i : grid0.Coords) : (tbl (F := F)).atD 1 (k0_off1 i) = kTile i :=
  (dif_pos (c := ∀ a : Fin (pre0.ref 1).ty.shape.rank, k0_off1 i a + 1 ≤ (pre0.ref 1).ty.shape.size a) (in_table i)).trans rfl

theorem wordAt_0 (c : Dev nD) (i : grid0.Coords) : wordAt (F := F) c tabI (tbl 0) i = qTile i := rfl
theorem wordAt_1 (c : Dev nD) (i : grid0.Coords) : wordAt (F := F) c tabJ (tbl 1) i = kTile i := rfl

/-! ## The body's conditions at the points -/

theorem checked : ∀ i : grid0.Coords, k0_chk1 (qTile i) (kTile i) := by decide +kernel

/-- A point works on a diagonal tile, or on the last query tile. -/
abbrev Diag (t : Fin grid0.N) : Prop := qTile (grid0.coords t) = kTile (grid0.coords t)
abbrev Last (t : Fin grid0.N) : Prop := qTile (grid0.coords t) = 7#32

theorem cond1_iff : ∀ t : Fin grid0.N, k0_cond1 (grid0.coords t) = 1#1 ↔ t.val = 0 := by decide +kernel
theorem clear_iff : ∀ t : Fin grid0.N, onDiag (qTile (grid0.coords t)) (kTile (grid0.coords t)) ↔ Diag t := by decide +kernel
theorem cond3_iff : ∀ t : Fin grid0.N, k0_cond3 (qTile (grid0.coords t)) (kTile (grid0.coords t)) = 1#1 ↔ ¬Diag t := by decide +kernel
theorem cond4_iff : ∀ t : Fin grid0.N, k0_cond4 (qTile (grid0.coords t)) (kTile (grid0.coords t)) = 1#1 ↔ Diag t := by decide +kernel
theorem cond5_iff : ∀ t : Fin grid0.N, k0_cond5 (qTile (grid0.coords t)) = 1#1 ↔ Last t := by decide +kernel
theorem diag_first : ∀ t : Fin grid0.N, t.val = 0 → Diag t := by decide +kernel
theorem not_last_first : ∀ t : Fin grid0.N, t.val = 0 → ¬Last t := by decide +kernel

/-! ## The tables are admissible -/

theorem in_q : ∀ (i : grid0.Coords) a, (![(qTile i).toNat, 0] a + 1) * S256x512.size a ≤ S2048x512.size a := by decide +kernel
theorem in_k : ∀ (i : grid0.Coords) a, (![(kTile i).toNat, 0] a + 1) * S256x512.size a ≤ S2048x512.size a := by decide +kernel
theorem in_rows : ∀ (i : grid0.Coords) a, (![0, (qTile i).toNat, 0] a + 1) * S8x256x128.size a ≤ S8x2048x128.size a := by decide +kernel
theorem in_cols : ∀ (i : grid0.Coords) a, (![0, (kTile i).toNat] a + 1) * S8x256.size a ≤ S8x2048.size a := by decide +kernel
theorem words_q : ∀ i : grid0.Coords, (Rect.block (s := S2048x512) S256x512.size ![(qTile i).toNat, 0] (in_q i)).WholeWords (EltTy.packing .bf16) := by decide +kernel
theorem words_k : ∀ i : grid0.Coords, (Rect.block (s := S2048x512) S256x512.size ![(kTile i).toNat, 0] (in_k i)).WholeWords (EltTy.packing .bf16) := by decide +kernel

theorem ok : ok0 (F := F) tbl :=
  ⟨fun i => ⟨in_q i, .inr (words_q i)⟩, fun i => ⟨in_k i, .inr (words_k i)⟩, fun i => ⟨in_k i, .inr (words_k i)⟩,
    fun i => ⟨in_q i, .inr (words_q i)⟩, fun i => ⟨in_rows i, .inl rfl⟩, fun i => ⟨in_rows i, .inl rfl⟩,
    fun i => ⟨in_rows i, .inl rfl⟩, fun i => ⟨in_cols i, .inl rfl⟩, fun i => ⟨in_k i, .inl rfl⟩,
    fun i => ⟨in_k i, .inl rfl⟩, fun i => ⟨in_cols i, .inl rfl⟩⟩

/-- The pipeline at these tables. -/
abbrev adm : (pcfg0 (F := F)).Adm := ⟨tbl, ok⟩
abbrev cfgM : Pipeline.Cfg sig Λ₀ := cfg0 (F := F) adm

/-! ## Where the outputs' windows rest -/

theorem some_tile : ∀ i : grid0.Coords, k0_cond3 (qTile i) (kTile i) = 1#1 ∨ k0_cond4 (qTile i) (kTile i) = 1#1 := by decide +kernel

theorem live_8 (i : grid0.Coords) : (cfgM (F := F)).idle 8 i = false := by
  show (!(k0_cond1 i == 1#1) && !(k0_cond3 (tbl.atD 0 (k0_off1 i)) (tbl.atD 1 (k0_off1 i)) == 1#1)
    && !(k0_cond4 (tbl.atD 0 (k0_off1 i)) (tbl.atD 1 (k0_off1 i)) == 1#1)) = false
  rw [tbl_atD_0, tbl_atD_1]
  rcases some_tile i with h | h <;> rw [h] <;> simp

theorem idle_key (t : Fin grid0.N) (w : Fin 12) (hw : 9 ≤ w.val) : (cfgM (F := F)).idle w (grid0.coords t) = !(k0_cond5 (qTile (grid0.coords t)) == 1#1) := by
  rw [← tbl_atD_0 (F := F)]
  fin_cases w <;> first | rfl | (exfalso; revert hw; decide)

theorem idle_of_not_last (t : Fin grid0.N) (w : Fin 12) (hw : 9 ≤ w.val) (h : ¬Last t) : (cfgM (F := F)).idle w (grid0.coords t) = true := by
  rw [idle_key t w hw]
  simpa using mt (cond5_iff t).mp h

theorem live_of_last (t : Fin grid0.N) (w : Fin 12) (hw : 9 ≤ w.val) (h : Last t) : (cfgM (F := F)).idle w (grid0.coords t) = false := by
  rw [idle_key t w hw, (cond5_iff t).mpr h]; rfl

theorem hold_9 : ∀ t : Fin grid0.N, ¬Last t → Window.flushOf grid0 true (fun i => (![(kTile i).toNat, 0] : Fin 2 → Nat)) t = false := by decide +kernel
theorem hold_11 : ∀ t : Fin grid0.N, ¬Last t → Window.flushOf grid0 true (fun i => (![0, (kTile i).toNat] : Fin 2 → Nat)) t = false := by decide +kernel

theorem noFlush_9 (t : Fin grid0.N) (h : ¬Last t) : ((cfgM (F := F)).win 9).flush t = false := hold_9 t h
theorem noFlush_10 (t : Fin grid0.N) (h : ¬Last t) : ((cfgM (F := F)).win 10).flush t = false := hold_9 t h
theorem noFlush_11 (t : Fin grid0.N) (h : ¬Last t) : ((cfgM (F := F)).win 11).flush t = false := hold_11 t h

theorem hold_8 : ∀ t : Fin grid0.N, t.val ≠ 35 → Window.flushOf grid0 true cc0_transform_8 t = false := by decide +kernel
theorem noFlush_8 (t : Fin grid0.N) (h : t.val ≠ 35) : ((cfgM (F := F)).win 8).flush t = false := hold_8 t h

end Cert.Attn

end
-- ==== Proof.AttnEntry.lean ====
/-
  What the attention backward kernel finds when it is reached: the host's arrays, the tables, and the blocks each point
  sees.
-/
module

public import proofs.«01_k».proof.Proof.AttnPlan

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each buffer of core `c` holds when the kernel is reached: the host's lines run on the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [hostOps0, List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh fun c => main_chain c

/-- The host's lines leave the arguments alone. -/
theorem V_main_arg0 (c : Dev nD) : V m c main_arg0 = m ((c : Thread nD τ).loc main_arg0) := by
  show StableHlo.after hostOps0 (fun b => m (c, b)) main_arg0 = _
  unfold hostOps0
  after_results
theorem V_main_arg1 (c : Dev nD) : V m c main_arg1 = m ((c : Thread nD τ).loc main_arg1) := by
  show StableHlo.after hostOps0 (fun b => m (c, b)) main_arg1 = _
  unfold hostOps0
  after_results
theorem V_main_arg2 (c : Dev nD) : V m c main_arg2 = m ((c : Thread nD τ).loc main_arg2) := by
  show StableHlo.after hostOps0 (fun b => m (c, b)) main_arg2 = _
  unfold hostOps0
  after_results
theorem V_main_arg3 (c : Dev nD) : V m c main_arg3 = m ((c : Thread nD τ).loc main_arg3) := by
  show StableHlo.after hostOps0 (fun b => m (c, b)) main_arg3 = _
  unfold hostOps0
  after_results
theorem V_main_arg4 (c : Dev nD) : V m c main_arg4 = m ((c : Thread nD τ).loc main_arg4) := by
  show StableHlo.after hostOps0 (fun b => m (c, b)) main_arg4 = _
  unfold hostOps0
  after_results

/-- The tables hold the tile numbers when the kernel is reached. -/
theorem V_table_0 (c : Dev nD) : V m c main_c = fun x => lit0 (S36.rowMajor x) := by
  show StableHlo.after hostOps0 (fun b => m (c, b)) main_c = _
  unfold hostOps0
  after_results
  rfl
theorem V_table_1 (c : Dev nD) : V m c main_c_0 = fun x => lit1 (S36.rowMajor x) := by
  show StableHlo.after hostOps0 (fun b => m (c, b)) main_c_0 = _
  unfold hostOps0
  after_results
  rfl
theorem V_pre (c : Dev nD) (j : Fin 2) : V m c (pre0.ref j) = tbl j := by
  fin_cases j
  · exact V_table_0 m c
  · exact V_table_1 m c

/-- The body's share of the two tables. -/
theorem tables_eq (c : Dev nD) : (Pipeline.ΦT pre0 (tbl (F := F)) c : sProp 𝕄) = iprop(tabHeld c tabI (tbl 0) ∗ tabHeld c tabJ (tbl 1)) := by
  unfold Pipeline.ΦT Pipeline.prefHeld
  exact bigSep_univ_eq_bigSepL [(0 : Fin 2), (1 : Fin 2)] (by decide) (by decide) _

/-- Window `w`'s block at a point, cut from its array as the kernel finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

theorem before_of_0 {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM (F := F)) c) (hA : dat.A 2 = V m c (Pipeline.arrRef spec0 2))
    (hafter : ∀ t, dat.after 2 t = iblk m c 2 t) (t : Fin (cfgM (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM (F := F)) c) (hA : dat.A 3 = V m c (Pipeline.arrRef spec0 3))
    (hafter : ∀ t, dat.after 3 t = iblk m c 3 t) (t : Fin (cfgM (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ (cfgM (F := F)) c) (hA : dat.A 4 = V m c (Pipeline.arrRef spec0 4))
    (hafter : ∀ t, dat.after 4 t = iblk m c 4 t) (t : Fin (cfgM (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ (cfgM (F := F)) c) (hA : dat.A 5 = V m c (Pipeline.arrRef spec0 5))
    (hafter : ∀ t, dat.after 5 t = iblk m c 5 t) (t : Fin (cfgM (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ (cfgM (F := F)) c) (hA : dat.A 6 = V m c (Pipeline.arrRef spec0 6))
    (hafter : ∀ t, dat.after 6 t = iblk m c 6 t) (t : Fin (cfgM (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ (cfgM (F := F)) c) (hA : dat.A 7 = V m c (Pipeline.arrRef spec0 7))
    (hafter : ∀ t, dat.after 7 t = iblk m c 7 t) (t : Fin (cfgM (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Attn

end
-- ==== Proof.AttnRunFirst.lean ====
/-
  The attention backward kernel's body at the first grid point: the query gradient starts from zeros, and the running
  sums of the first key tile are cleared.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runFirst (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256x128 .f32) (harg9 : arg9.IsWhole)
  (arg10 : Memref sig .tc .vmem S8x256 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S8x256 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S8x256 .f32) (harg17 : arg17.IsWhole)
    (T0 : TabBuf (F := F) c tabI) (T1 : TabBuf (F := F) c tabJ)
    (hchk : k0_chk1 (wordAt c tabI T0 i) (wordAt c tabJ T1 i))
    (h1 : k0_cond1 i = 1#1) (h2 : onDiag (wordAt c tabI T0 i) (wordAt c tabJ T1 i))
    (h3 : ¬k0_cond3 (wordAt c tabI T0 i) (wordAt c tabJ T1 i) = 1#1) (h4 : k0_cond4 (wordAt c tabI T0 i) (wordAt c tabJ T1 i) = 1#1)
    (h5 : ¬k0_cond5 (wordAt c tabI T0 i) = 1#1)
    (x3 x4 x5 x6 : Vec F S256x512 .bf16) (x7 x8 x9 : Vec F S8x256x128 .f32) (x10 : Vec F S8x256 .f32) :
    Σ' (L11 : List (View.Piece (Elt F) S2048x512 .f32)) (L15 : List (View.Piece (Elt F) S256x512 .f32)) (L16 : List (View.Piece (Elt F) S256x512 .f32)), { L17 : List (View.Piece (Elt F) S8x256 .f32) //
      ∀ (x12 x13 : Vec F S256x512 .f32) (x14 : Vec F S8x256 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ owns (c : Thread nD τ) arg12 fullShare x12
            ∗ owns (c : Thread nD τ) arg13 fullShare x13
            ∗ owns (c : Thread nD τ) arg14 fullShare x14
            ∗ (∃ d, owns (c : Thread nD τ) arg15 fullShare d)
            ∗ (∃ d, owns (c : Thread nD τ) arg16 fullShare d)
            ∗ (∃ d, owns (c : Thread nD τ) arg17 fullShare d)
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (∃ f, arg11.view.loc (c : Thread nD τ) ↦[arg11.view.set]{fullShare} arg11.view.writes (Elt F) f L11)
              ∗ owns (c : Thread nD τ) arg12 fullShare x12
              ∗ owns (c : Thread nD τ) arg13 fullShare x13
              ∗ owns (c : Thread nD τ) arg14 fullShare x14
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ tabHeld c tabI T0
              ∗ tabHeld c tabJ T1) -∗ K ⟨⟩))
          ⊢ wp frame (wpE (defs₀ (F := F)) Variants.none c none) E
              (cc0_fox_attn_bwd i tabI (Memref.isWhole_whole _) tabJ (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun x12 x13 x14 E K => ?run⟩
  case run =>
    simp only [cc0_fox_attn_bwd_eq_skeleton]
    unfold cc0_fox_attn_bwd_skel
    simp only [k0_part27_eq_skeleton]
    unfold k0_part27_skel
    simp only [k0_part14_eq_skeleton,
      k0_part15_eq_skeleton,
      k0_part16_eq_skeleton,
      k0_part17_eq_skeleton,
      k0_part18_eq_skeleton,
      k0_part19_eq_skeleton,
      k0_part20_eq_skeleton,
      k0_part21_eq_skeleton,
      k0_part22_eq_skeleton,
      k0_part23_eq_skeleton,
      k0_part24_eq_skeleton,
      k0_part25_eq_skeleton,
      k0_part26_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%d15, %f15, -, H15⟩, ⟨%d16, %f16, -, H16⟩, ⟨%d17, %f17, -, H17⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    obtain rfl := harg13.eq_unread hf13
    obtain rfl := harg14.eq_unread hf14
    sl_exec (disch := first | sl_exact hchk | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _; iexact H16
    isplitl [H17]
    · iexists _; iexact H17
    isplitl [HT0]; · iexact HT0
    iexact HT1

end Cert.Attn

end
-- ==== Proof.AttnRunDiag.lean ====
/-
  The attention backward kernel's body at a tile on the diagonal other than the first and the last: the running sums of a
  new key tile are cleared.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runDiag (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256x128 .f32) (harg9 : arg9.IsWhole)
  (arg10 : Memref sig .tc .vmem S8x256 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S8x256 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S8x256 .f32) (harg17 : arg17.IsWhole)
    (T0 : TabBuf (F := F) c tabI) (T1 : TabBuf (F := F) c tabJ)
    (hchk : k0_chk1 (wordAt c tabI T0 i) (wordAt c tabJ T1 i))
    (h1 : ¬k0_cond1 i = 1#1) (h2 : onDiag (wordAt c tabI T0 i) (wordAt c tabJ T1 i))
    (h3 : ¬k0_cond3 (wordAt c tabI T0 i) (wordAt c tabJ T1 i) = 1#1) (h4 : k0_cond4 (wordAt c tabI T0 i) (wordAt c tabJ T1 i) = 1#1)
    (h5 : ¬k0_cond5 (wordAt c tabI T0 i) = 1#1)
    (x3 x4 x5 x6 : Vec F S256x512 .bf16) (x7 x8 x9 : Vec F S8x256x128 .f32) (x10 : Vec F S8x256 .f32) (x11 : Vec F S2048x512 .f32) :
    Σ' (L11 : List (View.Piece (Elt F) S2048x512 .f32)) (L15 : List (View.Piece (Elt F) S256x512 .f32)) (L16 : List (View.Piece (Elt F) S256x512 .f32)), { L17 : List (View.Piece (Elt F) S8x256 .f32) //
      ∀ (x12 x13 : Vec F S256x512 .f32) (x14 : Vec F S8x256 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ (∃ d, owns (c : Thread nD τ) arg15 fullShare d)
            ∗ (∃ d, owns (c : Thread nD τ) arg16 fullShare d)
            ∗ (∃ d, owns (c : Thread nD τ) arg17 fullShare d)
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (arg11.view.loc (c : Thread nD τ) ↦[arg11.view.set]{fullShare} arg11.view.writes (Elt F) (harg11.unread x11) L11)
              ∗ owns (c : Thread nD τ) arg12 fullShare x12
              ∗ owns (c : Thread nD τ) arg13 fullShare x13
              ∗ owns (c : Thread nD τ) arg14 fullShare x14
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ tabHeld c tabI T0
              ∗ tabHeld c tabJ T1) -∗ K ⟨⟩))
          ⊢ wp frame (wpE (defs₀ (F := F)) Variants.none c none) E
              (cc0_fox_attn_bwd i tabI (Memref.isWhole_whole _) tabJ (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun x12 x13 x14 E K => ?run⟩
  case run =>
    simp only [cc0_fox_attn_bwd_eq_skeleton]
    unfold cc0_fox_attn_bwd_skel
    simp only [k0_part27_eq_skeleton]
    unfold k0_part27_skel
    simp only [k0_part14_eq_skeleton,
      k0_part15_eq_skeleton,
      k0_part16_eq_skeleton,
      k0_part17_eq_skeleton,
      k0_part18_eq_skeleton,
      k0_part19_eq_skeleton,
      k0_part20_eq_skeleton,
      k0_part21_eq_skeleton,
      k0_part22_eq_skeleton,
      k0_part23_eq_skeleton,
      k0_part24_eq_skeleton,
      k0_part25_eq_skeleton,
      k0_part26_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    sl_exec (disch := first | sl_exact hchk | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _; iexact H16
    isplitl [H17]
    · iexists _; iexact H17
    isplitl [HT0]; · iexact HT0
    iexact HT1

end Cert.Attn

end
-- ==== Proof.AttnRunFinal.lean ====
/-
  The attention backward kernel's body at the last grid point, the last tile on the diagonal: the running sums are
  cleared, added to, and written out.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runFinal (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256x128 .f32) (harg9 : arg9.IsWhole)
  (arg10 : Memref sig .tc .vmem S8x256 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S8x256 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S8x256 .f32) (harg17 : arg17.IsWhole)
    (T0 : TabBuf (F := F) c tabI) (T1 : TabBuf (F := F) c tabJ)
    (hchk : k0_chk1 (wordAt c tabI T0 i) (wordAt c tabJ T1 i))
    (h1 : ¬k0_cond1 i = 1#1) (h2 : onDiag (wordAt c tabI T0 i) (wordAt c tabJ T1 i))
    (h3 : ¬k0_cond3 (wordAt c tabI T0 i) (wordAt c tabJ T1 i) = 1#1) (h4 : k0_cond4 (wordAt c tabI T0 i) (wordAt c tabJ T1 i) = 1#1)
    (h5 : k0_cond5 (wordAt c tabI T0 i) = 1#1)
    (x3 x4 x5 x6 : Vec F S256x512 .bf16) (x7 x8 x9 : Vec F S8x256x128 .f32) (x10 : Vec F S8x256 .f32) (x11 : Vec F S2048x512 .f32) :
    Σ' (L11 : List (View.Piece (Elt F) S2048x512 .f32)) (L12 : List (View.Piece (Elt F) S256x512 .f32)) (L13 : List (View.Piece (Elt F) S256x512 .f32)) (L14 : List (View.Piece (Elt F) S8x256 .f32)) (L15 : List (View.Piece (Elt F) S256x512 .f32)) (L16 : List (View.Piece (Elt F) S256x512 .f32)), { L17 : List (View.Piece (Elt F) S8x256 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (arg11.view.loc (c : Thread nD τ) ↦[arg11.view.set]{fullShare} arg11.view.writes (Elt F) (harg11.unread x11) L11)
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ tabHeld c tabI T0
              ∗ tabHeld c tabJ T1) -∗ K ⟨⟩))
          ⊢ wp frame (wpE (defs₀ (F := F)) Variants.none c none) E
              (cc0_fox_attn_bwd i tabI (Memref.isWhole_whole _) tabJ (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_fox_attn_bwd_eq_skeleton]
    unfold cc0_fox_attn_bwd_skel
    simp only [k0_part27_eq_skeleton]
    unfold k0_part27_skel
    simp only [k0_part14_eq_skeleton,
      k0_part15_eq_skeleton,
      k0_part16_eq_skeleton,
      k0_part17_eq_skeleton,
      k0_part18_eq_skeleton,
      k0_part19_eq_skeleton,
      k0_part20_eq_skeleton,
      k0_part21_eq_skeleton,
      k0_part22_eq_skeleton,
      k0_part23_eq_skeleton,
      k0_part24_eq_skeleton,
      k0_part25_eq_skeleton,
      k0_part26_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    sl_exec (disch := first | sl_exact hchk | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [HT0]; · iexact HT0
    iexact HT1

end Cert.Attn

end
-- ==== Proof.AttnRunBelow.lean ====
/-
  The attention backward kernel's body at a tile below the diagonal that is not the last of its key tile.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runBelow (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256x128 .f32) (harg9 : arg9.IsWhole)
  (arg10 : Memref sig .tc .vmem S8x256 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S8x256 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S8x256 .f32) (harg17 : arg17.IsWhole)
    (T0 : TabBuf (F := F) c tabI) (T1 : TabBuf (F := F) c tabJ)
    (hchk : k0_chk1 (wordAt c tabI T0 i) (wordAt c tabJ T1 i))
    (h1 : ¬k0_cond1 i = 1#1) (h2 : ¬onDiag (wordAt c tabI T0 i) (wordAt c tabJ T1 i))
    (h3 : k0_cond3 (wordAt c tabI T0 i) (wordAt c tabJ T1 i) = 1#1) (h4 : ¬k0_cond4 (wordAt c tabI T0 i) (wordAt c tabJ T1 i) = 1#1)
    (h5 : ¬k0_cond5 (wordAt c tabI T0 i) = 1#1)
    (x3 x4 x5 x6 : Vec F S256x512 .bf16) (x7 x8 x9 : Vec F S8x256x128 .f32) (x10 : Vec F S8x256 .f32) (x11 : Vec F S2048x512 .f32) (x15 x16 : Vec F S256x512 .f32) (x17 : Vec F S8x256 .f32) :
    Σ' (L11 : List (View.Piece (Elt F) S2048x512 .f32)) (L15 : List (View.Piece (Elt F) S256x512 .f32)) (L16 : List (View.Piece (Elt F) S256x512 .f32)), { L17 : List (View.Piece (Elt F) S8x256 .f32) //
      ∀ (x12 x13 : Vec F S256x512 .f32) (x14 : Vec F S8x256 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare x16
            ∗ owns (c : Thread nD τ) arg17 fullShare x17
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (arg11.view.loc (c : Thread nD τ) ↦[arg11.view.set]{fullShare} arg11.view.writes (Elt F) (harg11.unread x11) L11)
              ∗ owns (c : Thread nD τ) arg12 fullShare x12
              ∗ owns (c : Thread nD τ) arg13 fullShare x13
              ∗ owns (c : Thread nD τ) arg14 fullShare x14
              ∗ (arg15.view.loc (c : Thread nD τ) ↦[arg15.view.set]{fullShare} arg15.view.writes (Elt F) (harg15.unread x15) L15)
              ∗ (arg16.view.loc (c : Thread nD τ) ↦[arg16.view.set]{fullShare} arg16.view.writes (Elt F) (harg16.unread x16) L16)
              ∗ (arg17.view.loc (c : Thread nD τ) ↦[arg17.view.set]{fullShare} arg17.view.writes (Elt F) (harg17.unread x17) L17)
              ∗ tabHeld c tabI T0
              ∗ tabHeld c tabJ T1) -∗ K ⟨⟩))
          ⊢ wp frame (wpE (defs₀ (F := F)) Variants.none c none) E
              (cc0_fox_attn_bwd i tabI (Memref.isWhole_whole _) tabJ (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun x12 x13 x14 E K => ?run⟩
  case run =>
    simp only [cc0_fox_attn_bwd_eq_skeleton]
    unfold cc0_fox_attn_bwd_skel
    simp only [k0_part1_eq_skeleton,
      k0_part2_eq_skeleton,
      k0_part3_eq_skeleton,
      k0_part4_eq_skeleton,
      k0_part5_eq_skeleton,
      k0_part6_eq_skeleton,
      k0_part7_eq_skeleton,
      k0_part8_eq_skeleton,
      k0_part9_eq_skeleton,
      k0_part10_eq_skeleton,
      k0_part11_eq_skeleton,
      k0_part12_eq_skeleton,
      k0_part13_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    sl_exec (disch := first | sl_exact hchk | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexact H17
    isplitl [HT0]; · iexact HT0
    iexact HT1

end Cert.Attn

end
-- ==== Proof.AttnRunLast.lean ====
/-
  The attention backward kernel's body at a tile below the diagonal, the last of its key tile: the running sums are
  written out.
-/
module

public import proofs.«01_k».proof.Proof.AttnBody

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runLast (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256x128 .f32) (harg9 : arg9.IsWhole)
  (arg10 : Memref sig .tc .vmem S8x256 .f32) (harg10 : arg10.IsWhole)
  (arg11 : Memref sig .tc .vmem S2048x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S8x256 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S8x256 .f32) (harg17 : arg17.IsWhole)
    (T0 : TabBuf (F := F) c tabI) (T1 : TabBuf (F := F) c tabJ)
    (hchk : k0_chk1 (wordAt c tabI T0 i) (wordAt c tabJ T1 i))
    (h1 : ¬k0_cond1 i = 1#1) (h2 : ¬onDiag (wordAt c tabI T0 i) (wordAt c tabJ T1 i))
    (h3 : k0_cond3 (wordAt c tabI T0 i) (wordAt c tabJ T1 i) = 1#1) (h4 : ¬k0_cond4 (wordAt c tabI T0 i) (wordAt c tabJ T1 i) = 1#1)
    (h5 : k0_cond5 (wordAt c tabI T0 i) = 1#1)
    (x3 x4 x5 x6 : Vec F S256x512 .bf16) (x7 x8 x9 : Vec F S8x256x128 .f32) (x10 : Vec F S8x256 .f32) (x11 : Vec F S2048x512 .f32) (x15 x16 : Vec F S256x512 .f32) (x17 : Vec F S8x256 .f32) :
    Σ' (L11 : List (View.Piece (Elt F) S2048x512 .f32)) (L12 : List (View.Piece (Elt F) S256x512 .f32)) (L13 : List (View.Piece (Elt F) S256x512 .f32)) (L14 : List (View.Piece (Elt F) S8x256 .f32)) (L15 : List (View.Piece (Elt F) S256x512 .f32)) (L16 : List (View.Piece (Elt F) S256x512 .f32)), { L17 : List (View.Piece (Elt F) S8x256 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare x15
            ∗ owns (c : Thread nD τ) arg16 fullShare x16
            ∗ owns (c : Thread nD τ) arg17 fullShare x17
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (arg11.view.loc (c : Thread nD τ) ↦[arg11.view.set]{fullShare} arg11.view.writes (Elt F) (harg11.unread x11) L11)
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ (arg15.view.loc (c : Thread nD τ) ↦[arg15.view.set]{fullShare} arg15.view.writes (Elt F) (harg15.unread x15) L15)
              ∗ (arg16.view.loc (c : Thread nD τ) ↦[arg16.view.set]{fullShare} arg16.view.writes (Elt F) (harg16.unread x16) L16)
              ∗ (arg17.view.loc (c : Thread nD τ) ↦[arg17.view.set]{fullShare} arg17.view.writes (Elt F) (harg17.unread x17) L17)
              ∗ tabHeld c tabI T0
              ∗ tabHeld c tabJ T1) -∗ K ⟨⟩))
          ⊢ wp frame (wpE (defs₀ (F := F)) Variants.none c none) E
              (cc0_fox_attn_bwd i tabI (Memref.isWhole_whole _) tabJ (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_fox_attn_bwd_eq_skeleton]
    unfold cc0_fox_attn_bwd_skel
    simp only [k0_part1_eq_skeleton,
      k0_part2_eq_skeleton,
      k0_part3_eq_skeleton,
      k0_part4_eq_skeleton,
      k0_part5_eq_skeleton,
      k0_part6_eq_skeleton,
      k0_part7_eq_skeleton,
      k0_part8_eq_skeleton,
      k0_part9_eq_skeleton,
      k0_part10_eq_skeleton,
      k0_part11_eq_skeleton,
      k0_part12_eq_skeleton,
      k0_part13_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg15.eq_unread hf15
    obtain rfl := harg16.eq_unread hf16
    obtain rfl := harg17.eq_unread hf17
    sl_exec (disch := first | sl_exact hchk | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    isplitl [HT0]; · iexact HT0
    iexact HT1

end Cert.Attn

end
-- ==== Proof.AttnSteps.lean ====
/-
  What the attention backward kernel has computed after each grid point.
-/
module

public import proofs.«01_k».proof.Proof.AttnEntry
public import proofs.«01_k».proof.Proof.AttnRunFirst
public import proofs.«01_k».proof.Proof.AttnRunDiag
public import proofs.«01_k».proof.Proof.AttnRunFinal
public import proofs.«01_k».proof.Proof.AttnRunBelow
public import proofs.«01_k».proof.Proof.AttnRunLast

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Each window's buffer at a point, as the body is handed it, and the three running sums' buffers. -/

variable (F) in
abbrev stg0 (t : Fin grid0.N) : Memref sig .tc .vmem S256x512 .bf16 := spec0_0.stage ((cfgM (F := F)).slots t 0)
variable (F) in
abbrev hstg0 (t : Fin grid0.N) : (stg0 F t).IsWhole := hstage0_0 (((cfgM (F := F)).slots t 0).cast nbuf0_0)
variable (F) in
abbrev stg1 (t : Fin grid0.N) : Memref sig .tc .vmem S256x512 .bf16 := spec0_1.stage ((cfgM (F := F)).slots t 1)
variable (F) in
abbrev hstg1 (t : Fin grid0.N) : (stg1 F t).IsWhole := hstage0_1 (((cfgM (F := F)).slots t 1).cast nbuf0_1)
variable (F) in
abbrev stg2 (t : Fin grid0.N) : Memref sig .tc .vmem S256x512 .bf16 := spec0_2.stage ((cfgM (F := F)).slots t 2)
variable (F) in
abbrev hstg2 (t : Fin grid0.N) : (stg2 F t).IsWhole := hstage0_2 (((cfgM (F := F)).slots t 2).cast nbuf0_2)
variable (F) in
abbrev stg3 (t : Fin grid0.N) : Memref sig .tc .vmem S256x512 .bf16 := spec0_3.stage ((cfgM (F := F)).slots t 3)
variable (F) in
abbrev hstg3 (t : Fin grid0.N) : (stg3 F t).IsWhole := hstage0_3 (((cfgM (F := F)).slots t 3).cast nbuf0_3)
variable (F) in
abbrev stg4 (t : Fin grid0.N) : Memref sig .tc .vmem S8x256x128 .f32 := spec0_4.stage ((cfgM (F := F)).slots t 4)
variable (F) in
abbrev hstg4 (t : Fin grid0.N) : (stg4 F t).IsWhole := hstage0_4 (((cfgM (F := F)).slots t 4).cast nbuf0_4)
variable (F) in
abbrev stg5 (t : Fin grid0.N) : Memref sig .tc .vmem S8x256x128 .f32 := spec0_5.stage ((cfgM (F := F)).slots t 5)
variable (F) in
abbrev hstg5 (t : Fin grid0.N) : (stg5 F t).IsWhole := hstage0_5 (((cfgM (F := F)).slots t 5).cast nbuf0_5)
variable (F) in
abbrev stg6 (t : Fin grid0.N) : Memref sig .tc .vmem S8x256x128 .f32 := spec0_6.stage ((cfgM (F := F)).slots t 6)
variable (F) in
abbrev hstg6 (t : Fin grid0.N) : (stg6 F t).IsWhole := hstage0_6 (((cfgM (F := F)).slots t 6).cast nbuf0_6)
variable (F) in
abbrev stg7 (t : Fin grid0.N) : Memref sig .tc .vmem S8x256 .f32 := spec0_7.stage ((cfgM (F := F)).slots t 7)
variable (F) in
abbrev hstg7 (t : Fin grid0.N) : (stg7 F t).IsWhole := hstage0_7 (((cfgM (F := F)).slots t 7).cast nbuf0_7)
variable (F) in
abbrev stg8 (t : Fin grid0.N) : Memref sig .tc .vmem S2048x512 .f32 := spec0_8.stage ((cfgM (F := F)).slots t 8)
variable (F) in
abbrev hstg8 (t : Fin grid0.N) : (stg8 F t).IsWhole := hstage0_8 (((cfgM (F := F)).slots t 8).cast nbuf0_8)
variable (F) in
abbrev stg9 (t : Fin grid0.N) : Memref sig .tc .vmem S256x512 .f32 := spec0_9.stage ((cfgM (F := F)).slots t 9)
variable (F) in
abbrev hstg9 (t : Fin grid0.N) : (stg9 F t).IsWhole := hstage0_9 (((cfgM (F := F)).slots t 9).cast nbuf0_9)
variable (F) in
abbrev stg10 (t : Fin grid0.N) : Memref sig .tc .vmem S256x512 .f32 := spec0_10.stage ((cfgM (F := F)).slots t 10)
variable (F) in
abbrev hstg10 (t : Fin grid0.N) : (stg10 F t).IsWhole := hstage0_10 (((cfgM (F := F)).slots t 10).cast nbuf0_10)
variable (F) in
abbrev stg11 (t : Fin grid0.N) : Memref sig .tc .vmem S8x256 .f32 := spec0_11.stage ((cfgM (F := F)).slots t 11)
variable (F) in
abbrev hstg11 (t : Fin grid0.N) : (stg11 F t).IsWhole := hstage0_11 (((cfgM (F := F)).slots t 11).cast nbuf0_11)
abbrev sumK : Memref sig .tc .vmem S256x512 .f32 := Memref.whole cc0_scratch0
abbrev sumV : Memref sig .tc .vmem S256x512 .f32 := Memref.whole cc0_scratch1
abbrev sumC : Memref sig .tc .vmem S8x256 .f32 := Memref.whole cc0_scratch2

/-- What the kernel has computed after a point: the query gradient's array so far, the blocks of the three key-side
    results, and the three running sums. -/
structure St (F : FTy → Type) where
  dq : Vec F S2048x512 .f32
  dk : Vec F S256x512 .f32
  dv : Vec F S256x512 .f32
  dc : Vec F S8x256 .f32
  sk : Vec F S256x512 .f32
  sv : Vec F S256x512 .f32
  sc : Vec F S8x256 .f32

/-- What a buffer holds once stored pieces covering it are in, whatever it held before. -/
def viewQ : View sig .tc .vmem S2048x512 .f32 := (Memref.whole cc0_stg8_0 : Memref sig .tc .vmem S2048x512 .f32).view
def viewK : View sig .tc .vmem S256x512 .f32 := (Memref.whole cc0_scratch0 : Memref sig .tc .vmem S256x512 .f32).view
def viewC : View sig .tc .vmem S8x256 .f32 := (Memref.whole cc0_scratch2 : Memref sig .tc .vmem S8x256 .f32).view
def fullQ (L : List (View.Piece (Elt F) S2048x512 .f32)) : Vec F S2048x512 .f32 := viewQ.read (Elt F) (viewQ.writes (Elt F) viewQ.junk L)
def fullK (L : List (View.Piece (Elt F) S256x512 .f32)) : Vec F S256x512 .f32 := viewK.read (Elt F) (viewK.writes (Elt F) viewK.junk L)
def fullC (L : List (View.Piece (Elt F) S8x256 .f32)) : Vec F S8x256 .f32 := viewC.read (Elt F) (viewC.writes (Elt F) viewC.junk L)
/-- What a buffer that held `x` holds once stored pieces are in. -/
def onto {s : Shape} (M : Memref sig .tc .vmem s .f32) (hM : M.IsWhole) (x : Vec F s .f32) (L : List (View.Piece (Elt F) s .f32)) : Vec F s .f32 :=
  M.view.read (Elt F) (M.view.writes (Elt F) (hM.unread x) L)

/-- The body's run at the first point. -/
def atFirst (c : Dev nD) (t : Fin grid0.N) (hz : t.val = 0) (hd : Diag t) (hl : ¬Last t) :=
  runFirst (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) sumK (Memref.isWhole_whole _) sumV (Memref.isWhole_whole _) sumC (Memref.isWhole_whole _) (tbl 0) (tbl 1)
    (checked _) ((cond1_iff t).mpr hz) ((clear_iff t).mpr hd) (fun h => (cond3_iff t).mp h hd) ((cond4_iff t).mpr hd) (mt (cond5_iff t).mp hl)
    (iblk m c 0 t) (iblk m c 1 t) (iblk m c 2 t) (iblk m c 3 t) (iblk m c 4 t) (iblk m c 5 t) (iblk m c 6 t) (iblk m c 7 t)

theorem coverFirst_11 (c : Dev nD) (t : Fin grid0.N) (hz : t.val = 0) (hd : Diag t) (hl : ¬Last t) (y : S2048x512.Idx) : ∃ pc ∈ (atFirst m c t hz hd hl).1, y ∈ pc.1.set :=
  View.cover_of_wholeMem (atFirst m c t hz hd hl).1 (by unfold atFirst runFirst; sl_whole_mem) y
theorem coverFirst_15 (c : Dev nD) (t : Fin grid0.N) (hz : t.val = 0) (hd : Diag t) (hl : ¬Last t) (y : S256x512.Idx) : ∃ pc ∈ (atFirst m c t hz hd hl).2.1, y ∈ pc.1.set :=
  View.cover_of_wholeMem (atFirst m c t hz hd hl).2.1 (by unfold atFirst runFirst; sl_whole_mem) y
theorem coverFirst_16 (c : Dev nD) (t : Fin grid0.N) (hz : t.val = 0) (hd : Diag t) (hl : ¬Last t) (y : S256x512.Idx) : ∃ pc ∈ (atFirst m c t hz hd hl).2.2.1, y ∈ pc.1.set :=
  View.cover_of_wholeMem (atFirst m c t hz hd hl).2.2.1 (by unfold atFirst runFirst; sl_whole_mem) y
theorem coverFirst_17 (c : Dev nD) (t : Fin grid0.N) (hz : t.val = 0) (hd : Diag t) (hl : ¬Last t) (y : S8x256.Idx) : ∃ pc ∈ (atFirst m c t hz hd hl).2.2.2.1, y ∈ pc.1.set :=
  View.cover_of_wholeMem (atFirst m c t hz hd hl).2.2.2.1 (by unfold atFirst runFirst; sl_whole_mem) y
def afterFirst (c : Dev nD) (t : Fin grid0.N) (hz : t.val = 0) (hd : Diag t) (hl : ¬Last t) : St F :=
  ⟨fullQ (atFirst m c t hz hd hl).1,
    fullK [],
    fullK [],
    fullC [],
    fullK (atFirst m c t hz hd hl).2.1,
    fullK (atFirst m c t hz hd hl).2.2.1,
    fullC (atFirst m c t hz hd hl).2.2.2.1⟩

/-- The body's run at a later diagonal tile. -/
def atDiag (c : Dev nD) (t : Fin grid0.N) (hz : ¬t.val = 0) (hd : Diag t) (hl : ¬Last t) (p : St F) :=
  runDiag (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) sumK (Memref.isWhole_whole _) sumV (Memref.isWhole_whole _) sumC (Memref.isWhole_whole _) (tbl 0) (tbl 1)
    (checked _) (mt (cond1_iff t).mp hz) ((clear_iff t).mpr hd) (fun h => (cond3_iff t).mp h hd) ((cond4_iff t).mpr hd) (mt (cond5_iff t).mp hl)
    (iblk m c 0 t) (iblk m c 1 t) (iblk m c 2 t) (iblk m c 3 t) (iblk m c 4 t) (iblk m c 5 t) (iblk m c 6 t) (iblk m c 7 t) p.dq

theorem coverDiag_15 (c : Dev nD) (t : Fin grid0.N) (hz : ¬t.val = 0) (hd : Diag t) (hl : ¬Last t) (p : St F) (y : S256x512.Idx) : ∃ pc ∈ (atDiag m c t hz hd hl p).2.1, y ∈ pc.1.set :=
  View.cover_of_wholeMem (atDiag m c t hz hd hl p).2.1 (by unfold atDiag runDiag; sl_whole_mem) y
theorem coverDiag_16 (c : Dev nD) (t : Fin grid0.N) (hz : ¬t.val = 0) (hd : Diag t) (hl : ¬Last t) (p : St F) (y : S256x512.Idx) : ∃ pc ∈ (atDiag m c t hz hd hl p).2.2.1, y ∈ pc.1.set :=
  View.cover_of_wholeMem (atDiag m c t hz hd hl p).2.2.1 (by unfold atDiag runDiag; sl_whole_mem) y
theorem coverDiag_17 (c : Dev nD) (t : Fin grid0.N) (hz : ¬t.val = 0) (hd : Diag t) (hl : ¬Last t) (p : St F) (y : S8x256.Idx) : ∃ pc ∈ (atDiag m c t hz hd hl p).2.2.2.1, y ∈ pc.1.set :=
  View.cover_of_wholeMem (atDiag m c t hz hd hl p).2.2.2.1 (by unfold atDiag runDiag; sl_whole_mem) y
def afterDiag (c : Dev nD) (t : Fin grid0.N) (hz : ¬t.val = 0) (hd : Diag t) (hl : ¬Last t) (p : St F) : St F :=
  ⟨onto (stg8 F t) (hstg8 F t) p.dq (atDiag m c t hz hd hl p).1,
    p.dk,
    p.dv,
    p.dc,
    fullK (atDiag m c t hz hd hl p).2.1,
    fullK (atDiag m c t hz hd hl p).2.2.1,
    fullC (atDiag m c t hz hd hl p).2.2.2.1⟩

/-- The body's run at the last point. -/
def atFinal (c : Dev nD) (t : Fin grid0.N) (hz : ¬t.val = 0) (hd : Diag t) (hl : Last t) (p : St F) :=
  runFinal (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) sumK (Memref.isWhole_whole _) sumV (Memref.isWhole_whole _) sumC (Memref.isWhole_whole _) (tbl 0) (tbl 1)
    (checked _) (mt (cond1_iff t).mp hz) ((clear_iff t).mpr hd) (fun h => (cond3_iff t).mp h hd) ((cond4_iff t).mpr hd) ((cond5_iff t).mpr hl)
    (iblk m c 0 t) (iblk m c 1 t) (iblk m c 2 t) (iblk m c 3 t) (iblk m c 4 t) (iblk m c 5 t) (iblk m c 6 t) (iblk m c 7 t) p.dq

theorem coverFinal_12 (c : Dev nD) (t : Fin grid0.N) (hz : ¬t.val = 0) (hd : Diag t) (hl : Last t) (p : St F) (y : S256x512.Idx) : ∃ pc ∈ (atFinal m c t hz hd hl p).2.1, y ∈ pc.1.set :=
  View.cover_of_wholeMem (atFinal m c t hz hd hl p).2.1 (by unfold atFinal runFinal; sl_whole_mem) y
theorem coverFinal_13 (c : Dev nD) (t : Fin grid0.N) (hz : ¬t.val = 0) (hd : Diag t) (hl : Last t) (p : St F) (y : S256x512.Idx) : ∃ pc ∈ (atFinal m c t hz hd hl p).2.2.1, y ∈ pc.1.set :=
  View.cover_of_wholeMem (atFinal m c t hz hd hl p).2.2.1 (by unfold atFinal runFinal; sl_whole_mem) y
theorem coverFinal_14 (c : Dev nD) (t : Fin grid0.N) (hz : ¬t.val = 0) (hd : Diag t) (hl : Last t) (p : St F) (y : S8x256.Idx) : ∃ pc ∈ (atFinal m c t hz hd hl p).2.2.2.1, y ∈ pc.1.set :=
  View.cover_of_wholeMem (atFinal m c t hz hd hl p).2.2.2.1 (by unfold atFinal runFinal; sl_whole_mem) y
theorem coverFinal_15 (c : Dev nD) (t : Fin grid0.N) (hz : ¬t.val = 0) (hd : Diag t) (hl : Last t) (p : St F) (y : S256x512.Idx) : ∃ pc ∈ (atFinal m c t hz hd hl p).2.2.2.2.1, y ∈ pc.1.set :=
  View.cover_of_wholeMem (atFinal m c t hz hd hl p).2.2.2.2.1 (by unfold atFinal runFinal; sl_whole_mem) y
theorem coverFinal_16 (c : Dev nD) (t : Fin grid0.N) (hz : ¬t.val = 0) (hd : Diag t) (hl : Last t) (p : St F) (y : S256x512.Idx) : ∃ pc ∈ (atFinal m c t hz hd hl p).2.2.2.2.2.1, y ∈ pc.1.set :=
  View.cover_of_wholeMem (atFinal m c t hz hd hl p).2.2.2.2.2.1 (by unfold atFinal runFinal; sl_whole_mem) y
theorem coverFinal_17 (c : Dev nD) (t : Fin grid0.N) (hz : ¬t.val = 0) (hd : Diag t) (hl : Last t) (p : St F) (y : S8x256.Idx) : ∃ pc ∈ (atFinal m c t hz hd hl p).2.2.2.2.2.2.1, y ∈ pc.1.set :=
  View.cover_of_wholeMem (atFinal m c t hz hd hl p).2.2.2.2.2.2.1 (by unfold atFinal runFinal; sl_whole_mem) y
def afterFinal (c : Dev nD) (t : Fin grid0.N) (hz : ¬t.val = 0) (hd : Diag t) (hl : Last t) (p : St F) : St F :=
  ⟨onto (stg8 F t) (hstg8 F t) p.dq (atFinal m c t hz hd hl p).1,
    fullK (atFinal m c t hz hd hl p).2.1,
    fullK (atFinal m c t hz hd hl p).2.2.1,
    fullC (atFinal m c t hz hd hl p).2.2.2.1,
    fullK (atFinal m c t hz hd hl p).2.2.2.2.1,
    fullK (atFinal m c t hz hd hl p).2.2.2.2.2.1,
    fullC (atFinal m c t hz hd hl p).2.2.2.2.2.2.1⟩

/-- The body's run at a tile below the diagonal. -/
def atBelow (c : Dev nD) (t : Fin grid0.N) (hz : ¬t.val = 0) (hd : ¬Diag t) (hl : ¬Last t) (p : St F) :=
  runBelow (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) sumK (Memref.isWhole_whole _) sumV (Memref.isWhole_whole _) sumC (Memref.isWhole_whole _) (tbl 0) (tbl 1)
    (checked _) (mt (cond1_iff t).mp hz) (mt (clear_iff t).mp hd) ((cond3_iff t).mpr hd) (mt (cond4_iff t).mp hd) (mt (cond5_iff t).mp hl)
    (iblk m c 0 t) (iblk m c 1 t) (iblk m c 2 t) (iblk m c 3 t) (iblk m c 4 t) (iblk m c 5 t) (iblk m c 6 t) (iblk m c 7 t) p.dq p.sk p.sv p.sc

def afterBelow (c : Dev nD) (t : Fin grid0.N) (hz : ¬t.val = 0) (hd : ¬Diag t) (hl : ¬Last t) (p : St F) : St F :=
  ⟨onto (stg8 F t) (hstg8 F t) p.dq (atBelow m c t hz hd hl p).1,
    p.dk,
    p.dv,
    p.dc,
    onto sumK (Memref.isWhole_whole _) p.sk (atBelow m c t hz hd hl p).2.1,
    onto sumV (Memref.isWhole_whole _) p.sv (atBelow m c t hz hd hl p).2.2.1,
    onto sumC (Memref.isWhole_whole _) p.sc (atBelow m c t hz hd hl p).2.2.2.1⟩

/-- The body's run at the last tile of a column, below the diagonal. -/
def atLast (c : Dev nD) (t : Fin grid0.N) (hz : ¬t.val = 0) (hd : ¬Diag t) (hl : Last t) (p : St F) :=
  runLast (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) sumK (Memref.isWhole_whole _) sumV (Memref.isWhole_whole _) sumC (Memref.isWhole_whole _) (tbl 0) (tbl 1)
    (checked _) (mt (cond1_iff t).mp hz) (mt (clear_iff t).mp hd) ((cond3_iff t).mpr hd) (mt (cond4_iff t).mp hd) ((cond5_iff t).mpr hl)
    (iblk m c 0 t) (iblk m c 1 t) (iblk m c 2 t) (iblk m c 3 t) (iblk m c 4 t) (iblk m c 5 t) (iblk m c 6 t) (iblk m c 7 t) p.dq p.sk p.sv p.sc

theorem coverLast_12 (c : Dev nD) (t : Fin grid0.N) (hz : ¬t.val = 0) (hd : ¬Diag t) (hl : Last t) (p : St F) (y : S256x512.Idx) : ∃ pc ∈ (atLast m c t hz hd hl p).2.1, y ∈ pc.1.set :=
  View.cover_of_wholeMem (atLast m c t hz hd hl p).2.1 (by unfold atLast runLast; sl_whole_mem) y
theorem coverLast_13 (c : Dev nD) (t : Fin grid0.N) (hz : ¬t.val = 0) (hd : ¬Diag t) (hl : Last t) (p : St F) (y : S256x512.Idx) : ∃ pc ∈ (atLast m c t hz hd hl p).2.2.1, y ∈ pc.1.set :=
  View.cover_of_wholeMem (atLast m c t hz hd hl p).2.2.1 (by unfold atLast runLast; sl_whole_mem) y
theorem coverLast_14 (c : Dev nD) (t : Fin grid0.N) (hz : ¬t.val = 0) (hd : ¬Diag t) (hl : Last t) (p : St F) (y : S8x256.Idx) : ∃ pc ∈ (atLast m c t hz hd hl p).2.2.2.1, y ∈ pc.1.set :=
  View.cover_of_wholeMem (atLast m c t hz hd hl p).2.2.2.1 (by unfold atLast runLast; sl_whole_mem) y
def afterLast (c : Dev nD) (t : Fin grid0.N) (hz : ¬t.val = 0) (hd : ¬Diag t) (hl : Last t) (p : St F) : St F :=
  ⟨onto (stg8 F t) (hstg8 F t) p.dq (atLast m c t hz hd hl p).1,
    fullK (atLast m c t hz hd hl p).2.1,
    fullK (atLast m c t hz hd hl p).2.2.1,
    fullC (atLast m c t hz hd hl p).2.2.2.1,
    onto sumK (Memref.isWhole_whole _) p.sk (atLast m c t hz hd hl p).2.2.2.2.1,
    onto sumV (Memref.isWhole_whole _) p.sv (atLast m c t hz hd hl p).2.2.2.2.2.1,
    onto sumC (Memref.isWhole_whole _) p.sc (atLast m c t hz hd hl p).2.2.2.2.2.2.1⟩

/-- What the kernel has computed after point `t`, from what it had computed before. -/
def step (c : Dev nD) (t : Fin grid0.N) (p : St F) : St F :=
  if hz : t.val = 0 then afterFirst m c t hz (diag_first t hz) (not_last_first t hz)
  else if hd : Diag t then if hl : Last t then afterFinal m c t hz hd hl p else afterDiag m c t hz hd hl p
  else if hl : Last t then afterLast m c t hz hd hl p else afterBelow m c t hz hd hl p

/-- What the kernel has computed after the first `n + 1` points. -/
def done (c : Dev nD) : (n : ℕ) → n < grid0.N → St F
  | 0, h => step m c ⟨0, h⟩ ⟨fullQ [], fullK [], fullK [], fullC [], fullK [], fullK [], fullC []⟩
  | n + 1, h => step m c ⟨n + 1, h⟩ (done c n (Nat.lt_of_succ_lt h))

theorem done_first (c : Dev nD) (t : Fin grid0.N) (hz : t.val = 0) (hd : Diag t) (hl : ¬Last t) :
    done m c t.val t.isLt = afterFirst m c t hz hd hl := by
  obtain ⟨n, h⟩ := t
  obtain rfl : n = 0 := hz
  unfold done step
  exact dif_pos _
theorem done_pos (c : Dev nD) (t : Fin grid0.N) (hz : ¬t.val = 0) :
    done m c t.val t.isLt = step m c t (done m c (t.val - 1) (Nat.lt_of_le_of_lt (Nat.sub_le _ _) t.isLt)) := by
  obtain ⟨n, h⟩ := t
  cases n with
  | zero => exact absurd rfl hz
  | succ n => rfl
theorem step_diag (c : Dev nD) (t : Fin grid0.N) (hz : ¬t.val = 0) (hd : Diag t) (hl : ¬Last t) (p : St F) : step m c t p = afterDiag m c t hz hd hl p :=
  (dif_neg hz).trans ((dif_pos hd).trans (dif_neg hl))
theorem step_final (c : Dev nD) (t : Fin grid0.N) (hz : ¬t.val = 0) (hd : Diag t) (hl : Last t) (p : St F) : step m c t p = afterFinal m c t hz hd hl p :=
  (dif_neg hz).trans ((dif_pos hd).trans (dif_pos hl))
theorem step_below (c : Dev nD) (t : Fin grid0.N) (hz : ¬t.val = 0) (hd : ¬Diag t) (hl : ¬Last t) (p : St F) : step m c t p = afterBelow m c t hz hd hl p :=
  (dif_neg hz).trans ((dif_neg hd).trans (dif_neg hl))
theorem step_last (c : Dev nD) (t : Fin grid0.N) (hz : ¬t.val = 0) (hd : ¬Diag t) (hl : Last t) (p : St F) : step m c t p = afterLast m c t hz hd hl p :=
  (dif_neg hz).trans ((dif_neg hd).trans (dif_pos hl))

end Cert.Attn

end
-- ==== Proof.AttnTile.lean ====
/-
  What the attention backward kernel adds at one grid point, in terms of the blocks it reads: one pair of heads at a
  time, the same arithmetic for every pair, with the causal mask on a diagonal tile and without it below.
-/
module

public import proofs.«01_k».proof.Proof.AttnSteps

@[expose] public section

set_option maxRecDepth 16384

noncomputable section

namespace Cert.Attn

open Cert.Kernel3Ideal Cert.Kernel3Ideal.Gen Idealize.ShloMosaic Idealize.ShloMosaic.TcCoe Idealize.ShloMosaic.Tactic

variable {F : FTy → Type} [FloatOps F] [Named F]

/-! ## The arithmetic of a pair of heads -/

/-- The lanes of a pair's first head, and those of its second. -/
def lanesA : IVec S1x128 1 := cmpi .slt (iota .tc S1x128 32 [1] iota_S1x128_d1_w32) (broadcast S1x128 64#32)
def lanesB : IVec S1x128 1 := xori lanesA (constantI S1x128 1 1#1)

/-- A pair's columns with the other head's lanes zero. -/
def only (w : IVec S1x128 1) (x : Vec F S256x128 .bf16) : FVec F S256x128 .bf16 :=
  select (broadcastTo S256x128 (shapeCast S1x128 w shapeCasts_S1x128_S1x128) broadcasts_S1x128_S256x128)
    (shapeCast S256x128 x shapeCasts_S256x128_S256x128) (broadcast S256x128 (Scalar.ofBits .bf16 0x0000#16))

/-- A row value spread over 128 lanes, spread over the tile's 256 columns. -/
def wide (x : Vec F S1x256x128 .f32) : FVec F S256x256 .f32 :=
  concatenate S256x256 1 [⟨S256x128, shapeCast S256x128 x shapeCasts_S1x256x128_S256x128⟩, ⟨S256x128, shapeCast S256x128 x shapeCasts_S1x256x128_S256x128⟩]
    concatenates_S256x128_S256x128_S256x256_d1

/-- The causal mask of a diagonal tile, and the mask of a tile below the diagonal, which keeps everything. -/
def causal (x : FVec F S256x256 .f32) : FVec F S256x256 .f32 :=
  select (cmpi .sge (iota .tc S256x256 32 [0] iota_S256x256_d0_w32) (iota .tc S256x256 32 [1] iota_S256x256_d1_w32)) x
    (broadcast S256x256 (Named.named κ "mask" 0xF149F2CA#32))
def whole (x : FVec F S256x256 .f32) : FVec F S256x256 .f32 := x

/-- What a point reads for a pair of heads: the pair's columns of q, k, v and do, and for each head the rows' log-sum,
    row sum of do·o and gate sum, and the columns' gate sum. -/
structure Ops (F : FTy → Type) where
  q : Fin 4 → Vec F S256x128 .bf16
  k : Fin 4 → Vec F S256x128 .bf16
  v : Fin 4 → Vec F S256x128 .bf16
  o : Fin 4 → Vec F S256x128 .bf16
  ls : Fin 8 → Vec F S1x256x128 .f32
  dd : Fin 8 → Vec F S1x256x128 .f32
  cc : Fin 8 → Vec F S1x256x128 .f32
  cr : Fin 8 → Vec F S1x256 .f32

section
variable (mask : FVec F S256x256 .f32 → FVec F S256x256 .f32) (O : Ops F) (w : IVec S1x128 1) (p : Fin 4) (h : Fin 8)

/-- The logits of a head. -/
def logits : FVec F S256x256 .f32 :=
  mask (addf (matmul dot_S256x128_S256x128_S256x256_1_1_0_0_n_n none (only w (O.q p)) (shapeCast S256x128 (O.k p) shapeCasts_S256x128_S256x128) (constant S256x256 .f32 0x00000000#32))
    (subf (wide (O.cc h)) (broadcastTo S256x256 (shapeCast S1x256 (O.cr h) shapeCasts_S1x256_S1x256) broadcasts_S1x256_S256x256)))

/-- The attention weights of a head. -/
def weights : FVec F S256x256 .f32 := exp (subf (logits mask O w p h) (wide (O.ls h)))

/-- The gradient of the logits. -/
def gradL : FVec F S256x256 .f32 :=
  mulf (weights mask O w p h)
    (subf (matmul dot_S256x128_S256x128_S256x256_1_1_0_0_n_n none (only w (O.o p)) (shapeCast S256x128 (O.v p) shapeCasts_S256x128_S256x128) (constant S256x256 .f32 0x00000000#32)) (wide (O.dd h)))

/-- A head's part of the gradients of v, k and q, before q's is scaled. -/
def partV : FVec F S256x128 .f32 :=
  matmul dot_S256x256_S256x128_S256x128_0_0_1_1_n_n none (truncf .bf16 (weights mask O w p h) bitsLt_bf16_f32) (only w (O.o p)) (constant S256x128 .f32 0x00000000#32)
def partK : FVec F S256x128 .f32 :=
  matmul dot_S256x256_S256x128_S256x128_0_0_1_1_n_n none (truncf .bf16 (gradL mask O w p h) bitsLt_bf16_f32) (only w (O.q p)) (constant S256x128 .f32 0x00000000#32)
def partQ : FVec F S256x128 .f32 :=
  matmul dot_S256x256_S256x128_S256x128_1_0_0_1_n_n none (truncf .bf16 (gradL mask O w p h) bitsLt_bf16_f32) (only w (O.k p)) (constant S256x128 .f32 0x00000000#32)

end

section
variable (mask : FVec F S256x256 .f32 → FVec F S256x256 .f32) (O : Ops F) (p : Fin 4)

/-- The two heads of a pair. -/
def headA : Fin 8 := ⟨2 * p.val, by omega⟩
def headB : Fin 8 := ⟨2 * p.val + 1, by omega⟩

/-- What a pair adds to the gradients of v, k and q. -/
def addV : FVec F S256x128 .f32 :=
  addf (addf (broadcast S256x128 (Scalar.ofBits .f32 0x00000000#32)) (partV mask O lanesA p (headA p))) (partV mask O lanesB p (headB p))
def addK : FVec F S256x128 .f32 :=
  addf (addf (broadcast S256x128 (Scalar.ofBits .f32 0x00000000#32)) (partK mask O lanesA p (headA p))) (partK mask O lanesB p (headB p))
def addQ : FVec F S256x128 .f32 :=
  mulf (addf (addf (broadcast S256x128 (Scalar.ofBits .f32 0x00000000#32)) (partQ mask O lanesA p (headA p))) (partQ mask O lanesB p (headB p)))
    (broadcast S256x128 (Scalar.ofBits .f32 0x3E000000#32))

/-- What a head adds to the columns' part of the gate sum's gradient: its lanes, and its place in its pair. -/
def lanesOf (h : Fin 8) : IVec S1x128 1 := if h.val % 2 = 0 then lanesA else lanesB
def pairOf (h : Fin 8) : Fin 4 := ⟨h.val / 2, by omega⟩
def addC (h : Fin 8) : FVec F S1x256 .f32 :=
  subf (broadcast S1x256 (Scalar.ofBits .f32 0x00000000#32))
    (shapeCast S1x256 (multiReduction .add [0] S256 (gradL mask O (lanesOf h) (pairOf h) h) 0x00000000#32 reduces_S256x256_S256 (.inl rfl) rfl) shapeCasts_S256_S1x256)

end

/-! ## The pieces a point stores -/

theorem inb_lanes (p : Fin 4) : ∀ a, (![0, 128 * p.val] : Fin 2 → ℕ) a + S256x128.size a ≤ S256x512.size a := by revert p; decide
theorem inb_plane (h : Fin 8) : ∀ a, (![h.val, 0, 0] : Fin 3 → ℕ) a + S1x256x128.size a ≤ S8x256x128.size a := by revert h; decide
theorem inb_row (h : Fin 8) : ∀ a, (![h.val, 0] : Fin 2 → ℕ) a + S1x256.size a ≤ S8x256.size a := by revert h; decide

/-- A pair's columns, a head's plane and a head's row. -/
abbrev rectL (p : Fin 4) : Rect S256x512 := Rect.unit (s := S256x512) ![0, 128 * p.val] S256x128.size (inb_lanes p)
abbrev rectP (h : Fin 8) : Rect S8x256x128 := Rect.unit (s := S8x256x128) ![h.val, 0, 0] S1x256x128.size (inb_plane h)
abbrev rectR (h : Fin 8) : Rect S8x256 := Rect.unit (s := S8x256) ![h.val, 0] S1x256.size (inb_row h)

variable (m : (ℓ : Loc nD τ sig) → Buf (Elt F) ℓ) (c : Dev nD) (t : Fin grid0.N)

/-- What a point reads. -/
def opsAt : Ops F where
  q p := View.readAt (Elt F) (stg0 F t).view (rectL p).toLoadRect ((hstg0 F t).unread (iblk m c 0 t))
  k p := View.readAt (Elt F) (stg1 F t).view (rectL p).toLoadRect ((hstg1 F t).unread (iblk m c 1 t))
  v p := View.readAt (Elt F) (stg2 F t).view (rectL p).toLoadRect ((hstg2 F t).unread (iblk m c 2 t))
  o p := View.readAt (Elt F) (stg3 F t).view (rectL p).toLoadRect ((hstg3 F t).unread (iblk m c 3 t))
  ls h := View.readAt (Elt F) (stg4 F t).view (rectP h).toLoadRect ((hstg4 F t).unread (iblk m c 4 t))
  dd h := View.readAt (Elt F) (stg5 F t).view (rectP h).toLoadRect ((hstg5 F t).unread (iblk m c 5 t))
  cc h := View.readAt (Elt F) (stg6 F t).view (rectP h).toLoadRect ((hstg6 F t).unread (iblk m c 6 t))
  cr h := View.readAt (Elt F) (stg7 F t).view (rectR h).toLoadRect ((hstg7 F t).unread (iblk m c 7 t))

/-- The sum stored for a pair's columns, and for a head's row. -/
def sumL (old add : FVec F S256x128 .f32) : FVec F S256x128 .f32 := shapeCast S256x128 (addf old add) shapeCasts_S256x128_S256x128
def sumR (old add : FVec F S1x256 .f32) : FVec F S1x256 .f32 := shapeCast S1x256 (addf old add) shapeCasts_S1x256_S1x256

/-- The pieces of a running sum that held `x`. -/
def piecesL (M : Memref sig .tc .vmem S256x512 .f32) (hM : M.IsWhole) (x : Vec F S256x512 .f32) (g : Fin 4 → FVec F S256x128 .f32) : List (View.Piece (Elt F) S256x512 .f32) :=
  let at_ (p : Fin 4) : View.Piece (Elt F) S256x512 .f32 := ⟨rectL p, sumL (View.readAt (Elt F) M.view (rectL p).toLoadRect (hM.unread x)) (g p)⟩
  [at_ 3, at_ 2, at_ 1, at_ 0]
def piecesR (M : Memref sig .tc .vmem S8x256 .f32) (hM : M.IsWhole) (x : Vec F S8x256 .f32) (g : Fin 8 → FVec F S1x256 .f32) : List (View.Piece (Elt F) S8x256 .f32) :=
  let at_ (p : Fin 8) : View.Piece (Elt F) S8x256 .f32 := ⟨rectR p, sumR (View.readAt (Elt F) M.view (rectR p).toLoadRect (hM.unread x)) (g p)⟩
  [at_ 7, at_ 6, at_ 5, at_ 4, at_ 3, at_ 2, at_ 1, at_ 0]

/-- The pieces of a running sum that the point clears first. -/
def nextL (M : Memref sig .tc .vmem S256x512 .f32) (g : Fin 4 → FVec F S256x128 .f32) (p : Fin 4) (L : List (View.Piece (Elt F) S256x512 .f32)) : List (View.Piece (Elt F) S256x512 .f32) :=
  ⟨rectL p, sumL (M.view.readCov L (rectL p).toLoadRect) (g p)⟩ :: L
def clearedL (M : Memref sig .tc .vmem S256x512 .f32) (z : FVec F S256x512 .f32) (g : Fin 4 → FVec F S256x128 .f32) : List (View.Piece (Elt F) S256x512 .f32) :=
  nextL M g 3 (nextL M g 2 (nextL M g 1 (nextL M g 0 [⟨Rect.unit ![0, 0] S256x512.size inb_S256x512_S256x512_0_0, z⟩])))
def nextR (M : Memref sig .tc .vmem S8x256 .f32) (g : Fin 8 → FVec F S1x256 .f32) (p : Fin 8) (L : List (View.Piece (Elt F) S8x256 .f32)) : List (View.Piece (Elt F) S8x256 .f32) :=
  ⟨rectR p, sumR (M.view.readCov L (rectR p).toLoadRect) (g p)⟩ :: L
def clearedR (M : Memref sig .tc .vmem S8x256 .f32) (z : FVec F S8x256 .f32) (g : Fin 8 → FVec F S1x256 .f32) : List (View.Piece (Elt F) S8x256 .f32) :=
  nextR M g 7 (nextR M g 6 (nextR M g 5 (nextR M g 4 (nextR M g 3 (nextR M g 2 (nextR M g 1 (nextR M g 0 [⟨Rect.unit ![0, 0] S8x256.size inb_S8x256_S8x256_0_0, z⟩])))))))

/-- The pieces of the query gradient's array: the rows of the point's query tile, a pair's columns at a time. -/
def rowOff (p : Fin 4) : Fin 2 → ℕ := ![(Scalar.muli (qTile (grid0.coords t)) 256#32).toNat, 128 * p.val]
theorem inb_rows (p : Fin 4) : ∀ a, rowOff t p a + S256x128.size a ≤ S2048x512.size a := by revert t p; decide +kernel
abbrev rectQ (p : Fin 4) : Rect S2048x512 := Rect.unit (s := S2048x512) (rowOff t p) S256x128.size (inb_rows t p)
def putQ (old add : FVec F S256x128 .f32) : FVec F S256x128 .f32 := addf (shapeCast S256x128 old shapeCasts_S256x128_S256x128) add
def nextQ (M : Memref sig .tc .vmem S2048x512 .f32) (f : M.view.ty.Contents (Elt F)) (g : Fin 4 → FVec F S256x128 .f32) (p : Fin 4)
    (L : List (View.Piece (Elt F) S2048x512 .f32)) : List (View.Piece (Elt F) S2048x512 .f32) :=
  ⟨rectQ t p, putQ (View.readAt (Elt F) M.view (rectQ t p).toLoadRect (M.view.writes (Elt F) f L)) (g p)⟩ :: L
def piecesQ (M : Memref sig .tc .vmem S2048x512 .f32) (hM : M.IsWhole) (x : Vec F S2048x512 .f32) (g : Fin 4 → FVec F S256x128 .f32) : List (View.Piece (Elt F) S2048x512 .f32) :=
  let f := hM.unread x
  nextQ t M f g 3 (nextQ t M f g 2 (nextQ t M f g 1 (nextQ t M f g 0 [])))
def coverQ (M : Memref sig .tc .vmem S2048x512 .f32) (g : Fin 4 → FVec F S256x128 .f32) (p : Fin 4)
    (L : List (View.Piece (Elt F) S2048x512 .f32)) : List (View.Piece (Elt F) S2048x512 .f32) :=
  ⟨rectQ t p, putQ (M.view.readCov L (rectQ t p).toLoadRect) (g p)⟩ :: L
def clearedQ (M : Memref sig .tc .vmem S2048x512 .f32) (z : FVec F S2048x512 .f32) (g : Fin 4 → FVec F S256x128 .f32) : List (View.Piece (Elt F) S2048x512 .f32) :=
  coverQ t M g 3 (coverQ t M g 2 (coverQ t M g 1 (coverQ t M g 0 [⟨Rect.unit ![0, 0] S2048x512.size inb_S2048x512_S2048x512_0_0, z⟩])))

/-- A block that is a copy of a running sum. -/
def copyL (x : Vec F S256x512 .f32) : List (View.Piece (Elt F) S256x512 .f32) := [⟨Rect.unit ![0, 0] S256x512.size inb_S256x512_S256x512_0_0, x⟩]
def copyR (x : Vec F S8x256 .f32) : List (View.Piece (Elt F) S8x256 .f32) := [⟨Rect.unit ![0, 0] S8x256.size inb_S8x256_S8x256_0_0, x⟩]
abbrev allL : LoadRect S256x512 := (Rect.unit (s := S256x512) ![0, 0] S256x512.size inb_S256x512_S256x512_0_0).toLoadRect
abbrev allR : LoadRect S8x256 := (Rect.unit (s := S8x256) ![0, 0] S8x256.size inb_S8x256_S8x256_0_0).toLoadRect

theorem first_11 (hz : t.val = 0) (hd : Diag t) (hl : ¬Last t) : (atFirst m c t hz hd hl).1 = clearedQ t (stg8 F t) k0_pay1 (addQ causal (opsAt m c t)) := by sl_kernel_rfl
theorem first_15 (hz : t.val = 0) (hd : Diag t) (hl : ¬Last t) : (atFirst m c t hz hd hl).2.1 = clearedL sumK k0_pay2 (addK causal (opsAt m c t)) := by sl_kernel_rfl
theorem first_16 (hz : t.val = 0) (hd : Diag t) (hl : ¬Last t) : (atFirst m c t hz hd hl).2.2.1 = clearedL sumV k0_pay3 (addV causal (opsAt m c t)) := by sl_kernel_rfl
theorem first_17 (hz : t.val = 0) (hd : Diag t) (hl : ¬Last t) : (atFirst m c t hz hd hl).2.2.2.1 = clearedR sumC k0_pay4 (addC causal (opsAt m c t)) := by sl_kernel_rfl
theorem diag_11 (hz : ¬t.val = 0) (hd : Diag t) (hl : ¬Last t) (p : St F) : (atDiag m c t hz hd hl p).1 = piecesQ t (stg8 F t) (hstg8 F t) p.dq (addQ causal (opsAt m c t)) := by sl_kernel_rfl
theorem diag_15 (hz : ¬t.val = 0) (hd : Diag t) (hl : ¬Last t) (p : St F) : (atDiag m c t hz hd hl p).2.1 = clearedL sumK k0_pay2 (addK causal (opsAt m c t)) := by sl_kernel_rfl
theorem diag_16 (hz : ¬t.val = 0) (hd : Diag t) (hl : ¬Last t) (p : St F) : (atDiag m c t hz hd hl p).2.2.1 = clearedL sumV k0_pay3 (addV causal (opsAt m c t)) := by sl_kernel_rfl
theorem diag_17 (hz : ¬t.val = 0) (hd : Diag t) (hl : ¬Last t) (p : St F) : (atDiag m c t hz hd hl p).2.2.2.1 = clearedR sumC k0_pay4 (addC causal (opsAt m c t)) := by sl_kernel_rfl
theorem final_11 (hz : ¬t.val = 0) (hd : Diag t) (hl : Last t) (p : St F) : (atFinal m c t hz hd hl p).1 = piecesQ t (stg8 F t) (hstg8 F t) p.dq (addQ causal (opsAt m c t)) := by sl_kernel_rfl
theorem final_15 (hz : ¬t.val = 0) (hd : Diag t) (hl : Last t) (p : St F) : (atFinal m c t hz hd hl p).2.2.2.2.1 = clearedL sumK k0_pay2 (addK causal (opsAt m c t)) := by sl_kernel_rfl
theorem final_16 (hz : ¬t.val = 0) (hd : Diag t) (hl : Last t) (p : St F) : (atFinal m c t hz hd hl p).2.2.2.2.2.1 = clearedL sumV k0_pay3 (addV causal (opsAt m c t)) := by sl_kernel_rfl
theorem final_17 (hz : ¬t.val = 0) (hd : Diag t) (hl : Last t) (p : St F) : (atFinal m c t hz hd hl p).2.2.2.2.2.2.1 = clearedR sumC k0_pay4 (addC causal (opsAt m c t)) := by sl_kernel_rfl
theorem final_12 (hz : ¬t.val = 0) (hd : Diag t) (hl : Last t) (p : St F) : (atFinal m c t hz hd hl p).2.1 = copyL (sumK.view.readCov (clearedL sumK k0_pay2 (addK causal (opsAt m c t))) allL) := by sl_kernel_rfl
theorem final_13 (hz : ¬t.val = 0) (hd : Diag t) (hl : Last t) (p : St F) : (atFinal m c t hz hd hl p).2.2.1 = copyL (sumV.view.readCov (clearedL sumV k0_pay3 (addV causal (opsAt m c t))) allL) := by sl_kernel_rfl
theorem final_14 (hz : ¬t.val = 0) (hd : Diag t) (hl : Last t) (p : St F) : (atFinal m c t hz hd hl p).2.2.2.1 = copyR (sumC.view.readCov (clearedR sumC k0_pay4 (addC causal (opsAt m c t))) allR) := by sl_kernel_rfl
theorem below_11 (hz : ¬t.val = 0) (hd : ¬Diag t) (hl : ¬Last t) (p : St F) : (atBelow m c t hz hd hl p).1 = piecesQ t (stg8 F t) (hstg8 F t) p.dq (addQ whole (opsAt m c t)) := by sl_kernel_rfl
theorem below_15 (hz : ¬t.val = 0) (hd : ¬Diag t) (hl : ¬Last t) (p : St F) : (atBelow m c t hz hd hl p).2.1 = piecesL sumK (Memref.isWhole_whole _) p.sk (addK whole (opsAt m c t)) := by sl_kernel_rfl
theorem below_16 (hz : ¬t.val = 0) (hd : ¬Diag t) (hl : ¬Last t) (p : St F) : (atBelow m c t hz hd hl p).2.2.1 = piecesL sumV (Memref.isWhole_whole _) p.sv (addV whole (opsAt m c t)) := by sl_kernel_rfl
theorem below_17 (hz : ¬t.val = 0) (hd : ¬Diag t) (hl : ¬Last t) (p : St F) : (atBelow m c t hz hd hl p).2.2.2.1 = piecesR sumC (Memref.isWhole_whole _) p.sc (addC whole (opsAt m c t)) := by sl_kernel_rfl
theorem last_11 (hz : ¬t.val = 0) (hd : ¬Diag t) (hl : Last t) (p : St F) : (atLast m c t hz hd hl p).1 = piecesQ t (stg8 F t) (hstg8 F t) p.dq (addQ whole (opsAt m c t)) := by sl_kernel_rfl
theorem last_15 (hz : ¬t.val = 0) (hd : ¬Diag t) (hl : Last t) (p : St F) : (atLast m c t hz hd hl p).2.2.2.2.1 = piecesL sumK (Memref.isWhole_whole _) p.sk (addK whole (opsAt m c t)) := by sl_kernel_rfl
theorem last_16 (hz : ¬t.val = 0) (hd : ¬Diag t) (hl : Last t) (p : St F) : (atLast m c t hz hd hl p).2.2.2.2.2.1 = piecesL sumV (Memref.isWhole_whole _) p.sv (addV whole (opsAt m c t)) := by sl_kernel_rfl
theorem last_17 (hz : ¬t.val = 0) (hd : ¬Diag t) (hl : Last t) (p : St F) : (atLast m c t hz hd hl p).2.2.2.2.2.2.1 = piecesR sumC (Memref.isWhole_whole _) p.sc (addC whole (opsAt m c t)) := by sl_kernel_rfl
theorem last_12 (hz : ¬t.val = 0) (hd : ¬Diag t) (hl : Last t) (p : St F) : (atLast m c t hz hd hl p).2.1 = copyL (sumK.view.readCov (piecesL sumK (Memref.isWhole_whole _) p.sk (addK whole (opsAt m c t))) allL) := by sl_kernel_rfl
theorem last_13 (hz : ¬t.val = 0) (hd : ¬Diag t) (hl : Last t) (p : St F) : (atLast m c t hz hd hl p).2.2.1 = copyL (sumV.view.readCov (piecesL sumV (Memref.isWhole_whole _) p.sv (addV whole (opsAt m c t))) allL) := by sl_kernel_rfl
theorem last_14 (hz : ¬t.val = 0) (hd : ¬Diag t) (hl : Last t) (p : St F) : (atLast m c t hz hd hl p).2.2.2.1 = copyR (sumC.view.readCov (piecesR sumC (Memref.isWhole_whole _) p.sc (addC whole (opsAt m c t))) allR) := by sl_kernel_rfl

end Cert.Attn

end
-- ==== Proof.AttnSums.lean ====
/-
  What the buffers of the attention backward kernel hold once a point's pieces are in: the old contents plus what the
  point adds, place by place.
-/
module

public import proofs.«01_k».proof.Proof.AttnTile
public import proofs.«01_k».proof.Proof.Reals
public import Idealize.ShloMosaic.Lib.Pipeline.ValueKit
public import Idealize.ShloMosaic.Lib.WritesUnit
public import Idealize.ShloMosaic.Lib.VecWindow

@[expose] public section

set_option maxRecDepth 16384

noncomputable section

namespace Cert.Attn

open Cert.Kernel3Ideal Cert.Kernel3Ideal.Gen Idealize.ShloMosaic Idealize.ShloMosaic.TcCoe Idealize.ShloMosaic.Tactic

/-! ## One piece -/

section
variable {s : Shape} (v : View sig .tc .vmem s .f32) (f : v.ty.Contents (Elt Ideal)) {off size : Fin s.rank → ℕ} (inb : ∀ a, off a + size a ≤ s.size a)

/-- A piece elsewhere changes nothing. -/
theorem away (w : (Rect.unit off size inb).shape.Idx → Elt Ideal .f32) (L : List (View.Piece (Elt Ideal) s .f32)) (y : s.Idx) (a : Fin s.rank)
    (h : (y a).val < off a ∨ off a + size a ≤ (y a).val) :
    v.read (Elt Ideal) (v.writes (Elt Ideal) f (⟨Rect.unit off size inb, w⟩ :: L)) y = v.read (Elt Ideal) (v.writes (Elt Ideal) f L) y :=
  View.read_writes_cons_unit_of_not_mem v f inb w L y rfl a h

/-- A piece at the place. -/
theorem here (w : (Rect.unit off size inb).shape.Idx → Elt Ideal .f32) (L : List (View.Piece (Elt Ideal) s .f32)) (y : s.Idx)
    (x : (Rect.unit off size inb).shape.Idx) (h : ∀ a, (y a).val = off a + (x a).val) :
    v.read (Elt Ideal) (v.writes (Elt Ideal) f (⟨Rect.unit off size inb, w⟩ :: L)) y = w x :=
  View.read_writes_cons_unit_of_mem v f inb w L y x rfl h

end

theorem sumL_apply (old add : FVec Ideal S256x128 .f32) (r : Fin 256) (l : Fin 128) : sumL old add (ix2 r l) = (old (ix2 r l) + add (ix2 r l) : EReal) := by
  unfold sumL
  pointwise
theorem sumR_apply (old add : FVec Ideal S1x256 .f32) (l : Fin 256) : sumR old add (ix2 0 l) = (old (ix2 0 l) + add (ix2 0 l) : EReal) := by
  unfold sumR
  pointwise
theorem putQ_apply (old add : FVec Ideal S256x128 .f32) (r : Fin 256) (l : Fin 128) : putQ old add (ix2 r l) = (old (ix2 r l) + add (ix2 r l) : EReal) := by
  unfold putQ
  pointwise

/-! ## A pair's columns -/

/-- Lane `l` of pair `p`. -/
def col (p : Fin 4) (l : Fin 128) : Fin 512 := ⟨128 * p.val + l.val, by omega⟩

theorem col_surj (j : Fin 512) : ∃ p l, j = col p l :=
  ⟨⟨j.val / 128, by omega⟩, ⟨j.val % 128, by omega⟩, Fin.ext (by show _ = 128 * (j.val / 128) + j.val % 128; omega)⟩

section
variable (M : Memref sig .tc .vmem S256x512 .f32) (f : M.view.ty.Contents (Elt Ideal)) (p' p : Fin 4) (r : Fin 256) (l : Fin 128)

theorem pieceL (w : FVec Ideal S256x128 .f32) (L : List (View.Piece (Elt Ideal) S256x512 .f32)) :
    M.view.read (Elt Ideal) (M.view.writes (Elt Ideal) f (⟨rectL p', w⟩ :: L)) (ix2 r (col p l))
      = if p' = p then w (ix2 r l) else M.view.read (Elt Ideal) (M.view.writes (Elt Ideal) f L) (ix2 r (col p l)) := by
  by_cases e : p' = p
  · subst e
    rw [if_pos rfl]
    refine here M.view f (inb_lanes p') w L _ (ix2 r l) fun a => ?_
    match a with
    | ⟨0, _⟩ => exact (Nat.zero_add _).symm
    | ⟨1, _⟩ => rfl
  · rw [if_neg e]
    refine away M.view f (inb_lanes p') w L _ 1 ?_
    have : p'.val ≠ p.val := fun h => e (Fin.ext h)
    show 128 * p.val + l.val < 128 * p'.val ∨ 128 * p'.val + 128 ≤ 128 * p.val + l.val
    omega

theorem loadL (X : M.view.ty.Contents (Elt Ideal)) : View.readAt (Elt Ideal) M.view (rectL p).toLoadRect X (ix2 r l) = M.view.read (Elt Ideal) X (ix2 r (col p l)) := by
  rw [View.readAt_apply]
  congr 1
  funext a
  apply Fin.ext
  match a with
  | ⟨0, _⟩ => show 0 + 1 * r.val = r.val; omega
  | ⟨1, _⟩ => show 128 * p.val + 1 * l.val = 128 * p.val + l.val; omega

theorem nextL_at (g : Fin 4 → FVec Ideal S256x128 .f32) (L : List (View.Piece (Elt Ideal) S256x512 .f32)) :
    M.view.read (Elt Ideal) (M.view.writes (Elt Ideal) M.view.junk (nextL M g p' L)) (ix2 r (col p l))
      = if p' = p then (M.view.read (Elt Ideal) (M.view.writes (Elt Ideal) M.view.junk L) (ix2 r (col p l)) + g p (ix2 r l) : EReal)
        else M.view.read (Elt Ideal) (M.view.writes (Elt Ideal) M.view.junk L) (ix2 r (col p l)) := by
  unfold nextL
  rw [pieceL]
  by_cases e : p' = p
  · subst e
    rw [if_pos rfl, if_pos rfl, sumL_apply]
    exact congrArg (· + (g p' (ix2 r l) : EReal)) (loadL M p' r l _)
  · rw [if_neg e, if_neg e]

/-- A running sum cleared at the point holds what the point adds. -/
theorem clearedL_at (z : FVec Ideal S256x512 .f32) (hz : ∀ y, z y = (0 : EReal)) (g : Fin 4 → FVec Ideal S256x128 .f32) :
    M.view.read (Elt Ideal) (M.view.writes (Elt Ideal) M.view.junk (clearedL M z g)) (ix2 r (col p l)) = g p (ix2 r l) := by
  have e := hz (ix2 r (col p l))
  unfold clearedL
  rw [nextL_at, nextL_at, nextL_at, nextL_at, View.read_writes_full]
  refine Eq.trans ?_ ((congrArg (· + (g p (ix2 r l) : EReal)) e).trans (zero_add _))
  match p with
  | 0 => rfl
  | 1 => rfl
  | 2 => rfl
  | 3 => rfl

/-- A running sum kept at the point holds its old value plus what the point adds. -/
theorem piecesL_at (hM : M.IsWhole) (x : Vec Ideal S256x512 .f32) (g : Fin 4 → FVec Ideal S256x128 .f32) :
    M.view.read (Elt Ideal) (M.view.writes (Elt Ideal) f (piecesL M hM x g)) (ix2 r (col p l)) = (x (ix2 r (col p l)) + g p (ix2 r l) : EReal) := by
  have e : sumL (View.readAt (Elt Ideal) M.view (rectL p).toLoadRect (hM.unread x)) (g p) (ix2 r l) = (x (ix2 r (col p l)) + g p (ix2 r l) : EReal) := by
    rw [sumL_apply]
    refine congrArg (· + (g p (ix2 r l) : EReal)) ?_
    rw [loadL, hM.read_unread]
  unfold piecesL
  dsimp only
  rw [pieceL, pieceL, pieceL, pieceL]
  refine Eq.trans ?_ e
  match p with
  | 0 => rfl
  | 1 => rfl
  | 2 => rfl
  | 3 => rfl

end

/-! ## A head's row -/

section
variable (M : Memref sig .tc .vmem S8x256 .f32) (f : M.view.ty.Contents (Elt Ideal)) (p' p : Fin 8) (l : Fin 256)

theorem pieceR (w : FVec Ideal S1x256 .f32) (L : List (View.Piece (Elt Ideal) S8x256 .f32)) :
    M.view.read (Elt Ideal) (M.view.writes (Elt Ideal) f (⟨rectR p', w⟩ :: L)) (ix2 p l)
      = if p' = p then w (ix2 0 l) else M.view.read (Elt Ideal) (M.view.writes (Elt Ideal) f L) (ix2 p l) := by
  by_cases e : p' = p
  · subst e
    rw [if_pos rfl]
    refine here M.view f (inb_row p') w L _ (ix2 0 l) fun a => ?_
    match a with
    | ⟨0, _⟩ => rfl
    | ⟨1, _⟩ => exact (Nat.zero_add _).symm
  · rw [if_neg e]
    refine away M.view f (inb_row p') w L _ 0 ?_
    have : p'.val ≠ p.val := fun h => e (Fin.ext h)
    show p.val < p'.val ∨ p'.val + 1 ≤ p.val
    omega

theorem loadR (X : M.view.ty.Contents (Elt Ideal)) : View.readAt (Elt Ideal) M.view (rectR p).toLoadRect X (ix2 0 l) = M.view.read (Elt Ideal) X (ix2 p l) := by
  rw [View.readAt_apply]
  congr 1
  funext a
  apply Fin.ext
  match a with
  | ⟨0, _⟩ => show p.val + 1 * 0 = p.val; omega
  | ⟨1, _⟩ => show 0 + 1 * l.val = l.val; omega

theorem nextR_at (g : Fin 8 → FVec Ideal S1x256 .f32) (L : List (View.Piece (Elt Ideal) S8x256 .f32)) :
    M.view.read (Elt Ideal) (M.view.writes (Elt Ideal) M.view.junk (nextR M g p' L)) (ix2 p l)
      = if p' = p then (M.view.read (Elt Ideal) (M.view.writes (Elt Ideal) M.view.junk L) (ix2 p l) + g p (ix2 0 l) : EReal)
        else M.view.read (Elt Ideal) (M.view.writes (Elt Ideal) M.view.junk L) (ix2 p l) := by
  unfold nextR
  rw [pieceR]
  by_cases e : p' = p
  · subst e
    rw [if_pos rfl, if_pos rfl, sumR_apply]
    exact congrArg (· + (g p' (ix2 0 l) : EReal)) (loadR M p' l _)
  · rw [if_neg e, if_neg e]

theorem clearedR_at (z : FVec Ideal S8x256 .f32) (hz : ∀ y, z y = (0 : EReal)) (g : Fin 8 → FVec Ideal S1x256 .f32) :
    M.view.read (Elt Ideal) (M.view.writes (Elt Ideal) M.view.junk (clearedR M z g)) (ix2 p l) = g p (ix2 0 l) := by
  have e := hz (ix2 p l)
  unfold clearedR
  iterate 8 rw [nextR_at]
  rw [View.read_writes_full]
  refine Eq.trans ?_ ((congrArg (· + (g p (ix2 0 l) : EReal)) e).trans (zero_add _))
  match p with
  | 0 => rfl
  | 1 => rfl
  | 2 => rfl
  | 3 => rfl
  | 4 => rfl
  | 5 => rfl
  | 6 => rfl
  | 7 => rfl

theorem piecesR_at (hM : M.IsWhole) (x : Vec Ideal S8x256 .f32) (g : Fin 8 → FVec Ideal S1x256 .f32) :
    M.view.read (Elt Ideal) (M.view.writes (Elt Ideal) f (piecesR M hM x g)) (ix2 p l) = (x (ix2 p l) + g p (ix2 0 l) : EReal) := by
  have e : sumR (View.readAt (Elt Ideal) M.view (rectR p).toLoadRect (hM.unread x)) (g p) (ix2 0 l) = (x (ix2 p l) + g p (ix2 0 l) : EReal) := by
    rw [sumR_apply]
    refine congrArg (· + (g p (ix2 0 l) : EReal)) ?_
    rw [loadR, hM.read_unread]
  unfold piecesR
  dsimp only
  iterate 8 rw [pieceR]
  refine Eq.trans ?_ e
  match p with
  | 0 => rfl
  | 1 => rfl
  | 2 => rfl
  | 3 => rfl
  | 4 => rfl
  | 5 => rfl
  | 6 => rfl
  | 7 => rfl

end

/-! ## The query gradient's array -/

/-- The point's query tile and key tile. -/
def qi (t : Fin grid0.N) : Fin 8 := ⟨(qTile (grid0.coords t)).toNat, by revert t; decide +kernel⟩
def ki (t : Fin grid0.N) : Fin 8 := ⟨(kTile (grid0.coords t)).toNat, by revert t; decide +kernel⟩

theorem rowOff_0 (t : Fin grid0.N) (p : Fin 4) : rowOff t p 0 = 256 * (qi t).val := by revert t p; decide +kernel

/-- Row `r` of tile `i`. -/
def row (i : Fin 8) (r : Fin 256) : Fin 2048 := ⟨256 * i.val + r.val, by omega⟩

theorem row_surj (j : Fin 2048) : ∃ i r, j = row i r :=
  ⟨⟨j.val / 256, by omega⟩, ⟨j.val % 256, by omega⟩, Fin.ext (by show _ = 256 * (j.val / 256) + j.val % 256; omega)⟩

section
variable (t : Fin grid0.N) (M : Memref sig .tc .vmem S2048x512 .f32) (f : M.view.ty.Contents (Elt Ideal)) (p' p : Fin 4) (i : Fin 8) (r : Fin 256) (l : Fin 128)

theorem pieceQ (w : FVec Ideal S256x128 .f32) (L : List (View.Piece (Elt Ideal) S2048x512 .f32)) :
    M.view.read (Elt Ideal) (M.view.writes (Elt Ideal) f (⟨rectQ t p', w⟩ :: L)) (ix2 (row i r) (col p l))
      = if qi t = i ∧ p' = p then w (ix2 r l) else M.view.read (Elt Ideal) (M.view.writes (Elt Ideal) f L) (ix2 (row i r) (col p l)) := by
  have h0 := rowOff_0 t p'
  by_cases e : p' = p
  · subst e
    by_cases ei : qi t = i
    · subst ei
      rw [if_pos ⟨rfl, rfl⟩]
      refine here M.view f (inb_rows t p') w L _ (ix2 r l) fun a => ?_
      match a with
      | ⟨0, _⟩ => exact congrArg (· + r.val) h0.symm
      | ⟨1, _⟩ => rfl
    · rw [if_neg fun h => ei h.1]
      refine away M.view f (inb_rows t p') w L _ 0 ?_
      have : (qi t).val ≠ i.val := fun h => ei (Fin.ext h)
      rw [h0]
      show 256 * i.val + r.val < 256 * (qi t).val ∨ 256 * (qi t).val + 256 ≤ 256 * i.val + r.val
      omega
  · rw [if_neg fun h => e h.2]
    refine away M.view f (inb_rows t p') w L _ 1 ?_
    have : p'.val ≠ p.val := fun h => e (Fin.ext h)
    show 128 * p.val + l.val < 128 * p'.val ∨ 128 * p'.val + 128 ≤ 128 * p.val + l.val
    omega

theorem loadQ (X : M.view.ty.Contents (Elt Ideal)) :
    View.readAt (Elt Ideal) M.view (rectQ t p).toLoadRect X (ix2 r l) = M.view.read (Elt Ideal) X (ix2 (row (qi t) r) (col p l)) := by
  have h0 := rowOff_0 t p
  rw [View.readAt_apply]
  congr 1
  funext a
  apply Fin.ext
  match a with
  | ⟨0, _⟩ => show rowOff t p 0 + 1 * r.val = 256 * (qi t).val + r.val; omega
  | ⟨1, _⟩ => show 128 * p.val + 1 * l.val = 128 * p.val + l.val; omega

theorem nextQ_at (g : Fin 4 → FVec Ideal S256x128 .f32) (L : List (View.Piece (Elt Ideal) S2048x512 .f32)) :
    M.view.read (Elt Ideal) (M.view.writes (Elt Ideal) f (nextQ t M f g p' L)) (ix2 (row i r) (col p l))
      = if qi t = i ∧ p' = p then (M.view.read (Elt Ideal) (M.view.writes (Elt Ideal) f L) (ix2 (row i r) (col p l)) + g p (ix2 r l) : EReal)
        else M.view.read (Elt Ideal) (M.view.writes (Elt Ideal) f L) (ix2 (row i r) (col p l)) := by
  unfold nextQ
  rw [pieceQ]
  by_cases e : qi t = i ∧ p' = p
  · obtain ⟨rfl, rfl⟩ := e
    rw [if_pos ⟨rfl, rfl⟩, if_pos ⟨rfl, rfl⟩, putQ_apply]
    exact congrArg (· + (g p' (ix2 r l) : EReal)) (loadQ t M p' r l _)
  · rw [if_neg e, if_neg e]

theorem coverQ_at (g : Fin 4 → FVec Ideal S256x128 .f32) (L : List (View.Piece (Elt Ideal) S2048x512 .f32)) :
    M.view.read (Elt Ideal) (M.view.writes (Elt Ideal) M.view.junk (coverQ t M g p' L)) (ix2 (row i r) (col p l))
      = if qi t = i ∧ p' = p then (M.view.read (Elt Ideal) (M.view.writes (Elt Ideal) M.view.junk L) (ix2 (row i r) (col p l)) + g p (ix2 r l) : EReal)
        else M.view.read (Elt Ideal) (M.view.writes (Elt Ideal) M.view.junk L) (ix2 (row i r) (col p l)) := by
  have := nextQ_at t M M.view.junk p' p i r l g L
  unfold nextQ at this
  exact this

/-- The array cleared at the point holds what the point adds at the point's rows. -/
theorem clearedQ_at (z : FVec Ideal S2048x512 .f32) (hz : ∀ y, z y = (0 : EReal)) (g : Fin 4 → FVec Ideal S256x128 .f32) :
    M.view.read (Elt Ideal) (M.view.writes (Elt Ideal) M.view.junk (clearedQ t M z g)) (ix2 (row i r) (col p l)) = if qi t = i then g p (ix2 r l) else (0 : EReal) := by
  have e := hz (ix2 (row i r) (col p l))
  unfold clearedQ
  rw [coverQ_at, coverQ_at, coverQ_at, coverQ_at, View.read_writes_full]
  by_cases ei : qi t = i
  · rw [if_pos ei]
    simp only [ei, true_and]
    refine Eq.trans ?_ ((congrArg (· + (g p (ix2 r l) : EReal)) e).trans (zero_add _))
    match p with
    | 0 => rfl
    | 1 => rfl
    | 2 => rfl
    | 3 => rfl
  · rw [if_neg ei]
    simp only [ei, false_and, if_false]
    exact e

/-- The array kept at the point holds its old value, plus what the point adds at the point's rows. -/
theorem piecesQ_at (hM : M.IsWhole) (x : Vec Ideal S2048x512 .f32) (g : Fin 4 → FVec Ideal S256x128 .f32) :
    M.view.read (Elt Ideal) (M.view.writes (Elt Ideal) (hM.unread x) (piecesQ t M hM x g)) (ix2 (row i r) (col p l))
      = (x (ix2 (row i r) (col p l)) + (if qi t = i then g p (ix2 r l) else (0 : EReal)) : EReal) := by
  have e : M.view.read (Elt Ideal) (M.view.writes (Elt Ideal) (hM.unread x) []) (ix2 (row i r) (col p l)) = x (ix2 (row i r) (col p l)) :=
    congrFun (hM.read_unread _) _
  unfold piecesQ
  dsimp only
  rw [nextQ_at, nextQ_at, nextQ_at, nextQ_at, e]
  by_cases ei : qi t = i
  · rw [if_pos ei]
    simp only [ei, true_and]
    match p with
    | 0 => rfl
    | 1 => rfl
    | 2 => rfl
    | 3 => rfl
  · rw [if_neg ei, add_zero]
    simp only [ei, false_and, if_false]

end

/-! ## The same pieces in another buffer -/

theorem same_L (M N : Memref sig .tc .vmem S256x512 .f32) (z : FVec Ideal S256x512 .f32) (g : Fin 4 → FVec Ideal S256x128 .f32) (p : Fin 4) (r : Fin 256) (l : Fin 128) :
    N.view.read (Elt Ideal) (N.view.writes (Elt Ideal) N.view.junk (clearedL M z g)) (ix2 r (col p l))
      = M.view.read (Elt Ideal) (M.view.writes (Elt Ideal) M.view.junk (clearedL M z g)) (ix2 r (col p l)) := by
  unfold clearedL nextL
  rw [pieceL N, pieceL N, pieceL N, pieceL N, pieceL M, pieceL M, pieceL M, pieceL M, View.read_writes_full, View.read_writes_full]

theorem same_Q (t : Fin grid0.N) (M N : Memref sig .tc .vmem S2048x512 .f32) (z : FVec Ideal S2048x512 .f32) (g : Fin 4 → FVec Ideal S256x128 .f32) (p : Fin 4) (i : Fin 8)
    (r : Fin 256) (l : Fin 128) :
    N.view.read (Elt Ideal) (N.view.writes (Elt Ideal) N.view.junk (clearedQ t M z g)) (ix2 (row i r) (col p l))
      = M.view.read (Elt Ideal) (M.view.writes (Elt Ideal) M.view.junk (clearedQ t M z g)) (ix2 (row i r) (col p l)) := by
  unfold clearedQ coverQ
  rw [pieceQ t N, pieceQ t N, pieceQ t N, pieceQ t N, pieceQ t M, pieceQ t M, pieceQ t M, pieceQ t M, View.read_writes_full, View.read_writes_full]

/-! ## Copies -/

/-- A copy of a whole buffer holds the buffer. -/
theorem copyL_at (M N : Memref sig .tc .vmem S256x512 .f32) (L : List (View.Piece (Elt Ideal) S256x512 .f32)) :
    N.view.read (Elt Ideal) (N.view.writes (Elt Ideal) N.view.junk (copyL (M.view.readCov L allL))) = M.view.read (Elt Ideal) (M.view.writes (Elt Ideal) M.view.junk L) := by
  unfold copyL
  rw [View.read_writes_full]
  exact View.readAt_full _ _ _
theorem copyR_at (M N : Memref sig .tc .vmem S8x256 .f32) (L : List (View.Piece (Elt Ideal) S8x256 .f32)) :
    N.view.read (Elt Ideal) (N.view.writes (Elt Ideal) N.view.junk (copyR (M.view.readCov L allR))) = M.view.read (Elt Ideal) (M.view.writes (Elt Ideal) M.view.junk L) := by
  unfold copyR
  rw [View.read_writes_full]
  exact View.readAt_full _ _ _

end Cert.Attn

end
-- ==== Proof.AttnReal.lean ====
/-
  Causal softmax attention over the reals: the weights, and the gradients of its inputs.
-/
module

public import proofs.«01_k».proof.Proof.Reals

@[expose] public section

noncomputable section

namespace Cert.Attn

open Idealize.ShloMosaic

/-- The forward's inputs and the cotangent of its output. -/
structure Data where
  Q : Fin 8 → Fin 2048 → Fin 64 → ℝ
  K : Fin 8 → Fin 2048 → Fin 64 → ℝ
  V : Fin 8 → Fin 2048 → Fin 64 → ℝ
  O : Fin 8 → Fin 2048 → Fin 64 → ℝ
  C : Fin 8 → Fin 2048 → ℝ

namespace Data

variable (D : Data) (h : Fin 8) (r s : Fin 2048) (d : Fin 64)

def logit : ℝ := (∑ d, D.Q h r d * D.K h s d) / 8 + D.C h r - D.C h s
/-- The exponential of a logit, with the row's level `M` taken out, zero above the diagonal; and the row's total. -/
def ex (M : ℝ) : ℝ := if s.val ≤ r.val then Real.exp (D.logit h r s - M) else 0
def total (M : ℝ) : ℝ := ∑ s, D.ex h r s M
/-- The row's log-sum, and the weights. -/
def lse : ℝ := Real.log (D.total h r 0)
def p : ℝ := if s.val ≤ r.val then Real.exp (D.logit h r s - D.lse h r) else 0
/-- The cotangent of a weight, and the row sum of do·o. -/
def dot : ℝ := ∑ d, D.O h r d * D.V h s d
def dd : ℝ := ∑ d, D.O h r d * ∑ s, D.p h r s * D.V h s d
/-- The gradient of a logit. -/
def grad : ℝ := D.p h r s * (D.dot h r s - D.dd h r)

/-! The results. -/
def dq : ℝ := (∑ s, D.grad h r s * D.K h s d) / 8
def dk : ℝ := (∑ r, D.grad h r s * D.Q h r d) / 8
def dv : ℝ := ∑ r, D.p h r s * D.O h r d
def dc : ℝ := -∑ r, D.grad h r s

theorem total_pos (M : ℝ) : 0 < D.total h r M := by
  refine Finset.sum_pos' (fun s _ => ?_) ⟨r, Finset.mem_univ _, ?_⟩
  · unfold ex; split
    · exact (Real.exp_pos _).le
    · exact le_refl _
  · unfold ex; rw [if_pos (le_refl _)]; exact Real.exp_pos _

theorem total_level (M : ℝ) : D.total h r M = Real.exp (-M) * D.total h r 0 := by
  unfold total
  rw [Finset.mul_sum]
  refine Finset.sum_congr rfl fun s _ => ?_
  unfold ex
  by_cases g : s.val ≤ r.val
  · rw [if_pos g, if_pos g, ← Real.exp_add]; congr 1; ring
  · rw [if_neg g, if_neg g, mul_zero]

/-- Whatever the level taken out of a row, its log-sum and its weights are the same. -/
theorem lse_level (M : ℝ) : M + Real.log (D.total h r M) = D.lse h r := by
  rw [total_level, Real.log_mul (Real.exp_pos _).ne' (D.total_pos h r 0).ne', Real.log_exp]
  unfold lse
  ring
theorem p_level (M : ℝ) : D.ex h r s M / D.total h r M = D.p h r s := by
  unfold p
  rw [← D.lse_level h r M]
  unfold ex
  by_cases g : s.val ≤ r.val
  · rw [if_pos g, if_pos g, div_eq_iff (D.total_pos h r M).ne']
    nth_rewrite 2 [← Real.exp_log (D.total_pos h r M)]
    rw [← Real.exp_add]
    congr 1
    ring
  · rw [if_neg g, if_neg g, zero_div]

/-- The weights of a row add to one. -/
theorem p_sum : ∑ s, D.p h r s = 1 := by
  rw [Finset.sum_congr rfl fun s _ => (D.p_level h r s 0).symm, ← Finset.sum_div]
  exact div_self (D.total_pos h r 0).ne'

/-- The row sum of do·o is the weighted sum of the weights' cotangents. -/
theorem dd_eq : D.dd h r = ∑ s, D.p h r s * D.dot h r s := by
  unfold dd dot
  simp only [Finset.mul_sum]
  rw [Finset.sum_comm]
  refine Finset.sum_congr rfl fun s _ => Finset.sum_congr rfl fun d _ => ?_
  ring

/-- A row of the logits' gradient adds to zero. -/
theorem grad_sum : ∑ s, D.grad h r s = 0 := by
  unfold grad
  simp only [mul_sub]
  rw [Finset.sum_sub_distrib, ← Finset.sum_mul, p_sum, one_mul, ← dd_eq, sub_self]

end Data

/-! ## The programs' constants and the mask -/

theorem zero_lit : Ideal.ofBits .f32 0x00000000#32 = 0 := by simp [Ideal.ofBits, Ideal.ieee]

theorem lit_eighth : Ideal.ofBits .f32 0x3E000000#32 = ((1 / 8 : ℝ) : EReal) := by
  simp [Ideal.ofBits, Ideal.ieee, -EReal.coe_mul]
  try norm_num

theorem lit_bot : Ideal.ofBits .f32 0xFF800000#32 = ⊥ := by simp [Ideal.ofBits, Ideal.ieee]

theorem sge_rows (r s : Fin 2048) : IntOp.cmpi CmpIPredicate.sge (BitVec.ofNat 32 r.val) (BitVec.ofNat 32 s.val) = if s.val ≤ r.val then 1#1 else 0#1 := by
  have hr : (BitVec.ofNat 32 r.val).toInt = r.val := by
    rw [BitVec.toInt_eq_toNat_of_lt (by rw [BitVec.toNat_ofNat]; omega), BitVec.toNat_ofNat]; omega
  have hs : (BitVec.ofNat 32 s.val).toInt = s.val := by
    rw [BitVec.toInt_eq_toNat_of_lt (by rw [BitVec.toNat_ofNat]; omega), BitVec.toNat_ofNat]; omega
  unfold IntOp.cmpi
  simp only [BitVec.sle, hr, hs]
  by_cases g : s.val ≤ r.val
  · simp [g]
  · simp [g]

theorem select_one {A : Type} (b : Prop) [Decidable b] (x y : A) : Scalar.select (if b then 1#1 else 0#1) x y = if b then x else y := by
  split <;> rfl

/-- The largest of finitely many numbers below infinity, one of them real, is real. -/
theorem fold_max_real {n : ℕ} (f : Fin n → EReal) (h1 : ∀ s, f s ≠ ⊤) (h2 : ∃ s, f s ≠ ⊥) : ∃ M : ℝ, Finset.fold max ⊥ f Finset.univ = ((M : ℝ) : EReal) := by
  have top : Finset.fold max ⊥ f Finset.univ ≠ ⊤ := by
    refine ((Finset.fold_max_lt (⊤ : EReal)).mpr ⟨bot_lt_top, fun s _ => lt_top_iff_ne_top.mpr (h1 s)⟩).ne
  have bot : Finset.fold max ⊥ f Finset.univ ≠ ⊥ := by
    obtain ⟨s, hs⟩ := h2
    exact ((Finset.lt_fold_max (⊥ : EReal)).mpr (.inr ⟨s, Finset.mem_univ _, bot_lt_iff_ne_bot.mpr hs⟩)).ne'
  exact ⟨_, (EReal.coe_toReal top bot).symm⟩

theorem log_real (x : ℝ) (h : 0 < x) : Ideal.log ((x : ℝ) : EReal) = ((Real.log x : ℝ) : EReal) := if_neg (not_le.mpr h)

/-- A row's exponentials, taken from its masked logits and any real level. -/
theorem exp_masked (D : Data) (h : Fin 8) (r s : Fin 2048) (M : ℝ) (L : EReal) (hL : L = if s.val ≤ r.val then ((D.logit h r s : ℝ) : EReal) else ⊥) :
    Ideal.exp (L - ((M : ℝ) : EReal)) = ((D.ex h r s M : ℝ) : EReal) := by
  subst hL
  unfold Data.ex
  by_cases g : s.val ≤ r.val
  · rw [if_pos g, if_pos g, ← EReal.coe_sub]; rfl
  · rw [if_neg g, if_neg g]; rfl

end Cert.Attn

end
-- ==== Proof.AttnFold.lean ====
/-
  What the attention backward kernel has added up after each point: over the points so far, the query gradient's rows
  and the column's running sums.
-/
module

public import proofs.«01_k».proof.Proof.AttnSums
public import proofs.«01_k».proof.Proof.AttnReal

@[expose] public section

set_option maxRecDepth 16384

noncomputable section

namespace Cert.Attn

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

/-- The mask a point uses. -/
def maskAt (t : Fin grid0.N) : FVec Ideal S256x256 .f32 → FVec Ideal S256x256 .f32 := if Diag t then causal else whole

/-- What a point adds. -/
def tQ (t : Fin grid0.N) : Fin 4 → FVec Ideal S256x128 .f32 := addQ (maskAt t) (opsAt m c t)
def tK (t : Fin grid0.N) : Fin 4 → FVec Ideal S256x128 .f32 := addK (maskAt t) (opsAt m c t)
def tV (t : Fin grid0.N) : Fin 4 → FVec Ideal S256x128 .f32 := addV (maskAt t) (opsAt m c t)
def tC (t : Fin grid0.N) : Fin 8 → FVec Ideal S1x256 .f32 := addC (maskAt t) (opsAt m c t)

theorem pay1_zero (y : S2048x512.Idx) : k0_pay1 (F := Ideal) y = (0 : EReal) := zero_lit
theorem pay2_zero (y : S256x512.Idx) : k0_pay2 (F := Ideal) y = (0 : EReal) := zero_lit
theorem pay3_zero (y : S256x512.Idx) : k0_pay3 (F := Ideal) y = (0 : EReal) := zero_lit
theorem pay4_zero (y : S8x256.Idx) : k0_pay4 (F := Ideal) y = (0 : EReal) := zero_lit

abbrev prev (t : Fin grid0.N) : St Ideal := done m c (t.val - 1) (Nat.lt_of_le_of_lt (Nat.sub_le _ _) t.isLt)

/-! ## One point -/

section
variable (t : Fin grid0.N) (i : Fin 8) (p : Fin 4) (h : Fin 8) (r : Fin 256) (l : Fin 128)

theorem dq_first (hz : t.val = 0) : (done m c t.val t.isLt).dq (ix2 (row i r) (col p l)) = if qi t = i then tQ m c t p (ix2 r l) else (0 : EReal) := by
  have hd := diag_first t hz
  rw [done_first m c t hz hd (not_last_first t hz)]
  unfold tQ maskAt
  rw [if_pos hd]
  unfold afterFirst
  dsimp only
  rw [first_11]
  exact (same_Q t (stg8 Ideal t) (Memref.whole cc0_stg8_0) _ _ p i r l).trans (clearedQ_at t _ p i r l _ pay1_zero _)

theorem dq_next (hz : ¬t.val = 0) : (done m c t.val t.isLt).dq (ix2 (row i r) (col p l))
    = ((prev m c t).dq (ix2 (row i r) (col p l)) + (if qi t = i then tQ m c t p (ix2 r l) else (0 : EReal)) : EReal) := by
  rw [done_pos m c t hz]
  unfold tQ maskAt
  by_cases hd : Diag t
  · rw [if_pos hd]
    by_cases hl : Last t
    · rw [step_final m c t hz hd hl]
      unfold afterFinal
      dsimp only
      rw [final_11]
      exact piecesQ_at t _ p i r l _ _ _
    · rw [step_diag m c t hz hd hl]
      unfold afterDiag
      dsimp only
      rw [diag_11]
      exact piecesQ_at t _ p i r l _ _ _
  · rw [if_neg hd]
    by_cases hl : Last t
    · rw [step_last m c t hz hd hl]
      unfold afterLast
      dsimp only
      rw [last_11]
      exact piecesQ_at t _ p i r l _ _ _
    · rw [step_below m c t hz hd hl]
      unfold afterBelow
      dsimp only
      rw [below_11]
      exact piecesQ_at t _ p i r l _ _ _

theorem sk_diag (hd : Diag t) : (done m c t.val t.isLt).sk (ix2 r (col p l)) = tK m c t p (ix2 r l) := by
  unfold tK maskAt
  rw [if_pos hd]
  by_cases hz : t.val = 0
  · rw [done_first m c t hz hd (not_last_first t hz)]
    unfold afterFirst
    dsimp only
    rw [first_15]
    exact clearedL_at sumK p r l _ pay2_zero _
  · rw [done_pos m c t hz]
    by_cases hl : Last t
    · rw [step_final m c t hz hd hl]
      unfold afterFinal
      dsimp only
      rw [final_15]
      exact clearedL_at sumK p r l _ pay2_zero _
    · rw [step_diag m c t hz hd hl]
      unfold afterDiag
      dsimp only
      rw [diag_15]
      exact clearedL_at sumK p r l _ pay2_zero _

theorem sv_diag (hd : Diag t) : (done m c t.val t.isLt).sv (ix2 r (col p l)) = tV m c t p (ix2 r l) := by
  unfold tV maskAt
  rw [if_pos hd]
  by_cases hz : t.val = 0
  · rw [done_first m c t hz hd (not_last_first t hz)]
    unfold afterFirst
    dsimp only
    rw [first_16]
    exact (same_L sumV sumK _ _ p r l).trans (clearedL_at sumV p r l _ pay3_zero _)
  · rw [done_pos m c t hz]
    by_cases hl : Last t
    · rw [step_final m c t hz hd hl]
      unfold afterFinal
      dsimp only
      rw [final_16]
      exact (same_L sumV sumK _ _ p r l).trans (clearedL_at sumV p r l _ pay3_zero _)
    · rw [step_diag m c t hz hd hl]
      unfold afterDiag
      dsimp only
      rw [diag_16]
      exact (same_L sumV sumK _ _ p r l).trans (clearedL_at sumV p r l _ pay3_zero _)

theorem sc_diag (hd : Diag t) : (done m c t.val t.isLt).sc (ix2 h r) = tC m c t h (ix2 0 r) := by
  unfold tC maskAt
  rw [if_pos hd]
  by_cases hz : t.val = 0
  · rw [done_first m c t hz hd (not_last_first t hz)]
    unfold afterFirst
    dsimp only
    rw [first_17]
    exact clearedR_at sumC h r _ pay4_zero _
  · rw [done_pos m c t hz]
    by_cases hl : Last t
    · rw [step_final m c t hz hd hl]
      unfold afterFinal
      dsimp only
      rw [final_17]
      exact clearedR_at sumC h r _ pay4_zero _
    · rw [step_diag m c t hz hd hl]
      unfold afterDiag
      dsimp only
      rw [diag_17]
      exact clearedR_at sumC h r _ pay4_zero _

theorem pos_of_below (hd : ¬Diag t) : ¬t.val = 0 := fun hz => hd (diag_first t hz)

theorem sk_next (hd : ¬Diag t) : (done m c t.val t.isLt).sk (ix2 r (col p l)) = ((prev m c t).sk (ix2 r (col p l)) + tK m c t p (ix2 r l) : EReal) := by
  unfold tK maskAt
  rw [if_neg hd]
  have hz := pos_of_below t hd
  rw [done_pos m c t hz]
  by_cases hl : Last t
  · rw [step_last m c t hz hd hl]
    unfold afterLast
    dsimp only
    rw [last_15]
    exact piecesL_at sumK _ p r l _ _ _
  · rw [step_below m c t hz hd hl]
    unfold afterBelow
    dsimp only
    rw [below_15]
    exact piecesL_at sumK _ p r l _ _ _

theorem sv_next (hd : ¬Diag t) : (done m c t.val t.isLt).sv (ix2 r (col p l)) = ((prev m c t).sv (ix2 r (col p l)) + tV m c t p (ix2 r l) : EReal) := by
  unfold tV maskAt
  rw [if_neg hd]
  have hz := pos_of_below t hd
  rw [done_pos m c t hz]
  by_cases hl : Last t
  · rw [step_last m c t hz hd hl]
    unfold afterLast
    dsimp only
    rw [last_16]
    exact piecesL_at sumV _ p r l _ _ _
  · rw [step_below m c t hz hd hl]
    unfold afterBelow
    dsimp only
    rw [below_16]
    exact piecesL_at sumV _ p r l _ _ _

theorem sc_next (hd : ¬Diag t) : (done m c t.val t.isLt).sc (ix2 h r) = ((prev m c t).sc (ix2 h r) + tC m c t h (ix2 0 r) : EReal) := by
  unfold tC maskAt
  rw [if_neg hd]
  have hz := pos_of_below t hd
  rw [done_pos m c t hz]
  by_cases hl : Last t
  · rw [step_last m c t hz hd hl]
    unfold afterLast
    dsimp only
    rw [last_17]
    exact piecesR_at sumC _ h r _ _ _
  · rw [step_below m c t hz hd hl]
    unfold afterBelow
    dsimp only
    rw [below_17]
    exact piecesR_at sumC _ h r _ _ _

/-- At a column's last tile the results' blocks are the running sums. -/
theorem dk_diag (hd : Diag t) (hl : Last t) : (done m c t.val t.isLt).dk (ix2 r (col p l)) = tK m c t p (ix2 r l) := by
  have hz : ¬t.val = 0 := fun hz => not_last_first t hz hl
  unfold tK maskAt
  rw [if_pos hd, done_pos m c t hz, step_final m c t hz hd hl]
  unfold afterFinal
  dsimp only
  rw [final_12]
  exact (congrFun (copyL_at sumK sumK _) _).trans (clearedL_at sumK p r l _ pay2_zero _)
theorem dk_below (hd : ¬Diag t) (hl : Last t) : (done m c t.val t.isLt).dk (ix2 r (col p l)) = ((prev m c t).sk (ix2 r (col p l)) + tK m c t p (ix2 r l) : EReal) := by
  have hz := pos_of_below t hd
  unfold tK maskAt
  rw [if_neg hd, done_pos m c t hz, step_last m c t hz hd hl]
  unfold afterLast
  dsimp only
  rw [last_12]
  exact (congrFun (copyL_at sumK sumK _) _).trans (piecesL_at sumK _ p r l _ _ _)
theorem dk_last (hl : Last t) : (done m c t.val t.isLt).dk (ix2 r (col p l)) = (done m c t.val t.isLt).sk (ix2 r (col p l)) := by
  by_cases hd : Diag t
  · exact (dk_diag m c t p r l hd hl).trans (sk_diag m c t p r l hd).symm
  · exact (dk_below m c t p r l hd hl).trans (sk_next m c t p r l hd).symm

theorem dv_diag (hd : Diag t) (hl : Last t) : (done m c t.val t.isLt).dv (ix2 r (col p l)) = tV m c t p (ix2 r l) := by
  have hz : ¬t.val = 0 := fun hz => not_last_first t hz hl
  unfold tV maskAt
  rw [if_pos hd, done_pos m c t hz, step_final m c t hz hd hl]
  unfold afterFinal
  dsimp only
  rw [final_13]
  exact (congrFun (copyL_at sumV sumK _) _).trans (clearedL_at sumV p r l _ pay3_zero _)
theorem dv_below (hd : ¬Diag t) (hl : Last t) : (done m c t.val t.isLt).dv (ix2 r (col p l)) = ((prev m c t).sv (ix2 r (col p l)) + tV m c t p (ix2 r l) : EReal) := by
  have hz := pos_of_below t hd
  unfold tV maskAt
  rw [if_neg hd, done_pos m c t hz, step_last m c t hz hd hl]
  unfold afterLast
  dsimp only
  rw [last_13]
  exact (congrFun (copyL_at sumV sumK _) _).trans (piecesL_at sumV _ p r l _ _ _)
theorem dv_last (hl : Last t) : (done m c t.val t.isLt).dv (ix2 r (col p l)) = (done m c t.val t.isLt).sv (ix2 r (col p l)) := by
  by_cases hd : Diag t
  · exact (dv_diag m c t p r l hd hl).trans (sv_diag m c t p r l hd).symm
  · exact (dv_below m c t p r l hd hl).trans (sv_next m c t p r l hd).symm

theorem dc_diag (hd : Diag t) (hl : Last t) : (done m c t.val t.isLt).dc (ix2 h r) = tC m c t h (ix2 0 r) := by
  have hz : ¬t.val = 0 := fun hz => not_last_first t hz hl
  unfold tC maskAt
  rw [if_pos hd, done_pos m c t hz, step_final m c t hz hd hl]
  unfold afterFinal
  dsimp only
  rw [final_14]
  exact (congrFun (copyR_at sumC sumC _) _).trans (clearedR_at sumC h r _ pay4_zero _)
theorem dc_below (hd : ¬Diag t) (hl : Last t) : (done m c t.val t.isLt).dc (ix2 h r) = ((prev m c t).sc (ix2 h r) + tC m c t h (ix2 0 r) : EReal) := by
  have hz := pos_of_below t hd
  unfold tC maskAt
  rw [if_neg hd, done_pos m c t hz, step_last m c t hz hd hl]
  unfold afterLast
  dsimp only
  rw [last_14]
  exact (congrFun (copyR_at sumC sumC _) _).trans (piecesR_at sumC _ h r _ _ _)
theorem dc_last (hl : Last t) : (done m c t.val t.isLt).dc (ix2 h r) = (done m c t.val t.isLt).sc (ix2 h r) := by
  by_cases hd : Diag t
  · exact (dc_diag m c t h r hd hl).trans (sc_diag m c t h r hd).symm
  · exact (dc_below m c t h r hd hl).trans (sc_next m c t h r hd).symm

end

/-! ## All points -/

theorem nPoints : grid0.N = 36 := N_0

/-- Adding one more point to a sum over the points so far. -/
theorem sum_upto (f : Fin grid0.N → EReal) (t : Fin grid0.N) (P : Fin grid0.N → Prop) [DecidablePred P] :
    (∑ u : Fin grid0.N, if u.val ≤ t.val ∧ P u then f u else 0)
      = (∑ u : Fin grid0.N, if u.val < t.val ∧ P u then f u else 0) + (if P t then f t else 0) := by
  have e : (if P t then f t else 0) = ∑ u : Fin grid0.N, if u = t then (if P u then f u else 0) else (0 : EReal) := by
    rw [Finset.sum_ite_eq' Finset.univ t, if_pos (Finset.mem_univ _)]
  rw [e, ← Finset.sum_add_distrib]
  refine Finset.sum_congr rfl fun u _ => ?_
  by_cases hu : u = t
  · subst hu
    simp
  · have : u.val ≤ t.val ↔ u.val < t.val := ⟨fun h => lt_of_le_of_ne h fun e => hu (Fin.ext e), le_of_lt⟩
    rw [if_neg hu, add_zero]
    simp only [this]

/-- The query gradient after a point: the points so far whose query tile holds the row. -/
theorem dq_sum (t : Fin grid0.N) (i : Fin 8) (p : Fin 4) (r : Fin 256) (l : Fin 128) :
    (done m c t.val t.isLt).dq (ix2 (row i r) (col p l)) = (∑ u : Fin grid0.N, if u.val ≤ t.val ∧ qi u = i then tQ m c u p (ix2 r l) else (0 : EReal) : EReal) := by
  obtain ⟨n, hn⟩ := t
  induction n with
  | zero =>
    rw [dq_first m c ⟨0, hn⟩ i p r l rfl, sum_upto (fun u => tQ m c u p (ix2 r l)) ⟨0, hn⟩ (fun u => qi u = i)]
    rw [Finset.sum_eq_zero (fun u _ => if_neg fun h => Nat.not_lt_zero _ h.1), zero_add]
  | succ n ih =>
    rw [dq_next m c ⟨n + 1, hn⟩ i p r l (Nat.succ_ne_zero n), sum_upto (fun u => tQ m c u p (ix2 r l)) ⟨n + 1, hn⟩ (fun u => qi u = i)]
    refine congrArg (· + _) ((ih (Nat.lt_of_succ_lt hn)).trans ?_)
    refine Finset.sum_congr rfl fun u _ => ?_
    have : u.val < n + 1 ↔ u.val ≤ n := Nat.lt_succ_iff
    simp only [this]

theorem ki_prev : ∀ t : Fin grid0.N, ¬Diag t → ∀ u : Fin grid0.N, (u.val < t.val ∧ ki u = ki t) ↔ (u.val ≤ t.val - 1 ∧ ki u = ki ⟨t.val - 1, Nat.lt_of_le_of_lt (Nat.sub_le _ _) t.isLt⟩) := by
  decide +kernel
theorem ki_new : ∀ t : Fin grid0.N, Diag t → ∀ u : Fin grid0.N, ¬(u.val < t.val ∧ ki u = ki t) := by decide +kernel

/-- A running sum that a column's diagonal tile starts: the column's points so far. -/
theorem column_sum (x f : Fin grid0.N → EReal) (hd : ∀ t, Diag t → x t = f t)
    (hn : ∀ t, ¬Diag t → x t = x ⟨t.val - 1, Nat.lt_of_le_of_lt (Nat.sub_le _ _) t.isLt⟩ + f t) (t : Fin grid0.N) :
    x t = ∑ u : Fin grid0.N, if u.val ≤ t.val ∧ ki u = ki t then f u else 0 := by
  obtain ⟨n, h⟩ := t
  induction n with
  | zero =>
    have d := diag_first ⟨0, h⟩ rfl
    rw [hd _ d, sum_upto f ⟨0, h⟩ (fun u => ki u = ki ⟨0, h⟩), Finset.sum_eq_zero (fun u _ => if_neg (ki_new _ d u)), zero_add, if_pos rfl]
  | succ n ih =>
    by_cases d : Diag ⟨n + 1, h⟩
    · rw [hd _ d, sum_upto f ⟨n + 1, h⟩ (fun u => ki u = ki ⟨n + 1, h⟩), Finset.sum_eq_zero (fun u _ => if_neg (ki_new _ d u)), zero_add, if_pos rfl]
    · rw [hn _ d, sum_upto f ⟨n + 1, h⟩ (fun u => ki u = ki ⟨n + 1, h⟩), if_pos rfl]
      refine congrArg (· + _) ((ih (Nat.lt_of_succ_lt h)).trans ?_)
      exact Finset.sum_congr rfl fun u _ => if_congr (ki_prev _ d u).symm rfl rfl

theorem upto_last : ∀ t : Fin grid0.N, Last t → ∀ u : Fin grid0.N, (u.val ≤ t.val ∧ ki u = ki t) ↔ ki u = ki t := by decide +kernel

theorem dk_sum (t : Fin grid0.N) (hl : Last t) (p : Fin 4) (r : Fin 256) (l : Fin 128) :
    (done m c t.val t.isLt).dk (ix2 r (col p l)) = (∑ u : Fin grid0.N, if ki u = ki t then tK m c u p (ix2 r l) else (0 : EReal) : EReal) := by
  refine (dk_last m c t p r l hl).trans ((column_sum (fun t => (done m c t.val t.isLt).sk (ix2 r (col p l))) (fun t => tK m c t p (ix2 r l))
    (fun t => sk_diag m c t p r l) (fun t => sk_next m c t p r l) t).trans ?_)
  exact Finset.sum_congr rfl fun u _ => if_congr (upto_last t hl u) rfl rfl
theorem dv_sum (t : Fin grid0.N) (hl : Last t) (p : Fin 4) (r : Fin 256) (l : Fin 128) :
    (done m c t.val t.isLt).dv (ix2 r (col p l)) = (∑ u : Fin grid0.N, if ki u = ki t then tV m c u p (ix2 r l) else (0 : EReal) : EReal) := by
  refine (dv_last m c t p r l hl).trans ((column_sum (fun t => (done m c t.val t.isLt).sv (ix2 r (col p l))) (fun t => tV m c t p (ix2 r l))
    (fun t => sv_diag m c t p r l) (fun t => sv_next m c t p r l) t).trans ?_)
  exact Finset.sum_congr rfl fun u _ => if_congr (upto_last t hl u) rfl rfl
theorem dc_sum (t : Fin grid0.N) (hl : Last t) (h : Fin 8) (r : Fin 256) :
    (done m c t.val t.isLt).dc (ix2 h r) = (∑ u : Fin grid0.N, if ki u = ki t then tC m c u h (ix2 0 r) else (0 : EReal) : EReal) := by
  refine (dc_last m c t h r hl).trans ((column_sum (fun t => (done m c t.val t.isLt).sc (ix2 h r)) (fun t => tC m c t h (ix2 0 r))
    (fun t => sc_diag m c t h r) (fun t => sc_next m c t h r) t).trans ?_)
  exact Finset.sum_congr rfl fun u _ => if_congr (upto_last t hl u) rfl rfl

/-! ## From points to tiles -/

theorem tiles_le : ∀ u : Fin grid0.N, ki u ≤ qi u := by decide +kernel
theorem diag_iff : ∀ u : Fin grid0.N, Diag u ↔ qi u = ki u := by decide +kernel
/-- The point of a tile. -/
theorem point_of : ∀ i j : Fin 8, j ≤ i → ∃ u : Fin grid0.N, (qi u = i ∧ ki u = j) ∧ ∀ v : Fin grid0.N, qi v = i ∧ ki v = j → v = u := by decide +kernel

theorem sum_point (i j : Fin 8) (a : EReal) : (∑ u : Fin grid0.N, if qi u = i ∧ ki u = j then a else 0) = if j ≤ i then a else 0 := by
  by_cases h : j ≤ i
  · obtain ⟨u, hu, huniq⟩ := point_of i j h
    rw [if_pos h, Finset.sum_eq_single u, if_pos hu]
    · intro v _ hv
      exact if_neg fun h' => hv (huniq v h')
    · intro h'; exact absurd (Finset.mem_univ _) h'
  · rw [if_neg h, Finset.sum_eq_zero]
    intro u _
    refine if_neg fun h' => h ?_
    rw [← h'.1, ← h'.2]
    exact tiles_le u

/-- The points of a column, tile by tile; and those of a row. -/
theorem sum_column (f : Fin 8 → Fin 8 → EReal) (j : Fin 8) : (∑ u : Fin grid0.N, if ki u = j then f (qi u) (ki u) else 0) = ∑ i : Fin 8, if j ≤ i then f i j else 0 := by
  have e : ∀ u : Fin grid0.N, (if ki u = j then f (qi u) (ki u) else 0) = ∑ i : Fin 8, if qi u = i ∧ ki u = j then f i j else 0 := fun u => by
    by_cases h : ki u = j
    · subst h
      simp
    · simp [h]
  rw [Finset.sum_congr rfl fun u _ => e u, Finset.sum_comm]
  exact Finset.sum_congr rfl fun i _ => sum_point i j _
theorem sum_row (f : Fin 8 → Fin 8 → EReal) (i : Fin 8) : (∑ u : Fin grid0.N, if qi u = i then f (qi u) (ki u) else 0) = ∑ j : Fin 8, if j ≤ i then f i j else 0 := by
  have e : ∀ u : Fin grid0.N, (if qi u = i then f (qi u) (ki u) else 0) = ∑ j : Fin 8, if qi u = i ∧ ki u = j then f i j else 0 := fun u => by
    by_cases h : qi u = i
    · subst h
      simp
    · simp [h]
  rw [Finset.sum_congr rfl fun u _ => e u, Finset.sum_comm]
  exact Finset.sum_congr rfl fun j _ => sum_point i j _

end Cert.Attn

end
-- ==== Proof.AttnPoint.lean ====
/-
  The arithmetic of a pair of heads at one point, over the reals.
-/
module

public import proofs.«01_k».proof.Proof.AttnFold

@[expose] public section

set_option maxRecDepth 16384

noncomputable section

namespace Cert.Attn

open Cert.Kernel3Ideal Cert.Kernel3Ideal.Gen Idealize.ShloMosaic Idealize.ShloMosaic.TcCoe Idealize.ShloMosaic.Tactic

/-! ## The heads of a pair -/

/-- Whether a lane of the pair is the head's own. -/
def mine (h : Fin 8) (l : Fin 128) : Prop := l.val / 64 = h.val % 2
instance (h : Fin 8) (l : Fin 128) : Decidable (mine h l) := inferInstanceAs (Decidable (_ = _))
/-- The head's own lanes. -/
def lane (h : Fin 8) (d : Fin 64) : Fin 128 := ⟨64 * (h.val % 2) + d.val, by omega⟩

theorem lane_mine (h : Fin 8) (d : Fin 64) : mine h (lane h d) := by
  show (64 * (h.val % 2) + d.val) / 64 = h.val % 2
  omega

/-- A sum over the head's own lanes. -/
theorem sum_mine {A : Type} [AddCommMonoid A] (h : Fin 8) (f : Fin 128 → A) : (∑ l, if mine h l then f l else 0) = ∑ d, f (lane h d) := by
  rw [← Finset.sum_filter]
  refine (Finset.sum_bij (fun d _ => lane h d) (fun d _ => ?_) (fun a _ b _ e => ?_) (fun l hl => ?_) (fun _ _ => rfl)).symm
  · exact Finset.mem_filter.mpr ⟨Finset.mem_univ _, lane_mine h d⟩
  · have := congrArg Fin.val e
    exact Fin.ext (by change 64 * (h.val % 2) + a.val = 64 * (h.val % 2) + b.val at this; omega)
  · have hm : l.val / 64 = h.val % 2 := (Finset.mem_filter.mp hl).2
    exact ⟨⟨l.val % 64, by omega⟩, Finset.mem_univ _, Fin.ext (by show 64 * (h.val % 2) + l.val % 64 = l.val; omega)⟩

theorem lanesA_at (l : Fin 128) : lanesA (ix2 0 l) = if l.val < 64 then 1#1 else 0#1 := by
  unfold lanesA
  pointwise
  revert l
  decide +kernel
theorem lanesB_at (l : Fin 128) : lanesB (ix2 0 l) = if l.val < 64 then 0#1 else 1#1 := by
  unfold lanesB
  pointwise
  rw [lanesA_at]
  split <;> rfl
theorem lanesOf_at (h : Fin 8) (l : Fin 128) : lanesOf h (ix2 0 l) = if mine h l then 1#1 else 0#1 := by
  unfold lanesOf
  by_cases e : h.val % 2 = 0
  · rw [if_pos e, lanesA_at]
    exact if_congr (show l.val < 64 ↔ l.val / 64 = h.val % 2 by omega) rfl rfl
  · rw [if_neg e, lanesB_at]
    by_cases g : l.val < 64
    · rw [if_pos g, if_neg (show ¬mine h l by unfold mine; omega)]
    · rw [if_neg g, if_pos (show mine h l by unfold mine; omega)]

theorem only_at (h : Fin 8) (x : Vec Ideal S256x128 .bf16) (r : Fin 256) (l : Fin 128) :
    only (lanesOf h) x (ix2 r l) = (if mine h l then (x (ix2 r l) : EReal) else 0) := by
  unfold only
  pointwise
  rw [lanesOf_at]
  exact select_one _ _ _

theorem wide_at (x : Vec Ideal S1x256x128 .f32) (y : Fin 256 → ℝ) (hx : ∀ r l, x (ix3 0 r l) = ((y r : ℝ) : EReal)) (r s : Fin 256) : wide x (ix2 r s) = ((y r : ℝ) : EReal) := by
  unfold wide
  pointwise
  by_cases g : s.val < 128
  · rw [dif_pos g]; exact hx _ _
  · rw [dif_neg g]; exact hx _ _

/-! ## The masks -/

theorem sge_iff (r s : Fin 256) : IntOp.cmpi CmpIPredicate.sge (BitVec.ofNat 32 r.val) (BitVec.ofNat 32 s.val) = if s.val ≤ r.val then 1#1 else 0#1 := by
  have hr : (BitVec.ofNat 32 r.val).toInt = r.val := by
    rw [BitVec.toInt_eq_toNat_of_lt (by rw [BitVec.toNat_ofNat]; omega), BitVec.toNat_ofNat]; omega
  have hs : (BitVec.ofNat 32 s.val).toInt = s.val := by
    rw [BitVec.toInt_eq_toNat_of_lt (by rw [BitVec.toNat_ofNat]; omega), BitVec.toNat_ofNat]; omega
  unfold IntOp.cmpi
  simp only [BitVec.sle, hr, hs]
  by_cases g : s.val ≤ r.val
  · simp [g]
  · simp [g]

/-- What a mask keeps. -/
def Keeps (mask : FVec Ideal S256x256 .f32 → FVec Ideal S256x256 .f32) (keep : Fin 256 → Fin 256 → Prop) [∀ r s, Decidable (keep r s)] : Prop :=
  ∀ x r s, mask x (ix2 r s) = if keep r s then (x (ix2 r s) : EReal) else ⊥

theorem keeps_causal : Keeps causal fun r s => s.val ≤ r.val := fun x r s => by
  unfold causal
  pointwise
  rw [sge_iff]
  exact select_one _ _ _
theorem keeps_whole : Keeps whole fun r s => True := fun x r s => (if_pos trivial).symm

/-! ## A point's reads and arithmetic over the reals -/

structure Point where
  q : Fin 4 → Fin 256 → Fin 128 → ℝ
  k : Fin 4 → Fin 256 → Fin 128 → ℝ
  v : Fin 4 → Fin 256 → Fin 128 → ℝ
  o : Fin 4 → Fin 256 → Fin 128 → ℝ
  ls : Fin 8 → Fin 256 → ℝ
  dd : Fin 8 → Fin 256 → ℝ
  cc : Fin 8 → Fin 256 → ℝ
  cr : Fin 8 → Fin 256 → ℝ

/-- What a point reads is real. -/
structure Holds (O : Ops Ideal) (X : Point) : Prop where
  q : ∀ p r l, O.q p (ix2 r l) = ((X.q p r l : ℝ) : EReal)
  k : ∀ p r l, O.k p (ix2 r l) = ((X.k p r l : ℝ) : EReal)
  v : ∀ p r l, O.v p (ix2 r l) = ((X.v p r l : ℝ) : EReal)
  o : ∀ p r l, O.o p (ix2 r l) = ((X.o p r l : ℝ) : EReal)
  ls : ∀ h r l, O.ls h (ix3 0 r l) = ((X.ls h r : ℝ) : EReal)
  dd : ∀ h r l, O.dd h (ix3 0 r l) = ((X.dd h r : ℝ) : EReal)
  cc : ∀ h r l, O.cc h (ix3 0 r l) = ((X.cc h r : ℝ) : EReal)
  cr : ∀ h s, O.cr h (ix2 0 s) = ((X.cr h s : ℝ) : EReal)

section
variable (X : Point) (keep : Fin 256 → Fin 256 → Prop) [∀ r s, Decidable (keep r s)] (h : Fin 8)

def Point.logit (r s : Fin 256) : ℝ := (∑ d : Fin 64, X.q (pairOf h) r (lane h d) * X.k (pairOf h) s (lane h d)) + (X.cc h r - X.cr h s)
def Point.weight (r s : Fin 256) : ℝ := if keep r s then Real.exp (X.logit h r s - X.ls h r) else 0
def Point.grad (r s : Fin 256) : ℝ := X.weight keep h r s * ((∑ d : Fin 64, X.o (pairOf h) r (lane h d) * X.v (pairOf h) s (lane h d)) - X.dd h r)

variable {mask : FVec Ideal S256x256 .f32 → FVec Ideal S256x256 .f32} {O : Ops Ideal} {X} {keep} (hO : Holds O X) (hm : Keeps mask keep)
include hO

/-- A head's product over its own lanes. -/
theorem dot_real (x y : Vec Ideal S256x128 .bf16) (a b : Fin 256 → Fin 128 → ℝ) (hx : ∀ r l, x (ix2 r l) = ((a r l : ℝ) : EReal)) (hy : ∀ r l, y (ix2 r l) = ((b r l : ℝ) : EReal))
    (r s : Fin 256) : (∑ l, (only (lanesOf h) x (ix2 r l) : EReal) * y (ix2 s l) : EReal) = ((∑ d : Fin 64, a r (lane h d) * b s (lane h d) : ℝ) : EReal) := by
  rw [← Reals.sum_coe]
  refine Eq.trans ?_ (sum_mine h (fun l => ((a r l * b s l : ℝ) : EReal)))
  refine Finset.sum_congr rfl fun l _ => ?_
  rw [only_at]
  by_cases g : mine h l
  · rw [if_pos g, if_pos g, hx, hy, EReal.coe_mul]
  · rw [if_neg g, if_neg g, zero_mul]

include hm

theorem weights_real (r s : Fin 256) : weights mask O (lanesOf h) (pairOf h) h (ix2 r s) = ((X.weight keep h r s : ℝ) : EReal) := by
  unfold weights logits
  pointwise
  rw [hm, wide_at (O.ls h) (X.ls h) (hO.ls h)]
  unfold Point.weight
  by_cases g : keep r s
  · rw [if_pos g, if_pos g]
    pointwise
    rw [dot_real h hO _ _ _ _ (hO.q (pairOf h)) (hO.k (pairOf h)), wide_at (O.cc h) (X.cc h) (hO.cc h), hO.cr]
    rw [← EReal.coe_sub, ← EReal.coe_add, ← EReal.coe_sub]
    rfl
  · rw [if_neg g, if_neg g]
    rfl

theorem gradL_real (r s : Fin 256) : gradL mask O (lanesOf h) (pairOf h) h (ix2 r s) = ((X.grad keep h r s : ℝ) : EReal) := by
  unfold gradL
  pointwise
  rw [weights_real h hO hm, dot_real h hO _ _ _ _ (hO.o (pairOf h)) (hO.v (pairOf h)), wide_at (O.dd h) (X.dd h) (hO.dd h), ← EReal.coe_sub, ← EReal.coe_mul]
  rfl

theorem partV_mine (s : Fin 256) (d : Fin 64) : partV mask O (lanesOf h) (pairOf h) h (ix2 s (lane h d))
    = ((∑ r, X.weight keep h r s * X.o (pairOf h) r (lane h d) : ℝ) : EReal) := by
  unfold partV
  pointwise
  rw [← Reals.sum_coe]
  refine Finset.sum_congr rfl fun r _ => ?_
  rw [weights_real h hO hm, only_at, if_pos (lane_mine h d), hO.o, EReal.coe_mul]
theorem partK_mine (s : Fin 256) (d : Fin 64) : partK mask O (lanesOf h) (pairOf h) h (ix2 s (lane h d))
    = ((∑ r, X.grad keep h r s * X.q (pairOf h) r (lane h d) : ℝ) : EReal) := by
  unfold partK
  pointwise
  rw [← Reals.sum_coe]
  refine Finset.sum_congr rfl fun r _ => ?_
  rw [gradL_real h hO hm, only_at, if_pos (lane_mine h d), hO.q, EReal.coe_mul]
theorem partQ_mine (r : Fin 256) (d : Fin 64) : partQ mask O (lanesOf h) (pairOf h) h (ix2 r (lane h d))
    = ((∑ s, X.grad keep h r s * X.k (pairOf h) s (lane h d) : ℝ) : EReal) := by
  unfold partQ
  pointwise
  rw [← Reals.sum_coe]
  refine Finset.sum_congr rfl fun r _ => ?_
  rw [gradL_real h hO hm, only_at, if_pos (lane_mine h d), hO.k, EReal.coe_mul]
theorem addC_real (s : Fin 256) : addC mask O h (ix2 0 s) = ((-∑ r, X.grad keep h r s : ℝ) : EReal) := by
  unfold addC
  pointwise
  rw [Finset.sum_congr rfl fun r _ => gradL_real h hO hm r s, Reals.sum_coe, zero_sub, ← EReal.coe_neg]

end

section
variable (mask : FVec Ideal S256x256 .f32 → FVec Ideal S256x256 .f32) (O : Ops Ideal) (h : Fin 8) (p : Fin 4) (r : Fin 256) (l : Fin 128)

/-- In the other head's lanes a head adds nothing. -/
theorem partV_other (g : ¬mine h l) : partV mask O (lanesOf h) p h (ix2 r l) = (0 : EReal) := by
  unfold partV
  pointwise
  refine Finset.sum_eq_zero fun x _ => ?_
  rw [only_at, if_neg g, mul_zero]
theorem partK_other (g : ¬mine h l) : partK mask O (lanesOf h) p h (ix2 r l) = (0 : EReal) := by
  unfold partK
  pointwise
  refine Finset.sum_eq_zero fun x _ => ?_
  rw [only_at, if_neg g, mul_zero]
theorem partQ_other (g : ¬mine h l) : partQ mask O (lanesOf h) p h (ix2 r l) = (0 : EReal) := by
  unfold partQ
  pointwise
  refine Finset.sum_eq_zero fun x _ => ?_
  rw [only_at, if_neg g, mul_zero]

theorem lanes_head (p : Fin 4) : lanesA = lanesOf (headA p) ∧ lanesB = lanesOf (headB p) := by
  unfold lanesOf
  exact ⟨(if_pos (by show 2 * p.val % 2 = 0; omega)).symm, (if_neg (by show ¬(2 * p.val + 1) % 2 = 0; omega)).symm⟩

theorem head_of (h : Fin 8) : (h = headA (pairOf h) ∧ ∀ d, ¬mine (headB (pairOf h)) (lane h d)) ∨ (h = headB (pairOf h) ∧ ∀ d, ¬mine (headA (pairOf h)) (lane h d)) := by
  revert h
  decide +kernel

/-- A sum of the two heads' parts, of which the other head's is zero. -/
theorem two (f : IVec S1x128 1 → Fin 8 → EReal) (d : Fin 64) (hz : ∀ h', ¬mine h' (lane h d) → f (lanesOf h') h' = 0) :
    f lanesA (headA (pairOf h)) + f lanesB (headB (pairOf h)) = f (lanesOf h) h := by
  rw [(lanes_head (pairOf h)).1, (lanes_head (pairOf h)).2]
  rcases head_of h with ⟨e, z⟩ | ⟨e, z⟩
  · rw [hz _ (z d), add_zero, ← e]
  · rw [hz _ (z d), zero_add, ← e]

end

section
variable {X : Point} {keep : Fin 256 → Fin 256 → Prop} [∀ r s, Decidable (keep r s)] (h : Fin 8)
  {mask : FVec Ideal S256x256 .f32 → FVec Ideal S256x256 .f32} {O : Ops Ideal} (hO : Holds O X) (hm : Keeps mask keep)
include hO hm

theorem addV_real (s : Fin 256) (d : Fin 64) : addV mask O (pairOf h) (ix2 s (lane h d)) = ((∑ r, X.weight keep h r s * X.o (pairOf h) r (lane h d) : ℝ) : EReal) := by
  unfold addV
  pointwise
  exact (two h (fun w h' => partV mask O w (pairOf h) h' (ix2 s (lane h d))) d (fun h' g => partV_other mask O h' _ s _ g)).trans (partV_mine h hO hm s d)
theorem addK_real (s : Fin 256) (d : Fin 64) : addK mask O (pairOf h) (ix2 s (lane h d)) = ((∑ r, X.grad keep h r s * X.q (pairOf h) r (lane h d) : ℝ) : EReal) := by
  unfold addK
  pointwise
  exact (two h (fun w h' => partK mask O w (pairOf h) h' (ix2 s (lane h d))) d (fun h' g => partK_other mask O h' _ s _ g)).trans (partK_mine h hO hm s d)
theorem addQ_real (r : Fin 256) (d : Fin 64) : addQ mask O (pairOf h) (ix2 r (lane h d)) = (((∑ s, X.grad keep h r s * X.k (pairOf h) s (lane h d)) / 8 : ℝ) : EReal) := by
  unfold addQ
  pointwise
  refine (congrArg₂ (· * ·) ((two h (fun w h' => partQ mask O w (pairOf h) h' (ix2 r (lane h d))) d (fun h' g => partQ_other mask O h' _ r _ g)).trans (partQ_mine h hO hm r d)) lit_eighth).trans ?_
  show (_ : EReal) * _ = _
  rw [← EReal.coe_mul, mul_one_div]

end

end Cert.Attn

end
-- ==== Proof.AttnInputs.lean ====
/-
  What the attention backward kernel reads: the arrays the host prepares from the forward's inputs and the cotangent,
  and the blocks of them a grid point sees.
-/
module

public import proofs.«01_k».proof.Proof.AttnPoint
public import proofs.«01_k».proof.Proof.HostSums

@[expose] public section

set_option maxRecDepth 16384

noncomputable section

namespace Cert.Attn

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

abbrev aQ : FVec Ideal S1x8x2048x64 .f32 := m ((c : Thread nD τ).loc main_arg0)
abbrev aK : FVec Ideal S1x8x2048x64 .f32 := m ((c : Thread nD τ).loc main_arg1)
abbrev aV : FVec Ideal S1x8x2048x64 .f32 := m ((c : Thread nD τ).loc main_arg2)
abbrev aC : FVec Ideal S1x8x2048 .f32 := m ((c : Thread nD τ).loc main_arg3)
abbrev aO : FVec Ideal S1x8x2048x64 .f32 := m ((c : Thread nD τ).loc main_arg4)

/-- The buffers once the host has the logits and each row's largest. -/
def mid : Valuation τ sig (Elt Ideal) := StableHlo.after (hostOps0.take 25) (fun b => m (c, b))

theorem V_mid (b : Ref sig .tc) : V m c b = StableHlo.after (hostOps0.drop 25) (mid m c) b := by
  show StableHlo.after hostOps0 (fun b => m (c, b)) b = StableHlo.after (hostOps0.drop 25) (StableHlo.after (hostOps0.take 25) (fun b => m (c, b))) b
  rw [← StableHlo.after_append, List.take_append_drop]

/-- The masked logits, and each row's largest. -/
def hostL : FVec Ideal S1x8x2048x2048 .f32 := mid m c main_v18
def hostM : FVec Ideal S1x8x2048 .f32 := mid m c main_v19

theorem mid_arg0 : mid m c main_arg0 = aQ m c := by
  show StableHlo.after (hostOps0.take 25) (fun b => m (c, b)) main_arg0 = _
  unfold hostOps0
  simp only [List.take_succ_cons, List.take_zero]
  after_results
theorem mid_arg1 : mid m c main_arg1 = aK m c := by
  show StableHlo.after (hostOps0.take 25) (fun b => m (c, b)) main_arg1 = _
  unfold hostOps0
  simp only [List.take_succ_cons, List.take_zero]
  after_results
theorem mid_arg2 : mid m c main_arg2 = aV m c := by
  show StableHlo.after (hostOps0.take 25) (fun b => m (c, b)) main_arg2 = _
  unfold hostOps0
  simp only [List.take_succ_cons, List.take_zero]
  after_results
theorem mid_arg3 : mid m c main_arg3 = aC m c := by
  show StableHlo.after (hostOps0.take 25) (fun b => m (c, b)) main_arg3 = _
  unfold hostOps0
  simp only [List.take_succ_cons, List.take_zero]
  after_results
theorem mid_arg4 : mid m c main_arg4 = aO m c := by
  show StableHlo.after (hostOps0.take 25) (fun b => m (c, b)) main_arg4 = _
  unfold hostOps0
  simp only [List.take_succ_cons, List.take_zero]
  after_results

theorem hostL_at (h : Fin 8) (r s : Fin 2048) : hostL m c (ix4 0 h r s)
    = (Scalar.select (IntOp.cmpi CmpIPredicate.sge (BitVec.ofNat 32 r.val) (BitVec.ofNat 32 s.val))
      ((∑ d, aQ m c (ix4 0 h r d) * aK m c (ix4 0 h s d)) * Ideal.ofBits .f32 0x3E000000#32 + aC m c (ix3 0 h r) - aC m c (ix3 0 h s) : EReal)
      (Ideal.ofBits .f32 0xFF800000#32) : EReal) := by
  show StableHlo.after (hostOps0.take 25) (fun b => m (c, b)) main_v18 _ = _
  unfold hostOps0
  simp only [List.take_succ_cons, List.take_zero]
  after_results
  pointwise
  try rfl
theorem hostM_eq : hostM m c = Host.reduce FloatOps.maximumf (hostL m c) (constant S_ .f32 0xFF800000#32) reducesTo_S1x8x2048x2048_S1x8x2048_d3 h_S_ := by
  unfold hostM hostL mid
  unfold hostOps0
  simp only [List.take_succ_cons, List.take_zero]
  after_results
theorem hostM_at (h : Fin 8) (r : Fin 2048) : hostM m c (ix3 0 h r) = Finset.fold max (Ideal.ofBits .f32 0xFF800000#32) (fun s => (hostL m c (ix4 0 h r s) : EReal)) Finset.univ := by
  rw [hostM_eq]
  exact HostSums.max4_3 _ _ _ _ 0 h r

theorem V_v36 (r : Fin 2048) (k : Fin 512) : V m c main_v36 (ix2 r k) = (aQ m c (ix4 0 ⟨k.val / 64, by omega⟩ r ⟨k.val % 64, by omega⟩) * Ideal.ofBits .f32 0x3E000000#32 : EReal) := by
  rw [V_mid]
  unfold hostOps0
  simp only [List.drop_succ_cons, List.drop_zero]
  after_results
  rw [← mid_arg0]
  pointwise
theorem V_v40 (r : Fin 2048) (k : Fin 512) : V m c main_v40 (ix2 r k) = (aK m c (ix4 0 ⟨k.val / 64, by omega⟩ r ⟨k.val % 64, by omega⟩) : EReal) := by
  rw [V_mid]
  unfold hostOps0
  simp only [List.drop_succ_cons, List.drop_zero]
  after_results
  rw [← mid_arg1]
  pointwise
theorem V_v44 (r : Fin 2048) (k : Fin 512) : V m c main_v44 (ix2 r k) = (aV m c (ix4 0 ⟨k.val / 64, by omega⟩ r ⟨k.val % 64, by omega⟩) : EReal) := by
  rw [V_mid]
  unfold hostOps0
  simp only [List.drop_succ_cons, List.drop_zero]
  after_results
  rw [← mid_arg2]
  pointwise
theorem V_v48 (r : Fin 2048) (k : Fin 512) : V m c main_v48 (ix2 r k) = (aO m c (ix4 0 ⟨k.val / 64, by omega⟩ r ⟨k.val % 64, by omega⟩) : EReal) := by
  rw [V_mid]
  unfold hostOps0
  simp only [List.drop_succ_cons, List.drop_zero]
  after_results
  rw [← mid_arg4]
  pointwise
theorem V_v59 (h : Fin 8) (r : Fin 2048) (l : Fin 128) : V m c main_v59 (ix3 h r l) = (aC m c (ix3 0 h r) : EReal) := by
  rw [V_mid]
  unfold hostOps0
  simp only [List.drop_succ_cons, List.drop_zero]
  after_results
  rw [← mid_arg3]
  pointwise
theorem V_v60 (h : Fin 8) (r : Fin 2048) : V m c main_v60 (ix2 h r) = (aC m c (ix3 0 h r) : EReal) := by
  rw [V_mid]
  unfold hostOps0
  simp only [List.drop_succ_cons, List.drop_zero]
  after_results
  rw [← mid_arg3]
  pointwise
theorem after_v53 (g : Valuation τ sig (Elt Ideal)) (L : FVec Ideal S1x8x2048x2048 .f32) (M : FVec Ideal S1x8x2048 .f32) (hL : g main_v18 = L) (hM : g main_v19 = M)
    (h : Fin 8) (r : Fin 2048) (l : Fin 128) : StableHlo.after (hostOps0.drop 25) g main_v53 (ix3 h r l)
    = (M (ix3 0 h r) + Ideal.log (∑ s, Ideal.exp (L (ix4 0 h r s) - M (ix3 0 h r))) : EReal) := by
  unfold hostOps0
  simp only [List.drop_succ_cons, List.drop_zero]
  after_results
  rw [hL, hM]
  pointwise
theorem after_v56 (g : Valuation τ sig (Elt Ideal)) (L : FVec Ideal S1x8x2048x2048 .f32) (M : FVec Ideal S1x8x2048 .f32) (hL : g main_v18 = L) (hM : g main_v19 = M)
    (O V : FVec Ideal S1x8x2048x64 .f32) (hO : g main_arg4 = O) (hV : g main_arg2 = V)
    (h : Fin 8) (r : Fin 2048) (l : Fin 128) : StableHlo.after (hostOps0.drop 25) g main_v56 (ix3 h r l)
    = (∑ d, O (ix4 0 h r d) * ∑ s, Ideal.div (Ideal.exp (L (ix4 0 h r s) - M (ix3 0 h r)))
        (∑ s, Ideal.exp (L (ix4 0 h r s) - M (ix3 0 h r))) * V (ix4 0 h s d) : EReal) := by
  unfold hostOps0
  simp only [List.drop_succ_cons, List.drop_zero]
  after_results
  rw [hL, hM, hO, hV]
  pointwise
theorem V_v53 (h : Fin 8) (r : Fin 2048) (l : Fin 128) : V m c main_v53 (ix3 h r l)
    = (hostM m c (ix3 0 h r) + Ideal.log (∑ s, Ideal.exp (hostL m c (ix4 0 h r s) - hostM m c (ix3 0 h r))) : EReal) := by
  rw [V_mid]
  exact after_v53 (mid m c) _ _ rfl rfl h r l
theorem V_v56 (h : Fin 8) (r : Fin 2048) (l : Fin 128) : V m c main_v56 (ix3 h r l)
    = (∑ d, aO m c (ix4 0 h r d) * ∑ s, Ideal.div (Ideal.exp (hostL m c (ix4 0 h r s) - hostM m c (ix3 0 h r)))
        (∑ s, Ideal.exp (hostL m c (ix4 0 h r s) - hostM m c (ix3 0 h r))) * aV m c (ix4 0 h s d) : EReal) := by
  rw [V_mid]
  exact after_v56 (mid m c) _ _ rfl rfl _ _ (mid_arg4 m c) (mid_arg2 m c) h r l

/-! ## Over the reals -/

/-- The kernel's arguments are real. -/
structure Given (D : Data) : Prop where
  q : ∀ h r d, aQ m c (ix4 0 h r d) = ((D.Q h r d : ℝ) : EReal)
  k : ∀ h r d, aK m c (ix4 0 h r d) = ((D.K h r d : ℝ) : EReal)
  v : ∀ h r d, aV m c (ix4 0 h r d) = ((D.V h r d : ℝ) : EReal)
  o : ∀ h r d, aO m c (ix4 0 h r d) = ((D.O h r d : ℝ) : EReal)
  c : ∀ h r, aC m c (ix3 0 h r) = ((D.C h r : ℝ) : EReal)

section
variable {m c} {D : Data} (H : Given m c D)
include H

theorem hostL_real (h : Fin 8) (r s : Fin 2048) : hostL m c (ix4 0 h r s) = if s.val ≤ r.val then ((D.logit h r s : ℝ) : EReal) else ⊥ := by
  rw [hostL_at, sge_rows, select_one, lit_bot, lit_eighth, H.c, H.c]
  refine if_congr Iff.rfl ?_ rfl
  rw [Finset.sum_congr rfl fun d _ => by rw [H.q, H.k, ← EReal.coe_mul], Reals.sum_coe, ← EReal.coe_mul, ← EReal.coe_add, ← EReal.coe_sub, mul_one_div]
  rfl
theorem hostM_real (h : Fin 8) (r : Fin 2048) : ∃ M : ℝ, hostM m c (ix3 0 h r) = ((M : ℝ) : EReal) := by
  rw [hostM_at, lit_bot]
  refine fold_max_real _ (fun s => ?_) ⟨r, ?_⟩
  · rw [hostL_real H]
    split
    · exact EReal.coe_ne_top _
    · exact bot_ne_top
  · rw [hostL_real H, if_pos (le_refl _)]
    exact EReal.coe_ne_bot _
theorem lse_real (h : Fin 8) (r : Fin 2048) (l : Fin 128) : V m c main_v53 (ix3 h r l) = ((D.lse h r : ℝ) : EReal) := by
  obtain ⟨M, hM⟩ := hostM_real H h r
  rw [V_v53, hM, Finset.sum_congr rfl fun s _ => exp_masked D h r s M _ (hostL_real H h r s), Reals.sum_coe]
  refine (congrArg (fun x : EReal => ((M : ℝ) : EReal) + x) (log_real _ (D.total_pos h r M))).trans ?_
  rw [← EReal.coe_add, D.lse_level h r M]
theorem dd_real (h : Fin 8) (r : Fin 2048) (l : Fin 128) : V m c main_v56 (ix3 h r l) = ((D.dd h r : ℝ) : EReal) := by
  obtain ⟨M, hM⟩ := hostM_real H h r
  rw [V_v56, hM, Finset.sum_congr rfl fun s _ => exp_masked D h r s M _ (hostL_real H h r s), Reals.sum_coe]
  refine Eq.trans (b := (∑ d, ((D.O h r d * ∑ s, D.p h r s * D.V h s d : ℝ) : EReal) : EReal)) ?_ (Reals.sum_coe _ _)
  refine Finset.sum_congr rfl fun d _ => ?_
  rw [H.o, EReal.coe_mul, ← Reals.sum_coe Finset.univ fun s => D.p h r s * D.V h s d]
  refine congrArg (fun x : EReal => ((D.O h r d : ℝ) : EReal) * x) ?_
  refine Finset.sum_congr rfl fun s _ => ?_
  rw [exp_masked D h r s M _ (hostL_real H h r s), Reals.div_real _ _ (show (∑ s, D.ex h r s M) ≠ 0 from (D.total_pos h r M).ne'), H.v, ← EReal.coe_mul]
  exact congrArg (fun x : ℝ => ((x * D.V h s d : ℝ) : EReal)) (D.p_level h r s M)

end

/-! ## The blocks a point sees -/

theorem idx0 : ∀ t : Fin grid0.N, ((cfgM (F := Ideal)).win 0).index t 0 = (qi t).val ∧ ((cfgM (F := Ideal)).win 0).index t 1 = 0 := by decide +kernel
theorem iblk0 (t : Fin grid0.N) (r : Fin 256) (k : Fin 512) : iblk m c 0 t (ix2 r k) = V m c main_v36 (ix2 (row (qi t) r) k) := by
  unfold iblk
  rw [View.read_apply]
  show V m c main_v36 _ = V m c main_v36 _
  congr 1
  funext a
  apply Fin.ext
  match a with
  | ⟨0, _⟩ => show ((cfgM (F := Ideal)).win 0).index t 0 * 256 + 1 * r.val = 256 * (qi t).val + r.val; rw [(idx0 t).1]; omega
  | ⟨1, _⟩ => show ((cfgM (F := Ideal)).win 0).index t 1 * 512 + 1 * k.val = k.val; rw [(idx0 t).2]; omega

theorem idx1 : ∀ t : Fin grid0.N, ((cfgM (F := Ideal)).win 1).index t 0 = (ki t).val ∧ ((cfgM (F := Ideal)).win 1).index t 1 = 0 := by decide +kernel
theorem iblk1 (t : Fin grid0.N) (r : Fin 256) (k : Fin 512) : iblk m c 1 t (ix2 r k) = V m c main_v40 (ix2 (row (ki t) r) k) := by
  unfold iblk
  rw [View.read_apply]
  show V m c main_v40 _ = V m c main_v40 _
  congr 1
  funext a
  apply Fin.ext
  match a with
  | ⟨0, _⟩ => show ((cfgM (F := Ideal)).win 1).index t 0 * 256 + 1 * r.val = 256 * (ki t).val + r.val; rw [(idx1 t).1]; omega
  | ⟨1, _⟩ => show ((cfgM (F := Ideal)).win 1).index t 1 * 512 + 1 * k.val = k.val; rw [(idx1 t).2]; omega

theorem idx2 : ∀ t : Fin grid0.N, ((cfgM (F := Ideal)).win 2).index t 0 = (ki t).val ∧ ((cfgM (F := Ideal)).win 2).index t 1 = 0 := by decide +kernel
theorem iblk2 (t : Fin grid0.N) (r : Fin 256) (k : Fin 512) : iblk m c 2 t (ix2 r k) = V m c main_v44 (ix2 (row (ki t) r) k) := by
  unfold iblk
  rw [View.read_apply]
  show V m c main_v44 _ = V m c main_v44 _
  congr 1
  funext a
  apply Fin.ext
  match a with
  | ⟨0, _⟩ => show ((cfgM (F := Ideal)).win 2).index t 0 * 256 + 1 * r.val = 256 * (ki t).val + r.val; rw [(idx2 t).1]; omega
  | ⟨1, _⟩ => show ((cfgM (F := Ideal)).win 2).index t 1 * 512 + 1 * k.val = k.val; rw [(idx2 t).2]; omega

theorem idx3 : ∀ t : Fin grid0.N, ((cfgM (F := Ideal)).win 3).index t 0 = (qi t).val ∧ ((cfgM (F := Ideal)).win 3).index t 1 = 0 := by decide +kernel
theorem iblk3 (t : Fin grid0.N) (r : Fin 256) (k : Fin 512) : iblk m c 3 t (ix2 r k) = V m c main_v48 (ix2 (row (qi t) r) k) := by
  unfold iblk
  rw [View.read_apply]
  show V m c main_v48 _ = V m c main_v48 _
  congr 1
  funext a
  apply Fin.ext
  match a with
  | ⟨0, _⟩ => show ((cfgM (F := Ideal)).win 3).index t 0 * 256 + 1 * r.val = 256 * (qi t).val + r.val; rw [(idx3 t).1]; omega
  | ⟨1, _⟩ => show ((cfgM (F := Ideal)).win 3).index t 1 * 512 + 1 * k.val = k.val; rw [(idx3 t).2]; omega

theorem idx4 : ∀ t : Fin grid0.N, ((cfgM (F := Ideal)).win 4).index t 0 = 0 ∧ ((cfgM (F := Ideal)).win 4).index t 1 = (qi t).val ∧ ((cfgM (F := Ideal)).win 4).index t 2 = 0 := by decide +kernel
theorem iblk4 (t : Fin grid0.N) (h : Fin 8) (r : Fin 256) (k : Fin 128) : iblk m c 4 t (ix3 h r k) = V m c main_v53 (ix3 h (row (qi t) r) k) := by
  have e : ((((cfgM (F := Ideal)).win 4).blk t).view.emb (ix3 h r k) : S8x2048x128.Idx) = ix3 h (row (qi t) r) k := by
    funext a
    apply Fin.ext
    match a with
    | ⟨0, _⟩ => show ((cfgM (F := Ideal)).win 4).index t 0 * 8 + 1 * h.val = h.val; rw [(idx4 t).1]; omega
    | ⟨1, _⟩ => show ((cfgM (F := Ideal)).win 4).index t 1 * 256 + 1 * r.val = 256 * (qi t).val + r.val; rw [(idx4 t).2.1]; omega
    | ⟨2, _⟩ => show ((cfgM (F := Ideal)).win 4).index t 2 * 128 + 1 * k.val = k.val; rw [(idx4 t).2.2]; omega
  unfold iblk
  generalize V m c = G
  rw [View.read_apply, cast_eq]
  exact congrArg (G main_v53) e

theorem idx5 : ∀ t : Fin grid0.N, ((cfgM (F := Ideal)).win 5).index t 0 = 0 ∧ ((cfgM (F := Ideal)).win 5).index t 1 = (qi t).val ∧ ((cfgM (F := Ideal)).win 5).index t 2 = 0 := by decide +kernel
theorem iblk5 (t : Fin grid0.N) (h : Fin 8) (r : Fin 256) (k : Fin 128) : iblk m c 5 t (ix3 h r k) = V m c main_v56 (ix3 h (row (qi t) r) k) := by
  unfold iblk
  generalize V m c = G
  rw [View.read_apply]
  show G main_v56 _ = G main_v56 _
  congr 1
  funext a
  apply Fin.ext
  match a with
  | ⟨0, _⟩ => show ((cfgM (F := Ideal)).win 5).index t 0 * 8 + 1 * h.val = h.val; rw [(idx5 t).1]; omega
  | ⟨1, _⟩ => show ((cfgM (F := Ideal)).win 5).index t 1 * 256 + 1 * r.val = 256 * (qi t).val + r.val; rw [(idx5 t).2.1]; omega
  | ⟨2, _⟩ => show ((cfgM (F := Ideal)).win 5).index t 2 * 128 + 1 * k.val = k.val; rw [(idx5 t).2.2]; omega

theorem idx6 : ∀ t : Fin grid0.N, ((cfgM (F := Ideal)).win 6).index t 0 = 0 ∧ ((cfgM (F := Ideal)).win 6).index t 1 = (qi t).val ∧ ((cfgM (F := Ideal)).win 6).index t 2 = 0 := by decide +kernel
theorem iblk6 (t : Fin grid0.N) (h : Fin 8) (r : Fin 256) (k : Fin 128) : iblk m c 6 t (ix3 h r k) = V m c main_v59 (ix3 h (row (qi t) r) k) := by
  unfold iblk
  rw [View.read_apply]
  show V m c main_v59 _ = V m c main_v59 _
  congr 1
  funext a
  apply Fin.ext
  match a with
  | ⟨0, _⟩ => show ((cfgM (F := Ideal)).win 6).index t 0 * 8 + 1 * h.val = h.val; rw [(idx6 t).1]; omega
  | ⟨1, _⟩ => show ((cfgM (F := Ideal)).win 6).index t 1 * 256 + 1 * r.val = 256 * (qi t).val + r.val; rw [(idx6 t).2.1]; omega
  | ⟨2, _⟩ => show ((cfgM (F := Ideal)).win 6).index t 2 * 128 + 1 * k.val = k.val; rw [(idx6 t).2.2]; omega

theorem idx7 : ∀ t : Fin grid0.N, ((cfgM (F := Ideal)).win 7).index t 0 = 0 ∧ ((cfgM (F := Ideal)).win 7).index t 1 = (ki t).val := by decide +kernel
theorem iblk7 (t : Fin grid0.N) (h : Fin 8) (k : Fin 256) : iblk m c 7 t (ix2 h k) = V m c main_v60 (ix2 h (row (ki t) k)) := by
  unfold iblk
  rw [View.read_apply]
  show V m c main_v60 _ = V m c main_v60 _
  congr 1
  funext a
  apply Fin.ext
  match a with
  | ⟨0, _⟩ => show ((cfgM (F := Ideal)).win 7).index t 0 * 8 + 1 * h.val = h.val; rw [(idx7 t).1]; omega
  | ⟨1, _⟩ => show ((cfgM (F := Ideal)).win 7).index t 1 * 256 + 1 * k.val = 256 * (ki t).val + k.val; rw [(idx7 t).2]; omega

/-! ## A point's reads over the reals -/

/-- The head and the place in it of a pair's lane. -/
def hd (p : Fin 4) (l : Fin 128) : Fin 8 := ⟨2 * p.val + l.val / 64, by omega⟩
def dm (l : Fin 128) : Fin 64 := ⟨l.val % 64, by omega⟩

theorem hd_lane (h : Fin 8) (d : Fin 64) : hd (pairOf h) (lane h d) = h :=
  Fin.ext (by show 2 * (h.val / 2) + (64 * (h.val % 2) + d.val) / 64 = h.val; omega)
theorem dm_lane (h : Fin 8) (d : Fin 64) : dm (lane h d) = d :=
  Fin.ext (by show (64 * (h.val % 2) + d.val) % 64 = d.val; omega)
theorem col_hd (p : Fin 4) (l : Fin 128) (h1 : (col p l).val / 64 < 8) : (⟨(col p l).val / 64, h1⟩ : Fin 8) = hd p l :=
  Fin.ext (by show (128 * p.val + l.val) / 64 = 2 * p.val + l.val / 64; omega)
theorem col_dm (p : Fin 4) (l : Fin 128) (h1 : (col p l).val % 64 < 64) : (⟨(col p l).val % 64, h1⟩ : Fin 64) = dm l :=
  Fin.ext (by show (128 * p.val + l.val) % 64 = l.val % 64; omega)

/-- What point `t` reads. -/
def pointOf (D : Data) (t : Fin grid0.N) : Point where
  q p r l := D.Q (hd p l) (row (qi t) r) (dm l) / 8
  k p r l := D.K (hd p l) (row (ki t) r) (dm l)
  v p r l := D.V (hd p l) (row (ki t) r) (dm l)
  o p r l := D.O (hd p l) (row (qi t) r) (dm l)
  ls h r := D.lse h (row (qi t) r)
  dd h r := D.dd h (row (qi t) r)
  cc h r := D.C h (row (qi t) r)
  cr h s := D.C h (row (ki t) s)

theorem loadP (M : Memref sig .tc .vmem S8x256x128 .f32) (h : Fin 8) (r : Fin 256) (l : Fin 128) (X : M.view.ty.Contents (Elt Ideal)) :
    View.readAt (Elt Ideal) M.view (rectP h).toLoadRect X (ix3 0 r l) = M.view.read (Elt Ideal) X (ix3 h r l) := by
  rw [View.readAt_apply]
  congr 1
  funext a
  apply Fin.ext
  match a with
  | ⟨0, _⟩ => show h.val + 1 * 0 = h.val; omega
  | ⟨1, _⟩ => show 0 + 1 * r.val = r.val; omega
  | ⟨2, _⟩ => show 0 + 1 * l.val = l.val; omega

theorem loadB (M : Memref sig .tc .vmem S256x512 .bf16) (p : Fin 4) (r : Fin 256) (l : Fin 128) (X : M.view.ty.Contents (Elt Ideal)) :
    View.readAt (Elt Ideal) M.view (rectL p).toLoadRect X (ix2 r l) = M.view.read (Elt Ideal) X (ix2 r (col p l)) := by
  rw [View.readAt_apply]
  congr 1
  funext a
  apply Fin.ext
  match a with
  | ⟨0, _⟩ => show 0 + 1 * r.val = r.val; omega
  | ⟨1, _⟩ => show 128 * p.val + 1 * l.val = 128 * p.val + l.val; omega

section
variable {m c} {D : Data} (H : Given m c D)
include H

theorem holds (t : Fin grid0.N) : Holds (opsAt m c t) (pointOf D t) where
  q p r l := by
    refine (loadB (stg0 Ideal t) p r l _).trans ?_
    rw [(hstg0 Ideal t).read_unread, iblk0, V_v36, H.q, lit_eighth, ← EReal.coe_mul, mul_one_div, col_hd, col_dm]
    rfl
  k p r l := by
    refine (loadB (stg1 Ideal t) p r l _).trans ?_
    rw [(hstg1 Ideal t).read_unread, iblk1, V_v40, H.k, col_hd, col_dm]
    rfl
  v p r l := by
    refine (loadB (stg2 Ideal t) p r l _).trans ?_
    rw [(hstg2 Ideal t).read_unread, iblk2, V_v44, H.v, col_hd, col_dm]
    rfl
  o p r l := by
    refine (loadB (stg3 Ideal t) p r l _).trans ?_
    rw [(hstg3 Ideal t).read_unread, iblk3, V_v48, H.o, col_hd, col_dm]
    rfl
  ls h r l := by
    refine (loadP (stg4 Ideal t) h r l _).trans ?_
    rw [(hstg4 Ideal t).read_unread, iblk4, lse_real H]
    rfl
  dd h r l := by
    refine (loadP (stg5 Ideal t) h r l _).trans ?_
    rw [(hstg5 Ideal t).read_unread, iblk5, dd_real H]
    rfl
  cc h r l := by
    refine (loadP (stg6 Ideal t) h r l _).trans ?_
    rw [(hstg6 Ideal t).read_unread, iblk6, V_v59, H.c]
    rfl
  cr h s := by
    refine (loadR (stg7 Ideal t) h s _).trans ?_
    rw [(hstg7 Ideal t).read_unread, iblk7, V_v60, H.c]
    rfl

end

end Cert.Attn

end
-- ==== Proof.AttnData.lean ====
/-
  The attention backward kernel's proof data: what its buffers hold before and after each grid point.
-/
module

public import proofs.«01_k».proof.Proof.AttnSteps

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's own buffers at anything: the three running sums, and the generator's register. -/
theorem own_eq (c : Dev nD) : (Pipeline.ΦA spec0 c : sProp 𝕄)
    = iprop(iprop((∃ d, owns (c : Thread nD τ) sumK fullShare d) ∗ (∃ d, owns (c : Thread nD τ) sumV fullShare d) ∗ (∃ d, owns (c : Thread nD τ) sumC fullShare d)) ∗ (∃ r, prngReg c r)) := by
  unfold Pipeline.ΦA; rw [scopedRest0_eq]; simp only [sumK, sumV, sumC, owns_whole]; try rfl

/-- Before the first point the running sums hold anything; afterwards what the points so far have added up. -/
def Inv (c : Dev nD) : (n : ℕ) → n ≤ grid0.N → sProp 𝕄
  | 0, _ => iprop(Pipeline.ΦA spec0 c ∗ Pipeline.ΦT pre0 (tbl (F := F)) c)
  | n + 1, hn => iprop(iprop(iprop(owns (c : Thread nD τ) sumK fullShare (done m c n hn).sk ∗ owns (c : Thread nD τ) sumV fullShare (done m c n hn).sv ∗ owns (c : Thread nD τ) sumC fullShare (done m c n hn).sc) ∗ (∃ r, prngReg c r)) ∗ Pipeline.ΦT pre0 (tbl (F := F)) c)

theorem Inv_zero (c : Dev nD) (n : ℕ) (h : n ≤ grid0.N) (hz : n = 0) : Inv m c n h = iprop(Pipeline.ΦA spec0 c ∗ Pipeline.ΦT pre0 (tbl (F := F)) c) := by
  subst hz; rfl
theorem Inv_succ (c : Dev nD) (n : ℕ) (hn : n < grid0.N) :
    Inv m c (n + 1) hn = iprop(iprop(iprop(owns (c : Thread nD τ) sumK fullShare (done m c n hn).sk ∗ owns (c : Thread nD τ) sumV fullShare (done m c n hn).sv ∗ owns (c : Thread nD τ) sumC fullShare (done m c n hn).sc) ∗ (∃ r, prngReg c r)) ∗ Pipeline.ΦT pre0 (tbl (F := F)) c) := rfl
theorem Inv_pos (c : Dev nD) (n : ℕ) (h : n ≤ grid0.N) (hz : n ≠ 0) :
    Inv m c n h = iprop(iprop(iprop(owns (c : Thread nD τ) sumK fullShare (done m c (n - 1) (by omega)).sk ∗ owns (c : Thread nD τ) sumV fullShare (done m c (n - 1) (by omega)).sv ∗ owns (c : Thread nD τ) sumC fullShare (done m c (n - 1) (by omega)).sc) ∗ (∃ r, prngReg c r)) ∗ Pipeline.ΦT pre0 (tbl (F := F)) c) := by
  cases n with
  | zero => exact absurd rfl hz
  | succ n => rfl

/-- The pipeline's proof data: the arrays as found, each input's buffer at its block, each output's at what the kernel
    has computed after the point. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (done m c t.val t.isLt).dq
    | ⟨9, _⟩ => (done m c t.val t.isLt).dk
    | ⟨10, _⟩ => (done m c t.val t.isLt).dv
    | ⟨11, _⟩ => (done m c t.val t.isLt).dc
  Φ t := Inv m c t.val (Nat.le_of_lt_succ t.isLt)
  q _ := fullShare
  owed _ := 0

theorem A_eq (c : Dev nD) (w : Fin (cfgM (F := F)).W) : (dats m 0 c).A w = V m c (Pipeline.arrRef spec0 w) := by
  dsimp only [dats]
theorem Inv_castSucc (c : Dev nD) (t : Fin (cfgM (F := F)).N) :
    (dats m 0 c).Φ t.castSucc = Inv m c t.val (Nat.le_of_lt t.isLt) := by
  dsimp only [dats]; exact Pipeline.Dat.Φ_castSucc (Inv m c) t

theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = iblk m c 2 t := by dsimp only [dats]; try rfl
theorem after_3 (c : Dev nD) (t : Fin (cfgM (F := F)).N) : (dats m 0 c).after 3 t = iblk m c 3 t := by dsimp only [dats]; try rfl
theorem after_4 (c : Dev nD) (t : Fin (cfgM (F := F)).N) : (dats m 0 c).after 4 t = iblk m c 4 t := by dsimp only [dats]; try rfl
theorem after_5 (c : Dev nD) (t : Fin (cfgM (F := F)).N) : (dats m 0 c).after 5 t = iblk m c 5 t := by dsimp only [dats]; try rfl
theorem after_6 (c : Dev nD) (t : Fin (cfgM (F := F)).N) : (dats m 0 c).after 6 t = iblk m c 6 t := by dsimp only [dats]; try rfl
theorem after_7 (c : Dev nD) (t : Fin (cfgM (F := F)).N) : (dats m 0 c).after 7 t = iblk m c 7 t := by dsimp only [dats]; try rfl
theorem after_8 (c : Dev nD) (t : Fin (cfgM (F := F)).N) : (dats m 0 c).after 8 t = (done m c t.val t.isLt).dq := by dsimp only [dats]; try rfl
theorem after_9 (c : Dev nD) (t : Fin (cfgM (F := F)).N) : (dats m 0 c).after 9 t = (done m c t.val t.isLt).dk := by dsimp only [dats]; try rfl
theorem after_10 (c : Dev nD) (t : Fin (cfgM (F := F)).N) : (dats m 0 c).after 10 t = (done m c t.val t.isLt).dv := by dsimp only [dats]; try rfl
theorem after_11 (c : Dev nD) (t : Fin (cfgM (F := F)).N) : (dats m 0 c).after 11 t = (done m c t.val t.isLt).dc := by dsimp only [dats]; try rfl
theorem before_0 (c : Dev nD) (t : Fin (cfgM (F := F)).N) (d) : (dats m 0 c).before 0 t d = iblk m c 0 t :=
  before_of_0 m (dats m 0 c) (A_eq m c 0) (after_0 m c) t d
theorem before_1 (c : Dev nD) (t : Fin (cfgM (F := F)).N) (d) : (dats m 0 c).before 1 t d = iblk m c 1 t :=
  before_of_1 m (dats m 0 c) (A_eq m c 1) (after_1 m c) t d
theorem before_2 (c : Dev nD) (t : Fin (cfgM (F := F)).N) (d) : (dats m 0 c).before 2 t d = iblk m c 2 t :=
  before_of_2 m (dats m 0 c) (A_eq m c 2) (after_2 m c) t d
theorem before_3 (c : Dev nD) (t : Fin (cfgM (F := F)).N) (d) : (dats m 0 c).before 3 t d = iblk m c 3 t :=
  before_of_3 m (dats m 0 c) (A_eq m c 3) (after_3 m c) t d
theorem before_4 (c : Dev nD) (t : Fin (cfgM (F := F)).N) (d) : (dats m 0 c).before 4 t d = iblk m c 4 t :=
  before_of_4 m (dats m 0 c) (A_eq m c 4) (after_4 m c) t d
theorem before_5 (c : Dev nD) (t : Fin (cfgM (F := F)).N) (d) : (dats m 0 c).before 5 t d = iblk m c 5 t :=
  before_of_5 m (dats m 0 c) (A_eq m c 5) (after_5 m c) t d
theorem before_6 (c : Dev nD) (t : Fin (cfgM (F := F)).N) (d) : (dats m 0 c).before 6 t d = iblk m c 6 t :=
  before_of_6 m (dats m 0 c) (A_eq m c 6) (after_6 m c) t d
theorem before_7 (c : Dev nD) (t : Fin (cfgM (F := F)).N) (d) : (dats m 0 c).before 7 t d = iblk m c 7 t :=
  before_of_7 m (dats m 0 c) (A_eq m c 7) (after_7 m c) t d
/-- The query gradient's buffer carries over what the point before left. -/
theorem before_8 (c : Dev nD) (t : Fin (cfgM (F := F)).N) (hz : ¬t.val = 0) (d) :
    (dats m 0 c).before 8 t d = (done m c (t.val - 1) (Nat.lt_of_le_of_lt (Nat.sub_le _ _) t.isLt)).dq := by
  have hN : t.val < 36 := lt_of_lt_of_eq t.isLt (show (cfgM (F := F)).N = 36 from N_0)
  rw [Dat.before_out_kept _ 8 rfl t (by omega) (noFlush_8 _ (by show t.val - 1 ≠ 35; omega)) live_8 (fun _ _ => rfl)]
  dsimp only [dats]
  try rfl

/-! ## The body at a point -/

def bodyAt (t : Fin (cfgM (F := F)).N) :=
  cc0_fox_attn_bwd (F := F) (grid0.coords t) (Memref.whole main_c) (Memref.isWhole_whole _) (Memref.whole main_c_0) (Memref.isWhole_whole _) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (stg8 F t) (hstg8 F t) (stg9 F t) (hstg9 F t) (stg10 F t) (hstg10 F t) (stg11 F t) (hstg11 F t) (Memref.whole cc0_scratch0) (Memref.isWhole_whole _) (Memref.whole cc0_scratch1) (Memref.isWhole_whole _) (Memref.whole cc0_scratch2) (Memref.isWhole_whole _)

def bodyPre (c : Dev nD) (t : Fin (cfgM (F := F)).N) : sProp 𝕄 :=
  iprop((dats m 0 c).Φ t.castSucc ∗ (dats m 0 c).owesAt () t.castSucc
    ∗ (∃ d, owns (c : Thread nD τ) (stg0 F t) fullShare ((dats m 0 c).before 0 t d))
    ∗ (∃ d, owns (c : Thread nD τ) (stg1 F t) fullShare ((dats m 0 c).before 1 t d))
    ∗ (∃ d, owns (c : Thread nD τ) (stg2 F t) fullShare ((dats m 0 c).before 2 t d))
    ∗ (∃ d, owns (c : Thread nD τ) (stg3 F t) fullShare ((dats m 0 c).before 3 t d))
    ∗ (∃ d, owns (c : Thread nD τ) (stg4 F t) fullShare ((dats m 0 c).before 4 t d))
    ∗ (∃ d, owns (c : Thread nD τ) (stg5 F t) fullShare ((dats m 0 c).before 5 t d))
    ∗ (∃ d, owns (c : Thread nD τ) (stg6 F t) fullShare ((dats m 0 c).before 6 t d))
    ∗ (∃ d, owns (c : Thread nD τ) (stg7 F t) fullShare ((dats m 0 c).before 7 t d))
    ∗ (∃ d, owns (c : Thread nD τ) (stg8 F t) fullShare ((dats m 0 c).before 8 t d))
    ∗ (∃ d, owns (c : Thread nD τ) (stg9 F t) fullShare ((dats m 0 c).before 9 t d))
    ∗ (∃ d, owns (c : Thread nD τ) (stg10 F t) fullShare ((dats m 0 c).before 10 t d))
    ∗ (∃ d, owns (c : Thread nD τ) (stg11 F t) fullShare ((dats m 0 c).before 11 t d)))
def bodyPost (c : Dev nD) (t : Fin (cfgM (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves_0 (c : Dev nD) (t : Fin (cfgM (F := F)).N) : (dats m 0 c).leavesExact 0 t = owns (c : Thread nD τ) (stg0 F t) fullShare (iblk m c 0 t) := by
  unfold Dat.leavesExact
  rw [show (cfgM (F := F)).idle 0 ((cfgM (F := F)).grid.coords t) = false from rfl, after_0 m c t]; rfl
theorem leaves_1 (c : Dev nD) (t : Fin (cfgM (F := F)).N) : (dats m 0 c).leavesExact 1 t = owns (c : Thread nD τ) (stg1 F t) fullShare (iblk m c 1 t) := by
  unfold Dat.leavesExact
  rw [show (cfgM (F := F)).idle 1 ((cfgM (F := F)).grid.coords t) = false from rfl, after_1 m c t]; rfl
theorem leaves_2 (c : Dev nD) (t : Fin (cfgM (F := F)).N) : (dats m 0 c).leavesExact 2 t = owns (c : Thread nD τ) (stg2 F t) fullShare (iblk m c 2 t) := by
  unfold Dat.leavesExact
  rw [show (cfgM (F := F)).idle 2 ((cfgM (F := F)).grid.coords t) = false from rfl, after_2 m c t]; rfl
theorem leaves_3 (c : Dev nD) (t : Fin (cfgM (F := F)).N) : (dats m 0 c).leavesExact 3 t = owns (c : Thread nD τ) (stg3 F t) fullShare (iblk m c 3 t) := by
  unfold Dat.leavesExact
  rw [show (cfgM (F := F)).idle 3 ((cfgM (F := F)).grid.coords t) = false from rfl, after_3 m c t]; rfl
theorem leaves_4 (c : Dev nD) (t : Fin (cfgM (F := F)).N) : (dats m 0 c).leavesExact 4 t = owns (c : Thread nD τ) (stg4 F t) fullShare (iblk m c 4 t) := by
  unfold Dat.leavesExact
  rw [show (cfgM (F := F)).idle 4 ((cfgM (F := F)).grid.coords t) = false from rfl, after_4 m c t]; rfl
theorem leaves_5 (c : Dev nD) (t : Fin (cfgM (F := F)).N) : (dats m 0 c).leavesExact 5 t = owns (c : Thread nD τ) (stg5 F t) fullShare (iblk m c 5 t) := by
  unfold Dat.leavesExact
  rw [show (cfgM (F := F)).idle 5 ((cfgM (F := F)).grid.coords t) = false from rfl, after_5 m c t]; rfl
theorem leaves_6 (c : Dev nD) (t : Fin (cfgM (F := F)).N) : (dats m 0 c).leavesExact 6 t = owns (c : Thread nD τ) (stg6 F t) fullShare (iblk m c 6 t) := by
  unfold Dat.leavesExact
  rw [show (cfgM (F := F)).idle 6 ((cfgM (F := F)).grid.coords t) = false from rfl, after_6 m c t]; rfl
theorem leaves_7 (c : Dev nD) (t : Fin (cfgM (F := F)).N) : (dats m 0 c).leavesExact 7 t = owns (c : Thread nD τ) (stg7 F t) fullShare (iblk m c 7 t) := by
  unfold Dat.leavesExact
  rw [show (cfgM (F := F)).idle 7 ((cfgM (F := F)).grid.coords t) = false from rfl, after_7 m c t]; rfl
theorem leaves_8 (c : Dev nD) (t : Fin (cfgM (F := F)).N) : (dats m 0 c).leavesExact 8 t = owns (c : Thread nD τ) (stg8 F t) fullShare ((done m c t.val t.isLt).dq) := by
  unfold Dat.leavesExact
  rw [show (cfgM (F := F)).idle 8 ((cfgM (F := F)).grid.coords t) = false from live_8 _, after_8 m c t]; rfl
theorem leaves_9 (c : Dev nD) (t : Fin (cfgM (F := F)).N) (hl : Last t) : (dats m 0 c).leavesExact 9 t = owns (c : Thread nD τ) (stg9 F t) fullShare ((done m c t.val t.isLt).dk) := by
  unfold Dat.leavesExact
  rw [show (cfgM (F := F)).idle 9 ((cfgM (F := F)).grid.coords t) = false from live_of_last t 9 (by decide) hl, after_9 m c t]; rfl
theorem leaves_10 (c : Dev nD) (t : Fin (cfgM (F := F)).N) (hl : Last t) : (dats m 0 c).leavesExact 10 t = owns (c : Thread nD τ) (stg10 F t) fullShare ((done m c t.val t.isLt).dv) := by
  unfold Dat.leavesExact
  rw [show (cfgM (F := F)).idle 10 ((cfgM (F := F)).grid.coords t) = false from live_of_last t 10 (by decide) hl, after_10 m c t]; rfl
theorem leaves_11 (c : Dev nD) (t : Fin (cfgM (F := F)).N) (hl : Last t) : (dats m 0 c).leavesExact 11 t = owns (c : Thread nD τ) (stg11 F t) fullShare ((done m c t.val t.isLt).dc) := by
  unfold Dat.leavesExact
  rw [show (cfgM (F := F)).idle 11 ((cfgM (F := F)).grid.coords t) = false from live_of_last t 11 (by decide) hl, after_11 m c t]; rfl
theorem rests_9 (c : Dev nD) (t : Fin (cfgM (F := F)).N) (hl : ¬Last t) : (dats m 0 c).leavesExact 9 t = iprop(∃ d, owns (c : Thread nD τ) (stg9 F t) fullShare ((dats m 0 c).before 9 t d)) :=
  Dat.leavesExact_idle (dats m 0 c) 9 t (idle_of_not_last t 9 (by decide) hl) (noFlush_9 t hl)
theorem rests_10 (c : Dev nD) (t : Fin (cfgM (F := F)).N) (hl : ¬Last t) : (dats m 0 c).leavesExact 10 t = iprop(∃ d, owns (c : Thread nD τ) (stg10 F t) fullShare ((dats m 0 c).before 10 t d)) :=
  Dat.leavesExact_idle (dats m 0 c) 10 t (idle_of_not_last t 10 (by decide) hl) (noFlush_10 t hl)
theorem rests_11 (c : Dev nD) (t : Fin (cfgM (F := F)).N) (hl : ¬Last t) : (dats m 0 c).leavesExact 11 t = iprop(∃ d, owns (c : Thread nD τ) (stg11 F t) fullShare ((dats m 0 c).before 11 t d)) :=
  Dat.leavesExact_idle (dats m 0 c) 11 t (idle_of_not_last t 11 (by decide) hl) (noFlush_11 t hl)

end Cert.Attn

end
-- ==== Proof.AttnFrame.lean ====
/-
  The attention backward kernel runs to its end from any memory, and leaves its arguments as they were.
-/
module

public import proofs.«01_k».proof.Proof.AttnData

@[expose] public section

set_option maxRecDepth 16384

noncomputable section

namespace Cert.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_first (c : Dev nD) (t : Fin (cfgM (F := F)).N) (hz : t.val = 0) (hd : Diag t) (hl : ¬Last t) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_zero m c _ _ hz, tables_eq, own_eq]
  rw [leaves_0 m c t, leaves_1 m c t, leaves_2 m c t, leaves_3 m c t, leaves_4 m c t, leaves_5 m c t, leaves_6 m c t, leaves_7 m c t, leaves_8 m c t, rests_9 m c t hl, rests_10 m c t hl, rests_11 m c t hl]
  rw [done_first m c t hz hd hl]
  unfold afterFirst; dsimp only
  iintro ⟨⟨⟨⟨HK, HV, HC⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atFirst m c t hz hd hl).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HK]; · iexact HK
  isplitl [HV]; · iexact HV
  isplitl [HC]; · iexact HC
  isplitl [HT0]; · iexact HT0
  isplitl [HT1]; · iexact HT1
  iintro ⟨H0, H1, H2, H3, H4, H5, H6, H7, ⟨%e8, H8⟩, H9, H10, H11, ⟨%eK, HK⟩, ⟨%eV, HV⟩, ⟨%eC, HC⟩, HT0, HT1⟩
  isplitl [HK HV HC Hg HT0 HT1]
  · isplitl [HK HV HC Hg]
    · isplitl [HK HV HC]
      · isplitl [HK]
        · unfold owns; iexists _; isplitr
          swap; · iexact HK
          ipureintro; exact View.read_writes_of_cover _ _ _ _ _ (coverFirst_15 m c t hz hd hl)
        isplitl [HV]
        · unfold owns; iexists _; isplitr
          swap; · iexact HV
          ipureintro; exact View.read_writes_of_cover _ _ _ _ _ (coverFirst_16 m c t hz hd hl)
        unfold owns; iexists _; isplitr
        swap; · iexact HC
        ipureintro; exact View.read_writes_of_cover _ _ _ _ _ (coverFirst_17 m c t hz hd hl)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverFirst_11 m c t hz hd hl)
  isplitl [H9]
  · iexists _; iexact H9
  isplitl [H10]
  · iexists _; iexact H10
  iexists _; iexact H11

set_option maxHeartbeats 4800000 in
theorem sound_diag (c : Dev nD) (t : Fin (cfgM (F := F)).N) (hz : ¬t.val = 0) (hd : Diag t) (hl : ¬Last t) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, leaves_7 m c t, leaves_8 m c t, rests_9 m c t hl, rests_10 m c t hl, rests_11 m c t hl]
  rw [done_pos m c t hz, step_diag m c t hz hd hl]
  simp only [before_8 m c t hz]
  unfold afterDiag; dsimp only
  iintro ⟨⟨⟨⟨HK, HV, HC⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atDiag m c t hz hd hl (done m c (t.val - 1) (Nat.lt_of_le_of_lt (Nat.sub_le _ _) t.isLt))).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HK]; · iexists _; iexact HK
  isplitl [HV]; · iexists _; iexact HV
  isplitl [HC]; · iexists _; iexact HC
  isplitl [HT0]; · iexact HT0
  isplitl [HT1]; · iexact HT1
  iintro ⟨H0, H1, H2, H3, H4, H5, H6, H7, H8, H9, H10, H11, ⟨%eK, HK⟩, ⟨%eV, HV⟩, ⟨%eC, HC⟩, HT0, HT1⟩
  isplitl [HK HV HC Hg HT0 HT1]
  · isplitl [HK HV HC Hg]
    · isplitl [HK HV HC]
      · isplitl [HK]
        · unfold owns; iexists _; isplitr
          swap; · iexact HK
          ipureintro; exact View.read_writes_of_cover _ _ _ _ _ (coverDiag_15 m c t hz hd hl _)
        isplitl [HV]
        · unfold owns; iexists _; isplitr
          swap; · iexact HV
          ipureintro; exact View.read_writes_of_cover _ _ _ _ _ (coverDiag_16 m c t hz hd hl _)
        unfold owns; iexists _; isplitr
        swap; · iexact HC
        ipureintro; exact View.read_writes_of_cover _ _ _ _ _ (coverDiag_17 m c t hz hd hl _)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · iexists _; iexact H9
  isplitl [H10]
  · iexists _; iexact H10
  iexists _; iexact H11

set_option maxHeartbeats 4800000 in
theorem sound_final (c : Dev nD) (t : Fin (cfgM (F := F)).N) (hz : ¬t.val = 0) (hd : Diag t) (hl : Last t) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, leaves_7 m c t, leaves_8 m c t, leaves_9 m c t hl, leaves_10 m c t hl, leaves_11 m c t hl]
  rw [done_pos m c t hz, step_final m c t hz hd hl]
  simp only [before_8 m c t hz]
  unfold afterFinal; dsimp only
  iintro ⟨⟨⟨⟨HK, HV, HC⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atFinal m c t hz hd hl (done m c (t.val - 1) (Nat.lt_of_le_of_lt (Nat.sub_le _ _) t.isLt))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HK]; · iexists _; iexact HK
  isplitl [HV]; · iexists _; iexact HV
  isplitl [HC]; · iexists _; iexact HC
  isplitl [HT0]; · iexact HT0
  isplitl [HT1]; · iexact HT1
  iintro ⟨H0, H1, H2, H3, H4, H5, H6, H7, H8, ⟨%e9, H9⟩, ⟨%e10, H10⟩, ⟨%e11, H11⟩, ⟨%eK, HK⟩, ⟨%eV, HV⟩, ⟨%eC, HC⟩, HT0, HT1⟩
  isplitl [HK HV HC Hg HT0 HT1]
  · isplitl [HK HV HC Hg]
    · isplitl [HK HV HC]
      · isplitl [HK]
        · unfold owns; iexists _; isplitr
          swap; · iexact HK
          ipureintro; exact View.read_writes_of_cover _ _ _ _ _ (coverFinal_15 m c t hz hd hl _)
        isplitl [HV]
        · unfold owns; iexists _; isplitr
          swap; · iexact HV
          ipureintro; exact View.read_writes_of_cover _ _ _ _ _ (coverFinal_16 m c t hz hd hl _)
        unfold owns; iexists _; isplitr
        swap; · iexact HC
        ipureintro; exact View.read_writes_of_cover _ _ _ _ _ (coverFinal_17 m c t hz hd hl _)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · unfold owns; iexists _; isplitr
    swap; · iexact H9
    ipureintro; exact View.read_writes_of_cover _ _ _ _ _ (coverFinal_12 m c t hz hd hl _)
  isplitl [H10]
  · unfold owns; iexists _; isplitr
    swap; · iexact H10
    ipureintro; exact View.read_writes_of_cover _ _ _ _ _ (coverFinal_13 m c t hz hd hl _)
  unfold owns; iexists _; isplitr
  swap; · iexact H11
  ipureintro; exact View.read_writes_of_cover _ _ _ _ _ (coverFinal_14 m c t hz hd hl _)

set_option maxHeartbeats 4800000 in
theorem sound_below (c : Dev nD) (t : Fin (cfgM (F := F)).N) (hz : ¬t.val = 0) (hd : ¬Diag t) (hl : ¬Last t) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, leaves_7 m c t, leaves_8 m c t, rests_9 m c t hl, rests_10 m c t hl, rests_11 m c t hl]
  rw [done_pos m c t hz, step_below m c t hz hd hl]
  simp only [before_8 m c t hz]
  unfold afterBelow; dsimp only
  iintro ⟨⟨⟨⟨HK, HV, HC⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atBelow m c t hz hd hl (done m c (t.val - 1) (Nat.lt_of_le_of_lt (Nat.sub_le _ _) t.isLt))).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HK]; · iexact HK
  isplitl [HV]; · iexact HV
  isplitl [HC]; · iexact HC
  isplitl [HT0]; · iexact HT0
  isplitl [HT1]; · iexact HT1
  iintro ⟨H0, H1, H2, H3, H4, H5, H6, H7, H8, H9, H10, H11, HK, HV, HC, HT0, HT1⟩
  isplitl [HK HV HC Hg HT0 HT1]
  · isplitl [HK HV HC Hg]
    · isplitl [HK HV HC]
      · isplitl [HK]
        · unfold owns; iexists _; isplitr
          swap; · iexact HK
          ipureintro; rfl
        isplitl [HV]
        · unfold owns; iexists _; isplitr
          swap; · iexact HV
          ipureintro; rfl
        unfold owns; iexists _; isplitr
        swap; · iexact HC
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · iexists _; iexact H9
  isplitl [H10]
  · iexists _; iexact H10
  iexists _; iexact H11

set_option maxHeartbeats 4800000 in
theorem sound_last (c : Dev nD) (t : Fin (cfgM (F := F)).N) (hz : ¬t.val = 0) (hd : ¬Diag t) (hl : Last t) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, leaves_7 m c t, leaves_8 m c t, leaves_9 m c t hl, leaves_10 m c t hl, leaves_11 m c t hl]
  rw [done_pos m c t hz, step_last m c t hz hd hl]
  simp only [before_8 m c t hz]
  unfold afterLast; dsimp only
  iintro ⟨⟨⟨⟨HK, HV, HC⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atLast m c t hz hd hl (done m c (t.val - 1) (Nat.lt_of_le_of_lt (Nat.sub_le _ _) t.isLt))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HK]; · iexact HK
  isplitl [HV]; · iexact HV
  isplitl [HC]; · iexact HC
  isplitl [HT0]; · iexact HT0
  isplitl [HT1]; · iexact HT1
  iintro ⟨H0, H1, H2, H3, H4, H5, H6, H7, H8, ⟨%e9, H9⟩, ⟨%e10, H10⟩, ⟨%e11, H11⟩, HK, HV, HC, HT0, HT1⟩
  isplitl [HK HV HC Hg HT0 HT1]
  · isplitl [HK HV HC Hg]
    · isplitl [HK HV HC]
      · isplitl [HK]
        · unfold owns; iexists _; isplitr
          swap; · iexact HK
          ipureintro; rfl
        isplitl [HV]
        · unfold owns; iexists _; isplitr
          swap; · iexact HV
          ipureintro; rfl
        unfold owns; iexists _; isplitr
        swap; · iexact HC
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · unfold owns; iexists _; isplitr
    swap; · iexact H9
    ipureintro; exact View.read_writes_of_cover _ _ _ _ _ (coverLast_12 m c t hz hd hl _)
  isplitl [H10]
  · unfold owns; iexists _; isplitr
    swap; · iexact H10
    ipureintro; exact View.read_writes_of_cover _ _ _ _ _ (coverLast_13 m c t hz hd hl _)
  unfold owns; iexists _; isplitr
  swap; · iexact H11
  ipureintro; exact View.read_writes_of_cover _ _ _ _ _ (coverLast_14 m c t hz hd hl _)

theorem sound (c : Dev nD) (t : Fin (cfgM (F := F)).N) :
    bodyPre m c t ⊢ wp frame (wpE (defs₀ (F := F)) Variants.none c none) Set.univ (bodyAt (F := F) t) (fun _ => bodyPost m c t) := by
  by_cases hz : t.val = 0
  · exact sound_first m c t hz (diag_first t hz) (not_last_first t hz)
  · by_cases hd : Diag t
    · by_cases hl : Last t
      · exact sound_final m c t hz hd hl
      · exact sound_diag m c t hz hd hl
    · by_cases hl : Last t
      · exact sound_last m c t hz hd hl
      · exact sound_below m c t hz hd hl

/-! ## The run -/

theorem body_row (t : Fin (cfgM (F := F)).N) :
    defs₀ (F := F) .tc (cfgM (F := F)).body ((cfgM (F := F)).bodyArgs t ((cfgM (F := F)).slots t)) = bodyAt t := by
  unfold defs₀ bodyAt; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : iprop(Pipeline.ΦA spec0 c ∗ Pipeline.ΦT pre0 (tbl (F := F)) c) ⊢ (dats m 0 c).Φ 0 := by
  rw [show (dats m 0 c).Φ 0 = Inv m c 0 (Nat.zero_le _) from rfl, Inv_zero m c 0 _ rfl]

theorem hout (c : Dev nD) : (dats m 0 c).Φ (Fin.last (cfgM (F := F)).N) ⊢ Pipeline.ΦA spec0 c := by
  rw [show (dats m 0 c).Φ (Fin.last (cfgM (F := F)).N) = Inv m c grid0.N (Nat.le_refl _) from rfl, Inv_pos m c _ _ (by rw [N_0]; decide), own_eq]
  iintro ⟨⟨⟨HK, HV, HC⟩, Hg⟩, -⟩
  isplitl [HK HV HC]
  · isplitl [HK]
    · iexists _; iexact HK
    isplitl [HV]
    · iexists _; iexact HV
    iexists _; iexact HC
  iexact Hg

set_option backward.isDefEq.respectTransparency.types false in
/-- Every run of the program ends with the kernel's arrays at what the proof data computes, the other buffers as the host's
    lines left them, and the counters at zero. -/
theorem run_main : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP_track (Q' := _) pcfgs (fun _ => adm) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_pre m)
    (hin := hin m) (hout := hout m)

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 rest_arg0).trans (V_main_arg0 m c),
      ((h.1 c).2 main_arg1 rest_arg1).trans (V_main_arg1 m c),
      ((h.1 c).2 main_arg2 rest_arg2).trans (V_main_arg2 m c),
      ((h.1 c).2 main_arg3 rest_arg3).trans (V_main_arg3 m c),
      ((h.1 c).2 main_arg4 rest_arg4).trans (V_main_arg4 m c)⟩, h.2⟩) (run_main m ρ)

end Cert.Attn

end
-- ==== Proof.AttnArrays.lean ====
/-
  Where the attention backward kernel's results lie once every point has run: the query gradient as the last point leaves
  it, and each key tile's gradients as the last point of its column leaves them.
-/
module

public import proofs.«01_k».proof.Proof.AttnSums
public import proofs.«01_k».proof.Proof.AttnFrame

@[expose] public section

set_option maxRecDepth 16384

noncomputable section

namespace Cert.Attn

open Cert.Kernel3Ideal Cert.Kernel3Ideal.Gen Idealize.ShloMosaic Idealize.ShloMosaic.TcCoe Idealize.SL.Sem Idealize.ShloMosaic.Tactic

/-- The point that finishes a key tile's column. -/
def lastOf (j : Fin 8) : Fin grid0.N := ⟨8 * j.val + 7 - j.val * (j.val + 1) / 2, by revert j; decide +kernel⟩

theorem last_of : ∀ j : Fin 8, Last (lastOf j) ∧ ki (lastOf j) = j := by decide +kernel
theorem end_lt : 35 < grid0.N := by rw [N_0]; decide

section
variable (m : (ℓ : Loc nD τ sig) → Buf (Elt Ideal) ℓ) (c : Dev nD)

def tileOf (r : Fin 2048) : Fin 8 := ⟨r.val / 256, by omega⟩
def inTile (r : Fin 2048) : Fin 256 := ⟨r.val % 256, by omega⟩

def arr8 : Buf (Elt Ideal) ((c : Thread nD τ).loc main_v61_0) := (done m c 35 end_lt).dq
def arr9 : Buf (Elt Ideal) ((c : Thread nD τ).loc main_v61_1) :=
  fun i : S2048x512.Idx => (done m c (lastOf (tileOf (i 0))).val (lastOf (tileOf (i 0))).isLt).dk (ix2 (inTile (i 0)) (i 1))
def arr10 : Buf (Elt Ideal) ((c : Thread nD τ).loc main_v61_2) :=
  fun i : S2048x512.Idx => (done m c (lastOf (tileOf (i 0))).val (lastOf (tileOf (i 0))).isLt).dv (ix2 (inTile (i 0)) (i 1))
def arr11 : Buf (Elt Ideal) ((c : Thread nD τ).loc main_v61_3) :=
  fun i : S8x2048.Idx => (done m c (lastOf (tileOf (i 1))).val (lastOf (tileOf (i 1))).isLt).dc (ix2 (i 0) (inTile (i 1)))

theorem tile_row (j : Fin 8) (r : Fin 256) : tileOf (row j r) = j := Fin.ext (by show (256 * j.val + r.val) / 256 = j.val; omega)
theorem in_row (j : Fin 8) (r : Fin 256) : inTile (row j r) = r := Fin.ext (by show (256 * j.val + r.val) % 256 = r.val; omega)

theorem idx8 : ∀ t : Fin grid0.N, ((cfgM (F := Ideal)).win 8).index t 0 = 0 ∧ ((cfgM (F := Ideal)).win 8).index t 1 = 0 := by decide +kernel
theorem idx9 : ∀ t : Fin grid0.N, ((cfgM (F := Ideal)).win 9).index t 0 = (ki t).val ∧ ((cfgM (F := Ideal)).win 9).index t 1 = 0 := by decide +kernel
theorem idx10 : ∀ t : Fin grid0.N, ((cfgM (F := Ideal)).win 10).index t 0 = (ki t).val ∧ ((cfgM (F := Ideal)).win 10).index t 1 = 0 := by decide +kernel
theorem idx11 : ∀ t : Fin grid0.N, ((cfgM (F := Ideal)).win 11).index t 0 = 0 ∧ ((cfgM (F := Ideal)).win 11).index t 1 = (ki t).val := by decide +kernel

theorem only_last : ∀ t : Fin grid0.N, Last t → lastOf (ki t) = t := by decide +kernel
theorem flush_8 : Pipeline.Window.flushOf grid0 true cc0_transform_8 ⟨35, end_lt⟩ = true := by decide +kernel
theorem flush_9 : ∀ j : Fin 8, Pipeline.Window.flushOf grid0 true (fun i => (![(kTile i).toNat, 0] : Fin 2 → Nat)) (lastOf j) = true := by decide +kernel
theorem flush_11 : ∀ j : Fin 8, Pipeline.Window.flushOf grid0 true (fun i => (![0, (kTile i).toNat] : Fin 2 → Nat)) (lastOf j) = true := by decide +kernel

theorem at8 (t : Fin grid0.N) (f : FVec Ideal S2048x512 .f32) (e : (dats m 0 c).after 8 t = f) :
    (dats m 0 c).flushed 8 t = (((cfgM (F := Ideal)).win 8).blk t).view.read (Elt Ideal) (f : Buf (Elt Ideal) ((c : Thread nD τ).loc main_v61_0)) := by
  show ((cfgM (F := Ideal)).win 8).cut (grid0.coords t) ((dats m 0 c).after 8 t) = _
  rw [e]
  funext j
  rw [View.read_apply]
  obtain ⟨r, l, rfl⟩ : ∃ (r : Fin 2048) (l : Fin 512), j = ix2 r l := ⟨j 0, j 1, (ix2_eta (n0 := 2048) (n1 := 512) j).symm⟩
  show f (ix2 r l) = f _
  congr 1
  funext a
  apply Fin.ext
  match a with
  | ⟨0, _⟩ => show r.val = ((cfgM (F := Ideal)).win 8).index t 0 * 2048 + 1 * r.val; rw [(idx8 t).1]; omega
  | ⟨1, _⟩ => show l.val = ((cfgM (F := Ideal)).win 8).index t 1 * 512 + 1 * l.val; rw [(idx8 t).2]; omega

theorem final8 : (dats m 0 c).arrAt 8 (cfgM (F := Ideal)).N = arr8 m c :=
  (dats m 0 c).arrAt_eq_of_cover 8 (arr8 m c) (fun t ht => by
    by_cases e : t.val = 35
    · obtain rfl : t = ⟨35, end_lt⟩ := Fin.ext e
      exact at8 m c ⟨35, end_lt⟩ (done m c 35 end_lt).dq (after_8 m c ⟨35, end_lt⟩)
    · exact absurd ((noFlush_8 (F := Ideal) t e).symm.trans ht) Bool.false_ne_true) fun i => by
    have h0 : (i 0 : Nat) < 2048 := (i 0).isLt
    have h1 : (i 1 : Nat) < 512 := (i 1).isLt
    refine ⟨⟨35, end_lt⟩, flush_8, ?_⟩
    show i ∈ ((View.whole main_v61_0).slice (((cfgM (F := Ideal)).win 8).rect ⟨35, end_lt⟩)).set
    rw [View.set_slice_whole, Rect.mem_set_unit]
    have hi := idx8 ⟨35, end_lt⟩
    intro a
    match a with
    | ⟨0, _⟩ =>
      show ((cfgM (F := Ideal)).win 8).index ⟨35, end_lt⟩ 0 * 2048 ≤ (i 0 : Nat) ∧ (i 0 : Nat) < ((cfgM (F := Ideal)).win 8).index ⟨35, end_lt⟩ 0 * 2048 + 2048
      rw [hi.1]; omega
    | ⟨1, _⟩ =>
      show ((cfgM (F := Ideal)).win 8).index ⟨35, end_lt⟩ 1 * 512 ≤ (i 1 : Nat) ∧ (i 1 : Nat) < ((cfgM (F := Ideal)).win 8).index ⟨35, end_lt⟩ 1 * 512 + 512
      rw [hi.2]; omega

theorem final9 : (dats m 0 c).arrAt 9 (cfgM (F := Ideal)).N = arr9 m c :=
  (dats m 0 c).arrAt_eq_of_cover 9 (arr9 m c) (fun t ht => by
    by_cases hl : Last t
    · show ((cfgM (F := Ideal)).win 9).cut (grid0.coords t) ((dats m 0 c).after 9 t) = _
      rw [after_9]
      funext j
      rw [View.read_apply]
      obtain ⟨r, l, rfl⟩ : ∃ (r : Fin 256) (l : Fin 512), j = ix2 r l := ⟨j 0, j 1, (ix2_eta (n0 := 256) (n1 := 512) j).symm⟩
      have e : (((cfgM (F := Ideal)).win 9).blk t).view.emb (ix2 r l) = (ix2 (row (ki t) r) l : S2048x512.Idx) := by
        funext a
        apply Fin.ext
        match a with
        | ⟨0, _⟩ => show ((cfgM (F := Ideal)).win 9).index t 0 * 256 + 1 * r.val = 256 * (ki t).val + r.val; rw [(idx9 t).1]; omega
        | ⟨1, _⟩ => show ((cfgM (F := Ideal)).win 9).index t 1 * 512 + 1 * l.val = l.val; rw [(idx9 t).2]; omega
      refine Eq.trans ?_ (congrArg (arr9 m c) e).symm
      show (done m c t.val t.isLt).dk (ix2 r l) = (done m c (lastOf (tileOf (row (ki t) r))).val (lastOf (tileOf (row (ki t) r))).isLt).dk (ix2 (inTile (row (ki t) r)) l)
      rw [tile_row, in_row]
      have := only_last t hl
      simp only [this]
    · exact absurd ((noFlush_9 (F := Ideal) t hl).symm.trans ht) Bool.false_ne_true) fun i => by
    have h0 : (i 0 : Nat) < 2048 := (i 0).isLt
    have h1 : (i 1 : Nat) < 512 := (i 1).isLt
    have k := (last_of (tileOf (i 0))).2
    refine ⟨lastOf (tileOf (i 0)), flush_9 _, ?_⟩
    show i ∈ ((View.whole main_v61_1).slice (((cfgM (F := Ideal)).win 9).rect (lastOf (tileOf (i 0))))).set
    rw [View.set_slice_whole, Rect.mem_set_unit]
    have hi := idx9 (lastOf (tileOf (i 0)))
    intro a
    match a with
    | ⟨0, _⟩ =>
      show ((cfgM (F := Ideal)).win 9).index (lastOf (tileOf (i 0))) 0 * 256 ≤ (i 0 : Nat) ∧ (i 0 : Nat) < ((cfgM (F := Ideal)).win 9).index (lastOf (tileOf (i 0))) 0 * 256 + 256
      rw [hi.1, k]
      show (i 0 : Nat) / 256 * 256 ≤ _ ∧ _ < (i 0 : Nat) / 256 * 256 + 256
      omega
    | ⟨1, _⟩ =>
      show ((cfgM (F := Ideal)).win 9).index (lastOf (tileOf (i 0))) 1 * 512 ≤ (i 1 : Nat) ∧ (i 1 : Nat) < ((cfgM (F := Ideal)).win 9).index (lastOf (tileOf (i 0))) 1 * 512 + 512
      rw [hi.2]; omega

theorem final10 : (dats m 0 c).arrAt 10 (cfgM (F := Ideal)).N = arr10 m c :=
  (dats m 0 c).arrAt_eq_of_cover 10 (arr10 m c) (fun t ht => by
    by_cases hl : Last t
    · show ((cfgM (F := Ideal)).win 10).cut (grid0.coords t) ((dats m 0 c).after 10 t) = _
      rw [after_10]
      funext j
      rw [View.read_apply]
      obtain ⟨r, l, rfl⟩ : ∃ (r : Fin 256) (l : Fin 512), j = ix2 r l := ⟨j 0, j 1, (ix2_eta (n0 := 256) (n1 := 512) j).symm⟩
      have e : (((cfgM (F := Ideal)).win 10).blk t).view.emb (ix2 r l) = (ix2 (row (ki t) r) l : S2048x512.Idx) := by
        funext a
        apply Fin.ext
        match a with
        | ⟨0, _⟩ => show ((cfgM (F := Ideal)).win 10).index t 0 * 256 + 1 * r.val = 256 * (ki t).val + r.val; rw [(idx10 t).1]; omega
        | ⟨1, _⟩ => show ((cfgM (F := Ideal)).win 10).index t 1 * 512 + 1 * l.val = l.val; rw [(idx10 t).2]; omega
      refine Eq.trans ?_ (congrArg (arr10 m c) e).symm
      show (done m c t.val t.isLt).dv (ix2 r l) = (done m c (lastOf (tileOf (row (ki t) r))).val (lastOf (tileOf (row (ki t) r))).isLt).dv (ix2 (inTile (row (ki t) r)) l)
      rw [tile_row, in_row]
      have := only_last t hl
      simp only [this]
    · exact absurd ((noFlush_10 (F := Ideal) t hl).symm.trans ht) Bool.false_ne_true) fun i => by
    have h0 : (i 0 : Nat) < 2048 := (i 0).isLt
    have h1 : (i 1 : Nat) < 512 := (i 1).isLt
    have k := (last_of (tileOf (i 0))).2
    refine ⟨lastOf (tileOf (i 0)), flush_9 _, ?_⟩
    show i ∈ ((View.whole main_v61_2).slice (((cfgM (F := Ideal)).win 10).rect (lastOf (tileOf (i 0))))).set
    rw [View.set_slice_whole, Rect.mem_set_unit]
    have hi := idx10 (lastOf (tileOf (i 0)))
    intro a
    match a with
    | ⟨0, _⟩ =>
      show ((cfgM (F := Ideal)).win 10).index (lastOf (tileOf (i 0))) 0 * 256 ≤ (i 0 : Nat) ∧ (i 0 : Nat) < ((cfgM (F := Ideal)).win 10).index (lastOf (tileOf (i 0))) 0 * 256 + 256
      rw [hi.1, k]
      show (i 0 : Nat) / 256 * 256 ≤ _ ∧ _ < (i 0 : Nat) / 256 * 256 + 256
      omega
    | ⟨1, _⟩ =>
      show ((cfgM (F := Ideal)).win 10).index (lastOf (tileOf (i 0))) 1 * 512 ≤ (i 1 : Nat) ∧ (i 1 : Nat) < ((cfgM (F := Ideal)).win 10).index (lastOf (tileOf (i 0))) 1 * 512 + 512
      rw [hi.2]; omega

theorem final11 : (dats m 0 c).arrAt 11 (cfgM (F := Ideal)).N = arr11 m c :=
  (dats m 0 c).arrAt_eq_of_cover 11 (arr11 m c) (fun t ht => by
    by_cases hl : Last t
    · show ((cfgM (F := Ideal)).win 11).cut (grid0.coords t) ((dats m 0 c).after 11 t) = _
      rw [after_11]
      funext j
      rw [View.read_apply]
      obtain ⟨h, r, rfl⟩ : ∃ (h : Fin 8) (r : Fin 256), j = ix2 h r := ⟨j 0, j 1, (ix2_eta (n0 := 8) (n1 := 256) j).symm⟩
      have e : (((cfgM (F := Ideal)).win 11).blk t).view.emb (ix2 h r) = (ix2 h (row (ki t) r) : S8x2048.Idx) := by
        funext a
        apply Fin.ext
        match a with
        | ⟨0, _⟩ => show ((cfgM (F := Ideal)).win 11).index t 0 * 8 + 1 * h.val = h.val; rw [(idx11 t).1]; omega
        | ⟨1, _⟩ => show ((cfgM (F := Ideal)).win 11).index t 1 * 256 + 1 * r.val = 256 * (ki t).val + r.val; rw [(idx11 t).2]; omega
      refine Eq.trans ?_ (congrArg (arr11 m c) e).symm
      show (done m c t.val t.isLt).dc (ix2 h r) = (done m c (lastOf (tileOf (row (ki t) r))).val (lastOf (tileOf (row (ki t) r))).isLt).dc (ix2 h (inTile (row (ki t) r)))
      rw [tile_row, in_row]
      have := only_last t hl
      simp only [this]
    · exact absurd ((noFlush_11 (F := Ideal) t hl).symm.trans ht) Bool.false_ne_true) fun i => by
    have h0 : (i 0 : Nat) < 8 := (i 0).isLt
    have h1 : (i 1 : Nat) < 2048 := (i 1).isLt
    have k := (last_of (tileOf (i 1))).2
    refine ⟨lastOf (tileOf (i 1)), flush_11 _, ?_⟩
    show i ∈ ((View.whole main_v61_3).slice (((cfgM (F := Ideal)).win 11).rect (lastOf (tileOf (i 1))))).set
    rw [View.set_slice_whole, Rect.mem_set_unit]
    have hi := idx11 (lastOf (tileOf (i 1)))
    intro a
    match a with
    | ⟨0, _⟩ =>
      show ((cfgM (F := Ideal)).win 11).index (lastOf (tileOf (i 1))) 0 * 8 ≤ (i 0 : Nat) ∧ (i 0 : Nat) < ((cfgM (F := Ideal)).win 11).index (lastOf (tileOf (i 1))) 0 * 8 + 8
      rw [hi.1]; omega
    | ⟨1, _⟩ =>
      show ((cfgM (F := Ideal)).win 11).index (lastOf (tileOf (i 1))) 1 * 256 ≤ (i 1 : Nat) ∧ (i 1 : Nat) < ((cfgM (F := Ideal)).win 11).index (lastOf (tileOf (i 1))) 1 * 256 + 256
      rw [hi.2, k]
      show (i 1 : Nat) / 256 * 256 ≤ _ ∧ _ < (i 1 : Nat) / 256 * 256 + 256
      omega

variable (ρ : Dev nD → PrngReg)

/-- The kernel's run: its four results, its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v61_0) = arr8 m c
      ∧ r.2.mem ((c.tc : Thread nD τ).loc main_v61_1) = arr9 m c
      ∧ r.2.mem ((c.tc : Thread nD τ).loc main_v61_2) = arr10 m c
      ∧ r.2.mem ((c.tc : Thread nD τ).loc main_v61_3) = arr11 m c) :=
  (θ_run _ _ _).mono (fun r h c => ⟨((h.1 c).1 8).trans (final8 m c), ((h.1 c).1 9).trans (final9 m c),
    ((h.1 c).1 10).trans (final10 m c), ((h.1 c).1 11).trans (final11 m c)⟩) (run_main m ρ)

end

end Cert.Attn

end
-- ==== Proof.AttnResults.lean ====
/-
  What the attention backward kernel leaves in its four results: the gradients of the queries, the keys, the values and
  the running sums.
-/
module

public import proofs.«01_k».proof.Proof.AttnInputs
public import proofs.«01_k».proof.Proof.AttnArrays

@[expose] public section

set_option maxRecDepth 16384

noncomputable section

namespace Cert.Attn

open Cert.Kernel3Ideal Cert.Kernel3Ideal.Gen Idealize.ShloMosaic Idealize.ShloMosaic.TcCoe Idealize.SL.Sem Idealize.ShloMosaic.Tactic

/-! ## A sum over the rows, tile by tile -/

theorem rows_split (f : Fin 2048 → ℝ) : ∑ r, f r = ∑ i : Fin 8, ∑ r : Fin 256, f (row i r) := by
  rw [← Fintype.sum_prod_type' (f := fun i r => f (row i r))]
  refine (Fintype.sum_equiv (finProdFinEquiv (m := 8) (n := 256)) _ _ fun x => ?_).symm
  congr 1
  apply Fin.ext
  show 256 * x.1.val + x.2.val = x.2.val + 256 * x.1.val
  omega

theorem row_le (i j : Fin 8) (r s : Fin 256) (h : j < i) : (row j s).val ≤ (row i r).val := by
  show 256 * j.val + s.val ≤ 256 * i.val + r.val
  have : j.val < i.val := h
  omega
theorem row_diag (i : Fin 8) (r s : Fin 256) : (row i s).val ≤ (row i r).val ↔ s.val ≤ r.val := by
  show 256 * i.val + s.val ≤ 256 * i.val + r.val ↔ _
  omega
theorem row_gt (i j : Fin 8) (r s : Fin 256) (h : ¬j ≤ i) : ¬(row j s).val ≤ (row i r).val := by
  show ¬256 * j.val + s.val ≤ 256 * i.val + r.val
  have : ¬j.val ≤ i.val := h
  omega

section
variable (D : Data) (h : Fin 8)

theorem p_above (r s : Fin 2048) (g : ¬s.val ≤ r.val) : D.p h r s = 0 := if_neg g
theorem grad_above (r s : Fin 2048) (g : ¬s.val ≤ r.val) : D.grad h r s = 0 := by
  unfold Data.grad
  rw [p_above D h r s g, zero_mul]

/-- Which entries of a point's tile the mask keeps. -/
def keepAt (t : Fin grid0.N) (r s : Fin 256) : Prop := Diag t → s.val ≤ r.val
instance (t : Fin grid0.N) (r s : Fin 256) : Decidable (keepAt t r s) := inferInstanceAs (Decidable (_ → _))

theorem keeps_at (t : Fin grid0.N) : Keeps (maskAt t) (keepAt t) := fun x r s => by
  unfold maskAt keepAt
  by_cases d : Diag t
  · rw [if_pos d, keeps_causal]
    exact if_congr ⟨fun g _ => g, fun g => g d⟩ rfl rfl
  · rw [if_neg d, keeps_whole]
    simp only [d, false_imp_iff]

theorem keep_iff (t : Fin grid0.N) (r s : Fin 256) : keepAt t r s ↔ (row (ki t) s).val ≤ (row (qi t) r).val := by
  unfold keepAt
  by_cases d : Diag t
  · have w : (row (ki t) s).val ≤ (row (qi t) r).val ↔ s.val ≤ r.val := by rw [(diag_iff t).mp d, row_diag]
    exact ⟨fun g => w.mpr (g d), fun g _ => w.mp g⟩
  · simp only [d, false_imp_iff, true_iff]
    exact row_le _ _ _ _ (lt_of_le_of_ne (tiles_le t) fun e => d ((diag_iff t).mpr e.symm))

/-! ## A point's part over the reals -/

theorem point_weight (t : Fin grid0.N) (r s : Fin 256) : (pointOf D t).weight (keepAt t) h r s = D.p h (row (qi t) r) (row (ki t) s) := by
  unfold Point.weight Data.p
  refine if_congr (keep_iff t r s) ?_ rfl
  congr 2
  unfold Point.logit Data.logit pointOf
  dsimp only
  simp only [hd_lane, dm_lane]
  rw [Finset.sum_div, add_sub_assoc]
  congr 1
  exact Finset.sum_congr rfl fun d _ => div_mul_eq_mul_div _ _ _

theorem point_grad (t : Fin grid0.N) (r s : Fin 256) : (pointOf D t).grad (keepAt t) h r s = D.grad h (row (qi t) r) (row (ki t) s) := by
  unfold Point.grad Data.grad
  rw [point_weight]
  unfold Data.dot pointOf
  dsimp only
  simp only [hd_lane, dm_lane]

end

/-- The real numbers a tile of weights or of logits' gradients gives a result. -/
def tileSum (f : Fin 256 → ℝ) : EReal := ((∑ r, f r : ℝ) : EReal)

section
variable {m : (ℓ : Loc nD τ sig) → Buf (Elt Ideal) ℓ} {c : Dev nD} {D : Data} (H : Given m c D) (h : Fin 8)
include H

theorem tQ_real (t : Fin grid0.N) (r : Fin 256) (d : Fin 64) : tQ m c t (pairOf h) (ix2 r (lane h d))
    = tileSum fun s => D.grad h (row (qi t) r) (row (ki t) s) * D.K h (row (ki t) s) d / 8 := by
  refine (addQ_real h (holds H t) (keeps_at t) r d).trans ?_
  unfold tileSum
  rw [← Finset.sum_div]
  congr 2
  refine Finset.sum_congr rfl fun s _ => ?_
  rw [point_grad]
  unfold pointOf
  dsimp only
  rw [hd_lane, dm_lane]
theorem tK_real (t : Fin grid0.N) (s : Fin 256) (d : Fin 64) : tK m c t (pairOf h) (ix2 s (lane h d))
    = tileSum fun r => D.grad h (row (qi t) r) (row (ki t) s) * D.Q h (row (qi t) r) d / 8 := by
  refine (addK_real h (holds H t) (keeps_at t) s d).trans ?_
  unfold tileSum
  congr 1
  refine Finset.sum_congr rfl fun r _ => ?_
  beta_reduce
  rw [point_grad, mul_div_assoc]
  unfold pointOf
  dsimp only
  rw [hd_lane, dm_lane]
theorem tV_real (t : Fin grid0.N) (s : Fin 256) (d : Fin 64) : tV m c t (pairOf h) (ix2 s (lane h d))
    = tileSum fun r => D.p h (row (qi t) r) (row (ki t) s) * D.O h (row (qi t) r) d := by
  refine (addV_real h (holds H t) (keeps_at t) s d).trans ?_
  unfold tileSum
  congr 1
  refine Finset.sum_congr rfl fun r _ => ?_
  rw [point_weight]
  unfold pointOf
  dsimp only
  rw [hd_lane, dm_lane]
theorem tC_real (t : Fin grid0.N) (s : Fin 256) : tC m c t h (ix2 0 s) = tileSum fun r => -D.grad h (row (qi t) r) (row (ki t) s) := by
  refine (addC_real h (holds H t) (keeps_at t) s).trans ?_
  unfold tileSum
  rw [Finset.sum_neg_distrib]
  congr 2
  exact Finset.sum_congr rfl fun r _ => point_grad D h t r s

end

/-- Tiles on and below the diagonal, of numbers that are zero above it, give the sum over all rows. -/
theorem tiles_down (f : Fin 2048 → ℝ) (P : Fin 8 → Prop) [DecidablePred P] (z : ∀ i, ¬P i → ∀ r, f (row i r) = 0) :
    (∑ i : Fin 8, if P i then tileSum (fun r => f (row i r)) else 0) = ((∑ r, f r : ℝ) : EReal) := by
  rw [rows_split, ← Reals.sum_coe]
  refine Finset.sum_congr rfl fun i _ => ?_
  by_cases g : P i
  · rw [if_pos g]; rfl
  · rw [if_neg g, Finset.sum_eq_zero fun r _ => z i g r, EReal.coe_zero]

/-! ## The results over the reals -/

section
variable {m : (ℓ : Loc nD τ sig) → Buf (Elt Ideal) ℓ} {c : Dev nD} {D : Data} (H : Given m c D) (h : Fin 8) (r : Fin 2048) (d : Fin 64)
include H

theorem arr8_at : arr8 m c (ix2 r (col (pairOf h) (lane h d))) = ((D.dq h r d : ℝ) : EReal) := by
  obtain ⟨i, r, rfl⟩ := row_surj r
  refine (dq_sum m c ⟨35, end_lt⟩ i (pairOf h) r (lane h d)).trans ?_
  have up : ∀ u : Fin grid0.N, (u.val ≤ 35 ∧ qi u = i) ↔ qi u = i := fun u => ⟨fun g => g.2, fun g => ⟨by have := u.isLt; have := nPoints; omega, g⟩⟩
  refine Eq.trans (b := ∑ u : Fin grid0.N, if qi u = i then tileSum (fun s => D.grad h (row (qi u) r) (row (ki u) s) * D.K h (row (ki u) s) d / 8) else 0)
    (Finset.sum_congr rfl fun u _ => if_congr (up u) (tQ_real H h u r d) rfl) ?_
  refine (sum_row (fun i j => tileSum fun s => D.grad h (row i r) (row j s) * D.K h (row j s) d / 8) i).trans ?_
  refine (tiles_down (fun s => D.grad h (row i r) s * D.K h s d / 8) (fun j => j ≤ i) fun j g s => ?_).trans ?_
  · rw [grad_above D h _ _ (row_gt i j r s g), zero_mul, zero_div]
  · unfold Data.dq
    rw [Finset.sum_div]
theorem arr9_at : arr9 m c (ix2 r (col (pairOf h) (lane h d))) = ((D.dk h r d : ℝ) : EReal) := by
  obtain ⟨j, s, rfl⟩ := row_surj r
  show (done m c (lastOf (tileOf (row j s))).val (lastOf (tileOf (row j s))).isLt).dk (ix2 (inTile (row j s)) (col (pairOf h) (lane h d))) = _
  rw [tile_row, in_row]
  refine (dk_sum m c (lastOf j) (last_of j).1 (pairOf h) s (lane h d)).trans ?_
  rw [(last_of j).2]
  refine Eq.trans (b := ∑ u : Fin grid0.N, if ki u = j then tileSum (fun r => D.grad h (row (qi u) r) (row (ki u) s) * D.Q h (row (qi u) r) d / 8) else 0)
    (Finset.sum_congr rfl fun u _ => if_congr Iff.rfl (tK_real H h u s d) rfl) ?_
  refine (sum_column (fun i j => tileSum fun r => D.grad h (row i r) (row j s) * D.Q h (row i r) d / 8) j).trans ?_
  refine (tiles_down (fun r => D.grad h r (row j s) * D.Q h r d / 8) (fun i => j ≤ i) fun i g r => ?_).trans ?_
  · rw [grad_above D h _ _ (row_gt i j r s g), zero_mul, zero_div]
  · unfold Data.dk
    rw [Finset.sum_div]
theorem arr10_at : arr10 m c (ix2 r (col (pairOf h) (lane h d))) = ((D.dv h r d : ℝ) : EReal) := by
  obtain ⟨j, s, rfl⟩ := row_surj r
  show (done m c (lastOf (tileOf (row j s))).val (lastOf (tileOf (row j s))).isLt).dv (ix2 (inTile (row j s)) (col (pairOf h) (lane h d))) = _
  rw [tile_row, in_row]
  refine (dv_sum m c (lastOf j) (last_of j).1 (pairOf h) s (lane h d)).trans ?_
  rw [(last_of j).2]
  refine Eq.trans (b := ∑ u : Fin grid0.N, if ki u = j then tileSum (fun r => D.p h (row (qi u) r) (row (ki u) s) * D.O h (row (qi u) r) d) else 0)
    (Finset.sum_congr rfl fun u _ => if_congr Iff.rfl (tV_real H h u s d) rfl) ?_
  refine (sum_column (fun i j => tileSum fun r => D.p h (row i r) (row j s) * D.O h (row i r) d) j).trans ?_
  refine (tiles_down (fun r => D.p h r (row j s) * D.O h r d) (fun i => j ≤ i) fun i g r => ?_).trans rfl
  rw [p_above D h _ _ (row_gt i j r s g), zero_mul]
theorem arr11_at : arr11 m c (ix2 h r) = ((D.dc h r : ℝ) : EReal) := by
  obtain ⟨j, s, rfl⟩ := row_surj r
  show (done m c (lastOf (tileOf (row j s))).val (lastOf (tileOf (row j s))).isLt).dc (ix2 h (inTile (row j s))) = _
  rw [tile_row, in_row]
  refine (dc_sum m c (lastOf j) (last_of j).1 h s).trans ?_
  rw [(last_of j).2]
  refine Eq.trans (b := ∑ u : Fin grid0.N, if ki u = j then tileSum (fun r => -D.grad h (row (qi u) r) (row (ki u) s)) else 0)
    (Finset.sum_congr rfl fun u _ => if_congr Iff.rfl (tC_real H h u s) rfl) ?_
  refine (sum_column (fun i j => tileSum fun r => -D.grad h (row i r) (row j s)) j).trans ?_
  refine (tiles_down (fun r => -D.grad h r (row j s)) (fun i => j ≤ i) fun i g r => ?_).trans ?_
  · rw [grad_above D h _ _ (row_gt i j r s g), neg_zero]
  · unfold Data.dc
    rw [Finset.sum_neg_distrib]

end

end Cert.Attn

end
-- ==== Proof.AttnReference.lean ====
/-
  The reference of the attention's backward call read at an index: the chain rule through the causal softmax, at the
  forward's inputs.
-/
module

public import proofs.«01_k».proof.Proof.Gen.Reference3Ideal.Read
public import proofs.«01_k».proof.Proof.AttnReal
public import proofs.«01_k».proof.Proof.HostSums

@[expose] public section

set_option maxRecDepth 16384

noncomputable section

namespace Cert.Attn

open Cert.Reference3Ideal Cert.Reference3Ideal.Gen Cert.Reference3Ideal.Read
open Idealize.ShloMosaic Idealize.ShloMosaic.TcCoe Idealize.SL.Sem

variable (x0 x1 x2 x4 : FVec Ideal S1x8x2048x64 .f32) (x3 : FVec Ideal S1x8x2048 .f32)

/-- The reference's arguments are real. -/
structure Finite (D : Data) : Prop where
  q : ∀ h r d, x0 (ix4 0 h r d) = ((D.Q h r d : ℝ) : EReal)
  k : ∀ h r d, x1 (ix4 0 h r d) = ((D.K h r d : ℝ) : EReal)
  v : ∀ h r d, x2 (ix4 0 h r d) = ((D.V h r d : ℝ) : EReal)
  c : ∀ h r, x3 (ix3 0 h r) = ((D.C h r : ℝ) : EReal)
  o : ∀ h r d, x4 (ix4 0 h r d) = ((D.O h r d : ℝ) : EReal)

theorem lit_one : Ideal.ofBits .f32 0x3F800000#32 = ((1 : ℝ) : EReal) := by
  simp [Ideal.ofBits, Ideal.ieee, -EReal.coe_mul]
  try norm_num

section
variable (h : Fin 8) (r s : Fin 2048) (d : Fin 64)

/-- The causal mask. -/
theorem mask_at : val_main_v16_1 (F := Ideal) (ix4 0 h r s) = if s.val ≤ r.val then 1#1 else 0#1 := by
  rw [← sge_rows]
  unfold val_main_v16_1 val_main_v15 val_main_v13 val_main_v14 val_main_v12 val_main_v11 val_main_v10 val_main_v9
  pointwise

theorem logit_at : val_main_v8 (F := Ideal) x0 x1 x3 (ix4 0 h r s)
    = ((∑ d, x0 (ix4 0 h r d) * x1 (ix4 0 h s d)) * Ideal.ofBits .f32 0x3E000000#32 + x3 (ix3 0 h r) - x3 (ix3 0 h s) : EReal) := by
  unfold val_main_v8 val_main_v7 val_main_v6 val_main_v5 val_main_v4 val_main_v3 val_main_v2 val_main_v1 val_main_v0 val_main_cst
  pointwise

theorem masked_at : val_main_v16_0 (F := Ideal) x0 x1 x3 (ix4 0 h r s)
    = if s.val ≤ r.val then val_main_v8 (F := Ideal) x0 x1 x3 (ix4 0 h r s) else (⊥ : EReal) := by
  rw [val_main_v16_0_apply, mask_at, select_one, ← lit_bot]
  rfl

theorem max_at : val_main_v17 (F := Ideal) x0 x1 x3 (ix3 0 h r)
    = Finset.fold max (Ideal.ofBits .f32 0xFF800000#32) (fun s => (val_main_v16_0 (F := Ideal) x0 x1 x3 (ix4 0 h r s) : EReal)) Finset.univ := by
  unfold val_main_v17 val_main_cst_1
  exact HostSums.max4_3 _ _ _ _ 0 h r

theorem maximumf_eq (x y : Ideal .f32) : FloatOps.maximumf x y = (max x y : EReal) := rfl

theorem level_at : val_main_v35 (F := Ideal) x0 x1 x3 (ix4 0 h r s) = (max (Ideal.ofBits .f32 0xFF800000#32) (val_main_v17 (F := Ideal) x0 x1 x3 (ix3 0 h r)) : EReal) := by
  have e : idx_main_v34 (idx_main_v35 (ix4 0 h r s)) = ix3 0 h r := by
    funext k
    match k with
    | ⟨0, _⟩ => rfl
    | ⟨1, _⟩ => rfl
    | ⟨2, _⟩ => rfl
  rw [val_main_v35_apply, val_main_v34_apply, val_main_v24_apply, e, val_main_v23_apply, val_main_cst_3_apply]
  generalize val_main_v17 (F := Ideal) x0 x1 x3 (ix3 0 h r) = M
  exact maximumf_eq _ M

theorem total_at : val_main_v39 (F := Ideal) x0 x1 x3 (ix4 0 h r 0) = (∑ s, val_main_v37 (F := Ideal) x0 x1 x3 (ix4 0 h r s) : EReal) := by
  unfold val_main_v39 val_main_v38 val_main_cst_9
  pointwise

theorem weight_at : val_main_v41 (F := Ideal) x0 x1 x3 (ix4 0 h r s)
    = Ideal.div (val_main_v37 (F := Ideal) x0 x1 x3 (ix4 0 h r s)) (val_main_v39 (F := Ideal) x0 x1 x3 (ix4 0 h r 0)) := by
  unfold val_main_v41 val_main_v40
  pointwise

theorem dot_at : val_main_v48 (F := Ideal) x2 x4 (ix4 0 h r s) = (∑ d, x4 (ix4 0 h r d) * x2 (ix4 0 h s d) : EReal) := by
  unfold val_main_v48
  pointwise

theorem recip_at : val_main_v49 (F := Ideal) x0 x1 x3 (ix4 0 h r s)
    = Ideal.div (Ideal.ofBits .f32 0x3F800000#32) (val_main_v39 (F := Ideal) x0 x1 x3 (ix4 0 h r 0) * val_main_v39 (F := Ideal) x0 x1 x3 (ix4 0 h r 0)) := by
  unfold val_main_v49 val_main_v44 val_main_v43 val_main_v42 val_main_cst_10
  pointwise

theorem through_at : val_main_v54 (F := Ideal) x0 x1 x2 x3 x4 (ix4 0 h r 0)
    = (-∑ s, val_main_v48 (F := Ideal) x2 x4 (ix4 0 h r s) * val_main_v49 (F := Ideal) x0 x1 x3 (ix4 0 h r s) * val_main_v37 (F := Ideal) x0 x1 x3 (ix4 0 h r s) : EReal) := by
  unfold val_main_v54 val_main_v53 val_main_v52 val_main_v51 val_main_v50 val_main_cst_11
  pointwise

theorem row_at : val_main_v59 (F := Ideal) x0 x1 x2 x3 x4 (ix4 0 h r s) = (val_main_v54 (F := Ideal) x0 x1 x2 x3 x4 (ix4 0 h r 0) : EReal) := by
  unfold val_main_v59 val_main_v58 val_main_v57 val_main_cst_12
  pointwise
  refine (HostSums.sum4_03 _ _ _ h r).trans ?_
  rw [zero_add, Fin.sum_univ_one, Fin.sum_univ_one]

theorem grad_at : val_main_v62 (F := Ideal) x0 x1 x2 x3 x4 (ix4 0 h r s)
    = if s.val ≤ r.val then ((Ideal.div (val_main_v48 (F := Ideal) x2 x4 (ix4 0 h r s)) (val_main_v39 (F := Ideal) x0 x1 x3 (ix4 0 h r 0))
        + val_main_v54 (F := Ideal) x0 x1 x2 x3 x4 (ix4 0 h r 0)) * val_main_v37 (F := Ideal) x0 x1 x3 (ix4 0 h r s) : EReal) else 0 := by
  rw [val_main_v62_apply, mask_at, select_one, ← row_at x0 x1 x2 x4 x3 h r s, ← zero_lit]
  unfold val_main_v61 val_main_v60 val_main_v56 val_main_v55 val_main_call1_v0 val_main_call1_cst
  pointwise

/-! ## The results from the weights and the logits' gradient -/

theorem out_q (k : Fin 512) : val_main_v79 (F := Ideal) x0 x1 x2 x3 x4 (ix2 r k)
    = (∑ s, val_main_v62 (F := Ideal) x0 x1 x2 x3 x4 (ix4 0 ⟨k.val / 64, by omega⟩ r s) * Ideal.ofBits .f32 0x3E000000#32
        * x1 (ix4 0 ⟨k.val / 64, by omega⟩ s ⟨k.val % 64, by omega⟩) : EReal) := by
  unfold val_main_v79 val_main_v78 val_main_v77 val_main_v76 val_main_v74 val_main_v73 val_main_cst_17
  pointwise
theorem out_k (k : Fin 512) : val_main_v82 (F := Ideal) x0 x1 x2 x3 x4 (ix2 s k)
    = (∑ r, val_main_v62 (F := Ideal) x0 x1 x2 x3 x4 (ix4 0 ⟨k.val / 64, by omega⟩ r s) * Ideal.ofBits .f32 0x3E000000#32
        * x0 (ix4 0 ⟨k.val / 64, by omega⟩ r ⟨k.val % 64, by omega⟩) : EReal) := by
  unfold val_main_v82 val_main_v81 val_main_v80 val_main_v75 val_main_v74 val_main_v73 val_main_cst_17
  pointwise
theorem out_v (k : Fin 512) : val_main_v85 (F := Ideal) x0 x1 x3 x4 (ix2 s k)
    = (∑ r, x4 (ix4 0 ⟨k.val / 64, by omega⟩ r ⟨k.val % 64, by omega⟩)
        * val_main_v41 (F := Ideal) x0 x1 x3 (ix4 0 ⟨k.val / 64, by omega⟩ r s) : EReal) := by
  unfold val_main_v85 val_main_v84 val_main_v83 val_main_v47 val_main_v46
  pointwise
theorem out_columns : val_main_v66 (F := Ideal) x0 x1 x2 x3 x4 (ix2 h s) = (∑ r, -val_main_v62 (F := Ideal) x0 x1 x2 x3 x4 (ix4 0 h r s) : EReal) := by
  unfold val_main_v66 val_main_v65 val_main_v64 val_main_v63 val_main_cst_14 val_main_cst_13
  refine (HostSums.sum4_02 _ _ _ h s).trans ?_
  rw [Fin.sum_univ_one, Fin.sum_univ_one]
  pointwise
theorem out_rows : val_main_v70 (F := Ideal) x0 x1 x2 x3 x4 (ix2 h r) = (∑ s, val_main_v62 (F := Ideal) x0 x1 x2 x3 x4 (ix4 0 h r s) : EReal) := by
  unfold val_main_v70 val_main_v69 val_main_v68 val_main_cst_16 val_main_cst_15
  refine (HostSums.sum4_03 _ _ _ h r).trans ?_
  rw [Fin.sum_univ_one, Fin.sum_univ_one]
  pointwise
theorem out_c : val_main_v86 (F := Ideal) x0 x1 x2 x3 x4 (ix2 h r)
    = (val_main_v66 (F := Ideal) x0 x1 x2 x3 x4 (ix2 h r) + val_main_v70 (F := Ideal) x0 x1 x2 x3 x4 (ix2 h r) : EReal) := by
  unfold val_main_v86 val_main_v72 val_main_v71 val_main_v67
  pointwise

end

/-! ## Over the reals -/

section
variable {x0 x1 x2 x4 x3} {D : Data} (H : Finite x0 x1 x2 x4 x3 D) (h : Fin 8) (r s : Fin 2048)
include H

theorem masked_real : val_main_v16_0 (F := Ideal) x0 x1 x3 (ix4 0 h r s) = if s.val ≤ r.val then ((D.logit h r s : ℝ) : EReal) else ⊥ := by
  rw [masked_at, logit_at, lit_eighth, H.c, H.c]
  refine if_congr Iff.rfl ?_ rfl
  rw [Finset.sum_congr rfl fun d _ => by rw [H.q, H.k, ← EReal.coe_mul], Reals.sum_coe, ← EReal.coe_mul, ← EReal.coe_add, ← EReal.coe_sub, mul_one_div]
  rfl

theorem level_real : ∃ M : ℝ, ∀ s, val_main_v35 (F := Ideal) x0 x1 x3 (ix4 0 h r s) = ((M : ℝ) : EReal) := by
  obtain ⟨M, hM⟩ := fold_max_real (fun s => (val_main_v16_0 (F := Ideal) x0 x1 x3 (ix4 0 h r s) : EReal)) (fun s => by
    rw [masked_real H]
    split
    · exact EReal.coe_ne_top _
    · exact bot_ne_top) ⟨r, by
    rw [masked_real H, if_pos (le_refl _)]
    exact EReal.coe_ne_bot _⟩
  refine ⟨M, fun s => ?_⟩
  rw [level_at, max_at, lit_bot, hM]
  exact max_eq_right bot_le

/-- A row's exponentials, up to a level, and their total. -/
theorem ex_real : ∃ M : ℝ, (∀ s, val_main_v37 (F := Ideal) x0 x1 x3 (ix4 0 h r s) = ((D.ex h r s M : ℝ) : EReal))
    ∧ val_main_v39 (F := Ideal) x0 x1 x3 (ix4 0 h r 0) = ((D.total h r M : ℝ) : EReal) := by
  obtain ⟨M, hM⟩ := level_real H h r
  have e : ∀ s, val_main_v37 (F := Ideal) x0 x1 x3 (ix4 0 h r s) = ((D.ex h r s M : ℝ) : EReal) := fun s => by
    rw [val_main_v37_apply, val_main_v36_apply, hM]
    exact exp_masked D h r s M _ (masked_real H h r s)
  refine ⟨M, e, ?_⟩
  rw [total_at, Finset.sum_congr rfl fun s _ => e s, Reals.sum_coe]
  rfl

theorem weight_real : val_main_v41 (F := Ideal) x0 x1 x3 (ix4 0 h r s) = ((D.p h r s : ℝ) : EReal) := by
  obtain ⟨M, e, t⟩ := ex_real H h r
  rw [weight_at, e, t, Reals.div_real _ _ (D.total_pos h r M).ne', D.p_level]

theorem dot_real' : val_main_v48 (F := Ideal) x2 x4 (ix4 0 h r s) = ((D.dot h r s : ℝ) : EReal) := by
  rw [dot_at, Finset.sum_congr rfl fun d _ => by rw [H.o, H.v, ← EReal.coe_mul], Reals.sum_coe]
  rfl

theorem grad_real : val_main_v62 (F := Ideal) x0 x1 x2 x3 x4 (ix4 0 h r s) = ((D.grad h r s : ℝ) : EReal) := by
  obtain ⟨M, e, t⟩ := ex_real H h r
  have tp := (D.total_pos h r M).ne'
  have th : val_main_v54 (F := Ideal) x0 x1 x2 x3 x4 (ix4 0 h r 0) = ((-(D.dd h r / D.total h r M) : ℝ) : EReal) := by
    rw [through_at, Finset.sum_congr rfl fun s _ => by
      rw [dot_real' H, recip_at, e, t, lit_one, ← EReal.coe_mul, Reals.div_real _ _ (mul_ne_zero tp tp), ← EReal.coe_mul, ← EReal.coe_mul], Reals.sum_coe, ← EReal.coe_neg]
    congr 2
    rw [D.dd_eq, Finset.sum_div]
    refine Finset.sum_congr rfl fun s _ => ?_
    rw [← D.p_level h r s M]
    field_simp
  rw [grad_at, th, dot_real' H, e, t, Reals.div_real _ _ tp, ← EReal.coe_add, ← EReal.coe_mul]
  unfold Data.grad
  by_cases g : s.val ≤ r.val
  · rw [if_pos g]
    congr 1
    rw [← D.p_level h r s M]
    ring
  · rw [if_neg g]
    unfold Data.p
    rw [if_neg g, zero_mul, EReal.coe_zero]

theorem ref_q (k : Fin 512) : val_main_v79 (F := Ideal) x0 x1 x2 x3 x4 (ix2 r k) = ((D.dq ⟨k.val / 64, by omega⟩ r ⟨k.val % 64, by omega⟩ : ℝ) : EReal) := by
  rw [out_q, Finset.sum_congr rfl fun s _ => by rw [grad_real H, lit_eighth, H.k, ← EReal.coe_mul, ← EReal.coe_mul], Reals.sum_coe]
  unfold Data.dq
  rw [Finset.sum_div]
  congr 1
  exact Finset.sum_congr rfl fun s _ => by ring
theorem ref_k (k : Fin 512) : val_main_v82 (F := Ideal) x0 x1 x2 x3 x4 (ix2 s k) = ((D.dk ⟨k.val / 64, by omega⟩ s ⟨k.val % 64, by omega⟩ : ℝ) : EReal) := by
  rw [out_k, Finset.sum_congr rfl fun r _ => by rw [grad_real H, lit_eighth, H.q, ← EReal.coe_mul, ← EReal.coe_mul], Reals.sum_coe]
  unfold Data.dk
  rw [Finset.sum_div]
  congr 1
  exact Finset.sum_congr rfl fun s _ => by ring
theorem ref_v (k : Fin 512) : val_main_v85 (F := Ideal) x0 x1 x3 x4 (ix2 s k) = ((D.dv ⟨k.val / 64, by omega⟩ s ⟨k.val % 64, by omega⟩ : ℝ) : EReal) := by
  rw [out_v, Finset.sum_congr rfl fun r _ => by rw [weight_real H, H.o, ← EReal.coe_mul], Reals.sum_coe]
  unfold Data.dv
  congr 1
  exact Finset.sum_congr rfl fun s _ => mul_comm _ _
/-- The logits' rows give the running sums nothing: each adds to zero. -/
theorem ref_c : val_main_v86 (F := Ideal) x0 x1 x2 x3 x4 (ix2 h s) = ((D.dc h s : ℝ) : EReal) := by
  rw [out_c, out_columns, out_rows, Finset.sum_congr rfl fun s' _ => grad_real H h s s', Reals.sum_coe, D.grad_sum h s,
    Finset.sum_congr rfl fun r _ => by rw [grad_real H, ← EReal.coe_neg], Reals.sum_coe, EReal.coe_zero, add_zero, Finset.sum_neg_distrib]
  rfl

end

end Cert.Attn

end
-- ==== Proof.AttnClaim.lean ====
/-
  The claims about the attention's backward call: the frames, the named constant, and on finite arguments equal gradients
  of the queries, the keys, the values and the running sums.
-/
module

public import proofs.«01_k».proof.Defs
public import proofs.«01_k».proof.Proof.TopArray
public import proofs.«01_k».proof.Proof.AttnResults
public import proofs.«01_k».proof.Proof.AttnReference
public import proofs.«01_k».proof.Proof.Gen.Kernel3
public import Idealize.ShloMosaic.Lib.Quiescent

@[expose] public section

set_option maxRecDepth 16384

noncomputable section

namespace Cert.Attn

open Idealize.ShloMosaic Idealize.ShloMosaic.TcCoe Idealize.SL.Sem Idealize.ShloMosaic.Tactic

/-- A named constant read as the constant the program prints. -/
@[reducible] def printed : Named Bits := ⟨fun _ _ _ b => FloatOps.ofBits _ b⟩

/-- The program as written is the program with the mask named, read with the printed constant. -/
theorem frame_kernel : Cert.quiescent_Kernel3 := fun m ρ _ => by
  have h := @frame Bits _ printed m ρ
  refine Eq.mp (?_ : _ = _) h
  sl_kernel_rfl

theorem frame_ideal : Cert.quiescent_Kernel3Ideal := fun m ρ _ => frame m ρ

theorem reference_frame : Cert.quiescent_Reference3Ideal := fun m ρ _ =>
  (θ_run _ _ _).mono (fun r h => ⟨fun c => (h c).2.2.2.2, sem_eq_zero_of_no_sems (by decide) r.2⟩)
    (Cert.Reference3Ideal.Value.run (F := Ideal) m ρ)

/-- The one constant the idealization replaces: the mask's −1e30, read as −∞. -/
theorem preserves : Cert.preserves_Kernel3_Kernel3Ideal :=
  IdealRules.named_const.statement Cert.Kernel3Ideal.κ "mask" .f32 0xF149F2CA#32 ⊥ rfl

/-! ## The results -/

open Cert.Kernel3Ideal (nD τ sig S1x8x2048x64 S1x8x2048)

instance preFacts : Cert.Pre_finite_attn.Facts where
  bcast_S_S1x8x2048x64 := by decide +kernel
  bcast_S_S1x8x2048 := by decide +kernel

/-- The real numbers in the arguments. -/
def dataOf (X0 X1 X2 X4 : S1x8x2048x64.Idx → ℝ) (X3 : S1x8x2048.Idx → ℝ) : Data where
  Q h r d := X0 (ix4 0 h r d)
  K h r d := X1 (ix4 0 h r d)
  V h r d := X2 (ix4 0 h r d)
  O h r d := X4 (ix4 0 h r d)
  C h r := X3 (ix3 0 h r)

/-- A column is its head's lane. -/
theorem col_of (k : Fin 512) : col (pairOf ⟨k.val / 64, by omega⟩) (lane ⟨k.val / 64, by omega⟩ ⟨k.val % 64, by omega⟩) = k :=
  Fin.ext (by show 128 * (k.val / 64 / 2) + (64 * (k.val / 64 % 2) + k.val % 64) = k.val; omega)

section
variable (m : (ℓ : Loc Cert.Reference3Ideal.nD Cert.Reference3Ideal.τ Cert.Reference3Ideal.sig) → Buf (Elt Ideal) ℓ) (c : Dev Cert.Reference3Ideal.nD)

abbrev b0 : FVec Ideal S1x8x2048x64 .f32 := m ((c.tc : Thread Cert.Reference3Ideal.nD Cert.Reference3Ideal.τ).loc Cert.Reference3Ideal.main_arg0)
abbrev b1 : FVec Ideal S1x8x2048x64 .f32 := m ((c.tc : Thread Cert.Reference3Ideal.nD Cert.Reference3Ideal.τ).loc Cert.Reference3Ideal.main_arg1)
abbrev b2 : FVec Ideal S1x8x2048x64 .f32 := m ((c.tc : Thread Cert.Reference3Ideal.nD Cert.Reference3Ideal.τ).loc Cert.Reference3Ideal.main_arg2)
abbrev b3 : FVec Ideal S1x8x2048 .f32 := m ((c.tc : Thread Cert.Reference3Ideal.nD Cert.Reference3Ideal.τ).loc Cert.Reference3Ideal.main_arg3)
abbrev b4 : FVec Ideal S1x8x2048x64 .f32 := m ((c.tc : Thread Cert.Reference3Ideal.nD Cert.Reference3Ideal.τ).loc Cert.Reference3Ideal.main_arg4)
end

theorem algebraic : Cert.algebraic_Kernel3Ideal_Reference3Ideal_pre_finite_attn := by
  intro m ρ m' ρ' hpre hag
  refine ⟨fun c => arr8 m c, fun c => arr9 m c, fun c => arr10 m c, fun c => arr11 m c, ?_, ?_⟩
  · refine (θ_run _ _ _).mono (fun r h c => ?_) (θ_run_and (kernel_run m ρ) (frame (F := Ideal) m ρ))
    obtain ⟨h0, h1, h2, h3⟩ := h.1 c
    exact ⟨h0, h1, h2, h3, h.2.1 c⟩
  · refine (θ_run _ _ _).mono (fun r h c => ?_) (Cert.Reference3Ideal.Value.run (F := Ideal) m' ρ')
    obtain ⟨e0, e1, e2, e3, e4⟩ := hag c
    replace e0 : b0 m' c = aQ m c := e0
    replace e1 : b1 m' c = aK m c := e1
    replace e2 : b2 m' c = aV m c := e2
    replace e3 : b3 m' c = aC m c := e3
    replace e4 : b4 m' c = aO m c := e4
    obtain ⟨p0, p1, p2, p3, p4⟩ := hpre c
    obtain ⟨X0, h0⟩ := Reals.real_of_abs_lt _ _ (Reals.top_array _) p0
    obtain ⟨X1, h1⟩ := Reals.real_of_abs_lt _ _ (Reals.top_array _) p1
    obtain ⟨X2, h2⟩ := Reals.real_of_abs_lt _ _ (Reals.top_array _) p2
    obtain ⟨X3, h3⟩ := Reals.real_of_abs_lt _ _ (Reals.top_array _) p3
    obtain ⟨X4, h4⟩ := Reals.real_of_abs_lt _ _ (Reals.top_array _) p4
    have K : Given m c (dataOf X0 X1 X2 X4 X3) := ⟨fun _ _ _ => congrFun h0 _, fun _ _ _ => congrFun h1 _, fun _ _ _ => congrFun h2 _,
      fun _ _ _ => congrFun h4 _, fun _ _ => congrFun h3 _⟩
    have R : Finite (b0 m' c) (b1 m' c) (b2 m' c) (b4 m' c) (b3 m' c) (dataOf X0 X1 X2 X4 X3) := by
      rw [e0, e1, e2, e3, e4]
      exact ⟨K.q, K.k, K.v, K.c, K.o⟩
    obtain ⟨r0, r1, r2, r3, rest⟩ := h c
    refine ⟨r0.trans ((Cert.Reference3Ideal.Read.val_main_v79_eq (F := Ideal) m' c).trans ?_), r1.trans ((Cert.Reference3Ideal.Read.val_main_v82_eq (F := Ideal) m' c).trans ?_),
      r2.trans ((Cert.Reference3Ideal.Read.val_main_v85_eq (F := Ideal) m' c).trans ?_), r3.trans ((Cert.Reference3Ideal.Read.val_main_v86_eq (F := Ideal) m' c).trans ?_), rest⟩
    · funext j
      obtain ⟨r, k, rfl⟩ : ∃ (r : Fin 2048) (k : Fin 512), j = ix2 r k := ⟨j 0, j 1, (ix2_eta (n0 := 2048) (n1 := 512) j).symm⟩
      have e := arr8_at K ⟨k.val / 64, by omega⟩ r ⟨k.val % 64, by omega⟩
      rw [col_of] at e
      exact (ref_q R r k).trans e.symm
    · funext j
      obtain ⟨r, k, rfl⟩ : ∃ (r : Fin 2048) (k : Fin 512), j = ix2 r k := ⟨j 0, j 1, (ix2_eta (n0 := 2048) (n1 := 512) j).symm⟩
      have e := arr9_at K ⟨k.val / 64, by omega⟩ r ⟨k.val % 64, by omega⟩
      rw [col_of] at e
      exact (ref_k R r k).trans e.symm
    · funext j
      obtain ⟨r, k, rfl⟩ : ∃ (r : Fin 2048) (k : Fin 512), j = ix2 r k := ⟨j 0, j 1, (ix2_eta (n0 := 2048) (n1 := 512) j).symm⟩
      have e := arr10_at K ⟨k.val / 64, by omega⟩ r ⟨k.val % 64, by omega⟩
      rw [col_of] at e
      exact (ref_v R r k).trans e.symm
    · funext j
      obtain ⟨h, r, rfl⟩ : ∃ (h : Fin 8) (r : Fin 2048), j = ix2 h r := ⟨j 0, j 1, (ix2_eta (n0 := 8) (n1 := 2048) j).symm⟩
      exact (ref_c R h r).trans (arr11_at K h r).symm

end Cert.Attn

end
-- ==== Proof.RwkvSpec.lean ====
/-
  The gradient of the WKV preparation written with plain sums: from the projected rows to the token shift, the decay, the
  learning rate and the normalised keys of each head, and back. Everything the forward lines compute, and the cotangents
  that the sums over a head read, are real numbers; the other cotangents are extended reals.
-/
module

public import proofs.«01_k».proof.Proof.Heads

@[expose] public section

noncomputable section

namespace Cert.Rwkv

open Idealize.ShloMosaic Cert.Heads

/-- The numbers the arguments hold: the projected rows, the weights, and the cotangents by row and column. -/
structure Data where
  U : ℕ → ℕ → ℝ
  MU : ℕ → ℝ
  WU : ℕ → ℕ → ℝ
  W0 : ℕ → ℝ
  AU : ℕ → ℕ → ℝ
  A0 : ℕ → ℝ
  KW : ℕ → ℝ
  KA : ℕ → ℝ
  DA : ℕ → ℕ → ℝ
  DB : ℕ → ℕ → ℝ
  DR : ℕ → ℕ → EReal
  DW : ℕ → ℕ → EReal
  DK : ℕ → ℕ → EReal
  DV : ℕ → ℕ → EReal
  DG : ℕ → ℕ → EReal

namespace Data

variable (D : Data) (r c l : ℕ)

/-- The row before less the row. -/
def DL : ℝ := (if r = 0 then 0 else D.U (r - 1) c) - D.U r c
def US : ℝ := D.U r c + D.DL r c * D.MU c
def K0 : ℝ := D.US r (512 + c)
def TH : ℝ := Real.tanh (D.US r (1536 + l))
def LA : ℝ := D.US r (1600 + l)
def ZW : ℝ := D.W0 c + ∑ l ∈ Finset.range 64, D.TH r l * D.WU l c
def SZ : ℝ := 1 / (1 + Real.exp (-D.ZW r c))
def E : ℝ := D.SZ r c * Real.exp (-(1 / 2))
def DEC : ℝ := Real.exp (-D.E r c)
def ZA : ℝ := D.A0 c + ∑ l ∈ Finset.range 64, D.LA r l * D.AU l c
def A : ℝ := 1 / (1 + Real.exp (-D.ZA r c))
def KK0 : ℝ := D.K0 r c * D.KW c
def SS : ℝ := hsum (fun k => D.KK0 r k * D.KK0 r k) c
def NRM : ℝ := Real.sqrt (D.SS r c)
def KK : ℝ := D.KK0 r c / D.NRM r c
def DKK : ℝ := D.DB r c * D.A r c - D.DA r c
/-- The gradient through the normalisation of a key's head. -/
def DKK0 : ℝ := (D.DKK r c - D.KK r c * hsum (fun k => D.DKK r k * D.KK r k) c) * (1 / D.NRM r c)
def DZ : EReal := -D.DW r c * (D.DEC r c : EReal) * (D.E r c : EReal) * ((1 - D.SZ r c : ℝ) : EReal)
def DZA : EReal := (((D.DB r c * D.KK r c : ℝ) : EReal) + D.DK r c * (D.K0 r c : EReal) * (D.KA c : EReal)) * (D.A r c : EReal) * ((1 - D.A r c : ℝ) : EReal)
def DK0 : EReal := D.DK r c * ((1 + (D.A r c - 1) * D.KA c : ℝ) : EReal) + ((D.DKK0 r c * D.KW c : ℝ) : EReal)
def DLW : EReal := (∑ k ∈ Finset.range 512, D.DZ r k * (D.WU l k : EReal)) * ((1 - D.TH r l * D.TH r l : ℝ) : EReal)
def DLA : EReal := ∑ k ∈ Finset.range 512, D.DZA r k * (D.AU l k : EReal)
/-- The gradient at the shifted rows. -/
def DUS : EReal :=
  if c < 512 then D.DR r c else if c < 1024 then D.DK0 r (c - 512) else if c < 1536 then D.DV r (c - 1024)
  else if c < 1600 then D.DLW r (c - 1536) else if c < 1664 then D.DLA r (c - 1600) else D.DG r (c - 1664)
def G1 : EReal := D.DUS r c * (D.MU c : EReal)
/-- The gradient at the projected rows: the row after gives back what it took from this one. -/
def DU : EReal := D.DUS r c - D.G1 r c + if r + 1 < 2048 then D.G1 (r + 1) c else 0

/-- The lanes of the two low-rank products side by side. -/
def LIN : ℝ := if l < 64 then D.TH r l else D.US r (1536 + l)
/-- The two low-rank weights as one block-diagonal matrix. -/
def WL : ℝ := if l < 64 then (if c < 512 then D.WU l c else 0) else if c < 512 then 0 else D.AU (l - 64) (c - 512)

/-- The smallest squared norm of a head of keys that counts. -/
def least : ℝ := 10141205 * (2 : ℝ) ^ (-103 : ℤ)

/-- Every head of keys is longer than the smallest length that the division allows. -/
def Long : Prop := ∀ r c, r < 2048 → c < 512 → least < D.SS r c

end Data

/-- The smallest norm that the division allows. -/
def floor : ℝ := 9223372 * (2 : ℝ) ^ (-63 : ℤ)

theorem lit_floor : Ideal.ofBits .f32 0x2B8CBCCC#32 = (floor : EReal) := by
  unfold floor
  simp [Ideal.ofBits, Ideal.ieee, -EReal.coe_mul]

theorem lit_least : Ideal.ofBits .f32 0x179ABE15#32 = (Data.least : EReal) := by
  unfold Data.least
  simp [Ideal.ofBits, Ideal.ieee, -EReal.coe_mul]

theorem floor_pos : 0 < floor := by unfold floor; positivity

theorem floor_lt_sqrt {x : ℝ} (h : Data.least < x) : floor < Real.sqrt x := by
  apply Real.lt_sqrt_of_sq_lt
  refine lt_trans ?_ h
  unfold floor Data.least
  norm_num

theorem max_coe (x y : ℝ) : max (x : EReal) (y : EReal) = ((max x y : ℝ) : EReal) :=
  (EReal.coe_strictMono.monotone.map_max).symm

theorem least_pos : 0 < Data.least := by unfold Data.least; positivity

theorem sigmoid_pos (x : ℝ) : 0 < 1 + Real.exp x := by positivity

/-- The sigmoid as the kernel writes it. -/
theorem sigmoid_real (x : ℝ) : Ideal.div 1 (1 + Ideal.exp (0 - (x : EReal))) = ((1 / (1 + Real.exp (-x)) : ℝ) : EReal) := by
  rw [← EReal.coe_zero, ← EReal.coe_sub, zero_sub]
  show Ideal.div 1 (1 + ((Real.exp (-x) : ℝ) : EReal)) = _
  rw [← EReal.coe_one, ← EReal.coe_add, Reals.div_real _ _ (sigmoid_pos _).ne']

theorem exp_real (x : ℝ) : Ideal.exp (x : EReal) = ((Real.exp x : ℝ) : EReal) := rfl

end Cert.Rwkv

end
-- ==== Proof.RwkvArrays.lean ====
/-
  The arguments of the WKV preparation's backward call, and the numbers they hold.
-/
module

public import proofs.«01_k».proof.Kernel4Ideal
public import proofs.«01_k».proof.Proof.RwkvSpec

@[expose] public section

noncomputable section

namespace Cert.Rwkv

open Cert.Kernel4Ideal Idealize.ShloMosaic Idealize.ShloMosaic.TcCoe

/-- The arguments of the call. -/
structure Arrays where
  H : FVec Ideal S1x2048x1024 .f32
  W : FVec Ideal S1024x2176 .f32
  MU : FVec Ideal S1x2176 .f32
  WU : FVec Ideal S1x64x512 .f32
  W0 : FVec Ideal S1x512 .f32
  AU : FVec Ideal S1x64x512 .f32
  A0 : FVec Ideal S1x512 .f32
  KW : FVec Ideal S1x512 .f32
  KA : FVec Ideal S1x512 .f32
  DR : FVec Ideal S1x2048x8x64 .f32
  DW : FVec Ideal S1x2048x8x64 .f32
  DK : FVec Ideal S1x2048x8x64 .f32
  DV : FVec Ideal S1x2048x8x64 .f32
  DA : FVec Ideal S1x2048x8x64 .f32
  DB : FVec Ideal S1x2048x8x64 .f32
  DRB : FVec Ideal S1x2048x8x64 .f32
  DKB : FVec Ideal S1x2048x8x64 .f32
  DVB : FVec Ideal S1x2048x8x64 .f32
  DG : FVec Ideal S1x2048x512 .f32

/-- Column `c` of row `r` of an array by heads. -/
abbrev byHead (a : FVec Ideal S1x2048x8x64 .f32) (r : Fin 2048) (c : Fin 512) : EReal := a (ix4 0 r ⟨c.val / 64, by omega⟩ ⟨c.val % 64, by omega⟩)

/-- The numbers that the arguments hold. -/
structure Arrays.Hold (a : Arrays) (D : Data) : Prop where
  u : ∀ (r : Fin 2048) (j : Fin 2176), (∑ i : Fin 1024, a.H (ix3 0 r i) * a.W (ix2 i j) : EReal) = ((D.U r.val j.val : ℝ) : EReal)
  mu : ∀ j : Fin 2176, a.MU (ix2 0 j) = ((D.MU j.val : ℝ) : EReal)
  wu : ∀ (l : Fin 64) (c : Fin 512), a.WU (ix3 0 l c) = ((D.WU l.val c.val : ℝ) : EReal)
  w0 : ∀ c : Fin 512, a.W0 (ix2 0 c) = ((D.W0 c.val : ℝ) : EReal)
  au : ∀ (l : Fin 64) (c : Fin 512), a.AU (ix3 0 l c) = ((D.AU l.val c.val : ℝ) : EReal)
  a0 : ∀ c : Fin 512, a.A0 (ix2 0 c) = ((D.A0 c.val : ℝ) : EReal)
  kw : ∀ c : Fin 512, a.KW (ix2 0 c) = ((D.KW c.val : ℝ) : EReal)
  ka : ∀ c : Fin 512, a.KA (ix2 0 c) = ((D.KA c.val : ℝ) : EReal)
  da : ∀ (r : Fin 2048) (c : Fin 512), byHead a.DA r c = ((D.DA r.val c.val : ℝ) : EReal)
  db : ∀ (r : Fin 2048) (c : Fin 512), byHead a.DB r c = ((D.DB r.val c.val : ℝ) : EReal)
  dr : ∀ (r : Fin 2048) (c : Fin 512), byHead a.DR r c + byHead a.DRB r c = D.DR r.val c.val
  dw : ∀ (r : Fin 2048) (c : Fin 512), byHead a.DW r c = D.DW r.val c.val
  dk : ∀ (r : Fin 2048) (c : Fin 512), byHead a.DK r c + byHead a.DKB r c = D.DK r.val c.val
  dv : ∀ (r : Fin 2048) (c : Fin 512), byHead a.DV r c + byHead a.DVB r c = D.DV r.val c.val
  dg : ∀ (r : Fin 2048) (c : Fin 512), a.DG (ix3 0 r c) = D.DG r.val c.val

end Cert.Rwkv

end
-- ==== Proof.RwkvReference.lean ====
/-
  The reference of the WKV preparation's backward call read at an index: the chain rule through the token shift, the two
  low-rank products, the decay, the learning rate and the normalised keys of each head.
-/
module

public import proofs.«01_k».proof.Proof.Gen.Reference4Ideal.Read
public import proofs.«01_k».proof.Proof.RwkvArrays
public import proofs.«01_k».proof.Proof.FoxReference

@[expose] public section

set_option maxRecDepth 16384

noncomputable section

namespace Cert.Rwkv

open Cert.Reference4Ideal Cert.Reference4Ideal.Gen Cert.Reference4Ideal.Read
open Idealize.ShloMosaic Idealize.ShloMosaic.TcCoe Idealize.SL.Sem Cert.Heads

theorem lit_half : Ideal.ofBits .f32 0x3F000000#32 = ((1 / 2 : ℝ) : EReal) := by
  simp [Ideal.ofBits, Ideal.ieee, -EReal.coe_mul]; norm_num

section
variable {a : Arrays} {D : Data} (H : a.Hold D)

/-- An array by heads at a head's column. -/
theorem byHead_at (f : FVec Ideal Cert.Kernel4Ideal.S1x2048x8x64 .f32) (r : Fin 2048) (h : Fin 8) (k : Fin 64) :
    f (ix4 0 r h k) = byHead f r ⟨64 * h.val + k.val, by omega⟩ := by
  unfold byHead
  congr 2
  · apply Fin.ext; show h.val = (64 * h.val + k.val) / 64; omega
  · apply Fin.ext; show k.val = (64 * h.val + k.val) % 64; omega

include H

theorem u_ref (r : Fin 2048) (j : Fin 2176) : val_main_v0 (F := Ideal) a.H a.W (ix3 0 r j) = ((D.U r.val j.val : ℝ) : EReal) := by
  unfold val_main_v0
  pointwise
  exact H.u r j

theorem dl_ref (r : Fin 2048) (j : Fin 2176) : val_main_v13 (F := Ideal) a.H a.W (ix3 0 r j) = ((D.DL r.val j.val : ℝ) : EReal) := by
  unfold val_main_v13 val_main_v11 val_main_v10 val_main_v9 val_main_cst
  pointwise
  rw [u_ref H]
  unfold Data.DL
  by_cases h : r.val = 0
  · rw [dif_pos (by omega), if_pos h, EReal.coe_sub, EReal.coe_zero]
  · rw [dif_neg (by omega), if_neg h, EReal.coe_sub, u_ref H]

theorem mu_ref (r : Fin 2048) (j : Fin 2176) : val_main_v14 (F := Ideal) a.MU (ix3 0 0 j) = ((D.MU j.val : ℝ) : EReal) := by
  unfold val_main_v14 val_main_v1
  pointwise
  exact H.mu j

theorem us_ref (r : Fin 2048) (j : Fin 2176) : val_main_v17 (F := Ideal) a.H a.W a.MU (ix3 0 r j) = ((D.US r.val j.val : ℝ) : EReal) := by
  unfold val_main_v17 val_main_v16 val_main_v15
  pointwise
  rw [u_ref H, dl_ref H, mu_ref H r, ← EReal.coe_mul, ← EReal.coe_add]
  rfl

theorem k0_ref (r : Fin 2048) (c : Fin 512) : val_main_v19 (F := Ideal) a.H a.W a.MU (ix3 0 r c) = ((D.K0 r.val c.val : ℝ) : EReal) := by
  unfold val_main_v19
  pointwise
  exact us_ref H r _

theorem th_ref (r : Fin 2048) (l : Fin 64) : val_main_v24 (F := Ideal) a.H a.W a.MU (ix3 0 r l) = ((D.TH r.val l.val : ℝ) : EReal) := by
  unfold val_main_v24 val_main_v21
  pointwise
  rw [us_ref H]
  rfl

theorem la_ref (r : Fin 2048) (l : Fin 64) : val_main_v22 (F := Ideal) a.H a.W a.MU (ix3 0 r l) = ((D.LA r.val l.val : ℝ) : EReal) := by
  unfold val_main_v22
  pointwise
  exact us_ref H r _

/-! ## The decay -/

theorem zw_ref (r : Fin 2048) (c : Fin 512) : val_main_v33 (F := Ideal) a.H a.W a.MU a.WU a.W0 (ix3 0 r c) = ((D.ZW r.val c.val : ℝ) : EReal) := by
  unfold val_main_v33 val_main_v32 val_main_v31 val_main_v30 val_main_v3 val_main_v2
  pointwise
  simp only [th_ref H, H.wu, H.w0, ← EReal.coe_mul, Reals.sum_coe, ← EReal.coe_add]
  unfold Data.ZW
  rw [Fin.sum_univ_eq_sum_range (fun l => D.TH r.val l * D.WU l c.val)]

omit H in
theorem ne_top (x : ℝ) : ((x : ℝ) : EReal) ≠ Ideal.ofBits .f32 0x7F800000#32 := by
  rw [Reals.lit_top]; exact EReal.coe_ne_top _

theorem sp_ref (r : Fin 2048) (c : Fin 512) : val_main_v35_0 (F := Ideal) a.H a.W a.MU a.WU a.W0 (ix3 0 r c) = ((Real.log (1 + Real.exp (-D.ZW r.val c.val)) : ℝ) : EReal) := by
  unfold val_main_v35_0 val_main_call0_v4 val_main_call0_v11 val_main_call0_v10 val_main_call0_v9 val_main_call0_v8 val_main_call0_v7 val_main_call0_v6 val_main_call0_v5 val_main_call0_v3 val_main_call0_v2 val_main_call0_v1 val_main_call0_v0 val_main_call0_cst val_main_v34
  pointwise
  rw [zw_ref H]
  have hs := Cert.Fox.softplus_real (-D.ZW r.val c.val)
  rw [EReal.coe_neg] at hs
  have hl : ∀ x : EReal, FloatOps.absf (F := Ideal) (φ := .f32) x = max x (-x) := fun _ => rfl
  simp only [ne_eq, not_true_eq_false, if_false, hl]
  exact hs

omit H in
/-- One less the sigmoid, as the logarithm's derivative gives it. -/
theorem slope_real (z : ℝ) : Ideal.exp (-(z : EReal) - ((Real.log (1 + Real.exp (-z)) : ℝ) : EReal)) = ((1 - 1 / (1 + Real.exp (-z)) : ℝ) : EReal) := by
  have hp : 0 < 1 + Real.exp (-z) := by positivity
  rw [← EReal.coe_neg, ← EReal.coe_sub, exp_real, Real.exp_sub, Real.exp_log hp]
  congr 1
  field_simp
  ring

theorem slope_ref (r : Fin 2048) (c : Fin 512) : val_main_v35_1 (F := Ideal) a.H a.W a.MU a.WU a.W0 (ix3 0 r c) = ((1 - D.SZ r.val c.val : ℝ) : EReal) := by
  unfold val_main_v35_1 val_main_call0_v21 val_main_call0_v20 val_main_call0_v19 val_main_call0_v18 val_main_call0_v17 val_main_call0_v16 val_main_call0_v15 val_main_call0_v14 val_main_call0_v13 val_main_call0_cst_0 val_main_call0_cst_1 val_main_call0_cst_2 val_main_call0_cst_3
  pointwise
  have h34 : val_main_v34 (F := Ideal) a.H a.W a.MU a.WU a.W0 (ix3 0 r c) = -((D.ZW r.val c.val : ℝ) : EReal) := by
    unfold val_main_v34
    pointwise
    rw [zw_ref H]
  rw [sp_ref H, h34, if_neg (by rw [← EReal.coe_neg]; exact ne_top _), if_neg (ne_top _)]
  exact slope_real _

theorem e_ref (r : Fin 2048) (c : Fin 512) : val_main_v39 (F := Ideal) a.H a.W a.MU a.WU a.W0 (ix3 0 r c) = ((D.E r.val c.val : ℝ) : EReal) := by
  have hp : 0 < 1 + Real.exp (-D.ZW r.val c.val) := by positivity
  unfold val_main_v39 val_main_v38 val_main_v37 val_main_v36 val_main_cst_3
  pointwise
  rw [sp_ref H, lit_half, ← EReal.coe_neg, ← EReal.coe_sub, exp_real]
  congr 1
  unfold Data.E Data.SZ
  rw [Real.exp_sub, Real.exp_neg, Real.exp_log hp, Real.exp_neg (1 / 2)]
  field_simp

theorem dec_ref (r : Fin 2048) (c : Fin 512) : val_main_v41 (F := Ideal) a.H a.W a.MU a.WU a.W0 (ix3 0 r c) = ((D.DEC r.val c.val : ℝ) : EReal) := by
  unfold val_main_v41 val_main_v40
  pointwise
  rw [e_ref H, ← EReal.coe_neg]
  rfl

theorem dz_ref (r : Fin 2048) (c : Fin 512) : val_main_v143 (F := Ideal) a.H a.W a.MU a.WU a.W0 a.DW (ix3 0 r c) = D.DZ r.val c.val := by
  unfold val_main_v143 val_main_v142 val_main_v141 val_main_v140 val_main_v139 val_main_v138 val_main_v98
  pointwise
  rw [slope_ref H, e_ref H, dec_ref H]
  unfold Data.DZ
  rw [← H.dw r c]
  simp only [EReal.neg_mul, neg_neg]

/-! ## The learning rate -/

theorem a_ref (r : Fin 2048) (c : Fin 512) : val_main_v51 (F := Ideal) a.H a.W a.MU a.AU a.A0 (ix3 0 r c) = ((D.A r.val c.val : ℝ) : EReal) := by
  have hz : val_main_v45 (F := Ideal) a.H a.W a.MU a.AU a.A0 (ix3 0 r c) = ((D.ZA r.val c.val : ℝ) : EReal) := by
    unfold val_main_v45 val_main_v44 val_main_v43 val_main_v42 val_main_v5 val_main_v4
    pointwise
    simp only [la_ref H, H.au, H.a0, ← EReal.coe_mul, Reals.sum_coe, ← EReal.coe_add]
    unfold Data.ZA
    rw [Fin.sum_univ_eq_sum_range (fun l => D.LA r.val l * D.AU l c.val)]
  unfold val_main_v51 val_main_v50 val_main_v49 val_main_v48 val_main_v47 val_main_v46 val_main_cst_4 val_main_cst_5
  pointwise
  rw [hz]
  have hs := sigmoid_real (D.ZA r.val c.val)
  rw [zero_sub] at hs
  exact hs

theorem a_head (r : Fin 2048) (h : Fin 8) (k : Fin 64) : val_main_v87 (F := Ideal) a.H a.W a.MU a.AU a.A0 (ix4 0 r h k) = ((D.A r.val (64 * h.val + k.val) : ℝ) : EReal) := by
  unfold val_main_v87
  pointwise
  rw [a_ref H]
  dsimp only
  rw [mul_comm h.val]

theorem da_ref (r : Fin 2048) (h : Fin 8) (k : Fin 64) : a.DA (ix4 0 r h k) = ((D.DA r.val (64 * h.val + k.val) : ℝ) : EReal) :=
  (byHead_at _ r h k).trans (H.da r _)

theorem db_ref (r : Fin 2048) (h : Fin 8) (k : Fin 64) : a.DB (ix4 0 r h k) = ((D.DB r.val (64 * h.val + k.val) : ℝ) : EReal) :=
  (byHead_at _ r h k).trans (H.db r _)

/-! ## The normalised keys -/

theorem kw_ref (c : Fin 512) : val_main_v55 (F := Ideal) a.KW (ix3 0 0 c) = ((D.KW c.val : ℝ) : EReal) := by
  unfold val_main_v55 val_main_v6
  pointwise
  exact H.kw c

theorem kk0_ref (r : Fin 2048) (h : Fin 8) (k : Fin 64) : val_main_v58 (F := Ideal) a.H a.W a.MU a.KW (ix4 0 r h k) = ((D.KK0 r.val (64 * h.val + k.val) : ℝ) : EReal) := by
  unfold val_main_v58 val_main_v57 val_main_v56
  pointwise
  rw [k0_ref H, kw_ref H, ← EReal.coe_mul]
  dsimp only
  rw [mul_comm h.val]
  rfl

theorem nrm_ref (r : Fin 2048) (h : Fin 8) (k : Fin 64) : val_main_v59_0 (F := Ideal) a.H a.W a.MU a.KW (ix4 0 r h 0) = ((D.NRM r.val (64 * h.val + k.val) : ℝ) : EReal) := by
  unfold val_main_v59_0 val_main_call1_v2 val_main_call1_v1 val_main_call1_v0 val_main_call1_cst
  pointwise
  simp only [kk0_ref H, ← EReal.coe_mul, Reals.sum_coe]
  unfold Data.NRM Data.SS
  rw [Cert.Fox.hsum_head _ _ _ k.isLt, Ideal.sqrt_coe, if_neg (not_lt.mpr (Finset.sum_nonneg fun j _ => mul_self_nonneg _))]

variable (L : D.Long)
include L

theorem floor_lt_nrm (r : Fin 2048) (c : ℕ) (hc : c < 512) : floor < D.NRM r.val c := floor_lt_sqrt (L r.val c r.isLt hc)

theorem top_ref (r : Fin 2048) (h : Fin 8) (k : Fin 64) : val_main_v61 (F := Ideal) a.H a.W a.MU a.KW (ix4 0 r h 0) = ((D.NRM r.val (64 * h.val + k.val) : ℝ) : EReal) := by
  unfold val_main_v61 val_main_v60 val_main_cst_7
  pointwise
  rw [nrm_ref H r h k, lit_floor, max_coe, max_eq_left (floor_lt_nrm H L r _ (by omega)).le]

theorem one_ref (r : Fin 2048) (h : Fin 8) : val_main_v70 (F := Ideal) a.H a.W a.MU a.KW (ix4 0 r h 0) = (1 : EReal) := by
  unfold val_main_v70 val_main_v63 val_main_v66 val_main_v62 val_main_cst_8 val_main_cst_10
  pointwise
  rw [nrm_ref H r h 0, lit_floor, if_pos (EReal.coe_lt_coe_iff.mpr (floor_lt_nrm H L r _ (by omega)))]

theorem nrm_ne (r : Fin 2048) (c : ℕ) (hc : c < 512) : D.NRM r.val c ≠ 0 := (floor_pos.trans (floor_lt_nrm H L r c hc)).ne'

theorem kk_ref (r : Fin 2048) (h : Fin 8) (k : Fin 64) : val_main_v72 (F := Ideal) a.H a.W a.MU a.KW (ix4 0 r h k) = ((D.KK r.val (64 * h.val + k.val) : ℝ) : EReal) := by
  unfold val_main_v72 val_main_v71
  pointwise
  rw [kk0_ref H, top_ref H L r h k, Reals.div_real _ _ (nrm_ne H L r _ (by omega))]
  rfl

theorem dkk_ref (r : Fin 2048) (h : Fin 8) (k : Fin 64) : val_main_v97 (F := Ideal) a.H a.W a.MU a.AU a.A0 a.DA a.DB (ix4 0 r h k) = ((D.DKK r.val (64 * h.val + k.val) : ℝ) : EReal) := by
  unfold val_main_v97 val_main_v96 val_main_v95
  pointwise
  rw [a_head H, da_ref H, db_ref H, ← EReal.coe_mul, ← EReal.coe_neg, ← EReal.coe_add, ← sub_eq_add_neg]
  rfl

/-- What reaches a head through its squared norm, for each of the two equal factors of the squares. -/
theorem row_ref (r : Fin 2048) (h : Fin 8) (k : Fin 64) : val_main_call2_v1 (F := Ideal) a.H a.W a.MU a.AU a.A0 a.KW a.DA a.DB (ix2 r h)
    = ((-(∑ j : Fin 64, D.DKK r.val (64 * h.val + j.val) * (1 / (D.NRM r.val (64 * h.val + k.val) * D.NRM r.val (64 * h.val + k.val))) * D.KK0 r.val (64 * h.val + j.val))
        * (1 / 2 / D.NRM r.val (64 * h.val + k.val)) : ℝ) : EReal) := by
  have hn := nrm_ne H L r (64 * h.val + k.val) (by omega)
  have h59 : val_main_v59_1 (F := Ideal) a.H a.W a.MU a.KW (ix4 0 r h 0) = ((1 / 2 / D.NRM r.val (64 * h.val + k.val) : ℝ) : EReal) := by
    unfold val_main_v59_1 val_main_call1_v4 val_main_call1_cst_0
    pointwise
    rw [nrm_ref H r h k, lit_half, Reals.div_real _ _ hn]
  have h75 : val_main_v75 (F := Ideal) a.H a.W a.MU a.KW (ix4 0 r h 0) = ((1 / (D.NRM r.val (64 * h.val + k.val) * D.NRM r.val (64 * h.val + k.val)) : ℝ) : EReal) := by
    unfold val_main_v75 val_main_v74 val_main_v73 val_main_cst_13
    pointwise
    rw [top_ref H L r h k, ← EReal.coe_mul, ← EReal.coe_one, Reals.div_real _ _ (mul_ne_zero hn hn)]
  unfold val_main_call2_v1
  refine (HostSums.sum4_03 _ _ _ r h).trans ?_
  unfold val_main_call2_cst val_main_call2_v0 val_main_v120 val_main_v117 val_main_v116 val_main_v115 val_main_v114 val_main_v113 val_main_v112 val_main_cst_18
  rw [Fin.sum_univ_one, Fin.sum_univ_one]
  pointwise
  simp only [h59, h75, one_ref H L, kk0_ref H, dkk_ref H L, ← EReal.coe_mul, Reals.sum_coe, mul_one, ← EReal.coe_neg]

theorem dkk0_ref (r : Fin 2048) (h : Fin 8) (k : Fin 64) : val_main_v122 (F := Ideal) a.H a.W a.MU a.AU a.A0 a.KW a.DA a.DB (ix4 0 r h k) = ((D.DKK0 r.val (64 * h.val + k.val) : ℝ) : EReal) := by
  have hn := nrm_ne H L r (64 * h.val + k.val) (by omega)
  have he : ∀ j : Fin 64, D.NRM r.val (64 * h.val + j.val) = D.NRM r.val (64 * h.val + k.val) := fun j => by
    unfold Data.NRM Data.SS
    rw [Cert.Fox.hsum_head _ _ _ j.isLt, Cert.Fox.hsum_head _ _ _ k.isLt]
  unfold val_main_v122 val_main_v121 val_main_v119 val_main_v118 val_main_call2_v5 val_main_call2_v4 val_main_call2_v3 val_main_call2_v2
  pointwise
  rw [row_ref H L r h k, dkk_ref H L, kk0_ref H, top_ref H L r h k, Reals.div_real _ _ hn]
  simp only [← EReal.coe_mul, ← EReal.coe_add]
  congr 1
  unfold Data.DKK0
  rw [Cert.Fox.hsum_head _ _ _ k.isLt]
  unfold Data.KK
  simp only [he]
  have e1 : (∑ j : Fin 64, D.DKK r.val (64 * h.val + j.val) * (1 / (D.NRM r.val (64 * h.val + k.val) * D.NRM r.val (64 * h.val + k.val))) * D.KK0 r.val (64 * h.val + j.val))
      = (∑ j : Fin 64, D.DKK r.val (64 * h.val + j.val) * D.KK0 r.val (64 * h.val + j.val)) * (1 / (D.NRM r.val (64 * h.val + k.val) * D.NRM r.val (64 * h.val + k.val))) := by
    rw [Finset.sum_mul]
    exact Finset.sum_congr rfl fun j _ => by ring
  have e2 : (∑ j : Fin 64, D.DKK r.val (64 * h.val + j.val) * (D.KK0 r.val (64 * h.val + j.val) / D.NRM r.val (64 * h.val + k.val)))
      = (∑ j : Fin 64, D.DKK r.val (64 * h.val + j.val) * D.KK0 r.val (64 * h.val + j.val)) * (1 / D.NRM r.val (64 * h.val + k.val)) := by
    rw [Finset.sum_mul]
    exact Finset.sum_congr rfl fun j _ => by ring
  rw [e1, e2]
  generalize (∑ j : Fin 64, D.DKK r.val (64 * h.val + j.val) * D.KK0 r.val (64 * h.val + j.val)) = S
  field_simp
  ring

theorem dkk0_col (r : Fin 2048) (c : Fin 512) : val_main_v123 (F := Ideal) a.H a.W a.MU a.AU a.A0 a.KW a.DA a.DB (ix3 0 r c) = ((D.DKK0 r.val c.val : ℝ) : EReal) := by
  unfold val_main_v123
  pointwise
  refine (dkk0_ref H L r ⟨c.val / 64, by omega⟩ ⟨c.val % 64, by omega⟩).trans ?_
  dsimp only
  rw [Nat.div_add_mod]

/-! ## The gradients at the pre-activations and at the keys -/

omit L in
theorem dk_ref (r : Fin 2048) (c : Fin 512) : val_main_v101 (F := Ideal) a.DK a.DKB (ix3 0 r c) = D.DK r.val c.val := by
  unfold val_main_v101 val_main_v92
  pointwise
  exact H.dk r c

omit L in
theorem ka_ref (c : Fin 512) : val_main_v78 (F := Ideal) a.KA (ix3 0 0 c) = ((D.KA c.val : ℝ) : EReal) := by
  unfold val_main_v78 val_main_v7
  pointwise
  exact H.ka c

theorem bkk_ref (r : Fin 2048) (c : Fin 512) : val_main_v99 (F := Ideal) a.H a.W a.MU a.KW a.DB (ix3 0 r c) = ((D.DB r.val c.val * D.KK r.val c.val : ℝ) : EReal) := by
  unfold val_main_v99 val_main_v94
  pointwise
  rw [kk_ref H L, db_ref H, ← EReal.coe_mul, mul_comm (D.KK _ _)]
  dsimp only
  rw [Nat.div_add_mod]

theorem dza_ref (r : Fin 2048) (c : Fin 512) : val_main_v131 (F := Ideal) a.H a.W a.MU a.AU a.A0 a.KW a.KA a.DK a.DB a.DKB (ix3 0 r c) = D.DZA r.val c.val := by
  unfold val_main_v131 val_main_v110 val_main_v109 val_main_v108 val_main_v103 val_main_v54 val_main_v53 val_main_v52 val_main_cst_6
  pointwise
  rw [bkk_ref H L, dk_ref H, ka_ref H, k0_ref H, a_ref H]
  unfold Data.DZA
  rw [mul_comm (D.K0 r.val c.val : EReal), EReal.coe_sub, EReal.coe_one, mul_assoc (_ + _)]

theorem dk0_ref (r : Fin 2048) (c : Fin 512) : val_main_v129 (F := Ideal) a.H a.W a.MU a.AU a.A0 a.KW a.KA a.DK a.DA a.DB a.DKB (ix3 0 r c) = D.DK0 r.val c.val := by
  unfold val_main_v129 val_main_v128 val_main_v127 val_main_v104 val_main_v82 val_main_v81 val_main_v80 val_main_v79 val_main_v77 val_main_v76 val_main_cst_14 val_main_cst_15
  pointwise
  rw [dkk0_col H L, dk_ref H, ka_ref H, kw_ref H, a_ref H]
  unfold Data.DK0
  rw [← EReal.coe_one, ← EReal.coe_sub, ← EReal.coe_mul, ← EReal.coe_mul, ← EReal.coe_add]

omit L in
theorem dlw_ref (r : Fin 2048) (l : Fin 64) : val_main_v150 (F := Ideal) a.H a.W a.MU a.WU a.W0 a.DW (ix3 0 r l) = D.DLW r.val l.val := by
  unfold val_main_v150 val_main_v149 val_main_v29 val_main_v28 val_main_v27 val_main_v26 val_main_v25 val_main_v2 val_main_cst_1 val_main_cst_2
  pointwise
  simp only [th_ref H, dz_ref H, H.wu]
  unfold Data.DLW
  rw [← Fin.sum_univ_eq_sum_range (fun k => D.DZ r.val k * (D.WU l.val k : EReal)), ← EReal.coe_one, ← EReal.coe_sub, ← EReal.coe_add, ← EReal.coe_mul]
  congr 2
  ring

theorem dla_ref (r : Fin 2048) (l : Fin 64) : val_main_v137 (F := Ideal) a.H a.W a.MU a.AU a.A0 a.KW a.KA a.DK a.DB a.DKB (ix3 0 r l) = D.DLA r.val l.val := by
  unfold val_main_v137 val_main_v4
  pointwise
  simp only [dza_ref H L, H.au]
  unfold Data.DLA
  rw [← Fin.sum_univ_eq_sum_range (fun k => D.DZA r.val k * (D.AU l.val k : EReal))]

/-! ## The gradients at the shifted and at the projected rows -/

theorem dus_ref (r : Fin 2048) (j : Fin 2176) : val_main_v151 (F := Ideal) a.H a.W a.MU a.WU a.W0 a.AU a.A0 a.KW a.KA a.DR a.DW a.DK a.DV a.DA a.DB a.DRB a.DKB a.DVB a.DG (ix3 0 r j) = D.DUS r.val j.val := by
  unfold val_main_v151 val_main_v102 val_main_v100 val_main_v93 val_main_v91
  pointwise
  unfold Data.DUS
  by_cases h1 : j.val < 512
  · rw [dif_pos h1, if_pos h1]
    exact H.dr r ⟨j.val, h1⟩
  rw [dif_neg h1, if_neg h1]
  by_cases h2 : j.val < 1024
  · rw [dif_pos (show j.val - 512 < 512 by omega), if_pos h2]
    exact dk0_ref H L r ⟨j.val - 512, by omega⟩
  rw [dif_neg (show ¬ j.val - 512 < 512 by omega), if_neg h2]
  by_cases h3 : j.val < 1536
  · rw [dif_pos (show j.val - 512 - 512 < 512 by omega), if_pos h3]
    refine (H.dv r ⟨j.val - 512 - 512, by omega⟩).trans ?_
    dsimp only
    rw [show j.val - 512 - 512 = j.val - 1024 by omega]
  rw [dif_neg (show ¬ j.val - 512 - 512 < 512 by omega), if_neg h3]
  by_cases h4 : j.val < 1600
  · rw [dif_pos (show j.val - 512 - 512 - 512 < 64 by omega), if_pos h4]
    refine (dlw_ref H r ⟨j.val - 512 - 512 - 512, by omega⟩).trans ?_
    dsimp only
    rw [show j.val - 512 - 512 - 512 = j.val - 1536 by omega]
  rw [dif_neg (show ¬ j.val - 512 - 512 - 512 < 64 by omega), if_neg h4]
  by_cases h5 : j.val < 1664
  · rw [dif_pos (show j.val - 512 - 512 - 512 - 64 < 64 by omega), if_pos h5]
    refine (dla_ref H L r ⟨j.val - 512 - 512 - 512 - 64, by omega⟩).trans ?_
    dsimp only
    rw [show j.val - 512 - 512 - 512 - 64 = j.val - 1600 by omega]
  rw [dif_neg (show ¬ j.val - 512 - 512 - 512 - 64 < 64 by omega), if_neg h5]
  refine (H.dg r ⟨j.val - 512 - 512 - 512 - 64 - 64, by omega⟩).trans ?_
  dsimp only
  rw [show j.val - 512 - 512 - 512 - 64 - 64 = j.val - 1664 by omega]

theorem g1_ref (r : Fin 2048) (j : Fin 2176) : val_main_v156 (F := Ideal) a.H a.W a.MU a.WU a.W0 a.AU a.A0 a.KW a.KA a.DR a.DW a.DK a.DV a.DA a.DB a.DRB a.DKB a.DVB a.DG (ix3 0 r j) = D.G1 r.val j.val := by
  unfold val_main_v156 val_main_v155
  pointwise
  rw [dus_ref H L, mu_ref H r]
  rfl

theorem du3_ref (r : Fin 2048) (j : Fin 2176) : val_main_v163 (F := Ideal) a.H a.W a.MU a.WU a.W0 a.AU a.A0 a.KW a.KA a.DR a.DW a.DK a.DV a.DA a.DB a.DRB a.DKB a.DVB a.DG (ix3 0 r j) = D.DU r.val j.val := by
  unfold val_main_v163 val_main_v162 val_main_v161 val_main_v159 val_main_v158 val_main_cst_27
  pointwise
  rw [dus_ref H L, g1_ref H L]
  unfold Data.DU
  rw [sub_eq_add_neg]
  congr 1
  by_cases h : r.val + 1 < 2048
  · rw [dif_pos (by omega), if_pos h, g1_ref H L]
    dsimp only
    first | rfl | rw [add_comm 1]
  · rw [dif_neg (by omega), if_neg h]

theorem ref_du (r : Fin 2048) (j : Fin 2176) : val_main_v166 (F := Ideal) a.H a.W a.MU a.WU a.W0 a.AU a.A0 a.KW a.KA a.DR a.DW a.DK a.DV a.DA a.DB a.DRB a.DKB a.DVB a.DG (ix2 r j) = D.DU r.val j.val := by
  unfold val_main_v166
  pointwise
  exact du3_ref H L r j

theorem ref_dw (i : Fin 1024) (j : Fin 2176) : val_main_v165 (F := Ideal) a.H a.W a.MU a.WU a.W0 a.AU a.A0 a.KW a.KA a.DR a.DW a.DK a.DV a.DA a.DB a.DRB a.DKB a.DVB a.DG (ix2 i j) = ∑ r : Fin 2048, (a.H (ix3 0 r i) * D.DU r.val j.val : EReal) := by
  unfold val_main_v165 val_main_v164
  pointwise
  rw [Fin.sum_univ_one]
  exact Finset.sum_congr rfl fun r _ => (congrArg (· * _) (du3_ref H L r j)).trans (mul_comm _ _)

theorem ref_dmu (j : Fin 2176) : val_main_v167 (F := Ideal) a.H a.W a.MU a.WU a.W0 a.AU a.A0 a.KW a.KA a.DR a.DW a.DK a.DV a.DA a.DB a.DRB a.DKB a.DVB a.DG (ix2 0 j) = ∑ r : Fin 2048, D.DUS r.val j.val * (D.DL r.val j.val : EReal) := by
  unfold val_main_v167 val_main_v157
  pointwise
  refine (HostSums.sum_01 _ _ _ j).trans ?_
  unfold val_main_cst_26 val_main_v154 val_main_v153 val_main_v152 val_main_cst_25
  pointwise
  rw [Fin.sum_univ_one, Fin.sum_univ_one]
  exact Finset.sum_congr rfl fun r _ => by rw [dus_ref H L, dl_ref H, mul_comm]

omit L in
theorem ref_dwu (l : Fin 64) (c : Fin 512) : val_main_v148 (F := Ideal) a.H a.W a.MU a.WU a.W0 a.DW (ix2 l c) = ∑ r : Fin 2048, (D.TH r.val l.val : EReal) * D.DZ r.val c.val := by
  unfold val_main_v148 val_main_v147
  pointwise
  rw [Fin.sum_univ_one]
  exact Finset.sum_congr rfl fun r _ => by rw [dz_ref H, th_ref H, mul_comm]

omit L in
theorem ref_dw0 (c : Fin 512) : val_main_v168 (F := Ideal) a.H a.W a.MU a.WU a.W0 a.DW (ix2 0 c) = ∑ r : Fin 2048, D.DZ r.val c.val := by
  unfold val_main_v168 val_main_v146
  pointwise
  refine (HostSums.sum_01 _ _ _ c).trans ?_
  unfold val_main_cst_24 val_main_v145 val_main_v144 val_main_cst_23
  pointwise
  rw [Fin.sum_univ_one, Fin.sum_univ_one]
  exact Finset.sum_congr rfl fun r _ => dz_ref H r c

theorem ref_dau (l : Fin 64) (c : Fin 512) : val_main_v136 (F := Ideal) a.H a.W a.MU a.AU a.A0 a.KW a.KA a.DK a.DB a.DKB (ix2 l c) = ∑ r : Fin 2048, (D.LA r.val l.val : EReal) * D.DZA r.val c.val := by
  unfold val_main_v136 val_main_v135
  pointwise
  rw [Fin.sum_univ_one]
  exact Finset.sum_congr rfl fun r _ => by rw [dza_ref H L, la_ref H, mul_comm]

theorem ref_da0 (c : Fin 512) : val_main_v169 (F := Ideal) a.H a.W a.MU a.AU a.A0 a.KW a.KA a.DK a.DB a.DKB (ix2 0 c) = ∑ r : Fin 2048, D.DZA r.val c.val := by
  unfold val_main_v169 val_main_v134
  pointwise
  refine (HostSums.sum_01 _ _ _ c).trans ?_
  unfold val_main_cst_22 val_main_v133 val_main_v132 val_main_cst_21
  pointwise
  rw [Fin.sum_univ_one, Fin.sum_univ_one]
  exact Finset.sum_congr rfl fun r _ => dza_ref H L r c

theorem ref_dkw (c : Fin 512) : val_main_v170 (F := Ideal) a.H a.W a.MU a.AU a.A0 a.KW a.DA a.DB (ix2 0 c) = ∑ r : Fin 2048, ((D.DKK0 r.val c.val * D.K0 r.val c.val : ℝ) : EReal) := by
  unfold val_main_v170 val_main_v130
  pointwise
  refine (HostSums.sum_01 _ _ _ c).trans ?_
  unfold val_main_cst_20 val_main_v126 val_main_v125 val_main_v124 val_main_cst_19
  pointwise
  rw [Fin.sum_univ_one, Fin.sum_univ_one]
  exact Finset.sum_congr rfl fun r _ => by rw [dkk0_col H L, k0_ref H, ← EReal.coe_mul, mul_comm]

omit L in
theorem ref_dka (c : Fin 512) : val_main_v171 (F := Ideal) a.H a.W a.MU a.AU a.A0 a.DK a.DKB (ix2 0 c) = ∑ r : Fin 2048, D.DK r.val c.val * (D.K0 r.val c.val : EReal) * ((D.A r.val c.val - 1 : ℝ) : EReal) := by
  unfold val_main_v171 val_main_v111
  pointwise
  refine (HostSums.sum_01 _ _ _ c).trans ?_
  unfold val_main_cst_17 val_main_v107 val_main_v106 val_main_v105 val_main_v103 val_main_v77 val_main_v76 val_main_cst_14 val_main_cst_16
  pointwise
  rw [Fin.sum_univ_one, Fin.sum_univ_one]
  exact Finset.sum_congr rfl fun r _ => by
    rw [dk_ref H, k0_ref H, a_ref H, ← EReal.coe_one, ← EReal.coe_sub, mul_comm, mul_comm (D.DK _ _)]
end

end Cert.Rwkv

end
-- ==== Proof.RwkvBlock.lean ====
/-
  One grid point of the WKV preparation's backward kernel: the blocks it reads, the values on its way and what it leaves.
-/
module

public import proofs.«01_k».proof.Proof.Gen.Kernel4Ideal.Skeleton
public import Idealize.ShloMosaic.Lib.Tactic
public import Idealize.ShloMosaic.Lib.VecWindow

@[expose] public section

set_option maxRecDepth 16384

noncomputable section

namespace Cert.Rwkv

open Cert.Kernel4Ideal Cert.Kernel4Ideal.Gen Idealize.ShloMosaic Idealize.ShloMosaic.TcCoe Idealize.SL.Sem

variable {F : FTy → Type} [FloatOps F]

/-- The blocks a grid point reads. -/
structure Blk (F : FTy → Type) where
  i : grid0.Coords
  ua : Vec F S256x2176 .f32
  pv : Vec F S1x2176 .f32
  dr : Vec F S256x512 .f32
  dw : Vec F S256x512 .f32
  dk : Vec F S256x512 .f32
  dv : Vec F S256x512 .f32
  da : Vec F S256x512 .f32
  db : Vec F S256x512 .f32
  drb : Vec F S256x512 .f32
  dkb : Vec F S256x512 .f32
  dvb : Vec F S256x512 .f32
  dg : Vec F S256x512 .f32
  mu : Vec F S1x2176 .f32
  wl : Vec F S128x1024 .bf16
  w0 : Vec F S1x512 .f32
  a0 : Vec F S1x512 .f32
  kw : Vec F S1x512 .f32
  ka : Vec F S1x512 .f32

namespace Blk

variable (b : Blk F)

abbrev v15 := k0_pay10 b.wl
abbrev v36 := k0_pay15 (k0_pay11 b.ua) (k0_pay12 b.ua) k0_pay13 (k0_pay14 b.i b.pv)
abbrev v39 := k0_pay16 b.mu (k0_pay11 b.ua) (k0_pay12 b.ua) k0_pay13 (k0_pay14 b.i b.pv)
abbrev v40 := k0_pay17 b.mu (k0_pay11 b.ua) (k0_pay12 b.ua) k0_pay13 (k0_pay14 b.i b.pv)
abbrev v41 := k0_pay18 b.mu (k0_pay11 b.ua) (k0_pay12 b.ua) k0_pay13 (k0_pay14 b.i b.pv)
abbrev v43 := k0_pay19 b.mu (k0_pay11 b.ua) (k0_pay12 b.ua) k0_pay13 (k0_pay14 b.i b.pv)
abbrev v48 := k0_pay20 b.mu (k0_pay11 b.ua) (k0_pay12 b.ua) k0_pay13 (k0_pay14 b.i b.pv)
abbrev v50 := k0_pay21 b.mu b.v15 (k0_pay11 b.ua) (k0_pay12 b.ua) k0_pay13 (k0_pay14 b.i b.pv)
abbrev v60 := k0_pay22 b.mu b.v15 (k0_pay11 b.ua) b.w0 (k0_pay12 b.ua) k0_pay13 (k0_pay14 b.i b.pv)
abbrev v64 := k0_pay23 b.mu b.v15 (k0_pay11 b.ua) b.w0 (k0_pay12 b.ua) k0_pay13 (k0_pay14 b.i b.pv)
abbrev v67 := k0_pay24 b.mu b.v15 (k0_pay11 b.ua) b.w0 (k0_pay12 b.ua) k0_pay13 (k0_pay14 b.i b.pv)
abbrev v77 := k0_pay25 b.mu b.v15 (k0_pay11 b.ua) b.a0 (k0_pay12 b.ua) k0_pay13 (k0_pay14 b.i b.pv)
abbrev v79 := k0_pay26 b.mu b.kw (k0_pay11 b.ua) (k0_pay12 b.ua) k0_pay13 (k0_pay14 b.i b.pv)
abbrev v80 := k0_pay27 b.mu b.kw (k0_pay11 b.ua) (k0_pay12 b.ua) k0_pay13 (k0_pay14 b.i b.pv)
abbrev v93 := k0_pay31 k0_pay9 (k0_pay28 b.mu b.kw (k0_pay11 b.ua) (k0_pay12 b.ua) k0_pay13 (k0_pay14 b.i b.pv))
  (k0_pay29 b.mu b.kw (k0_pay11 b.ua) (k0_pay12 b.ua) k0_pay13 (k0_pay14 b.i b.pv))
  (k0_pay30 b.mu b.kw (k0_pay11 b.ua) (k0_pay12 b.ua) k0_pay13 (k0_pay14 b.i b.pv))
abbrev v106 := k0_pay32 k0_pay9 b.v80
abbrev v119 := k0_pay33 k0_pay9 b.v80
abbrev v130 := k0_pay38 k0_pay9 b.v80
abbrev v131 := k0_pay39 k0_pay9 b.v80
abbrev v133 := k0_pay40 b.v93 b.v106 b.v119 b.v130 b.v131
abbrev v136 := k0_pay41 b.v93 b.v106 b.v119 b.v130 b.v131
abbrev v137 := k0_pay42 b.v79 b.v93 b.v106 b.v119 b.v130 b.v131
abbrev v142 := k0_pay43 b.dk b.dkb
abbrev v148 := k0_pay45 b.v77 b.db b.da
abbrev v153 := k0_pay46 b.ka b.v40 b.v79 b.v93 b.v106 b.v119 b.v130 b.v131 b.dk b.dkb b.db
abbrev v160 := k0_pay47 b.ka b.v77 b.dk b.dkb
abbrev v172 := k0_pay49 b.v93 b.v106 b.v119 b.v130 b.v131
abbrev v186 := k0_pay51 k0_pay9 b.v137 b.v148
abbrev v199 := k0_pay52 k0_pay9 b.v137 b.v148
abbrev v212 := k0_pay53 k0_pay9 b.v137 b.v148
abbrev v217 := k0_pay57 b.v137 b.v148
abbrev v220 := k0_pay58 b.v137 b.v148
abbrev v221 := k0_pay59 k0_pay9 b.v137 b.v148
abbrev v233 := k0_pay60 k0_pay9 b.v133 b.v137 b.v148 b.v172 b.v186 b.v199 b.v212 b.v217 b.v220 b.v221 (constant S256x128 .f32 0x00000000#32 : FVec F S256x128 .f32)
abbrev v236 := k0_pay61 k0_pay9 b.kw b.v133 b.v137 b.v148 b.v160 b.v172 b.v186 b.v199 b.v212 b.v217 b.v220 b.v221 (constant S256x128 .f32 0x00000000#32 : FVec F S256x128 .f32)
abbrev v247 := k0_pay63 b.v77 b.v153
abbrev v262 := k0_pay65 b.v60 b.v64 b.v67 b.dw
abbrev v287 := k0_pay69 b.v15 b.v43 b.v247 b.v262
abbrev v292 := k0_pay70 b.dr b.drb
abbrev v297 := k0_pay71 b.dv b.dvb
abbrev v300 := k0_pay72 b.v236 b.v287 b.v292 b.v297 b.dg
abbrev v309 := k0_pay74 b.mu b.v236 b.v287 b.v292 b.v297 b.dg
/-- The gradient at the projected rows, over the carried row `ca`. -/
abbrev v321 (ca : Vec F S1x2176 .f32) := k0_pay75 b.mu b.v236 b.v287 b.v292 b.v297 b.dg ca

end Blk

/-- What the kernel carries from point to point: seven sums, and the last row that the point after owes the rows above. -/
structure St (F : FTy → Type) where
  dw : Vec F S1024x2176 .f32
  dmu : Vec F S1x2176 .f32
  dl : Vec F S128x1024 .f32
  dw0 : Vec F S1x512 .f32
  da0 : Vec F S1x512 .f32
  dkw : Vec F S1x512 .f32
  dka : Vec F S1x512 .f32
  ca : Vec F S1x2176 .f32

/-- What it clears at its first point. -/
def St.zero : St F := ⟨k0_pay2, k0_pay3, k0_pay4, k0_pay5, k0_pay6, k0_pay7, k0_pay8, k0_pay1⟩

/-- What it carries on from a point of blocks `b` and activations `ht`. -/
def Blk.next (b : Blk F) (ht : Vec F S1024x256 .bf16) (s : St F) : St F where
  dw := k0_pay76 b.mu b.v236 b.v287 b.v292 b.v297 b.dg s.ca s.dw ht
  dmu := k0_pay73 b.v36 b.v236 b.v287 b.v292 b.v297 b.dg s.dmu
  dl := k0_pay68 b.v48 b.v247 b.v262 s.dl
  dw0 := k0_pay66 b.v262 s.dw0
  da0 := k0_pay64 b.v77 b.v153 s.da0
  dkw := k0_pay62 k0_pay9 b.v40 b.v133 b.v137 b.v148 b.v172 b.v186 b.v199 b.v212 b.v217 b.v220 b.v221 (constant S256x128 .f32 0x00000000#32) s.dkw
  dka := k0_pay48 b.v40 b.v77 b.dk b.dkb s.dka
  ca := k0_pay77 b.mu b.v236 b.v287 b.v292 b.v297 b.dg

end Cert.Rwkv

end
-- ==== Proof.RwkvRunFirst.lean ====
/-
  The body of the WKV preparation's backward kernel run at its first point, clearing what it carries.
-/
module

public import proofs.«01_k».proof.Proof.RwkvBlock
public import proofs.«01_k».proof.Proof.Gen.Kernel4Ideal.Frame.Runs

@[expose] public section

set_option maxRecDepth 16384

noncomputable section

namespace Cert.Rwkv

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- At its first point the kernel clears what it carries, then adds the point to it. -/
theorem run_first (c : Dev nD) (b : Blk F) (x1 : Vec F S8x2176 .f32) (ht : Vec F S1024x256 .bf16)
    (arg1 : Memref sig .tc .vmem S256x2176 .f32) (harg1 : arg1.IsWhole) (arg2 : Memref sig .tc .vmem S8x2176 .f32) (harg2 : arg2.IsWhole) (arg3 : Memref sig .tc .vmem S1024x256 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S1x2176 .f32) (harg14 : arg14.IsWhole) (arg15 : Memref sig .tc .vmem S128x1024 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S256x2176 .f32) (harg20 : arg20.IsWhole) (arg21 : Memref sig .tc .vmem S1024x2176 .f32) (harg21 : arg21.IsWhole) (arg22 : Memref sig .tc .vmem S1x2176 .f32) (harg22 : arg22.IsWhole) (arg23 : Memref sig .tc .vmem S128x1024 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x2176 .f32) (harg28 : arg28.IsWhole)
    (hc : cond0_0 b.i) (hp : b.pv = View.ld x1 (Rect.unit (s := S8x2176) ![7, 0] ![1, 2176] inb_S8x2176_S1x2176_7_0)) (E : Set ℕ) (K : PUnit → sProp 𝕄) :
    iprop(owns (c : Thread nD τ) arg1 fullShare b.ua ∗ owns (c : Thread nD τ) arg2 fullShare x1 ∗ owns (c : Thread nD τ) arg3 fullShare ht ∗ owns (c : Thread nD τ) arg4 fullShare b.dr ∗ owns (c : Thread nD τ) arg5 fullShare b.dw ∗ owns (c : Thread nD τ) arg6 fullShare b.dk ∗ owns (c : Thread nD τ) arg7 fullShare b.dv ∗ owns (c : Thread nD τ) arg8 fullShare b.da ∗ owns (c : Thread nD τ) arg9 fullShare b.db ∗ owns (c : Thread nD τ) arg10 fullShare b.drb ∗ owns (c : Thread nD τ) arg11 fullShare b.dkb ∗ owns (c : Thread nD τ) arg12 fullShare b.dvb ∗ owns (c : Thread nD τ) arg13 fullShare b.dg ∗ owns (c : Thread nD τ) arg14 fullShare b.mu ∗ owns (c : Thread nD τ) arg15 fullShare b.wl ∗ owns (c : Thread nD τ) arg16 fullShare b.w0 ∗ owns (c : Thread nD τ) arg17 fullShare b.a0 ∗ owns (c : Thread nD τ) arg18 fullShare b.kw ∗ owns (c : Thread nD τ) arg19 fullShare b.ka ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare b.ua ∗ owns (c : Thread nD τ) arg2 fullShare x1 ∗ owns (c : Thread nD τ) arg3 fullShare ht ∗ owns (c : Thread nD τ) arg4 fullShare b.dr ∗ owns (c : Thread nD τ) arg5 fullShare b.dw ∗ owns (c : Thread nD τ) arg6 fullShare b.dk ∗ owns (c : Thread nD τ) arg7 fullShare b.dv ∗ owns (c : Thread nD τ) arg8 fullShare b.da ∗ owns (c : Thread nD τ) arg9 fullShare b.db ∗ owns (c : Thread nD τ) arg10 fullShare b.drb ∗ owns (c : Thread nD τ) arg11 fullShare b.dkb ∗ owns (c : Thread nD τ) arg12 fullShare b.dvb ∗ owns (c : Thread nD τ) arg13 fullShare b.dg ∗ owns (c : Thread nD τ) arg14 fullShare b.mu ∗ owns (c : Thread nD τ) arg15 fullShare b.wl ∗ owns (c : Thread nD τ) arg16 fullShare b.w0 ∗ owns (c : Thread nD τ) arg17 fullShare b.a0 ∗ owns (c : Thread nD τ) arg18 fullShare b.kw ∗ owns (c : Thread nD τ) arg19 fullShare b.ka ∗ owns (c : Thread nD τ) arg20 fullShare (b.v321 St.zero.ca) ∗ owns (c : Thread nD τ) arg21 fullShare (b.next ht St.zero).dw ∗ owns (c : Thread nD τ) arg22 fullShare (b.next ht St.zero).dmu ∗ owns (c : Thread nD τ) arg23 fullShare (b.next ht St.zero).dl ∗ owns (c : Thread nD τ) arg24 fullShare (b.next ht St.zero).dw0 ∗ owns (c : Thread nD τ) arg25 fullShare (b.next ht St.zero).da0 ∗ owns (c : Thread nD τ) arg26 fullShare (b.next ht St.zero).dkw ∗ owns (c : Thread nD τ) arg27 fullShare (b.next ht St.zero).dka ∗ owns (c : Thread nD τ) arg28 fullShare (b.next ht St.zero).ca) -∗ K ⟨⟩))
      ⊢ wp frame (wpE (defs₀ (F := F)) Variants.none c none) E (cc0_rwkv_prep_bwd b.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_rwkv_prep_bwd_eq_skeleton]; unfold cc0_rwkv_prep_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  have r0 : arg1.view.readAt (Elt F) (Rect.unit (s := S256x2176) ![0, 0] ![256, 2176] inb_S256x2176_S256x2176_0_0).toLoadRect (harg1.unread b.ua) = b.ua := (View.readAt_full _ _ _).trans (harg1.read_unread _)
  have r2 : arg3.view.readAt (Elt F) (Rect.unit (s := S1024x256) ![0, 0] ![1024, 256] inb_S1024x256_S1024x256_0_0).toLoadRect (harg3.unread ht) = ht := (View.readAt_full _ _ _).trans (harg3.read_unread _)
  have r3 : arg4.view.readAt (Elt F) (Rect.unit (s := S256x512) ![0, 0] ![256, 512] inb_S256x512_S256x512_0_0).toLoadRect (harg4.unread b.dr) = b.dr := (View.readAt_full _ _ _).trans (harg4.read_unread _)
  have r4 : arg5.view.readAt (Elt F) (Rect.unit (s := S256x512) ![0, 0] ![256, 512] inb_S256x512_S256x512_0_0).toLoadRect (harg5.unread b.dw) = b.dw := (View.readAt_full _ _ _).trans (harg5.read_unread _)
  have r5 : arg6.view.readAt (Elt F) (Rect.unit (s := S256x512) ![0, 0] ![256, 512] inb_S256x512_S256x512_0_0).toLoadRect (harg6.unread b.dk) = b.dk := (View.readAt_full _ _ _).trans (harg6.read_unread _)
  have r6 : arg7.view.readAt (Elt F) (Rect.unit (s := S256x512) ![0, 0] ![256, 512] inb_S256x512_S256x512_0_0).toLoadRect (harg7.unread b.dv) = b.dv := (View.readAt_full _ _ _).trans (harg7.read_unread _)
  have r7 : arg8.view.readAt (Elt F) (Rect.unit (s := S256x512) ![0, 0] ![256, 512] inb_S256x512_S256x512_0_0).toLoadRect (harg8.unread b.da) = b.da := (View.readAt_full _ _ _).trans (harg8.read_unread _)
  have r8 : arg9.view.readAt (Elt F) (Rect.unit (s := S256x512) ![0, 0] ![256, 512] inb_S256x512_S256x512_0_0).toLoadRect (harg9.unread b.db) = b.db := (View.readAt_full _ _ _).trans (harg9.read_unread _)
  have r9 : arg10.view.readAt (Elt F) (Rect.unit (s := S256x512) ![0, 0] ![256, 512] inb_S256x512_S256x512_0_0).toLoadRect (harg10.unread b.drb) = b.drb := (View.readAt_full _ _ _).trans (harg10.read_unread _)
  have r10 : arg11.view.readAt (Elt F) (Rect.unit (s := S256x512) ![0, 0] ![256, 512] inb_S256x512_S256x512_0_0).toLoadRect (harg11.unread b.dkb) = b.dkb := (View.readAt_full _ _ _).trans (harg11.read_unread _)
  have r11 : arg12.view.readAt (Elt F) (Rect.unit (s := S256x512) ![0, 0] ![256, 512] inb_S256x512_S256x512_0_0).toLoadRect (harg12.unread b.dvb) = b.dvb := (View.readAt_full _ _ _).trans (harg12.read_unread _)
  have r12 : arg13.view.readAt (Elt F) (Rect.unit (s := S256x512) ![0, 0] ![256, 512] inb_S256x512_S256x512_0_0).toLoadRect (harg13.unread b.dg) = b.dg := (View.readAt_full _ _ _).trans (harg13.read_unread _)
  have r13 : arg14.view.readAt (Elt F) (Rect.unit (s := S1x2176) ![0, 0] ![1, 2176] inb_S1x2176_S1x2176_0_0).toLoadRect (harg14.unread b.mu) = b.mu := (View.readAt_full _ _ _).trans (harg14.read_unread _)
  have r14 : arg15.view.readAt (Elt F) (Rect.unit (s := S128x1024) ![0, 0] ![128, 1024] inb_S128x1024_S128x1024_0_0).toLoadRect (harg15.unread b.wl) = b.wl := (View.readAt_full _ _ _).trans (harg15.read_unread _)
  have r15 : arg16.view.readAt (Elt F) (Rect.unit (s := S1x512) ![0, 0] ![1, 512] inb_S1x512_S1x512_0_0).toLoadRect (harg16.unread b.w0) = b.w0 := (View.readAt_full _ _ _).trans (harg16.read_unread _)
  have r16 : arg17.view.readAt (Elt F) (Rect.unit (s := S1x512) ![0, 0] ![1, 512] inb_S1x512_S1x512_0_0).toLoadRect (harg17.unread b.a0) = b.a0 := (View.readAt_full _ _ _).trans (harg17.read_unread _)
  have r17 : arg18.view.readAt (Elt F) (Rect.unit (s := S1x512) ![0, 0] ![1, 512] inb_S1x512_S1x512_0_0).toLoadRect (harg18.unread b.kw) = b.kw := (View.readAt_full _ _ _).trans (harg18.read_unread _)
  have r18 : arg19.view.readAt (Elt F) (Rect.unit (s := S1x512) ![0, 0] ![1, 512] inb_S1x512_S1x512_0_0).toLoadRect (harg19.unread b.ka) = b.ka := (View.readAt_full _ _ _).trans (harg19.read_unread _)
  have q20 : ∀ w L, arg21.view.readCov (Val := Elt F) (⟨(Rect.unit (s := S1024x2176) ![0, 0] ![1024, 2176] inb_S1024x2176_S1024x2176_0_0), w⟩ :: L) (Rect.unit (s := S1024x2176) ![0, 0] ![1024, 2176] inb_S1024x2176_S1024x2176_0_0).toLoadRect = w := fun w L => View.readCov_full _ _ _ w L
  have q21 : ∀ w L, arg22.view.readCov (Val := Elt F) (⟨(Rect.unit (s := S1x2176) ![0, 0] ![1, 2176] inb_S1x2176_S1x2176_0_0), w⟩ :: L) (Rect.unit (s := S1x2176) ![0, 0] ![1, 2176] inb_S1x2176_S1x2176_0_0).toLoadRect = w := fun w L => View.readCov_full _ _ _ w L
  have q22 : ∀ w L, arg23.view.readCov (Val := Elt F) (⟨(Rect.unit (s := S128x1024) ![0, 0] ![128, 1024] inb_S128x1024_S128x1024_0_0), w⟩ :: L) (Rect.unit (s := S128x1024) ![0, 0] ![128, 1024] inb_S128x1024_S128x1024_0_0).toLoadRect = w := fun w L => View.readCov_full _ _ _ w L
  have q23 : ∀ w L, arg24.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q24 : ∀ w L, arg25.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q25 : ∀ w L, arg26.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q26 : ∀ w L, arg27.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q27 : ∀ w L, arg28.view.readCov (Val := Elt F) (⟨(Rect.unit (s := S1x2176) ![0, 0] ![1, 2176] inb_S1x2176_S1x2176_0_0), w⟩ :: L) (Rect.unit (s := S1x2176) ![0, 0] ![1, 2176] inb_S1x2176_S1x2176_0_0).toLoadRect = w := fun w L => View.readCov_full _ _ _ w L
  have hv : arg2.view.readAt (Elt F) (Rect.unit (s := S8x2176) ![7, 0] ![1, 2176] inb_S8x2176_S1x2176_7_0).toLoadRect (harg2.unread x1) = b.pv := by
    rw [View.readAt_eq_ld, harg2.read_unread]; exact hp.symm
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr
    swap; · iexact H19
    ipureintro; refine (View.read_writes_full _ _ _ _ _).trans ?_
    sl_unfold_run_names
    rfl
  isplitl [H20]
  · iexists _; isplitr
    swap; · iexact H20
    ipureintro; refine (View.read_writes_full _ _ _ _ _).trans ?_
    sl_unfold_run_names
    rfl
  isplitl [H21]
  · iexists _; isplitr
    swap; · iexact H21
    ipureintro; refine (View.read_writes_full _ _ _ _ _).trans ?_
    sl_unfold_run_names
    rfl
  isplitl [H22]
  · iexists _; isplitr
    swap; · iexact H22
    ipureintro; refine (View.read_writes_full _ _ _ _ _).trans ?_
    sl_unfold_run_names
    rfl
  isplitl [H23]
  · iexists _; isplitr
    swap; · iexact H23
    ipureintro; refine (View.read_writes_full _ _ _ _ _).trans ?_
    sl_unfold_run_names
    rfl
  isplitl [H24]
  · iexists _; isplitr
    swap; · iexact H24
    ipureintro; refine (View.read_writes_full _ _ _ _ _).trans ?_
    sl_unfold_run_names
    rfl
  isplitl [H25]
  · iexists _; isplitr
    swap; · iexact H25
    ipureintro; refine (View.read_writes_full _ _ _ _ _).trans ?_
    sl_unfold_run_names
    rfl
  isplitl [H26]
  · iexists _; isplitr
    swap; · iexact H26
    ipureintro; refine (View.read_writes_full _ _ _ _ _).trans ?_
    sl_unfold_run_names
    rfl
  iexists _; isplitr
  swap; · iexact H27
  ipureintro; refine (View.read_writes_full _ _ _ _ _).trans ?_
  sl_unfold_run_names
  rfl

end Cert.Rwkv

end
-- ==== Proof.RwkvRunLater.lean ====
/-
  The body of the WKV preparation's backward kernel run at a later point, carrying on.
-/
module

public import proofs.«01_k».proof.Proof.RwkvBlock
public import proofs.«01_k».proof.Proof.Gen.Kernel4Ideal.Frame.Runs

@[expose] public section

set_option maxRecDepth 16384

noncomputable section

namespace Cert.Rwkv

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- At a later point the kernel adds the point to what it carries. -/
theorem run_later (c : Dev nD) (b : Blk F) (x1 : Vec F S8x2176 .f32) (ht : Vec F S1024x256 .bf16) (s : St F)
    (arg1 : Memref sig .tc .vmem S256x2176 .f32) (harg1 : arg1.IsWhole) (arg2 : Memref sig .tc .vmem S8x2176 .f32) (harg2 : arg2.IsWhole) (arg3 : Memref sig .tc .vmem S1024x256 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S1x2176 .f32) (harg14 : arg14.IsWhole) (arg15 : Memref sig .tc .vmem S128x1024 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S256x2176 .f32) (harg20 : arg20.IsWhole) (arg21 : Memref sig .tc .vmem S1024x2176 .f32) (harg21 : arg21.IsWhole) (arg22 : Memref sig .tc .vmem S1x2176 .f32) (harg22 : arg22.IsWhole) (arg23 : Memref sig .tc .vmem S128x1024 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x2176 .f32) (harg28 : arg28.IsWhole)
    (hc : ¬cond0_0 b.i) (hp : b.pv = View.ld x1 (Rect.unit (s := S8x2176) ![7, 0] ![1, 2176] inb_S8x2176_S1x2176_7_0)) (E : Set ℕ) (K : PUnit → sProp 𝕄) :
    iprop(owns (c : Thread nD τ) arg1 fullShare b.ua ∗ owns (c : Thread nD τ) arg2 fullShare x1 ∗ owns (c : Thread nD τ) arg3 fullShare ht ∗ owns (c : Thread nD τ) arg4 fullShare b.dr ∗ owns (c : Thread nD τ) arg5 fullShare b.dw ∗ owns (c : Thread nD τ) arg6 fullShare b.dk ∗ owns (c : Thread nD τ) arg7 fullShare b.dv ∗ owns (c : Thread nD τ) arg8 fullShare b.da ∗ owns (c : Thread nD τ) arg9 fullShare b.db ∗ owns (c : Thread nD τ) arg10 fullShare b.drb ∗ owns (c : Thread nD τ) arg11 fullShare b.dkb ∗ owns (c : Thread nD τ) arg12 fullShare b.dvb ∗ owns (c : Thread nD τ) arg13 fullShare b.dg ∗ owns (c : Thread nD τ) arg14 fullShare b.mu ∗ owns (c : Thread nD τ) arg15 fullShare b.wl ∗ owns (c : Thread nD τ) arg16 fullShare b.w0 ∗ owns (c : Thread nD τ) arg17 fullShare b.a0 ∗ owns (c : Thread nD τ) arg18 fullShare b.kw ∗ owns (c : Thread nD τ) arg19 fullShare b.ka ∗ (∃ d, owns (c : Thread nD τ) arg20 fullShare d) ∗ owns (c : Thread nD τ) arg21 fullShare s.dw ∗ owns (c : Thread nD τ) arg22 fullShare s.dmu ∗ owns (c : Thread nD τ) arg23 fullShare s.dl ∗ owns (c : Thread nD τ) arg24 fullShare s.dw0 ∗ owns (c : Thread nD τ) arg25 fullShare s.da0 ∗ owns (c : Thread nD τ) arg26 fullShare s.dkw ∗ owns (c : Thread nD τ) arg27 fullShare s.dka ∗ owns (c : Thread nD τ) arg28 fullShare s.ca
        ∗ (iprop(owns (c : Thread nD τ) arg1 fullShare b.ua ∗ owns (c : Thread nD τ) arg2 fullShare x1 ∗ owns (c : Thread nD τ) arg3 fullShare ht ∗ owns (c : Thread nD τ) arg4 fullShare b.dr ∗ owns (c : Thread nD τ) arg5 fullShare b.dw ∗ owns (c : Thread nD τ) arg6 fullShare b.dk ∗ owns (c : Thread nD τ) arg7 fullShare b.dv ∗ owns (c : Thread nD τ) arg8 fullShare b.da ∗ owns (c : Thread nD τ) arg9 fullShare b.db ∗ owns (c : Thread nD τ) arg10 fullShare b.drb ∗ owns (c : Thread nD τ) arg11 fullShare b.dkb ∗ owns (c : Thread nD τ) arg12 fullShare b.dvb ∗ owns (c : Thread nD τ) arg13 fullShare b.dg ∗ owns (c : Thread nD τ) arg14 fullShare b.mu ∗ owns (c : Thread nD τ) arg15 fullShare b.wl ∗ owns (c : Thread nD τ) arg16 fullShare b.w0 ∗ owns (c : Thread nD τ) arg17 fullShare b.a0 ∗ owns (c : Thread nD τ) arg18 fullShare b.kw ∗ owns (c : Thread nD τ) arg19 fullShare b.ka ∗ owns (c : Thread nD τ) arg20 fullShare (b.v321 s.ca) ∗ owns (c : Thread nD τ) arg21 fullShare (b.next ht s).dw ∗ owns (c : Thread nD τ) arg22 fullShare (b.next ht s).dmu ∗ owns (c : Thread nD τ) arg23 fullShare (b.next ht s).dl ∗ owns (c : Thread nD τ) arg24 fullShare (b.next ht s).dw0 ∗ owns (c : Thread nD τ) arg25 fullShare (b.next ht s).da0 ∗ owns (c : Thread nD τ) arg26 fullShare (b.next ht s).dkw ∗ owns (c : Thread nD τ) arg27 fullShare (b.next ht s).dka ∗ owns (c : Thread nD τ) arg28 fullShare (b.next ht s).ca) -∗ K ⟨⟩))
      ⊢ wp frame (wpE (defs₀ (F := F)) Variants.none c none) E (cc0_rwkv_prep_bwd b.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_rwkv_prep_bwd_eq_skeleton]; unfold cc0_rwkv_prep_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27
  have r0 : arg1.view.readAt (Elt F) (Rect.unit (s := S256x2176) ![0, 0] ![256, 2176] inb_S256x2176_S256x2176_0_0).toLoadRect (harg1.unread b.ua) = b.ua := (View.readAt_full _ _ _).trans (harg1.read_unread _)
  have r2 : arg3.view.readAt (Elt F) (Rect.unit (s := S1024x256) ![0, 0] ![1024, 256] inb_S1024x256_S1024x256_0_0).toLoadRect (harg3.unread ht) = ht := (View.readAt_full _ _ _).trans (harg3.read_unread _)
  have r3 : arg4.view.readAt (Elt F) (Rect.unit (s := S256x512) ![0, 0] ![256, 512] inb_S256x512_S256x512_0_0).toLoadRect (harg4.unread b.dr) = b.dr := (View.readAt_full _ _ _).trans (harg4.read_unread _)
  have r4 : arg5.view.readAt (Elt F) (Rect.unit (s := S256x512) ![0, 0] ![256, 512] inb_S256x512_S256x512_0_0).toLoadRect (harg5.unread b.dw) = b.dw := (View.readAt_full _ _ _).trans (harg5.read_unread _)
  have r5 : arg6.view.readAt (Elt F) (Rect.unit (s := S256x512) ![0, 0] ![256, 512] inb_S256x512_S256x512_0_0).toLoadRect (harg6.unread b.dk) = b.dk := (View.readAt_full _ _ _).trans (harg6.read_unread _)
  have r6 : arg7.view.readAt (Elt F) (Rect.unit (s := S256x512) ![0, 0] ![256, 512] inb_S256x512_S256x512_0_0).toLoadRect (harg7.unread b.dv) = b.dv := (View.readAt_full _ _ _).trans (harg7.read_unread _)
  have r7 : arg8.view.readAt (Elt F) (Rect.unit (s := S256x512) ![0, 0] ![256, 512] inb_S256x512_S256x512_0_0).toLoadRect (harg8.unread b.da) = b.da := (View.readAt_full _ _ _).trans (harg8.read_unread _)
  have r8 : arg9.view.readAt (Elt F) (Rect.unit (s := S256x512) ![0, 0] ![256, 512] inb_S256x512_S256x512_0_0).toLoadRect (harg9.unread b.db) = b.db := (View.readAt_full _ _ _).trans (harg9.read_unread _)
  have r9 : arg10.view.readAt (Elt F) (Rect.unit (s := S256x512) ![0, 0] ![256, 512] inb_S256x512_S256x512_0_0).toLoadRect (harg10.unread b.drb) = b.drb := (View.readAt_full _ _ _).trans (harg10.read_unread _)
  have r10 : arg11.view.readAt (Elt F) (Rect.unit (s := S256x512) ![0, 0] ![256, 512] inb_S256x512_S256x512_0_0).toLoadRect (harg11.unread b.dkb) = b.dkb := (View.readAt_full _ _ _).trans (harg11.read_unread _)
  have r11 : arg12.view.readAt (Elt F) (Rect.unit (s := S256x512) ![0, 0] ![256, 512] inb_S256x512_S256x512_0_0).toLoadRect (harg12.unread b.dvb) = b.dvb := (View.readAt_full _ _ _).trans (harg12.read_unread _)
  have r12 : arg13.view.readAt (Elt F) (Rect.unit (s := S256x512) ![0, 0] ![256, 512] inb_S256x512_S256x512_0_0).toLoadRect (harg13.unread b.dg) = b.dg := (View.readAt_full _ _ _).trans (harg13.read_unread _)
  have r13 : arg14.view.readAt (Elt F) (Rect.unit (s := S1x2176) ![0, 0] ![1, 2176] inb_S1x2176_S1x2176_0_0).toLoadRect (harg14.unread b.mu) = b.mu := (View.readAt_full _ _ _).trans (harg14.read_unread _)
  have r14 : arg15.view.readAt (Elt F) (Rect.unit (s := S128x1024) ![0, 0] ![128, 1024] inb_S128x1024_S128x1024_0_0).toLoadRect (harg15.unread b.wl) = b.wl := (View.readAt_full _ _ _).trans (harg15.read_unread _)
  have r15 : arg16.view.readAt (Elt F) (Rect.unit (s := S1x512) ![0, 0] ![1, 512] inb_S1x512_S1x512_0_0).toLoadRect (harg16.unread b.w0) = b.w0 := (View.readAt_full _ _ _).trans (harg16.read_unread _)
  have r16 : arg17.view.readAt (Elt F) (Rect.unit (s := S1x512) ![0, 0] ![1, 512] inb_S1x512_S1x512_0_0).toLoadRect (harg17.unread b.a0) = b.a0 := (View.readAt_full _ _ _).trans (harg17.read_unread _)
  have r17 : arg18.view.readAt (Elt F) (Rect.unit (s := S1x512) ![0, 0] ![1, 512] inb_S1x512_S1x512_0_0).toLoadRect (harg18.unread b.kw) = b.kw := (View.readAt_full _ _ _).trans (harg18.read_unread _)
  have r18 : arg19.view.readAt (Elt F) (Rect.unit (s := S1x512) ![0, 0] ![1, 512] inb_S1x512_S1x512_0_0).toLoadRect (harg19.unread b.ka) = b.ka := (View.readAt_full _ _ _).trans (harg19.read_unread _)
  have r20 : arg21.view.readAt (Elt F) (Rect.unit (s := S1024x2176) ![0, 0] ![1024, 2176] inb_S1024x2176_S1024x2176_0_0).toLoadRect (harg21.unread s.dw) = s.dw := (View.readAt_full _ _ _).trans (harg21.read_unread _)
  have r21 : arg22.view.readAt (Elt F) (Rect.unit (s := S1x2176) ![0, 0] ![1, 2176] inb_S1x2176_S1x2176_0_0).toLoadRect (harg22.unread s.dmu) = s.dmu := (View.readAt_full _ _ _).trans (harg22.read_unread _)
  have r22 : arg23.view.readAt (Elt F) (Rect.unit (s := S128x1024) ![0, 0] ![128, 1024] inb_S128x1024_S128x1024_0_0).toLoadRect (harg23.unread s.dl) = s.dl := (View.readAt_full _ _ _).trans (harg23.read_unread _)
  have r23 : arg24.view.readAt (Elt F) (Rect.unit (s := S1x512) ![0, 0] ![1, 512] inb_S1x512_S1x512_0_0).toLoadRect (harg24.unread s.dw0) = s.dw0 := (View.readAt_full _ _ _).trans (harg24.read_unread _)
  have r24 : arg25.view.readAt (Elt F) (Rect.unit (s := S1x512) ![0, 0] ![1, 512] inb_S1x512_S1x512_0_0).toLoadRect (harg25.unread s.da0) = s.da0 := (View.readAt_full _ _ _).trans (harg25.read_unread _)
  have r25 : arg26.view.readAt (Elt F) (Rect.unit (s := S1x512) ![0, 0] ![1, 512] inb_S1x512_S1x512_0_0).toLoadRect (harg26.unread s.dkw) = s.dkw := (View.readAt_full _ _ _).trans (harg26.read_unread _)
  have r26 : arg27.view.readAt (Elt F) (Rect.unit (s := S1x512) ![0, 0] ![1, 512] inb_S1x512_S1x512_0_0).toLoadRect (harg27.unread s.dka) = s.dka := (View.readAt_full _ _ _).trans (harg27.read_unread _)
  have r27 : arg28.view.readAt (Elt F) (Rect.unit (s := S1x2176) ![0, 0] ![1, 2176] inb_S1x2176_S1x2176_0_0).toLoadRect (harg28.unread s.ca) = s.ca := (View.readAt_full _ _ _).trans (harg28.read_unread _)
  have hv : arg2.view.readAt (Elt F) (Rect.unit (s := S8x2176) ![7, 0] ![1, 2176] inb_S8x2176_S1x2176_7_0).toLoadRect (harg2.unread x1) = b.pv := by
    rw [View.readAt_eq_ld, harg2.read_unread]; exact hp.symm
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr
    swap; · iexact H19
    ipureintro; refine (View.read_writes_full _ _ _ _ _).trans ?_
    sl_unfold_run_names
    rfl
  isplitl [H20]
  · iexists _; isplitr
    swap; · iexact H20
    ipureintro; refine (View.read_writes_full _ _ _ _ _).trans ?_
    sl_unfold_run_names
    rfl
  isplitl [H21]
  · iexists _; isplitr
    swap; · iexact H21
    ipureintro; refine (View.read_writes_full _ _ _ _ _).trans ?_
    sl_unfold_run_names
    rfl
  isplitl [H22]
  · iexists _; isplitr
    swap; · iexact H22
    ipureintro; refine (View.read_writes_full _ _ _ _ _).trans ?_
    sl_unfold_run_names
    rfl
  isplitl [H23]
  · iexists _; isplitr
    swap; · iexact H23
    ipureintro; refine (View.read_writes_full _ _ _ _ _).trans ?_
    sl_unfold_run_names
    rfl
  isplitl [H24]
  · iexists _; isplitr
    swap; · iexact H24
    ipureintro; refine (View.read_writes_full _ _ _ _ _).trans ?_
    sl_unfold_run_names
    rfl
  isplitl [H25]
  · iexists _; isplitr
    swap; · iexact H25
    ipureintro; refine (View.read_writes_full _ _ _ _ _).trans ?_
    sl_unfold_run_names
    rfl
  isplitl [H26]
  · iexists _; isplitr
    swap; · iexact H26
    ipureintro; refine (View.read_writes_full _ _ _ _ _).trans ?_
    sl_unfold_run_names
    rfl
  iexists _; isplitr
  swap; · iexact H27
  ipureintro; refine (View.read_writes_full _ _ _ _ _).trans ?_
  sl_unfold_run_names
  rfl

end Cert.Rwkv

end
-- ==== Proof.RwkvFrame.lean ====
/-
  The WKV preparation's backward kernel, point by point: what its buffers hold before and after each grid point, and the
  run of the whole call.
-/
module

public import proofs.«01_k».proof.Proof.RwkvRunFirst
public import proofs.«01_k».proof.Proof.RwkvRunLater
public import Idealize.ShloMosaic.Lib.Quiescent
public import Idealize.ShloMosaic.Lib.Claim

@[expose] public section

set_option maxRecDepth 16384

noncomputable section

namespace Cert.Rwkv

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that a point reads. -/
def blk (c : Dev nD) (t : Fin cfg0.N) : Blk F where
  i := grid0.coords t
  ua := iblk m c 0 t
  pv := View.ld (iblk m c 1 t) (Rect.unit (s := S8x2176) ![7, 0] ![1, 2176] inb_S8x2176_S1x2176_7_0)
  dr := iblk m c 3 t
  dw := iblk m c 4 t
  dk := iblk m c 5 t
  dv := iblk m c 6 t
  da := iblk m c 7 t
  db := iblk m c 8 t
  drb := iblk m c 9 t
  dkb := iblk m c 10 t
  dvb := iblk m c 11 t
  dg := iblk m c 12 t
  mu := iblk m c 13 t
  wl := iblk m c 14 t
  w0 := iblk m c 15 t
  a0 := iblk m c 16 t
  kw := iblk m c 17 t
  ka := iblk m c 18 t

/-- What the kernel carries once `n` points are done. -/
def kept (c : Dev nD) : (n : ℕ) → n ≤ cfg0.N → St F
  | 0, _ => St.zero
  | n + 1, h => (blk m c ⟨n, h⟩).next (iblk m c 2 ⟨n, h⟩) (kept c n (Nat.le_of_lt h))

theorem kept_zero (c : Dev nD) (n : ℕ) (h : n ≤ cfg0.N) (hz : n = 0) : kept m c n h = St.zero := by subst hz; rfl
theorem kept_succ (c : Dev nD) (t : Fin cfg0.N) : kept m c (t.val + 1) t.isLt = (blk m c t).next (iblk m c 2 t) (kept m c t.val (Nat.le_of_lt t.isLt)) := rfl
theorem kept_pred (c : Dev nD) (t : Fin cfg0.N) (hz : ¬t.val = 0) (h) : kept m c (t.val - 1 + 1) h = kept m c t.val (Nat.le_of_lt t.isLt) := by
  simp only [Nat.sub_add_cancel (Nat.one_le_iff_ne_zero.mpr hz)]

/-- Before the first point the carried row is anything; afterwards it is what the points so far leave. -/
def Inv (c : Dev nD) : (n : ℕ) → n ≤ cfg0.N → sProp 𝕄
  | 0, _ => Pipeline.ΦA spec0 c
  | n + 1, hn => iprop(iprop(owns (c : Thread nD τ) scM0_0 fullShare (kept m c (n + 1) hn).ca) ∗ (∃ r, prngReg c r))

theorem Inv_zero (c : Dev nD) (n : ℕ) (h : n ≤ cfg0.N) (hz : n = 0) : Inv m c n h = Pipeline.ΦA spec0 c := by
  subst hz; rfl
theorem Inv_pos (c : Dev nD) (n : ℕ) (h : n ≤ cfg0.N) (hz : n ≠ 0) :
    Inv m c n h = iprop(iprop(owns (c : Thread nD τ) scM0_0 fullShare (kept m c n h).ca) ∗ (∃ r, prngReg c r)) := by
  cases n with
  | zero => exact absurd rfl hz
  | succ n => rfl

/-- The pipeline's proof data: the arrays as found, each input's buffer at its block, each output's at what the kernel
    has computed after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (blk m c t).v321 (kept m c t.val (Nat.le_of_lt t.isLt)).ca
    | ⟨20, _⟩ => (kept m c (t.val + 1) t.isLt).dw
    | ⟨21, _⟩ => (kept m c (t.val + 1) t.isLt).dmu
    | ⟨22, _⟩ => (kept m c (t.val + 1) t.isLt).dl
    | ⟨23, _⟩ => (kept m c (t.val + 1) t.isLt).dw0
    | ⟨24, _⟩ => (kept m c (t.val + 1) t.isLt).da0
    | ⟨25, _⟩ => (kept m c (t.val + 1) t.isLt).dkw
    | ⟨26, _⟩ => (kept m c (t.val + 1) t.isLt).dka
    | ⟨_ + 27, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = (blk m c t).v321 (kept m c t.val (Nat.le_of_lt t.isLt)).ca := by dsimp only [dats]
theorem after_20 (c : Dev nD) (t : Fin cfg0.N) : (dats m 0 c).after 20 t = (kept m c (t.val + 1) t.isLt).dw := by dsimp only [dats]
theorem after_21 (c : Dev nD) (t : Fin cfg0.N) : (dats m 0 c).after 21 t = (kept m c (t.val + 1) t.isLt).dmu := by dsimp only [dats]
theorem after_22 (c : Dev nD) (t : Fin cfg0.N) : (dats m 0 c).after 22 t = (kept m c (t.val + 1) t.isLt).dl := by dsimp only [dats]
theorem after_23 (c : Dev nD) (t : Fin cfg0.N) : (dats m 0 c).after 23 t = (kept m c (t.val + 1) t.isLt).dw0 := by dsimp only [dats]
theorem after_24 (c : Dev nD) (t : Fin cfg0.N) : (dats m 0 c).after 24 t = (kept m c (t.val + 1) t.isLt).da0 := by dsimp only [dats]
theorem after_25 (c : Dev nD) (t : Fin cfg0.N) : (dats m 0 c).after 25 t = (kept m c (t.val + 1) t.isLt).dkw := by dsimp only [dats]
theorem after_26 (c : Dev nD) (t : Fin cfg0.N) : (dats m 0 c).after 26 t = (kept m c (t.val + 1) t.isLt).dka := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_20 (c : Dev nD) (t : Fin cfg0.N) (hz : ¬t.val = 0) (d) : (dats m 0 c).before 20 t d = (kept m c t.val (Nat.le_of_lt t.isLt)).dw := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl), after_20, kept_pred m c t hz]
theorem before_21 (c : Dev nD) (t : Fin cfg0.N) (hz : ¬t.val = 0) (d) : (dats m 0 c).before 21 t d = (kept m c t.val (Nat.le_of_lt t.isLt)).dmu := by
  have hN : t.val < 8 := lt_of_lt_of_eq t.isLt (show cfg0.N = 8 from N_0)
  rw [Dat.before_out_kept _ 21 rfl t (by omega) (Bool.eq_false_iff.mpr fun h => by have := (flush0_21 _).mp h; dsimp only at this; omega)
    (fun _ => rfl) (fun _ _ => rfl), after_21, kept_pred m c t hz]
theorem before_22 (c : Dev nD) (t : Fin cfg0.N) (hz : ¬t.val = 0) (d) : (dats m 0 c).before 22 t d = (kept m c t.val (Nat.le_of_lt t.isLt)).dl := by
  have hN : t.val < 8 := lt_of_lt_of_eq t.isLt (show cfg0.N = 8 from N_0)
  rw [Dat.before_out_kept _ 22 rfl t (by omega) (Bool.eq_false_iff.mpr fun h => by have := (flush0_22 _).mp h; dsimp only at this; omega)
    (fun _ => rfl) (fun _ _ => rfl), after_22, kept_pred m c t hz]
theorem before_23 (c : Dev nD) (t : Fin cfg0.N) (hz : ¬t.val = 0) (d) : (dats m 0 c).before 23 t d = (kept m c t.val (Nat.le_of_lt t.isLt)).dw0 := by
  have hN : t.val < 8 := lt_of_lt_of_eq t.isLt (show cfg0.N = 8 from N_0)
  rw [Dat.before_out_kept _ 23 rfl t (by omega) (Bool.eq_false_iff.mpr fun h => by have := (flush0_23 _).mp h; dsimp only at this; omega)
    (fun _ => rfl) (fun _ _ => rfl), after_23, kept_pred m c t hz]
theorem before_24 (c : Dev nD) (t : Fin cfg0.N) (hz : ¬t.val = 0) (d) : (dats m 0 c).before 24 t d = (kept m c t.val (Nat.le_of_lt t.isLt)).da0 := by
  have hN : t.val < 8 := lt_of_lt_of_eq t.isLt (show cfg0.N = 8 from N_0)
  rw [Dat.before_out_kept _ 24 rfl t (by omega) (Bool.eq_false_iff.mpr fun h => by have := (flush0_24 _).mp h; dsimp only at this; omega)
    (fun _ => rfl) (fun _ _ => rfl), after_24, kept_pred m c t hz]
theorem before_25 (c : Dev nD) (t : Fin cfg0.N) (hz : ¬t.val = 0) (d) : (dats m 0 c).before 25 t d = (kept m c t.val (Nat.le_of_lt t.isLt)).dkw := by
  have hN : t.val < 8 := lt_of_lt_of_eq t.isLt (show cfg0.N = 8 from N_0)
  rw [Dat.before_out_kept _ 25 rfl t (by omega) (Bool.eq_false_iff.mpr fun h => by have := (flush0_25 _).mp h; dsimp only at this; omega)
    (fun _ => rfl) (fun _ _ => rfl), after_25, kept_pred m c t hz]
theorem before_26 (c : Dev nD) (t : Fin cfg0.N) (hz : ¬t.val = 0) (d) : (dats m 0 c).before 26 t d = (kept m c t.val (Nat.le_of_lt t.isLt)).dka := by
  have hN : t.val < 8 := lt_of_lt_of_eq t.isLt (show cfg0.N = 8 from N_0)
  rw [Dat.before_out_kept _ 26 rfl t (by omega) (Bool.eq_false_iff.mpr fun h => by have := (flush0_26 _).mp h; dsimp only at this; omega)
    (fun _ => rfl) (fun _ _ => rfl), after_26, kept_pred m c t hz]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 22400000 in
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  rw [show (dats m 0 c).Φ t.succ = Inv m c (t.val + 1) t.isLt from rfl, Inv_pos m c _ _ (Nat.succ_ne_zero _)]
  rw [Inv_castSucc m c t, Inv_zero m c _ _ hz, PhiA0_eq]
  rw [kept_succ, kept_zero m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (run_first c (blk m c t) (iblk m c 1 t) (iblk m c 2 t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS]; · iexact HS
  iintro ⟨H0, H1, H2, H3, H4, H5, H6, H7, H8, H9, H10, H11, H12, H13, H14, H15, H16, H17, H18, H19, H20, H21, H22, H23, H24, H25, H26, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 22400000 in
theorem sound_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  rw [show (dats m 0 c).Φ t.succ = Inv m c (t.val + 1) t.isLt from rfl, Inv_pos m c _ _ (Nat.succ_ne_zero _)]
  rw [Inv_castSucc m c t, Inv_pos m c _ _ hz]
  simp only [before_20 m c t hz, before_21 m c t hz, before_22 m c t hz, before_23 m c t hz, before_24 m c t hz, before_25 m c t hz, before_26 m c t hz]
  rw [kept]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (run_later c (blk m c t) (iblk m c 1 t) (iblk m c 2 t) (kept m c t.val (Nat.le_of_lt t.isLt)) _ _ _ _ _ _ _ _ _ _ _ _ _ _ _ _ _ _ _ _ _ _ _ _ _ _ _ _ _ _ _ _ _ _ _ _ _ _ _ _ _ _ _ _ _ _ _ _ _ _ _ _ _ _ _ _ (fun h => hz (by have := (hcond0_0 t).mp h; omega)) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [HS]; · iexact HS
  iintro ⟨H0, H1, H2, H3, H4, H5, H6, H7, H8, H9, H10, H11, H12, H13, H14, H15, H16, H17, H18, H19, H20, H21, H22, H23, H24, H25, H26, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem sound (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · exact sound_later m c t hz

/-! ## The run -/

theorem body_row (t : Fin cfg0.N) : defs₀ (F := F) .tc cfg0.body (cfg0.bodyArgs t (cfg0.slots t)) = bodyAt0 t := by
  unfold defs₀; rw [Defs.onTc_tc]

set_option maxHeartbeats 3200000 in
theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 8 := N_0; omega), PhiA0_eq]
  iintro ⟨HS, Hg⟩
  isplitl [HS]
  · iexists _; iexact HS
  iexact Hg

set_option backward.isDefEq.respectTransparency.types false in
set_option maxHeartbeats 800000 in
/-- Every run of the program ends with the kernel's arrays at what the proof data computes, the other buffers as the host's
    lines leave them, and the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Rwkv

end
-- ==== Proof.RwkvPoint.lean ====
/-
  The arithmetic of one grid point of the WKV preparation's backward kernel, at the entries that the blocks hold: every
  value on the way from the projected rows to the gradient at the shifted rows.
-/
module

public import proofs.«01_k».proof.Proof.RwkvBlock
public import proofs.«01_k».proof.Proof.RwkvSpec
public import Idealize.ShloMosaic.Lib.Tactic
public import Idealize.ShloMosaic.Lib.Pointwise
public import Idealize.ShloMosaic.Lib.KernelVsHost

@[expose] public section

set_option maxRecDepth 16384

noncomputable section

namespace Cert.Rwkv

open Cert.Kernel4Ideal Cert.Kernel4Ideal.Gen Idealize.ShloMosaic Idealize.ShloMosaic.TcCoe Idealize.SL.Sem Cert.Heads

namespace Blk

variable (b : Blk Ideal)

/-- The blocks hold the numbers of `D` at the row block `T`. -/
structure Holds (D : Data) (T : ℕ) : Prop where
  le : T < 8
  i : (b.i 0).val = 7 - T
  ua : ∀ (r : Fin 256) (j : Fin 2176), b.ua (ix2 r j) = ((D.U (256 * T + r.val) j.val : ℝ) : EReal)
  pv : T ≠ 0 → ∀ j : Fin 2176, b.pv (ix2 0 j) = ((D.U (256 * T - 1) j.val : ℝ) : EReal)
  dr : ∀ (r : Fin 256) (c : Fin 512), (b.dr (ix2 r c) + b.drb (ix2 r c) : EReal) = D.DR (256 * T + r.val) c.val
  dw : ∀ (r : Fin 256) (c : Fin 512), b.dw (ix2 r c) = D.DW (256 * T + r.val) c.val
  dk : ∀ (r : Fin 256) (c : Fin 512), (b.dk (ix2 r c) + b.dkb (ix2 r c) : EReal) = D.DK (256 * T + r.val) c.val
  dv : ∀ (r : Fin 256) (c : Fin 512), (b.dv (ix2 r c) + b.dvb (ix2 r c) : EReal) = D.DV (256 * T + r.val) c.val
  da : ∀ (r : Fin 256) (c : Fin 512), b.da (ix2 r c) = ((D.DA (256 * T + r.val) c.val : ℝ) : EReal)
  db : ∀ (r : Fin 256) (c : Fin 512), b.db (ix2 r c) = ((D.DB (256 * T + r.val) c.val : ℝ) : EReal)
  dg : ∀ (r : Fin 256) (c : Fin 512), b.dg (ix2 r c) = D.DG (256 * T + r.val) c.val
  mu : ∀ j : Fin 2176, b.mu (ix2 0 j) = ((D.MU j.val : ℝ) : EReal)
  wl : ∀ (l : Fin 128) (c : Fin 1024), b.wl (ix2 l c) = ((D.WL c.val l.val : ℝ) : EReal)
  w0 : ∀ c : Fin 512, b.w0 (ix2 0 c) = ((D.W0 c.val : ℝ) : EReal)
  a0 : ∀ c : Fin 512, b.a0 (ix2 0 c) = ((D.A0 c.val : ℝ) : EReal)
  kw : ∀ c : Fin 512, b.kw (ix2 0 c) = ((D.KW c.val : ℝ) : EReal)
  ka : ∀ c : Fin 512, b.ka (ix2 0 c) = ((D.KA c.val : ℝ) : EReal)

end Blk

theorem pay9_at (k l : Fin 128) : k0_pay9 (F := Ideal) (ix2 k l) = if k.val / 64 = l.val / 64 then (1 : EReal) else 0 := by
  unfold k0_pay9
  pointwise
  exact ones_at k l

theorem row_bits (n : ℕ) (hn : n < 256) (r : Fin 256) : IntOp.cmpi CmpIPredicate.eq (BitVec.ofNat 32 r.val) (BitVec.ofNat 32 n) = if r.val = n then 1#1 else 0#1 := by
  have e : BitVec.ofNat 32 r.val = BitVec.ofNat 32 n ↔ r.val = n := by
    constructor
    · intro h
      have := congrArg BitVec.toNat h
      rw [BitVec.toNat_ofNat, BitVec.toNat_ofNat] at this
      omega
    · intro h; rw [h]
  show BitVec.ofBool (_ == _) = _
  by_cases h : r.val = n
  · rw [beq_iff_eq.mpr (e.mpr h), if_pos h]; rfl
  · rw [beq_eq_false_iff_ne.mpr fun q => h (e.mp q), if_neg h]; rfl

theorem lane64_bits : ∀ l : Fin 128, IntOp.cmpi CmpIPredicate.slt (BitVec.ofNat 32 l.val) 64#32 = if l.val < 64 then 1#1 else 0#1 := by
  decide +kernel

theorem point_bits : ∀ n : Fin 8, Scalar.cmpi CmpIPredicate.eq (BitVec.ofNat 32 n.val) 7#32 = if n.val = 7 then 1#1 else 0#1 := by
  decide +kernel

theorem select_if {α : Type} (p : Prop) [Decidable p] (x y : α) : Scalar.select (if p then 1#1 else 0#1) x y = if p then x else y := by
  split <;> simp [Scalar.select]

section
variable {b : Blk Ideal} {D : Data} {T : ℕ} (H : b.Holds D T) (r : Fin 256)
include H

theorem delta_at (j : Fin 2176) : b.v36 (ix2 r j) = ((D.DL (256 * T + r.val) j.val : ℝ) : EReal) := by
  have hT := H.le
  have hr := r.isLt
  unfold Blk.v36 k0_pay15 k0_pay13 k0_pay14 k0_pay12 k0_pay11
  pointwise
  have e0 := row_bits 0 (by omega) r
  have e7 := point_bits ⟨7 - T, by omega⟩
  rw [e0, H.i, e7, select_if, select_if, H.ua, H.ua]
  unfold Data.DL
  rw [EReal.coe_sub]
  congr 1
  by_cases h : r.val = 0
  · rw [if_pos h]
    by_cases h0 : T = 0
    · rw [if_pos (by show 7 - T = 7; omega), if_pos (by omega)]; rfl
    · rw [if_neg (by show ¬ 7 - T = 7; omega), if_neg (by omega), H.pv h0]
      rw [h, add_zero]
  · rw [if_neg h, if_neg (by omega)]
    congr 2
    show 256 * T + (r.val + 256 - 1) % 256 = _
    omega

theorem us_at (j : Fin 2176) : b.v39 (ix2 r j) = ((D.US (256 * T + r.val) j.val : ℝ) : EReal) := by
  have hd := delta_at H r j
  unfold Blk.v36 at hd
  unfold Blk.v39 k0_pay16
  generalize k0_pay15 (F := Ideal) (k0_pay11 b.ua) (k0_pay12 b.ua) k0_pay13 (k0_pay14 b.i b.pv) = d at hd ⊢
  unfold k0_pay11
  pointwise
  rw [hd, H.mu, H.ua, ← EReal.coe_mul, ← EReal.coe_add]
  rfl

theorem k0_at (c : Fin 512) : b.v40 (ix2 r c) = ((D.K0 (256 * T + r.val) c.val : ℝ) : EReal) := by
  unfold Blk.v40 k0_pay17
  pointwise
  exact us_at H r _

theorem lo_at (l : Fin 128) : b.v41 (ix2 r l) = ((D.US (256 * T + r.val) (1536 + l.val) : ℝ) : EReal) := by
  unfold Blk.v41 k0_pay18
  pointwise
  exact us_at H r _

theorem th_at (l : Fin 128) : b.v43 (ix2 r l) = ((D.TH (256 * T + r.val) l.val : ℝ) : EReal) := by
  have h := lo_at H r l
  unfold Blk.v41 at h
  unfold Blk.v43 k0_pay19
  pointwise
  rw [h]
  rfl

theorem lin_at (l : Fin 128) : b.v48 (ix2 r l) = ((D.LIN (256 * T + r.val) l.val : ℝ) : EReal) := by
  have h := lo_at H r l
  have h' := th_at H r l
  unfold Blk.v41 at h
  unfold Blk.v43 at h'
  unfold Blk.v48 k0_pay20
  pointwise
  rw [h, h', lane64_bits, select_if]
  unfold Data.LIN
  split <;> rfl

theorem ll_at (c : Fin 1024) : b.v50 (ix2 r c) = ((∑ l ∈ Finset.range 128, D.LIN (256 * T + r.val) l * D.WL c.val l : ℝ) : EReal) := by
  have h := fun l => lin_at H r l
  unfold Blk.v48 at h
  unfold Blk.v50 Blk.v15 k0_pay21 k0_pay10
  pointwise
  simp only [h, H.wl, ← EReal.coe_mul, Reals.sum_coe]
  rw [Fin.sum_univ_eq_sum_range (fun l => D.LIN (256 * T + r.val) l * D.WL c.val l)]

theorem low_w (R c : ℕ) (hc : c < 512) : ∑ l ∈ Finset.range 128, D.LIN R l * D.WL c l = ∑ l ∈ Finset.range 64, D.TH R l * D.WU l c := by
  rw [show (128 : ℕ) = 64 + 64 from rfl, Finset.sum_range_add]
  rw [Finset.sum_congr rfl (g := fun l => D.TH R l * D.WU l c) fun l hl => by
    have := Finset.mem_range.mp hl
    unfold Data.LIN Data.WL
    rw [if_pos this, if_pos this, if_pos hc]]
  rw [Finset.sum_eq_zero (s := Finset.range 64) (f := fun l => D.LIN R (64 + l) * D.WL c (64 + l)) fun l hl => by
    unfold Data.WL
    rw [if_neg (by omega), if_pos hc, mul_zero], add_zero]

theorem low_a (R c : ℕ) : ∑ l ∈ Finset.range 128, D.LIN R l * D.WL (512 + c) l = ∑ l ∈ Finset.range 64, D.LA R l * D.AU l c := by
  rw [show (128 : ℕ) = 64 + 64 from rfl, Finset.sum_range_add]
  rw [Finset.sum_eq_zero (s := Finset.range 64) (f := fun l => D.LIN R l * D.WL (512 + c) l) fun l hl => by
    have := Finset.mem_range.mp hl
    unfold Data.WL
    rw [if_pos this, if_neg (by omega), mul_zero], zero_add]
  refine Finset.sum_congr rfl fun l _ => ?_
  unfold Data.LIN Data.WL Data.LA
  rw [if_neg (by omega), if_neg (by omega), if_neg (by omega), Nat.add_sub_cancel_left, Nat.add_sub_cancel_left, ← Nat.add_assoc]

theorem sz_at (c : Fin 512) : b.v60 (ix2 r c) = ((D.SZ (256 * T + r.val) c.val : ℝ) : EReal) := by
  have h := ll_at H r
  unfold Blk.v50 at h
  unfold Blk.v60 k0_pay22
  pointwise
  rw [h, H.w0, ← EReal.coe_add]
  simp only [low_w H _ c.val c.isLt]
  exact sigmoid_real _

theorem e_at (c : Fin 512) : b.v64 (ix2 r c) = ((D.E (256 * T + r.val) c.val : ℝ) : EReal) := by
  have h := sz_at H r c
  unfold Blk.v60 at h
  unfold Blk.v64 k0_pay23
  pointwise
  rw [h, Reals.lit_neg_half, exp_real, ← EReal.coe_mul]
  rfl

theorem dec_at (c : Fin 512) : b.v67 (ix2 r c) = ((D.DEC (256 * T + r.val) c.val : ℝ) : EReal) := by
  have h := e_at H r c
  unfold Blk.v64 at h
  unfold Blk.v67 k0_pay24
  pointwise
  rw [h, ← EReal.coe_zero, ← EReal.coe_sub, exp_real, zero_sub]
  rfl

theorem a_at (c : Fin 512) : b.v77 (ix2 r c) = ((D.A (256 * T + r.val) c.val : ℝ) : EReal) := by
  have h := ll_at H r
  unfold Blk.v50 at h
  unfold Blk.v77 k0_pay25
  pointwise
  rw [h, H.a0, ← EReal.coe_add]
  simp only [low_a H _ c.val]
  exact sigmoid_real _

theorem kk0_at (c : Fin 512) : b.v79 (ix2 r c) = ((D.KK0 (256 * T + r.val) c.val : ℝ) : EReal) := by
  have h := k0_at H r c
  unfold Blk.v40 at h
  unfold Blk.v79 k0_pay26
  pointwise
  rw [h, H.kw, ← EReal.coe_mul]
  rfl

theorem sq_at (c : Fin 512) : b.v80 (ix2 r c) = ((D.KK0 (256 * T + r.val) c.val * D.KK0 (256 * T + r.val) c.val : ℝ) : EReal) := by
  have h := kk0_at H r c
  unfold Blk.v79 at h
  unfold Blk.v80 k0_pay27
  pointwise
  rw [h, ← EReal.coe_mul]

theorem ss_at (c : Fin 512) : b.v133 (ix2 r c) = ((D.SS (256 * T + r.val) c.val : ℝ) : EReal) := by
  have h := sq_at H r
  unfold Blk.v133 Blk.v93 Blk.v106 Blk.v119 Blk.v130 Blk.v131 k0_pay30 k0_pay29 k0_pay28
  unfold Blk.v80 at h ⊢
  generalize k0_pay27 (F := Ideal) b.mu b.kw (k0_pay11 b.ua) (k0_pay12 b.ua) k0_pay13 (k0_pay14 b.i b.pv) = v at h ⊢
  unfold k0_pay40 k0_pay39 k0_pay38 k0_pay37 k0_pay36 k0_pay35 k0_pay34 k0_pay33 k0_pay32 k0_pay31
  pointwise
  simp only [h, three_parts, pay9_at]
  exact quarters (fun k => D.KK0 (256 * T + r.val) k * D.KK0 (256 * T + r.val) k) c

section
variable (L : D.Long)
include L

theorem ss_long (c : Fin 512) : Data.least < D.SS (256 * T + r.val) c.val :=
  L _ _ (by have := H.le; omega) c.isLt

theorem nrm_pos (c : Fin 512) : 0 < D.NRM (256 * T + r.val) c.val :=
  Real.sqrt_pos.mpr (least_pos.trans (ss_long H r L c))

theorem nrm_at (c : Fin 512) : b.v136 (ix2 r c) = ((D.NRM (256 * T + r.val) c.val : ℝ) : EReal) := by
  have h := ss_at H r c
  have hl := ss_long H r L c
  unfold Blk.v133 at h
  unfold Blk.v136 k0_pay41
  pointwise
  rw [h, lit_floor, Ideal.sqrt_coe, if_neg (not_lt.mpr (least_pos.trans hl).le), max_coe, max_eq_left (floor_lt_sqrt hl).le]
  rfl

theorem kk_at (c : Fin 512) : b.v137 (ix2 r c) = ((D.KK (256 * T + r.val) c.val : ℝ) : EReal) := by
  have h := nrm_at H r L c
  have h' := kk0_at H r c
  unfold Blk.v136 at h
  unfold Blk.v137 k0_pay42
  pointwise
  rw [h, h', Reals.div_real _ _ (nrm_pos H r L c).ne']
  rfl

theorem inv_at (c : Fin 512) : b.v172 (ix2 r c) = ((1 / D.NRM (256 * T + r.val) c.val : ℝ) : EReal) := by
  have h := nrm_at H r L c
  unfold Blk.v136 at h
  unfold Blk.v172 k0_pay49
  pointwise
  rw [h, ← EReal.coe_one, Reals.div_real _ _ (nrm_pos H r L c).ne']

omit L in
theorem dk_at (c : Fin 512) : b.v142 (ix2 r c) = D.DK (256 * T + r.val) c.val := by
  unfold Blk.v142 k0_pay43
  pointwise
  exact H.dk r c

omit L in
theorem dkk_at (c : Fin 512) : b.v148 (ix2 r c) = ((D.DKK (256 * T + r.val) c.val : ℝ) : EReal) := by
  have h := a_at H r c
  unfold Blk.v148 k0_pay45 k0_pay44
  pointwise
  rw [h, H.db, H.da, ← EReal.coe_mul, ← EReal.coe_sub]
  rfl

theorem prod_at (c : Fin 512) : k0_pay50 (F := Ideal) b.v137 b.v148 (ix2 r c)
    = ((D.DKK (256 * T + r.val) c.val * D.KK (256 * T + r.val) c.val : ℝ) : EReal) := by
  unfold k0_pay50
  pointwise
  rw [dkk_at H r c, kk_at H r L c, ← EReal.coe_mul]

theorem dkk0_at (c : Fin 512) : b.v233 (ix2 r c) = ((D.DKK0 (256 * T + r.val) c.val : ℝ) : EReal) := by
  have hs := ss_at H r c
  have hk := kk_at H r L c
  have hd := dkk_at H r c
  have hi := inv_at H r L c
  have hp := prod_at H r L
  unfold Blk.v233 Blk.v186 Blk.v199 Blk.v212 Blk.v217 Blk.v220 Blk.v221
  generalize b.v133 = s at hs ⊢
  generalize b.v137 = k at hk hp ⊢
  generalize b.v148 = d at hd hp ⊢
  generalize b.v172 = i at hi ⊢
  unfold k0_pay60 k0_pay59 k0_pay58 k0_pay57 k0_pay56 k0_pay55 k0_pay54 k0_pay53 k0_pay52 k0_pay51
  pointwise
  simp only [hs, hk, hd, hi, hp, three_parts, pay9_at, lit_least]
  rw [if_pos (EReal.coe_lt_coe_iff.mpr (ss_long H r L c))]
  refine (congrArg (fun z => (_ - _ * z) * _) (quarters (fun k => D.DKK (256 * T + r.val) k * D.KK (256 * T + r.val) k) c)).trans ?_
  simp only [← EReal.coe_mul, ← EReal.coe_sub]
  rfl

theorem dk0_at (c : Fin 512) : b.v236 (ix2 r c) = D.DK0 (256 * T + r.val) c.val := by
  have h := dkk0_at H r L c
  have ha := a_at H r c
  have hk := dk_at H r c
  unfold Blk.v233 at h
  unfold Blk.v142 at hk
  unfold Blk.v236 Blk.v160 k0_pay61 k0_pay47
  pointwise
  rw [h, ha, hk, H.kw, H.ka, ← EReal.coe_one, ← EReal.coe_sub, ← EReal.coe_mul, ← EReal.coe_mul, ← EReal.coe_add]
  rfl

theorem da_at (c : Fin 512) : b.v153 (ix2 r c)
    = ((D.DB (256 * T + r.val) c.val * D.KK (256 * T + r.val) c.val : ℝ) : EReal)
      + D.DK (256 * T + r.val) c.val * (D.K0 (256 * T + r.val) c.val : EReal) * (D.KA c.val : EReal) := by
  have h := kk_at H r L c
  have hk := dk_at H r c
  have h0 := k0_at H r c
  unfold Blk.v137 at h
  unfold Blk.v142 at hk
  unfold Blk.v153 k0_pay46 k0_pay44
  pointwise
  rw [h, hk, h0, H.db, H.ka, ← EReal.coe_mul]

theorem dza_at (c : Fin 512) : b.v247 (ix2 r c) = D.DZA (256 * T + r.val) c.val := by
  unfold Blk.v247 k0_pay63
  pointwise
  rw [da_at H r L c, a_at H r c, ← EReal.coe_one, ← EReal.coe_sub]
  rfl

omit L in
theorem dz_at (c : Fin 512) : b.v262 (ix2 r c) = D.DZ (256 * T + r.val) c.val := by
  unfold Blk.v262 k0_pay65
  pointwise
  rw [sz_at H r c, e_at H r c, dec_at H r c, H.dw, ← EReal.coe_one, ← EReal.coe_sub, zero_sub]
  rfl

/-- The gradient at the low-rank products' lanes. -/
theorem dlo_at (l : Fin 128) : b.v287 (ix2 r l) = if l.val < 64 then D.DLW (256 * T + r.val) l.val else D.DLA (256 * T + r.val) (l.val - 64) := by
  have hz := dz_at H r
  have hza := dza_at H r L
  have ht := th_at H r l
  unfold Blk.v287 Blk.v15
  generalize b.v247 = za at hza ⊢
  generalize b.v262 = z at hz ⊢
  generalize b.v43 = th at ht ⊢
  unfold k0_pay69 k0_pay67 k0_pay10
  pointwise
  rw [lane64_bits, select_if, ht]
  simp only [hz, hza, H.wl]
  have e0 : ∀ k : Fin 512, D.WL k.val l.val = if l.val < 64 then D.WU l.val k.val else 0 := fun k => by
    unfold Data.WL
    simp only [k.isLt, if_true]
  have e1 : ∀ k : Fin 512, D.WL (512 + k.val) l.val = if l.val < 64 then 0 else D.AU (l.val - 64) k.val := fun k => by
    unfold Data.WL
    simp only [show ¬ 512 + k.val < 512 by omega, if_false, Nat.add_sub_cancel_left]
  simp only [e0, e1]
  by_cases hl : l.val < 64
  · simp only [if_pos hl, EReal.coe_zero, mul_zero, Finset.sum_const_zero, add_zero]
    rw [← EReal.coe_mul, ← EReal.coe_one, ← EReal.coe_sub, Fin.sum_univ_eq_sum_range (fun k => D.DZ (256 * T + r.val) k * (D.WU l.val k : EReal))]
    rfl
  · simp only [if_neg hl, EReal.coe_zero, mul_zero, Finset.sum_const_zero, zero_add]
    rw [Fin.sum_univ_eq_sum_range (fun k => D.DZA (256 * T + r.val) k * (D.AU (l.val - 64) k : EReal))]
    rfl

theorem dus_at (j : Fin 2176) : b.v300 (ix2 r j) = D.DUS (256 * T + r.val) j.val := by
  have hk := dk0_at H r L
  have hl := dlo_at H r L
  unfold Blk.v300 Blk.v292 Blk.v297
  generalize b.v236 = k at hk ⊢
  generalize b.v287 = l at hl ⊢
  unfold k0_pay72 k0_pay71 k0_pay70
  pointwise
  simp only [hk, hl, H.dr, H.dv, H.dg]
  have hj := j.isLt
  unfold Data.DUS
  simp only [dite_eq_ite]
  split_ifs <;> first | rfl | (exfalso; omega) | (congr 1; omega)

theorem g1_at (j : Fin 2176) : b.v309 (ix2 r j) = D.G1 (256 * T + r.val) j.val := by
  have h := dus_at H r L j
  unfold Blk.v300 at h
  unfold Blk.v309 k0_pay74
  pointwise
  rw [h, H.mu]
  rfl

/-- What a point carries to the row block before. -/
theorem carry_at (j : Fin 2176) : k0_pay77 (F := Ideal) b.mu b.v236 b.v287 b.v292 b.v297 b.dg (ix2 0 j) = D.G1 (256 * T) j.val := by
  have h := g1_at H 0 L j
  unfold Blk.v309 at h
  unfold k0_pay77
  pointwise
  exact h

/-- The gradient at the projected rows, over what the row block after carried. -/
theorem du_at (ca : Vec Ideal S1x2176 .f32) (j : Fin 2176) (hca : ca (ix2 0 j) = if T + 1 < 8 then D.G1 (256 * (T + 1)) j.val else 0) :
    b.v321 ca (ix2 r j) = D.DU (256 * T + r.val) j.val := by
  have h := dus_at H r L j
  have hg := fun r => g1_at H r L j
  have hT := H.le
  have hr := r.isLt
  unfold Blk.v300 at h
  unfold Blk.v309 at hg
  unfold Blk.v321 k0_pay75
  generalize k0_pay72 (F := Ideal) b.v236 b.v287 b.v292 b.v297 b.dg = u at h ⊢
  generalize k0_pay74 (F := Ideal) b.mu b.v236 b.v287 b.v292 b.v297 b.dg = g at hg ⊢
  pointwise
  have e0 := row_bits 255 (by omega) r
  rw [e0, select_if, h, hg, hg, hca]
  unfold Data.DU
  congr 1
  by_cases h : r.val = 255
  · rw [if_pos h, h]
    by_cases h0 : T + 1 < 8
    · rw [if_pos h0, if_pos (by omega)]
      congr 1
    · rw [if_neg h0, if_neg (by omega)]
  · rw [if_neg h, if_pos (by omega)]
    congr 1
    show 256 * T + (r.val + 256 - 255) % 256 = _
    omega
end

end

/-! ## What a point adds to the sums over all rows -/

section
variable {b : Blk Ideal} {D : Data} {T : ℕ} (H : b.Holds D T)
include H

theorem dka_add (a : Vec Ideal S1x512 .f32) (c : Fin 512) : k0_pay48 (F := Ideal) b.v40 b.v77 b.dk b.dkb a (ix2 0 c)
    = a (ix2 0 c) + ∑ r : Fin 256, D.DK (256 * T + r.val) c.val * (D.K0 (256 * T + r.val) c.val : EReal) * ((D.A (256 * T + r.val) c.val - 1 : ℝ) : EReal) := by
  have hk := fun r => dk_at H r c
  have h0 := fun r => k0_at H r c
  have ha := fun r => a_at H r c
  unfold Blk.v142 at hk
  unfold k0_pay48
  pointwise
  simp only [hk, h0, ha]
  simp only [← EReal.coe_one, ← EReal.coe_sub]

theorem dw0_add (a : Vec Ideal S1x512 .f32) (c : Fin 512) : k0_pay66 (F := Ideal) b.v262 a (ix2 0 c)
    = a (ix2 0 c) + ∑ r : Fin 256, D.DZ (256 * T + r.val) c.val := by
  have h := fun r => dz_at H r c
  unfold k0_pay66
  pointwise
  simp only [h]

variable (L : D.Long)
include L

theorem dkw_add (a : Vec Ideal S1x512 .f32) (c : Fin 512) :
    k0_pay62 (F := Ideal) k0_pay9 b.v40 b.v133 b.v137 b.v148 b.v172 b.v186 b.v199 b.v212 b.v217 b.v220 b.v221 (constant S256x128 .f32 0x00000000#32) a (ix2 0 c)
    = a (ix2 0 c) + ∑ r : Fin 256, ((D.DKK0 (256 * T + r.val) c.val * D.K0 (256 * T + r.val) c.val : ℝ) : EReal) := by
  have h := fun r => dkk0_at H r L c
  have h0 := fun r => k0_at H r c
  unfold Blk.v233 at h
  unfold k0_pay62
  pointwise
  simp only [h, h0, EReal.coe_mul]

theorem da0_add (a : Vec Ideal S1x512 .f32) (c : Fin 512) : k0_pay64 (F := Ideal) b.v77 b.v153 a (ix2 0 c)
    = a (ix2 0 c) + ∑ r : Fin 256, D.DZA (256 * T + r.val) c.val := by
  have h := fun r => dza_at H r L c
  unfold Blk.v247 at h
  unfold k0_pay64
  pointwise
  simp only [h]

theorem dwl_add (a : Vec Ideal S128x1024 .f32) (l : Fin 128) (c : Fin 1024) : k0_pay68 (F := Ideal) b.v48 b.v247 b.v262 a (ix2 l c)
    = a (ix2 l c) + ∑ r : Fin 256, (D.LIN (256 * T + r.val) l.val : EReal)
        * (if c.val < 512 then D.DZ (256 * T + r.val) c.val else D.DZA (256 * T + r.val) (c.val - 512)) := by
  have hz := fun r => dz_at H r
  have hza := fun r => dza_at H r L
  have hl := fun r => lin_at H r l
  generalize b.v247 = za at hza ⊢
  generalize b.v262 = z at hz ⊢
  generalize b.v48 = th at hl ⊢
  unfold k0_pay68 k0_pay67
  pointwise
  simp only [hz, hza, hl, dite_eq_ite]

theorem dmu_add (a : Vec Ideal S1x2176 .f32) (j : Fin 2176) : k0_pay73 (F := Ideal) b.v36 b.v236 b.v287 b.v292 b.v297 b.dg a (ix2 0 j)
    = a (ix2 0 j) + ∑ r : Fin 256, D.DUS (256 * T + r.val) j.val * (D.DL (256 * T + r.val) j.val : EReal) := by
  have h := fun r => dus_at H r L j
  have hd := fun r => delta_at H r j
  unfold Blk.v300 at h
  unfold k0_pay73
  pointwise
  simp only [h, hd]

omit H L in
theorem dw_add (a : Vec Ideal S1024x2176 .f32) (ht : Vec Ideal S1024x256 .bf16) (ca : Vec Ideal S1x2176 .f32) (i : Fin 1024) (j : Fin 2176) :
    k0_pay76 (F := Ideal) b.mu b.v236 b.v287 b.v292 b.v297 b.dg ca a ht (ix2 i j)
    = a (ix2 i j) + ∑ r : Fin 256, ht (ix2 i r) * b.v321 ca (ix2 r j) := by
  unfold k0_pay76
  pointwise
end

end Cert.Rwkv

end
-- ==== Proof.RwkvInputs.lean ====
/-
  What the RWKV preparation's backward kernel reads: the arrays the host prepares, and the blocks of them a grid point
  sees. The points go through the row blocks from the last to the first.
-/
module

public import proofs.«01_k».proof.Proof.RwkvFrame
public import proofs.«01_k».proof.Proof.RwkvPoint
public import proofs.«01_k».proof.Proof.RwkvArrays
public import Idealize.ShloMosaic.Lib.Pipeline.ValueKit

@[expose] public section

set_option maxRecDepth 16384

noncomputable section

namespace Cert.Rwkv

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The kernel's arguments on a device. -/
def args : Arrays where
  H := m ((c : Thread nD τ).loc main_arg0)
  W := m ((c : Thread nD τ).loc main_arg1)
  MU := m ((c : Thread nD τ).loc main_arg2)
  WU := m ((c : Thread nD τ).loc main_arg3)
  W0 := m ((c : Thread nD τ).loc main_arg4)
  AU := m ((c : Thread nD τ).loc main_arg5)
  A0 := m ((c : Thread nD τ).loc main_arg6)
  KW := m ((c : Thread nD τ).loc main_arg7)
  KA := m ((c : Thread nD τ).loc main_arg8)
  DR := m ((c : Thread nD τ).loc main_arg9)
  DW := m ((c : Thread nD τ).loc main_arg10)
  DK := m ((c : Thread nD τ).loc main_arg11)
  DV := m ((c : Thread nD τ).loc main_arg12)
  DA := m ((c : Thread nD τ).loc main_arg13)
  DB := m ((c : Thread nD τ).loc main_arg14)
  DRB := m ((c : Thread nD τ).loc main_arg15)
  DKB := m ((c : Thread nD τ).loc main_arg16)
  DVB := m ((c : Thread nD τ).loc main_arg17)
  DG := m ((c : Thread nD τ).loc main_arg18)

theorem N8 : cfg0.N = 8 := by decide +kernel

/-- Row `r` of the row block that point `t` works on. -/
abbrev row (t : Fin cfg0.N) (r : Fin 256) : Fin 2048 := ⟨256 * (7 - t.val) + r.val, by omega⟩

/-! ## The arrays the host prepares -/

theorem V_v3 (r : Fin 2048) (j : Fin 2176) : V m c main_v3 (ix2 r j) = (∑ i : Fin 1024, (args m c).H (ix3 0 r i) * (args m c).W (ix2 i j) : EReal) := by
  show StableHlo.after (List.flatten [hostOps0]) (fun b => m (c, b)) main_v3 _ = _
  unfold hostOps0
  simp only [List.flatten_cons, List.flatten_nil, List.append_nil]
  after_results
  pointwise
  try rfl

theorem V_v12 (i : Fin 1024) (r : Fin 2048) : V m c main_v12 (ix2 i r) = ((args m c).H (ix3 0 r i) : EReal) := by
  show StableHlo.after (List.flatten [hostOps0]) (fun b => m (c, b)) main_v12 _ = _
  unfold hostOps0
  simp only [List.flatten_cons, List.flatten_nil, List.append_nil]
  after_results
  pointwise
  try rfl

theorem V_v11 (l : Fin 128) (k : Fin 1024) : V m c main_v11 (ix2 l k) = (if h : l.val < 64 then if h' : k.val < 512 then (args m c).WU (ix3 0 ⟨l.val, h⟩ ⟨k.val, h'⟩) else 0
    else if h' : k.val < 512 then 0 else (args m c).AU (ix3 0 ⟨l.val - 64, by omega⟩ ⟨k.val - 512, by omega⟩) : EReal) := by
  show StableHlo.after (List.flatten [hostOps0]) (fun b => m (c, b)) main_v11 _ = _
  unfold hostOps0
  simp only [List.flatten_cons, List.flatten_nil, List.append_nil]
  after_results
  pointwise
  try rfl

theorem V_v13 (r : Fin 2048) (k : Fin 512) : V m c main_v13 (ix2 r k) = byHead (args m c).DR r k := by
  show StableHlo.after (List.flatten [hostOps0]) (fun b => m (c, b)) main_v13 _ = _
  unfold hostOps0
  simp only [List.flatten_cons, List.flatten_nil, List.append_nil]
  after_results
  pointwise
  try rfl

theorem V_v14 (r : Fin 2048) (k : Fin 512) : V m c main_v14 (ix2 r k) = byHead (args m c).DW r k := by
  show StableHlo.after (List.flatten [hostOps0]) (fun b => m (c, b)) main_v14 _ = _
  unfold hostOps0
  simp only [List.flatten_cons, List.flatten_nil, List.append_nil]
  after_results
  pointwise
  try rfl

theorem V_v15 (r : Fin 2048) (k : Fin 512) : V m c main_v15 (ix2 r k) = byHead (args m c).DK r k := by
  show StableHlo.after (List.flatten [hostOps0]) (fun b => m (c, b)) main_v15 _ = _
  unfold hostOps0
  simp only [List.flatten_cons, List.flatten_nil, List.append_nil]
  after_results
  pointwise
  try rfl

theorem V_v16 (r : Fin 2048) (k : Fin 512) : V m c main_v16 (ix2 r k) = byHead (args m c).DV r k := by
  show StableHlo.after (List.flatten [hostOps0]) (fun b => m (c, b)) main_v16 _ = _
  unfold hostOps0
  simp only [List.flatten_cons, List.flatten_nil, List.append_nil]
  after_results
  pointwise
  try rfl

theorem V_v17 (r : Fin 2048) (k : Fin 512) : V m c main_v17 (ix2 r k) = byHead (args m c).DA r k := by
  show StableHlo.after (List.flatten [hostOps0]) (fun b => m (c, b)) main_v17 _ = _
  unfold hostOps0
  simp only [List.flatten_cons, List.flatten_nil, List.append_nil]
  after_results
  pointwise
  try rfl

theorem V_v18 (r : Fin 2048) (k : Fin 512) : V m c main_v18 (ix2 r k) = byHead (args m c).DB r k := by
  show StableHlo.after (List.flatten [hostOps0]) (fun b => m (c, b)) main_v18 _ = _
  unfold hostOps0
  simp only [List.flatten_cons, List.flatten_nil, List.append_nil]
  after_results
  pointwise
  try rfl

theorem V_v19 (r : Fin 2048) (k : Fin 512) : V m c main_v19 (ix2 r k) = byHead (args m c).DRB r k := by
  show StableHlo.after (List.flatten [hostOps0]) (fun b => m (c, b)) main_v19 _ = _
  unfold hostOps0
  simp only [List.flatten_cons, List.flatten_nil, List.append_nil]
  after_results
  pointwise
  try rfl

theorem V_v20 (r : Fin 2048) (k : Fin 512) : V m c main_v20 (ix2 r k) = byHead (args m c).DKB r k := by
  show StableHlo.after (List.flatten [hostOps0]) (fun b => m (c, b)) main_v20 _ = _
  unfold hostOps0
  simp only [List.flatten_cons, List.flatten_nil, List.append_nil]
  after_results
  pointwise
  try rfl

theorem V_v21 (r : Fin 2048) (k : Fin 512) : V m c main_v21 (ix2 r k) = byHead (args m c).DVB r k := by
  show StableHlo.after (List.flatten [hostOps0]) (fun b => m (c, b)) main_v21 _ = _
  unfold hostOps0
  simp only [List.flatten_cons, List.flatten_nil, List.append_nil]
  after_results
  pointwise
  try rfl

theorem V_v22 (r : Fin 2048) (k : Fin 512) : V m c main_v22 (ix2 r k) = ((args m c).DG (ix3 0 r k) : EReal) := by
  show StableHlo.after (List.flatten [hostOps0]) (fun b => m (c, b)) main_v22 _ = _
  unfold hostOps0
  simp only [List.flatten_cons, List.flatten_nil, List.append_nil]
  after_results
  pointwise
  try rfl

theorem V_arg2 : V m c main_arg2 = (args m c).MU := by
  show StableHlo.after (List.flatten [hostOps0]) (fun b => m (c, b)) main_arg2 = _
  unfold hostOps0
  simp only [List.flatten_cons, List.flatten_nil, List.append_nil]
  after_results
  rfl

theorem V_arg4 : V m c main_arg4 = (args m c).W0 := by
  show StableHlo.after (List.flatten [hostOps0]) (fun b => m (c, b)) main_arg4 = _
  unfold hostOps0
  simp only [List.flatten_cons, List.flatten_nil, List.append_nil]
  after_results
  rfl

theorem V_arg6 : V m c main_arg6 = (args m c).A0 := by
  show StableHlo.after (List.flatten [hostOps0]) (fun b => m (c, b)) main_arg6 = _
  unfold hostOps0
  simp only [List.flatten_cons, List.flatten_nil, List.append_nil]
  after_results
  rfl

theorem V_arg7 : V m c main_arg7 = (args m c).KW := by
  show StableHlo.after (List.flatten [hostOps0]) (fun b => m (c, b)) main_arg7 = _
  unfold hostOps0
  simp only [List.flatten_cons, List.flatten_nil, List.append_nil]
  after_results
  rfl

theorem V_arg8 : V m c main_arg8 = (args m c).KA := by
  show StableHlo.after (List.flatten [hostOps0]) (fun b => m (c, b)) main_arg8 = _
  unfold hostOps0
  simp only [List.flatten_cons, List.flatten_nil, List.append_nil]
  after_results
  rfl

/-! ## The blocks of a point -/

/-- The array's index of a row block's entry. -/
theorem at_rows {n : ℕ} {α : Type} (f : (⟨2, ![2048, n]⟩ : Shape).Idx → α) {t : Fin cfg0.N} {x : Fin 2 → ℕ} (hx : x 0 = 7 - t.val ∧ x 1 = 0) (r : Fin 256) (k : Fin n)
    (p : (⟨2, ![2048, n]⟩ : Shape).Idx) (h0 : (p 0).val = x 0 * 256 + 1 * r.val) (h1 : (p 1).val = x 1 * n + 1 * k.val) : f p = f (ix2 (row t r) k) := by
  congr 1
  funext a
  apply Fin.ext
  match a with
  | ⟨0, _⟩ => refine h0.trans ?_; rw [hx.1]; show _ = 256 * (7 - t.val) + r.val; omega
  | ⟨1, _⟩ => refine h1.trans ?_; rw [hx.2]; show _ = k.val; omega

/-- A block that is the whole array. -/
theorem at_whole {a b : ℕ} {α : Type} (f : (⟨2, ![a, b]⟩ : Shape).Idx → α) {x : Fin 2 → ℕ} (hx : x 0 = 0 ∧ x 1 = 0) (r : Fin a) (k : Fin b)
    (p : (⟨2, ![a, b]⟩ : Shape).Idx) (h0 : (p 0).val = x 0 * a + 1 * r.val) (h1 : (p 1).val = x 1 * b + 1 * k.val) : f p = f (ix2 r k) := by
  congr 1
  funext i
  apply Fin.ext
  match i with
  | ⟨0, _⟩ => refine h0.trans ?_; rw [hx.1]; show _ = r.val; omega
  | ⟨1, _⟩ => refine h1.trans ?_; rw [hx.2]; show _ = k.val; omega

theorem idx0 : ∀ t : Fin cfg0.N, win0_0.index t 0 = 7 - t.val ∧ win0_0.index t 1 = 0 :=
  (by decide +kernel : ∀ t : Fin grid0.N, win0_0.index t 0 = 7 - t.val ∧ win0_0.index t 1 = 0)

theorem iblk0 (t : Fin cfg0.N) (r : Fin 256) (k : Fin 2176) : iblk m c 0 t (ix2 r k) = V m c main_v3 (ix2 (row t r) k) := by
  unfold iblk
  rw [View.read_apply]
  exact at_rows (V m c main_v3) (idx0 t) r k _ rfl rfl

theorem idx3 : ∀ t : Fin cfg0.N, win0_3.index t 0 = 7 - t.val ∧ win0_3.index t 1 = 0 :=
  (by decide +kernel : ∀ t : Fin grid0.N, win0_3.index t 0 = 7 - t.val ∧ win0_3.index t 1 = 0)

theorem iblk3 (t : Fin cfg0.N) (r : Fin 256) (k : Fin 512) : iblk m c 3 t (ix2 r k) = V m c main_v13 (ix2 (row t r) k) := by
  unfold iblk
  rw [View.read_apply]
  exact at_rows (V m c main_v13) (idx3 t) r k _ rfl rfl

theorem idx4 : ∀ t : Fin cfg0.N, win0_4.index t 0 = 7 - t.val ∧ win0_4.index t 1 = 0 :=
  (by decide +kernel : ∀ t : Fin grid0.N, win0_4.index t 0 = 7 - t.val ∧ win0_4.index t 1 = 0)

theorem iblk4 (t : Fin cfg0.N) (r : Fin 256) (k : Fin 512) : iblk m c 4 t (ix2 r k) = V m c main_v14 (ix2 (row t r) k) := by
  unfold iblk
  rw [View.read_apply]
  exact at_rows (V m c main_v14) (idx4 t) r k _ rfl rfl

theorem idx5 : ∀ t : Fin cfg0.N, win0_5.index t 0 = 7 - t.val ∧ win0_5.index t 1 = 0 :=
  (by decide +kernel : ∀ t : Fin grid0.N, win0_5.index t 0 = 7 - t.val ∧ win0_5.index t 1 = 0)

theorem iblk5 (t : Fin cfg0.N) (r : Fin 256) (k : Fin 512) : iblk m c 5 t (ix2 r k) = V m c main_v15 (ix2 (row t r) k) := by
  unfold iblk
  rw [View.read_apply]
  exact at_rows (V m c main_v15) (idx5 t) r k _ rfl rfl

theorem idx6 : ∀ t : Fin cfg0.N, win0_6.index t 0 = 7 - t.val ∧ win0_6.index t 1 = 0 :=
  (by decide +kernel : ∀ t : Fin grid0.N, win0_6.index t 0 = 7 - t.val ∧ win0_6.index t 1 = 0)

theorem iblk6 (t : Fin cfg0.N) (r : Fin 256) (k : Fin 512) : iblk m c 6 t (ix2 r k) = V m c main_v16 (ix2 (row t r) k) := by
  unfold iblk
  rw [View.read_apply]
  exact at_rows (V m c main_v16) (idx6 t) r k _ rfl rfl

theorem idx7 : ∀ t : Fin cfg0.N, win0_7.index t 0 = 7 - t.val ∧ win0_7.index t 1 = 0 :=
  (by decide +kernel : ∀ t : Fin grid0.N, win0_7.index t 0 = 7 - t.val ∧ win0_7.index t 1 = 0)

theorem iblk7 (t : Fin cfg0.N) (r : Fin 256) (k : Fin 512) : iblk m c 7 t (ix2 r k) = V m c main_v17 (ix2 (row t r) k) := by
  unfold iblk
  rw [View.read_apply]
  exact at_rows (V m c main_v17) (idx7 t) r k _ rfl rfl

theorem idx8 : ∀ t : Fin cfg0.N, win0_8.index t 0 = 7 - t.val ∧ win0_8.index t 1 = 0 :=
  (by decide +kernel : ∀ t : Fin grid0.N, win0_8.index t 0 = 7 - t.val ∧ win0_8.index t 1 = 0)

theorem iblk8 (t : Fin cfg0.N) (r : Fin 256) (k : Fin 512) : iblk m c 8 t (ix2 r k) = V m c main_v18 (ix2 (row t r) k) := by
  unfold iblk
  rw [View.read_apply]
  exact at_rows (V m c main_v18) (idx8 t) r k _ rfl rfl

theorem idx9 : ∀ t : Fin cfg0.N, win0_9.index t 0 = 7 - t.val ∧ win0_9.index t 1 = 0 :=
  (by decide +kernel : ∀ t : Fin grid0.N, win0_9.index t 0 = 7 - t.val ∧ win0_9.index t 1 = 0)

theorem iblk9 (t : Fin cfg0.N) (r : Fin 256) (k : Fin 512) : iblk m c 9 t (ix2 r k) = V m c main_v19 (ix2 (row t r) k) := by
  unfold iblk
  rw [View.read_apply]
  exact at_rows (V m c main_v19) (idx9 t) r k _ rfl rfl

theorem idx10 : ∀ t : Fin cfg0.N, win0_10.index t 0 = 7 - t.val ∧ win0_10.index t 1 = 0 :=
  (by decide +kernel : ∀ t : Fin grid0.N, win0_10.index t 0 = 7 - t.val ∧ win0_10.index t 1 = 0)

theorem iblk10 (t : Fin cfg0.N) (r : Fin 256) (k : Fin 512) : iblk m c 10 t (ix2 r k) = V m c main_v20 (ix2 (row t r) k) := by
  unfold iblk
  rw [View.read_apply]
  exact at_rows (V m c main_v20) (idx10 t) r k _ rfl rfl

theorem idx11 : ∀ t : Fin cfg0.N, win0_11.index t 0 = 7 - t.val ∧ win0_11.index t 1 = 0 :=
  (by decide +kernel : ∀ t : Fin grid0.N, win0_11.index t 0 = 7 - t.val ∧ win0_11.index t 1 = 0)

theorem iblk11 (t : Fin cfg0.N) (r : Fin 256) (k : Fin 512) : iblk m c 11 t (ix2 r k) = V m c main_v21 (ix2 (row t r) k) := by
  unfold iblk
  rw [View.read_apply]
  exact at_rows (V m c main_v21) (idx11 t) r k _ rfl rfl

theorem idx12 : ∀ t : Fin cfg0.N, win0_12.index t 0 = 7 - t.val ∧ win0_12.index t 1 = 0 :=
  (by decide +kernel : ∀ t : Fin grid0.N, win0_12.index t 0 = 7 - t.val ∧ win0_12.index t 1 = 0)

theorem iblk12 (t : Fin cfg0.N) (r : Fin 256) (k : Fin 512) : iblk m c 12 t (ix2 r k) = V m c main_v22 (ix2 (row t r) k) := by
  unfold iblk
  rw [View.read_apply]
  exact at_rows (V m c main_v22) (idx12 t) r k _ rfl rfl

theorem idx13 : ∀ t : Fin cfg0.N, win0_13.index t 0 = 0 ∧ win0_13.index t 1 = 0 :=
  (by decide +kernel : ∀ t : Fin grid0.N, win0_13.index t 0 = 0 ∧ win0_13.index t 1 = 0)

theorem iblk13 (t : Fin cfg0.N) (r : Fin 1) (k : Fin 2176) : iblk m c 13 t (ix2 r k) = V m c main_arg2 (ix2 r k) := by
  unfold iblk
  rw [View.read_apply]
  exact at_whole (V m c main_arg2) (idx13 t) r k _ rfl rfl

theorem idx14 : ∀ t : Fin cfg0.N, win0_14.index t 0 = 0 ∧ win0_14.index t 1 = 0 :=
  (by decide +kernel : ∀ t : Fin grid0.N, win0_14.index t 0 = 0 ∧ win0_14.index t 1 = 0)

theorem iblk14 (t : Fin cfg0.N) (r : Fin 128) (k : Fin 1024) : iblk m c 14 t (ix2 r k) = V m c main_v11 (ix2 r k) := by
  unfold iblk
  rw [View.read_apply]
  exact at_whole (V m c main_v11) (idx14 t) r k _ rfl rfl

theorem idx15 : ∀ t : Fin cfg0.N, win0_15.index t 0 = 0 ∧ win0_15.index t 1 = 0 :=
  (by decide +kernel : ∀ t : Fin grid0.N, win0_15.index t 0 = 0 ∧ win0_15.index t 1 = 0)

theorem iblk15 (t : Fin cfg0.N) (r : Fin 1) (k : Fin 512) : iblk m c 15 t (ix2 r k) = V m c main_arg4 (ix2 r k) := by
  unfold iblk
  rw [View.read_apply]
  exact at_whole (V m c main_arg4) (idx15 t) r k _ rfl rfl

theorem idx16 : ∀ t : Fin cfg0.N, win0_16.index t 0 = 0 ∧ win0_16.index t 1 = 0 :=
  (by decide +kernel : ∀ t : Fin grid0.N, win0_16.index t 0 = 0 ∧ win0_16.index t 1 = 0)

theorem iblk16 (t : Fin cfg0.N) (r : Fin 1) (k : Fin 512) : iblk m c 16 t (ix2 r k) = V m c main_arg6 (ix2 r k) := by
  unfold iblk
  rw [View.read_apply]
  exact at_whole (V m c main_arg6) (idx16 t) r k _ rfl rfl

theorem idx17 : ∀ t : Fin cfg0.N, win0_17.index t 0 = 0 ∧ win0_17.index t 1 = 0 :=
  (by decide +kernel : ∀ t : Fin grid0.N, win0_17.index t 0 = 0 ∧ win0_17.index t 1 = 0)

theorem iblk17 (t : Fin cfg0.N) (r : Fin 1) (k : Fin 512) : iblk m c 17 t (ix2 r k) = V m c main_arg7 (ix2 r k) := by
  unfold iblk
  rw [View.read_apply]
  exact at_whole (V m c main_arg7) (idx17 t) r k _ rfl rfl

theorem idx18 : ∀ t : Fin cfg0.N, win0_18.index t 0 = 0 ∧ win0_18.index t 1 = 0 :=
  (by decide +kernel : ∀ t : Fin grid0.N, win0_18.index t 0 = 0 ∧ win0_18.index t 1 = 0)

theorem iblk18 (t : Fin cfg0.N) (r : Fin 1) (k : Fin 512) : iblk m c 18 t (ix2 r k) = V m c main_arg8 (ix2 r k) := by
  unfold iblk
  rw [View.read_apply]
  exact at_whole (V m c main_arg8) (idx18 t) r k _ rfl rfl

theorem idx2 : ∀ t : Fin cfg0.N, win0_2.index t 0 = 0 ∧ win0_2.index t 1 = 7 - t.val :=
  (by decide +kernel : ∀ t : Fin grid0.N, win0_2.index t 0 = 0 ∧ win0_2.index t 1 = 7 - t.val)

theorem iblk2 (t : Fin cfg0.N) (i : Fin 1024) (k : Fin 256) : iblk m c 2 t (ix2 i k) = V m c main_v12 (ix2 i (row t k)) := by
  unfold iblk
  rw [View.read_apply]
  show V m c main_v12 _ = V m c main_v12 _
  congr 1
  funext a
  apply Fin.ext
  match a with
  | ⟨0, _⟩ => show win0_2.index t 0 * 1024 + 1 * i.val = i.val; rw [(idx2 t).1]; omega
  | ⟨1, _⟩ => show win0_2.index t 1 * 256 + 1 * k.val = 256 * (7 - t.val) + k.val; rw [(idx2 t).2]; omega

theorem idx1 : ∀ t : Fin cfg0.N, win0_1.index t 0 = (7 - t.val) * 32 - 1 ∧ win0_1.index t 1 = 0 :=
  (by decide +kernel : ∀ t : Fin grid0.N, win0_1.index t 0 = (7 - t.val) * 32 - 1 ∧ win0_1.index t 1 = 0)

theorem iblk1 (t : Fin cfg0.N) (r : Fin 8) (k : Fin 2176) (h) : iblk m c 1 t (ix2 r k) = V m c main_v3 (ix2 ⟨((7 - t.val) * 32 - 1) * 8 + r.val, h⟩ k) := by
  unfold iblk
  rw [View.read_apply]
  show V m c main_v3 _ = V m c main_v3 _
  congr 1
  funext a
  apply Fin.ext
  match a with
  | ⟨0, _⟩ => show win0_1.index t 0 * 8 + 1 * r.val = ((7 - t.val) * 32 - 1) * 8 + r.val; rw [(idx1 t).1]; omega
  | ⟨1, _⟩ => show win0_1.index t 1 * 2176 + 1 * k.val = k.val; rw [(idx1 t).2]; omega

theorem coord : ∀ t : Fin cfg0.N, ((grid0.coords t) 0).val = t.val :=
  (by decide +kernel : ∀ t : Fin grid0.N, ((grid0.coords t) 0).val = t.val)

set_option maxHeartbeats 4000000 in
theorem blk_holds {D : Data} (H : (args m c).Hold D) (t : Fin cfg0.N) : (blk m c t).Holds D (7 - t.val) where
  le := by omega
  i := by
    have := N8
    show ((grid0.coords t) 0).val = _
    rw [coord]; omega
  ua r j := (iblk0 m c t r j).trans ((V_v3 m c _ _).trans (H.u _ _))
  pv h j := by
    have hN := N8
    have hl : ((7 - t.val) * 32 - 1) * 8 + 7 < 2048 := by omega
    have e : (blk m c t).pv (ix2 0 j) = iblk m c 1 t (ix2 (7 : Fin 8) j) := by
      show iblk m c 1 t _ = _
      congr 1
      funext a
      apply Fin.ext
      match a with
      | ⟨0, _⟩ => rfl
      | ⟨1, _⟩ => show 0 + 1 * j.val = j.val; omega
    rw [e, iblk1 m c t 7 j hl, V_v3, H.u]
    show ((D.U (((7 - t.val) * 32 - 1) * 8 + 7) j.val : ℝ) : EReal) = _
    rw [show ((7 - t.val) * 32 - 1) * 8 + 7 = 256 * (7 - t.val) - 1 by omega]
  dr r k := (congrArg₂ (fun x y : EReal => x + y) ((iblk3 m c t r k).trans (V_v13 m c _ _)) ((iblk9 m c t r k).trans (V_v19 m c _ _))).trans (H.dr _ _)
  dw r k := ((iblk4 m c t r k).trans (V_v14 m c _ _)).trans (H.dw _ _)
  dk r k := (congrArg₂ (fun x y : EReal => x + y) ((iblk5 m c t r k).trans (V_v15 m c _ _)) ((iblk10 m c t r k).trans (V_v20 m c _ _))).trans (H.dk _ _)
  dv r k := (congrArg₂ (fun x y : EReal => x + y) ((iblk6 m c t r k).trans (V_v16 m c _ _)) ((iblk11 m c t r k).trans (V_v21 m c _ _))).trans (H.dv _ _)
  da r k := ((iblk7 m c t r k).trans (V_v17 m c _ _)).trans (H.da _ _)
  db r k := ((iblk8 m c t r k).trans (V_v18 m c _ _)).trans (H.db _ _)
  dg r k := ((iblk12 m c t r k).trans (V_v22 m c _ _)).trans (H.dg _ _)
  mu j := ((iblk13 m c t 0 j).trans (congrFun (V_arg2 m c) _)).trans (H.mu _)
  wl l k := by
    refine ((iblk14 m c t l k).trans (V_v11 m c l k)).trans ?_
    unfold Data.WL
    split_ifs <;> first | exact H.wu _ _ | exact H.au _ _ | rfl
  w0 k := ((iblk15 m c t 0 k).trans (congrFun (V_arg4 m c) _)).trans (H.w0 _)
  a0 k := ((iblk16 m c t 0 k).trans (congrFun (V_arg6 m c) _)).trans (H.a0 _)
  kw k := ((iblk17 m c t 0 k).trans (congrFun (V_arg7 m c) _)).trans (H.kw _)
  ka k := ((iblk18 m c t 0 k).trans (congrFun (V_arg8 m c) _)).trans (H.ka _)

end Cert.Rwkv

end
-- ==== Proof.RwkvKernel.lean ====
/-
  What the WKV preparation's backward kernel has computed after each point: the row it carries to the next row block, the
  gradient at the projected rows, and the seven sums over all the rows.
-/
module

public import proofs.«01_k».proof.Proof.RwkvInputs

@[expose] public section

set_option maxRecDepth 16384

noncomputable section

namespace Cert.Rwkv

open Cert.Kernel4Ideal Cert.Kernel4Ideal.Gen Idealize.ShloMosaic Idealize.ShloMosaic.TcCoe Idealize.SL.Sem

section
variable (m : (ℓ : Loc nD τ sig) → Buf (Elt Ideal) ℓ) (c : Dev nD)

theorem lt7 : 7 < cfg0.N := by decide +kernel

/-- A sum that the points add up, from the last row block to the first. -/
theorem kept_sum (p : St Ideal → EReal) (f : ℕ → EReal) (h0 : p St.zero = 0)
    (h : ∀ t : Fin cfg0.N, p (kept m c (t.val + 1) t.isLt) = p (kept m c t.val (Nat.le_of_lt t.isLt)) + ∑ r : Fin 256, f (256 * (7 - t.val) + r.val)) :
    p (kept m c (7 + 1) lt7) = ∑ r : Fin 2048, f r.val := by
  have hN := N8
  have key : ∀ (n : ℕ) (hn : n ≤ cfg0.N), p (kept m c n hn) = ∑ k ∈ Finset.Ico (256 * (8 - n)) 2048, f k := by
    intro n
    induction n with
    | zero => intro hn; rw [kept_zero m c 0 hn rfl, h0]; simp
    | succ n ih =>
      intro hn
      rw [h ⟨n, hn⟩]
      dsimp only
      rw [ih, Fin.sum_univ_eq_sum_range (fun r => f (256 * (7 - n) + r)), show 8 - (n + 1) = 7 - n by omega,
        ← Finset.sum_Ico_consecutive f (show 256 * (7 - n) ≤ 256 * (7 - n) + 256 by omega) (show 256 * (7 - n) + 256 ≤ 2048 by omega),
        Finset.sum_Ico_eq_sum_range f (256 * (7 - n)) (256 * (7 - n) + 256), Nat.add_sub_cancel_left, add_comm, show 256 * (7 - n) + 256 = 256 * (8 - n) by omega]
  rw [key, Nat.sub_self, Nat.mul_zero, ← Finset.range_eq_Ico, ← Fin.sum_univ_eq_sum_range f]

/-- Row `k` of the activations. -/
def act (i : Fin 1024) (k : ℕ) : EReal := if h : k < 2048 then (args m c).H (ix3 0 ⟨k, h⟩ i) else 0
end

section
variable {m : (ℓ : Loc nD τ sig) → Buf (Elt Ideal) ℓ} {c : Dev nD} {D : Data} (H : (args m c).Hold D)
include H

theorem sum_dw0 (k : Fin 512) : (kept m c (7 + 1) lt7).dw0 (ix2 0 k) = ∑ r : Fin 2048, D.DZ r.val k.val :=
  kept_sum m c (fun s => s.dw0 (ix2 0 k)) (fun r => D.DZ r k.val) (by unfold St.zero k0_pay5; pointwise)
    fun t => dw0_add (blk_holds m c H t) _ k

theorem sum_dka (k : Fin 512) : (kept m c (7 + 1) lt7).dka (ix2 0 k)
    = ∑ r : Fin 2048, D.DK r.val k.val * (D.K0 r.val k.val : EReal) * ((D.A r.val k.val - 1 : ℝ) : EReal) :=
  kept_sum m c (fun s => s.dka (ix2 0 k)) (fun r => D.DK r k.val * (D.K0 r k.val : EReal) * ((D.A r k.val - 1 : ℝ) : EReal))
    (by unfold St.zero k0_pay8; pointwise) fun t => dka_add (blk_holds m c H t) _ k

variable (L : D.Long)
include L

theorem sum_da0 (k : Fin 512) : (kept m c (7 + 1) lt7).da0 (ix2 0 k) = ∑ r : Fin 2048, D.DZA r.val k.val :=
  kept_sum m c (fun s => s.da0 (ix2 0 k)) (fun r => D.DZA r k.val) (by unfold St.zero k0_pay6; pointwise)
    fun t => da0_add (blk_holds m c H t) L _ k

theorem sum_dkw (k : Fin 512) : (kept m c (7 + 1) lt7).dkw (ix2 0 k) = ∑ r : Fin 2048, ((D.DKK0 r.val k.val * D.K0 r.val k.val : ℝ) : EReal) :=
  kept_sum m c (fun s => s.dkw (ix2 0 k)) (fun r => ((D.DKK0 r k.val * D.K0 r k.val : ℝ) : EReal)) (by unfold St.zero k0_pay7; pointwise)
    fun t => dkw_add (blk_holds m c H t) L _ k

theorem sum_dl (l : Fin 128) (k : Fin 1024) : (kept m c (7 + 1) lt7).dl (ix2 l k)
    = ∑ r : Fin 2048, (D.LIN r.val l.val : EReal) * (if k.val < 512 then D.DZ r.val k.val else D.DZA r.val (k.val - 512)) :=
  kept_sum m c (fun s => s.dl (ix2 l k)) (fun r => (D.LIN r l.val : EReal) * (if k.val < 512 then D.DZ r k.val else D.DZA r (k.val - 512)))
    (by unfold St.zero k0_pay4; pointwise) fun t => dwl_add (blk_holds m c H t) L _ l k

theorem sum_dmu (j : Fin 2176) : (kept m c (7 + 1) lt7).dmu (ix2 0 j) = ∑ r : Fin 2048, D.DUS r.val j.val * (D.DL r.val j.val : EReal) :=
  kept_sum m c (fun s => s.dmu (ix2 0 j)) (fun r => D.DUS r j.val * (D.DL r j.val : EReal)) (by unfold St.zero k0_pay3; pointwise)
    fun t => dmu_add (blk_holds m c H t) L _ j

/-- The row that a point hands to the next row block. -/
theorem kept_ca (n : ℕ) (hn : n ≤ cfg0.N) (j : Fin 2176) : (kept m c n hn).ca (ix2 0 j) = if 0 < n then D.G1 (256 * (8 - n)) j.val else 0 := by
  cases n with
  | zero =>
    rw [kept_zero m c 0 hn rfl, if_neg (lt_irrefl 0)]
    unfold St.zero k0_pay1
    pointwise
  | succ n =>
    rw [if_pos n.succ_pos, show 8 - (n + 1) = 7 - n by omega]
    exact carry_at (blk_holds m c H ⟨n, hn⟩) L j

theorem du_point (t : Fin cfg0.N) (r : Fin 256) (j : Fin 2176) :
    (blk m c t).v321 (kept m c t.val (Nat.le_of_lt t.isLt)).ca (ix2 r j) = D.DU (256 * (7 - t.val) + r.val) j.val := by
  have hN := N8
  have ht := t.isLt
  refine du_at (blk_holds m c H t) r L _ j ?_
  rw [kept_ca H L]
  by_cases h : 0 < t.val
  · rw [if_pos h, if_pos (by omega), show 7 - t.val + 1 = 8 - t.val by omega]
  · rw [if_neg h, if_neg (by omega)]

theorem sum_dw (i : Fin 1024) (j : Fin 2176) : (kept m c (7 + 1) lt7).dw (ix2 i j) = ∑ r : Fin 2048, ((args m c).H (ix3 0 r i) * D.DU r.val j.val : EReal) := by
  refine (kept_sum m c (fun s => s.dw (ix2 i j)) (fun r => act m c i r * D.DU r j.val) (by unfold St.zero k0_pay2; pointwise) fun t => ?_).trans ?_
  · refine (dw_add (b := blk m c t) _ (iblk m c 2 t) _ i j).trans (congrArg _ (Finset.sum_congr rfl fun r _ => ?_))
    rw [du_point H L t r j, iblk2, V_v12]
    congr 1
    unfold act
    refine Eq.trans ?_ (dif_pos (show 256 * (7 - t.val) + r.val < 2048 from (row t r).isLt)).symm
    rfl
  · exact Finset.sum_congr rfl fun r _ => congrArg (· * _) (dif_pos r.isLt)
end

end Cert.Rwkv

end
-- ==== Proof.RwkvResults.lean ====
/-
  The WKV preparation's backward kernel run to its end: what the eight arrays the call returns hold, and what the host
  lines after it make of one of them.
-/
module

public import proofs.«01_k».proof.Proof.RwkvKernel
public import proofs.«01_k».proof.Proof.FoxResults

@[expose] public section

set_option maxRecDepth 16384

noncomputable section

namespace Cert.Rwkv

open Cert.Kernel4Ideal Cert.Kernel4Ideal.Gen Idealize.ShloMosaic Idealize.ShloMosaic.TcCoe Idealize.SL.Sem

variable (m : (ℓ : Loc nD τ sig) → Buf (Elt Ideal) ℓ) (c : Dev nD)

theorem seven (t : Fin cfg0.N) (h : t.val % 8 = 7) : t = ⟨7, lt7⟩ := by
  have hN := N8
  have ht := t.isLt
  apply Fin.ext
  show t.val = 7
  omega

/-- The point that works on row `r`. -/
abbrev pointOf (r : Fin 2048) : Fin cfg0.N := ⟨7 - r.val / 256, by have := N8; omega⟩

/-- What point `t` leaves of the gradient at its rows. -/
abbrev duBlk (t : Fin cfg0.N) : FVec Ideal S256x2176 .f32 := (blk m c t).v321 (kept m c t.val (Nat.le_of_lt t.isLt)).ca

/-- The gradient at the projected rows as an array. -/
def arr19 : Buf (Elt Ideal) ((c : Thread nD τ).loc main_v23_0) :=
  fun i : S2048x2176.Idx => duBlk m c (pointOf (i 0)) (ix2 (⟨(i 0).val % 256, by omega⟩ : Fin 256) (i 1))

theorem idx19 : ∀ t : Fin cfg0.N, win0_19.index t 0 = 7 - t.val ∧ win0_19.index t 1 = 0 :=
  (by decide +kernel : ∀ t : Fin grid0.N, win0_19.index t 0 = 7 - t.val ∧ win0_19.index t 1 = 0)

theorem du_congr (t t' : Fin cfg0.N) (h : t = t') (r r' : Fin 256) (hr : r = r') (l l' : Fin 2176) (hl : l = l') :
    duBlk m c t (ix2 r l) = duBlk m c t' (ix2 r' l') := by
  subst h hr hl; rfl

theorem flush19 (t : Fin cfg0.N) : (dats m 0 c).flushed 19 t = ((cfg0.win 19).blk t).view.read (Elt Ideal) (arr19 m c) := by
  have hN := N8
  have ht := t.isLt
  show (cfg0.win 19).cut (grid0.coords t) ((dats m 0 c).after 19 t) = _
  rw [after_19]
  funext j
  rw [View.read_apply]
  obtain ⟨r, l, rfl⟩ : ∃ (r : Fin 256) (l : Fin 2176), j = ix2 r l := ⟨j 0, j 1, Cert.Fox.ix2_eta (a := 256) (b := 2176) j⟩
  have hr := r.isLt
  refine du_congr m c t _ (Fin.ext ?_) r _ (Fin.ext ?_) l _ (Fin.ext ?_)
  · show t.val = 7 - (win0_19.index t 0 * 256 + 1 * r.val) / 256
    rw [(idx19 t).1]; omega
  · show r.val = (win0_19.index t 0 * 256 + 1 * r.val) % 256
    rw [(idx19 t).1]; omega
  · show l.val = win0_19.index t 1 * 2176 + 1 * l.val
    rw [(idx19 t).2]; omega

theorem final19 : (dats m 0 c).arrAt 19 cfg0.N = arr19 m c :=
  (dats m 0 c).arrAt_eq_of_cover 19 (arr19 m c) (fun t _ => flush19 m c t) fun i => by
    have hN := N8
    have h0 : (i 0 : Nat) < 2048 := (i 0).isLt
    have h1 : (i 1 : Nat) < 2176 := (i 1).isLt
    have ht : 7 - (i 0 : Nat) / 256 < cfg0.N := by omega
    refine ⟨⟨7 - (i 0 : Nat) / 256, ht⟩, (by decide +kernel : ∀ t : Fin grid0.N, (cfg0.win 19).flush t = true) _, ?_⟩
    show i ∈ ((View.whole main_v23_0).slice (win0_19.rect ⟨7 - (i 0 : Nat) / 256, ht⟩)).set
    rw [View.set_slice_whole, Rect.mem_set_unit]
    have hi := idx19 ⟨7 - (i 0 : Nat) / 256, ht⟩
    intro a
    match a with
    | ⟨0, _⟩ =>
      show win0_19.index _ 0 * 256 ≤ (i 0 : Nat) ∧ (i 0 : Nat) < win0_19.index _ 0 * 256 + 256
      rw [hi.1]; dsimp only; omega
    | ⟨1, _⟩ =>
      show win0_19.index _ 1 * 2176 ≤ (i 1 : Nat) ∧ (i 1 : Nat) < win0_19.index _ 1 * 2176 + 2176
      rw [hi.2]; omega

/-- The projection gradient, as the last point leaves it. -/
def arr20 : Buf (Elt Ideal) ((c : Thread nD τ).loc main_v23_1) := (kept m c (7 + 1) lt7).dw

theorem idx20 : ∀ t : Fin cfg0.N, win0_20.index t 0 = 0 ∧ win0_20.index t 1 = 0 :=
  (by decide +kernel : ∀ t : Fin grid0.N, win0_20.index t 0 = 0 ∧ win0_20.index t 1 = 0)

theorem flush20 (t : Fin cfg0.N) (hf : (cfg0.win 20).flush t = true) :
    (dats m 0 c).flushed 20 t = ((cfg0.win 20).blk t).view.read (Elt Ideal) (arr20 m c) := by
  rw [seven t ((flush0_20 t).mp hf)]
  show (cfg0.win 20).cut (grid0.coords ⟨7, lt7⟩) ((dats m 0 c).after 20 ⟨7, lt7⟩) = _
  rw [after_20]
  show _ = ((cfg0.win 20).blk ⟨7, lt7⟩).view.read (Elt Ideal) (kept m c (7 + 1) lt7).dw
  dsimp only
  generalize (kept m c (7 + 1) lt7).dw = f
  funext j
  rw [View.read_apply]
  obtain ⟨r, l, rfl⟩ : ∃ (r : Fin 1024) (l : Fin 2176), j = ix2 r l := ⟨j 0, j 1, Cert.Fox.ix2_eta (a := 1024) (b := 2176) j⟩
  exact (at_whole f (idx20 ⟨7, lt7⟩) r l _ rfl rfl).symm

theorem final20 : (dats m 0 c).arrAt 20 cfg0.N = arr20 m c :=
  (dats m 0 c).arrAt_eq_of_cover 20 (arr20 m c) (flush20 m c) fun i => by
    have h0 : (i 0 : Nat) < 1024 := (i 0).isLt
    have h1 : (i 1 : Nat) < 2176 := (i 1).isLt
    refine ⟨⟨7, lt7⟩, (flush0_20 _).mpr rfl, ?_⟩
    show i ∈ ((View.whole main_v23_1).slice (win0_20.rect ⟨7, lt7⟩)).set
    rw [View.set_slice_whole, Rect.mem_set_unit]
    have hi := idx20 ⟨7, lt7⟩
    intro a
    match a with
    | ⟨0, _⟩ =>
      show win0_20.index _ 0 * 1024 ≤ (i 0 : Nat) ∧ (i 0 : Nat) < win0_20.index _ 0 * 1024 + 1024
      rw [hi.1]; omega
    | ⟨1, _⟩ =>
      show win0_20.index _ 1 * 2176 ≤ (i 1 : Nat) ∧ (i 1 : Nat) < win0_20.index _ 1 * 2176 + 2176
      rw [hi.2]; omega

/-- The gradient of the shift weights, as the last point leaves it. -/
def arr21 : Buf (Elt Ideal) ((c : Thread nD τ).loc main_v23_2) := (kept m c (7 + 1) lt7).dmu

theorem idx21 : ∀ t : Fin cfg0.N, win0_21.index t 0 = 0 ∧ win0_21.index t 1 = 0 :=
  (by decide +kernel : ∀ t : Fin grid0.N, win0_21.index t 0 = 0 ∧ win0_21.index t 1 = 0)

theorem flush21 (t : Fin cfg0.N) (hf : (cfg0.win 21).flush t = true) :
    (dats m 0 c).flushed 21 t = ((cfg0.win 21).blk t).view.read (Elt Ideal) (arr21 m c) := by
  rw [seven t ((flush0_21 t).mp hf)]
  show (cfg0.win 21).cut (grid0.coords ⟨7, lt7⟩) ((dats m 0 c).after 21 ⟨7, lt7⟩) = _
  rw [after_21]
  show _ = ((cfg0.win 21).blk ⟨7, lt7⟩).view.read (Elt Ideal) (kept m c (7 + 1) lt7).dmu
  dsimp only
  generalize (kept m c (7 + 1) lt7).dmu = f
  funext j
  rw [View.read_apply]
  obtain ⟨r, l, rfl⟩ : ∃ (r : Fin 1) (l : Fin 2176), j = ix2 r l := ⟨j 0, j 1, Cert.Fox.ix2_eta (a := 1) (b := 2176) j⟩
  exact (at_whole f (idx21 ⟨7, lt7⟩) r l _ rfl rfl).symm

theorem final21 : (dats m 0 c).arrAt 21 cfg0.N = arr21 m c :=
  (dats m 0 c).arrAt_eq_of_cover 21 (arr21 m c) (flush21 m c) fun i => by
    have h0 : (i 0 : Nat) < 1 := (i 0).isLt
    have h1 : (i 1 : Nat) < 2176 := (i 1).isLt
    refine ⟨⟨7, lt7⟩, (flush0_21 _).mpr rfl, ?_⟩
    show i ∈ ((View.whole main_v23_2).slice (win0_21.rect ⟨7, lt7⟩)).set
    rw [View.set_slice_whole, Rect.mem_set_unit]
    have hi := idx21 ⟨7, lt7⟩
    intro a
    match a with
    | ⟨0, _⟩ =>
      show win0_21.index _ 0 * 1 ≤ (i 0 : Nat) ∧ (i 0 : Nat) < win0_21.index _ 0 * 1 + 1
      rw [hi.1]; omega
    | ⟨1, _⟩ =>
      show win0_21.index _ 1 * 2176 ≤ (i 1 : Nat) ∧ (i 1 : Nat) < win0_21.index _ 1 * 2176 + 2176
      rw [hi.2]; omega

/-- The gradient of the two low-rank weights side by side, as the last point leaves it. -/
def arr22 : Buf (Elt Ideal) ((c : Thread nD τ).loc main_v23_3) := (kept m c (7 + 1) lt7).dl

theorem idx22 : ∀ t : Fin cfg0.N, win0_22.index t 0 = 0 ∧ win0_22.index t 1 = 0 :=
  (by decide +kernel : ∀ t : Fin grid0.N, win0_22.index t 0 = 0 ∧ win0_22.index t 1 = 0)

theorem flush22 (t : Fin cfg0.N) (hf : (cfg0.win 22).flush t = true) :
    (dats m 0 c).flushed 22 t = ((cfg0.win 22).blk t).view.read (Elt Ideal) (arr22 m c) := by
  rw [seven t ((flush0_22 t).mp hf)]
  show (cfg0.win 22).cut (grid0.coords ⟨7, lt7⟩) ((dats m 0 c).after 22 ⟨7, lt7⟩) = _
  rw [after_22]
  show _ = ((cfg0.win 22).blk ⟨7, lt7⟩).view.read (Elt Ideal) (kept m c (7 + 1) lt7).dl
  dsimp only
  generalize (kept m c (7 + 1) lt7).dl = f
  funext j
  rw [View.read_apply]
  obtain ⟨r, l, rfl⟩ : ∃ (r : Fin 128) (l : Fin 1024), j = ix2 r l := ⟨j 0, j 1, Cert.Fox.ix2_eta (a := 128) (b := 1024) j⟩
  exact (at_whole f (idx22 ⟨7, lt7⟩) r l _ rfl rfl).symm

theorem final22 : (dats m 0 c).arrAt 22 cfg0.N = arr22 m c :=
  (dats m 0 c).arrAt_eq_of_cover 22 (arr22 m c) (flush22 m c) fun i => by
    have h0 : (i 0 : Nat) < 128 := (i 0).isLt
    have h1 : (i 1 : Nat) < 1024 := (i 1).isLt
    refine ⟨⟨7, lt7⟩, (flush0_22 _).mpr rfl, ?_⟩
    show i ∈ ((View.whole main_v23_3).slice (win0_22.rect ⟨7, lt7⟩)).set
    rw [View.set_slice_whole, Rect.mem_set_unit]
    have hi := idx22 ⟨7, lt7⟩
    intro a
    match a with
    | ⟨0, _⟩ =>
      show win0_22.index _ 0 * 128 ≤ (i 0 : Nat) ∧ (i 0 : Nat) < win0_22.index _ 0 * 128 + 128
      rw [hi.1]; omega
    | ⟨1, _⟩ =>
      show win0_22.index _ 1 * 1024 ≤ (i 1 : Nat) ∧ (i 1 : Nat) < win0_22.index _ 1 * 1024 + 1024
      rw [hi.2]; omega

/-- The gradient of the decay bias, as the last point leaves it. -/
def arr23 : Buf (Elt Ideal) ((c : Thread nD τ).loc main_v23_4) := (kept m c (7 + 1) lt7).dw0

theorem idx23 : ∀ t : Fin cfg0.N, win0_23.index t 0 = 0 ∧ win0_23.index t 1 = 0 :=
  (by decide +kernel : ∀ t : Fin grid0.N, win0_23.index t 0 = 0 ∧ win0_23.index t 1 = 0)

theorem flush23 (t : Fin cfg0.N) (hf : (cfg0.win 23).flush t = true) :
    (dats m 0 c).flushed 23 t = ((cfg0.win 23).blk t).view.read (Elt Ideal) (arr23 m c) := by
  rw [seven t ((flush0_23 t).mp hf)]
  show (cfg0.win 23).cut (grid0.coords ⟨7, lt7⟩) ((dats m 0 c).after 23 ⟨7, lt7⟩) = _
  rw [after_23]
  show _ = ((cfg0.win 23).blk ⟨7, lt7⟩).view.read (Elt Ideal) (kept m c (7 + 1) lt7).dw0
  dsimp only
  generalize (kept m c (7 + 1) lt7).dw0 = f
  funext j
  rw [View.read_apply]
  obtain ⟨r, l, rfl⟩ : ∃ (r : Fin 1) (l : Fin 512), j = ix2 r l := ⟨j 0, j 1, Cert.Fox.ix2_eta (a := 1) (b := 512) j⟩
  exact (at_whole f (idx23 ⟨7, lt7⟩) r l _ rfl rfl).symm

theorem final23 : (dats m 0 c).arrAt 23 cfg0.N = arr23 m c :=
  (dats m 0 c).arrAt_eq_of_cover 23 (arr23 m c) (flush23 m c) fun i => by
    have h0 : (i 0 : Nat) < 1 := (i 0).isLt
    have h1 : (i 1 : Nat) < 512 := (i 1).isLt
    refine ⟨⟨7, lt7⟩, (flush0_23 _).mpr rfl, ?_⟩
    show i ∈ ((View.whole main_v23_4).slice (win0_23.rect ⟨7, lt7⟩)).set
    rw [View.set_slice_whole, Rect.mem_set_unit]
    have hi := idx23 ⟨7, lt7⟩
    intro a
    match a with
    | ⟨0, _⟩ =>
      show win0_23.index _ 0 * 1 ≤ (i 0 : Nat) ∧ (i 0 : Nat) < win0_23.index _ 0 * 1 + 1
      rw [hi.1]; omega
    | ⟨1, _⟩ =>
      show win0_23.index _ 1 * 512 ≤ (i 1 : Nat) ∧ (i 1 : Nat) < win0_23.index _ 1 * 512 + 512
      rw [hi.2]; omega

/-- The gradient of the learning-rate bias, as the last point leaves it. -/
def arr24 : Buf (Elt Ideal) ((c : Thread nD τ).loc main_v23_5) := (kept m c (7 + 1) lt7).da0

theorem idx24 : ∀ t : Fin cfg0.N, win0_24.index t 0 = 0 ∧ win0_24.index t 1 = 0 :=
  (by decide +kernel : ∀ t : Fin grid0.N, win0_24.index t 0 = 0 ∧ win0_24.index t 1 = 0)

theorem flush24 (t : Fin cfg0.N) (hf : (cfg0.win 24).flush t = true) :
    (dats m 0 c).flushed 24 t = ((cfg0.win 24).blk t).view.read (Elt Ideal) (arr24 m c) := by
  rw [seven t ((flush0_24 t).mp hf)]
  show (cfg0.win 24).cut (grid0.coords ⟨7, lt7⟩) ((dats m 0 c).after 24 ⟨7, lt7⟩) = _
  rw [after_24]
  show _ = ((cfg0.win 24).blk ⟨7, lt7⟩).view.read (Elt Ideal) (kept m c (7 + 1) lt7).da0
  dsimp only
  generalize (kept m c (7 + 1) lt7).da0 = f
  funext j
  rw [View.read_apply]
  obtain ⟨r, l, rfl⟩ : ∃ (r : Fin 1) (l : Fin 512), j = ix2 r l := ⟨j 0, j 1, Cert.Fox.ix2_eta (a := 1) (b := 512) j⟩
  exact (at_whole f (idx24 ⟨7, lt7⟩) r l _ rfl rfl).symm

theorem final24 : (dats m 0 c).arrAt 24 cfg0.N = arr24 m c :=
  (dats m 0 c).arrAt_eq_of_cover 24 (arr24 m c) (flush24 m c) fun i => by
    have h0 : (i 0 : Nat) < 1 := (i 0).isLt
    have h1 : (i 1 : Nat) < 512 := (i 1).isLt
    refine ⟨⟨7, lt7⟩, (flush0_24 _).mpr rfl, ?_⟩
    show i ∈ ((View.whole main_v23_5).slice (win0_24.rect ⟨7, lt7⟩)).set
    rw [View.set_slice_whole, Rect.mem_set_unit]
    have hi := idx24 ⟨7, lt7⟩
    intro a
    match a with
    | ⟨0, _⟩ =>
      show win0_24.index _ 0 * 1 ≤ (i 0 : Nat) ∧ (i 0 : Nat) < win0_24.index _ 0 * 1 + 1
      rw [hi.1]; omega
    | ⟨1, _⟩ =>
      show win0_24.index _ 1 * 512 ≤ (i 1 : Nat) ∧ (i 1 : Nat) < win0_24.index _ 1 * 512 + 512
      rw [hi.2]; omega

/-- The gradient of the key weights, as the last point leaves it. -/
def arr25 : Buf (Elt Ideal) ((c : Thread nD τ).loc main_v23_6) := (kept m c (7 + 1) lt7).dkw

theorem idx25 : ∀ t : Fin cfg0.N, win0_25.index t 0 = 0 ∧ win0_25.index t 1 = 0 :=
  (by decide +kernel : ∀ t : Fin grid0.N, win0_25.index t 0 = 0 ∧ win0_25.index t 1 = 0)

theorem flush25 (t : Fin cfg0.N) (hf : (cfg0.win 25).flush t = true) :
    (dats m 0 c).flushed 25 t = ((cfg0.win 25).blk t).view.read (Elt Ideal) (arr25 m c) := by
  rw [seven t ((flush0_25 t).mp hf)]
  show (cfg0.win 25).cut (grid0.coords ⟨7, lt7⟩) ((dats m 0 c).after 25 ⟨7, lt7⟩) = _
  rw [after_25]
  show _ = ((cfg0.win 25).blk ⟨7, lt7⟩).view.read (Elt Ideal) (kept m c (7 + 1) lt7).dkw
  dsimp only
  generalize (kept m c (7 + 1) lt7).dkw = f
  funext j
  rw [View.read_apply]
  obtain ⟨r, l, rfl⟩ : ∃ (r : Fin 1) (l : Fin 512), j = ix2 r l := ⟨j 0, j 1, Cert.Fox.ix2_eta (a := 1) (b := 512) j⟩
  exact (at_whole f (idx25 ⟨7, lt7⟩) r l _ rfl rfl).symm

theorem final25 : (dats m 0 c).arrAt 25 cfg0.N = arr25 m c :=
  (dats m 0 c).arrAt_eq_of_cover 25 (arr25 m c) (flush25 m c) fun i => by
    have h0 : (i 0 : Nat) < 1 := (i 0).isLt
    have h1 : (i 1 : Nat) < 512 := (i 1).isLt
    refine ⟨⟨7, lt7⟩, (flush0_25 _).mpr rfl, ?_⟩
    show i ∈ ((View.whole main_v23_6).slice (win0_25.rect ⟨7, lt7⟩)).set
    rw [View.set_slice_whole, Rect.mem_set_unit]
    have hi := idx25 ⟨7, lt7⟩
    intro a
    match a with
    | ⟨0, _⟩ =>
      show win0_25.index _ 0 * 1 ≤ (i 0 : Nat) ∧ (i 0 : Nat) < win0_25.index _ 0 * 1 + 1
      rw [hi.1]; omega
    | ⟨1, _⟩ =>
      show win0_25.index _ 1 * 512 ≤ (i 1 : Nat) ∧ (i 1 : Nat) < win0_25.index _ 1 * 512 + 512
      rw [hi.2]; omega

/-- The gradient of the key scales, as the last point leaves it. -/
def arr26 : Buf (Elt Ideal) ((c : Thread nD τ).loc main_v23_7) := (kept m c (7 + 1) lt7).dka

theorem idx26 : ∀ t : Fin cfg0.N, win0_26.index t 0 = 0 ∧ win0_26.index t 1 = 0 :=
  (by decide +kernel : ∀ t : Fin grid0.N, win0_26.index t 0 = 0 ∧ win0_26.index t 1 = 0)

theorem flush26 (t : Fin cfg0.N) (hf : (cfg0.win 26).flush t = true) :
    (dats m 0 c).flushed 26 t = ((cfg0.win 26).blk t).view.read (Elt Ideal) (arr26 m c) := by
  rw [seven t ((flush0_26 t).mp hf)]
  show (cfg0.win 26).cut (grid0.coords ⟨7, lt7⟩) ((dats m 0 c).after 26 ⟨7, lt7⟩) = _
  rw [after_26]
  show _ = ((cfg0.win 26).blk ⟨7, lt7⟩).view.read (Elt Ideal) (kept m c (7 + 1) lt7).dka
  dsimp only
  generalize (kept m c (7 + 1) lt7).dka = f
  funext j
  rw [View.read_apply]
  obtain ⟨r, l, rfl⟩ : ∃ (r : Fin 1) (l : Fin 512), j = ix2 r l := ⟨j 0, j 1, Cert.Fox.ix2_eta (a := 1) (b := 512) j⟩
  exact (at_whole f (idx26 ⟨7, lt7⟩) r l _ rfl rfl).symm

theorem final26 : (dats m 0 c).arrAt 26 cfg0.N = arr26 m c :=
  (dats m 0 c).arrAt_eq_of_cover 26 (arr26 m c) (flush26 m c) fun i => by
    have h0 : (i 0 : Nat) < 1 := (i 0).isLt
    have h1 : (i 1 : Nat) < 512 := (i 1).isLt
    refine ⟨⟨7, lt7⟩, (flush0_26 _).mpr rfl, ?_⟩
    show i ∈ ((View.whole main_v23_7).slice (win0_26.rect ⟨7, lt7⟩)).set
    rw [View.set_slice_whole, Rect.mem_set_unit]
    have hi := idx26 ⟨7, lt7⟩
    intro a
    match a with
    | ⟨0, _⟩ =>
      show win0_26.index _ 0 * 1 ≤ (i 0 : Nat) ∧ (i 0 : Nat) < win0_26.index _ 0 * 1 + 1
      rw [hi.1]; omega
    | ⟨1, _⟩ =>
      show win0_26.index _ 1 * 512 ≤ (i 1 : Nat) ∧ (i 1 : Nat) < win0_26.index _ 1 * 512 + 512
      rw [hi.2]; omega

/-! ## The host lines after the call -/

/-- What the host lines after the call leave in a buffer. -/
abbrev tail (b : Ref sig .tc) : Buf (Elt Ideal) ((c : Thread nD τ).loc b) := Pipeline.afterTail₀ cfgs (dats m) 0 (V0 m) [hostOps1] c b

/-- The buffers as the call leaves them. -/
abbrev atEnd : Valuation τ sig (Elt Ideal) := Pipeline.withArrays (cfgs 0).spec c (V0 m c) fun w => (dats m 0 c).arrAt w (cfgs 0).N

theorem end22 : atEnd m c (Proc.devRef .tc main_v23_3) = arr22 m c := ((dats m 0 c).withArrays_arrAt sharedIn0 (V0 m c) (A_eq m c) 22).trans (final22 m c)

theorem tail24 (l : Fin 64) (k : Fin 512) : tail m c main_v24 (ix2 l k) = arr22 m c (ix2 ⟨l.val, by omega⟩ ⟨k.val, by omega⟩) := by
  show StableHlo.after (List.flatten [hostOps1]) (atEnd m c) (Proc.devRef .tc main_v24) _ = _
  unfold hostOps1
  simp only [List.flatten_cons, List.flatten_nil, List.append_nil]
  after_results
  rw [end22]
  pointwise

theorem tail25 (l : Fin 64) (k : Fin 512) : tail m c main_v25 (ix2 l k) = arr22 m c (ix2 ⟨64 + l.val, by omega⟩ ⟨512 + k.val, by omega⟩) := by
  show StableHlo.after (List.flatten [hostOps1]) (atEnd m c) (Proc.devRef .tc main_v25) _ = _
  unfold hostOps1
  simp only [List.flatten_cons, List.flatten_nil, List.append_nil]
  after_results
  rw [end22]
  pointwise

variable (ρ : Dev nD → PrngReg)

/-- The kernel's run: its nine results. -/
theorem kernel_run : θ_run (defs (F := Ideal)) (onTc (τ := τ) (main (F := Ideal))) ⟨m, fun _ => 0, ρ⟩ (fun r => (∀ c : Dev nD,
      r.2.mem ((c.tc : Thread nD τ).loc main_v23_0) = arr19 m c
      ∧ r.2.mem ((c.tc : Thread nD τ).loc main_v23_1) = arr20 m c
      ∧ r.2.mem ((c.tc : Thread nD τ).loc main_v23_2) = arr21 m c
      ∧ r.2.mem ((c.tc : Thread nD τ).loc main_v24) = tail m c main_v24
      ∧ r.2.mem ((c.tc : Thread nD τ).loc main_v23_4) = arr23 m c
      ∧ r.2.mem ((c.tc : Thread nD τ).loc main_v25) = tail m c main_v25
      ∧ r.2.mem ((c.tc : Thread nD τ).loc main_v23_5) = arr24 m c
      ∧ r.2.mem ((c.tc : Thread nD τ).loc main_v23_6) = arr25 m c
      ∧ r.2.mem ((c.tc : Thread nD τ).loc main_v23_7) = arr26 m c)) := by
  refine (θ_run _ _ _).mono (fun r h c => ?_) (run_main m ρ)
  have h' := h.1 c
  exact ⟨(h'.1 19).trans (final19 m c), (h'.1 20).trans (final20 m c), (h'.1 21).trans (final21 m c), h'.2 main_v24 (Pipeline.mem_restRefs_of main_v24 (by decide) (by decide)),
    (h'.1 23).trans (final23 m c), h'.2 main_v25 (Pipeline.mem_restRefs_of main_v25 (by decide) (by decide)), (h'.1 24).trans (final24 m c), (h'.1 25).trans (final25 m c), (h'.1 26).trans (final26 m c)⟩

/-! ## The results' entries -/

section
variable {m : (ℓ : Loc nD τ sig) → Buf (Elt Ideal) ℓ} {c : Dev nD} {D : Data} (H : (args m c).Hold D) (L : D.Long)
include H L

theorem arr19_at (r : Fin 2048) (j : Fin 2176) : arr19 m c (ix2 r j) = D.DU r.val j.val := by
  refine (du_point H L (pointOf r) ⟨r.val % 256, by omega⟩ j).trans ?_
  dsimp only
  rw [show 256 * (7 - (7 - r.val / 256)) + r.val % 256 = r.val by omega]

theorem tail24_at (l : Fin 64) (k : Fin 512) : tail m c main_v24 (ix2 l k) = (∑ r : Fin 2048, (D.TH r.val l.val : EReal) * D.DZ r.val k.val : EReal) := by
  refine Eq.trans (α := EReal) (tail24 m c l k) ((sum_dl H L ⟨l.val, by omega⟩ ⟨k.val, by omega⟩).trans (Finset.sum_congr rfl fun r _ => ?_))
  dsimp only
  unfold Data.LIN
  rw [if_pos l.isLt, if_pos k.isLt]

theorem tail25_at (l : Fin 64) (k : Fin 512) : tail m c main_v25 (ix2 l k) = (∑ r : Fin 2048, (D.LA r.val l.val : EReal) * D.DZA r.val k.val : EReal) := by
  refine Eq.trans (α := EReal) (tail25 m c l k) ((sum_dl H L ⟨64 + l.val, by omega⟩ ⟨512 + k.val, by omega⟩).trans (Finset.sum_congr rfl fun r _ => ?_))
  dsimp only
  unfold Data.LIN Data.LA
  rw [if_neg (by omega), if_neg (by omega), show 1536 + (64 + l.val) = 1600 + l.val by omega, Nat.add_sub_cancel_left]
end

end Cert.Rwkv

end
-- ==== Proof.RwkvClaim.lean ====
/-
  The claims about the WKV preparation's backward call: both programs leave their arguments and every counter as they found
  them, and on finite arguments, with no head of keys too short to be normalised, both end with equal gradients.
-/
module

public import proofs.«01_k».proof.Defs
public import proofs.«01_k».proof.Proof.TopArray
public import proofs.«01_k».proof.Proof.RwkvReference
public import proofs.«01_k».proof.Proof.RwkvResults
public import proofs.«01_k».proof.Proof.Gen.Kernel4
public import proofs.«01_k».proof.Proof.Gen.Reference4Ideal.Run
public import Idealize.ShloMosaic.Lib.Quiescent

@[expose] public section

set_option maxRecDepth 16384

noncomputable section

namespace Cert.Rwkv

open Idealize.ShloMosaic Idealize.ShloMosaic.TcCoe Idealize.SL.Sem
open Cert.Kernel4Ideal (nD τ sig S1x2048x1024 S1024x2176 S1x2176 S1x64x512 S1x512 S1x2048x8x64)

theorem frame_kernel : Cert.quiescent_Kernel4 := fun m ρ _ => by
  have h := @frame Bits _ m ρ
  refine Eq.mp (?_ : _ = _) h
  sl_kernel_rfl

theorem frame_ideal : Cert.quiescent_Kernel4Ideal := fun m ρ _ => frame m ρ

theorem reference_frame : Cert.quiescent_Reference4Ideal := fun m ρ _ =>
  (θ_run _ _ _).mono (fun r h => ⟨fun c => (h c).2.2.2.2.2.2.2.2.2, sem_eq_zero_of_no_sems (by decide) r.2⟩)
    (Cert.Reference4Ideal.Value.run (F := Ideal) m ρ)

instance preFacts : Cert.Pre_finite_rwkv.Facts where
  slices_S1x2048x2176_S1x1x2176_0_0_0 := by decide +kernel
  bcast_S_S1x1x2176 := by decide +kernel
  slices_S1x2048x2176_S1x2047x2176_0_0_0 := by decide +kernel
  concatenates_S1x1x2176_S1x2047x2176_S1x2048x2176_d1 := by decide +kernel
  shapeCasts_S1x2176_S2176 := by decide +kernel
  bcast_S2176_S1x1x2176_2 := by decide +kernel
  bcast_S1x1x2176_S1x2048x2176_0_1_2 := by decide +kernel
  slices_S1x2048x2176_S1x2048x512_0_0_512 := by decide +kernel
  shapeCasts_S1x512_S512 := by decide +kernel
  bcast_S512_S1x1x512_2 := by decide +kernel
  bcast_S1x1x512_S1x2048x512_0_1_2 := by decide +kernel
  shapeCasts_S1x2048x512_S1x2048x8x64 := by decide +kernel
  bcast_S_S1x2048x1024 := by decide +kernel
  bcast_S_S1024x2176 := by decide +kernel
  bcast_S_S1x2176 := by decide +kernel
  bcast_S_S1x64x512 := by decide +kernel
  bcast_S_S1x512 := by decide +kernel
  bcast_S_S1x2048x8x64 := by decide +kernel
  reducesTo_S1x2048x8x64_S1x2048x8_d3 := by decide +kernel
  h_S_ := by decide +kernel
  bcast_S_S1x2048x8 := by decide +kernel
  dot_S1x2048x1024_S1024x2176_S1x2048x2176_2_0_01_1_n_n_wf := by decide +kernel

/-! ## The numbers in the arguments -/

/-- An index taken round the axis. -/
abbrev wrap (n : ℕ) [NeZero n] (k : ℕ) : Fin n := ⟨k % n, Nat.mod_lt _ (NeZero.pos n)⟩

theorem wrap_val {n : ℕ} [NeZero n] (k : Fin n) : wrap n k.val = k := Fin.ext (Nat.mod_eq_of_lt k.isLt)

/-- The numbers in the arguments: `X0` … `X14` are the finite ones, the rest are as they stand in `a`. -/
def dataOf (a : Arrays) (X0 : S1x2048x1024.Idx → ℝ) (X1 : S1024x2176.Idx → ℝ) (X2 : S1x2176.Idx → ℝ) (X3 X5 : S1x64x512.Idx → ℝ)
    (X4 X6 X7 X8 : S1x512.Idx → ℝ) (X13 X14 : S1x2048x8x64.Idx → ℝ) : Data where
  U r j := ∑ i : Fin 1024, X0 (ix3 0 (wrap 2048 r) i) * X1 (ix2 i (wrap 2176 j))
  MU j := X2 (ix2 0 (wrap 2176 j))
  WU l c := X3 (ix3 0 (wrap 64 l) (wrap 512 c))
  W0 c := X4 (ix2 0 (wrap 512 c))
  AU l c := X5 (ix3 0 (wrap 64 l) (wrap 512 c))
  A0 c := X6 (ix2 0 (wrap 512 c))
  KW c := X7 (ix2 0 (wrap 512 c))
  KA c := X8 (ix2 0 (wrap 512 c))
  DA r c := X13 (ix4 0 (wrap 2048 r) ⟨(wrap 512 c).val / 64, by omega⟩ ⟨(wrap 512 c).val % 64, by omega⟩)
  DB r c := X14 (ix4 0 (wrap 2048 r) ⟨(wrap 512 c).val / 64, by omega⟩ ⟨(wrap 512 c).val % 64, by omega⟩)
  DR r c := byHead a.DR (wrap 2048 r) (wrap 512 c) + byHead a.DRB (wrap 2048 r) (wrap 512 c)
  DW r c := byHead a.DW (wrap 2048 r) (wrap 512 c)
  DK r c := byHead a.DK (wrap 2048 r) (wrap 512 c) + byHead a.DKB (wrap 2048 r) (wrap 512 c)
  DV r c := byHead a.DV (wrap 2048 r) (wrap 512 c) + byHead a.DVB (wrap 2048 r) (wrap 512 c)
  DG r c := a.DG (ix3 0 (wrap 2048 r) (wrap 512 c))

theorem hold_of {a : Arrays} {X0 : S1x2048x1024.Idx → ℝ} {X1 : S1024x2176.Idx → ℝ} {X2 : S1x2176.Idx → ℝ} {X3 X5 : S1x64x512.Idx → ℝ}
    {X4 X6 X7 X8 : S1x512.Idx → ℝ} {X13 X14 : S1x2048x8x64.Idx → ℝ}
    (h0 : a.H = fun i => ((X0 i : ℝ) : EReal)) (h1 : a.W = fun i => ((X1 i : ℝ) : EReal)) (h2 : a.MU = fun i => ((X2 i : ℝ) : EReal))
    (h3 : a.WU = fun i => ((X3 i : ℝ) : EReal)) (h4 : a.W0 = fun i => ((X4 i : ℝ) : EReal)) (h5 : a.AU = fun i => ((X5 i : ℝ) : EReal))
    (h6 : a.A0 = fun i => ((X6 i : ℝ) : EReal)) (h7 : a.KW = fun i => ((X7 i : ℝ) : EReal)) (h8 : a.KA = fun i => ((X8 i : ℝ) : EReal))
    (h13 : a.DA = fun i => ((X13 i : ℝ) : EReal)) (h14 : a.DB = fun i => ((X14 i : ℝ) : EReal)) :
    a.Hold (dataOf a X0 X1 X2 X3 X5 X4 X6 X7 X8 X13 X14) where
  u r j := by
    unfold dataOf
    rw [h0, h1]
    simp only [wrap_val, ← EReal.coe_mul, Reals.sum_coe]
  mu j := by unfold dataOf; rw [h2]; simp only [wrap_val]
  wu l c := by unfold dataOf; rw [h3]; simp only [wrap_val]
  w0 c := by unfold dataOf; rw [h4]; simp only [wrap_val]
  au l c := by unfold dataOf; rw [h5]; simp only [wrap_val]
  a0 c := by unfold dataOf; rw [h6]; simp only [wrap_val]
  kw c := by unfold dataOf; rw [h7]; simp only [wrap_val]
  ka c := by unfold dataOf; rw [h8]; simp only [wrap_val]
  da r c := by unfold dataOf byHead; rw [h13]; simp only [wrap_val, Nat.mod_eq_of_lt c.isLt]
  db r c := by unfold dataOf byHead; rw [h14]; simp only [wrap_val, Nat.mod_eq_of_lt c.isLt]
  dr r c := by unfold dataOf; simp only [wrap_val]
  dw r c := by unfold dataOf; simp only [wrap_val]
  dk r c := by unfold dataOf; simp only [wrap_val]
  dv r c := by unfold dataOf; simp only [wrap_val]
  dg r c := by unfold dataOf; simp only [wrap_val]

open Cert.Reference4Ideal.Gen Cert.Reference4Ideal.Read in
theorem long_of {a : Arrays} {D : Data} (H : a.Hold D) {x f : FVec Ideal Cert.Reference4Ideal.S1x2048x8 .f32} (hx : x = val_main_call1_v1 (F := Ideal) a.H a.W a.MU a.KW) (hf : f = fun _ => Ideal.ofBits .f32 0x179ABE15#32)
    (p : cmpf .ogt x f = fun _ => 1#1) : D.Long := by
  intro r c hr hc
  subst hf hx
  have e : Ideal.cmp CmpFPredicate.ogt (val_main_call1_v1 (F := Ideal) a.H a.W a.MU a.KW (ix3 0 ⟨r, hr⟩ ⟨c / 64, by omega⟩)) (Ideal.ofBits .f32 0x179ABE15#32) = 1#1 :=
    congrFun p (ix3 0 ⟨r, hr⟩ ⟨c / 64, by omega⟩)
  have s : val_main_call1_v1 (F := Ideal) a.H a.W a.MU a.KW (ix3 0 ⟨r, hr⟩ ⟨c / 64, by omega⟩) = ((D.SS r c : ℝ) : EReal) := by
    have t := Cert.Fox.hsum_head (fun k => D.KK0 r k * D.KK0 r k) (c / 64) (c % 64) (Nat.mod_lt _ (by norm_num))
    rw [Nat.div_add_mod] at t
    unfold val_main_call1_v1 val_main_call1_v0 val_main_call1_cst Data.SS
    pointwise
    simp only [kk0_ref H, ← EReal.coe_mul, Reals.sum_coe, t]
  rw [s, lit_least] at e
  by_contra h
  exact absurd e (by simp [Ideal.cmp, h])

/-! ## The reference's arguments -/

/-- The reference's arguments on a device. -/
def refArgs (m : (ℓ : Loc Cert.Reference4Ideal.nD Cert.Reference4Ideal.τ Cert.Reference4Ideal.sig) → Buf (Elt Ideal) ℓ) (c : Dev Cert.Reference4Ideal.nD) : Arrays where
  H := m ((c.tc : Thread Cert.Reference4Ideal.nD Cert.Reference4Ideal.τ).loc Cert.Reference4Ideal.main_arg0)
  W := m ((c.tc : Thread Cert.Reference4Ideal.nD Cert.Reference4Ideal.τ).loc Cert.Reference4Ideal.main_arg1)
  MU := m ((c.tc : Thread Cert.Reference4Ideal.nD Cert.Reference4Ideal.τ).loc Cert.Reference4Ideal.main_arg2)
  WU := m ((c.tc : Thread Cert.Reference4Ideal.nD Cert.Reference4Ideal.τ).loc Cert.Reference4Ideal.main_arg3)
  W0 := m ((c.tc : Thread Cert.Reference4Ideal.nD Cert.Reference4Ideal.τ).loc Cert.Reference4Ideal.main_arg4)
  AU := m ((c.tc : Thread Cert.Reference4Ideal.nD Cert.Reference4Ideal.τ).loc Cert.Reference4Ideal.main_arg5)
  A0 := m ((c.tc : Thread Cert.Reference4Ideal.nD Cert.Reference4Ideal.τ).loc Cert.Reference4Ideal.main_arg6)
  KW := m ((c.tc : Thread Cert.Reference4Ideal.nD Cert.Reference4Ideal.τ).loc Cert.Reference4Ideal.main_arg7)
  KA := m ((c.tc : Thread Cert.Reference4Ideal.nD Cert.Reference4Ideal.τ).loc Cert.Reference4Ideal.main_arg8)
  DR := m ((c.tc : Thread Cert.Reference4Ideal.nD Cert.Reference4Ideal.τ).loc Cert.Reference4Ideal.main_arg9)
  DW := m ((c.tc : Thread Cert.Reference4Ideal.nD Cert.Reference4Ideal.τ).loc Cert.Reference4Ideal.main_arg10)
  DK := m ((c.tc : Thread Cert.Reference4Ideal.nD Cert.Reference4Ideal.τ).loc Cert.Reference4Ideal.main_arg11)
  DV := m ((c.tc : Thread Cert.Reference4Ideal.nD Cert.Reference4Ideal.τ).loc Cert.Reference4Ideal.main_arg12)
  DA := m ((c.tc : Thread Cert.Reference4Ideal.nD Cert.Reference4Ideal.τ).loc Cert.Reference4Ideal.main_arg13)
  DB := m ((c.tc : Thread Cert.Reference4Ideal.nD Cert.Reference4Ideal.τ).loc Cert.Reference4Ideal.main_arg14)
  DRB := m ((c.tc : Thread Cert.Reference4Ideal.nD Cert.Reference4Ideal.τ).loc Cert.Reference4Ideal.main_arg15)
  DKB := m ((c.tc : Thread Cert.Reference4Ideal.nD Cert.Reference4Ideal.τ).loc Cert.Reference4Ideal.main_arg16)
  DVB := m ((c.tc : Thread Cert.Reference4Ideal.nD Cert.Reference4Ideal.τ).loc Cert.Reference4Ideal.main_arg17)
  DG := m ((c.tc : Thread Cert.Reference4Ideal.nD Cert.Reference4Ideal.τ).loc Cert.Reference4Ideal.main_arg18)

set_option maxHeartbeats 1600000 in
theorem algebraic : Cert.algebraic_Kernel4Ideal_Reference4Ideal_pre_finite_rwkv := by
  intro m ρ m' ρ' hpre hag
  refine ⟨fun c => arr19 m c, fun c => arr20 m c, fun c => arr21 m c, fun c => tail m c Cert.Kernel4Ideal.main_v24, fun c => arr23 m c,
    fun c => tail m c Cert.Kernel4Ideal.main_v25, fun c => arr24 m c, fun c => arr25 m c, fun c => arr26 m c, ?_, ?_⟩
  · refine (θ_run _ _ _).mono (fun r h c => ?_) (θ_run_and (kernel_run m ρ) (frame (F := Ideal) m ρ))
    obtain ⟨h0, h1, h2, h3, h4, h5, h6, h7, h8⟩ := h.1 c
    exact ⟨h0, h1, h2, h3, h4, h5, h6, h7, h8, h.2.1 c⟩
  · refine (θ_run _ _ _).mono (fun r h c => ?_) (Cert.Reference4Ideal.Value.run (F := Ideal) m' ρ')
    have E : refArgs m' c = args m c := by
      obtain ⟨e0, e1, e2, e3, e4, e5, e6, e7, e8, e9, e10, e11, e12, e13, e14, e15, e16, e17, e18⟩ := hag c
      unfold refArgs args
      rw [Arrays.mk.injEq]
      exact ⟨e0, e1, e2, e3, e4, e5, e6, e7, e8, e9, e10, e11, e12, e13, e14, e15, e16, e17, e18⟩
    obtain ⟨p0, p1, p2, p3, p4, p5, p6, p7, p8, p13, p14, long⟩ := hpre c
    obtain ⟨X0, h0⟩ := Reals.real_of_abs_lt (args m c).H _ (Reals.top_array _) p0
    obtain ⟨X1, h1⟩ := Reals.real_of_abs_lt (args m c).W _ (Reals.top_array _) p1
    obtain ⟨X2, h2⟩ := Reals.real_of_abs_lt (args m c).MU _ (Reals.top_array _) p2
    obtain ⟨X3, h3⟩ := Reals.real_of_abs_lt (args m c).WU _ (Reals.top_array _) p3
    obtain ⟨X4, h4⟩ := Reals.real_of_abs_lt (args m c).W0 _ (Reals.top_array _) p4
    obtain ⟨X5, h5⟩ := Reals.real_of_abs_lt (args m c).AU _ (Reals.top_array _) p5
    obtain ⟨X6, h6⟩ := Reals.real_of_abs_lt (args m c).A0 _ (Reals.top_array _) p6
    obtain ⟨X7, h7⟩ := Reals.real_of_abs_lt (args m c).KW _ (Reals.top_array _) p7
    obtain ⟨X8, h8⟩ := Reals.real_of_abs_lt (args m c).KA _ (Reals.top_array _) p8
    obtain ⟨X13, h13⟩ := Reals.real_of_abs_lt (args m c).DA _ (Reals.top_array _) p13
    obtain ⟨X14, h14⟩ := Reals.real_of_abs_lt (args m c).DB _ (Reals.top_array _) p14
    have K := hold_of h0 h1 h2 h3 h4 h5 h6 h7 h8 h13 h14
    unfold Cert.Pre_finite_rwkv.fn Cert.Pre_finite_rwkv.fn_part1 Cert.Pre_finite_rwkv.fn_part2 at long
    dsimp only at long
    have L := by
      refine long_of K ?_ (funext fun _ => ?_) long
      · unfold Cert.Reference4Ideal.Read.val_main_call1_v1 Cert.Reference4Ideal.Read.val_main_call1_v0 Cert.Reference4Ideal.Read.val_main_v58
          Cert.Reference4Ideal.Read.val_main_v57 Cert.Reference4Ideal.Read.val_main_v56 Cert.Reference4Ideal.Read.val_main_v55 Cert.Reference4Ideal.Read.val_main_v6 Cert.Reference4Ideal.Read.val_main_v19
          Cert.Reference4Ideal.Read.val_main_v17 Cert.Reference4Ideal.Read.val_main_v16 Cert.Reference4Ideal.Read.val_main_v15 Cert.Reference4Ideal.Read.val_main_v14
          Cert.Reference4Ideal.Read.val_main_v13 Cert.Reference4Ideal.Read.val_main_v11 Cert.Reference4Ideal.Read.val_main_v10 Cert.Reference4Ideal.Read.val_main_v9
          Cert.Reference4Ideal.Read.val_main_v0 Cert.Reference4Ideal.Read.val_main_v1
        rfl
      · rfl
    obtain ⟨D, K, L⟩ : ∃ D : Data, (args m c).Hold D ∧ D.Long := ⟨_, K, L⟩
    have R : (refArgs m' c).Hold D := by rw [E]; exact K
    obtain ⟨r0, r1, r2, r3, r4, r5, r6, r7, r8, rest⟩ := h c
    refine ⟨r0.trans ((Cert.Reference4Ideal.Read.val_main_v166_eq (F := Ideal) _).trans ?_), r1.trans ((Cert.Reference4Ideal.Read.val_main_v165_eq (F := Ideal) _).trans ?_),
      r2.trans ((Cert.Reference4Ideal.Read.val_main_v167_eq (F := Ideal) _).trans ?_), r3.trans ((Cert.Reference4Ideal.Read.val_main_v148_eq (F := Ideal) _).trans ?_),
      r4.trans ((Cert.Reference4Ideal.Read.val_main_v168_eq (F := Ideal) _).trans ?_), r5.trans ((Cert.Reference4Ideal.Read.val_main_v136_eq (F := Ideal) _).trans ?_),
      r6.trans ((Cert.Reference4Ideal.Read.val_main_v169_eq (F := Ideal) _).trans ?_), r7.trans ((Cert.Reference4Ideal.Read.val_main_v170_eq (F := Ideal) _).trans ?_),
      r8.trans ((Cert.Reference4Ideal.Read.val_main_v171_eq (F := Ideal) _).trans ?_), rest⟩
    · funext j
      obtain ⟨r, k, rfl⟩ : ∃ (r : Fin 2048) (k : Fin 2176), j = ix2 r k := ⟨j 0, j 1, Cert.Fox.ix2_eta (a := 2048) (b := 2176) j⟩
      exact (ref_du R L r k).trans (arr19_at K L r k).symm
    · funext j
      obtain ⟨r, k, rfl⟩ : ∃ (r : Fin 1024) (k : Fin 2176), j = ix2 r k := ⟨j 0, j 1, Cert.Fox.ix2_eta (a := 1024) (b := 2176) j⟩
      exact (ref_dw R L r k).trans ((congrArg (fun a : Arrays => ∑ q : Fin 2048, (a.H (ix3 0 q r) * D.DU q.val k.val : EReal)) E).trans (sum_dw K L r k).symm)
    · funext j
      obtain ⟨r, k, rfl⟩ : ∃ (r : Fin 1) (k : Fin 2176), j = ix2 r k := ⟨j 0, j 1, Cert.Fox.ix2_eta (a := 1) (b := 2176) j⟩
      obtain rfl : r = 0 := Subsingleton.elim _ _
      exact (ref_dmu R L k).trans (sum_dmu K L k).symm
    · funext j
      obtain ⟨r, k, rfl⟩ : ∃ (r : Fin 64) (k : Fin 512), j = ix2 r k := ⟨j 0, j 1, Cert.Fox.ix2_eta (a := 64) (b := 512) j⟩
      exact (ref_dwu R r k).trans (tail24_at K L r k).symm
    · funext j
      obtain ⟨r, k, rfl⟩ : ∃ (r : Fin 1) (k : Fin 512), j = ix2 r k := ⟨j 0, j 1, Cert.Fox.ix2_eta (a := 1) (b := 512) j⟩
      obtain rfl : r = 0 := Subsingleton.elim _ _
      exact (ref_dw0 R k).trans (sum_dw0 K k).symm
    · funext j
      obtain ⟨r, k, rfl⟩ : ∃ (r : Fin 64) (k : Fin 512), j = ix2 r k := ⟨j 0, j 1, Cert.Fox.ix2_eta (a := 64) (b := 512) j⟩
      exact (ref_dau R L r k).trans (tail25_at K L r k).symm
    · funext j
      obtain ⟨r, k, rfl⟩ : ∃ (r : Fin 1) (k : Fin 512), j = ix2 r k := ⟨j 0, j 1, Cert.Fox.ix2_eta (a := 1) (b := 512) j⟩
      obtain rfl : r = 0 := Subsingleton.elim _ _
      exact (ref_da0 R L k).trans (sum_da0 K L k).symm
    · funext j
      obtain ⟨r, k, rfl⟩ : ∃ (r : Fin 1) (k : Fin 512), j = ix2 r k := ⟨j 0, j 1, Cert.Fox.ix2_eta (a := 1) (b := 512) j⟩
      obtain rfl : r = 0 := Subsingleton.elim _ _
      exact (ref_dkw R L k).trans (sum_dkw K L k).symm
    · funext j
      obtain ⟨r, k, rfl⟩ : ∃ (r : Fin 1) (k : Fin 512), j = ix2 r k := ⟨j 0, j 1, Cert.Fox.ix2_eta (a := 1) (b := 512) j⟩
      obtain rfl : r = 0 := Subsingleton.elim _ _
      exact (ref_dka R k).trans (sum_dka K k).symm

end Cert.Rwkv

end
-- ==== Proof.MergeSpec.lean ====
/-
  The mixers' merge, the loss and their gradient written with plain sums of real numbers: the group norm and the bonus of
  the first mixer, the gates, the two projections back, the residual row, its norm and its error, and back.
-/
module

public import proofs.«01_k».proof.Proof.Heads

@[expose] public section

noncomputable section

namespace Cert.Merge

open Idealize.ShloMosaic Cert.Heads

/-- The constant that the group norm adds to a variance, and the one that the root mean square adds. -/
def epsL : ℝ := 10995116 * (2 : ℝ) ^ (-34 : ℤ)
def epsR : ℝ := 8796093 * (2 : ℝ) ^ (-43 : ℤ)

def sigm (x : ℝ) : ℝ := 1 / (1 + Real.exp (-x))

/-- The numbers the arguments hold, by row and column. -/
structure Data where
  Y : ℕ → ℕ → ℝ
  R : ℕ → ℕ → ℝ
  K : ℕ → ℕ → ℝ
  V : ℕ → ℕ → ℝ
  GA : ℕ → ℕ → ℝ
  O : ℕ → ℕ → ℝ
  GB : ℕ → ℕ → ℝ
  H : ℕ → ℕ → ℝ
  X : ℕ → ℕ → ℝ
  TG : ℕ → ℕ → ℝ
  WG : ℕ → ℕ → ℝ
  WA : ℕ → ℕ → ℝ
  WB : ℕ → ℕ → ℝ
  WO : ℕ → ℕ → ℝ
  FG : ℕ → ℝ
  LW : ℕ → ℝ
  LB : ℕ → ℝ
  RK : ℕ → ℝ

namespace Data

variable (D : Data) (r c : ℕ)

/-- A head's row less its mean, over the root of its variance. -/
def YC : ℝ := D.Y r c - hsum (fun k => D.Y r k) c * (1 / 64)
def VAR : ℝ := hsum (fun k => D.YC r k * D.YC r k) c * (1 / 64) + epsL
def RSTD : ℝ := (Real.sqrt (D.VAR r c))⁻¹
def YN : ℝ := D.YC r c * D.RSTD r c
/-- The bonus of a head. -/
def RKK : ℝ := hsum (fun k => D.R r k * D.K r k * D.RK k) c
def PRE : ℝ := D.YN r c * D.LW c + D.LB c + D.RKK r c * D.V r c
def SLA : ℝ := D.GA r c * sigm (D.GA r c)
def SLB : ℝ := D.GB r c * sigm (D.GB r c)
def MA : ℝ := D.PRE r c * D.SLA r c
def MB : ℝ := D.O r c * D.SLB r c
def YA : ℝ := ∑ k : Fin 512, D.MA r k.val * D.WA k.val c
def YB : ℝ := ∑ k : Fin 512, D.MB r k.val * D.WB k.val c
def UG : ℝ := ∑ k : Fin 1024, D.H r k.val * D.WG k.val c
def SA : ℝ := sigm (D.UG r c)
def SB : ℝ := sigm (D.UG r (1024 + c))
def MG : ℝ := D.SA r c * D.YA r c + D.SB r c * D.YB r c
def X2 : ℝ := D.X r c + ∑ k : Fin 1024, D.MG r k.val * D.WO k.val c
def MS : ℝ := (∑ k : Fin 1024, D.X2 r k.val * D.X2 r k.val) / 1024 + epsR
def R2 : ℝ := (Real.sqrt (D.MS r))⁻¹
def XH : ℝ := D.X2 r c * D.R2 r
def ER : ℝ := D.XH r c * D.FG c - D.TG r c
/-- Back through the loss and the norm. -/
def DYO : ℝ := D.ER r c * (1 / 1024)
def DXH : ℝ := D.DYO r c * D.FG c
def SX : ℝ := ∑ k : Fin 1024, D.DXH r k.val * D.XH r k.val
def DX : ℝ := D.R2 r * (D.DXH r c - D.XH r c * (D.SX r / 1024))
/-- Back through the gates. -/
def DM : ℝ := ∑ k : Fin 1024, D.DX r k.val * D.WO c k.val
def DYA : ℝ := D.DM r c * D.SA r c
def DYB : ℝ := D.DM r c * D.SB r c
def UA : ℝ := D.DYA r c * D.YA r c * (1 - D.SA r c)
def UB : ℝ := D.DYB r c * D.YB r c * (1 - D.SB r c)
def DUG : ℝ := if c < 1024 then D.UA r c else D.UB r (c - 1024)
def DMA : ℝ := ∑ k : Fin 1024, D.DYA r k.val * D.WA c k.val
def DMB : ℝ := ∑ k : Fin 1024, D.DYB r k.val * D.WB c k.val
def DO : ℝ := D.DMB r c * D.SLB r c
def DGB : ℝ := D.DMB r c * D.O r c * (sigm (D.GB r c) * (1 + D.GB r c * (1 - sigm (D.GB r c))))
def DGA : ℝ := D.DMA r c * D.PRE r c * (sigm (D.GA r c) * (1 + D.GA r c * (1 - sigm (D.GA r c))))
/-- Back through the first mixer's group norm and bonus. -/
def DP : ℝ := D.DMA r c * D.SLA r c
def DYN : ℝ := D.DP r c * D.LW c
def MN : ℝ := hsum (fun k => D.DYN r k) c * (1 / 64)
def MY : ℝ := hsum (fun k => D.DYN r k * D.YN r k) c * (1 / 64)
def DY : ℝ := D.RSTD r c * (D.DYN r c - D.MN r c - D.YN r c * D.MY r c)
def DV : ℝ := D.DP r c * D.RKK r c
def DKK : ℝ := hsum (fun k => D.DP r k * D.V r k) c
def DR : ℝ := D.DKK r c * D.K r c * D.RK c
def DK : ℝ := D.DKK r c * D.R r c * D.RK c

end Data

theorem hsum_squares (f : ℕ → ℝ) (c : ℕ) : 0 ≤ hsum (fun k => f k * f k) c := Finset.sum_nonneg fun _ _ => mul_self_nonneg _

theorem epsL_pos : 0 < epsL := by unfold epsL; positivity
theorem epsR_pos : 0 < epsR := by unfold epsR; positivity

theorem var_pos (D : Data) (r c : ℕ) : 0 < D.VAR r c := by
  have h := hsum_squares (fun k => D.YC r k) c
  have := epsL_pos
  unfold Data.VAR
  positivity

theorem ms_pos (D : Data) (r : ℕ) : 0 < D.MS r := by
  have h : 0 ≤ ∑ k : Fin 1024, D.X2 r k.val * D.X2 r k.val := Finset.sum_nonneg fun _ _ => mul_self_nonneg _
  have := epsR_pos
  unfold Data.MS
  positivity

theorem lit_epsL : Ideal.ofBits .f32 0x3A27C5AC#32 = ((epsL : ℝ) : EReal) := by
  simp [Ideal.ofBits, Ideal.ieee, -EReal.coe_mul, epsL]

theorem lit_epsR : Ideal.ofBits .f32 0x358637BD#32 = ((epsR : ℝ) : EReal) := by
  simp [Ideal.ofBits, Ideal.ieee, -EReal.coe_mul, epsR]

theorem lit_1024th : Ideal.ofBits .f32 0x3A800000#32 = ((1 / 1024 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem one_add_pos (x : ℝ) : 0 < 1 + Real.exp x := by positivity

theorem sig_real (x : ℝ) : Ideal.div 1 (1 + Ideal.exp (0 - (x : EReal))) = ((sigm x : ℝ) : EReal) := by
  rw [zero_sub, ← EReal.coe_neg]
  show Ideal.div ((1 : ℝ) : EReal) (((1 : ℝ) : EReal) + ((Real.exp (-x) : ℝ) : EReal)) = _
  rw [← EReal.coe_add, Reals.div_real _ _ (one_add_pos _).ne']
  rfl

end Cert.Merge

end
-- ==== Proof.MergeArrays.lean ====
/-
  The arguments of the merge's backward call, and the numbers they hold.
-/
module

public import proofs.«01_k».proof.Kernel5Ideal
public import proofs.«01_k».proof.Proof.MergeSpec

@[expose] public section

noncomputable section

namespace Cert.Merge

open Cert.Kernel5Ideal Idealize.ShloMosaic Idealize.ShloMosaic.TcCoe

/-- The arguments of the call. -/
structure Arrays where
  Y : FVec Ideal S1x2048x512 .f32
  R : FVec Ideal S1x2048x512 .f32
  K : FVec Ideal S1x2048x512 .f32
  V : FVec Ideal S1x2048x512 .f32
  GA : FVec Ideal S1x2048x512 .f32
  O : FVec Ideal S1x2048x512 .f32
  U : FVec Ideal S1x2048x2056 .f32
  H : FVec Ideal S1x2048x1024 .f32
  X : FVec Ideal S1x2048x1024 .f32
  WG : FVec Ideal S1024x2048 .f32
  LW : FVec Ideal S1x512 .f32
  LB : FVec Ideal S1x512 .f32
  RK : FVec Ideal S1x8x64 .f32
  WA : FVec Ideal S1x512x1024 .f32
  WB : FVec Ideal S1x512x1024 .f32
  WO : FVec Ideal S1x1024x1024 .f32
  FG : FVec Ideal S1024 .f32
  TG : FVec Ideal S1x2048x1024 .f32

/-- An array of one layer holds `f`. -/
abbrev Layer {n p : ℕ} (v : (⟨3, ![1, n, p]⟩ : Shape).Idx → EReal) (f : ℕ → ℕ → ℝ) : Prop :=
  ∀ (r : Fin n) (c : Fin p), v (ix3 0 r c) = ((f r.val c.val : ℝ) : EReal)
abbrev Mat {n p : ℕ} (v : (⟨2, ![n, p]⟩ : Shape).Idx → EReal) (f : ℕ → ℕ → ℝ) : Prop :=
  ∀ (r : Fin n) (c : Fin p), v (ix2 r c) = ((f r.val c.val : ℝ) : EReal)
abbrev Row {p : ℕ} (v : (⟨2, ![1, p]⟩ : Shape).Idx → EReal) (f : ℕ → ℝ) : Prop :=
  ∀ c : Fin p, v (ix2 0 c) = ((f c.val : ℝ) : EReal)

/-- The numbers that the arguments hold. -/
structure Arrays.Hold (a : Arrays) (D : Data) : Prop where
  y : Layer a.Y D.Y
  r : Layer a.R D.R
  k : Layer a.K D.K
  v : Layer a.V D.V
  ga : Layer a.GA D.GA
  o : Layer a.O D.O
  gb : ∀ (r : Fin 2048) (c : Fin 512), a.U (ix3 0 r ⟨1536 + c.val, by omega⟩) = ((D.GB r.val c.val : ℝ) : EReal)
  h : Layer a.H D.H
  x : Layer a.X D.X
  wg : Mat a.WG D.WG
  lw : Row a.LW D.LW
  lb : Row a.LB D.LB
  rk : ∀ (h : Fin 8) (k : Fin 64), a.RK (ix3 0 h k) = ((D.RK (64 * h.val + k.val) : ℝ) : EReal)
  wa : Layer a.WA D.WA
  wb : Layer a.WB D.WB
  wo : Layer a.WO D.WO
  fg : ∀ c : Fin 1024, a.FG (ix1 c) = ((D.FG c.val : ℝ) : EReal)
  tg : Layer a.TG D.TG

end Cert.Merge

end
-- ==== Proof.MergeReference.lean ====
/-
  The reference of the merge's backward call read at an index: the chain rule through the loss, the norm before it, the
  two gates, the two output products, the group norm of each head and its bonus.
-/
module

public import proofs.«01_k».proof.Proof.Gen.Reference5Ideal.Read
public import proofs.«01_k».proof.Proof.MergeArrays
public import proofs.«01_k».proof.Proof.FoxReference
public import proofs.«01_k».proof.Proof.RwkvReference

@[expose] public section

set_option maxRecDepth 16384

noncomputable section

namespace Cert.Merge

open Cert.Reference5Ideal Cert.Reference5Ideal.Gen Cert.Reference5Ideal.Read
open Idealize.ShloMosaic Idealize.ShloMosaic.TcCoe Idealize.SL.Sem Cert.Heads

theorem lit_two : Ideal.ofBits .f32 0x40000000#32 = ((2 : ℝ) : EReal) := by
  simp [Ideal.ofBits, Ideal.ieee, -EReal.coe_mul]; norm_num

/-- Summing out the first two of four axes, each of one element. -/
theorem sum4_01 {n p : ℕ} (h : (⟨4, ![1, 1, n, p]⟩ : Shape).ReducesTo [0, 1] ⟨2, ![n, p]⟩) (v : (⟨4, ![1, 1, n, p]⟩ : Shape).Idx → EReal)
    (init : EReal) (c : Fin n) (d : Fin p) : Ideal.hostReduceAdd h v init (ix2 c d) = init + v (ix4 0 0 c d) := by
  unfold Ideal.hostReduceAdd
  congr 1
  rw [← Fintype.sum_unique (fun _ : Unit => v (ix4 0 0 c d))]
  refine Finset.sum_filter_eq_sum_of_fiber _ (fun _ : Unit => ix4 0 0 c d) (fun _ _ _ => rfl) (fun i => ?_) v
  constructor
  · intro e
    have h1 : (i 2).val = c.val := congrArg Fin.val (congrFun e 0)
    have h2 : (i 3).val = d.val := congrArg Fin.val (congrFun e 1)
    refine ⟨(), ?_⟩
    funext x
    match x with
    | ⟨0, _⟩ => exact Subsingleton.elim (α := Fin 1) _ _
    | ⟨1, _⟩ => exact Subsingleton.elim (α := Fin 1) _ _
    | ⟨2, _⟩ => exact Fin.ext h1.symm
    | ⟨3, _⟩ => exact Fin.ext h2.symm
  · rintro ⟨p, rfl⟩
    funext x
    match x with
    | ⟨0, _⟩ => rfl
    | ⟨1, _⟩ => rfl

/-- An array by heads holds the rows of `f`. -/
abbrev ByHead (v : FVec Ideal S1x2048x8x64 .f32) (f : ℕ → ℕ → ℝ) : Prop :=
  ∀ (r : Fin 2048) (h : Fin 8) (k : Fin 64), v (ix4 0 r h k) = ((f r.val (64 * h.val + k.val) : ℝ) : EReal)
/-- A column by heads holds `f`, which is one number on a head. -/
abbrev OnHead (v : FVec Ideal S1x2048x8x1 .f32) (f : ℕ → ℕ → ℝ) : Prop :=
  ∀ (r : Fin 2048) (h : Fin 8) (k : Fin 64), v (ix4 0 r h 0) = ((f r.val (64 * h.val + k.val) : ℝ) : EReal)

section
variable {v : FVec Ideal S1x2048x512 .f32} {w : FVec Ideal S1x2048x8x64 .f32} {f : ℕ → ℕ → ℝ}

theorem split (hv : Layer v f) : ByHead (shapeCast _ v shapeCasts_S1x2048x512_S1x2048x8x64) f := by
  intro r h k
  pointwise
  rw [hv]
  dsimp only
  rw [mul_comm h.val]

theorem join (hw : ByHead w f) : Layer (shapeCast _ w shapeCasts_S1x2048x8x64_S1x2048x512) f := by
  intro r c
  pointwise
  refine (hw r ⟨c.val / 64, by omega⟩ ⟨c.val % 64, by omega⟩).trans ?_
  dsimp only
  rw [Nat.div_add_mod]

/-- A head's sum. -/
theorem sum_head (hw : ByHead w f) (r : Fin 2048) (h : Fin 8) (k : Fin 64) :
    Host.reduceAdd w (constant S_ .f32 0x00000000#32) reducesTo_S1x2048x8x64_S1x2048x8_d3 h_S_ (ix3 0 r h) = ((hsum (f r.val) (64 * h.val + k.val) : ℝ) : EReal) := by
  pointwise
  simp only [hw r, Reals.sum_coe, Cert.Fox.hsum_head _ _ _ k.isLt]

/-- The sum over the rows of each head's column. -/
theorem sum_rows (hw : ByHead w f) (h : Fin 8) (k : Fin 64) :
    Host.reduceAdd (shapeCast _ (Host.reduceAdd w (constant S_ .f32 0x00000000#32) reducesTo_S1x2048x8x64_S1x8x64_d1 h_S_) shapeCasts_S1x8x64_S1x1x8x64)
        (constant S_ .f32 0x00000000#32) reducesTo_S1x1x8x64_S8x64_d0_1 h_S_ (ix2 h k) = ((∑ r : Fin 2048, f r.val (64 * h.val + k.val) : ℝ) : EReal) := by
  pointwise
  refine (sum4_01 _ _ _ h k).trans ?_
  rw [zero_add]
  pointwise
  simp only [hw _ h, Reals.sum_coe]

/-- A column by heads, spread over its head through a sum over axes of one element. -/
theorem spread {u : FVec Ideal S1x2048x8x1 .f32} (hu : OnHead u f) :
    ByHead (broadcastInDim S1x2048x8x64 ![0, 1, 2] bcast_S1x2048x8_S1x2048x8x64_0_1_2 (broadcastInDim S1x2048x8 ![1, 2] bcast_S2048x8_S1x2048x8_1_2
      (Host.reduceAdd u (constant S_ .f32 0x00000000#32) reducesTo_S1x2048x8x1_S2048x8_d0_3 h_S_))) f := by
  intro r h k
  pointwise
  refine (HostSums.sum4_03 _ _ _ r h).trans ?_
  rw [zero_add, Fin.sum_univ_one, Fin.sum_univ_one]
  exact hu r h k

/-- A sum over a head of a row, kept as a column. -/
theorem head_column (hw : ByHead w f) : OnHead (shapeCast _ (Host.reduceAdd w (constant S_ .f32 0x00000000#32) reducesTo_S1x2048x8x64_S1x2048x8_d3 h_S_)
    shapeCasts_S1x2048x8_S1x2048x8x1) fun r c => hsum (f r) c := by
  intro r h k
  refine Eq.trans (α := EReal) ?_ (sum_head hw r h k)
  pointwise
end

section
variable {a : Arrays} {D : Data} (H : a.Hold D)
include H

/-! ## The group norm -/

theorem yh_ref : ByHead (val_main_v12 (F := Ideal) a.Y) D.Y := split H.y
theorem rh_ref : ByHead (val_main_v13 (F := Ideal) a.R) D.R := split H.r
theorem kh_ref : ByHead (val_main_v14 (F := Ideal) a.K) D.K := split H.k
theorem vh_ref : ByHead (val_main_v15 (F := Ideal) a.V) D.V := split H.v

theorem mean_ref : OnHead (val_main_v19 (F := Ideal) a.Y) fun r c => hsum (fun k => D.Y r k) c * (1 / 64) := by
  intro r h k
  have e : (val_main_v16 (F := Ideal) a.Y) (ix3 0 r h) = _ := sum_head (yh_ref H) r h k
  unfold val_main_v19 val_main_v18 val_main_v17 val_main_cst_0
  pointwise
  rw [e, lit_64, Reals.div_real _ _ (by norm_num), div_eq_mul_one_div]

theorem yc_ref : ByHead (val_main_v30 (F := Ideal) a.Y) D.YC := by
  intro r h k
  unfold val_main_v30 val_main_v29
  pointwise
  rw [yh_ref H, mean_ref H r h k, ← EReal.coe_sub]
  rfl

theorem var_ref : OnHead (val_main_v32 (F := Ideal) a.Y) D.VAR := by
  intro r h k
  have e : (val_main_v25 (F := Ideal) a.Y) (ix3 0 r h) = _ := sum_head (f := fun r c => D.YC r c * D.YC r c) (fun r h k => by
    have := yc_ref H r h k
    unfold val_main_v22
    pointwise
    rw [EReal.coe_mul]
    exact congrArg₂ (· * ·) this this) r h k
  unfold val_main_v32 val_main_v31 val_main_v28 val_main_v27 val_main_v26 val_main_cst_3 val_main_cst_4
  pointwise
  rw [e, lit_64, lit_epsL, Reals.div_real _ _ (by norm_num), div_eq_mul_one_div, ← EReal.coe_add]
  rfl

theorem rstd_ref : OnHead (val_main_v33 (F := Ideal) a.Y) D.RSTD := by
  intro r h k
  unfold val_main_v33
  pointwise
  rw [var_ref H r h k, Reals.rsqrt_real _ (var_pos D _ _)]
  rfl

theorem slope_ref : OnHead (val_main_v36 (F := Ideal) a.Y) fun r c => -(1 / 2) * (D.RSTD r c / D.VAR r c) := by
  intro r h k
  unfold val_main_v36 val_main_v35 val_main_v34 val_main_cst_5
  pointwise
  rw [rstd_ref H r h k, var_ref H r h k, Reals.lit_neg_half, Reals.div_real _ _ (var_pos D _ _).ne', ← EReal.coe_mul]

theorem yn_ref : ByHead (val_main_v38 (F := Ideal) a.Y) D.YN := by
  intro r h k
  unfold val_main_v38 val_main_v37
  pointwise
  rw [yc_ref H, rstd_ref H r h k, ← EReal.coe_mul]
  rfl

theorem lw_ref (h : Fin 8) (k : Fin 64) : (val_main_v40 (F := Ideal) a.LW) (ix4 0 0 h k) = ((D.LW (64 * h.val + k.val) : ℝ) : EReal) := by
  unfold val_main_v40 val_main_v39 val_main_v6
  pointwise
  rw [H.lw]
  dsimp only
  rw [mul_comm h.val]

theorem lb_ref (h : Fin 8) (k : Fin 64) : (val_main_v44 (F := Ideal) a.LB) (ix4 0 0 h k) = ((D.LB (64 * h.val + k.val) : ℝ) : EReal) := by
  unfold val_main_v44 val_main_v43 val_main_v7
  pointwise
  rw [H.lb]
  dsimp only
  rw [mul_comm h.val]

theorem rk_ref (h : Fin 8) (k : Fin 64) : (val_main_v48 (F := Ideal) a.RK) (ix4 0 0 h k) = ((D.RK (64 * h.val + k.val) : ℝ) : EReal) := by
  unfold val_main_v48 val_main_v8
  pointwise
  exact H.rk h k

theorem rkk_ref : OnHead (val_main_v52 (F := Ideal) a.R a.K a.RK) D.RKK := by
  intro r h k
  have e : (val_main_v51 (F := Ideal) a.R a.K a.RK) (ix3 0 r h) = _ := sum_head (f := fun r c => D.R r c * D.K r c * D.RK c) (fun r h k => by
    unfold val_main_v50 val_main_v49 val_main_v47
    pointwise
    rw [rh_ref H, kh_ref H, rk_ref H, ← EReal.coe_mul, ← EReal.coe_mul]) r h k
  unfold val_main_v52
  pointwise
  exact e

theorem preh_ref : ByHead (val_main_v55 (F := Ideal) a.Y a.R a.K a.V a.LW a.LB a.RK) D.PRE := by
  intro r h k
  unfold val_main_v55 val_main_v54 val_main_v53 val_main_v46 val_main_v45 val_main_v42 val_main_v41
  pointwise
  rw [yn_ref H, lw_ref H, lb_ref H, vh_ref H, rkk_ref H r h k, ← EReal.coe_mul, ← EReal.coe_mul, ← EReal.coe_add, ← EReal.coe_add]
  rfl

theorem pre_ref : Layer (val_main_v56 (F := Ideal) a.Y a.R a.K a.V a.LW a.LB a.RK) D.PRE := join (preh_ref H)

/-! ## The gates and the output products -/

theorem ga_ref : Layer (val_main_v57_2 (F := Ideal) a.GA) fun r c => sigm (D.GA r c) := by
  intro r c
  unfold val_main_v57_2 val_main_call0_v4 val_main_call0_v3 val_main_call0_v2 val_main_call0_v1 val_main_call0_v0 val_main_call0_cst val_main_call0_cst_0
  pointwise
  rw [H.ga]
  have e := sig_real (D.GA r.val c.val)
  rw [zero_sub] at e
  exact e

theorem gb_ref : Layer (val_main_v3 (F := Ideal) a.U) D.GB := by
  intro r c
  unfold val_main_v3
  pointwise
  exact H.gb r c

theorem gbs_ref : Layer (val_main_v60_2 (F := Ideal) a.U) fun r c => sigm (D.GB r c) := by
  intro r c
  unfold val_main_v60_2 val_main_call1_v4 val_main_call1_v3 val_main_call1_v2 val_main_call1_v1 val_main_call1_v0 val_main_call1_cst val_main_call1_cst_0
  pointwise
  rw [gb_ref H]
  have e := sig_real (D.GB r.val c.val)
  rw [zero_sub] at e
  exact e

theorem sla_ref : Layer (val_main_v57_0 (F := Ideal) a.GA) D.SLA := by
  intro r c
  unfold val_main_v57_0
  pointwise
  rw [H.ga, ga_ref H, ← EReal.coe_mul]
  rfl

theorem slb_ref : Layer (val_main_v60_0 (F := Ideal) a.U) D.SLB := by
  intro r c
  unfold val_main_v60_0
  pointwise
  rw [gb_ref H, gbs_ref H, ← EReal.coe_mul]
  rfl

theorem ma_ref : Layer (val_main_v58 (F := Ideal) a.Y a.R a.K a.V a.GA a.LW a.LB a.RK) D.MA := by
  intro r c
  unfold val_main_v58
  pointwise
  rw [pre_ref H, sla_ref H, ← EReal.coe_mul]
  rfl

theorem mb_ref : Layer (val_main_v61 (F := Ideal) a.O a.U) D.MB := by
  intro r c
  unfold val_main_v61
  pointwise
  rw [H.o, slb_ref H, ← EReal.coe_mul]
  rfl

theorem ya_ref : Layer (val_main_v59 (F := Ideal) a.Y a.R a.K a.V a.GA a.LW a.LB a.RK a.WA) D.YA := by
  intro r c
  unfold val_main_v59 val_main_v9
  pointwise
  simp only [ma_ref H r, H.wa, ← EReal.coe_mul, Reals.sum_coe]
  rfl

theorem yb_ref : Layer (val_main_v62 (F := Ideal) a.O a.U a.WB) D.YB := by
  intro r c
  unfold val_main_v62 val_main_v10
  pointwise
  simp only [mb_ref H r, H.wb, ← EReal.coe_mul, Reals.sum_coe]
  rfl

theorem ug_ref : Layer (val_main_v5 (F := Ideal) a.H a.WG) D.UG := by
  intro r c
  unfold val_main_v5
  pointwise
  simp only [H.h r, H.wg, ← EReal.coe_mul, Reals.sum_coe]
  rfl

theorem sa_ref : Layer (val_main_v70 (F := Ideal) a.H a.WG) D.SA := by
  intro r c
  unfold val_main_v70 val_main_v69 val_main_v68 val_main_v67 val_main_v66 val_main_v65 val_main_v63 val_main_cst_7 val_main_cst_8
  pointwise
  rw [ug_ref H]
  have e := sig_real (D.UG r.val c.val)
  rw [zero_sub] at e
  exact e

theorem sb_ref : Layer (val_main_v80 (F := Ideal) a.H a.WG) D.SB := by
  intro r c
  unfold val_main_v80 val_main_v79 val_main_v78 val_main_v77 val_main_v76 val_main_v75 val_main_v64 val_main_cst_10 val_main_cst_11
  pointwise
  rw [ug_ref H]
  have e := sig_real (D.UG r.val (1024 + c.val))
  rw [zero_sub] at e
  exact e

theorem mg_ref : Layer (val_main_v85 (F := Ideal) a.Y a.R a.K a.V a.GA a.O a.U a.H a.WG a.LW a.LB a.RK a.WA a.WB) D.MG := by
  intro r c
  unfold val_main_v85 val_main_v84 val_main_v74
  pointwise
  rw [sa_ref H, ya_ref H, sb_ref H, yb_ref H, ← EReal.coe_mul, ← EReal.coe_mul, ← EReal.coe_add]
  rfl

/-! ## The norm and the loss -/

theorem x2_ref : Layer (val_main_v87 (F := Ideal) a.Y a.R a.K a.V a.GA a.O a.U a.H a.X a.WG a.LW a.LB a.RK a.WA a.WB a.WO) D.X2 := by
  intro r c
  unfold val_main_v87 val_main_v86 val_main_v11
  pointwise
  simp only [H.x r, mg_ref H r, H.wo, ← EReal.coe_mul, Reals.sum_coe, ← EReal.coe_add]
  rfl

theorem ms_ref (r : Fin 2048) : (val_main_v94 (F := Ideal) a.Y a.R a.K a.V a.GA a.O a.U a.H a.X a.WG a.LW a.LB a.RK a.WA a.WB a.WO) (ix3 0 r 0) = ((D.MS r.val : ℝ) : EReal) := by
  unfold val_main_v94 val_main_v93 val_main_v92 val_main_v91 val_main_v90 val_main_v89 val_main_v88 val_main_cst_13 val_main_cst_14 val_main_cst_15
  pointwise
  simp only [x2_ref H r, ← EReal.coe_mul, Reals.sum_coe]
  rw [Reals.lit_1024, lit_epsR, Reals.div_real _ _ (by norm_num), ← EReal.coe_add]
  rfl

theorem r2_ref (r : Fin 2048) : (val_main_v95 (F := Ideal) a.Y a.R a.K a.V a.GA a.O a.U a.H a.X a.WG a.LW a.LB a.RK a.WA a.WB a.WO) (ix3 0 r 0) = ((D.R2 r.val : ℝ) : EReal) := by
  unfold val_main_v95
  pointwise
  rw [ms_ref H, Reals.rsqrt_real _ (ms_pos D _)]
  rfl

theorem xh_ref : Layer (val_main_v100 (F := Ideal) a.Y a.R a.K a.V a.GA a.O a.U a.H a.X a.WG a.LW a.LB a.RK a.WA a.WB a.WO) D.XH := by
  intro r c
  unfold val_main_v100 val_main_v99
  pointwise
  rw [x2_ref H, r2_ref H, ← EReal.coe_mul]
  rfl

theorem fg_ref (c : Fin 1024) : (val_main_v101 (F := Ideal) a.FG) (ix3 0 0 c) = ((D.FG c.val : ℝ) : EReal) := by
  unfold val_main_v101
  pointwise
  exact H.fg c

theorem er_ref : Layer (val_main_v104 (F := Ideal) a.Y a.R a.K a.V a.GA a.O a.U a.H a.X a.WG a.LW a.LB a.RK a.WA a.WB a.WO a.FG a.TG) D.ER := by
  intro r c
  unfold val_main_v104 val_main_v103 val_main_v102
  pointwise
  rw [xh_ref H, fg_ref H, H.tg, ← EReal.coe_mul, ← EReal.coe_sub]
  rfl

theorem ref_loss (i : S_.Idx) : (val_main_v112 (F := Ideal) a.Y a.R a.K a.V a.GA a.O a.U a.H a.X a.WG a.LW a.LB a.RK a.WA a.WB a.WO a.FG a.TG) i = ((1 / 2 * ∑ r : Fin 2048, (∑ c : Fin 1024, D.ER r.val c.val * D.ER r.val c.val) / 1024 : ℝ) : EReal) := by
  unfold val_main_v112 val_main_v111 val_main_cst_20 val_main_cst_21
  pointwise
  rw [Cert.Rwkv.lit_half, Fin.sum_univ_one]
  unfold val_main_v110 val_main_v109 val_main_v108 val_main_v105 val_main_cst_18 val_main_cst_19
  pointwise
  simp only [er_ref H _, ← EReal.coe_mul, Reals.sum_coe, Reals.lit_1024, Reals.div_real _ (1024 : ℝ) (by norm_num)]

theorem dyo_ref : Layer (val_main_v118 (F := Ideal) a.Y a.R a.K a.V a.GA a.O a.U a.H a.X a.WG a.LW a.LB a.RK a.WA a.WB a.WO a.FG a.TG) D.DYO := by
  intro r c
  unfold val_main_v118 val_main_v117 val_main_v116 val_main_v115 val_main_v114 val_main_v113 val_main_v107 val_main_v106 val_main_cst_17 val_main_cst_22 val_main_cst_23 val_main_cst_24
  pointwise
  rw [er_ref H, lit_two, Cert.Rwkv.lit_half, Reals.lit_1024]
  simp only [mul_one, Reals.div_real _ (1024 : ℝ) (by norm_num), ← EReal.coe_mul]
  congr 1
  unfold Data.DYO
  ring

theorem dxh_ref : Layer (val_main_v123 (F := Ideal) a.Y a.R a.K a.V a.GA a.O a.U a.H a.X a.WG a.LW a.LB a.RK a.WA a.WB a.WO a.FG a.TG) D.DXH := by
  intro r c
  unfold val_main_v123 val_main_v122
  pointwise
  rw [dyo_ref H, fg_ref H, ← EReal.coe_mul]
  rfl

omit H in
/-- The norm's chain rule. -/
theorem dx_real (D : Data) (r c : ℕ) : D.DXH r c * D.R2 r + D.X2 r c * ((∑ k : Fin 1024, D.X2 r k.val * D.DXH r k.val) * (-(1 / 2) * (D.R2 r / D.MS r)) / 1024)
    + (∑ k : Fin 1024, D.X2 r k.val * D.DXH r k.val) * (-(1 / 2) * (D.R2 r / D.MS r)) / 1024 * D.X2 r c = D.DX r c := by
  have hp := ms_pos D r
  have hs : D.SX r = D.R2 r * ∑ k : Fin 1024, D.X2 r k.val * D.DXH r k.val := by
    unfold Data.SX Data.XH
    rw [Finset.mul_sum]
    exact Finset.sum_congr rfl fun k _ => by ring
  have hr : D.R2 r * D.R2 r = 1 / D.MS r := by
    unfold Data.R2
    rw [← mul_inv, Real.mul_self_sqrt hp.le, one_div]
  unfold Data.DX Data.XH
  rw [hs, div_eq_mul_one_div (D.R2 r), ← hr]
  ring

theorem dx_ref : Layer (val_main_v139 (F := Ideal) a.Y a.R a.K a.V a.GA a.O a.U a.H a.X a.WG a.LW a.LB a.RK a.WA a.WB a.WO a.FG a.TG) D.DX := by
  intro r c
  have e : (val_main_v133 (F := Ideal) a.Y a.R a.K a.V a.GA a.O a.U a.H a.X a.WG a.LW a.LB a.RK a.WA a.WB a.WO a.FG a.TG) (ix1 r) = (((∑ k : Fin 1024, D.X2 r.val k.val * D.DXH r.val k.val) * (-(1 / 2) * (D.R2 r.val / D.MS r.val)) / 1024 : ℝ) : EReal) := by
    unfold val_main_v133
    pointwise
    refine (HostSums.sum_02 _ _ _ r).trans ?_
    unfold val_main_cst_29 val_main_v132 val_main_v131 val_main_v130 val_main_v127 val_main_v126 val_main_v125 val_main_v98 val_main_v97 val_main_v96 val_main_cst_16 val_main_cst_27 val_main_cst_28
    pointwise
    rw [Fin.sum_univ_one, Fin.sum_univ_one]
    simp only [x2_ref H r, dxh_ref H r, r2_ref H, ms_ref H, Reals.lit_1024, Reals.lit_neg_half, Reals.div_real _ _ (ms_pos D _).ne', Reals.div_real _ (1024 : ℝ) (by norm_num), ← EReal.coe_mul, Reals.sum_coe]
  unfold val_main_v139 val_main_v138 val_main_v137 val_main_v136 val_main_v135 val_main_v134 val_main_v129 val_main_v128
  pointwise
  rw [e, x2_ref H, dxh_ref H, r2_ref H]
  simp only [← EReal.coe_mul, ← EReal.coe_add]
  exact congrArg _ (dx_real D r.val c.val)

theorem ref_dfg (c : Fin 1024) : (val_main_v124 (F := Ideal) a.Y a.R a.K a.V a.GA a.O a.U a.H a.X a.WG a.LW a.LB a.RK a.WA a.WB a.WO a.FG a.TG) (ix1 c) = ((∑ r : Fin 2048, D.DYO r.val c.val * D.XH r.val c.val : ℝ) : EReal) := by
  unfold val_main_v124
  pointwise
  refine (HostSums.sum_01 _ _ _ c).trans ?_
  unfold val_main_cst_26 val_main_v121 val_main_v120 val_main_v119 val_main_cst_25
  pointwise
  rw [Fin.sum_univ_one, Fin.sum_univ_one]
  simp only [xh_ref H _ c, dyo_ref H _ c, ← EReal.coe_mul, Reals.sum_coe, mul_comm (D.XH _ _)]

/-! ## Back through the gates and the products -/

theorem ref_dwo (k c : Fin 1024) : (val_main_v141 (F := Ideal) a.Y a.R a.K a.V a.GA a.O a.U a.H a.X a.WG a.LW a.LB a.RK a.WA a.WB a.WO a.FG a.TG) (ix2 k c) = ((∑ r : Fin 2048, D.MG r.val k.val * D.DX r.val c.val : ℝ) : EReal) := by
  unfold val_main_v141 val_main_v140
  pointwise
  rw [Fin.sum_univ_one]
  simp only [dx_ref H _ c, mg_ref H _ k, ← EReal.coe_mul, Reals.sum_coe, mul_comm (D.DX _ _)]

theorem dm_ref : Layer (val_main_v142 (F := Ideal) a.Y a.R a.K a.V a.GA a.O a.U a.H a.X a.WG a.LW a.LB a.RK a.WA a.WB a.WO a.FG a.TG) D.DM := by
  intro r c
  unfold val_main_v142 val_main_v11
  pointwise
  simp only [dx_ref H r, H.wo c, ← EReal.coe_mul, Reals.sum_coe]
  rfl

theorem dya_ref : Layer (val_main_v146 (F := Ideal) a.Y a.R a.K a.V a.GA a.O a.U a.H a.X a.WG a.LW a.LB a.RK a.WA a.WB a.WO a.FG a.TG) D.DYA := by
  intro r c
  unfold val_main_v146
  pointwise
  rw [sa_ref H, dm_ref H, ← EReal.coe_mul, mul_comm]
  rfl

theorem dyb_ref : Layer (val_main_v143 (F := Ideal) a.Y a.R a.K a.V a.GA a.O a.U a.H a.X a.WG a.LW a.LB a.RK a.WA a.WB a.WO a.FG a.TG) D.DYB := by
  intro r c
  unfold val_main_v143
  pointwise
  rw [sb_ref H, dm_ref H, ← EReal.coe_mul, mul_comm]
  rfl

theorem ref_dug (r : Fin 2048) (j : Fin 2048) : (val_main_v149 (F := Ideal) a.Y a.R a.K a.V a.GA a.O a.U a.H a.X a.WG a.LW a.LB a.RK a.WA a.WB a.WO a.FG a.TG) (ix3 0 r j) = ((D.DUG r.val j.val : ℝ) : EReal) := by
  have ea : ∀ c : Fin 1024, (val_main_v148 (F := Ideal) a.Y a.R a.K a.V a.GA a.O a.U a.H a.X a.WG a.LW a.LB a.RK a.WA a.WB a.WO a.FG a.TG) (ix3 0 r c) = ((D.UA r.val c.val : ℝ) : EReal) := fun c => by
    unfold val_main_v148 val_main_v147 val_main_v73 val_main_v72 val_main_v71 val_main_cst_9
    pointwise
    rw [sa_ref H, dm_ref H, ya_ref H, ← EReal.coe_one, ← EReal.coe_sub, ← EReal.coe_mul, ← EReal.coe_mul, ← EReal.coe_mul]
    congr 1
    unfold Data.UA Data.DYA
    ring
  have eb : ∀ c : Fin 1024, (val_main_v145 (F := Ideal) a.Y a.R a.K a.V a.GA a.O a.U a.H a.X a.WG a.LW a.LB a.RK a.WA a.WB a.WO a.FG a.TG) (ix3 0 r c) = ((D.UB r.val c.val : ℝ) : EReal) := fun c => by
    unfold val_main_v145 val_main_v144 val_main_v83 val_main_v82 val_main_v81 val_main_cst_12
    pointwise
    rw [sb_ref H, dm_ref H, yb_ref H, ← EReal.coe_one, ← EReal.coe_sub, ← EReal.coe_mul, ← EReal.coe_mul, ← EReal.coe_mul]
    congr 1
    unfold Data.UB Data.DYB
    ring
  unfold val_main_v149
  pointwise
  unfold Data.DUG
  by_cases h : j.val < 1024
  · rw [dif_pos h, if_pos h]; exact ea ⟨j.val, h⟩
  · rw [dif_neg h, if_neg h]; exact eb ⟨j.val - 1024, by omega⟩

theorem ref_dwb (k : Fin 512) (c : Fin 1024) : (val_main_v151 (F := Ideal) a.Y a.R a.K a.V a.GA a.O a.U a.H a.X a.WG a.LW a.LB a.RK a.WA a.WB a.WO a.FG a.TG) (ix2 k c) = ((∑ r : Fin 2048, D.MB r.val k.val * D.DYB r.val c.val : ℝ) : EReal) := by
  unfold val_main_v151 val_main_v150
  pointwise
  rw [Fin.sum_univ_one]
  simp only [dyb_ref H _ c, mb_ref H _ k, ← EReal.coe_mul, Reals.sum_coe, mul_comm (D.DYB _ _)]

theorem ref_dwa (k : Fin 512) (c : Fin 1024) : (val_main_v157 (F := Ideal) a.Y a.R a.K a.V a.GA a.O a.U a.H a.X a.WG a.LW a.LB a.RK a.WA a.WB a.WO a.FG a.TG) (ix2 k c) = ((∑ r : Fin 2048, D.MA r.val k.val * D.DYA r.val c.val : ℝ) : EReal) := by
  unfold val_main_v157 val_main_v156
  pointwise
  rw [Fin.sum_univ_one]
  simp only [dya_ref H _ c, ma_ref H _ k, ← EReal.coe_mul, Reals.sum_coe, mul_comm (D.DYA _ _)]

theorem dmb_ref : Layer (val_main_v152 (F := Ideal) a.Y a.R a.K a.V a.GA a.O a.U a.H a.X a.WG a.LW a.LB a.RK a.WA a.WB a.WO a.FG a.TG) D.DMB := by
  intro r c
  unfold val_main_v152 val_main_v10
  pointwise
  simp only [dyb_ref H r, H.wb c, ← EReal.coe_mul, Reals.sum_coe]
  rfl

theorem dma_ref : Layer (val_main_v158 (F := Ideal) a.Y a.R a.K a.V a.GA a.O a.U a.H a.X a.WG a.LW a.LB a.RK a.WA a.WB a.WO a.FG a.TG) D.DMA := by
  intro r c
  unfold val_main_v158 val_main_v9
  pointwise
  simp only [dya_ref H r, H.wa c, ← EReal.coe_mul, Reals.sum_coe]
  rfl

theorem do_ref : Layer (val_main_v154 (F := Ideal) a.Y a.R a.K a.V a.GA a.O a.U a.H a.X a.WG a.LW a.LB a.RK a.WA a.WB a.WO a.FG a.TG) D.DO := by
  intro r c
  unfold val_main_v154
  pointwise
  rw [dmb_ref H, slb_ref H, ← EReal.coe_mul]
  rfl

theorem dgb_ref : Layer (val_main_v155 (F := Ideal) a.Y a.R a.K a.V a.GA a.O a.U a.H a.X a.WG a.LW a.LB a.RK a.WA a.WB a.WO a.FG a.TG) D.DGB := by
  intro r c
  unfold val_main_v155 val_main_call2_v2 val_main_call2_v1 val_main_call2_v0 val_main_v153 val_main_v60_1 val_main_call1_v7 val_main_call1_v6 val_main_call1_cst_1
  pointwise
  rw [H.o, dmb_ref H, gb_ref H, gbs_ref H, ← EReal.coe_one]
  simp only [← EReal.coe_sub, ← EReal.coe_mul, ← EReal.coe_add]
  congr 1
  unfold Data.DGB
  ring

theorem dga_ref : Layer (val_main_v161 (F := Ideal) a.Y a.R a.K a.V a.GA a.O a.U a.H a.X a.WG a.LW a.LB a.RK a.WA a.WB a.WO a.FG a.TG) D.DGA := by
  intro r c
  unfold val_main_v161 val_main_call3_v2 val_main_call3_v1 val_main_call3_v0 val_main_v159 val_main_v57_1 val_main_call0_v7 val_main_call0_v6 val_main_call0_cst_1
  pointwise
  rw [H.ga, dma_ref H, pre_ref H, ga_ref H, ← EReal.coe_one]
  simp only [← EReal.coe_sub, ← EReal.coe_mul, ← EReal.coe_add]
  congr 1
  unfold Data.DGA
  ring

/-! ## Back through the group norm and the bonus -/

theorem dp_ref : ByHead (val_main_v162 (F := Ideal) a.Y a.R a.K a.V a.GA a.O a.U a.H a.X a.WG a.LW a.LB a.RK a.WA a.WB a.WO a.FG a.TG) D.DP := by
  refine split (v := val_main_v160 (F := Ideal) a.Y a.R a.K a.V a.GA a.O a.U a.H a.X a.WG a.LW a.LB a.RK a.WA a.WB a.WO a.FG a.TG) fun r c => ?_
  unfold val_main_v160
  pointwise
  rw [dma_ref H, sla_ref H, ← EReal.coe_mul]
  rfl

theorem dv_ref : Layer (val_main_v216 (F := Ideal) a.Y a.R a.K a.V a.GA a.O a.U a.H a.X a.WG a.LW a.LB a.RK a.WA a.WB a.WO a.FG a.TG) D.DV := by
  refine join fun r h k => ?_
  unfold val_main_v164 val_main_v163
  pointwise
  rw [dp_ref H, rkk_ref H r h k, ← EReal.coe_mul, mul_comm]
  rfl

theorem dkk_ref : ByHead (val_main_v170 (F := Ideal) a.Y a.R a.K a.V a.GA a.O a.U a.H a.X a.WG a.LW a.LB a.RK a.WA a.WB a.WO a.FG a.TG) D.DKK :=
  spread (head_column (f := fun r c => D.DP r c * D.V r c) fun r h k => by
    unfold val_main_v165
    pointwise
    rw [dp_ref H, vh_ref H, ← EReal.coe_mul])

theorem dkr_ref (r : Fin 2048) (h : Fin 8) (k : Fin 64) : (val_main_v175 (F := Ideal) a.Y a.R a.K a.V a.GA a.O a.U a.H a.X a.WG a.LW a.LB a.RK a.WA a.WB a.WO a.FG a.TG) (ix4 0 r h k) = ((D.DKK r.val (64 * h.val + k.val) * D.RK (64 * h.val + k.val) : ℝ) : EReal) := by
  unfold val_main_v175 val_main_v174
  pointwise
  rw [dkk_ref H, rk_ref H, ← EReal.coe_mul]

theorem dk_ref : Layer (val_main_v217 (F := Ideal) a.Y a.R a.K a.V a.GA a.O a.U a.H a.X a.WG a.LW a.LB a.RK a.WA a.WB a.WO a.FG a.TG) D.DK := by
  refine join fun r h k => ?_
  unfold val_main_v177
  pointwise
  rw [rh_ref H, dkr_ref H, ← EReal.coe_mul]
  congr 1
  unfold Data.DK
  ring

theorem dr_ref : Layer (val_main_v218 (F := Ideal) a.Y a.R a.K a.V a.GA a.O a.U a.H a.X a.WG a.LW a.LB a.RK a.WA a.WB a.WO a.FG a.TG) D.DR := by
  refine join fun r h k => ?_
  unfold val_main_v178
  pointwise
  rw [kh_ref H, dkr_ref H, ← EReal.coe_mul]
  congr 1
  unfold Data.DR
  ring

theorem ref_drk (h : Fin 8) (k : Fin 64) : (val_main_v231 (F := Ideal) a.Y a.R a.K a.V a.GA a.O a.U a.H a.X a.WG a.LW a.LB a.RK a.WA a.WB a.WO a.FG a.TG) (ix3 0 h k)
    = ((∑ r : Fin 2048, D.DKK r.val (64 * h.val + k.val) * D.R r.val (64 * h.val + k.val) * D.K r.val (64 * h.val + k.val) : ℝ) : EReal) := by
  have e : (val_main_v176 (F := Ideal) a.Y a.R a.K a.V a.GA a.O a.U a.H a.X a.WG a.LW a.LB a.RK a.WA a.WB a.WO a.FG a.TG) (ix2 h k) = _ := sum_rows (w := val_main_v171 (F := Ideal) a.Y a.R a.K a.V a.GA a.O a.U a.H a.X a.WG a.LW a.LB a.RK a.WA a.WB a.WO a.FG a.TG) (f := fun r c => D.DKK r c * D.R r c * D.K r c) (fun r h k => by
    unfold val_main_v171 val_main_v47
    pointwise
    rw [rh_ref H, kh_ref H, dkk_ref H, ← EReal.coe_mul, ← EReal.coe_mul]
    congr 1
    ring) h k
  unfold val_main_v231
  pointwise
  exact e

theorem ref_dlb (c : Fin 512) : (val_main_v230 (F := Ideal) a.Y a.R a.K a.V a.GA a.O a.U a.H a.X a.WG a.LW a.LB a.RK a.WA a.WB a.WO a.FG a.TG) (ix2 0 c) = ((∑ r : Fin 2048, D.DP r.val c.val : ℝ) : EReal) := by
  have e : (val_main_v181 (F := Ideal) a.Y a.R a.K a.V a.GA a.O a.U a.H a.X a.WG a.LW a.LB a.RK a.WA a.WB a.WO a.FG a.TG) (ix2 ⟨c.val / 64, by omega⟩ ⟨c.val % 64, by omega⟩) = _ := sum_rows (dp_ref H) ⟨c.val / 64, by omega⟩ ⟨c.val % 64, by omega⟩
  simp only [Nat.div_add_mod] at e
  unfold val_main_v230 val_main_v182
  pointwise
  exact e

theorem ref_dlw (c : Fin 512) : (val_main_v229 (F := Ideal) a.Y a.R a.K a.V a.GA a.O a.U a.H a.X a.WG a.LW a.LB a.RK a.WA a.WB a.WO a.FG a.TG) (ix2 0 c) = ((∑ r : Fin 2048, D.DP r.val c.val * D.YN r.val c.val : ℝ) : EReal) := by
  have e : (val_main_v188 (F := Ideal) a.Y a.R a.K a.V a.GA a.O a.U a.H a.X a.WG a.LW a.LB a.RK a.WA a.WB a.WO a.FG a.TG) (ix2 ⟨c.val / 64, by omega⟩ ⟨c.val % 64, by omega⟩) = _ := sum_rows (w := val_main_v183 (F := Ideal) a.Y a.R a.K a.V a.GA a.O a.U a.H a.X a.WG a.LW a.LB a.RK a.WA a.WB a.WO a.FG a.TG) (f := fun r c => D.DP r c * D.YN r c) (fun r h k => by
    unfold val_main_v183
    pointwise
    rw [yn_ref H, dp_ref H, ← EReal.coe_mul, mul_comm]) ⟨c.val / 64, by omega⟩ ⟨c.val % 64, by omega⟩
  simp only [Nat.div_add_mod] at e
  unfold val_main_v229 val_main_v189
  pointwise
  exact e

theorem dyn_ref : ByHead (val_main_v187 (F := Ideal) a.Y a.R a.K a.V a.GA a.O a.U a.H a.X a.WG a.LW a.LB a.RK a.WA a.WB a.WO a.FG a.TG) D.DYN := by
  intro r h k
  unfold val_main_v187 val_main_v186
  pointwise
  rw [dp_ref H, lw_ref H, ← EReal.coe_mul]
  rfl

theorem dynr_ref : ByHead (val_main_v194 (F := Ideal) a.Y a.R a.K a.V a.GA a.O a.U a.H a.X a.WG a.LW a.LB a.RK a.WA a.WB a.WO a.FG a.TG) fun r c => D.DYN r c * D.RSTD r c := by
  intro r h k
  unfold val_main_v194 val_main_v193
  pointwise
  rw [dyn_ref H, rstd_ref H r h k, ← EReal.coe_mul]

/-- What reaches a head's squares, over their number. -/
def sq (D : Data) (r c : ℕ) : ℝ := hsum (fun k => D.YC r k * D.DYN r k) c * (-(1 / 2) * (D.RSTD r c / D.VAR r c)) / 64

theorem sq_ref : OnHead (val_main_v200 (F := Ideal) a.Y a.R a.K a.V a.GA a.O a.U a.H a.X a.WG a.LW a.LB a.RK a.WA a.WB a.WO a.FG a.TG) (sq D) := by
  intro r h k
  have e : (val_main_v192 (F := Ideal) a.Y a.R a.K a.V a.GA a.O a.U a.H a.X a.WG a.LW a.LB a.RK a.WA a.WB a.WO a.FG a.TG) (ix4 0 r h 0) = _ := head_column (w := val_main_v190 (F := Ideal) a.Y a.R a.K a.V a.GA a.O a.U a.H a.X a.WG a.LW a.LB a.RK a.WA a.WB a.WO a.FG a.TG) (f := fun r c => D.YC r c * D.DYN r c) (fun r h k => by
    unfold val_main_v190
    pointwise
    rw [yc_ref H, dyn_ref H, ← EReal.coe_mul]) r h k
  unfold val_main_v200 val_main_v199 val_main_v195 val_main_cst_40
  pointwise
  rw [e, slope_ref H r h k, lit_64, ← EReal.coe_mul, Reals.div_real _ _ (by norm_num)]
  rfl

theorem sqy_ref : ByHead (val_main_v204 (F := Ideal) a.Y a.R a.K a.V a.GA a.O a.U a.H a.X a.WG a.LW a.LB a.RK a.WA a.WB a.WO a.FG a.TG) fun r c => sq D r c * (2 * D.YC r c) := by
  intro r h k
  have e : (val_main_v203 (F := Ideal) a.Y a.R a.K a.V a.GA a.O a.U a.H a.X a.WG a.LW a.LB a.RK a.WA a.WB a.WO a.FG a.TG) (ix4 0 r h k) = _ := spread (sq_ref H) r h k
  have e' : (val_main_v21 (F := Ideal) a.Y) (ix4 0 r h k) = _ := yc_ref H r h k
  unfold val_main_v204 val_main_v24 val_main_v23 val_main_cst_1
  pointwise
  rw [e, e', lit_two, ← EReal.coe_mul, ← EReal.coe_mul]

theorem rest_ref : ByHead (val_main_v214 (F := Ideal) a.Y a.R a.K a.V a.GA a.O a.U a.H a.X a.WG a.LW a.LB a.RK a.WA a.WB a.WO a.FG a.TG) fun r c => (hsum (fun k => -(D.DYN r k * D.RSTD r k)) c + hsum (fun k => -(sq D r k * (2 * D.YC r k))) c) / 64 := by
  refine spread (u := val_main_v211 (F := Ideal) a.Y a.R a.K a.V a.GA a.O a.U a.H a.X a.WG a.LW a.LB a.RK a.WA a.WB a.WO a.FG a.TG) fun r h k => ?_
  have e : (val_main_v198 (F := Ideal) a.Y a.R a.K a.V a.GA a.O a.U a.H a.X a.WG a.LW a.LB a.RK a.WA a.WB a.WO a.FG a.TG) (ix4 0 r h 0) = _ := head_column (w := val_main_v196 (F := Ideal) a.Y a.R a.K a.V a.GA a.O a.U a.H a.X a.WG a.LW a.LB a.RK a.WA a.WB a.WO a.FG a.TG) (f := fun r c => -(D.DYN r c * D.RSTD r c)) (fun r h k => by
    unfold val_main_v196
    pointwise
    rw [dynr_ref H, ← EReal.coe_neg]) r h k
  have e' : (val_main_v207 (F := Ideal) a.Y a.R a.K a.V a.GA a.O a.U a.H a.X a.WG a.LW a.LB a.RK a.WA a.WB a.WO a.FG a.TG) (ix4 0 r h 0) = _ := head_column (w := val_main_v205 (F := Ideal) a.Y a.R a.K a.V a.GA a.O a.U a.H a.X a.WG a.LW a.LB a.RK a.WA a.WB a.WO a.FG a.TG) (f := fun r c => -(sq D r c * (2 * D.YC r c))) (fun r h k => by
    unfold val_main_v205
    pointwise
    rw [sqy_ref H, ← EReal.coe_neg]) r h k
  unfold val_main_v211 val_main_v210 val_main_v209 val_main_cst_43
  pointwise
  rw [e, e', lit_64, ← EReal.coe_add, Reals.div_real _ _ (by norm_num)]

omit H in
/-- The group norm's chain rule. -/
theorem dy_real (r h k : ℕ) (hk : k < 64) : D.DYN r (64 * h + k) * D.RSTD r (64 * h + k) + sq D r (64 * h + k) * (2 * D.YC r (64 * h + k))
    + (hsum (fun k => -(D.DYN r k * D.RSTD r k)) (64 * h + k) + hsum (fun k => -(sq D r k * (2 * D.YC r k))) (64 * h + k)) / 64 = D.DY r (64 * h + k) := by
  have hv : ∀ j : Fin 64, D.VAR r (64 * h + j.val) = D.VAR r (64 * h + k) := fun j => by
    unfold Data.VAR; rw [Cert.Fox.hsum_head _ _ _ j.isLt, Cert.Fox.hsum_head _ _ _ hk]
  have hr : ∀ j : Fin 64, D.RSTD r (64 * h + j.val) = D.RSTD r (64 * h + k) := fun j => by unfold Data.RSTD; rw [hv]
  have hq : ∀ j : Fin 64, sq D r (64 * h + j.val) = sq D r (64 * h + k) := fun j => by
    unfold sq; rw [hv, hr, Cert.Fox.hsum_head _ _ _ j.isLt, Cert.Fox.hsum_head _ _ _ hk]
  have h0 : ∑ j : Fin 64, D.YC r (64 * h + j.val) = 0 := by
    unfold Data.YC
    simp only [Cert.Fox.hsum_head _ _ _ (Fin.isLt _), Finset.sum_sub_distrib, Finset.sum_const, Finset.card_univ, Fintype.card_fin, nsmul_eq_mul]
    push_cast
    ring
  have hp := var_pos D r (64 * h + k)
  have hR : D.RSTD r (64 * h + k) * D.RSTD r (64 * h + k) = 1 / D.VAR r (64 * h + k) := by
    unfold Data.RSTD
    rw [← mul_inv, Real.mul_self_sqrt hp.le, one_div]
  have s1 : hsum (fun k => -(D.DYN r k * D.RSTD r k)) (64 * h + k) = -(hsum (fun k => D.DYN r k) (64 * h + k) * D.RSTD r (64 * h + k)) := by
    rw [Cert.Fox.hsum_head _ _ _ hk, Cert.Fox.hsum_head _ _ _ hk, Finset.sum_neg_distrib, Finset.sum_mul]
    simp only [hr]
  have s2 : hsum (fun k => -(sq D r k * (2 * D.YC r k))) (64 * h + k) = 0 := by
    rw [Cert.Fox.hsum_head _ _ _ hk, Finset.sum_neg_distrib]
    simp only [hq]
    rw [← Finset.mul_sum, ← Finset.mul_sum, h0]
    ring
  have s3 : hsum (fun k => D.DYN r k * D.YN r k) (64 * h + k) = hsum (fun k => D.YC r k * D.DYN r k) (64 * h + k) * D.RSTD r (64 * h + k) := by
    rw [Cert.Fox.hsum_head _ _ _ hk, Cert.Fox.hsum_head _ _ _ hk, Finset.sum_mul]
    unfold Data.YN
    simp only [hr]
    exact Finset.sum_congr rfl fun j _ => by ring
  rw [s1, s2]
  unfold Data.DY Data.MN Data.MY sq
  rw [s3, div_eq_mul_one_div (D.RSTD r (64 * h + k)), ← hR]
  unfold Data.YN
  ring

theorem dy_ref : Layer (val_main_v219 (F := Ideal) a.Y a.R a.K a.V a.GA a.O a.U a.H a.X a.WG a.LW a.LB a.RK a.WA a.WB a.WO a.FG a.TG) D.DY := by
  refine join fun r h k => ?_
  unfold val_main_v215 val_main_v208
  pointwise
  rw [dynr_ref H, sqy_ref H, rest_ref H, ← EReal.coe_add, ← EReal.coe_add]
  exact congrArg _ (dy_real r.val h.val k.val k.isLt)

end

end Cert.Merge

end
-- ==== Proof.MergeBlock.lean ====
/-
  One grid point of the mixers' merge with the loss: the blocks it reads, the values on its way and what it leaves.
-/
module

public import proofs.«01_k».proof.Proof.Gen.Kernel5Ideal.Skeleton
public import Idealize.ShloMosaic.Lib.Tactic
public import Idealize.ShloMosaic.Lib.Pipeline.FrameBody

@[expose] public section

set_option maxRecDepth 16384

noncomputable section

namespace Cert.Merge

open Cert.Kernel5Ideal Cert.Kernel5Ideal.Gen Idealize.ShloMosaic Idealize.ShloMosaic.TcCoe Idealize.SL.Sem

variable {F : FTy → Type} [FloatOps F]

/-- The blocks a grid point reads. -/
structure Blk (F : FTy → Type) where
  y : Vec F S256x512 .f32
  r : Vec F S256x512 .f32
  k : Vec F S256x512 .f32
  v : Vec F S256x512 .f32
  ga : Vec F S256x512 .f32
  o : Vec F S256x512 .f32
  gb : Vec F S256x512 .f32
  h : Vec F S256x1024 .bf16
  x : Vec F S256x1024 .f32
  tg : Vec F S256x1024 .f32
  wg : Vec F S1024x2048 .bf16
  wa : Vec F S512x1024 .bf16
  wb : Vec F S512x1024 .bf16
  wo : Vec F S1024x1024 .bf16
  fg : Vec F S1x1024 .f32
  lw : Vec F S1x512 .f32
  lb : Vec F S1x512 .f32
  rk : Vec F S1x512 .f32

namespace Blk

variable (b : Blk F)

abbrev v12 (_ : Blk F) := k0_pay10 (F := F)
abbrev v14 := k0_pay11 b.wa
abbrev v16 := k0_pay12 b.wb
abbrev v18 := k0_pay13 b.wo
abbrev v20 := k0_pay14 b.fg
abbrev v22 := k0_pay15 b.r
abbrev v24 := k0_pay16 b.k
abbrev v26 := k0_pay17 b.v
abbrev v28 := k0_pay18 b.ga
abbrev v31 := k0_pay19 b.rk
abbrev v33 := k0_pay20 b.y
abbrev v47 := k0_pay21 b.v12 b.y
abbrev v60 := k0_pay22 b.v12 b.y
abbrev v73 := k0_pay23 b.v12 b.y
abbrev v75 := k0_pay25 b.y
abbrev v78 := k0_pay27 b.y
abbrev v80 := k0_pay28 b.y
abbrev v90 := k0_pay29 b.v12 b.v33 b.v47 b.v60 b.v73 b.v75 b.v78 b.v80
abbrev v91 := k0_pay30 b.v12 b.v33 b.v47 b.v60 b.v73 b.v75 b.v78 b.v80
abbrev v104 := k0_pay31 b.v12 b.v33 b.v47 b.v60 b.v73 b.v75 b.v78 b.v80
abbrev v117 := k0_pay32 b.v12 b.v33 b.v47 b.v60 b.v73 b.v75 b.v78 b.v80
abbrev v125 := k0_pay37 b.v12 b.v33 b.v47 b.v60 b.v73 b.v75 b.v78 b.v80
abbrev v128 := k0_pay38 b.v12 b.v33 b.v47 b.v60 b.v73 b.v75 b.v78 b.v80
abbrev v149 := k0_pay39 b.v12 b.v91 b.v104 b.v117 b.v125 b.v128
abbrev v150 := k0_pay40 b.v12 b.v90 b.v91 b.v104 b.v117 b.v125 b.v128
abbrev v153 := k0_pay41 b.v22 b.v24 b.v31
abbrev v166 := k0_pay42 b.v12 b.v22 b.v24 b.v31
abbrev v174 := k0_pay47 b.v22 b.v24 b.v31
abbrev v177 := k0_pay48 b.v12 b.v22 b.v24 b.v31
abbrev v206 := k0_pay49 b.v12 b.v153 b.v166 b.v174 b.v177
abbrev v213 := k0_pay50 b.v28
abbrev v219 := k0_pay51 b.v12 b.v26 b.lw b.lb b.v150 b.v153 b.v166 b.v174 b.v177
abbrev v220 := k0_pay52 b.v28
abbrev v222 := k0_pay53 b.gb
abbrev v224 := k0_pay54 b.o
abbrev v231 := k0_pay55 b.v222
abbrev v232 := k0_pay56 b.v222
abbrev v234 := k0_pay57 b.v219 b.v220
abbrev v236 := k0_pay58 b.v222 b.o
abbrev v237 := k0_pay59 b.v14 b.v219 b.v220
abbrev v238 := k0_pay60 b.v16 b.v222 b.o
abbrev v251 := k0_pay62 b.h b.wg
abbrev v259 := k0_pay63 b.h b.wg
abbrev v263 := k0_pay64 b.v14 b.v16 b.v219 b.v220 b.v222 b.o b.h b.wg
abbrev v265 := k0_pay65 b.x
abbrev v275 := k0_pay67 b.v18 b.v263 b.v265
abbrev v277 := k0_pay68 b.v18 b.v263 b.v265
abbrev v300 := k0_pay73 b.v18 b.v20 b.v263 b.v265 b.tg
abbrev v303 := k0_pay74 b.v18 b.v20 b.v263 b.v265 b.tg
abbrev v304 (_ : Blk F) := k0_pay75 (F := F)
abbrev v331 := k0_pay84 b.v18 b.v251 b.v275 b.v277 b.v300 b.v303 b.v304
abbrev v332 := k0_pay85 b.v18 b.v259 b.v275 b.v277 b.v300 b.v303 b.v304
abbrev v366 := k0_pay93 b.v14 b.v220 b.v331
abbrev v381 := k0_pay96 b.lw b.v366
abbrev v394 := k0_pay97 b.v12 b.lw b.v366
abbrev v407 := k0_pay98 b.v12 b.lw b.v366
abbrev v415 := k0_pay103 b.lw b.v366
abbrev v418 := k0_pay104 b.v12 b.lw b.v366
abbrev v436 := k0_pay105 b.v12 b.v381 b.v394 b.v407 b.v415 b.v418 (constant S256x128 .f32 0x00000000#32 : FVec F S256x128 .f32)
abbrev v437 := k0_pay106 b.v150 b.v381
abbrev v450 := k0_pay107 b.v12 b.v150 b.v381
abbrev v463 := k0_pay108 b.v12 b.v150 b.v381
abbrev v465 := k0_pay110 b.v150 b.v381
abbrev v467 := k0_pay111 b.v150 b.v381
abbrev v468 := k0_pay112 b.v150 b.v381
abbrev v500 := k0_pay115 b.v26 b.v366
abbrev v511 := k0_pay120 b.v12 b.v26 b.v366
abbrev v512 := k0_pay121 b.v12 b.v26 b.v366
abbrev v553 := k0_pay122 b.v12 b.v500 b.v511 b.v512
abbrev v560 := k0_pay124 b.v12 b.v22 b.v31 b.v500 b.v511 b.v512
abbrev v311 := k0_pay76 b.v275 b.v277 b.v300 b.v303 b.v304
abbrev v497 := k0_pay113 b.v12 b.v149 b.v150 b.v381 b.v436 b.v437 b.v450 b.v463 b.v465 b.v467 b.v468
abbrev v557 := k0_pay123 b.v12 b.v24 b.v31 b.v500 b.v511 b.v512
abbrev v499 := k0_pay114 b.v206 b.v366
abbrev v365 := k0_pay92 b.v14 b.v28 b.v213 b.v219 b.v331
abbrev v346 := k0_pay89 b.v16 b.v232 b.v332
abbrev v355 := k0_pay90 b.v16 b.v222 b.v224 b.v231 b.v332
/-- The gradient at the gates' projection is written in two halves, the second mixer's first here. -/
abbrev dug : Vec F S256x2048 .f32 :=
  View.canon (Val := Elt F) [⟨Rect.unit ![0, 1024] ![256, 1024] inb_S256x2048_S256x1024_0_1024, k0_pay83 b.v18 b.v238 b.v259 b.v275 b.v277 b.v300 b.v303 b.v304⟩,
    ⟨Rect.unit ![0, 0] ![256, 1024] inb_S256x2048_S256x1024_0_0, k0_pay82 b.v18 b.v237 b.v251 b.v275 b.v277 b.v300 b.v303 b.v304⟩]

end Blk

/-- What the kernel carries from point to point: the eight sums over the rows. -/
structure St (F : FTy → Type) where
  dwa : Vec F S512x1024 .f32
  dwb : Vec F S512x1024 .f32
  dwo : Vec F S1024x1024 .f32
  dfg : Vec F S1x1024 .f32
  ls : Vec F S1x1024 .f32
  dlw : Vec F S1x512 .f32
  dlb : Vec F S1x512 .f32
  drk : Vec F S1x512 .f32

/-- What it clears at its first point. -/
def St.zero : St F := ⟨k0_pay2, k0_pay3, k0_pay4, k0_pay5, k0_pay6, k0_pay7, k0_pay8, k0_pay9⟩

/-- What it carries on from a point of blocks `b`. -/
def Blk.next (b : Blk F) (s : St F) : St F where
  dwa := k0_pay86 b.v18 b.v234 b.v251 b.v275 b.v277 b.v300 b.v303 b.v304 s.dwa
  dwb := k0_pay87 b.v236 b.v332 s.dwb
  dwo := k0_pay79 b.v263 b.v275 b.v277 b.v300 b.v303 b.v304 s.dwo
  dfg := k0_pay72 b.v18 b.v20 b.v263 b.v265 b.tg s.dfg
  ls := k0_pay70 b.v18 b.v20 b.v263 b.v265 b.tg s.ls
  dlw := k0_pay94 b.v14 b.v150 b.v220 b.v331 s.dlw
  dlb := k0_pay95 b.v366 s.dlb
  drk := k0_pay1 b.v22 b.v24 b.v553 s.drk

end Cert.Merge

end
-- ==== Proof.MergeRunFirst.lean ====
/-
  The body of the merge run at its first point, clearing its sums.
-/
module

public import proofs.«01_k».proof.Proof.MergeBlock
public import proofs.«01_k».proof.Proof.Gen.Kernel5Ideal.Frame.Runs
public import Idealize.ShloMosaic.Lib.VecWindow

@[expose] public section

set_option maxRecDepth 16384

noncomputable section

namespace Cert.Merge

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
theorem run_first (c : Dev nD) (i : grid0.Coords) (b : Blk F)
    (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .bf16) (harg25 : arg25.IsWhole) (arg26 : Memref sig .tc .vmem S256x512 .f32) (harg26 : arg26.IsWhole) (arg27 : Memref sig .tc .vmem S256x2048 .f32) (harg27 : arg27.IsWhole) (arg28 : Memref sig .tc .vmem S512x1024 .f32) (harg28 : arg28.IsWhole) (arg29 : Memref sig .tc .vmem S512x1024 .f32) (harg29 : arg29.IsWhole) (arg30 : Memref sig .tc .vmem S1024x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole)
    (hc : cond0_0 i) (E : Set ℕ) (K : PUnit → sProp 𝕄) :
    iprop(owns (c : Thread nD τ) arg1 fullShare b.y ∗ owns (c : Thread nD τ) arg2 fullShare b.r ∗ owns (c : Thread nD τ) arg3 fullShare b.k ∗ owns (c : Thread nD τ) arg4 fullShare b.v ∗ owns (c : Thread nD τ) arg5 fullShare b.ga ∗ owns (c : Thread nD τ) arg6 fullShare b.o ∗ owns (c : Thread nD τ) arg7 fullShare b.gb ∗ owns (c : Thread nD τ) arg8 fullShare b.h ∗ owns (c : Thread nD τ) arg9 fullShare b.x ∗ owns (c : Thread nD τ) arg10 fullShare b.tg ∗ owns (c : Thread nD τ) arg11 fullShare b.wg ∗ owns (c : Thread nD τ) arg12 fullShare b.wa ∗ owns (c : Thread nD τ) arg13 fullShare b.wb ∗ owns (c : Thread nD τ) arg14 fullShare b.wo ∗ owns (c : Thread nD τ) arg15 fullShare b.fg ∗ owns (c : Thread nD τ) arg16 fullShare b.lw ∗ owns (c : Thread nD τ) arg17 fullShare b.lb ∗ owns (c : Thread nD τ) arg18 fullShare b.rk ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg1 fullShare b.y ∗ owns (c : Thread nD τ) arg2 fullShare b.r ∗ owns (c : Thread nD τ) arg3 fullShare b.k ∗ owns (c : Thread nD τ) arg4 fullShare b.v ∗ owns (c : Thread nD τ) arg5 fullShare b.ga ∗ owns (c : Thread nD τ) arg6 fullShare b.o ∗ owns (c : Thread nD τ) arg7 fullShare b.gb ∗ owns (c : Thread nD τ) arg8 fullShare b.h ∗ owns (c : Thread nD τ) arg9 fullShare b.x ∗ owns (c : Thread nD τ) arg10 fullShare b.tg ∗ owns (c : Thread nD τ) arg11 fullShare b.wg ∗ owns (c : Thread nD τ) arg12 fullShare b.wa ∗ owns (c : Thread nD τ) arg13 fullShare b.wb ∗ owns (c : Thread nD τ) arg14 fullShare b.wo ∗ owns (c : Thread nD τ) arg15 fullShare b.fg ∗ owns (c : Thread nD τ) arg16 fullShare b.lw ∗ owns (c : Thread nD τ) arg17 fullShare b.lb ∗ owns (c : Thread nD τ) arg18 fullShare b.rk ∗ owns (c : Thread nD τ) arg19 fullShare b.v311 ∗ owns (c : Thread nD τ) arg20 fullShare b.v497 ∗ owns (c : Thread nD τ) arg21 fullShare b.v557 ∗ owns (c : Thread nD τ) arg22 fullShare b.v560 ∗ owns (c : Thread nD τ) arg23 fullShare b.v499 ∗ owns (c : Thread nD τ) arg24 fullShare b.v365 ∗ owns (c : Thread nD τ) arg25 fullShare b.v346 ∗ owns (c : Thread nD τ) arg26 fullShare b.v355 ∗ owns (c : Thread nD τ) arg27 fullShare b.dug ∗ owns (c : Thread nD τ) arg28 fullShare (b.next St.zero).dwa ∗ owns (c : Thread nD τ) arg29 fullShare (b.next St.zero).dwb ∗ owns (c : Thread nD τ) arg30 fullShare (b.next St.zero).dwo ∗ owns (c : Thread nD τ) arg31 fullShare (b.next St.zero).dfg ∗ owns (c : Thread nD τ) arg32 fullShare (b.next St.zero).ls ∗ owns (c : Thread nD τ) arg33 fullShare (b.next St.zero).dlw ∗ owns (c : Thread nD τ) arg34 fullShare (b.next St.zero).dlb ∗ owns (c : Thread nD τ) arg35 fullShare (b.next St.zero).drk) -∗ K ⟨⟩))
      ⊢ wp frame (wpE (defs₀ (F := F)) Variants.none c none) E (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_merge_fwd_bwd_eq_skeleton]; unfold cc0_merge_fwd_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  have r0 : arg1.view.readAt (Elt F) (Rect.unit (s := S256x512) ![0, 0] ![256, 512] inb_S256x512_S256x512_0_0).toLoadRect (harg1.unread b.y) = b.y := (View.readAt_full _ _ _).trans (harg1.read_unread _)
  have r1 : arg2.view.readAt (Elt F) (Rect.unit (s := S256x512) ![0, 0] ![256, 512] inb_S256x512_S256x512_0_0).toLoadRect (harg2.unread b.r) = b.r := (View.readAt_full _ _ _).trans (harg2.read_unread _)
  have r2 : arg3.view.readAt (Elt F) (Rect.unit (s := S256x512) ![0, 0] ![256, 512] inb_S256x512_S256x512_0_0).toLoadRect (harg3.unread b.k) = b.k := (View.readAt_full _ _ _).trans (harg3.read_unread _)
  have r3 : arg4.view.readAt (Elt F) (Rect.unit (s := S256x512) ![0, 0] ![256, 512] inb_S256x512_S256x512_0_0).toLoadRect (harg4.unread b.v) = b.v := (View.readAt_full _ _ _).trans (harg4.read_unread _)
  have r4 : arg5.view.readAt (Elt F) (Rect.unit (s := S256x512) ![0, 0] ![256, 512] inb_S256x512_S256x512_0_0).toLoadRect (harg5.unread b.ga) = b.ga := (View.readAt_full _ _ _).trans (harg5.read_unread _)
  have r5 : arg6.view.readAt (Elt F) (Rect.unit (s := S256x512) ![0, 0] ![256, 512] inb_S256x512_S256x512_0_0).toLoadRect (harg6.unread b.o) = b.o := (View.readAt_full _ _ _).trans (harg6.read_unread _)
  have r6 : arg7.view.readAt (Elt F) (Rect.unit (s := S256x512) ![0, 0] ![256, 512] inb_S256x512_S256x512_0_0).toLoadRect (harg7.unread b.gb) = b.gb := (View.readAt_full _ _ _).trans (harg7.read_unread _)
  have r7 : arg8.view.readAt (Elt F) (Rect.unit (s := S256x1024) ![0, 0] ![256, 1024] inb_S256x1024_S256x1024_0_0).toLoadRect (harg8.unread b.h) = b.h := (View.readAt_full _ _ _).trans (harg8.read_unread _)
  have r8 : arg9.view.readAt (Elt F) (Rect.unit (s := S256x1024) ![0, 0] ![256, 1024] inb_S256x1024_S256x1024_0_0).toLoadRect (harg9.unread b.x) = b.x := (View.readAt_full _ _ _).trans (harg9.read_unread _)
  have r9 : arg10.view.readAt (Elt F) (Rect.unit (s := S256x1024) ![0, 0] ![256, 1024] inb_S256x1024_S256x1024_0_0).toLoadRect (harg10.unread b.tg) = b.tg := (View.readAt_full _ _ _).trans (harg10.read_unread _)
  have r10 : arg11.view.readAt (Elt F) (Rect.unit (s := S1024x2048) ![0, 0] ![1024, 2048] inb_S1024x2048_S1024x2048_0_0).toLoadRect (harg11.unread b.wg) = b.wg := (View.readAt_full _ _ _).trans (harg11.read_unread _)
  have r11 : arg12.view.readAt (Elt F) (Rect.unit (s := S512x1024) ![0, 0] ![512, 1024] inb_S512x1024_S512x1024_0_0).toLoadRect (harg12.unread b.wa) = b.wa := (View.readAt_full _ _ _).trans (harg12.read_unread _)
  have r12 : arg13.view.readAt (Elt F) (Rect.unit (s := S512x1024) ![0, 0] ![512, 1024] inb_S512x1024_S512x1024_0_0).toLoadRect (harg13.unread b.wb) = b.wb := (View.readAt_full _ _ _).trans (harg13.read_unread _)
  have r13 : arg14.view.readAt (Elt F) (Rect.unit (s := S1024x1024) ![0, 0] ![1024, 1024] inb_S1024x1024_S1024x1024_0_0).toLoadRect (harg14.unread b.wo) = b.wo := (View.readAt_full _ _ _).trans (harg14.read_unread _)
  have r14 : arg15.view.readAt (Elt F) (Rect.unit (s := S1x1024) ![0, 0] ![1, 1024] inb_S1x1024_S1x1024_0_0).toLoadRect (harg15.unread b.fg) = b.fg := (View.readAt_full _ _ _).trans (harg15.read_unread _)
  have r15 : arg16.view.readAt (Elt F) (Rect.unit (s := S1x512) ![0, 0] ![1, 512] inb_S1x512_S1x512_0_0).toLoadRect (harg16.unread b.lw) = b.lw := (View.readAt_full _ _ _).trans (harg16.read_unread _)
  have r16 : arg17.view.readAt (Elt F) (Rect.unit (s := S1x512) ![0, 0] ![1, 512] inb_S1x512_S1x512_0_0).toLoadRect (harg17.unread b.lb) = b.lb := (View.readAt_full _ _ _).trans (harg17.read_unread _)
  have r17 : arg18.view.readAt (Elt F) (Rect.unit (s := S1x512) ![0, 0] ![1, 512] inb_S1x512_S1x512_0_0).toLoadRect (harg18.unread b.rk) = b.rk := (View.readAt_full _ _ _).trans (harg18.read_unread _)
  have q27 : ∀ w L, arg28.view.readCov (Val := Elt F) (⟨(Rect.unit (s := S512x1024) ![0, 0] ![512, 1024] inb_S512x1024_S512x1024_0_0), w⟩ :: L) (Rect.unit (s := S512x1024) ![0, 0] ![512, 1024] inb_S512x1024_S512x1024_0_0).toLoadRect = w := fun w L => View.readCov_full _ _ _ w L
  have q28 : ∀ w L, arg29.view.readCov (Val := Elt F) (⟨(Rect.unit (s := S512x1024) ![0, 0] ![512, 1024] inb_S512x1024_S512x1024_0_0), w⟩ :: L) (Rect.unit (s := S512x1024) ![0, 0] ![512, 1024] inb_S512x1024_S512x1024_0_0).toLoadRect = w := fun w L => View.readCov_full _ _ _ w L
  have q29 : ∀ w L, arg30.view.readCov (Val := Elt F) (⟨(Rect.unit (s := S1024x1024) ![0, 0] ![1024, 1024] inb_S1024x1024_S1024x1024_0_0), w⟩ :: L) (Rect.unit (s := S1024x1024) ![0, 0] ![1024, 1024] inb_S1024x1024_S1024x1024_0_0).toLoadRect = w := fun w L => View.readCov_full _ _ _ w L
  have q30 : ∀ w L, arg31.view.readCov (Val := Elt F) (⟨(Rect.unit (s := S1x1024) ![0, 0] ![1, 1024] inb_S1x1024_S1x1024_0_0), w⟩ :: L) (Rect.unit (s := S1x1024) ![0, 0] ![1, 1024] inb_S1x1024_S1x1024_0_0).toLoadRect = w := fun w L => View.readCov_full _ _ _ w L
  have q31 : ∀ w L, arg32.view.readCov (Val := Elt F) (⟨(Rect.unit (s := S1x1024) ![0, 0] ![1, 1024] inb_S1x1024_S1x1024_0_0), w⟩ :: L) (Rect.unit (s := S1x1024) ![0, 0] ![1, 1024] inb_S1x1024_S1x1024_0_0).toLoadRect = w := fun w L => View.readCov_full _ _ _ w L
  have q32 : ∀ w L, arg33.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q33 : ∀ w L, arg34.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  have q34 : ∀ w L, arg35.view.readCov (Val := Elt F) (⟨(Rect.unit (s := S1x512) ![0, 0] ![1, 512] inb_S1x512_S1x512_0_0), w⟩ :: L) (Rect.unit (s := S1x512) ![0, 0] ![1, 512] inb_S1x512_S1x512_0_0).toLoadRect = w := fun w L => View.readCov_full _ _ _ w L
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr
    swap; · iexact H18
    ipureintro; refine (View.read_writes_full _ _ _ _ _).trans ?_
    sl_unfold_run_names
    rfl
  isplitl [H19]
  · iexists _; isplitr
    swap; · iexact H19
    ipureintro; refine (View.read_writes_full _ _ _ _ _).trans ?_
    sl_unfold_run_names
    rfl
  isplitl [H20]
  · iexists _; isplitr
    swap; · iexact H20
    ipureintro; refine (View.read_writes_full _ _ _ _ _).trans ?_
    sl_unfold_run_names
    rfl
  isplitl [H21]
  · iexists _; isplitr
    swap; · iexact H21
    ipureintro; refine (View.read_writes_full _ _ _ _ _).trans ?_
    sl_unfold_run_names
    rfl
  isplitl [H22]
  · iexists _; isplitr
    swap; · iexact H22
    ipureintro; refine (View.read_writes_full _ _ _ _ _).trans ?_
    sl_unfold_run_names
    rfl
  isplitl [H23]
  · iexists _; isplitr
    swap; · iexact H23
    ipureintro; refine (View.read_writes_full _ _ _ _ _).trans ?_
    sl_unfold_run_names
    rfl
  isplitl [H24]
  · iexists _; isplitr
    swap; · iexact H24
    ipureintro; refine (View.read_writes_full _ _ _ _ _).trans ?_
    sl_unfold_run_names
    rfl
  isplitl [H25]
  · iexists _; isplitr
    swap; · iexact H25
    ipureintro; refine (View.read_writes_full _ _ _ _ _).trans ?_
    sl_unfold_run_names
    rfl
  isplitl [H26]
  · iexists _; isplitr
    swap; · iexact H26
    ipureintro; refine (View.read_writes_eq_canon _ _ _ (View.cover_of_tiledBy _ ![256, 1024] (by sl_kernel_rfl))).trans ?_
    sl_unfold_run_names
    rfl
  isplitl [H27]
  · iexists _; isplitr
    swap; · iexact H27
    ipureintro; refine (View.read_writes_full _ _ _ _ _).trans ?_
    sl_unfold_run_names
    rfl
  isplitl [H28]
  · iexists _; isplitr
    swap; · iexact H28
    ipureintro; refine (View.read_writes_full _ _ _ _ _).trans ?_
    sl_unfold_run_names
    rfl
  isplitl [H29]
  · iexists _; isplitr
    swap; · iexact H29
    ipureintro; refine (View.read_writes_full _ _ _ _ _).trans ?_
    sl_unfold_run_names
    rfl
  isplitl [H30]
  · iexists _; isplitr
    swap; · iexact H30
    ipureintro; refine (View.read_writes_full _ _ _ _ _).trans ?_
    sl_unfold_run_names
    rfl
  isplitl [H31]
  · iexists _; isplitr
    swap; · iexact H31
    ipureintro; refine (View.read_writes_full _ _ _ _ _).trans ?_
    sl_unfold_run_names
    rfl
  isplitl [H32]
  · iexists _; isplitr
    swap; · iexact H32
    ipureintro; refine (View.read_writes_full _ _ _ _ _).trans ?_
    sl_unfold_run_names
    rfl
  isplitl [H33]
  · iexists _; isplitr
    swap; · iexact H33
    ipureintro; refine (View.read_writes_full _ _ _ _ _).trans ?_
    sl_unfold_run_names
    rfl
  iexists _; isplitr
  swap; · iexact H34
  ipureintro; refine (View.read_writes_full _ _ _ _ _).trans ?_
  sl_unfold_run_names
  rfl

end Cert.Merge

end
-- ==== Proof.MergeRunLater.lean ====
/-
  The body of the merge run at a later point, adding to its sums.
-/
module

public import proofs.«01_k».proof.Proof.MergeBlock
public import proofs.«01_k».proof.Proof.Gen.Kernel5Ideal.Frame.Runs
public import Idealize.ShloMosaic.Lib.VecWindow

@[expose] public section

set_option maxRecDepth 16384

noncomputable section

namespace Cert.Merge

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
theorem run_later (c : Dev nD) (i : grid0.Coords) (b : Blk F) (s : St F)
    (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .bf16) (harg25 : arg25.IsWhole) (arg26 : Memref sig .tc .vmem S256x512 .f32) (harg26 : arg26.IsWhole) (arg27 : Memref sig .tc .vmem S256x2048 .f32) (harg27 : arg27.IsWhole) (arg28 : Memref sig .tc .vmem S512x1024 .f32) (harg28 : arg28.IsWhole) (arg29 : Memref sig .tc .vmem S512x1024 .f32) (harg29 : arg29.IsWhole) (arg30 : Memref sig .tc .vmem S1024x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole)
    (hc : ¬cond0_0 i) (E : Set ℕ) (K : PUnit → sProp 𝕄) :
    iprop(owns (c : Thread nD τ) arg1 fullShare b.y ∗ owns (c : Thread nD τ) arg2 fullShare b.r ∗ owns (c : Thread nD τ) arg3 fullShare b.k ∗ owns (c : Thread nD τ) arg4 fullShare b.v ∗ owns (c : Thread nD τ) arg5 fullShare b.ga ∗ owns (c : Thread nD τ) arg6 fullShare b.o ∗ owns (c : Thread nD τ) arg7 fullShare b.gb ∗ owns (c : Thread nD τ) arg8 fullShare b.h ∗ owns (c : Thread nD τ) arg9 fullShare b.x ∗ owns (c : Thread nD τ) arg10 fullShare b.tg ∗ owns (c : Thread nD τ) arg11 fullShare b.wg ∗ owns (c : Thread nD τ) arg12 fullShare b.wa ∗ owns (c : Thread nD τ) arg13 fullShare b.wb ∗ owns (c : Thread nD τ) arg14 fullShare b.wo ∗ owns (c : Thread nD τ) arg15 fullShare b.fg ∗ owns (c : Thread nD τ) arg16 fullShare b.lw ∗ owns (c : Thread nD τ) arg17 fullShare b.lb ∗ owns (c : Thread nD τ) arg18 fullShare b.rk ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare s.dwa ∗ owns (c : Thread nD τ) arg29 fullShare s.dwb ∗ owns (c : Thread nD τ) arg30 fullShare s.dwo ∗ owns (c : Thread nD τ) arg31 fullShare s.dfg ∗ owns (c : Thread nD τ) arg32 fullShare s.ls ∗ owns (c : Thread nD τ) arg33 fullShare s.dlw ∗ owns (c : Thread nD τ) arg34 fullShare s.dlb ∗ owns (c : Thread nD τ) arg35 fullShare s.drk
        ∗ (iprop(owns (c : Thread nD τ) arg1 fullShare b.y ∗ owns (c : Thread nD τ) arg2 fullShare b.r ∗ owns (c : Thread nD τ) arg3 fullShare b.k ∗ owns (c : Thread nD τ) arg4 fullShare b.v ∗ owns (c : Thread nD τ) arg5 fullShare b.ga ∗ owns (c : Thread nD τ) arg6 fullShare b.o ∗ owns (c : Thread nD τ) arg7 fullShare b.gb ∗ owns (c : Thread nD τ) arg8 fullShare b.h ∗ owns (c : Thread nD τ) arg9 fullShare b.x ∗ owns (c : Thread nD τ) arg10 fullShare b.tg ∗ owns (c : Thread nD τ) arg11 fullShare b.wg ∗ owns (c : Thread nD τ) arg12 fullShare b.wa ∗ owns (c : Thread nD τ) arg13 fullShare b.wb ∗ owns (c : Thread nD τ) arg14 fullShare b.wo ∗ owns (c : Thread nD τ) arg15 fullShare b.fg ∗ owns (c : Thread nD τ) arg16 fullShare b.lw ∗ owns (c : Thread nD τ) arg17 fullShare b.lb ∗ owns (c : Thread nD τ) arg18 fullShare b.rk ∗ owns (c : Thread nD τ) arg19 fullShare b.v311 ∗ owns (c : Thread nD τ) arg20 fullShare b.v497 ∗ owns (c : Thread nD τ) arg21 fullShare b.v557 ∗ owns (c : Thread nD τ) arg22 fullShare b.v560 ∗ owns (c : Thread nD τ) arg23 fullShare b.v499 ∗ owns (c : Thread nD τ) arg24 fullShare b.v365 ∗ owns (c : Thread nD τ) arg25 fullShare b.v346 ∗ owns (c : Thread nD τ) arg26 fullShare b.v355 ∗ owns (c : Thread nD τ) arg27 fullShare b.dug ∗ owns (c : Thread nD τ) arg28 fullShare (b.next s).dwa ∗ owns (c : Thread nD τ) arg29 fullShare (b.next s).dwb ∗ owns (c : Thread nD τ) arg30 fullShare (b.next s).dwo ∗ owns (c : Thread nD τ) arg31 fullShare (b.next s).dfg ∗ owns (c : Thread nD τ) arg32 fullShare (b.next s).ls ∗ owns (c : Thread nD τ) arg33 fullShare (b.next s).dlw ∗ owns (c : Thread nD τ) arg34 fullShare (b.next s).dlb ∗ owns (c : Thread nD τ) arg35 fullShare (b.next s).drk) -∗ K ⟨⟩))
      ⊢ wp frame (wpE (defs₀ (F := F)) Variants.none c none) E (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_merge_fwd_bwd_eq_skeleton]; unfold cc0_merge_fwd_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34
  have r0 : arg1.view.readAt (Elt F) (Rect.unit (s := S256x512) ![0, 0] ![256, 512] inb_S256x512_S256x512_0_0).toLoadRect (harg1.unread b.y) = b.y := (View.readAt_full _ _ _).trans (harg1.read_unread _)
  have r1 : arg2.view.readAt (Elt F) (Rect.unit (s := S256x512) ![0, 0] ![256, 512] inb_S256x512_S256x512_0_0).toLoadRect (harg2.unread b.r) = b.r := (View.readAt_full _ _ _).trans (harg2.read_unread _)
  have r2 : arg3.view.readAt (Elt F) (Rect.unit (s := S256x512) ![0, 0] ![256, 512] inb_S256x512_S256x512_0_0).toLoadRect (harg3.unread b.k) = b.k := (View.readAt_full _ _ _).trans (harg3.read_unread _)
  have r3 : arg4.view.readAt (Elt F) (Rect.unit (s := S256x512) ![0, 0] ![256, 512] inb_S256x512_S256x512_0_0).toLoadRect (harg4.unread b.v) = b.v := (View.readAt_full _ _ _).trans (harg4.read_unread _)
  have r4 : arg5.view.readAt (Elt F) (Rect.unit (s := S256x512) ![0, 0] ![256, 512] inb_S256x512_S256x512_0_0).toLoadRect (harg5.unread b.ga) = b.ga := (View.readAt_full _ _ _).trans (harg5.read_unread _)
  have r5 : arg6.view.readAt (Elt F) (Rect.unit (s := S256x512) ![0, 0] ![256, 512] inb_S256x512_S256x512_0_0).toLoadRect (harg6.unread b.o) = b.o := (View.readAt_full _ _ _).trans (harg6.read_unread _)
  have r6 : arg7.view.readAt (Elt F) (Rect.unit (s := S256x512) ![0, 0] ![256, 512] inb_S256x512_S256x512_0_0).toLoadRect (harg7.unread b.gb) = b.gb := (View.readAt_full _ _ _).trans (harg7.read_unread _)
  have r7 : arg8.view.readAt (Elt F) (Rect.unit (s := S256x1024) ![0, 0] ![256, 1024] inb_S256x1024_S256x1024_0_0).toLoadRect (harg8.unread b.h) = b.h := (View.readAt_full _ _ _).trans (harg8.read_unread _)
  have r8 : arg9.view.readAt (Elt F) (Rect.unit (s := S256x1024) ![0, 0] ![256, 1024] inb_S256x1024_S256x1024_0_0).toLoadRect (harg9.unread b.x) = b.x := (View.readAt_full _ _ _).trans (harg9.read_unread _)
  have r9 : arg10.view.readAt (Elt F) (Rect.unit (s := S256x1024) ![0, 0] ![256, 1024] inb_S256x1024_S256x1024_0_0).toLoadRect (harg10.unread b.tg) = b.tg := (View.readAt_full _ _ _).trans (harg10.read_unread _)
  have r10 : arg11.view.readAt (Elt F) (Rect.unit (s := S1024x2048) ![0, 0] ![1024, 2048] inb_S1024x2048_S1024x2048_0_0).toLoadRect (harg11.unread b.wg) = b.wg := (View.readAt_full _ _ _).trans (harg11.read_unread _)
  have r11 : arg12.view.readAt (Elt F) (Rect.unit (s := S512x1024) ![0, 0] ![512, 1024] inb_S512x1024_S512x1024_0_0).toLoadRect (harg12.unread b.wa) = b.wa := (View.readAt_full _ _ _).trans (harg12.read_unread _)
  have r12 : arg13.view.readAt (Elt F) (Rect.unit (s := S512x1024) ![0, 0] ![512, 1024] inb_S512x1024_S512x1024_0_0).toLoadRect (harg13.unread b.wb) = b.wb := (View.readAt_full _ _ _).trans (harg13.read_unread _)
  have r13 : arg14.view.readAt (Elt F) (Rect.unit (s := S1024x1024) ![0, 0] ![1024, 1024] inb_S1024x1024_S1024x1024_0_0).toLoadRect (harg14.unread b.wo) = b.wo := (View.readAt_full _ _ _).trans (harg14.read_unread _)
  have r14 : arg15.view.readAt (Elt F) (Rect.unit (s := S1x1024) ![0, 0] ![1, 1024] inb_S1x1024_S1x1024_0_0).toLoadRect (harg15.unread b.fg) = b.fg := (View.readAt_full _ _ _).trans (harg15.read_unread _)
  have r15 : arg16.view.readAt (Elt F) (Rect.unit (s := S1x512) ![0, 0] ![1, 512] inb_S1x512_S1x512_0_0).toLoadRect (harg16.unread b.lw) = b.lw := (View.readAt_full _ _ _).trans (harg16.read_unread _)
  have r16 : arg17.view.readAt (Elt F) (Rect.unit (s := S1x512) ![0, 0] ![1, 512] inb_S1x512_S1x512_0_0).toLoadRect (harg17.unread b.lb) = b.lb := (View.readAt_full _ _ _).trans (harg17.read_unread _)
  have r17 : arg18.view.readAt (Elt F) (Rect.unit (s := S1x512) ![0, 0] ![1, 512] inb_S1x512_S1x512_0_0).toLoadRect (harg18.unread b.rk) = b.rk := (View.readAt_full _ _ _).trans (harg18.read_unread _)
  have r27 : arg28.view.readAt (Elt F) (Rect.unit (s := S512x1024) ![0, 0] ![512, 1024] inb_S512x1024_S512x1024_0_0).toLoadRect (harg28.unread s.dwa) = s.dwa := (View.readAt_full _ _ _).trans (harg28.read_unread _)
  have r28 : arg29.view.readAt (Elt F) (Rect.unit (s := S512x1024) ![0, 0] ![512, 1024] inb_S512x1024_S512x1024_0_0).toLoadRect (harg29.unread s.dwb) = s.dwb := (View.readAt_full _ _ _).trans (harg29.read_unread _)
  have r29 : arg30.view.readAt (Elt F) (Rect.unit (s := S1024x1024) ![0, 0] ![1024, 1024] inb_S1024x1024_S1024x1024_0_0).toLoadRect (harg30.unread s.dwo) = s.dwo := (View.readAt_full _ _ _).trans (harg30.read_unread _)
  have r30 : arg31.view.readAt (Elt F) (Rect.unit (s := S1x1024) ![0, 0] ![1, 1024] inb_S1x1024_S1x1024_0_0).toLoadRect (harg31.unread s.dfg) = s.dfg := (View.readAt_full _ _ _).trans (harg31.read_unread _)
  have r31 : arg32.view.readAt (Elt F) (Rect.unit (s := S1x1024) ![0, 0] ![1, 1024] inb_S1x1024_S1x1024_0_0).toLoadRect (harg32.unread s.ls) = s.ls := (View.readAt_full _ _ _).trans (harg32.read_unread _)
  have r32 : arg33.view.readAt (Elt F) (Rect.unit (s := S1x512) ![0, 0] ![1, 512] inb_S1x512_S1x512_0_0).toLoadRect (harg33.unread s.dlw) = s.dlw := (View.readAt_full _ _ _).trans (harg33.read_unread _)
  have r33 : arg34.view.readAt (Elt F) (Rect.unit (s := S1x512) ![0, 0] ![1, 512] inb_S1x512_S1x512_0_0).toLoadRect (harg34.unread s.dlb) = s.dlb := (View.readAt_full _ _ _).trans (harg34.read_unread _)
  have r34 : arg35.view.readAt (Elt F) (Rect.unit (s := S1x512) ![0, 0] ![1, 512] inb_S1x512_S1x512_0_0).toLoadRect (harg35.unread s.drk) = s.drk := (View.readAt_full _ _ _).trans (harg35.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr
    swap; · iexact H18
    ipureintro; refine (View.read_writes_full _ _ _ _ _).trans ?_
    sl_unfold_run_names
    rfl
  isplitl [H19]
  · iexists _; isplitr
    swap; · iexact H19
    ipureintro; refine (View.read_writes_full _ _ _ _ _).trans ?_
    sl_unfold_run_names
    rfl
  isplitl [H20]
  · iexists _; isplitr
    swap; · iexact H20
    ipureintro; refine (View.read_writes_full _ _ _ _ _).trans ?_
    sl_unfold_run_names
    rfl
  isplitl [H21]
  · iexists _; isplitr
    swap; · iexact H21
    ipureintro; refine (View.read_writes_full _ _ _ _ _).trans ?_
    sl_unfold_run_names
    rfl
  isplitl [H22]
  · iexists _; isplitr
    swap; · iexact H22
    ipureintro; refine (View.read_writes_full _ _ _ _ _).trans ?_
    sl_unfold_run_names
    rfl
  isplitl [H23]
  · iexists _; isplitr
    swap; · iexact H23
    ipureintro; refine (View.read_writes_full _ _ _ _ _).trans ?_
    sl_unfold_run_names
    rfl
  isplitl [H24]
  · iexists _; isplitr
    swap; · iexact H24
    ipureintro; refine (View.read_writes_full _ _ _ _ _).trans ?_
    sl_unfold_run_names
    rfl
  isplitl [H25]
  · iexists _; isplitr
    swap; · iexact H25
    ipureintro; refine (View.read_writes_full _ _ _ _ _).trans ?_
    sl_unfold_run_names
    rfl
  isplitl [H26]
  · iexists _; isplitr
    swap; · iexact H26
    ipureintro; refine (View.read_writes_eq_canon _ _ _ (View.cover_of_tiledBy _ ![256, 1024] (by sl_kernel_rfl))).trans ?_
    sl_unfold_run_names
    rfl
  isplitl [H27]
  · iexists _; isplitr
    swap; · iexact H27
    ipureintro; refine (View.read_writes_full _ _ _ _ _).trans ?_
    sl_unfold_run_names
    rfl
  isplitl [H28]
  · iexists _; isplitr
    swap; · iexact H28
    ipureintro; refine (View.read_writes_full _ _ _ _ _).trans ?_
    sl_unfold_run_names
    rfl
  isplitl [H29]
  · iexists _; isplitr
    swap; · iexact H29
    ipureintro; refine (View.read_writes_full _ _ _ _ _).trans ?_
    sl_unfold_run_names
    rfl
  isplitl [H30]
  · iexists _; isplitr
    swap; · iexact H30
    ipureintro; refine (View.read_writes_full _ _ _ _ _).trans ?_
    sl_unfold_run_names
    rfl
  isplitl [H31]
  · iexists _; isplitr
    swap; · iexact H31
    ipureintro; refine (View.read_writes_full _ _ _ _ _).trans ?_
    sl_unfold_run_names
    rfl
  isplitl [H32]
  · iexists _; isplitr
    swap; · iexact H32
    ipureintro; refine (View.read_writes_full _ _ _ _ _).trans ?_
    sl_unfold_run_names
    rfl
  isplitl [H33]
  · iexists _; isplitr
    swap; · iexact H33
    ipureintro; refine (View.read_writes_full _ _ _ _ _).trans ?_
    sl_unfold_run_names
    rfl
  iexists _; isplitr
  swap; · iexact H34
  ipureintro; refine (View.read_writes_full _ _ _ _ _).trans ?_
  sl_unfold_run_names
  rfl

end Cert.Merge

end
-- ==== Proof.MergeFrame.lean ====
/-
  The merge, point by point: what its buffers hold before and after each grid point, and the run of the whole call.
-/
module

public import proofs.«01_k».proof.Proof.MergeRunFirst
public import proofs.«01_k».proof.Proof.MergeRunLater
public import Idealize.ShloMosaic.Lib.Quiescent
public import Idealize.ShloMosaic.Lib.Claim

@[expose] public section

set_option maxRecDepth 16384

noncomputable section

namespace Cert.Merge

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that a point reads. -/
def blk (c : Dev nD) (t : Fin cfg0.N) : Blk F where
  y := iblk m c 0 t
  r := iblk m c 1 t
  k := iblk m c 2 t
  v := iblk m c 3 t
  ga := iblk m c 4 t
  o := iblk m c 5 t
  gb := X0_6 m c t
  h := iblk m c 7 t
  x := iblk m c 8 t
  tg := iblk m c 9 t
  wg := iblk m c 10 t
  wa := iblk m c 11 t
  wb := iblk m c 12 t
  wo := iblk m c 13 t
  fg := iblk m c 14 t
  lw := iblk m c 15 t
  lb := iblk m c 16 t
  rk := iblk m c 17 t

/-- What the kernel carries once `n` points are done. -/
def kept (c : Dev nD) : (n : ℕ) → n ≤ cfg0.N → St F
  | 0, _ => St.zero
  | n + 1, h => (blk m c ⟨n, h⟩).next (kept c n (Nat.le_of_lt h))

theorem kept_zero (c : Dev nD) (n : ℕ) (h : n ≤ cfg0.N) (hz : n = 0) : kept m c n h = St.zero := by subst hz; rfl
theorem kept_succ (c : Dev nD) (t : Fin cfg0.N) : kept m c (t.val + 1) t.isLt = (blk m c t).next (kept m c t.val (Nat.le_of_lt t.isLt)) := rfl
theorem kept_pred (c : Dev nD) (t : Fin cfg0.N) (hz : ¬t.val = 0) (h) : kept m c (t.val - 1 + 1) h = kept m c t.val (Nat.le_of_lt t.isLt) := by
  simp only [Nat.sub_add_cancel (Nat.one_le_iff_ne_zero.mpr hz)]

/-- The pipeline's proof data: the arrays as found, each input's buffer at its block, each output's at what the kernel
    has computed after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (blk m c t).v311
    | ⟨19, _⟩ => (blk m c t).v497
    | ⟨20, _⟩ => (blk m c t).v557
    | ⟨21, _⟩ => (blk m c t).v560
    | ⟨22, _⟩ => (blk m c t).v499
    | ⟨23, _⟩ => (blk m c t).v365
    | ⟨24, _⟩ => (blk m c t).v346
    | ⟨25, _⟩ => (blk m c t).v355
    | ⟨26, _⟩ => (blk m c t).dug
    | ⟨27, _⟩ => (kept m c (t.val + 1) t.isLt).dwa
    | ⟨28, _⟩ => (kept m c (t.val + 1) t.isLt).dwb
    | ⟨29, _⟩ => (kept m c (t.val + 1) t.isLt).dwo
    | ⟨30, _⟩ => (kept m c (t.val + 1) t.isLt).dfg
    | ⟨31, _⟩ => (kept m c (t.val + 1) t.isLt).ls
    | ⟨32, _⟩ => (kept m c (t.val + 1) t.isLt).dlw
    | ⟨33, _⟩ => (kept m c (t.val + 1) t.isLt).dlb
    | ⟨34, _⟩ => (kept m c (t.val + 1) t.isLt).drk
    | ⟨_ + 35, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = X0_6 m c t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = (blk m c t).v311 := by dsimp only [dats]
theorem after_19 (c : Dev nD) (t : Fin cfg0.N) : (dats m 0 c).after 19 t = (blk m c t).v497 := by dsimp only [dats]
theorem after_20 (c : Dev nD) (t : Fin cfg0.N) : (dats m 0 c).after 20 t = (blk m c t).v557 := by dsimp only [dats]
theorem after_21 (c : Dev nD) (t : Fin cfg0.N) : (dats m 0 c).after 21 t = (blk m c t).v560 := by dsimp only [dats]
theorem after_22 (c : Dev nD) (t : Fin cfg0.N) : (dats m 0 c).after 22 t = (blk m c t).v499 := by dsimp only [dats]
theorem after_23 (c : Dev nD) (t : Fin cfg0.N) : (dats m 0 c).after 23 t = (blk m c t).v365 := by dsimp only [dats]
theorem after_24 (c : Dev nD) (t : Fin cfg0.N) : (dats m 0 c).after 24 t = (blk m c t).v346 := by dsimp only [dats]
theorem after_25 (c : Dev nD) (t : Fin cfg0.N) : (dats m 0 c).after 25 t = (blk m c t).v355 := by dsimp only [dats]
theorem after_26 (c : Dev nD) (t : Fin cfg0.N) : (dats m 0 c).after 26 t = (blk m c t).dug := by dsimp only [dats]
theorem after_27 (c : Dev nD) (t : Fin cfg0.N) : (dats m 0 c).after 27 t = (kept m c (t.val + 1) t.isLt).dwa := by dsimp only [dats]
theorem after_28 (c : Dev nD) (t : Fin cfg0.N) : (dats m 0 c).after 28 t = (kept m c (t.val + 1) t.isLt).dwb := by dsimp only [dats]
theorem after_29 (c : Dev nD) (t : Fin cfg0.N) : (dats m 0 c).after 29 t = (kept m c (t.val + 1) t.isLt).dwo := by dsimp only [dats]
theorem after_30 (c : Dev nD) (t : Fin cfg0.N) : (dats m 0 c).after 30 t = (kept m c (t.val + 1) t.isLt).dfg := by dsimp only [dats]
theorem after_31 (c : Dev nD) (t : Fin cfg0.N) : (dats m 0 c).after 31 t = (kept m c (t.val + 1) t.isLt).ls := by dsimp only [dats]
theorem after_32 (c : Dev nD) (t : Fin cfg0.N) : (dats m 0 c).after 32 t = (kept m c (t.val + 1) t.isLt).dlw := by dsimp only [dats]
theorem after_33 (c : Dev nD) (t : Fin cfg0.N) : (dats m 0 c).after 33 t = (kept m c (t.val + 1) t.isLt).dlb := by dsimp only [dats]
theorem after_34 (c : Dev nD) (t : Fin cfg0.N) : (dats m 0 c).after 34 t = (kept m c (t.val + 1) t.isLt).drk := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_27 (c : Dev nD) (t : Fin cfg0.N) (hz : ¬t.val = 0) (d) : (dats m 0 c).before 27 t d = (kept m c t.val (Nat.le_of_lt t.isLt)).dwa := by
  have hN : t.val < 8 := lt_of_lt_of_eq t.isLt (show cfg0.N = 8 from N_0)
  rw [Dat.before_out_kept _ 27 rfl t (by omega) (Bool.eq_false_iff.mpr fun h => by have := (flush0_27 _).mp h; dsimp only at this; omega)
    (fun _ => rfl) (fun _ _ => rfl), after_27, kept_pred m c t hz]
theorem before_28 (c : Dev nD) (t : Fin cfg0.N) (hz : ¬t.val = 0) (d) : (dats m 0 c).before 28 t d = (kept m c t.val (Nat.le_of_lt t.isLt)).dwb := by
  have hN : t.val < 8 := lt_of_lt_of_eq t.isLt (show cfg0.N = 8 from N_0)
  rw [Dat.before_out_kept _ 28 rfl t (by omega) (Bool.eq_false_iff.mpr fun h => by have := (flush0_28 _).mp h; dsimp only at this; omega)
    (fun _ => rfl) (fun _ _ => rfl), after_28, kept_pred m c t hz]
theorem before_29 (c : Dev nD) (t : Fin cfg0.N) (hz : ¬t.val = 0) (d) : (dats m 0 c).before 29 t d = (kept m c t.val (Nat.le_of_lt t.isLt)).dwo := by
  have hN : t.val < 8 := lt_of_lt_of_eq t.isLt (show cfg0.N = 8 from N_0)
  rw [Dat.before_out_kept _ 29 rfl t (by omega) (Bool.eq_false_iff.mpr fun h => by have := (flush0_29 _).mp h; dsimp only at this; omega)
    (fun _ => rfl) (fun _ _ => rfl), after_29, kept_pred m c t hz]
theorem before_30 (c : Dev nD) (t : Fin cfg0.N) (hz : ¬t.val = 0) (d) : (dats m 0 c).before 30 t d = (kept m c t.val (Nat.le_of_lt t.isLt)).dfg := by
  have hN : t.val < 8 := lt_of_lt_of_eq t.isLt (show cfg0.N = 8 from N_0)
  rw [Dat.before_out_kept _ 30 rfl t (by omega) (Bool.eq_false_iff.mpr fun h => by have := (flush0_30 _).mp h; dsimp only at this; omega)
    (fun _ => rfl) (fun _ _ => rfl), after_30, kept_pred m c t hz]
theorem before_31 (c : Dev nD) (t : Fin cfg0.N) (hz : ¬t.val = 0) (d) : (dats m 0 c).before 31 t d = (kept m c t.val (Nat.le_of_lt t.isLt)).ls := by
  have hN : t.val < 8 := lt_of_lt_of_eq t.isLt (show cfg0.N = 8 from N_0)
  rw [Dat.before_out_kept _ 31 rfl t (by omega) (Bool.eq_false_iff.mpr fun h => by have := (flush0_31 _).mp h; dsimp only at this; omega)
    (fun _ => rfl) (fun _ _ => rfl), after_31, kept_pred m c t hz]
theorem before_32 (c : Dev nD) (t : Fin cfg0.N) (hz : ¬t.val = 0) (d) : (dats m 0 c).before 32 t d = (kept m c t.val (Nat.le_of_lt t.isLt)).dlw := by
  have hN : t.val < 8 := lt_of_lt_of_eq t.isLt (show cfg0.N = 8 from N_0)
  rw [Dat.before_out_kept _ 32 rfl t (by omega) (Bool.eq_false_iff.mpr fun h => by have := (flush0_32 _).mp h; dsimp only at this; omega)
    (fun _ => rfl) (fun _ _ => rfl), after_32, kept_pred m c t hz]
theorem before_33 (c : Dev nD) (t : Fin cfg0.N) (hz : ¬t.val = 0) (d) : (dats m 0 c).before 33 t d = (kept m c t.val (Nat.le_of_lt t.isLt)).dlb := by
  have hN : t.val < 8 := lt_of_lt_of_eq t.isLt (show cfg0.N = 8 from N_0)
  rw [Dat.before_out_kept _ 33 rfl t (by omega) (Bool.eq_false_iff.mpr fun h => by have := (flush0_33 _).mp h; dsimp only at this; omega)
    (fun _ => rfl) (fun _ _ => rfl), after_33, kept_pred m c t hz]
theorem before_34 (c : Dev nD) (t : Fin cfg0.N) (hz : ¬t.val = 0) (d) : (dats m 0 c).before 34 t d = (kept m c t.val (Nat.le_of_lt t.isLt)).drk := by
  have hN : t.val < 8 := lt_of_lt_of_eq t.isLt (show cfg0.N = 8 from N_0)
  rw [Dat.before_out_kept _ 34 rfl t (by omega) (Bool.eq_false_iff.mpr fun h => by have := (flush0_34 _).mp h; dsimp only at this; omega)
    (fun _ => rfl) (fun _ _ => rfl), after_34, kept_pred m c t hz]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

set_option maxHeartbeats 22400000 in
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34]
  rw [kept_succ, kept_zero m c _ _ hz]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply (run_first c (grid0.coords t) (blk m c t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

set_option maxHeartbeats 22400000 in
theorem sound_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34]
  simp only [before_27 m c t hz, before_28 m c t hz, before_29 m c t hz, before_30 m c t hz, before_31 m c t hz, before_32 m c t hz, before_33 m c t hz, before_34 m c t hz]
  rw [kept]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply (run_later c (grid0.coords t) (blk m c t) (kept m c t.val (Nat.le_of_lt t.isLt)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => hz (by have := (hcond0_0 t).mp h; omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

theorem sound (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · exact sound_later m c t hz

/-! ## The run -/

theorem body_row (t : Fin cfg0.N) : defs₀ (F := F) .tc cfg0.body (cfg0.bodyArgs t (cfg0.slots t)) = bodyAt0 t := by
  unfold defs₀; rw [Defs.onTc_tc]

set_option maxHeartbeats 6400000 in
theorem obligation (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
set_option maxHeartbeats 800000 in
/-- Every run of the program ends with the kernel's arrays at what the proof data computes, the other buffers as the host's
    lines leave them, and the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Merge

end
-- ==== Proof.MergePoint.lean ====
/-
  The arithmetic of one grid point of the merge's backward kernel, at the entries that the blocks hold.
-/
module

public import proofs.«01_k».proof.Proof.MergeBlock
public import proofs.«01_k».proof.Proof.MergeArrays
public import Idealize.ShloMosaic.Lib.Pointwise
public import Idealize.ShloMosaic.Lib.KernelVsHost

@[expose] public section

set_option maxRecDepth 16384

noncomputable section

namespace Cert.Merge

open Cert.Kernel5Ideal Cert.Kernel5Ideal.Gen Idealize.ShloMosaic Idealize.ShloMosaic.TcCoe Idealize.SL.Sem Cert.Heads

/-- A block holds the rows of `f` from row `T` on. -/
abbrev At {n p : ℕ} (T : ℕ) (v : (⟨2, ![n, p]⟩ : Shape).Idx → EReal) (f : ℕ → ℕ → ℝ) : Prop :=
  ∀ (r : Fin n) (c : Fin p), v (ix2 r c) = ((f (T + r.val) c.val : ℝ) : EReal)
abbrev Col {n : ℕ} (T : ℕ) (v : (⟨2, ![n, 1]⟩ : Shape).Idx → EReal) (f : ℕ → ℝ) : Prop :=
  ∀ r : Fin n, v (ix2 r 0) = ((f (T + r.val) : ℝ) : EReal)

/-- The blocks hold the numbers of `D` from row `T` on. -/
structure Blk.Holds (b : Blk Ideal) (D : Data) (T : ℕ) : Prop where
  y : At T b.y D.Y
  r : At T b.r D.R
  k : At T b.k D.K
  v : At T b.v D.V
  ga : At T b.ga D.GA
  o : At T b.o D.O
  gb : At T b.gb D.GB
  h : At T b.h D.H
  x : At T b.x D.X
  tg : At T b.tg D.TG
  wg : Mat b.wg D.WG
  wa : Mat b.wa D.WA
  wb : Mat b.wb D.WB
  wo : Mat b.wo D.WO
  fg : Row b.fg D.FG
  lw : Row b.lw D.LW
  lb : Row b.lb D.LB
  rk : Row b.rk D.RK

theorem pay10_at (k l : Fin 128) : k0_pay10 (F := Ideal) (ix2 k l) = if k.val / 64 = l.val / 64 then (1 : EReal) else 0 := by
  unfold k0_pay10
  pointwise
  exact ones_at k l

variable {D : Data} {T : ℕ}

section
variable {v22 v24 v26 v28 v33 v90 v150 v219 v220 v222 v223 v32 : Vec Ideal S256x512 .f32} {v29 v31 v34 : Vec Ideal S1x512 .f32}

theorem yc_pt (h : At T v32 D.Y) : At T (k0_pay29 (F := Ideal) k0_pay10 (k0_pay20 v32) (k0_pay21 k0_pay10 v32) (k0_pay22 k0_pay10 v32) (k0_pay23 k0_pay10 v32)
    (k0_pay25 v32) (k0_pay27 v32) (k0_pay28 v32)) D.YC := by
  intro r c
  unfold k0_pay29 k0_pay28 k0_pay27 k0_pay26 k0_pay25 k0_pay24 k0_pay23 k0_pay22 k0_pay21 k0_pay20
  pointwise
  simp only [h, three_parts, pay10_at, lit_64th]
  refine (congrArg (fun z => ((D.Y (T + r.val) c.val : ℝ) : EReal) - z * _) (quarters (fun k => D.Y (T + r.val) k) c)).trans ?_
  rw [← EReal.coe_mul, ← EReal.coe_sub]
  rfl

theorem rstd_pt {v47 v60 v73 v80 : Vec Ideal S256x128 .f32} {v75 v78 : Vec Ideal S256x128 .bf16}
    (h : At T (k0_pay29 (F := Ideal) k0_pay10 v33 v47 v60 v73 v75 v78 v80) D.YC) :
    At T (k0_pay39 (F := Ideal) k0_pay10 (k0_pay30 k0_pay10 v33 v47 v60 v73 v75 v78 v80) (k0_pay31 k0_pay10 v33 v47 v60 v73 v75 v78 v80)
      (k0_pay32 k0_pay10 v33 v47 v60 v73 v75 v78 v80) (k0_pay37 k0_pay10 v33 v47 v60 v73 v75 v78 v80) (k0_pay38 k0_pay10 v33 v47 v60 v73 v75 v78 v80)) D.RSTD := by
  intro r c
  unfold k0_pay39 k0_pay38 k0_pay37 k0_pay36 k0_pay35 k0_pay34 k0_pay33 k0_pay32 k0_pay31 k0_pay30
  generalize k0_pay29 (F := Ideal) k0_pay10 v33 v47 v60 v73 v75 v78 v80 = u at h ⊢
  pointwise
  simp only [h, ← EReal.coe_mul, three_parts, pay10_at, lit_64th, lit_epsL]
  refine (congrArg (fun z => Ideal.rsqrt (z * _ + _)) (quarters (fun k => D.YC (T + r.val) k * D.YC (T + r.val) k) c)).trans ?_
  rw [← EReal.coe_mul, ← EReal.coe_add]
  exact Reals.rsqrt_real _ (var_pos D _ _)

theorem yn_pt {v12 : Vec Ideal S128x128 .bf16} {v91 : Vec Ideal S256x512 .f32} {v104 v117 v128 : Vec Ideal S256x128 .f32} {v125 : Vec Ideal S256x128 .bf16}
    (h : At T v90 D.YC) (h' : At T (k0_pay39 (F := Ideal) v12 v91 v104 v117 v125 v128) D.RSTD) :
    At T (k0_pay40 (F := Ideal) v12 v90 v91 v104 v117 v125 v128) D.YN := by
  intro r c
  unfold k0_pay40
  generalize k0_pay39 (F := Ideal) v12 v91 v104 v117 v125 v128 = u at h' ⊢
  pointwise
  rw [h, h', ← EReal.coe_mul]
  rfl

theorem rkk_pt (h : At T v22 D.R) (h' : At T v24 D.K) (h'' : Row v31 D.RK) :
    At T (k0_pay49 (F := Ideal) k0_pay10 (k0_pay41 v22 v24 v31) (k0_pay42 k0_pay10 v22 v24 v31) (k0_pay47 v22 v24 v31) (k0_pay48 k0_pay10 v22 v24 v31)) D.RKK := by
  intro r c
  unfold k0_pay49 k0_pay48 k0_pay47 k0_pay46 k0_pay45 k0_pay44 k0_pay43 k0_pay42 k0_pay41
  pointwise
  simp only [h, h', h'', ← EReal.coe_mul, three_parts, pay10_at]
  exact quarters (fun k => D.R (T + r.val) k * D.K (T + r.val) k * D.RK k) c

theorem pre_pt {v12 : Vec Ideal S128x128 .bf16} {v153 : Vec Ideal S256x512 .f32} {v166 v177 : Vec Ideal S256x128 .f32} {v174 : Vec Ideal S256x128 .bf16}
    (h26 : At T v26 D.V) (h29 : Row v29 D.LW) (h34 : Row v34 D.LB) (h150 : At T v150 D.YN) (h : At T (k0_pay49 (F := Ideal) v12 v153 v166 v174 v177) D.RKK) :
    At T (k0_pay51 (F := Ideal) v12 v26 v29 v34 v150 v153 v166 v174 v177) D.PRE := by
  intro r c
  unfold k0_pay51
  generalize k0_pay49 (F := Ideal) v12 v153 v166 v174 v177 = u at h ⊢
  pointwise
  simp only [h26, h29, h34, h150, h, ← EReal.coe_mul, ← EReal.coe_add]
  rfl

theorem sga_pt (h : At T v28 D.GA) : At T (k0_pay50 (F := Ideal) v28) (fun r c => sigm (D.GA r c)) := by
  intro r c
  unfold k0_pay50
  pointwise
  rw [h, sig_real]

theorem sgb_pt (h : At T v222 D.GB) : At T (k0_pay55 (F := Ideal) v222) (fun r c => sigm (D.GB r c)) := by
  intro r c
  unfold k0_pay55
  pointwise
  rw [h, sig_real]

theorem sla_pt (h : At T v28 D.GA) : At T (k0_pay52 (F := Ideal) v28) D.SLA := by
  intro r c
  have e := sga_pt h r c
  unfold k0_pay52
  generalize k0_pay50 (F := Ideal) v28 = u at e ⊢
  pointwise
  rw [h, e, ← EReal.coe_mul]
  rfl

theorem slb_pt (h : At T v222 D.GB) : At T (k0_pay56 (F := Ideal) v222) D.SLB := by
  intro r c
  have e := sgb_pt h r c
  unfold k0_pay56
  generalize k0_pay55 (F := Ideal) v222 = u at e ⊢
  pointwise
  rw [h, e, ← EReal.coe_mul]
  rfl

theorem ma_pt (h : At T v219 D.PRE) (h' : At T v220 D.SLA) : At T (k0_pay57 (F := Ideal) v219 v220) D.MA := by
  intro r c
  unfold k0_pay57
  pointwise
  rw [h, h', ← EReal.coe_mul]
  rfl

theorem mb_pt (h : At T v222 D.GB) (h' : At T v223 D.O) : At T (k0_pay58 (F := Ideal) v222 v223) D.MB := by
  intro r c
  have e := slb_pt h r c
  unfold k0_pay58 k0_pay54
  generalize k0_pay56 (F := Ideal) v222 = u at e ⊢
  pointwise
  rw [h', e, ← EReal.coe_mul]
  rfl

theorem ya_pt {v14 : Vec Ideal S512x1024 .bf16} (hw : Mat v14 D.WA) (h : At T v219 D.PRE) (h' : At T v220 D.SLA) : At T (k0_pay59 (F := Ideal) v14 v219 v220) D.YA := by
  intro r c
  have e := ma_pt h h'
  unfold k0_pay59
  generalize k0_pay57 (F := Ideal) v219 v220 = u at e ⊢
  pointwise
  simp only [hw, e, ← EReal.coe_mul, Reals.sum_coe]
  rfl

theorem yb_pt {v16 : Vec Ideal S512x1024 .bf16} (hw : Mat v16 D.WB) (h : At T v222 D.GB) (h' : At T v223 D.O) : At T (k0_pay60 (F := Ideal) v16 v222 v223) D.YB := by
  intro r c
  have e := mb_pt h h'
  unfold k0_pay60
  generalize k0_pay58 (F := Ideal) v222 v223 = u at e ⊢
  pointwise
  simp only [hw, e, ← EReal.coe_mul, Reals.sum_coe]
  rfl

end

section
variable {v239 : Vec Ideal S256x1024 .bf16} {v241 : Vec Ideal S1024x2048 .bf16}

theorem ug_pt (h : At T v239 D.H) (hw : Mat v241 D.WG) : At T (k0_pay61 (F := Ideal) v239 v241) D.UG := by
  intro r c
  unfold k0_pay61
  pointwise
  simp only [hw, h, ← EReal.coe_mul, Reals.sum_coe]
  rfl

theorem sa_pt (h : At T v239 D.H) (hw : Mat v241 D.WG) : At T (k0_pay62 (F := Ideal) v239 v241) D.SA := by
  intro r c
  have e := ug_pt h hw
  unfold k0_pay62
  generalize k0_pay61 (F := Ideal) v239 v241 = u at e ⊢
  pointwise
  rw [e, sig_real]
  rfl

theorem sb_pt (h : At T v239 D.H) (hw : Mat v241 D.WG) : At T (k0_pay63 (F := Ideal) v239 v241) D.SB := by
  intro r c
  have e := ug_pt h hw
  unfold k0_pay63
  generalize k0_pay61 (F := Ideal) v239 v241 = u at e ⊢
  pointwise
  rw [e, sig_real]
  rfl

theorem mg_pt {v14 v16 : Vec Ideal S512x1024 .bf16} {v219 v220 v222 v223 : Vec Ideal S256x512 .f32}
    (ha : At T (k0_pay59 (F := Ideal) v14 v219 v220) D.YA) (hb : At T (k0_pay60 (F := Ideal) v16 v222 v223) D.YB)
    (h : At T v239 D.H) (hw : Mat v241 D.WG) : At T (k0_pay64 (F := Ideal) v14 v16 v219 v220 v222 v223 v239 v241) D.MG := by
  intro r c
  have ea := sa_pt h hw
  have eb := sb_pt h hw
  unfold k0_pay64
  generalize k0_pay62 (F := Ideal) v239 v241 = u at ea ⊢
  generalize k0_pay63 (F := Ideal) v239 v241 = w at eb ⊢
  generalize k0_pay59 (F := Ideal) v14 v219 v220 = p at ha ⊢
  generalize k0_pay60 (F := Ideal) v16 v222 v223 = q at hb ⊢
  pointwise
  simp only [ea, eb, ha, hb, ← EReal.coe_mul, ← EReal.coe_add]
  rfl

end

section
variable {v18 : Vec Ideal S1024x1024 .bf16} {v20 : Vec Ideal S1x1024 .f32} {v263 : Vec Ideal S256x1024 .bf16} {v265 v280 : Vec Ideal S256x1024 .f32}
variable (hw : Mat v18 D.WO) (hg : Row v20 D.FG) (hm : At T v263 D.MG) (hx : At T v265 D.X) (ht : At T v280 D.TG)
include hw hm hx

theorem x2_pt : At T (k0_pay66 (F := Ideal) v18 v263 v265) D.X2 := by
  intro r c
  unfold k0_pay66
  pointwise
  simp only [hw, hm, hx, ← EReal.coe_mul, Reals.sum_coe, ← EReal.coe_add]
  rfl

theorem r2_pt : Col T (k0_pay67 (F := Ideal) v18 v263 v265) D.R2 := by
  intro r
  have e := x2_pt hw hm hx
  unfold k0_pay67
  generalize k0_pay66 (F := Ideal) v18 v263 v265 = u at e ⊢
  pointwise
  simp only [e, ← EReal.coe_mul, Reals.sum_coe, Reals.lit_1024, lit_epsR]
  rw [Reals.div_real _ _ (by norm_num), ← EReal.coe_add]
  exact Reals.rsqrt_real _ (ms_pos D _)

theorem xh_pt : At T (k0_pay68 (F := Ideal) v18 v263 v265) D.XH := by
  intro r c
  have e := x2_pt hw hm hx
  have e' := r2_pt hw hm hx
  unfold k0_pay68
  generalize k0_pay66 (F := Ideal) v18 v263 v265 = u at e ⊢
  generalize k0_pay67 (F := Ideal) v18 v263 v265 = w at e' ⊢
  pointwise
  rw [e, e', ← EReal.coe_mul]
  rfl

include hg ht

theorem er_pt : At T (k0_pay69 (F := Ideal) v18 v20 v263 v265 v280) D.ER := by
  intro r c
  have e := xh_pt hw hm hx
  unfold k0_pay69
  generalize k0_pay68 (F := Ideal) v18 v263 v265 = u at e ⊢
  pointwise
  rw [e, hg, ht, ← EReal.coe_mul, ← EReal.coe_sub]
  rfl

theorem dyo_pt : At T (k0_pay71 (F := Ideal) v18 v20 v263 v265 v280) D.DYO := by
  intro r c
  have e := er_pt hw hg hm hx ht
  unfold k0_pay71
  generalize k0_pay69 (F := Ideal) v18 v20 v263 v265 v280 = u at e ⊢
  pointwise
  rw [e, lit_1024th, ← EReal.coe_mul]
  rfl

theorem dxh_pt : At T (k0_pay73 (F := Ideal) v18 v20 v263 v265 v280) D.DXH := by
  intro r c
  have e := dyo_pt hw hg hm hx ht
  unfold k0_pay73
  generalize k0_pay71 (F := Ideal) v18 v20 v263 v265 v280 = u at e ⊢
  pointwise
  rw [e, hg, ← EReal.coe_mul]
  rfl

theorem sx_pt : Col T (k0_pay74 (F := Ideal) v18 v20 v263 v265 v280) D.SX := by
  intro r
  have e := dxh_pt hw hg hm hx ht
  have e' := xh_pt hw hm hx
  unfold k0_pay74
  generalize k0_pay73 (F := Ideal) v18 v20 v263 v265 v280 = u at e ⊢
  generalize k0_pay68 (F := Ideal) v18 v263 v265 = w at e' ⊢
  pointwise
  simp only [e, e', ← EReal.coe_mul, Reals.sum_coe]
  rfl

/-- What the point adds to the loss and to the gradient at the last norm's scale. -/
theorem ls_pt (s : Vec Ideal S1x1024 .f32) (c : Fin 1024) : k0_pay70 (F := Ideal) v18 v20 v263 v265 v280 s (ix2 0 c)
    = s (ix2 0 c) + ((∑ r : Fin 256, D.ER (T + r.val) c.val * D.ER (T + r.val) c.val : ℝ) : EReal) := by
  have e := er_pt hw hg hm hx ht
  unfold k0_pay70
  generalize k0_pay69 (F := Ideal) v18 v20 v263 v265 v280 = u at e ⊢
  pointwise
  simp only [e, ← EReal.coe_mul, Reals.sum_coe]

theorem dfg_pt (s : Vec Ideal S1x1024 .f32) (c : Fin 1024) : k0_pay72 (F := Ideal) v18 v20 v263 v265 v280 s (ix2 0 c)
    = s (ix2 0 c) + ((∑ r : Fin 256, D.DYO (T + r.val) c.val * D.XH (T + r.val) c.val : ℝ) : EReal) := by
  have e := dyo_pt hw hg hm hx ht
  have e' := xh_pt hw hm hx
  unfold k0_pay72
  generalize k0_pay71 (F := Ideal) v18 v20 v263 v265 v280 = u at e ⊢
  generalize k0_pay68 (F := Ideal) v18 v263 v265 = w at e' ⊢
  pointwise
  simp only [e, e', ← EReal.coe_mul, Reals.sum_coe]

end

section
variable {v18 : Vec Ideal S1024x1024 .bf16} {v275 v303 : Vec Ideal S256x1 .f32} {v277 v300 v251 v259 v237 v238 : Vec Ideal S256x1024 .f32} {v263 : Vec Ideal S256x1024 .bf16}
variable (h275 : Col T v275 D.R2) (h277 : At T v277 D.XH) (h300 : At T v300 D.DXH) (h303 : Col T v303 D.SX)
include h275 h277 h300 h303

theorem dx_pt : At T (k0_pay76 (F := Ideal) v275 v277 v300 v303 k0_pay75) D.DX := by
  intro r c
  unfold k0_pay76 k0_pay75
  pointwise
  rw [h275, h277, h300, h303, Reals.lit_1024, Reals.div_real _ _ (by norm_num), ← EReal.coe_mul, ← EReal.coe_sub, ← EReal.coe_mul]
  rfl

theorem dxb_pt : At T (k0_pay77 (F := Ideal) v275 v277 v300 v303 k0_pay75) D.DX := by
  intro r c
  have e := dx_pt h275 h277 h300 h303
  unfold k0_pay77
  generalize k0_pay76 (F := Ideal) v275 v277 v300 v303 k0_pay75 = u at e ⊢
  pointwise
  exact e r c

theorem dwo_pt (hm : At T v263 D.MG) (s : Vec Ideal S1024x1024 .f32) (k c : Fin 1024) : k0_pay79 (F := Ideal) v263 v275 v277 v300 v303 k0_pay75 s (ix2 k c)
    = s (ix2 k c) + ((∑ r : Fin 256, D.MG (T + r.val) k.val * D.DX (T + r.val) c.val : ℝ) : EReal) := by
  have e := dxb_pt h275 h277 h300 h303
  unfold k0_pay79
  generalize k0_pay77 (F := Ideal) v275 v277 v300 v303 k0_pay75 = u at e ⊢
  pointwise
  simp only [e, hm, ← EReal.coe_mul, Reals.sum_coe]

variable (hw : Mat v18 D.WO)
include hw

theorem dm_pt : At T (k0_pay78 (F := Ideal) v18 v275 v277 v300 v303 k0_pay75) D.DM := by
  intro r c
  have e := dxb_pt h275 h277 h300 h303
  unfold k0_pay78
  generalize k0_pay77 (F := Ideal) v275 v277 v300 v303 k0_pay75 = u at e ⊢
  pointwise
  simp only [e, hw, ← EReal.coe_mul, Reals.sum_coe]
  rfl

theorem dya_pt (h : At T v251 D.SA) : At T (k0_pay80 (F := Ideal) v18 v251 v275 v277 v300 v303 k0_pay75) D.DYA := by
  intro r c
  have e := dm_pt h275 h277 h300 h303 hw
  unfold k0_pay80
  generalize k0_pay78 (F := Ideal) v18 v275 v277 v300 v303 k0_pay75 = u at e ⊢
  pointwise
  rw [e, h, ← EReal.coe_mul]
  rfl

theorem dyb_pt (h : At T v259 D.SB) : At T (k0_pay81 (F := Ideal) v18 v259 v275 v277 v300 v303 k0_pay75) D.DYB := by
  intro r c
  have e := dm_pt h275 h277 h300 h303 hw
  unfold k0_pay81
  generalize k0_pay78 (F := Ideal) v18 v275 v277 v300 v303 k0_pay75 = u at e ⊢
  pointwise
  rw [e, h, ← EReal.coe_mul]
  rfl

theorem ua_pt (h : At T v251 D.SA) (h' : At T v237 D.YA) : At T (k0_pay82 (F := Ideal) v18 v237 v251 v275 v277 v300 v303 k0_pay75) D.UA := by
  intro r c
  have e := dya_pt h275 h277 h300 h303 hw h
  unfold k0_pay82
  generalize k0_pay80 (F := Ideal) v18 v251 v275 v277 v300 v303 k0_pay75 = u at e ⊢
  pointwise
  rw [e, h, h', ← EReal.coe_one, ← EReal.coe_sub, ← EReal.coe_mul, ← EReal.coe_mul]
  rfl

theorem ub_pt (h : At T v259 D.SB) (h' : At T v238 D.YB) : At T (k0_pay83 (F := Ideal) v18 v238 v259 v275 v277 v300 v303 k0_pay75) D.UB := by
  intro r c
  have e := dyb_pt h275 h277 h300 h303 hw h
  unfold k0_pay83
  generalize k0_pay81 (F := Ideal) v18 v259 v275 v277 v300 v303 k0_pay75 = u at e ⊢
  pointwise
  rw [e, h, h', ← EReal.coe_one, ← EReal.coe_sub, ← EReal.coe_mul, ← EReal.coe_mul]
  rfl

theorem dyab_pt (h : At T v251 D.SA) : At T (k0_pay84 (F := Ideal) v18 v251 v275 v277 v300 v303 k0_pay75) D.DYA := by
  intro r c
  have e := dya_pt h275 h277 h300 h303 hw h
  unfold k0_pay84
  generalize k0_pay80 (F := Ideal) v18 v251 v275 v277 v300 v303 k0_pay75 = u at e ⊢
  pointwise
  exact e r c

theorem dybb_pt (h : At T v259 D.SB) : At T (k0_pay85 (F := Ideal) v18 v259 v275 v277 v300 v303 k0_pay75) D.DYB := by
  intro r c
  have e := dyb_pt h275 h277 h300 h303 hw h
  unfold k0_pay85
  generalize k0_pay81 (F := Ideal) v18 v259 v275 v277 v300 v303 k0_pay75 = u at e ⊢
  pointwise
  exact e r c

theorem dwa_pt {v234 : Vec Ideal S256x512 .bf16} (h : At T v251 D.SA) (hm : At T v234 D.MA) (s : Vec Ideal S512x1024 .f32) (k : Fin 512) (c : Fin 1024) :
    k0_pay86 (F := Ideal) v18 v234 v251 v275 v277 v300 v303 k0_pay75 s (ix2 k c)
      = s (ix2 k c) + ((∑ r : Fin 256, D.MA (T + r.val) k.val * D.DYA (T + r.val) c.val : ℝ) : EReal) := by
  have e := dyab_pt h275 h277 h300 h303 hw h
  unfold k0_pay86
  generalize k0_pay84 (F := Ideal) v18 v251 v275 v277 v300 v303 k0_pay75 = u at e ⊢
  pointwise
  simp only [e, hm, ← EReal.coe_mul, Reals.sum_coe]

end

section
variable {v14 v16 : Vec Ideal S512x1024 .bf16} {v331 v332 : Vec Ideal S256x1024 .bf16}
variable {v22 v24 v26 v28 v213 v219 v220 v222 v224 v231 v232 v206 : Vec Ideal S256x512 .f32}

theorem dwb_pt {v236 : Vec Ideal S256x512 .bf16} (h : At T v332 D.DYB) (hm : At T v236 D.MB) (s : Vec Ideal S512x1024 .f32) (k : Fin 512) (c : Fin 1024) :
    k0_pay87 (F := Ideal) v236 v332 s (ix2 k c) = s (ix2 k c) + ((∑ r : Fin 256, D.MB (T + r.val) k.val * D.DYB (T + r.val) c.val : ℝ) : EReal) := by
  unfold k0_pay87
  pointwise
  simp only [h, hm, ← EReal.coe_mul, Reals.sum_coe]

theorem dmb_pt (hw : Mat v16 D.WB) (h : At T v332 D.DYB) : At T (k0_pay88 (F := Ideal) v16 v332) D.DMB := by
  intro r c
  unfold k0_pay88
  pointwise
  simp only [h, hw, ← EReal.coe_mul, Reals.sum_coe]
  rfl

theorem do_pt (hw : Mat v16 D.WB) (h : At T v332 D.DYB) (hs : At T v232 D.SLB) : At T (k0_pay89 (F := Ideal) v16 v232 v332) D.DO := by
  intro r c
  have e := dmb_pt hw h
  unfold k0_pay89
  generalize k0_pay88 (F := Ideal) v16 v332 = u at e ⊢
  pointwise
  rw [e, hs, ← EReal.coe_mul]
  rfl

theorem dgb_pt (hw : Mat v16 D.WB) (h : At T v332 D.DYB) (hg : At T v222 D.GB) (ho : At T v224 D.O) (hs : At T v231 (fun r c => sigm (D.GB r c))) :
    At T (k0_pay90 (F := Ideal) v16 v222 v224 v231 v332) D.DGB := by
  intro r c
  have e := dmb_pt hw h
  unfold k0_pay90
  generalize k0_pay88 (F := Ideal) v16 v332 = u at e ⊢
  pointwise
  simp only [e, hg, ho, hs, ← EReal.coe_one, ← EReal.coe_mul, ← EReal.coe_sub, ← EReal.coe_add]
  rfl

theorem dma_pt (hw : Mat v14 D.WA) (h : At T v331 D.DYA) : At T (k0_pay91 (F := Ideal) v14 v331) D.DMA := by
  intro r c
  unfold k0_pay91
  pointwise
  simp only [h, hw, ← EReal.coe_mul, Reals.sum_coe]
  rfl

theorem dga_pt (hw : Mat v14 D.WA) (h : At T v331 D.DYA) (hg : At T v28 D.GA) (hs : At T v213 (fun r c => sigm (D.GA r c))) (hp : At T v219 D.PRE) :
    At T (k0_pay92 (F := Ideal) v14 v28 v213 v219 v331) D.DGA := by
  intro r c
  have e := dma_pt hw h
  unfold k0_pay92
  generalize k0_pay91 (F := Ideal) v14 v331 = u at e ⊢
  pointwise
  simp only [e, hg, hp, hs, ← EReal.coe_one, ← EReal.coe_mul, ← EReal.coe_sub, ← EReal.coe_add]
  rfl

theorem dp_pt (hw : Mat v14 D.WA) (h : At T v331 D.DYA) (hs : At T v220 D.SLA) : At T (k0_pay93 (F := Ideal) v14 v220 v331) D.DP := by
  intro r c
  have e := dma_pt hw h
  unfold k0_pay93
  generalize k0_pay91 (F := Ideal) v14 v331 = u at e ⊢
  pointwise
  rw [e, hs, ← EReal.coe_mul]
  rfl

theorem dlw_pt {v150 : Vec Ideal S256x512 .f32} (h : At T (k0_pay93 (F := Ideal) v14 v220 v331) D.DP) (hy : At T v150 D.YN) (s : Vec Ideal S1x512 .f32) (c : Fin 512) :
    k0_pay94 (F := Ideal) v14 v150 v220 v331 s (ix2 0 c) = s (ix2 0 c) + ((∑ r : Fin 256, D.DP (T + r.val) c.val * D.YN (T + r.val) c.val : ℝ) : EReal) := by
  unfold k0_pay94
  generalize k0_pay93 (F := Ideal) v14 v220 v331 = u at h ⊢
  pointwise
  simp only [h, hy, ← EReal.coe_mul, Reals.sum_coe]

end

section
variable {v366 v381 v149 v150 v206 v26 v500 v22 v24 : Vec Ideal S256x512 .f32} {v29 v31 : Vec Ideal S1x512 .f32}

theorem dlb_pt (h : At T v366 D.DP) (s : Vec Ideal S1x512 .f32) (c : Fin 512) :
    k0_pay95 (F := Ideal) v366 s (ix2 0 c) = s (ix2 0 c) + ((∑ r : Fin 256, D.DP (T + r.val) c.val : ℝ) : EReal) := by
  unfold k0_pay95
  pointwise
  simp only [h, Reals.sum_coe]

theorem dyn_pt (h : At T v366 D.DP) (hl : Row v29 D.LW) : At T (k0_pay96 (F := Ideal) v29 v366) D.DYN := by
  intro r c
  unfold k0_pay96
  pointwise
  rw [h, hl, ← EReal.coe_mul]
  rfl

theorem mn_pt (h : At T (k0_pay96 (F := Ideal) v29 v366) D.DYN) :
    At T (k0_pay105 (F := Ideal) k0_pay10 (k0_pay96 v29 v366) (k0_pay97 k0_pay10 v29 v366) (k0_pay98 k0_pay10 v29 v366) (k0_pay103 v29 v366) (k0_pay104 k0_pay10 v29 v366)
      (constant S256x128 .f32 0x00000000#32 : FVec Ideal S256x128 .f32)) D.MN := by
  intro r c
  unfold k0_pay105 k0_pay104 k0_pay103 k0_pay102 k0_pay101 k0_pay100 k0_pay99 k0_pay98 k0_pay97
  generalize k0_pay96 (F := Ideal) v29 v366 = u at h ⊢
  pointwise
  simp only [h, three_parts, pay10_at, lit_64th]
  refine (congrArg (fun z => z * _) (quarters (fun k => D.DYN (T + r.val) k) c)).trans ?_
  rw [← EReal.coe_mul]
  rfl

theorem dy_pt {v436 : Vec Ideal S256x512 .f32} (h : At T v381 D.DYN) (hy : At T v150 D.YN) (hr : At T v149 D.RSTD) (hm : At T v436 D.MN) :
    At T (k0_pay113 (F := Ideal) k0_pay10 v149 v150 v381 v436 (k0_pay106 v150 v381) (k0_pay107 k0_pay10 v150 v381) (k0_pay108 k0_pay10 v150 v381)
      (k0_pay110 v150 v381) (k0_pay111 v150 v381) (k0_pay112 v150 v381)) D.DY := by
  intro r c
  unfold k0_pay113 k0_pay112 k0_pay111 k0_pay110 k0_pay109 k0_pay108 k0_pay107 k0_pay106
  pointwise
  simp only [h, hy, hr, hm, ← EReal.coe_mul, three_parts, pay10_at, lit_64th]
  refine (congrArg (fun z => ((D.RSTD (T + r.val) c.val : ℝ) : EReal) * (_ - _ - _ * (z * _))) (quarters (fun k => D.DYN (T + r.val) k * D.YN (T + r.val) k) c)).trans ?_
  simp only [← EReal.coe_mul, ← EReal.coe_sub]
  rfl

theorem dv_pt (h : At T v366 D.DP) (hk : At T v206 D.RKK) : At T (k0_pay114 (F := Ideal) v206 v366) D.DV := by
  intro r c
  unfold k0_pay114
  pointwise
  rw [h, hk, ← EReal.coe_mul]
  rfl

theorem dkk_pt (h : At T v366 D.DP) (hv : At T v26 D.V) :
    At T (k0_pay122 (F := Ideal) k0_pay10 (k0_pay115 v26 v366) (k0_pay120 k0_pay10 v26 v366) (k0_pay121 k0_pay10 v26 v366)) D.DKK := by
  intro r c
  unfold k0_pay122 k0_pay121 k0_pay120 k0_pay119 k0_pay118 k0_pay117 k0_pay116 k0_pay115
  pointwise
  simp only [h, hv, ← EReal.coe_mul, three_parts, pay10_at]
  exact quarters (fun k => D.DP (T + r.val) k * D.V (T + r.val) k) c

theorem dr_pt {v12 : Vec Ideal S128x128 .bf16} {v511 v512 : Vec Ideal S256x128 .f32} (h : At T (k0_pay122 (F := Ideal) v12 v500 v511 v512) D.DKK)
    (hk : At T v24 D.K) (hr : Row v31 D.RK) : At T (k0_pay123 (F := Ideal) v12 v24 v31 v500 v511 v512) D.DR := by
  intro r c
  unfold k0_pay123
  generalize k0_pay122 (F := Ideal) v12 v500 v511 v512 = u at h ⊢
  pointwise
  rw [h, hk, hr, ← EReal.coe_mul, ← EReal.coe_mul]
  rfl

theorem dk_pt {v12 : Vec Ideal S128x128 .bf16} {v511 v512 : Vec Ideal S256x128 .f32} (h : At T (k0_pay122 (F := Ideal) v12 v500 v511 v512) D.DKK)
    (hk : At T v22 D.R) (hr : Row v31 D.RK) : At T (k0_pay124 (F := Ideal) v12 v22 v31 v500 v511 v512) D.DK := by
  intro r c
  unfold k0_pay124
  generalize k0_pay122 (F := Ideal) v12 v500 v511 v512 = u at h ⊢
  pointwise
  rw [h, hk, hr, ← EReal.coe_mul, ← EReal.coe_mul]
  rfl

theorem drk_pt {v553 : Vec Ideal S256x512 .f32} (h : At T v553 D.DKK) (hr : At T v22 D.R) (hk : At T v24 D.K) (s : Vec Ideal S1x512 .f32) (c : Fin 512) :
    k0_pay1 (F := Ideal) v22 v24 v553 s (ix2 0 c)
      = s (ix2 0 c) + ((∑ r : Fin 256, D.DKK (T + r.val) c.val * D.R (T + r.val) c.val * D.K (T + r.val) c.val : ℝ) : EReal) := by
  unfold k0_pay1
  pointwise
  simp only [h, hr, hk, ← EReal.coe_mul, Reals.sum_coe]

end

/-! ## The point's values -/

section
variable {b : Blk Ideal} (H : b.Holds D T)
include H

theorem yn_at : At T b.v150 D.YN := yn_pt (yc_pt H.y) (rstd_pt (yc_pt H.y))
theorem ga_at : At T b.v28 D.GA := by
  intro r c; have := H.ga r c; unfold Blk.v28 k0_pay18; pointwise; exact this
theorem gb_at : At T b.v222 D.GB := by
  intro r c; have := H.gb r c; unfold Blk.v222 k0_pay53; pointwise; exact this
theorem o_at : At T b.v224 D.O := by
  intro r c; have := H.o r c; unfold Blk.v224 k0_pay54; pointwise; exact this
theorem r_at : At T b.v22 D.R := by
  intro r c; have := H.r r c; unfold Blk.v22 k0_pay15; pointwise; exact this
theorem k_at : At T b.v24 D.K := by
  intro r c; have := H.k r c; unfold Blk.v24 k0_pay16; pointwise; exact this
theorem v_at : At T b.v26 D.V := by
  intro r c; have := H.v r c; unfold Blk.v26 k0_pay17; pointwise; exact this
theorem x_at : At T b.v265 D.X := by
  intro r c; have := H.x r c; unfold Blk.v265 k0_pay65; pointwise; exact this
theorem rk_at : Row b.v31 D.RK := by
  intro c; have := H.rk c; unfold Blk.v31 k0_pay19; pointwise; exact this
theorem wa_at : Mat b.v14 D.WA := by
  intro r c; have := H.wa r c; unfold Blk.v14 k0_pay11; pointwise; exact this
theorem wb_at : Mat b.v16 D.WB := by
  intro r c; have := H.wb r c; unfold Blk.v16 k0_pay12; pointwise; exact this
theorem wo_at : Mat b.v18 D.WO := by
  intro r c; have := H.wo r c; unfold Blk.v18 k0_pay13; pointwise; exact this
theorem fg_at : Row b.v20 D.FG := by
  intro c; have := H.fg c; unfold Blk.v20 k0_pay14; pointwise; exact this
theorem rkk_at : At T b.v206 D.RKK := rkk_pt (r_at H) (k_at H) (rk_at H)
theorem pre_at : At T b.v219 D.PRE := pre_pt (v_at H) H.lw H.lb (yn_at H) (rkk_at H)
theorem sla_at : At T b.v220 D.SLA := sla_pt (ga_at H)
theorem ya_at : At T b.v237 D.YA := ya_pt (wa_at H) (pre_at H) (sla_at H)
theorem yb_at : At T b.v238 D.YB := yb_pt (wb_at H) (gb_at H) H.o
theorem sa_at : At T b.v251 D.SA := sa_pt H.h H.wg
theorem sb_at : At T b.v259 D.SB := sb_pt H.h H.wg
theorem mg_at : At T b.v263 D.MG := mg_pt (ya_at H) (yb_at H) H.h H.wg
theorem r2_at : Col T b.v275 D.R2 := r2_pt (wo_at H) (mg_at H) (x_at H)
theorem xh_at : At T b.v277 D.XH := xh_pt (wo_at H) (mg_at H) (x_at H)
theorem dxh_at : At T b.v300 D.DXH := dxh_pt (wo_at H) (fg_at H) (mg_at H) (x_at H) H.tg
theorem sx_at : Col T b.v303 D.SX := sx_pt (wo_at H) (fg_at H) (mg_at H) (x_at H) H.tg
theorem dx_at : At T b.v311 D.DX := dx_pt (r2_at H) (xh_at H) (dxh_at H) (sx_at H)
theorem ua_at : At T (k0_pay82 b.v18 b.v237 b.v251 b.v275 b.v277 b.v300 b.v303 b.v304) D.UA :=
  ua_pt (r2_at H) (xh_at H) (dxh_at H) (sx_at H) (wo_at H) (sa_at H) (ya_at H)
theorem ub_at : At T (k0_pay83 b.v18 b.v238 b.v259 b.v275 b.v277 b.v300 b.v303 b.v304) D.UB :=
  ub_pt (r2_at H) (xh_at H) (dxh_at H) (sx_at H) (wo_at H) (sb_at H) (yb_at H)
theorem dya_at : At T b.v331 D.DYA := dyab_pt (r2_at H) (xh_at H) (dxh_at H) (sx_at H) (wo_at H) (sa_at H)
theorem dyb_at : At T b.v332 D.DYB := dybb_pt (r2_at H) (xh_at H) (dxh_at H) (sx_at H) (wo_at H) (sb_at H)
theorem do_at : At T b.v346 D.DO := do_pt (wb_at H) (dyb_at H) (slb_pt (gb_at H))
theorem dgb_at : At T b.v355 D.DGB := dgb_pt (wb_at H) (dyb_at H) (gb_at H) (o_at H) (sgb_pt (gb_at H))
theorem dga_at : At T b.v365 D.DGA := dga_pt (wa_at H) (dya_at H) (ga_at H) (sga_pt (ga_at H)) (pre_at H)
theorem dp_at : At T b.v366 D.DP := dp_pt (wa_at H) (dya_at H) (sla_at H)
theorem dyn_at : At T b.v381 D.DYN := dyn_pt (dp_at H) H.lw
theorem dy_at : At T b.v497 D.DY := dy_pt (dyn_at H) (yn_at H) (rstd_pt (yc_pt H.y)) (mn_pt (dyn_at H))
theorem dv_at : At T b.v499 D.DV := dv_pt (dp_at H) (rkk_at H)
theorem dkk_at : At T b.v553 D.DKK := dkk_pt (dp_at H) (v_at H)
theorem dr_at : At T b.v557 D.DR := dr_pt (dkk_at H) (k_at H) (rk_at H)
theorem dk_at : At T b.v560 D.DK := dk_pt (dkk_at H) (r_at H) (rk_at H)

/-! What a point adds to each sum. -/

variable (s : St Ideal)

theorem dwa_add (k : Fin 512) (c : Fin 1024) : (b.next s).dwa (ix2 k c) = s.dwa (ix2 k c) + ((∑ r : Fin 256, D.MA (T + r.val) k.val * D.DYA (T + r.val) c.val : ℝ) : EReal) :=
  dwa_pt (r2_at H) (xh_at H) (dxh_at H) (sx_at H) (wo_at H) (sa_at H) (ma_pt (pre_at H) (sla_at H)) _ k c
theorem dwb_add (k : Fin 512) (c : Fin 1024) : (b.next s).dwb (ix2 k c) = s.dwb (ix2 k c) + ((∑ r : Fin 256, D.MB (T + r.val) k.val * D.DYB (T + r.val) c.val : ℝ) : EReal) :=
  dwb_pt (dyb_at H) (mb_pt (gb_at H) H.o) _ k c
theorem dwo_add (k c : Fin 1024) : (b.next s).dwo (ix2 k c) = s.dwo (ix2 k c) + ((∑ r : Fin 256, D.MG (T + r.val) k.val * D.DX (T + r.val) c.val : ℝ) : EReal) :=
  dwo_pt (r2_at H) (xh_at H) (dxh_at H) (sx_at H) (mg_at H) _ k c
theorem dfg_add (c : Fin 1024) : (b.next s).dfg (ix2 0 c) = s.dfg (ix2 0 c) + ((∑ r : Fin 256, D.DYO (T + r.val) c.val * D.XH (T + r.val) c.val : ℝ) : EReal) :=
  dfg_pt (wo_at H) (fg_at H) (mg_at H) (x_at H) H.tg _ c
theorem ls_add (c : Fin 1024) : (b.next s).ls (ix2 0 c) = s.ls (ix2 0 c) + ((∑ r : Fin 256, D.ER (T + r.val) c.val * D.ER (T + r.val) c.val : ℝ) : EReal) :=
  ls_pt (wo_at H) (fg_at H) (mg_at H) (x_at H) H.tg _ c
theorem dlw_add (c : Fin 512) : (b.next s).dlw (ix2 0 c) = s.dlw (ix2 0 c) + ((∑ r : Fin 256, D.DP (T + r.val) c.val * D.YN (T + r.val) c.val : ℝ) : EReal) :=
  dlw_pt (dp_at H) (yn_at H) _ c
theorem dlb_add (c : Fin 512) : (b.next s).dlb (ix2 0 c) = s.dlb (ix2 0 c) + ((∑ r : Fin 256, D.DP (T + r.val) c.val : ℝ) : EReal) :=
  dlb_pt (dp_at H) _ c
theorem drk_add (c : Fin 512) : (b.next s).drk (ix2 0 c) = s.drk (ix2 0 c)
    + ((∑ r : Fin 256, D.DKK (T + r.val) c.val * D.R (T + r.val) c.val * D.K (T + r.val) c.val : ℝ) : EReal) :=
  drk_pt (dkk_at H) (r_at H) (k_at H) _ c

end

end Cert.Merge

end
-- ==== Proof.MergeInputs.lean ====
/-
  What the merge's backward kernel reads: the arrays the host prepares, and the blocks of them a grid point sees.
-/
module

public import proofs.«01_k».proof.Proof.MergeFrame
public import proofs.«01_k».proof.Proof.MergePoint
public import proofs.«01_k».proof.Proof.FoxResults
public import Idealize.ShloMosaic.Lib.Pipeline.ValueKit

@[expose] public section

set_option maxRecDepth 16384

noncomputable section

namespace Cert.Merge

open Cert.Kernel5Ideal Cert.Kernel5Ideal.Gen Idealize.ShloMosaic Idealize.ShloMosaic.TcCoe Idealize.SL.Sem

theorem N8 : cfg0.N = 8 := by decide +kernel

section
variable (m : (ℓ : Loc nD τ sig) → Buf (Elt Ideal) ℓ) (c : Dev nD)

/-- The kernel's arguments on a device. -/
def args : Arrays where
  Y := m ((c : Thread nD τ).loc main_arg0)
  R := m ((c : Thread nD τ).loc main_arg1)
  K := m ((c : Thread nD τ).loc main_arg2)
  V := m ((c : Thread nD τ).loc main_arg3)
  GA := m ((c : Thread nD τ).loc main_arg4)
  O := m ((c : Thread nD τ).loc main_arg5)
  U := m ((c : Thread nD τ).loc main_arg6)
  H := m ((c : Thread nD τ).loc main_arg7)
  X := m ((c : Thread nD τ).loc main_arg8)
  WG := m ((c : Thread nD τ).loc main_arg9)
  LW := m ((c : Thread nD τ).loc main_arg10)
  LB := m ((c : Thread nD τ).loc main_arg11)
  RK := m ((c : Thread nD τ).loc main_arg12)
  WA := m ((c : Thread nD τ).loc main_arg13)
  WB := m ((c : Thread nD τ).loc main_arg14)
  WO := m ((c : Thread nD τ).loc main_arg15)
  FG := m ((c : Thread nD τ).loc main_arg16)
  TG := m ((c : Thread nD τ).loc main_arg17)
end

section
variable {m : (ℓ : Loc nD τ sig) → Buf (Elt Ideal) ℓ} {c : Dev nD} {D : Data} (H : (args m c).Hold D)
include H

/-! ## The arrays the host prepares -/

theorem layers : Mat (V m c main_v0) D.Y ∧ Mat (V m c main_v1) D.R ∧ Mat (V m c main_v2) D.K ∧ Mat (V m c main_v3) D.V ∧ Mat (V m c main_v4) D.GA ∧ Mat (V m c main_v5) D.O ∧ Mat (V m c main_v9) D.H ∧ Mat (V m c main_v10) D.X ∧ Mat (V m c main_v11) D.TG ∧ Mat (V m c main_v14) D.WA ∧ Mat (V m c main_v16) D.WB ∧ Mat (V m c main_v18) D.WO := by
  refine ⟨fun r k => Eq.trans (α := EReal) ?_ (H.y r k), fun r k => Eq.trans (α := EReal) ?_ (H.r r k), fun r k => Eq.trans (α := EReal) ?_ (H.k r k), fun r k => Eq.trans (α := EReal) ?_ (H.v r k), fun r k => Eq.trans (α := EReal) ?_ (H.ga r k), fun r k => Eq.trans (α := EReal) ?_ (H.o r k), fun r k => Eq.trans (α := EReal) ?_ (H.h r k), fun r k => Eq.trans (α := EReal) ?_ (H.x r k), fun r k => Eq.trans (α := EReal) ?_ (H.tg r k), fun r k => Eq.trans (α := EReal) ?_ (H.wa r k), fun r k => Eq.trans (α := EReal) ?_ (H.wb r k), fun r k => Eq.trans (α := EReal) ?_ (H.wo r k)⟩
  all_goals
    show StableHlo.after (List.flatten [hostOps0, hostOps0_1, hostOps0_2]) (fun b => m (c, b)) _ _ = _
    unfold hostOps0 hostOps0_1 hostOps0_2
    simp only [List.flatten_cons, List.flatten_nil, List.append_nil, List.cons_append, List.nil_append]
    after_results
    pointwise
    try rfl

theorem columns (r : Fin 2048) (k : Fin 512) (h) : V m c main_v7 (ix2 r ⟨1536 + k.val, h⟩) = ((D.GB r.val k.val : ℝ) : EReal) := by
  refine Eq.trans (α := EReal) ?_ (H.gb r k)
  show StableHlo.after (List.flatten [hostOps0, hostOps0_1, hostOps0_2]) (fun b => m (c, b)) _ _ = _
  unfold hostOps0 hostOps0_1 hostOps0_2
  simp only [List.flatten_cons, List.flatten_nil, List.append_nil, List.cons_append, List.nil_append]
  after_results
  show pad S2048x2176 ![0, 0] ![0, 120] ![0, 0] (shapeCast S2048x2056 (args m c).U shapeCasts_S1x2048x2056_S2048x2056)
    (sitofp (F := Ideal) .f32 (constantI S_ 32 0#32)) pads_S2048x2056_S2048x2176_000_01200 h_S_ _ = _
  pointwise
  simp [FloatOps.sitofp]
  exact dif_pos (by omega)

theorem others : Mat (V m c main_v12) D.WG ∧ Row (V m c main_arg10) D.LW ∧ Row (V m c main_arg11) D.LB ∧ Row (V m c main_v19) D.FG := by
  refine ⟨fun r k => Eq.trans (α := EReal) ?_ (H.wg r k), fun k => Eq.trans (α := EReal) ?_ (H.lw k), fun k => Eq.trans (α := EReal) ?_ (H.lb k), fun k => Eq.trans (α := EReal) ?_ (H.fg k)⟩
  all_goals
    show StableHlo.after (List.flatten [hostOps0, hostOps0_1, hostOps0_2]) (fun b => m (c, b)) _ _ = _
    unfold hostOps0 hostOps0_1 hostOps0_2
    simp only [List.flatten_cons, List.flatten_nil, List.append_nil, List.cons_append, List.nil_append]
    after_results
    try pointwise
    try rfl

theorem heads : Row (V m c main_v20) D.RK := by
  intro k
  refine Eq.trans (α := EReal) ?_ ((H.rk ⟨k.val / 64, by omega⟩ ⟨k.val % 64, by omega⟩).trans (by dsimp only; rw [Nat.div_add_mod]))
  show StableHlo.after (List.flatten [hostOps0, hostOps0_1, hostOps0_2]) (fun b => m (c, b)) _ _ = _
  unfold hostOps0 hostOps0_1 hostOps0_2
  simp only [List.flatten_cons, List.flatten_nil, List.append_nil, List.cons_append, List.nil_append]
  after_results
  pointwise
  try rfl

end

/-! ## The blocks of a point -/

theorem row_mat {n : ℕ} {f : (⟨2, ![1, n]⟩ : Shape).Idx → EReal} {F : ℕ → ℝ} (hf : Row f F) : Mat f fun _ => F := fun r k => by
  obtain rfl : r = 0 := Subsingleton.elim _ _
  exact hf k

/-- An entry of a row block. -/
theorem rows_at {A n : ℕ} {f : (⟨2, ![A, n]⟩ : Shape).Idx → EReal} {F : ℕ → ℕ → ℝ} (hf : Mat f F) {x : Fin 2 → ℕ} {q : ℕ} (hx : x 0 = q ∧ x 1 = 0) (r k : ℕ)
    (p : (⟨2, ![A, n]⟩ : Shape).Idx) (h0 : (p 0).val = x 0 * 256 + 1 * r) (h1 : (p 1).val = x 1 * n + 1 * k) : f p = ((F (256 * q + r) k : ℝ) : EReal) := by
  rw [Cert.Fox.ix2_eta p]
  refine (hf _ _).trans ?_
  rw [h0, h1, hx.1, hx.2, zero_mul, zero_add, one_mul, one_mul, mul_comm]

/-- An entry of a block that is the whole array. -/
theorem whole_at {A n : ℕ} {f : (⟨2, ![A, n]⟩ : Shape).Idx → EReal} {F : ℕ → ℕ → ℝ} (hf : Mat f F) {x : Fin 2 → ℕ} (hx : x 0 = 0 ∧ x 1 = 0) (r k : ℕ)
    (p : (⟨2, ![A, n]⟩ : Shape).Idx) (h0 : (p 0).val = x 0 * A + 1 * r) (h1 : (p 1).val = x 1 * n + 1 * k) : f p = ((F r k : ℝ) : EReal) := by
  rw [Cert.Fox.ix2_eta p]
  refine (hf _ _).trans ?_
  rw [h0, h1, hx.1, hx.2, zero_mul, zero_mul, zero_add, zero_add, one_mul, one_mul]

theorem idx_rows : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_6.index t 0 = t.val ∧ win0_6.index t 1 = 3) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_6.index t 0 = t.val ∧ win0_6.index t 1 = 3))

theorem idx_whole : ∀ t : Fin cfg0.N, (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) ∧ (win0_14.index t 0 = 0 ∧ win0_14.index t 1 = 0) ∧ (win0_15.index t 0 = 0 ∧ win0_15.index t 1 = 0) ∧ (win0_16.index t 0 = 0 ∧ win0_16.index t 1 = 0) ∧ (win0_17.index t 0 = 0 ∧ win0_17.index t 1 = 0) :=
  (by decide +kernel : ∀ t : Fin grid0.N, (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) ∧ (win0_14.index t 0 = 0 ∧ win0_14.index t 1 = 0) ∧ (win0_15.index t 0 = 0 ∧ win0_15.index t 1 = 0) ∧ (win0_16.index t 0 = 0 ∧ win0_16.index t 1 = 0) ∧ (win0_17.index t 0 = 0 ∧ win0_17.index t 1 = 0))

theorem gb_block {m : (ℓ : Loc nD τ sig) → Buf (Elt Ideal) ℓ} {c : Dev nD} {D : Data} (H : (args m c).Hold D) (t : Fin cfg0.N) (r : Fin 256) (k : Fin 512) :
    X0_6 m c t (ix2 r k) = ((D.GB (256 * t.val + r.val) k.val : ℝ) : EReal) := by
  obtain ⟨_, _, _, _, _, _, _, _, _, i6⟩ := idx_rows t
  unfold X0_6 Pipeline.Window.fill
  rw [dif_pos (moved0_6 t _)]
  unfold iblk
  rw [View.read_apply]
  refine Eq.trans (α := EReal) (congrArg (V m c main_v7) (a₂ := (ix2 (⟨256 * t.val + r.val, by have := t.isLt; have := N8; omega⟩ : Fin 2048) (⟨1536 + k.val, by omega⟩ : Fin 2176) : S2048x2176.Idx)) ?_) (columns H _ k _)
  funext a
  apply Fin.ext
  match a with
  | ⟨0, _⟩ => show win0_6.index t 0 * 256 + 1 * r.val = 256 * t.val + r.val; rw [i6.1]; omega
  | ⟨1, _⟩ => show win0_6.index t 1 * 512 + 1 * k.val = 1536 + k.val; rw [i6.2]; omega

set_option maxHeartbeats 2000000 in
/-- The blocks of a point hold the numbers of its rows. -/
theorem blk_holds {m : (ℓ : Loc nD τ sig) → Buf (Elt Ideal) ℓ} {c : Dev nD} {D : Data} (H : (args m c).Hold D) (t : Fin cfg0.N) : (blk m c t).Holds D (256 * t.val) := by
  obtain ⟨v0, v1, v2, v3, v4, v5, v9, v10, v11, v14, v16, v18⟩ := layers H
  obtain ⟨v12, a10, a11, v19⟩ := others H
  obtain ⟨i0, i1, i2, i3, i4, i5, i7, i8, i9, i6⟩ := idx_rows t
  obtain ⟨i10, i11, i12, i13, i14, i15, i16, i17⟩ := idx_whole t
  constructor
  all_goals unfold blk; dsimp only
  · intro r k; unfold iblk; rw [View.read_apply]; exact rows_at v0 i0 r k _ rfl rfl
  · intro r k; unfold iblk; rw [View.read_apply]; exact rows_at v1 i1 r k _ rfl rfl
  · intro r k; unfold iblk; rw [View.read_apply]; exact rows_at v2 i2 r k _ rfl rfl
  · intro r k; unfold iblk; rw [View.read_apply]; exact rows_at v3 i3 r k _ rfl rfl
  · intro r k; unfold iblk; rw [View.read_apply]; exact rows_at v4 i4 r k _ rfl rfl
  · intro r k; unfold iblk; rw [View.read_apply]; exact rows_at v5 i5 r k _ rfl rfl
  · intro r k
    exact gb_block H t r k
  · intro r k; unfold iblk; rw [View.read_apply]; exact rows_at v9 i7 r k _ rfl rfl
  · intro r k; unfold iblk; rw [View.read_apply]; exact rows_at v10 i8 r k _ rfl rfl
  · intro r k; unfold iblk; rw [View.read_apply]; exact rows_at v11 i9 r k _ rfl rfl
  · intro r k; unfold iblk; rw [View.read_apply]; exact whole_at v12 i10 r k _ rfl rfl
  · intro r k; unfold iblk; rw [View.read_apply]; exact whole_at v14 i11 r k _ rfl rfl
  · intro r k; unfold iblk; rw [View.read_apply]; exact whole_at v16 i12 r k _ rfl rfl
  · intro r k; unfold iblk; rw [View.read_apply]; exact whole_at v18 i13 r k _ rfl rfl
  · intro k; unfold iblk; rw [View.read_apply]; exact whole_at (F := fun _ => D.FG) (row_mat v19) i14 0 k _ rfl rfl
  · intro k; unfold iblk; rw [View.read_apply]; exact whole_at (F := fun _ => D.LW) (row_mat a10) i15 0 k _ rfl rfl
  · intro k; unfold iblk; rw [View.read_apply]; exact whole_at (F := fun _ => D.LB) (row_mat a11) i16 0 k _ rfl rfl
  · intro k; unfold iblk; rw [View.read_apply]; exact whole_at (F := fun _ => D.RK) (row_mat (heads H)) i17 0 k _ rfl rfl

/-- A row of two stores side by side, read at a column. -/
theorem halves (x y : Vec Ideal S256x1024 .f32) (r : Fin 256) (j : Fin 2048) (f : ℕ → EReal) (hx : ∀ l : Fin 1024, x (ix2 r l) = f l.val)
    (hy : ∀ l : Fin 1024, y (ix2 r l) = f (1024 + l.val)) :
    View.canon (Val := Elt Ideal) (s := S256x2048) (e := .f32) [⟨Rect.unit ![0, 1024] ![256, 1024] inb_S256x2048_S256x1024_0_1024, y⟩,
      ⟨Rect.unit ![0, 0] ![256, 1024] inb_S256x2048_S256x1024_0_0, x⟩] (ix2 r j) = f j.val := by
  have E : ∀ z : S256x1024.Idx, ∃ (a : Fin 256) (b : Fin 1024), z = ix2 a b := fun z => ⟨z 0, z 1, (Cert.Fox.ix2_eta z)⟩
  canon_tiles z hh using View.cover_of_tiledBy _ ![256, 1024] (by sl_kernel_rfl) _
  · obtain ⟨a, b, rfl⟩ := E z; obtain rfl : r = a := Fin.ext hh0; exact (hy b).trans (congrArg f (hh1.trans rfl).symm)
  · obtain ⟨a, b, rfl⟩ := E z; obtain rfl : r = a := Fin.ext hh0; exact (hx b).trans (congrArg f (hh1.trans rfl).symm)

theorem dug_at {b : Blk Ideal} {D : Data} {T : ℕ} (H : b.Holds D T) (r : Fin 256) (j : Fin 2048) : b.dug (ix2 r j) = ((D.DUG (T + r.val) j.val : ℝ) : EReal) := by
  refine halves _ _ r j (fun l => ((D.DUG (T + r.val) l : ℝ) : EReal)) (fun l => ?_) fun l => ?_
  · rw [Data.DUG, if_pos l.isLt]; exact ua_at H r l
  · rw [Data.DUG, if_neg (by omega), Nat.add_sub_cancel_left]; exact ub_at H r l

end Cert.Merge

end
-- ==== Proof.MergeResults.lean ====
/-
  The merge's backward kernel run to its end: what the seventeen arrays the call returns hold, and what the host lines
  after it make of four of them.
-/
module

public import proofs.«01_k».proof.Proof.MergeInputs

@[expose] public section

set_option maxRecDepth 16384

noncomputable section

namespace Cert.Merge

open Cert.Kernel5Ideal Cert.Kernel5Ideal.Gen Idealize.ShloMosaic Idealize.ShloMosaic.TcCoe Idealize.SL.Sem

theorem lt7 : 7 < cfg0.N := by decide +kernel

theorem seven (t : Fin cfg0.N) (h : t.val % 8 = 7) : t = ⟨7, lt7⟩ := by
  have hN := N8
  have ht := t.isLt
  apply Fin.ext
  show t.val = 7
  omega

theorem ix1_eta {a : ℕ} (j : (⟨1, ![a]⟩ : Shape).Idx) : j = ix1 (j 0) := by
  funext d
  match d with
  | ⟨0, _⟩ => rfl

theorem ix3_eta {a b n : ℕ} (j : (⟨3, ![a, b, n]⟩ : Shape).Idx) : j = ix3 (j 0) (j 1) (j 2) := by
  funext d
  match d with
  | ⟨0, _⟩ => rfl
  | ⟨1, _⟩ => rfl
  | ⟨2, _⟩ => rfl

/-- An array of numbers. -/
abbrev table (a b : ℕ) (f : ℕ → ℕ → ℝ) : (⟨2, ![a, b]⟩ : Shape).Idx → EReal := fun i => ((f (i 0).val (i 1).val : ℝ) : EReal)

theorem table_mat (a b : ℕ) (f : ℕ → ℕ → ℝ) : Mat (table a b f) f := fun _ _ => rfl

theorem table_of {a b : ℕ} {v : (⟨2, ![a, b]⟩ : Shape).Idx → EReal} {f : ℕ → ℕ → ℝ} (h : Mat v f) : v = table a b f :=
  funext fun i => (congrArg v (Cert.Fox.ix2_eta i)).trans (h _ _)

/-- A table of sums over the rows. -/
abbrev total (F : ℕ → ℕ → ℕ → ℝ) (k c : ℕ) : ℝ := ∑ r : Fin 2048, F r.val k c

/-- The point that works on row `r`. -/
abbrev pointOf (r : ℕ) (h : r < 2048) : Fin cfg0.N := ⟨r / 256, by have := N8; omega⟩

theorem in_rows {x q i : ℕ} (hx : x = q) (h : i / 256 = q) : x * 256 ≤ i ∧ i < x * 256 + 256 := by omega

theorem in_all {x n i : ℕ} (hx : x = 0) (h : i < n) : x * n ≤ i ∧ i < x * n + n := by subst hx; omega

theorem out_rows : ∀ t : Fin cfg0.N, (win0_18.index t 0 = t.val ∧ win0_18.index t 1 = 0) ∧ (win0_19.index t 0 = t.val ∧ win0_19.index t 1 = 0) ∧ (win0_20.index t 0 = t.val ∧ win0_20.index t 1 = 0) ∧ (win0_21.index t 0 = t.val ∧ win0_21.index t 1 = 0) ∧ (win0_22.index t 0 = t.val ∧ win0_22.index t 1 = 0) ∧ (win0_23.index t 0 = t.val ∧ win0_23.index t 1 = 0) ∧ (win0_24.index t 0 = t.val ∧ win0_24.index t 1 = 0) ∧ (win0_25.index t 0 = t.val ∧ win0_25.index t 1 = 0) ∧ (win0_26.index t 0 = t.val ∧ win0_26.index t 1 = 0) :=
  (by decide +kernel : ∀ t : Fin grid0.N, (win0_18.index t 0 = t.val ∧ win0_18.index t 1 = 0) ∧ (win0_19.index t 0 = t.val ∧ win0_19.index t 1 = 0) ∧ (win0_20.index t 0 = t.val ∧ win0_20.index t 1 = 0) ∧ (win0_21.index t 0 = t.val ∧ win0_21.index t 1 = 0) ∧ (win0_22.index t 0 = t.val ∧ win0_22.index t 1 = 0) ∧ (win0_23.index t 0 = t.val ∧ win0_23.index t 1 = 0) ∧ (win0_24.index t 0 = t.val ∧ win0_24.index t 1 = 0) ∧ (win0_25.index t 0 = t.val ∧ win0_25.index t 1 = 0) ∧ (win0_26.index t 0 = t.val ∧ win0_26.index t 1 = 0))

theorem out_whole : ∀ t : Fin cfg0.N, (win0_27.index t 0 = 0 ∧ win0_27.index t 1 = 0) ∧ (win0_28.index t 0 = 0 ∧ win0_28.index t 1 = 0) ∧ (win0_29.index t 0 = 0 ∧ win0_29.index t 1 = 0) ∧ (win0_30.index t 0 = 0 ∧ win0_30.index t 1 = 0) ∧ (win0_31.index t 0 = 0 ∧ win0_31.index t 1 = 0) ∧ (win0_32.index t 0 = 0 ∧ win0_32.index t 1 = 0) ∧ (win0_33.index t 0 = 0 ∧ win0_33.index t 1 = 0) ∧ (win0_34.index t 0 = 0 ∧ win0_34.index t 1 = 0) :=
  (by decide +kernel : ∀ t : Fin grid0.N, (win0_27.index t 0 = 0 ∧ win0_27.index t 1 = 0) ∧ (win0_28.index t 0 = 0 ∧ win0_28.index t 1 = 0) ∧ (win0_29.index t 0 = 0 ∧ win0_29.index t 1 = 0) ∧ (win0_30.index t 0 = 0 ∧ win0_30.index t 1 = 0) ∧ (win0_31.index t 0 = 0 ∧ win0_31.index t 1 = 0) ∧ (win0_32.index t 0 = 0 ∧ win0_32.index t 1 = 0) ∧ (win0_33.index t 0 = 0 ∧ win0_33.index t 1 = 0) ∧ (win0_34.index t 0 = 0 ∧ win0_34.index t 1 = 0))

section
variable {m : (ℓ : Loc nD τ sig) → Buf (Elt Ideal) ℓ} {c : Dev nD} {D : Data}

/-- A sum that the points add up, from the first row block to the last. -/
theorem kept_sum (p : St Ideal → EReal) (f : ℕ → ℝ) (h0 : p St.zero = 0)
    (h : ∀ t : Fin cfg0.N, p (kept m c (t.val + 1) t.isLt) = p (kept m c t.val (Nat.le_of_lt t.isLt)) + ((∑ r : Fin 256, f (256 * t.val + r.val) : ℝ) : EReal)) :
    p (kept m c (7 + 1) lt7) = ((∑ r : Fin 2048, f r.val : ℝ) : EReal) := by
  have key : ∀ (n : ℕ) (hn : n ≤ cfg0.N), p (kept m c n hn) = ((∑ k ∈ Finset.range (256 * n), f k : ℝ) : EReal) := by
    intro n
    induction n with
    | zero => intro hn; rw [kept_zero m c 0 hn rfl, h0]; simp
    | succ n ih =>
      intro hn
      rw [h ⟨n, hn⟩]
      dsimp only
      rw [ih, Fin.sum_univ_eq_sum_range (fun r => f (256 * n + r)), ← EReal.coe_add, Nat.mul_succ, Finset.sum_range_add]
  rw [key, Fin.sum_univ_eq_sum_range f]

variable (H : (args m c).Hold D)
include H

theorem final18 : (dats m 0 c).arrAt 18 cfg0.N = table 2048 1024 D.DX := by
  refine (dats m 0 c).arrAt_eq_of_cover 18 (table 2048 1024 D.DX) (fun t _ => ?_) fun i =>
    ⟨pointOf (i 0).val (i 0).isLt, (by decide +kernel : ∀ t : Fin grid0.N, (cfg0.win 18).flush t = true) _, ?_⟩
  · show (cfg0.win 18).cut (grid0.coords t) ((dats m 0 c).after 18 t) = _
    rw [after_18]
    funext j
    rw [View.read_apply]
    obtain ⟨r, l, rfl⟩ : ∃ (r : Fin 256) (l : Fin 1024), j = ix2 r l := ⟨j 0, j 1, Cert.Fox.ix2_eta (a := 256) (b := 1024) j⟩
    exact Eq.trans (α := EReal) (dx_at (blk_holds H t) r l) (rows_at (table_mat 2048 1024 D.DX) (out_rows t).1 r l _ rfl rfl).symm
  · show i ∈ ((View.whole main_v21_0).slice (win0_18.rect (pointOf (i 0).val (i 0).isLt))).set
    rw [View.set_slice_whole, Rect.mem_set_unit]
    exact Fin.forall_fin_two.mpr ⟨in_rows (out_rows _).1.1 rfl, in_all (out_rows _).1.2 (i 1).isLt⟩

theorem final19 : (dats m 0 c).arrAt 19 cfg0.N = table 2048 512 D.DY := by
  refine (dats m 0 c).arrAt_eq_of_cover 19 (table 2048 512 D.DY) (fun t _ => ?_) fun i =>
    ⟨pointOf (i 0).val (i 0).isLt, (by decide +kernel : ∀ t : Fin grid0.N, (cfg0.win 19).flush t = true) _, ?_⟩
  · show (cfg0.win 19).cut (grid0.coords t) ((dats m 0 c).after 19 t) = _
    rw [after_19]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dy_at (blk_holds H t) r l) (rows_at (table_mat 2048 512 D.DY) (out_rows t).2.1 r l _ rfl rfl).symm
  · show i ∈ ((View.whole main_v21_1).slice (win0_19.rect (pointOf (i 0).val (i 0).isLt))).set
    rw [View.set_slice_whole, Rect.mem_set_unit]
    exact Fin.forall_fin_two.mpr ⟨in_rows (out_rows _).2.1.1 rfl, in_all (out_rows _).2.1.2 (i 1).isLt⟩

theorem final20 : (dats m 0 c).arrAt 20 cfg0.N = table 2048 512 D.DR := by
  refine (dats m 0 c).arrAt_eq_of_cover 20 (table 2048 512 D.DR) (fun t _ => ?_) fun i =>
    ⟨pointOf (i 0).val (i 0).isLt, (by decide +kernel : ∀ t : Fin grid0.N, (cfg0.win 20).flush t = true) _, ?_⟩
  · show (cfg0.win 20).cut (grid0.coords t) ((dats m 0 c).after 20 t) = _
    rw [after_20]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dr_at (blk_holds H t) r l) (rows_at (table_mat 2048 512 D.DR) (out_rows t).2.2.1 r l _ rfl rfl).symm
  · show i ∈ ((View.whole main_v21_2).slice (win0_20.rect (pointOf (i 0).val (i 0).isLt))).set
    rw [View.set_slice_whole, Rect.mem_set_unit]
    exact Fin.forall_fin_two.mpr ⟨in_rows (out_rows _).2.2.1.1 rfl, in_all (out_rows _).2.2.1.2 (i 1).isLt⟩

theorem final21 : (dats m 0 c).arrAt 21 cfg0.N = table 2048 512 D.DK := by
  refine (dats m 0 c).arrAt_eq_of_cover 21 (table 2048 512 D.DK) (fun t _ => ?_) fun i =>
    ⟨pointOf (i 0).val (i 0).isLt, (by decide +kernel : ∀ t : Fin grid0.N, (cfg0.win 21).flush t = true) _, ?_⟩
  · show (cfg0.win 21).cut (grid0.coords t) ((dats m 0 c).after 21 t) = _
    rw [after_21]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dk_at (blk_holds H t) r l) (rows_at (table_mat 2048 512 D.DK) (out_rows t).2.2.2.1 r l _ rfl rfl).symm
  · show i ∈ ((View.whole main_v21_3).slice (win0_21.rect (pointOf (i 0).val (i 0).isLt))).set
    rw [View.set_slice_whole, Rect.mem_set_unit]
    exact Fin.forall_fin_two.mpr ⟨in_rows (out_rows _).2.2.2.1.1 rfl, in_all (out_rows _).2.2.2.1.2 (i 1).isLt⟩

theorem final22 : (dats m 0 c).arrAt 22 cfg0.N = table 2048 512 D.DV := by
  refine (dats m 0 c).arrAt_eq_of_cover 22 (table 2048 512 D.DV) (fun t _ => ?_) fun i =>
    ⟨pointOf (i 0).val (i 0).isLt, (by decide +kernel : ∀ t : Fin grid0.N, (cfg0.win 22).flush t = true) _, ?_⟩
  · show (cfg0.win 22).cut (grid0.coords t) ((dats m 0 c).after 22 t) = _
    rw [after_22]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dv_at (blk_holds H t) r l) (rows_at (table_mat 2048 512 D.DV) (out_rows t).2.2.2.2.1 r l _ rfl rfl).symm
  · show i ∈ ((View.whole main_v21_4).slice (win0_22.rect (pointOf (i 0).val (i 0).isLt))).set
    rw [View.set_slice_whole, Rect.mem_set_unit]
    exact Fin.forall_fin_two.mpr ⟨in_rows (out_rows _).2.2.2.2.1.1 rfl, in_all (out_rows _).2.2.2.2.1.2 (i 1).isLt⟩

theorem final23 : (dats m 0 c).arrAt 23 cfg0.N = table 2048 512 D.DGA := by
  refine (dats m 0 c).arrAt_eq_of_cover 23 (table 2048 512 D.DGA) (fun t _ => ?_) fun i =>
    ⟨pointOf (i 0).val (i 0).isLt, (by decide +kernel : ∀ t : Fin grid0.N, (cfg0.win 23).flush t = true) _, ?_⟩
  · show (cfg0.win 23).cut (grid0.coords t) ((dats m 0 c).after 23 t) = _
    rw [after_23]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dga_at (blk_holds H t) r l) (rows_at (table_mat 2048 512 D.DGA) (out_rows t).2.2.2.2.2.1 r l _ rfl rfl).symm
  · show i ∈ ((View.whole main_v21_5).slice (win0_23.rect (pointOf (i 0).val (i 0).isLt))).set
    rw [View.set_slice_whole, Rect.mem_set_unit]
    exact Fin.forall_fin_two.mpr ⟨in_rows (out_rows _).2.2.2.2.2.1.1 rfl, in_all (out_rows _).2.2.2.2.2.1.2 (i 1).isLt⟩

theorem final24 : (dats m 0 c).arrAt 24 cfg0.N = table 2048 512 D.DO := by
  refine (dats m 0 c).arrAt_eq_of_cover 24 (table 2048 512 D.DO) (fun t _ => ?_) fun i =>
    ⟨pointOf (i 0).val (i 0).isLt, (by decide +kernel : ∀ t : Fin grid0.N, (cfg0.win 24).flush t = true) _, ?_⟩
  · show (cfg0.win 24).cut (grid0.coords t) ((dats m 0 c).after 24 t) = _
    rw [after_24]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (do_at (blk_holds H t) r l) (rows_at (table_mat 2048 512 D.DO) (out_rows t).2.2.2.2.2.2.1 r l _ rfl rfl).symm
  · show i ∈ ((View.whole main_v21_6).slice (win0_24.rect (pointOf (i 0).val (i 0).isLt))).set
    rw [View.set_slice_whole, Rect.mem_set_unit]
    exact Fin.forall_fin_two.mpr ⟨in_rows (out_rows _).2.2.2.2.2.2.1.1 rfl, in_all (out_rows _).2.2.2.2.2.2.1.2 (i 1).isLt⟩

theorem final25 : (dats m 0 c).arrAt 25 cfg0.N = table 2048 512 D.DGB := by
  refine (dats m 0 c).arrAt_eq_of_cover 25 (table 2048 512 D.DGB) (fun t _ => ?_) fun i =>
    ⟨pointOf (i 0).val (i 0).isLt, (by decide +kernel : ∀ t : Fin grid0.N, (cfg0.win 25).flush t = true) _, ?_⟩
  · show (cfg0.win 25).cut (grid0.coords t) ((dats m 0 c).after 25 t) = _
    rw [after_25]
    funext j
    rw [View.read_apply]
    obtain ⟨r, l, rfl⟩ : ∃ (r : Fin 256) (l : Fin 512), j = ix2 r l := ⟨j 0, j 1, Cert.Fox.ix2_eta (a := 256) (b := 512) j⟩
    exact Eq.trans (α := EReal) (dgb_at (blk_holds H t) r l) (rows_at (table_mat 2048 512 D.DGB) (out_rows t).2.2.2.2.2.2.2.1 r l _ rfl rfl).symm
  · show i ∈ ((View.whole main_v21_7).slice (win0_25.rect (pointOf (i 0).val (i 0).isLt))).set
    rw [View.set_slice_whole, Rect.mem_set_unit]
    exact Fin.forall_fin_two.mpr ⟨in_rows (out_rows _).2.2.2.2.2.2.2.1.1 rfl, in_all (out_rows _).2.2.2.2.2.2.2.1.2 (i 1).isLt⟩

theorem final26 : (dats m 0 c).arrAt 26 cfg0.N = table 2048 2048 D.DUG := by
  refine (dats m 0 c).arrAt_eq_of_cover 26 (table 2048 2048 D.DUG) (fun t _ => ?_) fun i =>
    ⟨pointOf (i 0).val (i 0).isLt, (by decide +kernel : ∀ t : Fin grid0.N, (cfg0.win 26).flush t = true) _, ?_⟩
  · show (cfg0.win 26).cut (grid0.coords t) ((dats m 0 c).after 26 t) = _
    rw [after_26]
    funext j
    rw [View.read_apply]
    obtain ⟨r, l, rfl⟩ : ∃ (r : Fin 256) (l : Fin 2048), j = ix2 r l := ⟨j 0, j 1, Cert.Fox.ix2_eta (a := 256) (b := 2048) j⟩
    exact Eq.trans (α := EReal) (dug_at (blk_holds H t) r l) (rows_at (table_mat 2048 2048 D.DUG) (out_rows t).2.2.2.2.2.2.2.2 r l _ rfl rfl).symm
  · show i ∈ ((View.whole main_v21_8).slice (win0_26.rect (pointOf (i 0).val (i 0).isLt))).set
    rw [View.set_slice_whole, Rect.mem_set_unit]
    exact Fin.forall_fin_two.mpr ⟨in_rows (out_rows _).2.2.2.2.2.2.2.2.1 rfl, in_all (out_rows _).2.2.2.2.2.2.2.2.2 (i 1).isLt⟩

theorem sum_dwa : Mat (kept m c (7 + 1) lt7).dwa (total fun r k c => D.MA r k * D.DYA r c) := fun k c' =>
  kept_sum (fun s => s.dwa (ix2 k c')) (fun r => D.MA r k.val * D.DYA r c'.val) (by unfold St.zero k0_pay2; pointwise) fun t => dwa_add (blk_holds H t) _ k c'

theorem final27 : (dats m 0 c).arrAt 27 cfg0.N = table 512 1024 (total fun r k c => D.MA r k * D.DYA r c) := by
  refine (dats m 0 c).arrAt_eq_of_cover 27 (table 512 1024 (total fun r k c => D.MA r k * D.DYA r c)) (fun t hf => ?_) fun i => ⟨⟨7, lt7⟩, (flush0_27 _).mpr rfl, ?_⟩
  · rw [seven t ((flush0_27 t).mp hf)]
    show (cfg0.win 27).cut (grid0.coords ⟨7, lt7⟩) ((dats m 0 c).after 27 ⟨7, lt7⟩) = _
    rw [after_27]
    have e := sum_dwa H
    revert e
    dsimp only
    generalize (kept m c (7 + 1) lt7).dwa = f
    intro e
    funext j
    rw [View.read_apply]
    obtain ⟨r, l, rfl⟩ : ∃ (r : Fin 512) (l : Fin 1024), j = ix2 r l := ⟨j 0, j 1, Cert.Fox.ix2_eta (a := 512) (b := 1024) j⟩
    exact Eq.trans (α := EReal) (e r l) (whole_at (table_mat 512 1024 (total fun r k c => D.MA r k * D.DYA r c)) (out_whole ⟨7, lt7⟩).1 r l _ rfl rfl).symm
  · show i ∈ ((View.whole main_v21_9).slice (win0_27.rect ⟨7, lt7⟩)).set
    rw [View.set_slice_whole, Rect.mem_set_unit]
    exact Fin.forall_fin_two.mpr ⟨in_all (out_whole _).1.1 (i 0).isLt, in_all (out_whole _).1.2 (i 1).isLt⟩

theorem sum_dwb : Mat (kept m c (7 + 1) lt7).dwb (total fun r k c => D.MB r k * D.DYB r c) := fun k c' =>
  kept_sum (fun s => s.dwb (ix2 k c')) (fun r => D.MB r k.val * D.DYB r c'.val) (by unfold St.zero k0_pay3; pointwise) fun t => dwb_add (blk_holds H t) _ k c'

theorem final28 : (dats m 0 c).arrAt 28 cfg0.N = table 512 1024 (total fun r k c => D.MB r k * D.DYB r c) := by
  refine (dats m 0 c).arrAt_eq_of_cover 28 (table 512 1024 (total fun r k c => D.MB r k * D.DYB r c)) (fun t hf => ?_) fun i => ⟨⟨7, lt7⟩, (flush0_28 _).mpr rfl, ?_⟩
  · rw [seven t ((flush0_28 t).mp hf)]
    show (cfg0.win 28).cut (grid0.coords ⟨7, lt7⟩) ((dats m 0 c).after 28 ⟨7, lt7⟩) = _
    rw [after_28]
    have e := sum_dwb H
    revert e
    dsimp only
    generalize (kept m c (7 + 1) lt7).dwb = f
    intro e
    funext j
    rw [View.read_apply]
    obtain ⟨r, l, rfl⟩ : ∃ (r : Fin 512) (l : Fin 1024), j = ix2 r l := ⟨j 0, j 1, Cert.Fox.ix2_eta (a := 512) (b := 1024) j⟩
    exact Eq.trans (α := EReal) (e r l) (whole_at (table_mat 512 1024 (total fun r k c => D.MB r k * D.DYB r c)) (out_whole ⟨7, lt7⟩).2.1 r l _ rfl rfl).symm
  · show i ∈ ((View.whole main_v21_10).slice (win0_28.rect ⟨7, lt7⟩)).set
    rw [View.set_slice_whole, Rect.mem_set_unit]
    exact Fin.forall_fin_two.mpr ⟨in_all (out_whole _).2.1.1 (i 0).isLt, in_all (out_whole _).2.1.2 (i 1).isLt⟩

theorem sum_dwo : Mat (kept m c (7 + 1) lt7).dwo (total fun r k c => D.MG r k * D.DX r c) := fun k c' =>
  kept_sum (fun s => s.dwo (ix2 k c')) (fun r => D.MG r k.val * D.DX r c'.val) (by unfold St.zero k0_pay4; pointwise) fun t => dwo_add (blk_holds H t) _ k c'

theorem final29 : (dats m 0 c).arrAt 29 cfg0.N = table 1024 1024 (total fun r k c => D.MG r k * D.DX r c) := by
  refine (dats m 0 c).arrAt_eq_of_cover 29 (table 1024 1024 (total fun r k c => D.MG r k * D.DX r c)) (fun t hf => ?_) fun i => ⟨⟨7, lt7⟩, (flush0_29 _).mpr rfl, ?_⟩
  · rw [seven t ((flush0_29 t).mp hf)]
    show (cfg0.win 29).cut (grid0.coords ⟨7, lt7⟩) ((dats m 0 c).after 29 ⟨7, lt7⟩) = _
    rw [after_29]
    have e := sum_dwo H
    revert e
    dsimp only
    generalize (kept m c (7 + 1) lt7).dwo = f
    intro e
    funext j
    rw [View.read_apply]
    obtain ⟨r, l, rfl⟩ : ∃ (r : Fin 1024) (l : Fin 1024), j = ix2 r l := ⟨j 0, j 1, Cert.Fox.ix2_eta (a := 1024) (b := 1024) j⟩
    exact Eq.trans (α := EReal) (e r l) (whole_at (table_mat 1024 1024 (total fun r k c => D.MG r k * D.DX r c)) (out_whole ⟨7, lt7⟩).2.2.1 r l _ rfl rfl).symm
  · show i ∈ ((View.whole main_v21_11).slice (win0_29.rect ⟨7, lt7⟩)).set
    rw [View.set_slice_whole, Rect.mem_set_unit]
    exact Fin.forall_fin_two.mpr ⟨in_all (out_whole _).2.2.1.1 (i 0).isLt, in_all (out_whole _).2.2.1.2 (i 1).isLt⟩

theorem sum_dfg : Mat (kept m c (7 + 1) lt7).dfg (total fun r _ c => D.DYO r c * D.XH r c) := row_mat fun c' =>
  kept_sum (fun s => s.dfg (ix2 0 c')) (fun r => D.DYO r c'.val * D.XH r c'.val) (by unfold St.zero k0_pay5; pointwise) fun t => dfg_add (blk_holds H t) _ c'

theorem final30 : (dats m 0 c).arrAt 30 cfg0.N = table 1 1024 (total fun r _ c => D.DYO r c * D.XH r c) := by
  refine (dats m 0 c).arrAt_eq_of_cover 30 (table 1 1024 (total fun r _ c => D.DYO r c * D.XH r c)) (fun t hf => ?_) fun i => ⟨⟨7, lt7⟩, (flush0_30 _).mpr rfl, ?_⟩
  · rw [seven t ((flush0_30 t).mp hf)]
    show (cfg0.win 30).cut (grid0.coords ⟨7, lt7⟩) ((dats m 0 c).after 30 ⟨7, lt7⟩) = _
    rw [after_30]
    have e := sum_dfg H
    revert e
    dsimp only
    generalize (kept m c (7 + 1) lt7).dfg = f
    intro e
    funext j
    rw [View.read_apply]
    obtain ⟨r, l, rfl⟩ : ∃ (r : Fin 1) (l : Fin 1024), j = ix2 r l := ⟨j 0, j 1, Cert.Fox.ix2_eta (a := 1) (b := 1024) j⟩
    exact Eq.trans (α := EReal) (e r l) (whole_at (table_mat 1 1024 (total fun r _ c => D.DYO r c * D.XH r c)) (out_whole ⟨7, lt7⟩).2.2.2.1 r l _ rfl rfl).symm
  · show i ∈ ((View.whole main_v21_12).slice (win0_30.rect ⟨7, lt7⟩)).set
    rw [View.set_slice_whole, Rect.mem_set_unit]
    exact Fin.forall_fin_two.mpr ⟨in_all (out_whole _).2.2.2.1.1 (i 0).isLt, in_all (out_whole _).2.2.2.1.2 (i 1).isLt⟩

theorem sum_ls : Mat (kept m c (7 + 1) lt7).ls (total fun r _ c => D.ER r c * D.ER r c) := row_mat fun c' =>
  kept_sum (fun s => s.ls (ix2 0 c')) (fun r => D.ER r c'.val * D.ER r c'.val) (by unfold St.zero k0_pay6; pointwise) fun t => ls_add (blk_holds H t) _ c'

theorem final31 : (dats m 0 c).arrAt 31 cfg0.N = table 1 1024 (total fun r _ c => D.ER r c * D.ER r c) := by
  refine (dats m 0 c).arrAt_eq_of_cover 31 (table 1 1024 (total fun r _ c => D.ER r c * D.ER r c)) (fun t hf => ?_) fun i => ⟨⟨7, lt7⟩, (flush0_31 _).mpr rfl, ?_⟩
  · rw [seven t ((flush0_31 t).mp hf)]
    show (cfg0.win 31).cut (grid0.coords ⟨7, lt7⟩) ((dats m 0 c).after 31 ⟨7, lt7⟩) = _
    rw [after_31]
    have e := sum_ls H
    revert e
    dsimp only
    generalize (kept m c (7 + 1) lt7).ls = f
    intro e
    funext j
    rw [View.read_apply]
    obtain ⟨r, l, rfl⟩ : ∃ (r : Fin 1) (l : Fin 1024), j = ix2 r l := ⟨j 0, j 1, Cert.Fox.ix2_eta (a := 1) (b := 1024) j⟩
    exact Eq.trans (α := EReal) (e r l) (whole_at (table_mat 1 1024 (total fun r _ c => D.ER r c * D.ER r c)) (out_whole ⟨7, lt7⟩).2.2.2.2.1 r l _ rfl rfl).symm
  · show i ∈ ((View.whole main_v21_13).slice (win0_31.rect ⟨7, lt7⟩)).set
    rw [View.set_slice_whole, Rect.mem_set_unit]
    exact Fin.forall_fin_two.mpr ⟨in_all (out_whole _).2.2.2.2.1.1 (i 0).isLt, in_all (out_whole _).2.2.2.2.1.2 (i 1).isLt⟩

theorem sum_dlw : Mat (kept m c (7 + 1) lt7).dlw (total fun r _ c => D.DP r c * D.YN r c) := row_mat fun c' =>
  kept_sum (fun s => s.dlw (ix2 0 c')) (fun r => D.DP r c'.val * D.YN r c'.val) (by unfold St.zero k0_pay7; pointwise) fun t => dlw_add (blk_holds H t) _ c'

theorem final32 : (dats m 0 c).arrAt 32 cfg0.N = table 1 512 (total fun r _ c => D.DP r c * D.YN r c) := by
  refine (dats m 0 c).arrAt_eq_of_cover 32 (table 1 512 (total fun r _ c => D.DP r c * D.YN r c)) (fun t hf => ?_) fun i => ⟨⟨7, lt7⟩, (flush0_32 _).mpr rfl, ?_⟩
  · rw [seven t ((flush0_32 t).mp hf)]
    show (cfg0.win 32).cut (grid0.coords ⟨7, lt7⟩) ((dats m 0 c).after 32 ⟨7, lt7⟩) = _
    rw [after_32]
    have e := sum_dlw H
    revert e
    dsimp only
    generalize (kept m c (7 + 1) lt7).dlw = f
    intro e
    funext j
    rw [View.read_apply]
    obtain ⟨r, l, rfl⟩ : ∃ (r : Fin 1) (l : Fin 512), j = ix2 r l := ⟨j 0, j 1, Cert.Fox.ix2_eta (a := 1) (b := 512) j⟩
    exact Eq.trans (α := EReal) (e r l) (whole_at (table_mat 1 512 (total fun r _ c => D.DP r c * D.YN r c)) (out_whole ⟨7, lt7⟩).2.2.2.2.2.1 r l _ rfl rfl).symm
  · show i ∈ ((View.whole main_v21_14).slice (win0_32.rect ⟨7, lt7⟩)).set
    rw [View.set_slice_whole, Rect.mem_set_unit]
    exact Fin.forall_fin_two.mpr ⟨in_all (out_whole _).2.2.2.2.2.1.1 (i 0).isLt, in_all (out_whole _).2.2.2.2.2.1.2 (i 1).isLt⟩

theorem sum_dlb : Mat (kept m c (7 + 1) lt7).dlb (total fun r _ c => D.DP r c) := row_mat fun c' =>
  kept_sum (fun s => s.dlb (ix2 0 c')) (fun r => D.DP r c'.val) (by unfold St.zero k0_pay8; pointwise) fun t => dlb_add (blk_holds H t) _ c'

theorem final33 : (dats m 0 c).arrAt 33 cfg0.N = table 1 512 (total fun r _ c => D.DP r c) := by
  refine (dats m 0 c).arrAt_eq_of_cover 33 (table 1 512 (total fun r _ c => D.DP r c)) (fun t hf => ?_) fun i => ⟨⟨7, lt7⟩, (flush0_33 _).mpr rfl, ?_⟩
  · rw [seven t ((flush0_33 t).mp hf)]
    show (cfg0.win 33).cut (grid0.coords ⟨7, lt7⟩) ((dats m 0 c).after 33 ⟨7, lt7⟩) = _
    rw [after_33]
    have e := sum_dlb H
    revert e
    dsimp only
    generalize (kept m c (7 + 1) lt7).dlb = f
    intro e
    funext j
    rw [View.read_apply]
    obtain ⟨r, l, rfl⟩ : ∃ (r : Fin 1) (l : Fin 512), j = ix2 r l := ⟨j 0, j 1, Cert.Fox.ix2_eta (a := 1) (b := 512) j⟩
    exact Eq.trans (α := EReal) (e r l) (whole_at (table_mat 1 512 (total fun r _ c => D.DP r c)) (out_whole ⟨7, lt7⟩).2.2.2.2.2.2.1 r l _ rfl rfl).symm
  · show i ∈ ((View.whole main_v21_15).slice (win0_33.rect ⟨7, lt7⟩)).set
    rw [View.set_slice_whole, Rect.mem_set_unit]
    exact Fin.forall_fin_two.mpr ⟨in_all (out_whole _).2.2.2.2.2.2.1.1 (i 0).isLt, in_all (out_whole _).2.2.2.2.2.2.1.2 (i 1).isLt⟩

theorem sum_drk : Mat (kept m c (7 + 1) lt7).drk (total fun r _ c => D.DKK r c * D.R r c * D.K r c) := row_mat fun c' =>
  kept_sum (fun s => s.drk (ix2 0 c')) (fun r => D.DKK r c'.val * D.R r c'.val * D.K r c'.val) (by unfold St.zero k0_pay9; pointwise) fun t => drk_add (blk_holds H t) _ c'

theorem final34 : (dats m 0 c).arrAt 34 cfg0.N = table 1 512 (total fun r _ c => D.DKK r c * D.R r c * D.K r c) := by
  refine (dats m 0 c).arrAt_eq_of_cover 34 (table 1 512 (total fun r _ c => D.DKK r c * D.R r c * D.K r c)) (fun t hf => ?_) fun i => ⟨⟨7, lt7⟩, (flush0_34 _).mpr rfl, ?_⟩
  · rw [seven t ((flush0_34 t).mp hf)]
    show (cfg0.win 34).cut (grid0.coords ⟨7, lt7⟩) ((dats m 0 c).after 34 ⟨7, lt7⟩) = _
    rw [after_34]
    have e := sum_drk H
    revert e
    dsimp only
    generalize (kept m c (7 + 1) lt7).drk = f
    intro e
    funext j
    rw [View.read_apply]
    obtain ⟨r, l, rfl⟩ : ∃ (r : Fin 1) (l : Fin 512), j = ix2 r l := ⟨j 0, j 1, Cert.Fox.ix2_eta (a := 1) (b := 512) j⟩
    exact Eq.trans (α := EReal) (e r l) (whole_at (table_mat 1 512 (total fun r _ c => D.DKK r c * D.R r c * D.K r c)) (out_whole ⟨7, lt7⟩).2.2.2.2.2.2.2 r l _ rfl rfl).symm
  · show i ∈ ((View.whole main_v21_16).slice (win0_34.rect ⟨7, lt7⟩)).set
    rw [View.set_slice_whole, Rect.mem_set_unit]
    exact Fin.forall_fin_two.mpr ⟨in_all (out_whole _).2.2.2.2.2.2.2.1 (i 0).isLt, in_all (out_whole _).2.2.2.2.2.2.2.2 (i 1).isLt⟩

end

/-! ## The host lines after the call -/

section
variable (m : (ℓ : Loc nD τ sig) → Buf (Elt Ideal) ℓ) (c : Dev nD)

/-- What the host lines after the call leave in a buffer. -/
abbrev tail (b : Ref sig .tc) : Buf (Elt Ideal) ((c : Thread nD τ).loc b) := Pipeline.afterTail₀ cfgs (dats m) 0 (V0 m) [hostOps1] c b

/-- The buffers as the call leaves them. -/
abbrev atEnd : Valuation τ sig (Elt Ideal) := Pipeline.withArrays (cfgs 0).spec c (V0 m c) fun w => (dats m 0 c).arrAt w (cfgs 0).N

theorem at_end (w : Fin 35) : atEnd m c (Proc.devRef .tc (Pipeline.arrRef (cfgs 0).spec w)) = (dats m 0 c).arrAt w (cfgs 0).N :=
  Pipeline.withArrays_arr (cfgs 0).spec winFacts0.arr_inj c (V0 m c) _ w
end

/-- The gradient of the norm's weights, the gradient of the head weights and the loss. -/
abbrev fgOf (D : Data) : S1024.Idx → EReal := fun i => ((∑ r : Fin 2048, D.DYO r.val (i 0).val * D.XH r.val (i 0).val : ℝ) : EReal)
abbrev rkOf (D : Data) : S1x8x64.Idx → EReal := fun i =>
  ((∑ r : Fin 2048, D.DKK r.val (64 * (i 1).val + (i 2).val) * D.R r.val (64 * (i 1).val + (i 2).val) * D.K r.val (64 * (i 1).val + (i 2).val) : ℝ) : EReal)
abbrev lossOf (D : Data) : S_.Idx → EReal := fun _ => ((1 / 2 * ∑ r : Fin 2048, (∑ c : Fin 1024, D.ER r.val c.val * D.ER r.val c.val) / 1024 : ℝ) : EReal)

theorem lit_2048th : Ideal.ofBits .f32 0x3A000000#32 = ((1 / 2048 : ℝ) : EReal) := by
  simp [Ideal.ofBits, Ideal.ieee, -EReal.coe_mul]; norm_num

section
variable {m : (ℓ : Loc nD τ sig) → Buf (Elt Ideal) ℓ} {c : Dev nD} {D : Data} (H : (args m c).Hold D)
include H

theorem tail22 : tail m c main_v22 = table 2048 512 D.DO := by
  show StableHlo.after (List.flatten [hostOps1]) (atEnd m c) (Proc.devRef .tc main_v22) = _
  unfold hostOps1
  simp only [List.flatten_cons, List.flatten_nil, List.append_nil]
  after_results
  rw [show atEnd m c (Proc.devRef .tc main_v21_6) = _ from (at_end m c 24).trans (final24 H)]
  rfl

theorem tail23 : tail m c main_v23 = fgOf D := by
  show StableHlo.after (List.flatten [hostOps1]) (atEnd m c) (Proc.devRef .tc main_v23) = _
  unfold hostOps1
  simp only [List.flatten_cons, List.flatten_nil, List.append_nil]
  after_results
  rw [show atEnd m c (Proc.devRef .tc main_v21_12) = _ from (at_end m c 30).trans (final30 H)]
  funext i
  obtain ⟨k, rfl⟩ : ∃ k : Fin 1024, i = ix1 k := ⟨i 0, ix1_eta (a := 1024) i⟩
  pointwise
  rfl

theorem tail25 : tail m c main_v25 = lossOf D := by
  show StableHlo.after (List.flatten [hostOps1]) (atEnd m c) (Proc.devRef .tc main_v25) = _
  unfold hostOps1
  simp only [List.flatten_cons, List.flatten_nil, List.append_nil]
  after_results
  rw [show atEnd m c (Proc.devRef .tc main_v21_13) = _ from (at_end m c 31).trans (final31 H)]
  funext i
  unfold lossOf
  pointwise
  rw [lit_2048th, Fin.sum_univ_one]
  simp only [Reals.sum_coe, ← EReal.coe_mul]
  rw [Finset.sum_comm, Finset.mul_sum, Finset.mul_sum]
  refine congrArg _ (Finset.sum_congr rfl fun r _ => ?_)
  show 1 / 2048 * (∑ c : Fin 1024, D.ER r.val c.val * D.ER r.val c.val) = _
  ring

theorem tail26 : tail m c main_v26 = rkOf D := by
  show StableHlo.after (List.flatten [hostOps1]) (atEnd m c) (Proc.devRef .tc main_v26) = _
  unfold hostOps1
  simp only [List.flatten_cons, List.flatten_nil, List.append_nil]
  after_results
  rw [show atEnd m c (Proc.devRef .tc main_v21_16) = _ from (at_end m c 34).trans (final34 H)]
  funext i
  obtain ⟨u, h, k, rfl⟩ : ∃ (u : Fin 1) (h : Fin 8) (k : Fin 64), i = ix3 u h k := ⟨i 0, i 1, i 2, ix3_eta (a := 1) (b := 8) (n := 64) i⟩
  pointwise
  show ((total (fun r _ c => D.DKK r c * D.R r c * D.K r c) 0 (h.val * 64 + k.val) : ℝ) : EReal) = _
  rw [Nat.mul_comm]
  rfl

end

set_option maxHeartbeats 3200000 in
/-- The kernel's run: its seventeen results. -/
theorem kernel_run (m : (ℓ : Loc nD τ sig) → Buf (Elt Ideal) ℓ) (ρ : Dev nD → PrngReg) (D : Dev nD → Data) (H : ∀ c, (args m c).Hold (D c)) :
    θ_run (defs (F := Ideal)) (onTc (τ := τ) (main (F := Ideal))) ⟨m, fun _ => 0, ρ⟩ (fun r => (∀ c : Dev nD,
      r.2.mem ((c.tc : Thread nD τ).loc main_v21_0) = table 2048 1024 (D c).DX
      ∧ r.2.mem ((c.tc : Thread nD τ).loc main_v21_1) = table 2048 512 (D c).DY
      ∧ r.2.mem ((c.tc : Thread nD τ).loc main_v21_2) = table 2048 512 (D c).DR
      ∧ r.2.mem ((c.tc : Thread nD τ).loc main_v21_3) = table 2048 512 (D c).DK
      ∧ r.2.mem ((c.tc : Thread nD τ).loc main_v21_4) = table 2048 512 (D c).DV
      ∧ r.2.mem ((c.tc : Thread nD τ).loc main_v21_5) = table 2048 512 (D c).DGA
      ∧ r.2.mem ((c.tc : Thread nD τ).loc main_v22) = table 2048 512 (D c).DO
      ∧ r.2.mem ((c.tc : Thread nD τ).loc main_v21_7) = table 2048 512 (D c).DGB
      ∧ r.2.mem ((c.tc : Thread nD τ).loc main_v21_8) = table 2048 2048 (D c).DUG
      ∧ r.2.mem ((c.tc : Thread nD τ).loc main_v21_9) = table 512 1024 (total fun r k j => (D c).MA r k * (D c).DYA r j)
      ∧ r.2.mem ((c.tc : Thread nD τ).loc main_v21_10) = table 512 1024 (total fun r k j => (D c).MB r k * (D c).DYB r j)
      ∧ r.2.mem ((c.tc : Thread nD τ).loc main_v21_11) = table 1024 1024 (total fun r k j => (D c).MG r k * (D c).DX r j)
      ∧ r.2.mem ((c.tc : Thread nD τ).loc main_v23) = fgOf (D c)
      ∧ r.2.mem ((c.tc : Thread nD τ).loc main_v25) = lossOf (D c)
      ∧ r.2.mem ((c.tc : Thread nD τ).loc main_v21_14) = table 1 512 (total fun r _ j => (D c).DP r j * (D c).YN r j)
      ∧ r.2.mem ((c.tc : Thread nD τ).loc main_v21_15) = table 1 512 (total fun r _ j => (D c).DP r j)
      ∧ r.2.mem ((c.tc : Thread nD τ).loc main_v26) = rkOf (D c))) := by
  refine (θ_run _ _ _).mono (fun r h c => ?_) (run_main m ρ)
  have h' := h.1 c
  exact ⟨(h'.1 18).trans (final18 (H c)),
    (h'.1 19).trans (final19 (H c)),
    (h'.1 20).trans (final20 (H c)),
    (h'.1 21).trans (final21 (H c)),
    (h'.1 22).trans (final22 (H c)),
    (h'.1 23).trans (final23 (H c)),
    (h'.2 main_v22 (Pipeline.mem_restRefs_of main_v22 (by decide) (by decide))).trans (tail22 (H c)),
    (h'.1 25).trans (final25 (H c)),
    (h'.1 26).trans (final26 (H c)),
    (h'.1 27).trans (final27 (H c)),
    (h'.1 28).trans (final28 (H c)),
    (h'.1 29).trans (final29 (H c)),
    (h'.2 main_v23 (Pipeline.mem_restRefs_of main_v23 (by decide) (by decide))).trans (tail23 (H c)),
    (h'.2 main_v25 (Pipeline.mem_restRefs_of main_v25 (by decide) (by decide))).trans (tail25 (H c)),
    (h'.1 32).trans (final32 (H c)),
    (h'.1 33).trans (final33 (H c)),
    (h'.2 main_v26 (Pipeline.mem_restRefs_of main_v26 (by decide) (by decide))).trans (tail26 (H c))⟩

end Cert.Merge

end
-- ==== Proof.MergeClaim.lean ====
/-
  The claims about the merge's backward call: both programs leave their arguments and every counter as they found them, and
  on finite arguments both end with equal gradients and an equal loss.
-/
module

public import proofs.«01_k».proof.Defs
public import proofs.«01_k».proof.Proof.RwkvClaim
public import proofs.«01_k».proof.Proof.MergeReference
public import proofs.«01_k».proof.Proof.MergeResults
public import proofs.«01_k».proof.Proof.Gen.Kernel5
public import proofs.«01_k».proof.Proof.Gen.Reference5Ideal.Run

@[expose] public section

set_option maxRecDepth 16384

noncomputable section

namespace Cert.Merge

open Idealize.ShloMosaic Idealize.ShloMosaic.TcCoe Idealize.SL.Sem
open Cert.Rwkv (wrap wrap_val)
open Cert.Kernel5Ideal (nD τ sig)

theorem frame_kernel : Cert.quiescent_Kernel5 := fun m ρ _ => by
  have h := @frame Bits _ m ρ
  refine Eq.mp (?_ : _ = _) h
  sl_kernel_rfl

theorem frame_ideal : Cert.quiescent_Kernel5Ideal := fun m ρ _ => frame m ρ

theorem reference_frame : Cert.quiescent_Reference5Ideal := fun m ρ _ =>
  (θ_run _ _ _).mono (fun r h => ⟨fun c => (h c).2.2.2.2.2.2.2.2.2.2.2.2.2.2.2.2.2, sem_eq_zero_of_no_sems (by decide) r.2⟩)
    (Cert.Reference5Ideal.Value.run (F := Ideal) m ρ)

instance preFacts : Cert.Pre_finite_merge.Facts where
  slices_S1x2048x2056_S1x2048x512_0_0_1536 := by decide +kernel
  bcast_S_S1x2048x512 := by decide +kernel
  bcast_S_S1x2048x1024 := by decide +kernel
  bcast_S_S1024x2048 := by decide +kernel
  bcast_S_S1x512 := by decide +kernel
  bcast_S_S1x8x64 := by decide +kernel
  bcast_S_S1x512x1024 := by decide +kernel
  bcast_S_S1x1024x1024 := by decide +kernel
  bcast_S_S1024 := by decide +kernel

/-! ## The numbers in the arguments -/

/-- The numbers in the arguments. -/
def dataOf (a : Arrays) : Data where
  Y r c := (a.Y (ix3 0 (wrap 2048 r) (wrap 512 c))).toReal
  R r c := (a.R (ix3 0 (wrap 2048 r) (wrap 512 c))).toReal
  K r c := (a.K (ix3 0 (wrap 2048 r) (wrap 512 c))).toReal
  V r c := (a.V (ix3 0 (wrap 2048 r) (wrap 512 c))).toReal
  GA r c := (a.GA (ix3 0 (wrap 2048 r) (wrap 512 c))).toReal
  O r c := (a.O (ix3 0 (wrap 2048 r) (wrap 512 c))).toReal
  GB r c := (a.U (ix3 0 (wrap 2048 r) (wrap 2056 (1536 + c)))).toReal
  H r c := (a.H (ix3 0 (wrap 2048 r) (wrap 1024 c))).toReal
  X r c := (a.X (ix3 0 (wrap 2048 r) (wrap 1024 c))).toReal
  WG r c := (a.WG (ix2 (wrap 1024 r) (wrap 2048 c))).toReal
  LW c := (a.LW (ix2 0 (wrap 512 c))).toReal
  LB c := (a.LB (ix2 0 (wrap 512 c))).toReal
  RK c := (a.RK (ix3 0 (wrap 8 (c / 64)) (wrap 64 c))).toReal
  WA r c := (a.WA (ix3 0 (wrap 512 r) (wrap 1024 c))).toReal
  WB r c := (a.WB (ix3 0 (wrap 512 r) (wrap 1024 c))).toReal
  WO r c := (a.WO (ix3 0 (wrap 1024 r) (wrap 1024 c))).toReal
  FG c := (a.FG (ix1 (wrap 1024 c))).toReal
  TG r c := (a.TG (ix3 0 (wrap 2048 r) (wrap 1024 c))).toReal

/-- All of an array is finite. -/
abbrev Real {s : Shape} (x : FVec Ideal s .f32) : Prop := ∃ X : s.Idx → ℝ, x = fun i => ((X i : ℝ) : EReal)

theorem hold_of {a : Arrays} (h0 : Real a.Y) (h1 : Real a.R) (h2 : Real a.K) (h3 : Real a.V) (h4 : Real a.GA) (h5 : Real a.O) (h6 : ∃ X : ℕ → ℕ → ℝ, ∀ (r : Fin 2048) (k : Fin 512) (l), a.U (ix3 0 r ⟨1536 + k.val, l⟩) = ((X r.val k.val : ℝ) : EReal)) (h7 : Real a.H) (h8 : Real a.X) (h9 : Real a.WG) (h10 : Real a.LW) (h11 : Real a.LB) (h12 : Real a.RK) (h13 : Real a.WA) (h14 : Real a.WB) (h15 : Real a.WO) (h16 : Real a.FG) (h17 : Real a.TG) : a.Hold (dataOf a) := by
  have wrap_sum : ∀ c : Fin 512, wrap 2056 (1536 + c.val) = ⟨1536 + c.val, by omega⟩ := fun c => Fin.ext (Nat.mod_eq_of_lt (by omega))
  have wrap_head : ∀ (h : Fin 8) (k : Fin 64), wrap 8 ((64 * h.val + k.val) / 64) = h ∧ wrap 64 (64 * h.val + k.val) = k := fun h k =>
    ⟨Fin.ext (by show (64 * h.val + k.val) / 64 % 8 = h.val; omega), Fin.ext (by show (64 * h.val + k.val) % 64 = k.val; omega)⟩
  obtain ⟨X0, h0⟩ := h0
  obtain ⟨X1, h1⟩ := h1
  obtain ⟨X2, h2⟩ := h2
  obtain ⟨X3, h3⟩ := h3
  obtain ⟨X4, h4⟩ := h4
  obtain ⟨X5, h5⟩ := h5
  obtain ⟨X6, h6⟩ := h6
  obtain ⟨X7, h7⟩ := h7
  obtain ⟨X8, h8⟩ := h8
  obtain ⟨X9, h9⟩ := h9
  obtain ⟨X10, h10⟩ := h10
  obtain ⟨X11, h11⟩ := h11
  obtain ⟨X12, h12⟩ := h12
  obtain ⟨X13, h13⟩ := h13
  obtain ⟨X14, h14⟩ := h14
  obtain ⟨X15, h15⟩ := h15
  obtain ⟨X16, h16⟩ := h16
  obtain ⟨X17, h17⟩ := h17
  constructor
  all_goals
    repeat intro _
    unfold dataOf
    simp only [h0, h1, h2, h3, h4, h5, h6, h7, h8, h9, h10, h11, h12, h13, h14, h15, h16, h17, wrap_val, wrap_sum, wrap_head, EReal.toReal_coe]

/-! ## The reference's arguments -/

/-- The reference's arguments on a device. -/
def refArgs (m : (ℓ : Loc Cert.Reference5Ideal.nD Cert.Reference5Ideal.τ Cert.Reference5Ideal.sig) → Buf (Elt Ideal) ℓ) (c : Dev Cert.Reference5Ideal.nD) : Arrays where
  Y := m ((c.tc : Thread Cert.Reference5Ideal.nD Cert.Reference5Ideal.τ).loc Cert.Reference5Ideal.main_arg0)
  R := m ((c.tc : Thread Cert.Reference5Ideal.nD Cert.Reference5Ideal.τ).loc Cert.Reference5Ideal.main_arg1)
  K := m ((c.tc : Thread Cert.Reference5Ideal.nD Cert.Reference5Ideal.τ).loc Cert.Reference5Ideal.main_arg2)
  V := m ((c.tc : Thread Cert.Reference5Ideal.nD Cert.Reference5Ideal.τ).loc Cert.Reference5Ideal.main_arg3)
  GA := m ((c.tc : Thread Cert.Reference5Ideal.nD Cert.Reference5Ideal.τ).loc Cert.Reference5Ideal.main_arg4)
  O := m ((c.tc : Thread Cert.Reference5Ideal.nD Cert.Reference5Ideal.τ).loc Cert.Reference5Ideal.main_arg5)
  U := m ((c.tc : Thread Cert.Reference5Ideal.nD Cert.Reference5Ideal.τ).loc Cert.Reference5Ideal.main_arg6)
  H := m ((c.tc : Thread Cert.Reference5Ideal.nD Cert.Reference5Ideal.τ).loc Cert.Reference5Ideal.main_arg7)
  X := m ((c.tc : Thread Cert.Reference5Ideal.nD Cert.Reference5Ideal.τ).loc Cert.Reference5Ideal.main_arg8)
  WG := m ((c.tc : Thread Cert.Reference5Ideal.nD Cert.Reference5Ideal.τ).loc Cert.Reference5Ideal.main_arg9)
  LW := m ((c.tc : Thread Cert.Reference5Ideal.nD Cert.Reference5Ideal.τ).loc Cert.Reference5Ideal.main_arg10)
  LB := m ((c.tc : Thread Cert.Reference5Ideal.nD Cert.Reference5Ideal.τ).loc Cert.Reference5Ideal.main_arg11)
  RK := m ((c.tc : Thread Cert.Reference5Ideal.nD Cert.Reference5Ideal.τ).loc Cert.Reference5Ideal.main_arg12)
  WA := m ((c.tc : Thread Cert.Reference5Ideal.nD Cert.Reference5Ideal.τ).loc Cert.Reference5Ideal.main_arg13)
  WB := m ((c.tc : Thread Cert.Reference5Ideal.nD Cert.Reference5Ideal.τ).loc Cert.Reference5Ideal.main_arg14)
  WO := m ((c.tc : Thread Cert.Reference5Ideal.nD Cert.Reference5Ideal.τ).loc Cert.Reference5Ideal.main_arg15)
  FG := m ((c.tc : Thread Cert.Reference5Ideal.nD Cert.Reference5Ideal.τ).loc Cert.Reference5Ideal.main_arg16)
  TG := m ((c.tc : Thread Cert.Reference5Ideal.nD Cert.Reference5Ideal.τ).loc Cert.Reference5Ideal.main_arg17)

section
variable {f : ℕ → ℕ → ℝ}

theorem flat_512 {v : FVec Ideal Cert.Reference5Ideal.S1x2048x512 .f32} (h : Layer v f) (e) : shapeCast Cert.Reference5Ideal.S2048x512 v e = table 2048 512 f := table_of fun r k => by
  pointwise
  exact h r k

theorem flat_1024 {v : FVec Ideal Cert.Reference5Ideal.S1x2048x1024 .f32} (h : Layer v f) (e) : shapeCast Cert.Reference5Ideal.S2048x1024 v e = table 2048 1024 f := table_of fun r k => by
  pointwise
  exact h r k

theorem flat_2048 {v : FVec Ideal Cert.Reference5Ideal.S1x2048x2048 .f32} (h : Layer v f) (e) : shapeCast Cert.Reference5Ideal.S2048x2048 v e = table 2048 2048 f := table_of fun r k => by
  pointwise
  exact h r k

end

set_option maxHeartbeats 3200000 in
theorem algebraic : Cert.algebraic_Kernel5Ideal_Reference5Ideal_pre_finite_merge := by
  intro m ρ m' ρ' hpre hag
  have fin : ∀ c, ∃ D : Data, (args m c).Hold D := fun c => by
    obtain ⟨p0, p1, p2, p3, p4, p5, p6, p7, p8, p9, p10, p11, p12, p13, p14, p15, p16, p17⟩ := hpre c
    obtain ⟨U, hU⟩ := Reals.real_of_abs_lt _ _ (Reals.top_array _) p6
    exact ⟨_, hold_of (Reals.real_of_abs_lt (args m c).Y _ (Reals.top_array _) p0) (Reals.real_of_abs_lt (args m c).R _ (Reals.top_array _) p1) (Reals.real_of_abs_lt (args m c).K _ (Reals.top_array _) p2) (Reals.real_of_abs_lt (args m c).V _ (Reals.top_array _) p3) (Reals.real_of_abs_lt (args m c).GA _ (Reals.top_array _) p4) (Reals.real_of_abs_lt (args m c).O _ (Reals.top_array _) p5) ⟨fun r k => U (ix3 0 (wrap 2048 r) (wrap 512 k)), fun r k l => Eq.trans (α := EReal) (by pointwise; rfl) ((congrFun hU (ix3 0 r k)).trans (by simp only [wrap_val]))⟩ (Reals.real_of_abs_lt (args m c).H _ (Reals.top_array _) p7) (Reals.real_of_abs_lt (args m c).X _ (Reals.top_array _) p8) (Reals.real_of_abs_lt (args m c).WG _ (Reals.top_array _) p9) (Reals.real_of_abs_lt (args m c).LW _ (Reals.top_array _) p10) (Reals.real_of_abs_lt (args m c).LB _ (Reals.top_array _) p11) (Reals.real_of_abs_lt (args m c).RK _ (Reals.top_array _) p12) (Reals.real_of_abs_lt (args m c).WA _ (Reals.top_array _) p13) (Reals.real_of_abs_lt (args m c).WB _ (Reals.top_array _) p14) (Reals.real_of_abs_lt (args m c).WO _ (Reals.top_array _) p15) (Reals.real_of_abs_lt (args m c).FG _ (Reals.top_array _) p16) (Reals.real_of_abs_lt (args m c).TG _ (Reals.top_array _) p17)⟩
  choose D H using fin
  refine ⟨fun c => table 2048 1024 (D c).DX, fun c => table 2048 512 (D c).DY, fun c => table 2048 512 (D c).DR, fun c => table 2048 512 (D c).DK, fun c => table 2048 512 (D c).DV, fun c => table 2048 512 (D c).DGA, fun c => table 2048 512 (D c).DO, fun c => table 2048 512 (D c).DGB, fun c => table 2048 2048 (D c).DUG, fun c => table 512 1024 (total fun r k j => (D c).MA r k * (D c).DYA r j), fun c => table 512 1024 (total fun r k j => (D c).MB r k * (D c).DYB r j), fun c => table 1024 1024 (total fun r k j => (D c).MG r k * (D c).DX r j), fun c => fgOf (D c), fun c => lossOf (D c), fun c => table 1 512 (total fun r _ j => (D c).DP r j * (D c).YN r j), fun c => table 1 512 (total fun r _ j => (D c).DP r j), fun c => rkOf (D c), ?_, ?_⟩
  · refine (θ_run _ _ _).mono (fun r h c => ?_) (θ_run_and (kernel_run m ρ D H) (frame (F := Ideal) m ρ))
    obtain ⟨h0, h1, h2, h3, h4, h5, h6, h7, h8, h9, h10, h11, h12, h13, h14, h15, h16⟩ := h.1 c
    exact ⟨h0, h1, h2, h3, h4, h5, h6, h7, h8, h9, h10, h11, h12, h13, h14, h15, h16, h.2.1 c⟩
  · refine (θ_run _ _ _).mono (fun r h c => ?_) (Cert.Reference5Ideal.Value.run (F := Ideal) m' ρ')
    have E : refArgs m' c = args m c := by
      obtain ⟨e0, e1, e2, e3, e4, e5, e6, e7, e8, e9, e10, e11, e12, e13, e14, e15, e16, e17⟩ := hag c
      unfold refArgs args
      rw [Arrays.mk.injEq]
      exact ⟨e0, e1, e2, e3, e4, e5, e6, e7, e8, e9, e10, e11, e12, e13, e14, e15, e16, e17⟩
    have R : (refArgs m' c).Hold (D c) := by rw [E]; exact H c
    obtain ⟨r0, r1, r2, r3, r4, r5, r6, r7, r8, r9, r10, r11, r12, r13, r14, r15, r16, rest⟩ := h c
    refine ⟨r0.trans ((Cert.Reference5Ideal.Read.val_main_v220_eq (F := Ideal) _).trans ?_), r1.trans ((Cert.Reference5Ideal.Read.val_main_v221_eq (F := Ideal) _).trans ?_), r2.trans ((Cert.Reference5Ideal.Read.val_main_v222_eq (F := Ideal) _).trans ?_), r3.trans ((Cert.Reference5Ideal.Read.val_main_v223_eq (F := Ideal) _).trans ?_), r4.trans ((Cert.Reference5Ideal.Read.val_main_v224_eq (F := Ideal) _).trans ?_), r5.trans ((Cert.Reference5Ideal.Read.val_main_v225_eq (F := Ideal) _).trans ?_), r6.trans ((Cert.Reference5Ideal.Read.val_main_v226_eq (F := Ideal) _).trans ?_), r7.trans ((Cert.Reference5Ideal.Read.val_main_v227_eq (F := Ideal) _).trans ?_), r8.trans ((Cert.Reference5Ideal.Read.val_main_v228_eq (F := Ideal) _).trans ?_), r9.trans ((Cert.Reference5Ideal.Read.val_main_v157_eq (F := Ideal) _).trans ?_), r10.trans ((Cert.Reference5Ideal.Read.val_main_v151_eq (F := Ideal) _).trans ?_), r11.trans ((Cert.Reference5Ideal.Read.val_main_v141_eq (F := Ideal) _).trans ?_), r12.trans ((Cert.Reference5Ideal.Read.val_main_v124_eq (F := Ideal) _).trans ?_), r13.trans ((Cert.Reference5Ideal.Read.val_main_v112_eq (F := Ideal) _).trans ?_), r14.trans ((Cert.Reference5Ideal.Read.val_main_v229_eq (F := Ideal) _).trans ?_), r15.trans ((Cert.Reference5Ideal.Read.val_main_v230_eq (F := Ideal) _).trans ?_), r16.trans ((Cert.Reference5Ideal.Read.val_main_v231_eq (F := Ideal) _).trans ?_), rest⟩
    · exact flat_1024 (dx_ref R) _
    · exact flat_512 (dy_ref R) _
    · exact flat_512 (dr_ref R) _
    · exact flat_512 (dk_ref R) _
    · exact flat_512 (dv_ref R) _
    · exact flat_512 (dga_ref R) _
    · exact flat_512 (do_ref R) _
    · exact flat_512 (dgb_ref R) _
    · exact flat_2048 (fun r j => ref_dug R r j) _
    · funext j
      obtain ⟨k, l, rfl⟩ : ∃ (k : Fin 512) (l : Fin 1024), j = ix2 k l := ⟨j 0, j 1, Cert.Fox.ix2_eta (a := 512) (b := 1024) j⟩
      exact ref_dwa R k l
    · funext j
      obtain ⟨k, l, rfl⟩ : ∃ (k : Fin 512) (l : Fin 1024), j = ix2 k l := ⟨j 0, j 1, Cert.Fox.ix2_eta (a := 512) (b := 1024) j⟩
      exact ref_dwb R k l
    · funext j
      obtain ⟨k, l, rfl⟩ : ∃ (k : Fin 1024) (l : Fin 1024), j = ix2 k l := ⟨j 0, j 1, Cert.Fox.ix2_eta (a := 1024) (b := 1024) j⟩
      exact ref_dwo R k l
    · funext i
      obtain ⟨k, rfl⟩ : ∃ k : Fin 1024, i = ix1 k := ⟨i 0, ix1_eta (a := 1024) i⟩
      exact ref_dfg R k
    · exact funext fun i => ref_loss R i
    · funext j
      obtain ⟨u, l, rfl⟩ : ∃ (u : Fin 1) (l : Fin 512), j = ix2 u l := ⟨j 0, j 1, Cert.Fox.ix2_eta (a := 1) (b := 512) j⟩
      obtain rfl : u = 0 := Subsingleton.elim _ _
      exact ref_dlw R l
    · funext j
      obtain ⟨u, l, rfl⟩ : ∃ (u : Fin 1) (l : Fin 512), j = ix2 u l := ⟨j 0, j 1, Cert.Fox.ix2_eta (a := 1) (b := 512) j⟩
      obtain rfl : u = 0 := Subsingleton.elim _ _
      exact ref_dlb R l
    · funext i
      obtain ⟨u, h, k, rfl⟩ : ∃ (u : Fin 1) (h : Fin 8) (k : Fin 64), i = ix3 u h k := ⟨i 0, i 1, i 2, ix3_eta (a := 1) (b := 8) (n := 64) i⟩
      obtain rfl : u = 0 := Subsingleton.elim _ _
      exact ref_drk R h k

end Cert.Merge

end
-- ==== Proof.RowdotBody.lean ====
/-
  What the row-sum kernel of the attention's body is handed at a grid point: the two tables of tile numbers, and the words it
  reads in them.
-/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The table of query tiles and the table of key tiles, as the body is handed them. -/
abbrev tabI : Memref sig .tc .smem S36 .i32 := Memref.whole main_c
abbrev tabJ : Memref sig .tc .smem S36 .i32 := Memref.whole main_c_0

/-- A table's contents on core `c`, and the table held for reading. -/
abbrev TabBuf (c : Dev nD) (M : Memref sig .tc .smem S36 .i32) : Type := Buf (Elt F) (M.view.loc (c : Thread nD τ))
abbrev tabHeld (c : Dev nD) (M : Memref sig .tc .smem S36 .i32) (f : TabBuf (F := F) c M) : sProp 𝕄 :=
  M.view.loc (c : Thread nD τ) ↦{fullShare.right} f

/-- The word a table of contents `f` gives at the point of coordinates `i`. -/
abbrev wordAt (c : Dev nD) (M : Memref sig .tc .smem S36 .i32) (f : TabBuf (F := F) c M) (i : grid0.Coords) : BitVec 32 :=
  M.view.readAt (Elt F) (Rect.unit (s := S36) (k0_off1 i) S1.size (k0_off1_inb i)).toLoadRect f (Shape.Idx.first (numel1_S1.symm ▸ Nat.one_pos))

/-- The body's tests of a point's tiles: the first of a query tile, below the diagonal, on the diagonal. -/
abbrev isStart (w : BitVec 32) : Prop := Scalar.cmpi .ne (Scalar.extui (Scalar.cmpi .eq w 0#32) : BitVec 32) 0#32 = 1#1
abbrev isBelow (v w : BitVec 32) : Prop := Scalar.cmpi .ne (Scalar.extui (Scalar.cmpi .slt w v) : BitVec 32) 0#32 = 1#1
abbrev isDiag (v w : BitVec 32) : Prop := Scalar.cmpi .ne (Scalar.extui (Scalar.cmpi .eq w v) : BitVec 32) 0#32 = 1#1

end Cert.Rowdot

end
-- ==== Proof.RowdotPlan.lean ====
/-
  The schedule of the attention's row-sum kernel: which tiles the 36 grid points work on, as its two tables say, and what
  follows of the body's branches and of its windows.
-/
module

public import proofs.«01_k».proof.Proof.RowdotBody

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables -/

/-- The place of a table a point reads. -/
def cellAt (i : grid0.Coords) : S36.Idx :=
  (Rect.unit (s := S36) (k0_off1 i) S1.size (k0_off1_inb i)).emb (Shape.Idx.first (numel1_S1.symm ▸ Nat.one_pos))

/-- The query tile and the key tile of a point. -/
def qTile (i : grid0.Coords) : BitVec 32 := lit0 (S36.rowMajor (cellAt i))
def kTile (i : grid0.Coords) : BitVec 32 := lit1 (S36.rowMajor (cellAt i))

/-- The two tables as the program's constants give them. -/
def tbl : pre0.Contents (Elt F) := fun
  | 0 => fun x => lit0 (S36.rowMajor x)
  | 1 => fun x => lit1 (S36.rowMajor x)

theorem tbl_at_0 (i : grid0.Coords) : (tbl (F := F)).at 0 (Rect.unit (s := S36) (k0_off1 i) S1.size (k0_off1_inb i)) numel1_S1 = qTile i := rfl
theorem tbl_at_1 (i : grid0.Coords) : (tbl (F := F)).at 1 (Rect.unit (s := S36) (k0_off1 i) S1.size (k0_off1_inb i)) numel1_S1 = kTile i := rfl
theorem in_table : ∀ (i : grid0.Coords) (a : Fin 1), k0_off1 i a + 1 ≤ S36.size a := by decide +kernel

theorem tbl_atD_0 (i : grid0.Coords) : (tbl (F := F)).atD 0 (k0_off1 i) = qTile i :=
  (dif_pos (c := ∀ a : Fin (pre0.ref 0).ty.shape.rank, k0_off1 i a + 1 ≤ (pre0.ref 0).ty.shape.size a) (in_table i)).trans rfl
theorem tbl_atD_1 (i : grid0.Coords) : (tbl (F := F)).atD 1 (k0_off1 i) = kTile i :=
  (dif_pos (c := ∀ a : Fin (pre0.ref 1).ty.shape.rank, k0_off1 i a + 1 ≤ (pre0.ref 1).ty.shape.size a) (in_table i)).trans rfl

theorem wordAt_0 (c : Dev nD) (i : grid0.Coords) : wordAt (F := F) c tabI (tbl 0) i = qTile i := rfl
theorem wordAt_1 (c : Dev nD) (i : grid0.Coords) : wordAt (F := F) c tabJ (tbl 1) i = kTile i := rfl

/-! ## The body's conditions at the points -/

/-- A point works on the first tile of its query tile, or on its diagonal tile. -/
abbrev Start (t : Fin grid0.N) : Prop := kTile (grid0.coords t) = 0#32
abbrev Diag (t : Fin grid0.N) : Prop := qTile (grid0.coords t) = kTile (grid0.coords t)

theorem start_iff : ∀ t : Fin grid0.N, isStart (kTile (grid0.coords t)) ↔ Start t := by decide +kernel
theorem below_iff : ∀ t : Fin grid0.N, isBelow (qTile (grid0.coords t)) (kTile (grid0.coords t)) ↔ ¬Diag t := by decide +kernel
theorem diag_test : ∀ t : Fin grid0.N, isDiag (qTile (grid0.coords t)) (kTile (grid0.coords t)) ↔ Diag t := by decide +kernel
theorem cond4_iff : ∀ t : Fin grid0.N, k0_cond4 (qTile (grid0.coords t)) (kTile (grid0.coords t)) = 1#1 ↔ Diag t := by decide +kernel
theorem both_zero : ∀ t : Fin grid0.N, Start t → Diag t → t.val = 0 := by decide +kernel
theorem zero_start : ∀ t : Fin grid0.N, t.val = 0 → Start t := by decide +kernel
theorem zero_diag : ∀ t : Fin grid0.N, t.val = 0 → Diag t := by decide +kernel

/-! ## The tables are admissible -/

theorem in_q : ∀ (i : grid0.Coords) a, (![(qTile i).toNat, 0] a + 1) * S256x512.size a ≤ S2048x512.size a := by decide +kernel
theorem in_k : ∀ (i : grid0.Coords) a, (![(kTile i).toNat, 0] a + 1) * S256x512.size a ≤ S2048x512.size a := by decide +kernel
theorem in_rows : ∀ (i : grid0.Coords) a, (![0, (qTile i).toNat, 0] a + 1) * S8x256x128.size a ≤ S8x2048x128.size a := by decide +kernel
theorem in_cols : ∀ (i : grid0.Coords) a, (![0, (kTile i).toNat] a + 1) * S8x256.size a ≤ S8x2048.size a := by decide +kernel
theorem words_q : ∀ i : grid0.Coords, (Rect.block (s := S2048x512) S256x512.size ![(qTile i).toNat, 0] (in_q i)).WholeWords (EltTy.packing .bf16) := by decide +kernel
theorem words_k : ∀ i : grid0.Coords, (Rect.block (s := S2048x512) S256x512.size ![(kTile i).toNat, 0] (in_k i)).WholeWords (EltTy.packing .bf16) := by decide +kernel

theorem ok : ok0 (F := F) tbl :=
  ⟨fun i => ⟨in_q i, .inr (words_q i)⟩, fun i => ⟨in_k i, .inr (words_k i)⟩, fun i => ⟨in_k i, .inr (words_k i)⟩,
    fun i => ⟨in_q i, .inr (words_q i)⟩, fun i => ⟨in_rows i, .inl rfl⟩, fun i => ⟨in_rows i, .inl rfl⟩,
    fun i => ⟨in_cols i, .inl rfl⟩, fun i => ⟨in_rows i, .inl rfl⟩⟩

/-- The pipeline at these tables. -/
abbrev adm : (pcfg0 (F := F)).Adm := ⟨tbl, ok⟩
abbrev cfgM : Pipeline.Cfg sig Λ₀ := cfg0 (F := F) adm

/-! ## Where the output's window rests -/

theorem idle_key (t : Fin grid0.N) : (cfgM (F := F)).idle 7 (grid0.coords t) = !(k0_cond4 (qTile (grid0.coords t)) (kTile (grid0.coords t)) == 1#1) := by
  rw [← tbl_atD_0 (F := F), ← tbl_atD_1 (F := F)]; rfl

theorem idle_of_not_diag (t : Fin grid0.N) (h : ¬Diag t) : (cfgM (F := F)).idle 7 (grid0.coords t) = true := by
  rw [idle_key t]
  simpa using mt (cond4_iff t).mp h

theorem live_of_diag (t : Fin grid0.N) (h : Diag t) : (cfgM (F := F)).idle 7 (grid0.coords t) = false := by
  rw [idle_key t, (cond4_iff t).mpr h]; rfl

theorem hold_7 : ∀ t : Fin grid0.N, ¬Diag t → Window.flushOf grid0 true (fun i => (![0, (qTile i).toNat, 0] : Fin 3 → Nat)) t = false := by decide +kernel
theorem noFlush_7 (t : Fin grid0.N) (h : ¬Diag t) : ((cfgM (F := F)).win 7).flush t = false := hold_7 t h

end Cert.Rowdot

end
-- ==== Proof.RowdotEntry.lean ====
/-
  What the attention's row-sum kernel finds when it is reached: the host's arrays, the tables, and the blocks each point
  sees.
-/
module

public import proofs.«01_k».proof.Proof.RowdotPlan

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each buffer of core `c` holds when the kernel is reached: the host's lines run on the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [hostOps0, List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh fun c => main_chain c

/-- The host's lines leave the arguments alone. -/
theorem V_main_arg0 (c : Dev nD) : V m c main_arg0 = m ((c : Thread nD τ).loc main_arg0) := by
  show StableHlo.after hostOps0 (fun b => m (c, b)) main_arg0 = _
  unfold hostOps0
  after_results
theorem V_main_arg1 (c : Dev nD) : V m c main_arg1 = m ((c : Thread nD τ).loc main_arg1) := by
  show StableHlo.after hostOps0 (fun b => m (c, b)) main_arg1 = _
  unfold hostOps0
  after_results
theorem V_main_arg2 (c : Dev nD) : V m c main_arg2 = m ((c : Thread nD τ).loc main_arg2) := by
  show StableHlo.after hostOps0 (fun b => m (c, b)) main_arg2 = _
  unfold hostOps0
  after_results
theorem V_main_arg3 (c : Dev nD) : V m c main_arg3 = m ((c : Thread nD τ).loc main_arg3) := by
  show StableHlo.after hostOps0 (fun b => m (c, b)) main_arg3 = _
  unfold hostOps0
  after_results
theorem V_main_arg4 (c : Dev nD) : V m c main_arg4 = m ((c : Thread nD τ).loc main_arg4) := by
  show StableHlo.after hostOps0 (fun b => m (c, b)) main_arg4 = _
  unfold hostOps0
  after_results

/-- The tables hold the tile numbers when the kernel is reached. -/
theorem V_table_0 (c : Dev nD) : V m c main_c = fun x => lit0 (S36.rowMajor x) := by
  show StableHlo.after hostOps0 (fun b => m (c, b)) main_c = _
  unfold hostOps0
  after_results
  rfl
theorem V_table_1 (c : Dev nD) : V m c main_c_0 = fun x => lit1 (S36.rowMajor x) := by
  show StableHlo.after hostOps0 (fun b => m (c, b)) main_c_0 = _
  unfold hostOps0
  after_results
  rfl
theorem V_pre (c : Dev nD) (j : Fin 2) : V m c (pre0.ref j) = tbl j := by
  fin_cases j
  · exact V_table_0 m c
  · exact V_table_1 m c

/-- The body's share of the two tables. -/
theorem tables_eq (c : Dev nD) : (Pipeline.ΦT pre0 (tbl (F := F)) c : sProp 𝕄) = iprop(tabHeld c tabI (tbl 0) ∗ tabHeld c tabJ (tbl 1)) := by
  unfold Pipeline.ΦT Pipeline.prefHeld
  exact bigSep_univ_eq_bigSepL [(0 : Fin 2), (1 : Fin 2)] (by decide) (by decide) _

/-- Window `w`'s block at a point, cut from its array as the kernel finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

theorem before_of_0 {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM (F := F)) c) (hA : dat.A 2 = V m c (Pipeline.arrRef spec0 2))
    (hafter : ∀ t, dat.after 2 t = iblk m c 2 t) (t : Fin (cfgM (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM (F := F)) c) (hA : dat.A 3 = V m c (Pipeline.arrRef spec0 3))
    (hafter : ∀ t, dat.after 3 t = iblk m c 3 t) (t : Fin (cfgM (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ (cfgM (F := F)) c) (hA : dat.A 4 = V m c (Pipeline.arrRef spec0 4))
    (hafter : ∀ t, dat.after 4 t = iblk m c 4 t) (t : Fin (cfgM (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ (cfgM (F := F)) c) (hA : dat.A 5 = V m c (Pipeline.arrRef spec0 5))
    (hafter : ∀ t, dat.after 5 t = iblk m c 5 t) (t : Fin (cfgM (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ (cfgM (F := F)) c) (hA : dat.A 6 = V m c (Pipeline.arrRef spec0 6))
    (hafter : ∀ t, dat.after 6 t = iblk m c 6 t) (t : Fin (cfgM (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Cert.Rowdot

end
-- ==== Proof.RowdotRunBoth.lean ====
/-
  The row-sum kernel's body at the first grid point, whose tile is the first of its query tile and lies on the diagonal: the
  running sum is cleared, added to, and written out.
-/
module

public import proofs.«01_k».proof.Proof.RowdotBody

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runBoth (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256 .f32) (harg9 : arg9.IsWhole)
  (arg10 : Memref sig .tc .vmem S8x256x128 .f32) (harg10 : arg10.IsWhole)
  (arg11 : Memref sig .tc .vmem S8x256x128 .f32) (harg11 : arg11.IsWhole)
    (T0 : TabBuf (F := F) c tabI) (T1 : TabBuf (F := F) c tabJ)
    (h1 : isStart (wordAt c tabJ T1 i)) (h2 : ¬isBelow (wordAt c tabI T0 i) (wordAt c tabJ T1 i))
    (h3 : isDiag (wordAt c tabI T0 i) (wordAt c tabJ T1 i)) (h4 : k0_cond4 (wordAt c tabI T0 i) (wordAt c tabJ T1 i) = 1#1)
    (x3 x4 x5 x6 : Vec F S256x512 .bf16) (x7 x8 : Vec F S8x256x128 .f32) (x9 : Vec F S8x256 .f32) :
    Σ' (L10 : List (View.Piece (Elt F) S8x256x128 .f32)), { L11 : List (View.Piece (Elt F) S8x256x128 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d)
            ∗ (∃ d, owns (c : Thread nD τ) arg11 fullShare d)
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ (∃ f, arg10.view.loc (c : Thread nD τ) ↦[arg10.view.set]{fullShare} arg10.view.writes (Elt F) f L10)
              ∗ (∃ f, arg11.view.loc (c : Thread nD τ) ↦[arg11.view.set]{fullShare} arg11.view.writes (Elt F) f L11)
              ∗ tabHeld c tabI T0
              ∗ tabHeld c tabJ T1) -∗ K ⟨⟩))
          ⊢ wp frame (wpE (defs₀ (F := F)) Variants.none c none) E
              (cc0_fox_attn_rowdot i tabI (Memref.isWhole_whole _) tabJ (Memref.isWhole_whole _) arg3 harg3 arg4 harg4 arg5 harg5 arg6 harg6 arg7 harg7 arg8 harg8 arg9 harg9 arg10 harg10 arg11 harg11) K } := by
  refine ⟨?_, ?_, fun E K => ?run⟩
  case run =>
    simp only [cc0_fox_attn_rowdot_eq_skeleton]
    unfold cc0_fox_attn_rowdot_skel
    simp only [k0_part9_eq_skeleton,
      k0_part10_eq_skeleton,
      k0_part11_eq_skeleton,
      k0_part12_eq_skeleton,
      k0_part13_eq_skeleton,
      k0_part14_eq_skeleton,
      k0_part15_eq_skeleton,
      k0_part16_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [HT0]; · iexact HT0
    iexact HT1

end Cert.Rowdot

end
-- ==== Proof.RowdotRunStart.lean ====
/-
  The row-sum kernel's body at the first tile of a later query tile: the running sum is cleared and added to.
-/
module

public import proofs.«01_k».proof.Proof.RowdotBody

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runStart (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256 .f32) (harg9 : arg9.IsWhole)
  (arg10 : Memref sig .tc .vmem S8x256x128 .f32) (harg10 : arg10.IsWhole)
  (arg11 : Memref sig .tc .vmem S8x256x128 .f32) (harg11 : arg11.IsWhole)
    (T0 : TabBuf (F := F) c tabI) (T1 : TabBuf (F := F) c tabJ)
    (h1 : isStart (wordAt c tabJ T1 i)) (h2 : isBelow (wordAt c tabI T0 i) (wordAt c tabJ T1 i))
    (h3 : ¬isDiag (wordAt c tabI T0 i) (wordAt c tabJ T1 i)) (h4 : ¬k0_cond4 (wordAt c tabI T0 i) (wordAt c tabJ T1 i) = 1#1)
    (x3 x4 x5 x6 : Vec F S256x512 .bf16) (x7 x8 : Vec F S8x256x128 .f32) (x9 : Vec F S8x256 .f32) :
    { L11 : List (View.Piece (Elt F) S8x256x128 .f32) //
      ∀ (x10 : Vec F S8x256x128 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (∃ f, arg11.view.loc (c : Thread nD τ) ↦[arg11.view.set]{fullShare} arg11.view.writes (Elt F) f L11)
              ∗ tabHeld c tabI T0
              ∗ tabHeld c tabJ T1) -∗ K ⟨⟩))
          ⊢ wp frame (wpE (defs₀ (F := F)) Variants.none c none) E
              (cc0_fox_attn_rowdot i tabI (Memref.isWhole_whole _) tabJ (Memref.isWhole_whole _) arg3 harg3 arg4 harg4 arg5 harg5 arg6 harg6 arg7 harg7 arg8 harg8 arg9 harg9 arg10 harg10 arg11 harg11) K } := by
  refine ⟨?_, fun x10 E K => ?run⟩
  case run =>
    simp only [cc0_fox_attn_rowdot_eq_skeleton]
    unfold cc0_fox_attn_rowdot_skel
    simp only [k0_part1_eq_skeleton,
      k0_part2_eq_skeleton,
      k0_part3_eq_skeleton,
      k0_part4_eq_skeleton,
      k0_part5_eq_skeleton,
      k0_part6_eq_skeleton,
      k0_part7_eq_skeleton,
      k0_part8_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [HT0]; · iexact HT0
    iexact HT1

end Cert.Rowdot

end
-- ==== Proof.RowdotRunMiddle.lean ====
/-
  The row-sum kernel's body at a later tile below the diagonal: the running sum is added to.
-/
module

public import proofs.«01_k».proof.Proof.RowdotBody

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runMiddle (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256 .f32) (harg9 : arg9.IsWhole)
  (arg10 : Memref sig .tc .vmem S8x256x128 .f32) (harg10 : arg10.IsWhole)
  (arg11 : Memref sig .tc .vmem S8x256x128 .f32) (harg11 : arg11.IsWhole)
    (T0 : TabBuf (F := F) c tabI) (T1 : TabBuf (F := F) c tabJ)
    (h1 : ¬isStart (wordAt c tabJ T1 i)) (h2 : isBelow (wordAt c tabI T0 i) (wordAt c tabJ T1 i))
    (h3 : ¬isDiag (wordAt c tabI T0 i) (wordAt c tabJ T1 i)) (h4 : ¬k0_cond4 (wordAt c tabI T0 i) (wordAt c tabJ T1 i) = 1#1)
    (x3 x4 x5 x6 : Vec F S256x512 .bf16) (x7 x8 : Vec F S8x256x128 .f32) (x9 : Vec F S8x256 .f32) (x11 : Vec F S8x256x128 .f32) :
    { L11 : List (View.Piece (Elt F) S8x256x128 .f32) //
      ∀ (x10 : Vec F S8x256x128 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (arg11.view.loc (c : Thread nD τ) ↦[arg11.view.set]{fullShare} arg11.view.writes (Elt F) (harg11.unread x11) L11)
              ∗ tabHeld c tabI T0
              ∗ tabHeld c tabJ T1) -∗ K ⟨⟩))
          ⊢ wp frame (wpE (defs₀ (F := F)) Variants.none c none) E
              (cc0_fox_attn_rowdot i tabI (Memref.isWhole_whole _) tabJ (Memref.isWhole_whole _) arg3 harg3 arg4 harg4 arg5 harg5 arg6 harg6 arg7 harg7 arg8 harg8 arg9 harg9 arg10 harg10 arg11 harg11) K } := by
  refine ⟨?_, fun x10 E K => ?run⟩
  case run =>
    simp only [cc0_fox_attn_rowdot_eq_skeleton]
    unfold cc0_fox_attn_rowdot_skel
    simp only [k0_part1_eq_skeleton,
      k0_part2_eq_skeleton,
      k0_part3_eq_skeleton,
      k0_part4_eq_skeleton,
      k0_part5_eq_skeleton,
      k0_part6_eq_skeleton,
      k0_part7_eq_skeleton,
      k0_part8_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [HT0]; · iexact HT0
    iexact HT1

end Cert.Rowdot

end
-- ==== Proof.RowdotRunDiag.lean ====
/-
  The row-sum kernel's body at a later diagonal tile: the running sum is added to and written out.
-/
module

public import proofs.«01_k».proof.Proof.RowdotBody

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body stores at such a point, as lists of stored pieces for each buffer it writes, with the proof that it
    runs and leaves the other buffers as they were. -/
def runDiag (c : Dev nD) (i : grid0.Coords)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S8x256x128 .f32) (harg7 : arg7.IsWhole)
  (arg8 : Memref sig .tc .vmem S8x256x128 .f32) (harg8 : arg8.IsWhole)
  (arg9 : Memref sig .tc .vmem S8x256 .f32) (harg9 : arg9.IsWhole)
  (arg10 : Memref sig .tc .vmem S8x256x128 .f32) (harg10 : arg10.IsWhole)
  (arg11 : Memref sig .tc .vmem S8x256x128 .f32) (harg11 : arg11.IsWhole)
    (T0 : TabBuf (F := F) c tabI) (T1 : TabBuf (F := F) c tabJ)
    (h1 : ¬isStart (wordAt c tabJ T1 i)) (h2 : ¬isBelow (wordAt c tabI T0 i) (wordAt c tabJ T1 i))
    (h3 : isDiag (wordAt c tabI T0 i) (wordAt c tabJ T1 i)) (h4 : k0_cond4 (wordAt c tabI T0 i) (wordAt c tabJ T1 i) = 1#1)
    (x3 x4 x5 x6 : Vec F S256x512 .bf16) (x7 x8 : Vec F S8x256x128 .f32) (x9 : Vec F S8x256 .f32) (x11 : Vec F S8x256x128 .f32) :
    Σ' (L10 : List (View.Piece (Elt F) S8x256x128 .f32)), { L11 : List (View.Piece (Elt F) S8x256x128 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d)
            ∗ owns (c : Thread nD τ) arg11 fullShare x11
            ∗ tabHeld c tabI T0
            ∗ tabHeld c tabJ T1
            ∗ (iprop(owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ (∃ f, arg10.view.loc (c : Thread nD τ) ↦[arg10.view.set]{fullShare} arg10.view.writes (Elt F) f L10)
              ∗ (arg11.view.loc (c : Thread nD τ) ↦[arg11.view.set]{fullShare} arg11.view.writes (Elt F) (harg11.unread x11) L11)
              ∗ tabHeld c tabI T0
              ∗ tabHeld c tabJ T1) -∗ K ⟨⟩))
          ⊢ wp frame (wpE (defs₀ (F := F)) Variants.none c none) E
              (cc0_fox_attn_rowdot i tabI (Memref.isWhole_whole _) tabJ (Memref.isWhole_whole _) arg3 harg3 arg4 harg4 arg5 harg5 arg6 harg6 arg7 harg7 arg8 harg8 arg9 harg9 arg10 harg10 arg11 harg11) K } := by
  refine ⟨?_, ?_, fun E K => ?run⟩
  case run =>
    simp only [cc0_fox_attn_rowdot_eq_skeleton]
    unfold cc0_fox_attn_rowdot_skel
    simp only [k0_part9_eq_skeleton,
      k0_part10_eq_skeleton,
      k0_part11_eq_skeleton,
      k0_part12_eq_skeleton,
      k0_part13_eq_skeleton,
      k0_part14_eq_skeleton,
      k0_part15_eq_skeleton,
      k0_part16_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg11.eq_unread hf11
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexact H11
    isplitl [HT0]; · iexact HT0
    iexact HT1

end Cert.Rowdot

end
-- ==== Proof.RowdotSteps.lean ====
/-
  What the attention's row-sum kernel has computed after each grid point.
-/
module

public import proofs.«01_k».proof.Proof.RowdotEntry
public import proofs.«01_k».proof.Proof.RowdotRunBoth
public import proofs.«01_k».proof.Proof.RowdotRunStart
public import proofs.«01_k».proof.Proof.RowdotRunMiddle
public import proofs.«01_k».proof.Proof.RowdotRunDiag

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Each window's buffer at a point, as the body is handed it, and the running sum's buffer. -/

variable (F) in
abbrev stg0 (t : Fin grid0.N) : Memref sig .tc .vmem S256x512 .bf16 := spec0_0.stage ((cfgM (F := F)).slots t 0)
variable (F) in
abbrev hstg0 (t : Fin grid0.N) : (stg0 F t).IsWhole := hstage0_0 (((cfgM (F := F)).slots t 0).cast nbuf0_0)
variable (F) in
abbrev stg1 (t : Fin grid0.N) : Memref sig .tc .vmem S256x512 .bf16 := spec0_1.stage ((cfgM (F := F)).slots t 1)
variable (F) in
abbrev hstg1 (t : Fin grid0.N) : (stg1 F t).IsWhole := hstage0_1 (((cfgM (F := F)).slots t 1).cast nbuf0_1)
variable (F) in
abbrev stg2 (t : Fin grid0.N) : Memref sig .tc .vmem S256x512 .bf16 := spec0_2.stage ((cfgM (F := F)).slots t 2)
variable (F) in
abbrev hstg2 (t : Fin grid0.N) : (stg2 F t).IsWhole := hstage0_2 (((cfgM (F := F)).slots t 2).cast nbuf0_2)
variable (F) in
abbrev stg3 (t : Fin grid0.N) : Memref sig .tc .vmem S256x512 .bf16 := spec0_3.stage ((cfgM (F := F)).slots t 3)
variable (F) in
abbrev hstg3 (t : Fin grid0.N) : (stg3 F t).IsWhole := hstage0_3 (((cfgM (F := F)).slots t 3).cast nbuf0_3)
variable (F) in
abbrev stg4 (t : Fin grid0.N) : Memref sig .tc .vmem S8x256x128 .f32 := spec0_4.stage ((cfgM (F := F)).slots t 4)
variable (F) in
abbrev hstg4 (t : Fin grid0.N) : (stg4 F t).IsWhole := hstage0_4 (((cfgM (F := F)).slots t 4).cast nbuf0_4)
variable (F) in
abbrev stg5 (t : Fin grid0.N) : Memref sig .tc .vmem S8x256x128 .f32 := spec0_5.stage ((cfgM (F := F)).slots t 5)
variable (F) in
abbrev hstg5 (t : Fin grid0.N) : (stg5 F t).IsWhole := hstage0_5 (((cfgM (F := F)).slots t 5).cast nbuf0_5)
variable (F) in
abbrev stg6 (t : Fin grid0.N) : Memref sig .tc .vmem S8x256 .f32 := spec0_6.stage ((cfgM (F := F)).slots t 6)
variable (F) in
abbrev hstg6 (t : Fin grid0.N) : (stg6 F t).IsWhole := hstage0_6 (((cfgM (F := F)).slots t 6).cast nbuf0_6)
variable (F) in
abbrev stg7 (t : Fin grid0.N) : Memref sig .tc .vmem S8x256x128 .f32 := spec0_7.stage ((cfgM (F := F)).slots t 7)
variable (F) in
abbrev hstg7 (t : Fin grid0.N) : (stg7 F t).IsWhole := hstage0_7 (((cfgM (F := F)).slots t 7).cast nbuf0_7)
abbrev sumA : Memref sig .tc .vmem S8x256x128 .f32 := Memref.whole cc0_scratch0

/-- What the kernel has computed after a point: the result's block, and the running sum. -/
structure St (F : FTy → Type) where
  out : Vec F S8x256x128 .f32
  acc : Vec F S8x256x128 .f32

/-- What a buffer holds once stored pieces covering it are in, whatever it held before. -/
def viewA : View sig .tc .vmem S8x256x128 .f32 := (Memref.whole cc0_scratch0 : Memref sig .tc .vmem S8x256x128 .f32).view
def fullA (L : List (View.Piece (Elt F) S8x256x128 .f32)) : Vec F S8x256x128 .f32 := viewA.read (Elt F) (viewA.writes (Elt F) viewA.junk L)
/-- What a buffer that held `x` holds once stored pieces are in. -/
def onto {s : Shape} (M : Memref sig .tc .vmem s .f32) (hM : M.IsWhole) (x : Vec F s .f32) (L : List (View.Piece (Elt F) s .f32)) : Vec F s .f32 :=
  M.view.read (Elt F) (M.view.writes (Elt F) (hM.unread x) L)

/-- The body's run at the first point. -/
def atBoth (c : Dev nD) (t : Fin grid0.N) (hs : Start t) (hd : Diag t) :=
  runBoth (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) sumA (Memref.isWhole_whole _) (tbl 0) (tbl 1)
    ((start_iff t).mpr hs) (fun h => (below_iff t).mp h hd) ((diag_test t).mpr hd) ((cond4_iff t).mpr hd)
    (iblk m c 0 t) (iblk m c 1 t) (iblk m c 2 t) (iblk m c 3 t) (iblk m c 4 t) (iblk m c 5 t) (iblk m c 6 t)

theorem coverBoth_10 (c : Dev nD) (t : Fin grid0.N) (hs : Start t) (hd : Diag t) (y : S8x256x128.Idx) : ∃ pc ∈ (atBoth m c t hs hd).1, y ∈ pc.1.set :=
  View.cover_of_wholeMem (atBoth m c t hs hd).1 (by unfold atBoth runBoth; sl_whole_mem) y
theorem coverBoth_11 (c : Dev nD) (t : Fin grid0.N) (hs : Start t) (hd : Diag t) (y : S8x256x128.Idx) : ∃ pc ∈ (atBoth m c t hs hd).2.1, y ∈ pc.1.set :=
  View.cover_of_wholeMem (atBoth m c t hs hd).2.1 (by unfold atBoth runBoth; sl_whole_mem) y
def afterBoth (c : Dev nD) (t : Fin grid0.N) (hs : Start t) (hd : Diag t) : St F :=
  ⟨fullA (atBoth m c t hs hd).1,
    fullA (atBoth m c t hs hd).2.1⟩

/-- The body's run at the first tile of a later query tile. -/
def atStart (c : Dev nD) (t : Fin grid0.N) (hs : Start t) (hd : ¬Diag t) :=
  runStart (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) sumA (Memref.isWhole_whole _) (tbl 0) (tbl 1)
    ((start_iff t).mpr hs) ((below_iff t).mpr hd) (mt (diag_test t).mp hd) (mt (cond4_iff t).mp hd)
    (iblk m c 0 t) (iblk m c 1 t) (iblk m c 2 t) (iblk m c 3 t) (iblk m c 4 t) (iblk m c 5 t) (iblk m c 6 t)

theorem coverStart_11 (c : Dev nD) (t : Fin grid0.N) (hs : Start t) (hd : ¬Diag t) (y : S8x256x128.Idx) : ∃ pc ∈ (atStart m c t hs hd).1, y ∈ pc.1.set :=
  View.cover_of_wholeMem (atStart m c t hs hd).1 (by unfold atStart runStart; sl_whole_mem) y
def afterStart (c : Dev nD) (t : Fin grid0.N) (hs : Start t) (hd : ¬Diag t) (p : St F) : St F :=
  ⟨p.out,
    fullA (atStart m c t hs hd).1⟩

/-- The body's run at a later tile below the diagonal. -/
def atMiddle (c : Dev nD) (t : Fin grid0.N) (hs : ¬Start t) (hd : ¬Diag t) (p : St F) :=
  runMiddle (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) sumA (Memref.isWhole_whole _) (tbl 0) (tbl 1)
    (mt (start_iff t).mp hs) ((below_iff t).mpr hd) (mt (diag_test t).mp hd) (mt (cond4_iff t).mp hd)
    (iblk m c 0 t) (iblk m c 1 t) (iblk m c 2 t) (iblk m c 3 t) (iblk m c 4 t) (iblk m c 5 t) (iblk m c 6 t) p.acc

def afterMiddle (c : Dev nD) (t : Fin grid0.N) (hs : ¬Start t) (hd : ¬Diag t) (p : St F) : St F :=
  ⟨p.out,
    onto sumA (Memref.isWhole_whole _) p.acc (atMiddle m c t hs hd p).1⟩

/-- The body's run at a later diagonal tile. -/
def atDiag (c : Dev nD) (t : Fin grid0.N) (hs : ¬Start t) (hd : Diag t) (p : St F) :=
  runDiag (F := F) c (grid0.coords t) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) sumA (Memref.isWhole_whole _) (tbl 0) (tbl 1)
    (mt (start_iff t).mp hs) (fun h => (below_iff t).mp h hd) ((diag_test t).mpr hd) ((cond4_iff t).mpr hd)
    (iblk m c 0 t) (iblk m c 1 t) (iblk m c 2 t) (iblk m c 3 t) (iblk m c 4 t) (iblk m c 5 t) (iblk m c 6 t) p.acc

theorem coverDiag_10 (c : Dev nD) (t : Fin grid0.N) (hs : ¬Start t) (hd : Diag t) (p : St F) (y : S8x256x128.Idx) : ∃ pc ∈ (atDiag m c t hs hd p).1, y ∈ pc.1.set :=
  View.cover_of_wholeMem (atDiag m c t hs hd p).1 (by unfold atDiag runDiag; sl_whole_mem) y
def afterDiag (c : Dev nD) (t : Fin grid0.N) (hs : ¬Start t) (hd : Diag t) (p : St F) : St F :=
  ⟨fullA (atDiag m c t hs hd p).1,
    onto sumA (Memref.isWhole_whole _) p.acc (atDiag m c t hs hd p).2.1⟩

/-- What the kernel has computed after point `t`, from what it had computed before. -/
def step (c : Dev nD) (t : Fin grid0.N) (p : St F) : St F :=
  if hs : Start t then if hd : Diag t then afterBoth m c t hs hd else afterStart m c t hs hd p
  else if hd : Diag t then afterDiag m c t hs hd p else afterMiddle m c t hs hd p

/-- What the kernel has computed after the first `n + 1` points. -/
def done (c : Dev nD) : (n : ℕ) → n < grid0.N → St F
  | 0, h => step m c ⟨0, h⟩ ⟨fullA [], fullA []⟩
  | n + 1, h => step m c ⟨n + 1, h⟩ (done c n (Nat.lt_of_succ_lt h))

theorem done_both (c : Dev nD) (t : Fin grid0.N) (hs : Start t) (hd : Diag t) :
    done m c t.val t.isLt = afterBoth m c t hs hd := by
  have hz := both_zero t hs hd
  obtain ⟨n, h⟩ := t
  obtain rfl : n = 0 := hz
  unfold done step
  exact (dif_pos hs).trans (dif_pos hd)
theorem done_pos (c : Dev nD) (t : Fin grid0.N) (hz : ¬t.val = 0) :
    done m c t.val t.isLt = step m c t (done m c (t.val - 1) (Nat.lt_of_le_of_lt (Nat.sub_le _ _) t.isLt)) := by
  obtain ⟨n, h⟩ := t
  cases n with
  | zero => exact absurd rfl hz
  | succ n => rfl
theorem step_start (c : Dev nD) (t : Fin grid0.N) (hs : Start t) (hd : ¬Diag t) (p : St F) : step m c t p = afterStart m c t hs hd p :=
  (dif_pos hs).trans (dif_neg hd)
theorem step_middle (c : Dev nD) (t : Fin grid0.N) (hs : ¬Start t) (hd : ¬Diag t) (p : St F) : step m c t p = afterMiddle m c t hs hd p :=
  (dif_neg hs).trans (dif_neg hd)
theorem step_diag (c : Dev nD) (t : Fin grid0.N) (hs : ¬Start t) (hd : Diag t) (p : St F) : step m c t p = afterDiag m c t hs hd p :=
  (dif_neg hs).trans (dif_pos hd)

end Cert.Rowdot

end
-- ==== Proof.RowdotTile.lean ====
/-
  What the attention's row-sum kernel adds at one grid point, in terms of the blocks it reads: one head at a time,
  the same arithmetic for every head, with the causal mask on a diagonal tile and without it below.
-/
module

public import proofs.«01_k».proof.Proof.RowdotSteps

@[expose] public section

set_option maxRecDepth 16384

noncomputable section

namespace Cert.Rowdot

open Cert.Kernel6Ideal Cert.Kernel6Ideal.Gen Idealize.ShloMosaic Idealize.ShloMosaic.TcCoe Idealize.ShloMosaic.Tactic

variable {F : FTy → Type} [FloatOps F] [Named F]

/-! ## The arithmetic of a pair of heads -/

/-- The lanes of a pair's first head, and those of its second. -/
def lanesA : IVec S1x128 1 := cmpi .slt (iota .tc S1x128 32 [1] iota_S1x128_d1_w32) (broadcast S1x128 64#32)
def lanesB : IVec S1x128 1 := xori lanesA (constantI S1x128 1 1#1)

/-- A pair's columns with the other head's lanes zero. -/
def only (w : IVec S1x128 1) (x : Vec F S256x128 .bf16) : FVec F S256x128 .bf16 :=
  select (broadcastTo S256x128 (shapeCast S1x128 w shapeCasts_S1x128_S1x128) broadcasts_S1x128_S256x128)
    (shapeCast S256x128 x shapeCasts_S256x128_S256x128) (broadcast S256x128 (Scalar.ofBits .bf16 0x0000#16))

/-- A row value spread over 128 lanes, spread over the tile's 256 columns. -/
def wide (x : Vec F S1x256x128 .f32) : FVec F S256x256 .f32 :=
  concatenate S256x256 1 [⟨S256x128, shapeCast S256x128 x shapeCasts_S1x256x128_S256x128⟩, ⟨S256x128, shapeCast S256x128 x shapeCasts_S1x256x128_S256x128⟩]
    concatenates_S256x128_S256x128_S256x256_d1

/-- The causal mask of a diagonal tile, and the mask of a tile below the diagonal, which keeps everything. -/
def causal (x : FVec F S256x256 .f32) : FVec F S256x256 .f32 :=
  select (cmpi .sge (iota .tc S256x256 32 [0] iota_S256x256_d0_w32) (iota .tc S256x256 32 [1] iota_S256x256_d1_w32)) x
    (broadcast S256x256 (Named.named κ "mask" 0xF149F2CA#32))
def whole (x : FVec F S256x256 .f32) : FVec F S256x256 .f32 := x

/-- What a point reads for a pair of heads: the pair's columns of q, k, v and do, and for each head the rows' log-sum
    and gate sum, and the columns' gate sum. -/
structure Ops (F : FTy → Type) where
  q : Fin 4 → Vec F S256x128 .bf16
  k : Fin 4 → Vec F S256x128 .bf16
  v : Fin 4 → Vec F S256x128 .bf16
  o : Fin 4 → Vec F S256x128 .bf16
  ls : Fin 8 → Vec F S1x256x128 .f32
  cc : Fin 8 → Vec F S1x256x128 .f32
  cr : Fin 8 → Vec F S1x256 .f32

section
variable (mask : FVec F S256x256 .f32 → FVec F S256x256 .f32) (O : Ops F) (w : IVec S1x128 1) (p : Fin 4) (h : Fin 8)

/-- The logits of a head. -/
def logits : FVec F S256x256 .f32 :=
  mask (addf (matmul dot_S256x128_S256x128_S256x256_1_1_0_0_n_n none (only w (O.q p)) (shapeCast S256x128 (O.k p) shapeCasts_S256x128_S256x128) (constant S256x256 .f32 0x00000000#32))
    (subf (wide (O.cc h)) (broadcastTo S256x256 (shapeCast S1x256 (O.cr h) shapeCasts_S1x256_S1x256) broadcasts_S1x256_S256x256)))

/-- The attention weights of a head. -/
def weights : FVec F S256x256 .f32 := exp (subf (logits mask O w p h) (wide (O.ls h)))

/-- The weights times the products of do's rows and v's. -/
def dots : FVec F S256x256 .f32 :=
  mulf (weights mask O w p h)
    (matmul dot_S256x128_S256x128_S256x256_1_1_0_0_n_n none (only w (O.o p)) (shapeCast S256x128 (O.v p) shapeCasts_S256x128_S256x128) (constant S256x256 .f32 0x00000000#32))

end

/-- A head's lanes, and its place in its pair. -/
def lanesOf (h : Fin 8) : IVec S1x128 1 := if h.val % 2 = 0 then lanesA else lanesB
def pairOf (h : Fin 8) : Fin 4 := ⟨h.val / 2, by omega⟩

/-- What a head adds: the rows' sums, spread over 128 lanes. -/
def addD (mask : FVec F S256x256 .f32 → FVec F S256x256 .f32) (O : Ops F) (h : Fin 8) : FVec F S256x128 .f32 :=
  broadcastTo S256x128 (shapeCast S256x1 (multiReduction .add [1] S256 (dots mask O (lanesOf h) (pairOf h) h) 0x00000000#32 reduces_S256x256_S256 (.inl rfl) rfl) shapeCasts_S256_S256x1)
    broadcasts_S256x1_S256x128

/-! ## The pieces a point stores -/

theorem inb_lanes (p : Fin 4) : ∀ a, (![0, 128 * p.val] : Fin 2 → ℕ) a + S256x128.size a ≤ S256x512.size a := by revert p; decide
theorem inb_plane (h : Fin 8) : ∀ a, (![h.val, 0, 0] : Fin 3 → ℕ) a + S1x256x128.size a ≤ S8x256x128.size a := by revert h; decide
theorem inb_row (h : Fin 8) : ∀ a, (![h.val, 0] : Fin 2 → ℕ) a + S1x256.size a ≤ S8x256.size a := by revert h; decide

/-- A pair's columns, a head's plane and a head's row. -/
abbrev rectL (p : Fin 4) : Rect S256x512 := Rect.unit (s := S256x512) ![0, 128 * p.val] S256x128.size (inb_lanes p)
abbrev rectP (h : Fin 8) : Rect S8x256x128 := Rect.unit (s := S8x256x128) ![h.val, 0, 0] S1x256x128.size (inb_plane h)
abbrev rectR (h : Fin 8) : Rect S8x256 := Rect.unit (s := S8x256) ![h.val, 0] S1x256.size (inb_row h)

variable (m : (ℓ : Loc nD τ sig) → Buf (Elt F) ℓ) (c : Dev nD) (t : Fin grid0.N)

/-- What a point reads. -/
def opsAt : Ops F where
  q p := View.readAt (Elt F) (stg0 F t).view (rectL p).toLoadRect ((hstg0 F t).unread (iblk m c 0 t))
  k p := View.readAt (Elt F) (stg1 F t).view (rectL p).toLoadRect ((hstg1 F t).unread (iblk m c 1 t))
  v p := View.readAt (Elt F) (stg2 F t).view (rectL p).toLoadRect ((hstg2 F t).unread (iblk m c 2 t))
  o p := View.readAt (Elt F) (stg3 F t).view (rectL p).toLoadRect ((hstg3 F t).unread (iblk m c 3 t))
  ls h := View.readAt (Elt F) (stg4 F t).view (rectP h).toLoadRect ((hstg4 F t).unread (iblk m c 4 t))
  cc h := View.readAt (Elt F) (stg5 F t).view (rectP h).toLoadRect ((hstg5 F t).unread (iblk m c 5 t))
  cr h := View.readAt (Elt F) (stg6 F t).view (rectR h).toLoadRect ((hstg6 F t).unread (iblk m c 6 t))

/-- The sum stored for a head's plane. -/
def sumP (old : FVec F S1x256x128 .f32) (add : FVec F S256x128 .f32) : FVec F S1x256x128 .f32 :=
  shapeCast S1x256x128 (addf (shapeCast S256x128 old shapeCasts_S1x256x128_S256x128) add) shapeCasts_S256x128_S1x256x128

/-- The pieces of a running sum that held `x`. -/
def piecesP (M : Memref sig .tc .vmem S8x256x128 .f32) (hM : M.IsWhole) (x : Vec F S8x256x128 .f32) (g : Fin 8 → FVec F S256x128 .f32) : List (View.Piece (Elt F) S8x256x128 .f32) :=
  let at_ (p : Fin 8) : View.Piece (Elt F) S8x256x128 .f32 := ⟨rectP p, sumP (View.readAt (Elt F) M.view (rectP p).toLoadRect (hM.unread x)) (g p)⟩
  [at_ 7, at_ 6, at_ 5, at_ 4, at_ 3, at_ 2, at_ 1, at_ 0]

/-- The pieces of a running sum that the point clears first. -/
def nextP (M : Memref sig .tc .vmem S8x256x128 .f32) (g : Fin 8 → FVec F S256x128 .f32) (p : Fin 8) (L : List (View.Piece (Elt F) S8x256x128 .f32)) : List (View.Piece (Elt F) S8x256x128 .f32) :=
  ⟨rectP p, sumP (M.view.readCov L (rectP p).toLoadRect) (g p)⟩ :: L
def clearedP (M : Memref sig .tc .vmem S8x256x128 .f32) (z : FVec F S8x256x128 .f32) (g : Fin 8 → FVec F S256x128 .f32) : List (View.Piece (Elt F) S8x256x128 .f32) :=
  nextP M g 7 (nextP M g 6 (nextP M g 5 (nextP M g 4 (nextP M g 3 (nextP M g 2 (nextP M g 1 (nextP M g 0 [⟨Rect.unit ![0, 0, 0] S8x256x128.size inb_S8x256x128_S8x256x128_0_0_0, z⟩])))))))

/-- A block that is a copy of a running sum. -/
def copyP (x : Vec F S8x256x128 .f32) : List (View.Piece (Elt F) S8x256x128 .f32) := [⟨Rect.unit ![0, 0, 0] S8x256x128.size inb_S8x256x128_S8x256x128_0_0_0, x⟩]
abbrev allP : LoadRect S8x256x128 := (Rect.unit (s := S8x256x128) ![0, 0, 0] S8x256x128.size inb_S8x256x128_S8x256x128_0_0_0).toLoadRect

theorem both_11 (hs : Start t) (hd : Diag t) : (atBoth m c t hs hd).2.1 = clearedP sumA k0_pay1 (addD causal (opsAt m c t)) := by sl_kernel_rfl
theorem both_10 (hs : Start t) (hd : Diag t) : (atBoth m c t hs hd).1 = copyP (sumA.view.readCov (clearedP sumA k0_pay1 (addD causal (opsAt m c t))) allP) := by sl_kernel_rfl
theorem start_11 (hs : Start t) (hd : ¬Diag t) : (atStart m c t hs hd).1 = clearedP sumA k0_pay1 (addD whole (opsAt m c t)) := by sl_kernel_rfl
theorem middle_11 (hs : ¬Start t) (hd : ¬Diag t) (p : St F) : (atMiddle m c t hs hd p).1 = piecesP sumA (Memref.isWhole_whole _) p.acc (addD whole (opsAt m c t)) := by sl_kernel_rfl
theorem diag_11 (hs : ¬Start t) (hd : Diag t) (p : St F) : (atDiag m c t hs hd p).2.1 = piecesP sumA (Memref.isWhole_whole _) p.acc (addD causal (opsAt m c t)) := by sl_kernel_rfl
theorem diag_10 (hs : ¬Start t) (hd : Diag t) (p : St F) : (atDiag m c t hs hd p).1 = copyP (sumA.view.readCov (piecesP sumA (Memref.isWhole_whole _) p.acc (addD causal (opsAt m c t))) allP) := by sl_kernel_rfl

end Cert.Rowdot

end
-- ==== Proof.RowdotSums.lean ====
/-
  What the buffers of the attention's row-sum kernel hold once a point's pieces are in: the old contents plus what the
  point adds, place by place.
-/
module

public import proofs.«01_k».proof.Proof.RowdotTile
public import proofs.«01_k».proof.Proof.Reals
public import Idealize.ShloMosaic.Lib.Pipeline.ValueKit
public import Idealize.ShloMosaic.Lib.WritesUnit
public import Idealize.ShloMosaic.Lib.VecWindow

@[expose] public section

set_option maxRecDepth 16384

noncomputable section

namespace Cert.Rowdot

open Cert.Kernel6Ideal Cert.Kernel6Ideal.Gen Idealize.ShloMosaic Idealize.ShloMosaic.TcCoe Idealize.ShloMosaic.Tactic

/-! ## One piece -/

section
variable {s : Shape} (v : View sig .tc .vmem s .f32) (f : v.ty.Contents (Elt Ideal)) {off size : Fin s.rank → ℕ} (inb : ∀ a, off a + size a ≤ s.size a)

/-- A piece elsewhere changes nothing. -/
theorem away (w : (Rect.unit off size inb).shape.Idx → Elt Ideal .f32) (L : List (View.Piece (Elt Ideal) s .f32)) (y : s.Idx) (a : Fin s.rank)
    (h : (y a).val < off a ∨ off a + size a ≤ (y a).val) :
    v.read (Elt Ideal) (v.writes (Elt Ideal) f (⟨Rect.unit off size inb, w⟩ :: L)) y = v.read (Elt Ideal) (v.writes (Elt Ideal) f L) y :=
  View.read_writes_cons_unit_of_not_mem v f inb w L y rfl a h

/-- A piece at the place. -/
theorem here (w : (Rect.unit off size inb).shape.Idx → Elt Ideal .f32) (L : List (View.Piece (Elt Ideal) s .f32)) (y : s.Idx)
    (x : (Rect.unit off size inb).shape.Idx) (h : ∀ a, (y a).val = off a + (x a).val) :
    v.read (Elt Ideal) (v.writes (Elt Ideal) f (⟨Rect.unit off size inb, w⟩ :: L)) y = w x :=
  View.read_writes_cons_unit_of_mem v f inb w L y x rfl h

end

theorem sumP_apply (old : FVec Ideal S1x256x128 .f32) (add : FVec Ideal S256x128 .f32) (r : Fin 256) (l : Fin 128) :
    sumP old add (ix3 0 r l) = (old (ix3 0 r l) + add (ix2 r l) : EReal) := by
  unfold sumP
  pointwise

/-! ## A pair's columns -/

/-- Lane `l` of pair `p`. -/
def col (p : Fin 4) (l : Fin 128) : Fin 512 := ⟨128 * p.val + l.val, by omega⟩

theorem col_surj (j : Fin 512) : ∃ p l, j = col p l :=
  ⟨⟨j.val / 128, by omega⟩, ⟨j.val % 128, by omega⟩, Fin.ext (by show _ = 128 * (j.val / 128) + j.val % 128; omega)⟩

section
variable (M : Memref sig .tc .vmem S256x512 .bf16) (f : M.view.ty.Contents (Elt Ideal)) (p' p : Fin 4) (r : Fin 256) (l : Fin 128)

theorem loadL (X : M.view.ty.Contents (Elt Ideal)) : View.readAt (Elt Ideal) M.view (rectL p).toLoadRect X (ix2 r l) = M.view.read (Elt Ideal) X (ix2 r (col p l)) := by
  rw [View.readAt_apply]
  congr 1
  funext a
  apply Fin.ext
  match a with
  | ⟨0, _⟩ => show 0 + 1 * r.val = r.val; omega
  | ⟨1, _⟩ => show 128 * p.val + 1 * l.val = 128 * p.val + l.val; omega

end

/-! ## A head's row -/

section
variable (M : Memref sig .tc .vmem S8x256 .f32) (f : M.view.ty.Contents (Elt Ideal)) (p' p : Fin 8) (l : Fin 256)

theorem loadR (X : M.view.ty.Contents (Elt Ideal)) : View.readAt (Elt Ideal) M.view (rectR p).toLoadRect X (ix2 0 l) = M.view.read (Elt Ideal) X (ix2 p l) := by
  rw [View.readAt_apply]
  congr 1
  funext a
  apply Fin.ext
  match a with
  | ⟨0, _⟩ => show p.val + 1 * 0 = p.val; omega
  | ⟨1, _⟩ => show 0 + 1 * l.val = l.val; omega

end

/-! ## A head's plane -/

section
variable (M : Memref sig .tc .vmem S8x256x128 .f32) (f : M.view.ty.Contents (Elt Ideal)) (p' p : Fin 8) (r : Fin 256) (l : Fin 128)

theorem pieceP (w : FVec Ideal S1x256x128 .f32) (L : List (View.Piece (Elt Ideal) S8x256x128 .f32)) :
    M.view.read (Elt Ideal) (M.view.writes (Elt Ideal) f (⟨rectP p', w⟩ :: L)) (ix3 p r l)
      = if p' = p then w (ix3 0 r l) else M.view.read (Elt Ideal) (M.view.writes (Elt Ideal) f L) (ix3 p r l) := by
  by_cases e : p' = p
  · subst e
    rw [if_pos rfl]
    refine here M.view f (inb_plane p') w L _ (ix3 0 r l) fun a => ?_
    match a with
    | ⟨0, _⟩ => rfl
    | ⟨1, _⟩ => exact (Nat.zero_add _).symm
    | ⟨2, _⟩ => exact (Nat.zero_add _).symm
  · rw [if_neg e]
    refine away M.view f (inb_plane p') w L _ 0 ?_
    have : p'.val ≠ p.val := fun h => e (Fin.ext h)
    show p.val < p'.val ∨ p'.val + 1 ≤ p.val
    omega

theorem loadP (X : M.view.ty.Contents (Elt Ideal)) : View.readAt (Elt Ideal) M.view (rectP p).toLoadRect X (ix3 0 r l) = M.view.read (Elt Ideal) X (ix3 p r l) := by
  rw [View.readAt_apply]
  congr 1
  funext a
  apply Fin.ext
  match a with
  | ⟨0, _⟩ => show p.val + 1 * 0 = p.val; omega
  | ⟨1, _⟩ => show 0 + 1 * r.val = r.val; omega
  | ⟨2, _⟩ => show 0 + 1 * l.val = l.val; omega

theorem nextP_at (g : Fin 8 → FVec Ideal S256x128 .f32) (L : List (View.Piece (Elt Ideal) S8x256x128 .f32)) :
    M.view.read (Elt Ideal) (M.view.writes (Elt Ideal) M.view.junk (nextP M g p' L)) (ix3 p r l)
      = if p' = p then (M.view.read (Elt Ideal) (M.view.writes (Elt Ideal) M.view.junk L) (ix3 p r l) + g p (ix2 r l) : EReal)
        else M.view.read (Elt Ideal) (M.view.writes (Elt Ideal) M.view.junk L) (ix3 p r l) := by
  unfold nextP
  rw [pieceP]
  by_cases e : p' = p
  · subst e
    rw [if_pos rfl, if_pos rfl, sumP_apply]
    exact congrArg (· + (g p' (ix2 r l) : EReal)) (loadP M p' r l _)
  · rw [if_neg e, if_neg e]

/-- A running sum cleared at the point holds what the point adds. -/
theorem clearedP_at (z : FVec Ideal S8x256x128 .f32) (hz : ∀ y, z y = (0 : EReal)) (g : Fin 8 → FVec Ideal S256x128 .f32) :
    M.view.read (Elt Ideal) (M.view.writes (Elt Ideal) M.view.junk (clearedP M z g)) (ix3 p r l) = g p (ix2 r l) := by
  have e := hz (ix3 p r l)
  unfold clearedP
  iterate 8 rw [nextP_at]
  rw [View.read_writes_full]
  refine Eq.trans ?_ ((congrArg (· + (g p (ix2 r l) : EReal)) e).trans (zero_add _))
  match p with
  | 0 => rfl
  | 1 => rfl
  | 2 => rfl
  | 3 => rfl
  | 4 => rfl
  | 5 => rfl
  | 6 => rfl
  | 7 => rfl

/-- A running sum kept at the point holds its old value plus what the point adds. -/
theorem piecesP_at (hM : M.IsWhole) (x : Vec Ideal S8x256x128 .f32) (g : Fin 8 → FVec Ideal S256x128 .f32) :
    M.view.read (Elt Ideal) (M.view.writes (Elt Ideal) f (piecesP M hM x g)) (ix3 p r l) = (x (ix3 p r l) + g p (ix2 r l) : EReal) := by
  have e : sumP (View.readAt (Elt Ideal) M.view (rectP p).toLoadRect (hM.unread x)) (g p) (ix3 0 r l) = (x (ix3 p r l) + g p (ix2 r l) : EReal) := by
    rw [sumP_apply]
    refine congrArg (· + (g p (ix2 r l) : EReal)) ?_
    rw [loadP, hM.read_unread]
  unfold piecesP
  dsimp only
  iterate 8 rw [pieceP]
  refine Eq.trans ?_ e
  match p with
  | 0 => rfl
  | 1 => rfl
  | 2 => rfl
  | 3 => rfl
  | 4 => rfl
  | 5 => rfl
  | 6 => rfl
  | 7 => rfl

/-- A copy of a whole buffer holds the buffer. -/
theorem copyP_at (M N : Memref sig .tc .vmem S8x256x128 .f32) (L : List (View.Piece (Elt Ideal) S8x256x128 .f32)) :
    N.view.read (Elt Ideal) (N.view.writes (Elt Ideal) N.view.junk (copyP (M.view.readCov L allP))) = M.view.read (Elt Ideal) (M.view.writes (Elt Ideal) M.view.junk L) := by
  unfold copyP
  rw [View.read_writes_full]
  exact View.readAt_full _ _ _

end

/-! ## Tiles and rows -/

/-- The point's query tile and key tile. -/
def qi (t : Fin grid0.N) : Fin 8 := ⟨(qTile (grid0.coords t)).toNat, by revert t; decide +kernel⟩
def ki (t : Fin grid0.N) : Fin 8 := ⟨(kTile (grid0.coords t)).toNat, by revert t; decide +kernel⟩

/-- Row `r` of tile `i`. -/
def row (i : Fin 8) (r : Fin 256) : Fin 2048 := ⟨256 * i.val + r.val, by omega⟩

theorem row_surj (j : Fin 2048) : ∃ i r, j = row i r :=
  ⟨⟨j.val / 256, by omega⟩, ⟨j.val % 256, by omega⟩, Fin.ext (by show _ = 256 * (j.val / 256) + j.val % 256; omega)⟩

end Cert.Rowdot

end
-- ==== Proof.RowdotFold.lean ====
/-
  What the attention's row-sum kernel has added up after each point: over its query tile's points so far, the rows'
  sums.
-/
module

public import proofs.«01_k».proof.Proof.RowdotSums
public import proofs.«01_k».proof.Proof.AttnReal

@[expose] public section

set_option maxRecDepth 16384

noncomputable section

namespace Cert.Rowdot

open Cert.Attn (zero_lit)
open Cert.Kernel6Ideal Cert.Kernel6Ideal.Gen Idealize.ShloMosaic Idealize.ShloMosaic.TcCoe Idealize.ShloMosaic.Tactic

variable (m : (ℓ : Loc nD τ sig) → Buf (Elt Ideal) ℓ) (c : Dev nD)

/-- The mask a point uses. -/
def maskAt (t : Fin grid0.N) : FVec Ideal S256x256 .f32 → FVec Ideal S256x256 .f32 := if Diag t then causal else whole

/-- What a point adds. -/
def addAt (t : Fin grid0.N) : Fin 8 → FVec Ideal S256x128 .f32 := addD (maskAt t) (opsAt m c t)

theorem pay1_zero (y : S8x256x128.Idx) : k0_pay1 (F := Ideal) y = (0 : EReal) := zero_lit

abbrev prev (t : Fin grid0.N) : St Ideal := done m c (t.val - 1) (Nat.lt_of_le_of_lt (Nat.sub_le _ _) t.isLt)

/-! ## One point -/

section
variable (t : Fin grid0.N) (h : Fin 8) (r : Fin 256) (l : Fin 128)

theorem acc_start (hs : Start t) : (done m c t.val t.isLt).acc (ix3 h r l) = addAt m c t h (ix2 r l) := by
  unfold addAt maskAt
  by_cases hd : Diag t
  · rw [if_pos hd, done_both m c t hs hd]
    unfold afterBoth
    dsimp only
    rw [both_11]
    exact clearedP_at sumA h r l _ pay1_zero _
  · have hz : ¬t.val = 0 := fun h => hd (zero_diag t h)
    rw [if_neg hd, done_pos m c t hz, step_start m c t hs hd]
    unfold afterStart
    dsimp only
    rw [start_11]
    exact clearedP_at sumA h r l _ pay1_zero _

theorem acc_next (hs : ¬Start t) : (done m c t.val t.isLt).acc (ix3 h r l) = ((prev m c t).acc (ix3 h r l) + addAt m c t h (ix2 r l) : EReal) := by
  have hz : ¬t.val = 0 := fun h => hs (zero_start t h)
  unfold addAt maskAt
  rw [done_pos m c t hz]
  by_cases hd : Diag t
  · rw [if_pos hd, step_diag m c t hs hd]
    unfold afterDiag
    dsimp only
    rw [diag_11]
    exact piecesP_at sumA _ h r l _ _ _
  · rw [if_neg hd, step_middle m c t hs hd]
    unfold afterMiddle
    dsimp only
    rw [middle_11]
    exact piecesP_at sumA _ h r l _ _ _

theorem out_both (hs : Start t) (hd : Diag t) : (done m c t.val t.isLt).out (ix3 h r l) = addAt m c t h (ix2 r l) := by
  unfold addAt maskAt
  rw [if_pos hd, done_both m c t hs hd]
  unfold afterBoth
  dsimp only
  rw [both_10]
  exact (congrFun (copyP_at sumA sumA _) _).trans (clearedP_at sumA h r l _ pay1_zero _)
theorem out_next (hs : ¬Start t) (hd : Diag t) : (done m c t.val t.isLt).out (ix3 h r l) = ((prev m c t).acc (ix3 h r l) + addAt m c t h (ix2 r l) : EReal) := by
  have hz : ¬t.val = 0 := fun h => hs (zero_start t h)
  unfold addAt maskAt
  rw [if_pos hd, done_pos m c t hz, step_diag m c t hs hd]
  unfold afterDiag
  dsimp only
  rw [diag_10]
  exact (congrFun (copyP_at sumA sumA _) _).trans (piecesP_at sumA _ h r l _ _ _)
/-- At a diagonal tile the result's block is the running sum. -/
theorem out_diag (hd : Diag t) : (done m c t.val t.isLt).out (ix3 h r l) = (done m c t.val t.isLt).acc (ix3 h r l) := by
  by_cases hs : Start t
  · exact (out_both m c t h r l hs hd).trans (acc_start m c t h r l hs).symm
  · exact (out_next m c t h r l hs hd).trans (acc_next m c t h r l hs).symm

end

/-! ## All points -/

theorem nPoints : grid0.N = 36 := N_0

/-- Adding one more point to a sum over the points so far. -/
theorem sum_upto (f : Fin grid0.N → EReal) (t : Fin grid0.N) (P : Fin grid0.N → Prop) [DecidablePred P] :
    (∑ u : Fin grid0.N, if u.val ≤ t.val ∧ P u then f u else 0)
      = (∑ u : Fin grid0.N, if u.val < t.val ∧ P u then f u else 0) + (if P t then f t else 0) := by
  have e : (if P t then f t else 0) = ∑ u : Fin grid0.N, if u = t then (if P u then f u else 0) else (0 : EReal) := by
    rw [Finset.sum_ite_eq' Finset.univ t, if_pos (Finset.mem_univ _)]
  rw [e, ← Finset.sum_add_distrib]
  refine Finset.sum_congr rfl fun u _ => ?_
  by_cases hu : u = t
  · subst hu
    simp
  · have : u.val ≤ t.val ↔ u.val < t.val := ⟨fun h => lt_of_le_of_ne h fun e => hu (Fin.ext e), le_of_lt⟩
    rw [if_neg hu, add_zero]
    simp only [this]

theorem qi_prev : ∀ t : Fin grid0.N, ¬Start t → ∀ u : Fin grid0.N, (u.val < t.val ∧ qi u = qi t) ↔ (u.val ≤ t.val - 1 ∧ qi u = qi ⟨t.val - 1, Nat.lt_of_le_of_lt (Nat.sub_le _ _) t.isLt⟩) := by
  decide +kernel
theorem qi_new : ∀ t : Fin grid0.N, Start t → ∀ u : Fin grid0.N, ¬(u.val < t.val ∧ qi u = qi t) := by decide +kernel

/-- A running sum that a query tile's first tile starts: the query tile's points so far. -/
theorem running_sum (x f : Fin grid0.N → EReal) (hd : ∀ t, Start t → x t = f t)
    (hn : ∀ t, ¬Start t → x t = x ⟨t.val - 1, Nat.lt_of_le_of_lt (Nat.sub_le _ _) t.isLt⟩ + f t) (t : Fin grid0.N) :
    x t = ∑ u : Fin grid0.N, if u.val ≤ t.val ∧ qi u = qi t then f u else 0 := by
  obtain ⟨n, h⟩ := t
  induction n with
  | zero =>
    have d := zero_start ⟨0, h⟩ rfl
    rw [hd _ d, sum_upto f ⟨0, h⟩ (fun u => qi u = qi ⟨0, h⟩), Finset.sum_eq_zero (fun u _ => if_neg (qi_new _ d u)), zero_add, if_pos rfl]
  | succ n ih =>
    by_cases d : Start ⟨n + 1, h⟩
    · rw [hd _ d, sum_upto f ⟨n + 1, h⟩ (fun u => qi u = qi ⟨n + 1, h⟩), Finset.sum_eq_zero (fun u _ => if_neg (qi_new _ d u)), zero_add, if_pos rfl]
    · rw [hn _ d, sum_upto f ⟨n + 1, h⟩ (fun u => qi u = qi ⟨n + 1, h⟩), if_pos rfl]
      refine congrArg (· + _) ((ih (Nat.lt_of_succ_lt h)).trans ?_)
      exact Finset.sum_congr rfl fun u _ => if_congr (qi_prev _ d u).symm rfl rfl

theorem upto_diag : ∀ t : Fin grid0.N, Diag t → ∀ u : Fin grid0.N, (u.val ≤ t.val ∧ qi u = qi t) ↔ qi u = qi t := by decide +kernel

theorem out_sum (t : Fin grid0.N) (hd : Diag t) (h : Fin 8) (r : Fin 256) (l : Fin 128) :
    (done m c t.val t.isLt).out (ix3 h r l) = (∑ u : Fin grid0.N, if qi u = qi t then addAt m c u h (ix2 r l) else (0 : EReal) : EReal) := by
  refine (out_diag m c t h r l hd).trans ((running_sum (fun t => (done m c t.val t.isLt).acc (ix3 h r l)) (fun t => addAt m c t h (ix2 r l))
    (fun t => acc_start m c t h r l) (fun t => acc_next m c t h r l) t).trans ?_)
  exact Finset.sum_congr rfl fun u _ => if_congr (upto_diag t hd u) rfl rfl

/-! ## From points to tiles -/

theorem tiles_le : ∀ u : Fin grid0.N, ki u ≤ qi u := by decide +kernel
theorem diag_iff : ∀ u : Fin grid0.N, Diag u ↔ qi u = ki u := by decide +kernel
/-- The point of a tile. -/
theorem point_of : ∀ i j : Fin 8, j ≤ i → ∃ u : Fin grid0.N, (qi u = i ∧ ki u = j) ∧ ∀ v : Fin grid0.N, qi v = i ∧ ki v = j → v = u := by decide +kernel

theorem sum_point (i j : Fin 8) (a : EReal) : (∑ u : Fin grid0.N, if qi u = i ∧ ki u = j then a else 0) = if j ≤ i then a else 0 := by
  by_cases h : j ≤ i
  · obtain ⟨u, hu, huniq⟩ := point_of i j h
    rw [if_pos h, Finset.sum_eq_single u, if_pos hu]
    · intro v _ hv
      exact if_neg fun h' => hv (huniq v h')
    · intro h'; exact absurd (Finset.mem_univ _) h'
  · rw [if_neg h, Finset.sum_eq_zero]
    intro u _
    refine if_neg fun h' => h ?_
    rw [← h'.1, ← h'.2]
    exact tiles_le u

/-- The points of a query tile, key tile by key tile. -/
theorem sum_row (f : Fin 8 → Fin 8 → EReal) (i : Fin 8) : (∑ u : Fin grid0.N, if qi u = i then f (qi u) (ki u) else 0) = ∑ j : Fin 8, if j ≤ i then f i j else 0 := by
  have e : ∀ u : Fin grid0.N, (if qi u = i then f (qi u) (ki u) else 0) = ∑ j : Fin 8, if qi u = i ∧ ki u = j then f i j else 0 := fun u => by
    by_cases h : qi u = i
    · subst h
      simp
    · simp [h]
  rw [Finset.sum_congr rfl fun u _ => e u, Finset.sum_comm]
  exact Finset.sum_congr rfl fun j _ => sum_point i j _

end Cert.Rowdot

end
-- ==== Proof.RowdotPoint.lean ====
/-
  The arithmetic of a pair of heads at one point, over the reals.
-/
module

public import proofs.«01_k».proof.Proof.RowdotFold

@[expose] public section

set_option maxRecDepth 16384

noncomputable section

namespace Cert.Rowdot

open Cert.Attn (select_one)
open Cert.Kernel6Ideal Cert.Kernel6Ideal.Gen Idealize.ShloMosaic Idealize.ShloMosaic.TcCoe Idealize.ShloMosaic.Tactic

/-! ## The heads of a pair -/

/-- Whether a lane of the pair is the head's own. -/
def mine (h : Fin 8) (l : Fin 128) : Prop := l.val / 64 = h.val % 2
instance (h : Fin 8) (l : Fin 128) : Decidable (mine h l) := inferInstanceAs (Decidable (_ = _))
/-- The head's own lanes. -/
def lane (h : Fin 8) (d : Fin 64) : Fin 128 := ⟨64 * (h.val % 2) + d.val, by omega⟩

theorem lane_mine (h : Fin 8) (d : Fin 64) : mine h (lane h d) := by
  show (64 * (h.val % 2) + d.val) / 64 = h.val % 2
  omega

/-- A sum over the head's own lanes. -/
theorem sum_mine {A : Type} [AddCommMonoid A] (h : Fin 8) (f : Fin 128 → A) : (∑ l, if mine h l then f l else 0) = ∑ d, f (lane h d) := by
  rw [← Finset.sum_filter]
  refine (Finset.sum_bij (fun d _ => lane h d) (fun d _ => ?_) (fun a _ b _ e => ?_) (fun l hl => ?_) (fun _ _ => rfl)).symm
  · exact Finset.mem_filter.mpr ⟨Finset.mem_univ _, lane_mine h d⟩
  · have := congrArg Fin.val e
    exact Fin.ext (by change 64 * (h.val % 2) + a.val = 64 * (h.val % 2) + b.val at this; omega)
  · have hm : l.val / 64 = h.val % 2 := (Finset.mem_filter.mp hl).2
    exact ⟨⟨l.val % 64, by omega⟩, Finset.mem_univ _, Fin.ext (by show 64 * (h.val % 2) + l.val % 64 = l.val; omega)⟩

theorem lanesA_at (l : Fin 128) : lanesA (ix2 0 l) = if l.val < 64 then 1#1 else 0#1 := by
  unfold lanesA
  pointwise
  revert l
  decide +kernel
theorem lanesB_at (l : Fin 128) : lanesB (ix2 0 l) = if l.val < 64 then 0#1 else 1#1 := by
  unfold lanesB
  pointwise
  rw [lanesA_at]
  split <;> rfl
theorem lanesOf_at (h : Fin 8) (l : Fin 128) : lanesOf h (ix2 0 l) = if mine h l then 1#1 else 0#1 := by
  unfold lanesOf
  by_cases e : h.val % 2 = 0
  · rw [if_pos e, lanesA_at]
    exact if_congr (show l.val < 64 ↔ l.val / 64 = h.val % 2 by omega) rfl rfl
  · rw [if_neg e, lanesB_at]
    by_cases g : l.val < 64
    · rw [if_pos g, if_neg (show ¬mine h l by unfold mine; omega)]
    · rw [if_neg g, if_pos (show mine h l by unfold mine; omega)]

theorem only_at (h : Fin 8) (x : Vec Ideal S256x128 .bf16) (r : Fin 256) (l : Fin 128) :
    only (lanesOf h) x (ix2 r l) = (if mine h l then (x (ix2 r l) : EReal) else 0) := by
  unfold only
  pointwise
  rw [lanesOf_at]
  exact select_one _ _ _

theorem wide_at (x : Vec Ideal S1x256x128 .f32) (y : Fin 256 → ℝ) (hx : ∀ r l, x (ix3 0 r l) = ((y r : ℝ) : EReal)) (r s : Fin 256) : wide x (ix2 r s) = ((y r : ℝ) : EReal) := by
  unfold wide
  pointwise
  by_cases g : s.val < 128
  · rw [dif_pos g]; exact hx _ _
  · rw [dif_neg g]; exact hx _ _

/-! ## The masks -/

theorem sge_iff (r s : Fin 256) : IntOp.cmpi CmpIPredicate.sge (BitVec.ofNat 32 r.val) (BitVec.ofNat 32 s.val) = if s.val ≤ r.val then 1#1 else 0#1 := by
  have hr : (BitVec.ofNat 32 r.val).toInt = r.val := by
    rw [BitVec.toInt_eq_toNat_of_lt (by rw [BitVec.toNat_ofNat]; omega), BitVec.toNat_ofNat]; omega
  have hs : (BitVec.ofNat 32 s.val).toInt = s.val := by
    rw [BitVec.toInt_eq_toNat_of_lt (by rw [BitVec.toNat_ofNat]; omega), BitVec.toNat_ofNat]; omega
  unfold IntOp.cmpi
  simp only [BitVec.sle, hr, hs]
  by_cases g : s.val ≤ r.val
  · simp [g]
  · simp [g]

/-- What a mask keeps. -/
def Keeps (mask : FVec Ideal S256x256 .f32 → FVec Ideal S256x256 .f32) (keep : Fin 256 → Fin 256 → Prop) [∀ r s, Decidable (keep r s)] : Prop :=
  ∀ x r s, mask x (ix2 r s) = if keep r s then (x (ix2 r s) : EReal) else ⊥

theorem keeps_causal : Keeps causal fun r s => s.val ≤ r.val := fun x r s => by
  unfold causal
  pointwise
  rw [sge_iff]
  exact select_one _ _ _
theorem keeps_whole : Keeps whole fun r s => True := fun x r s => (if_pos trivial).symm

/-! ## A point's reads and arithmetic over the reals -/

structure Point where
  q : Fin 4 → Fin 256 → Fin 128 → ℝ
  k : Fin 4 → Fin 256 → Fin 128 → ℝ
  v : Fin 4 → Fin 256 → Fin 128 → ℝ
  o : Fin 4 → Fin 256 → Fin 128 → ℝ
  ls : Fin 8 → Fin 256 → ℝ
  cc : Fin 8 → Fin 256 → ℝ
  cr : Fin 8 → Fin 256 → ℝ

/-- What a point reads is real. -/
structure Holds (O : Ops Ideal) (X : Point) : Prop where
  q : ∀ p r l, O.q p (ix2 r l) = ((X.q p r l : ℝ) : EReal)
  k : ∀ p r l, O.k p (ix2 r l) = ((X.k p r l : ℝ) : EReal)
  v : ∀ p r l, O.v p (ix2 r l) = ((X.v p r l : ℝ) : EReal)
  o : ∀ p r l, O.o p (ix2 r l) = ((X.o p r l : ℝ) : EReal)
  ls : ∀ h r l, O.ls h (ix3 0 r l) = ((X.ls h r : ℝ) : EReal)
  cc : ∀ h r l, O.cc h (ix3 0 r l) = ((X.cc h r : ℝ) : EReal)
  cr : ∀ h s, O.cr h (ix2 0 s) = ((X.cr h s : ℝ) : EReal)

section
variable (X : Point) (keep : Fin 256 → Fin 256 → Prop) [∀ r s, Decidable (keep r s)] (h : Fin 8)

def Point.logit (r s : Fin 256) : ℝ := (∑ d : Fin 64, X.q (pairOf h) r (lane h d) * X.k (pairOf h) s (lane h d)) + (X.cc h r - X.cr h s)
def Point.weight (r s : Fin 256) : ℝ := if keep r s then Real.exp (X.logit h r s - X.ls h r) else 0
def Point.dots (r s : Fin 256) : ℝ := X.weight keep h r s * ∑ d : Fin 64, X.o (pairOf h) r (lane h d) * X.v (pairOf h) s (lane h d)

variable {mask : FVec Ideal S256x256 .f32 → FVec Ideal S256x256 .f32} {O : Ops Ideal} {X} {keep} (hO : Holds O X) (hm : Keeps mask keep)
include hO

/-- A head's product over its own lanes. -/
theorem dot_real (x y : Vec Ideal S256x128 .bf16) (a b : Fin 256 → Fin 128 → ℝ) (hx : ∀ r l, x (ix2 r l) = ((a r l : ℝ) : EReal)) (hy : ∀ r l, y (ix2 r l) = ((b r l : ℝ) : EReal))
    (r s : Fin 256) : (∑ l, (only (lanesOf h) x (ix2 r l) : EReal) * y (ix2 s l) : EReal) = ((∑ d : Fin 64, a r (lane h d) * b s (lane h d) : ℝ) : EReal) := by
  rw [← Reals.sum_coe]
  refine Eq.trans ?_ (sum_mine h (fun l => ((a r l * b s l : ℝ) : EReal)))
  refine Finset.sum_congr rfl fun l _ => ?_
  rw [only_at]
  by_cases g : mine h l
  · rw [if_pos g, if_pos g, hx, hy, EReal.coe_mul]
  · rw [if_neg g, if_neg g, zero_mul]

include hm

theorem weights_real (r s : Fin 256) : weights mask O (lanesOf h) (pairOf h) h (ix2 r s) = ((X.weight keep h r s : ℝ) : EReal) := by
  unfold weights logits
  pointwise
  rw [hm, wide_at (O.ls h) (X.ls h) (hO.ls h)]
  unfold Point.weight
  by_cases g : keep r s
  · rw [if_pos g, if_pos g]
    pointwise
    rw [dot_real h hO _ _ _ _ (hO.q (pairOf h)) (hO.k (pairOf h)), wide_at (O.cc h) (X.cc h) (hO.cc h), hO.cr]
    rw [← EReal.coe_sub, ← EReal.coe_add, ← EReal.coe_sub]
    rfl
  · rw [if_neg g, if_neg g]
    rfl

theorem dots_real (r s : Fin 256) : dots mask O (lanesOf h) (pairOf h) h (ix2 r s) = ((X.dots keep h r s : ℝ) : EReal) := by
  unfold dots
  pointwise
  rw [weights_real h hO hm, dot_real h hO _ _ _ _ (hO.o (pairOf h)) (hO.v (pairOf h)), ← EReal.coe_mul]
  rfl

theorem addD_real (r : Fin 256) (l : Fin 128) : addD mask O h (ix2 r l) = ((∑ s, X.dots keep h r s : ℝ) : EReal) := by
  unfold addD
  pointwise
  rw [Finset.sum_congr rfl fun s _ => dots_real h hO hm r s, Reals.sum_coe]

end

end Cert.Rowdot

end
-- ==== Proof.RowdotInputs.lean ====
/-
  What the attention's row-sum kernel reads: the arrays the host prepares from the forward's inputs and the cotangent,
  and the blocks of them a grid point sees.
-/
module

public import proofs.«01_k».proof.Proof.RowdotPoint
public import proofs.«01_k».proof.Proof.HostSums

@[expose] public section

set_option maxRecDepth 16384

noncomputable section

namespace Cert.Rowdot

open Cert.Attn (Data lit_eighth lit_bot sge_rows select_one fold_max_real log_real exp_masked)
open Cert.Kernel6Ideal Cert.Kernel6Ideal.Gen Idealize.ShloMosaic Idealize.ShloMosaic.TcCoe Idealize.ShloMosaic.Tactic

variable (m : (ℓ : Loc nD τ sig) → Buf (Elt Ideal) ℓ) (c : Dev nD)

abbrev aQ : FVec Ideal S1x8x2048x64 .f32 := m ((c : Thread nD τ).loc main_arg0)
abbrev aK : FVec Ideal S1x8x2048x64 .f32 := m ((c : Thread nD τ).loc main_arg1)
abbrev aV : FVec Ideal S1x8x2048x64 .f32 := m ((c : Thread nD τ).loc main_arg2)
abbrev aC : FVec Ideal S1x8x2048 .f32 := m ((c : Thread nD τ).loc main_arg3)
abbrev aO : FVec Ideal S1x8x2048x64 .f32 := m ((c : Thread nD τ).loc main_arg4)

/-- The buffers once the host has the logits and each row's largest. -/
def mid : Valuation τ sig (Elt Ideal) := StableHlo.after (hostOps0.take 25) (fun b => m (c, b))

theorem V_mid (b : Ref sig .tc) : V m c b = StableHlo.after (hostOps0.drop 25) (mid m c) b := by
  show StableHlo.after hostOps0 (fun b => m (c, b)) b = StableHlo.after (hostOps0.drop 25) (StableHlo.after (hostOps0.take 25) (fun b => m (c, b))) b
  rw [← StableHlo.after_append, List.take_append_drop]

/-- The masked logits, and each row's largest. -/
def hostL : FVec Ideal S1x8x2048x2048 .f32 := mid m c main_v18
def hostM : FVec Ideal S1x8x2048 .f32 := mid m c main_v19

theorem mid_arg0 : mid m c main_arg0 = aQ m c := by
  show StableHlo.after (hostOps0.take 25) (fun b => m (c, b)) main_arg0 = _
  unfold hostOps0
  simp only [List.take_succ_cons, List.take_zero]
  after_results
theorem mid_arg1 : mid m c main_arg1 = aK m c := by
  show StableHlo.after (hostOps0.take 25) (fun b => m (c, b)) main_arg1 = _
  unfold hostOps0
  simp only [List.take_succ_cons, List.take_zero]
  after_results
theorem mid_arg2 : mid m c main_arg2 = aV m c := by
  show StableHlo.after (hostOps0.take 25) (fun b => m (c, b)) main_arg2 = _
  unfold hostOps0
  simp only [List.take_succ_cons, List.take_zero]
  after_results
theorem mid_arg3 : mid m c main_arg3 = aC m c := by
  show StableHlo.after (hostOps0.take 25) (fun b => m (c, b)) main_arg3 = _
  unfold hostOps0
  simp only [List.take_succ_cons, List.take_zero]
  after_results
theorem mid_arg4 : mid m c main_arg4 = aO m c := by
  show StableHlo.after (hostOps0.take 25) (fun b => m (c, b)) main_arg4 = _
  unfold hostOps0
  simp only [List.take_succ_cons, List.take_zero]
  after_results

theorem hostL_at (h : Fin 8) (r s : Fin 2048) : hostL m c (ix4 0 h r s)
    = (Scalar.select (IntOp.cmpi CmpIPredicate.sge (BitVec.ofNat 32 r.val) (BitVec.ofNat 32 s.val))
      ((∑ d, aQ m c (ix4 0 h r d) * aK m c (ix4 0 h s d)) * Ideal.ofBits .f32 0x3E000000#32 + aC m c (ix3 0 h r) - aC m c (ix3 0 h s) : EReal)
      (Ideal.ofBits .f32 0xFF800000#32) : EReal) := by
  show StableHlo.after (hostOps0.take 25) (fun b => m (c, b)) main_v18 _ = _
  unfold hostOps0
  simp only [List.take_succ_cons, List.take_zero]
  after_results
  pointwise
  try rfl
theorem hostM_eq : hostM m c = Host.reduce FloatOps.maximumf (hostL m c) (constant S_ .f32 0xFF800000#32) reducesTo_S1x8x2048x2048_S1x8x2048_d3 h_S_ := by
  unfold hostM hostL mid
  unfold hostOps0
  simp only [List.take_succ_cons, List.take_zero]
  after_results
theorem hostM_at (h : Fin 8) (r : Fin 2048) : hostM m c (ix3 0 h r) = Finset.fold max (Ideal.ofBits .f32 0xFF800000#32) (fun s => (hostL m c (ix4 0 h r s) : EReal)) Finset.univ := by
  rw [hostM_eq]
  exact HostSums.max4_3 _ _ _ _ 0 h r

theorem V_v36 (r : Fin 2048) (k : Fin 512) : V m c main_v36 (ix2 r k) = (aQ m c (ix4 0 ⟨k.val / 64, by omega⟩ r ⟨k.val % 64, by omega⟩) * Ideal.ofBits .f32 0x3E000000#32 : EReal) := by
  rw [V_mid]
  unfold hostOps0
  simp only [List.drop_succ_cons, List.drop_zero]
  after_results
  rw [← mid_arg0]
  pointwise
theorem V_v40 (r : Fin 2048) (k : Fin 512) : V m c main_v40 (ix2 r k) = (aK m c (ix4 0 ⟨k.val / 64, by omega⟩ r ⟨k.val % 64, by omega⟩) : EReal) := by
  rw [V_mid]
  unfold hostOps0
  simp only [List.drop_succ_cons, List.drop_zero]
  after_results
  rw [← mid_arg1]
  pointwise
theorem V_v44 (r : Fin 2048) (k : Fin 512) : V m c main_v44 (ix2 r k) = (aV m c (ix4 0 ⟨k.val / 64, by omega⟩ r ⟨k.val % 64, by omega⟩) : EReal) := by
  rw [V_mid]
  unfold hostOps0
  simp only [List.drop_succ_cons, List.drop_zero]
  after_results
  rw [← mid_arg2]
  pointwise
theorem V_v48 (r : Fin 2048) (k : Fin 512) : V m c main_v48 (ix2 r k) = (aO m c (ix4 0 ⟨k.val / 64, by omega⟩ r ⟨k.val % 64, by omega⟩) : EReal) := by
  rw [V_mid]
  unfold hostOps0
  simp only [List.drop_succ_cons, List.drop_zero]
  after_results
  rw [← mid_arg4]
  pointwise
theorem V_v59 (h : Fin 8) (r : Fin 2048) (l : Fin 128) : V m c main_v59 (ix3 h r l) = (aC m c (ix3 0 h r) : EReal) := by
  rw [V_mid]
  unfold hostOps0
  simp only [List.drop_succ_cons, List.drop_zero]
  after_results
  rw [← mid_arg3]
  pointwise
theorem V_v60 (h : Fin 8) (r : Fin 2048) : V m c main_v60 (ix2 h r) = (aC m c (ix3 0 h r) : EReal) := by
  rw [V_mid]
  unfold hostOps0
  simp only [List.drop_succ_cons, List.drop_zero]
  after_results
  rw [← mid_arg3]
  pointwise
theorem after_v53 (g : Valuation τ sig (Elt Ideal)) (L : FVec Ideal S1x8x2048x2048 .f32) (M : FVec Ideal S1x8x2048 .f32) (hL : g main_v18 = L) (hM : g main_v19 = M)
    (h : Fin 8) (r : Fin 2048) (l : Fin 128) : StableHlo.after (hostOps0.drop 25) g main_v53 (ix3 h r l)
    = (M (ix3 0 h r) + Ideal.log (∑ s, Ideal.exp (L (ix4 0 h r s) - M (ix3 0 h r))) : EReal) := by
  unfold hostOps0
  simp only [List.drop_succ_cons, List.drop_zero]
  after_results
  rw [hL, hM]
  pointwise
theorem V_v53 (h : Fin 8) (r : Fin 2048) (l : Fin 128) : V m c main_v53 (ix3 h r l)
    = (hostM m c (ix3 0 h r) + Ideal.log (∑ s, Ideal.exp (hostL m c (ix4 0 h r s) - hostM m c (ix3 0 h r))) : EReal) := by
  rw [V_mid]
  exact after_v53 (mid m c) _ _ rfl rfl h r l
/-! ## Over the reals -/

/-- The kernel's arguments are real. -/
structure Given (D : Data) : Prop where
  q : ∀ h r d, aQ m c (ix4 0 h r d) = ((D.Q h r d : ℝ) : EReal)
  k : ∀ h r d, aK m c (ix4 0 h r d) = ((D.K h r d : ℝ) : EReal)
  v : ∀ h r d, aV m c (ix4 0 h r d) = ((D.V h r d : ℝ) : EReal)
  o : ∀ h r d, aO m c (ix4 0 h r d) = ((D.O h r d : ℝ) : EReal)
  c : ∀ h r, aC m c (ix3 0 h r) = ((D.C h r : ℝ) : EReal)

section
variable {m c} {D : Data} (H : Given m c D)
include H

theorem hostL_real (h : Fin 8) (r s : Fin 2048) : hostL m c (ix4 0 h r s) = if s.val ≤ r.val then ((D.logit h r s : ℝ) : EReal) else ⊥ := by
  rw [hostL_at, sge_rows, select_one, lit_bot, lit_eighth, H.c, H.c]
  refine if_congr Iff.rfl ?_ rfl
  rw [Finset.sum_congr rfl fun d _ => by rw [H.q, H.k, ← EReal.coe_mul], Reals.sum_coe, ← EReal.coe_mul, ← EReal.coe_add, ← EReal.coe_sub, mul_one_div]
  rfl
theorem hostM_real (h : Fin 8) (r : Fin 2048) : ∃ M : ℝ, hostM m c (ix3 0 h r) = ((M : ℝ) : EReal) := by
  rw [hostM_at, lit_bot]
  refine fold_max_real _ (fun s => ?_) ⟨r, ?_⟩
  · rw [hostL_real H]
    split
    · exact EReal.coe_ne_top _
    · exact bot_ne_top
  · rw [hostL_real H, if_pos (le_refl _)]
    exact EReal.coe_ne_bot _
theorem lse_real (h : Fin 8) (r : Fin 2048) (l : Fin 128) : V m c main_v53 (ix3 h r l) = ((D.lse h r : ℝ) : EReal) := by
  obtain ⟨M, hM⟩ := hostM_real H h r
  rw [V_v53, hM, Finset.sum_congr rfl fun s _ => exp_masked D h r s M _ (hostL_real H h r s), Reals.sum_coe]
  refine (congrArg (fun x : EReal => ((M : ℝ) : EReal) + x) (log_real _ (D.total_pos h r M))).trans ?_
  rw [← EReal.coe_add, D.lse_level h r M]
end

/-! ## The blocks a point sees -/

theorem idx0 : ∀ t : Fin grid0.N, ((cfgM (F := Ideal)).win 0).index t 0 = (qi t).val ∧ ((cfgM (F := Ideal)).win 0).index t 1 = 0 := by decide +kernel
theorem iblk0 (t : Fin grid0.N) (r : Fin 256) (k : Fin 512) : iblk m c 0 t (ix2 r k) = V m c main_v36 (ix2 (row (qi t) r) k) := by
  unfold iblk
  rw [View.read_apply]
  show V m c main_v36 _ = V m c main_v36 _
  congr 1
  funext a
  apply Fin.ext
  match a with
  | ⟨0, _⟩ => show ((cfgM (F := Ideal)).win 0).index t 0 * 256 + 1 * r.val = 256 * (qi t).val + r.val; rw [(idx0 t).1]; omega
  | ⟨1, _⟩ => show ((cfgM (F := Ideal)).win 0).index t 1 * 512 + 1 * k.val = k.val; rw [(idx0 t).2]; omega

theorem idx1 : ∀ t : Fin grid0.N, ((cfgM (F := Ideal)).win 1).index t 0 = (ki t).val ∧ ((cfgM (F := Ideal)).win 1).index t 1 = 0 := by decide +kernel
theorem iblk1 (t : Fin grid0.N) (r : Fin 256) (k : Fin 512) : iblk m c 1 t (ix2 r k) = V m c main_v40 (ix2 (row (ki t) r) k) := by
  unfold iblk
  rw [View.read_apply]
  show V m c main_v40 _ = V m c main_v40 _
  congr 1
  funext a
  apply Fin.ext
  match a with
  | ⟨0, _⟩ => show ((cfgM (F := Ideal)).win 1).index t 0 * 256 + 1 * r.val = 256 * (ki t).val + r.val; rw [(idx1 t).1]; omega
  | ⟨1, _⟩ => show ((cfgM (F := Ideal)).win 1).index t 1 * 512 + 1 * k.val = k.val; rw [(idx1 t).2]; omega

theorem idx2 : ∀ t : Fin grid0.N, ((cfgM (F := Ideal)).win 2).index t 0 = (ki t).val ∧ ((cfgM (F := Ideal)).win 2).index t 1 = 0 := by decide +kernel
theorem iblk2 (t : Fin grid0.N) (r : Fin 256) (k : Fin 512) : iblk m c 2 t (ix2 r k) = V m c main_v44 (ix2 (row (ki t) r) k) := by
  unfold iblk
  rw [View.read_apply]
  show V m c main_v44 _ = V m c main_v44 _
  congr 1
  funext a
  apply Fin.ext
  match a with
  | ⟨0, _⟩ => show ((cfgM (F := Ideal)).win 2).index t 0 * 256 + 1 * r.val = 256 * (ki t).val + r.val; rw [(idx2 t).1]; omega
  | ⟨1, _⟩ => show ((cfgM (F := Ideal)).win 2).index t 1 * 512 + 1 * k.val = k.val; rw [(idx2 t).2]; omega

theorem idx3 : ∀ t : Fin grid0.N, ((cfgM (F := Ideal)).win 3).index t 0 = (qi t).val ∧ ((cfgM (F := Ideal)).win 3).index t 1 = 0 := by decide +kernel
theorem iblk3 (t : Fin grid0.N) (r : Fin 256) (k : Fin 512) : iblk m c 3 t (ix2 r k) = V m c main_v48 (ix2 (row (qi t) r) k) := by
  unfold iblk
  rw [View.read_apply]
  show V m c main_v48 _ = V m c main_v48 _
  congr 1
  funext a
  apply Fin.ext
  match a with
  | ⟨0, _⟩ => show ((cfgM (F := Ideal)).win 3).index t 0 * 256 + 1 * r.val = 256 * (qi t).val + r.val; rw [(idx3 t).1]; omega
  | ⟨1, _⟩ => show ((cfgM (F := Ideal)).win 3).index t 1 * 512 + 1 * k.val = k.val; rw [(idx3 t).2]; omega

theorem idx4 : ∀ t : Fin grid0.N, ((cfgM (F := Ideal)).win 4).index t 0 = 0 ∧ ((cfgM (F := Ideal)).win 4).index t 1 = (qi t).val ∧ ((cfgM (F := Ideal)).win 4).index t 2 = 0 := by decide +kernel
theorem iblk4 (t : Fin grid0.N) (h : Fin 8) (r : Fin 256) (k : Fin 128) : iblk m c 4 t (ix3 h r k) = V m c main_v53 (ix3 h (row (qi t) r) k) := by
  have e : ((((cfgM (F := Ideal)).win 4).blk t).view.emb (ix3 h r k) : S8x2048x128.Idx) = ix3 h (row (qi t) r) k := by
    funext a
    apply Fin.ext
    match a with
    | ⟨0, _⟩ => show ((cfgM (F := Ideal)).win 4).index t 0 * 8 + 1 * h.val = h.val; rw [(idx4 t).1]; omega
    | ⟨1, _⟩ => show ((cfgM (F := Ideal)).win 4).index t 1 * 256 + 1 * r.val = 256 * (qi t).val + r.val; rw [(idx4 t).2.1]; omega
    | ⟨2, _⟩ => show ((cfgM (F := Ideal)).win 4).index t 2 * 128 + 1 * k.val = k.val; rw [(idx4 t).2.2]; omega
  unfold iblk
  generalize V m c = G
  rw [View.read_apply, cast_eq]
  exact congrArg (G main_v53) e

theorem idx5 : ∀ t : Fin grid0.N, ((cfgM (F := Ideal)).win 5).index t 0 = 0 ∧ ((cfgM (F := Ideal)).win 5).index t 1 = (qi t).val ∧ ((cfgM (F := Ideal)).win 5).index t 2 = 0 := by decide +kernel
theorem iblk5 (t : Fin grid0.N) (h : Fin 8) (r : Fin 256) (k : Fin 128) : iblk m c 5 t (ix3 h r k) = V m c main_v59 (ix3 h (row (qi t) r) k) := by
  unfold iblk
  rw [View.read_apply]
  show V m c main_v59 _ = V m c main_v59 _
  congr 1
  funext a
  apply Fin.ext
  match a with
  | ⟨0, _⟩ => show ((cfgM (F := Ideal)).win 5).index t 0 * 8 + 1 * h.val = h.val; rw [(idx5 t).1]; omega
  | ⟨1, _⟩ => show ((cfgM (F := Ideal)).win 5).index t 1 * 256 + 1 * r.val = 256 * (qi t).val + r.val; rw [(idx5 t).2.1]; omega
  | ⟨2, _⟩ => show ((cfgM (F := Ideal)).win 5).index t 2 * 128 + 1 * k.val = k.val; rw [(idx5 t).2.2]; omega

theorem idx6 : ∀ t : Fin grid0.N, ((cfgM (F := Ideal)).win 6).index t 0 = 0 ∧ ((cfgM (F := Ideal)).win 6).index t 1 = (ki t).val := by decide +kernel
theorem iblk6 (t : Fin grid0.N) (h : Fin 8) (k : Fin 256) : iblk m c 6 t (ix2 h k) = V m c main_v60 (ix2 h (row (ki t) k)) := by
  unfold iblk
  rw [View.read_apply]
  show V m c main_v60 _ = V m c main_v60 _
  congr 1
  funext a
  apply Fin.ext
  match a with
  | ⟨0, _⟩ => show ((cfgM (F := Ideal)).win 6).index t 0 * 8 + 1 * h.val = h.val; rw [(idx6 t).1]; omega
  | ⟨1, _⟩ => show ((cfgM (F := Ideal)).win 6).index t 1 * 256 + 1 * k.val = 256 * (ki t).val + k.val; rw [(idx6 t).2]; omega

/-! ## A point's reads over the reals -/

/-- The head and the place in it of a pair's lane. -/
def hd (p : Fin 4) (l : Fin 128) : Fin 8 := ⟨2 * p.val + l.val / 64, by omega⟩
def dm (l : Fin 128) : Fin 64 := ⟨l.val % 64, by omega⟩

theorem hd_lane (h : Fin 8) (d : Fin 64) : hd (pairOf h) (lane h d) = h :=
  Fin.ext (by show 2 * (h.val / 2) + (64 * (h.val % 2) + d.val) / 64 = h.val; omega)
theorem dm_lane (h : Fin 8) (d : Fin 64) : dm (lane h d) = d :=
  Fin.ext (by show (64 * (h.val % 2) + d.val) % 64 = d.val; omega)
theorem col_hd (p : Fin 4) (l : Fin 128) (h1 : (col p l).val / 64 < 8) : (⟨(col p l).val / 64, h1⟩ : Fin 8) = hd p l :=
  Fin.ext (by show (128 * p.val + l.val) / 64 = 2 * p.val + l.val / 64; omega)
theorem col_dm (p : Fin 4) (l : Fin 128) (h1 : (col p l).val % 64 < 64) : (⟨(col p l).val % 64, h1⟩ : Fin 64) = dm l :=
  Fin.ext (by show (128 * p.val + l.val) % 64 = l.val % 64; omega)

/-- What point `t` reads. -/
def pointOf (D : Data) (t : Fin grid0.N) : Point where
  q p r l := D.Q (hd p l) (row (qi t) r) (dm l) / 8
  k p r l := D.K (hd p l) (row (ki t) r) (dm l)
  v p r l := D.V (hd p l) (row (ki t) r) (dm l)
  o p r l := D.O (hd p l) (row (qi t) r) (dm l)
  ls h r := D.lse h (row (qi t) r)
  cc h r := D.C h (row (qi t) r)
  cr h s := D.C h (row (ki t) s)

section
variable {m c} {D : Data} (H : Given m c D)
include H

theorem holds (t : Fin grid0.N) : Holds (opsAt m c t) (pointOf D t) where
  q p r l := by
    refine (loadL (stg0 Ideal t) p r l _).trans ?_
    rw [(hstg0 Ideal t).read_unread, iblk0, V_v36, H.q, lit_eighth, ← EReal.coe_mul, mul_one_div, col_hd, col_dm]
    rfl
  k p r l := by
    refine (loadL (stg1 Ideal t) p r l _).trans ?_
    rw [(hstg1 Ideal t).read_unread, iblk1, V_v40, H.k, col_hd, col_dm]
    rfl
  v p r l := by
    refine (loadL (stg2 Ideal t) p r l _).trans ?_
    rw [(hstg2 Ideal t).read_unread, iblk2, V_v44, H.v, col_hd, col_dm]
    rfl
  o p r l := by
    refine (loadL (stg3 Ideal t) p r l _).trans ?_
    rw [(hstg3 Ideal t).read_unread, iblk3, V_v48, H.o, col_hd, col_dm]
    rfl
  ls h r l := by
    refine (loadP (stg4 Ideal t) h r l _).trans ?_
    rw [(hstg4 Ideal t).read_unread, iblk4, lse_real H]
    rfl
  cc h r l := by
    refine (loadP (stg5 Ideal t) h r l _).trans ?_
    rw [(hstg5 Ideal t).read_unread, iblk5, V_v59, H.c]
    rfl
  cr h s := by
    refine (loadR (stg6 Ideal t) h s _).trans ?_
    rw [(hstg6 Ideal t).read_unread, iblk6, V_v60, H.c]
    rfl

end

end Cert.Rowdot

end
-- ==== Proof.RowdotData.lean ====
/-
  The attention's row-sum kernel's proof data: what its buffers hold before and after each grid point.
-/
module

public import proofs.«01_k».proof.Proof.RowdotSteps

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's own buffers at anything: the running sum, and the generator's register. -/
theorem own_eq (c : Dev nD) : (Pipeline.ΦA spec0 c : sProp 𝕄) = iprop((∃ d, owns (c : Thread nD τ) sumA fullShare d) ∗ (∃ r, prngReg c r)) := by
  unfold Pipeline.ΦA; rw [scopedRest0_eq]; simp only [sumA, owns_whole]; try rfl

/-- Before the first point the running sum holds anything; afterwards what the points so far have added up. -/
def Inv (c : Dev nD) : (n : ℕ) → n ≤ grid0.N → sProp 𝕄
  | 0, _ => iprop(Pipeline.ΦA spec0 c ∗ Pipeline.ΦT pre0 (tbl (F := F)) c)
  | n + 1, hn => iprop(iprop(owns (c : Thread nD τ) sumA fullShare (done m c n hn).acc ∗ (∃ r, prngReg c r)) ∗ Pipeline.ΦT pre0 (tbl (F := F)) c)

theorem Inv_zero (c : Dev nD) (n : ℕ) (h : n ≤ grid0.N) (hz : n = 0) : Inv m c n h = iprop(Pipeline.ΦA spec0 c ∗ Pipeline.ΦT pre0 (tbl (F := F)) c) := by
  subst hz; rfl
theorem Inv_succ (c : Dev nD) (n : ℕ) (hn : n < grid0.N) :
    Inv m c (n + 1) hn = iprop(iprop(owns (c : Thread nD τ) sumA fullShare (done m c n hn).acc ∗ (∃ r, prngReg c r)) ∗ Pipeline.ΦT pre0 (tbl (F := F)) c) := rfl
theorem Inv_pos (c : Dev nD) (n : ℕ) (h : n ≤ grid0.N) (hz : n ≠ 0) :
    Inv m c n h = iprop(iprop(owns (c : Thread nD τ) sumA fullShare (done m c (n - 1) (by omega)).acc ∗ (∃ r, prngReg c r)) ∗ Pipeline.ΦT pre0 (tbl (F := F)) c) := by
  cases n with
  | zero => exact absurd rfl hz
  | succ n => rfl

/-- The pipeline's proof data: the arrays as found, each input's buffer at its block, the output's at what the kernel
    has computed after the point. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (done m c t.val t.isLt).out
  Φ t := Inv m c t.val (Nat.le_of_lt_succ t.isLt)
  q _ := fullShare
  owed _ := 0

theorem A_eq (c : Dev nD) (w : Fin (cfgM (F := F)).W) : (dats m 0 c).A w = V m c (Pipeline.arrRef spec0 w) := by
  dsimp only [dats]
theorem Inv_castSucc (c : Dev nD) (t : Fin (cfgM (F := F)).N) :
    (dats m 0 c).Φ t.castSucc = Inv m c t.val (Nat.le_of_lt t.isLt) := by
  dsimp only [dats]; exact Pipeline.Dat.Φ_castSucc (Inv m c) t

theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = iblk m c 2 t := by dsimp only [dats]; try rfl
theorem after_3 (c : Dev nD) (t : Fin (cfgM (F := F)).N) : (dats m 0 c).after 3 t = iblk m c 3 t := by dsimp only [dats]; try rfl
theorem after_4 (c : Dev nD) (t : Fin (cfgM (F := F)).N) : (dats m 0 c).after 4 t = iblk m c 4 t := by dsimp only [dats]; try rfl
theorem after_5 (c : Dev nD) (t : Fin (cfgM (F := F)).N) : (dats m 0 c).after 5 t = iblk m c 5 t := by dsimp only [dats]; try rfl
theorem after_6 (c : Dev nD) (t : Fin (cfgM (F := F)).N) : (dats m 0 c).after 6 t = iblk m c 6 t := by dsimp only [dats]; try rfl
theorem after_7 (c : Dev nD) (t : Fin (cfgM (F := F)).N) : (dats m 0 c).after 7 t = (done m c t.val t.isLt).out := by dsimp only [dats]; try rfl
theorem before_0 (c : Dev nD) (t : Fin (cfgM (F := F)).N) (d) : (dats m 0 c).before 0 t d = iblk m c 0 t :=
  before_of_0 m (dats m 0 c) (A_eq m c 0) (after_0 m c) t d
theorem before_1 (c : Dev nD) (t : Fin (cfgM (F := F)).N) (d) : (dats m 0 c).before 1 t d = iblk m c 1 t :=
  before_of_1 m (dats m 0 c) (A_eq m c 1) (after_1 m c) t d
theorem before_2 (c : Dev nD) (t : Fin (cfgM (F := F)).N) (d) : (dats m 0 c).before 2 t d = iblk m c 2 t :=
  before_of_2 m (dats m 0 c) (A_eq m c 2) (after_2 m c) t d
theorem before_3 (c : Dev nD) (t : Fin (cfgM (F := F)).N) (d) : (dats m 0 c).before 3 t d = iblk m c 3 t :=
  before_of_3 m (dats m 0 c) (A_eq m c 3) (after_3 m c) t d
theorem before_4 (c : Dev nD) (t : Fin (cfgM (F := F)).N) (d) : (dats m 0 c).before 4 t d = iblk m c 4 t :=
  before_of_4 m (dats m 0 c) (A_eq m c 4) (after_4 m c) t d
theorem before_5 (c : Dev nD) (t : Fin (cfgM (F := F)).N) (d) : (dats m 0 c).before 5 t d = iblk m c 5 t :=
  before_of_5 m (dats m 0 c) (A_eq m c 5) (after_5 m c) t d
theorem before_6 (c : Dev nD) (t : Fin (cfgM (F := F)).N) (d) : (dats m 0 c).before 6 t d = iblk m c 6 t :=
  before_of_6 m (dats m 0 c) (A_eq m c 6) (after_6 m c) t d

/-! ## The body at a point -/

def bodyAt (t : Fin (cfgM (F := F)).N) :=
  cc0_fox_attn_rowdot (F := F) (grid0.coords t) (Memref.whole main_c) (Memref.isWhole_whole _) (Memref.whole main_c_0) (Memref.isWhole_whole _) (stg0 F t) (hstg0 F t) (stg1 F t) (hstg1 F t) (stg2 F t) (hstg2 F t) (stg3 F t) (hstg3 F t) (stg4 F t) (hstg4 F t) (stg5 F t) (hstg5 F t) (stg6 F t) (hstg6 F t) (stg7 F t) (hstg7 F t) (Memref.whole cc0_scratch0) (Memref.isWhole_whole _)

def bodyPre (c : Dev nD) (t : Fin (cfgM (F := F)).N) : sProp 𝕄 :=
  iprop((dats m 0 c).Φ t.castSucc ∗ (dats m 0 c).owesAt () t.castSucc
    ∗ (∃ d, owns (c : Thread nD τ) (stg0 F t) fullShare ((dats m 0 c).before 0 t d))
    ∗ (∃ d, owns (c : Thread nD τ) (stg1 F t) fullShare ((dats m 0 c).before 1 t d))
    ∗ (∃ d, owns (c : Thread nD τ) (stg2 F t) fullShare ((dats m 0 c).before 2 t d))
    ∗ (∃ d, owns (c : Thread nD τ) (stg3 F t) fullShare ((dats m 0 c).before 3 t d))
    ∗ (∃ d, owns (c : Thread nD τ) (stg4 F t) fullShare ((dats m 0 c).before 4 t d))
    ∗ (∃ d, owns (c : Thread nD τ) (stg5 F t) fullShare ((dats m 0 c).before 5 t d))
    ∗ (∃ d, owns (c : Thread nD τ) (stg6 F t) fullShare ((dats m 0 c).before 6 t d))
    ∗ (∃ d, owns (c : Thread nD τ) (stg7 F t) fullShare ((dats m 0 c).before 7 t d)))
def bodyPost (c : Dev nD) (t : Fin (cfgM (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin (cfgM (F := F)).N) : (dats m 0 c).leavesExact 0 t = owns (c : Thread nD τ) (stg0 F t) fullShare (iblk m c 0 t) := by
  unfold Dat.leavesExact
  rw [show (cfgM (F := F)).idle 0 ((cfgM (F := F)).grid.coords t) = false from rfl, after_0 m c t]; rfl
theorem leaves_1 (c : Dev nD) (t : Fin (cfgM (F := F)).N) : (dats m 0 c).leavesExact 1 t = owns (c : Thread nD τ) (stg1 F t) fullShare (iblk m c 1 t) := by
  unfold Dat.leavesExact
  rw [show (cfgM (F := F)).idle 1 ((cfgM (F := F)).grid.coords t) = false from rfl, after_1 m c t]; rfl
theorem leaves_2 (c : Dev nD) (t : Fin (cfgM (F := F)).N) : (dats m 0 c).leavesExact 2 t = owns (c : Thread nD τ) (stg2 F t) fullShare (iblk m c 2 t) := by
  unfold Dat.leavesExact
  rw [show (cfgM (F := F)).idle 2 ((cfgM (F := F)).grid.coords t) = false from rfl, after_2 m c t]; rfl
theorem leaves_3 (c : Dev nD) (t : Fin (cfgM (F := F)).N) : (dats m 0 c).leavesExact 3 t = owns (c : Thread nD τ) (stg3 F t) fullShare (iblk m c 3 t) := by
  unfold Dat.leavesExact
  rw [show (cfgM (F := F)).idle 3 ((cfgM (F := F)).grid.coords t) = false from rfl, after_3 m c t]; rfl
theorem leaves_4 (c : Dev nD) (t : Fin (cfgM (F := F)).N) : (dats m 0 c).leavesExact 4 t = owns (c : Thread nD τ) (stg4 F t) fullShare (iblk m c 4 t) := by
  unfold Dat.leavesExact
  rw [show (cfgM (F := F)).idle 4 ((cfgM (F := F)).grid.coords t) = false from rfl, after_4 m c t]; rfl
theorem leaves_5 (c : Dev nD) (t : Fin (cfgM (F := F)).N) : (dats m 0 c).leavesExact 5 t = owns (c : Thread nD τ) (stg5 F t) fullShare (iblk m c 5 t) := by
  unfold Dat.leavesExact
  rw [show (cfgM (F := F)).idle 5 ((cfgM (F := F)).grid.coords t) = false from rfl, after_5 m c t]; rfl
theorem leaves_6 (c : Dev nD) (t : Fin (cfgM (F := F)).N) : (dats m 0 c).leavesExact 6 t = owns (c : Thread nD τ) (stg6 F t) fullShare (iblk m c 6 t) := by
  unfold Dat.leavesExact
  rw [show (cfgM (F := F)).idle 6 ((cfgM (F := F)).grid.coords t) = false from rfl, after_6 m c t]; rfl
theorem leaves_7 (c : Dev nD) (t : Fin (cfgM (F := F)).N) (hd : Diag t) : (dats m 0 c).leavesExact 7 t = owns (c : Thread nD τ) (stg7 F t) fullShare ((done m c t.val t.isLt).out) := by
  unfold Dat.leavesExact
  rw [show (cfgM (F := F)).idle 7 ((cfgM (F := F)).grid.coords t) = false from live_of_diag t hd, after_7 m c t]; rfl
theorem rests_7 (c : Dev nD) (t : Fin (cfgM (F := F)).N) (hd : ¬Diag t) : (dats m 0 c).leavesExact 7 t = iprop(∃ d, owns (c : Thread nD τ) (stg7 F t) fullShare ((dats m 0 c).before 7 t d)) :=
  Dat.leavesExact_idle (dats m 0 c) 7 t (idle_of_not_diag t hd) (noFlush_7 t hd)

end Cert.Rowdot

end
-- ==== Proof.RowdotFrame.lean ====
/-
  The attention's row-sum kernel runs to its end from any memory, and leaves its arguments as they were.
-/
module

public import proofs.«01_k».proof.Proof.RowdotData

@[expose] public section

set_option maxRecDepth 16384

noncomputable section

namespace Cert.Rowdot

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_both (c : Dev nD) (t : Fin (cfgM (F := F)).N) (hs : Start t) (hd : Diag t) :
    bodyPre m c t ⊢ wp frame (wpE (defs₀ (F := F)) Variants.none c none) Set.univ (bodyAt (F := F) t) (fun _ => bodyPost m c t) := by
  have hz : t.val = 0 := both_zero t hs hd
  unfold bodyPre bodyPost bodyAt
  simp only [before_0, before_1, before_2, before_3, before_4, before_5, before_6]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_zero m c _ _ hz, tables_eq, own_eq]
  rw [leaves_0 m c t, leaves_1 m c t, leaves_2 m c t, leaves_3 m c t, leaves_4 m c t, leaves_5 m c t, leaves_6 m c t, leaves_7 m c t hd]
  rw [done_both m c t hs hd]
  unfold afterBoth; dsimp only
  iintro ⟨⟨⟨HA, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atBoth m c t hs hd).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HA]; · iexact HA
  isplitl [HT0]; · iexact HT0
  isplitl [HT1]; · iexact HT1
  iintro ⟨H0, H1, H2, H3, H4, H5, H6, ⟨%e7, H7⟩, ⟨%eA, HA⟩, HT0, HT1⟩
  isplitl [HA Hg HT0 HT1]
  · isplitl [HA Hg]
    · isplitl [HA]
      · unfold owns; iexists _; isplitr
        swap; · iexact HA
        ipureintro; exact View.read_writes_of_cover _ _ _ _ _ (coverBoth_11 m c t hs hd)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverBoth_10 m c t hs hd)

set_option maxHeartbeats 4800000 in
theorem sound_start (c : Dev nD) (t : Fin (cfgM (F := F)).N) (hs : Start t) (hd : ¬Diag t) :
    bodyPre m c t ⊢ wp frame (wpE (defs₀ (F := F)) Variants.none c none) Set.univ (bodyAt (F := F) t) (fun _ => bodyPost m c t) := by
  have hz : ¬t.val = 0 := fun h => hd (zero_diag t h)
  unfold bodyPre bodyPost bodyAt
  simp only [before_0, before_1, before_2, before_3, before_4, before_5, before_6]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, rests_7 m c t hd]
  rw [done_pos m c t hz, step_start m c t hs hd]
  unfold afterStart; dsimp only
  iintro ⟨⟨⟨HA, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atStart m c t hs hd).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexists _; iexact HA
  isplitl [HT0]; · iexact HT0
  isplitl [HT1]; · iexact HT1
  iintro ⟨H0, H1, H2, H3, H4, H5, H6, H7, ⟨%eA, HA⟩, HT0, HT1⟩
  isplitl [HA Hg HT0 HT1]
  · isplitl [HA Hg]
    · isplitl [HA]
      · unfold owns; iexists _; isplitr
        swap; · iexact HA
        ipureintro; exact View.read_writes_of_cover _ _ _ _ _ (coverStart_11 m c t hs hd)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4800000 in
theorem sound_middle (c : Dev nD) (t : Fin (cfgM (F := F)).N) (hs : ¬Start t) (hd : ¬Diag t) :
    bodyPre m c t ⊢ wp frame (wpE (defs₀ (F := F)) Variants.none c none) Set.univ (bodyAt (F := F) t) (fun _ => bodyPost m c t) := by
  have hz : ¬t.val = 0 := fun h => hd (zero_diag t h)
  unfold bodyPre bodyPost bodyAt
  simp only [before_0, before_1, before_2, before_3, before_4, before_5, before_6]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, rests_7 m c t hd]
  rw [done_pos m c t hz, step_middle m c t hs hd]
  unfold afterMiddle; dsimp only
  iintro ⟨⟨⟨HA, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atMiddle m c t hs hd (done m c (t.val - 1) (Nat.lt_of_le_of_lt (Nat.sub_le _ _) t.isLt))).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HT0]; · iexact HT0
  isplitl [HT1]; · iexact HT1
  iintro ⟨H0, H1, H2, H3, H4, H5, H6, H7, HA, HT0, HT1⟩
  isplitl [HA Hg HT0 HT1]
  · isplitl [HA Hg]
    · isplitl [HA]
      · unfold owns; iexists _; isplitr
        swap; · iexact HA
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4800000 in
theorem sound_diag (c : Dev nD) (t : Fin (cfgM (F := F)).N) (hs : ¬Start t) (hd : Diag t) :
    bodyPre m c t ⊢ wp frame (wpE (defs₀ (F := F)) Variants.none c none) Set.univ (bodyAt (F := F) t) (fun _ => bodyPost m c t) := by
  have hz : ¬t.val = 0 := fun h => hs (zero_start t h)
  unfold bodyPre bodyPost bodyAt
  simp only [before_0, before_1, before_2, before_3, before_4, before_5, before_6]
  rw [show (dats m 0 c).owesAt () t.succ = (dats m 0 c).owesAt () t.castSucc from rfl]
  rw [show (dats m 0 c).Φ t.succ = Inv m c (t.val + 1) t.isLt from rfl, Inv_succ, tables_eq]
  rw [Inv_castSucc m c t, Inv_pos m c _ _ hz, tables_eq]
  rw [leaves_0 m c t, leaves_1 m c t, leaves_2 m c t, leaves_3 m c t, leaves_4 m c t, leaves_5 m c t, leaves_6 m c t, leaves_7 m c t hd]
  rw [done_pos m c t hz, step_diag m c t hs hd]
  unfold afterDiag; dsimp only
  iintro ⟨⟨⟨HA, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atDiag m c t hs hd (done m c (t.val - 1) (Nat.lt_of_le_of_lt (Nat.sub_le _ _) t.isLt))).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HA]; · iexact HA
  isplitl [HT0]; · iexact HT0
  isplitl [HT1]; · iexact HT1
  iintro ⟨H0, H1, H2, H3, H4, H5, H6, ⟨%e7, H7⟩, HA, HT0, HT1⟩
  isplitl [HA Hg HT0 HT1]
  · isplitl [HA Hg]
    · isplitl [HA]
      · unfold owns; iexists _; isplitr
        swap; · iexact HA
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverDiag_10 m c t hs hd _)

theorem sound (c : Dev nD) (t : Fin (cfgM (F := F)).N) :
    bodyPre m c t ⊢ wp frame (wpE (defs₀ (F := F)) Variants.none c none) Set.univ (bodyAt (F := F) t) (fun _ => bodyPost m c t) := by
  by_cases hs : Start t
  · by_cases hd : Diag t
    · exact sound_both m c t hs hd
    · exact sound_start m c t hs hd
  · by_cases hd : Diag t
    · exact sound_diag m c t hs hd
    · exact sound_middle m c t hs hd

/-! ## The run -/

theorem body_row (t : Fin (cfgM (F := F)).N) :
    defs₀ (F := F) .tc (cfgM (F := F)).body ((cfgM (F := F)).bodyArgs t ((cfgM (F := F)).slots t)) = bodyAt t := by
  unfold defs₀ bodyAt; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : iprop(Pipeline.ΦA spec0 c ∗ Pipeline.ΦT pre0 (tbl (F := F)) c) ⊢ (dats m 0 c).Φ 0 := by
  rw [show (dats m 0 c).Φ 0 = Inv m c 0 (Nat.zero_le _) from rfl, Inv_zero m c 0 _ rfl]

theorem hout (c : Dev nD) : (dats m 0 c).Φ (Fin.last (cfgM (F := F)).N) ⊢ Pipeline.ΦA spec0 c := by
  rw [show (dats m 0 c).Φ (Fin.last (cfgM (F := F)).N) = Inv m c grid0.N (Nat.le_refl _) from rfl, Inv_pos m c _ _ (by rw [N_0]; decide), own_eq]
  iintro ⟨⟨HA, Hg⟩, -⟩
  isplitl [HA]
  · iexists _; iexact HA
  iexact Hg

set_option backward.isDefEq.respectTransparency.types false in
/-- Every run of the program ends with the kernel's arrays at what the proof data computes, the other buffers as the host's
    lines left them, and the counters at zero. -/
theorem run_main : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP_track (Q' := _) pcfgs (fun _ => adm) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_pre m)
    (hin := hin m) (hout := hout m)

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 rest_arg0).trans (V_main_arg0 m c),
      ((h.1 c).2 main_arg1 rest_arg1).trans (V_main_arg1 m c),
      ((h.1 c).2 main_arg2 rest_arg2).trans (V_main_arg2 m c),
      ((h.1 c).2 main_arg3 rest_arg3).trans (V_main_arg3 m c),
      ((h.1 c).2 main_arg4 rest_arg4).trans (V_main_arg4 m c)⟩, h.2⟩) (run_main m ρ)

end Cert.Rowdot

end
-- ==== Proof.RowdotArrays.lean ====
/-
  Where the row-sum kernel's result lies once every point has run: each query tile's rows as the point on its diagonal
  leaves them.
-/
module

public import proofs.«01_k».proof.Proof.RowdotSums
public import proofs.«01_k».proof.Proof.RowdotFrame

@[expose] public section

set_option maxRecDepth 16384

noncomputable section

namespace Cert.Rowdot

open Cert.Kernel6Ideal Cert.Kernel6Ideal.Gen Idealize.ShloMosaic Idealize.ShloMosaic.TcCoe Idealize.SL.Sem Idealize.ShloMosaic.Tactic

/-- The point on a query tile's diagonal, where its rows' sums are done. -/
def diagOf (i : Fin 8) : Fin grid0.N := ⟨i.val * (i.val + 3) / 2, by revert i; decide +kernel⟩

theorem diag_of : ∀ i : Fin 8, Diag (diagOf i) ∧ qi (diagOf i) = i := by decide +kernel

section
variable (m : (ℓ : Loc nD τ sig) → Buf (Elt Ideal) ℓ) (c : Dev nD)

def tileOf (r : Fin 2048) : Fin 8 := ⟨r.val / 256, by omega⟩
def inTile (r : Fin 2048) : Fin 256 := ⟨r.val % 256, by omega⟩

def arr7 : Buf (Elt Ideal) ((c : Thread nD τ).loc main_v61) :=
  fun i : S8x2048x128.Idx => (done m c (diagOf (tileOf (i 1))).val (diagOf (tileOf (i 1))).isLt).out (ix3 (i 0) (inTile (i 1)) (i 2))

theorem tile_row (j : Fin 8) (r : Fin 256) : tileOf (row j r) = j := Fin.ext (by show (256 * j.val + r.val) / 256 = j.val; omega)
theorem in_row (j : Fin 8) (r : Fin 256) : inTile (row j r) = r := Fin.ext (by show (256 * j.val + r.val) % 256 = r.val; omega)

theorem idx7 : ∀ t : Fin grid0.N, ((cfgM (F := Ideal)).win 7).index t 0 = 0 ∧ ((cfgM (F := Ideal)).win 7).index t 1 = (qi t).val ∧ ((cfgM (F := Ideal)).win 7).index t 2 = 0 := by decide +kernel

theorem only_diag : ∀ t : Fin grid0.N, Diag t → diagOf (qi t) = t := by decide +kernel
theorem flush_7 : ∀ i : Fin 8, Pipeline.Window.flushOf grid0 true (fun i => (![0, (qTile i).toNat, 0] : Fin 3 → Nat)) (diagOf i) = true := by decide +kernel

theorem final7 : (dats m 0 c).arrAt 7 (cfgM (F := Ideal)).N = arr7 m c :=
  (dats m 0 c).arrAt_eq_of_cover 7 (arr7 m c) (fun t ht => by
    by_cases hd : Diag t
    · show ((cfgM (F := Ideal)).win 7).cut (grid0.coords t) ((dats m 0 c).after 7 t) = _
      rw [after_7]
      funext j
      rw [View.read_apply]
      obtain ⟨h, r, l, rfl⟩ : ∃ (h : Fin 8) (r : Fin 256) (l : Fin 128), j = ix3 h r l := ⟨j 0, j 1, j 2, (ix3_eta (n0 := 8) (n1 := 256) (n2 := 128) j).symm⟩
      have e : (((cfgM (F := Ideal)).win 7).blk t).view.emb (ix3 h r l) = (ix3 h (row (qi t) r) l : S8x2048x128.Idx) := by
        funext a
        apply Fin.ext
        match a with
        | ⟨0, _⟩ => show ((cfgM (F := Ideal)).win 7).index t 0 * 8 + 1 * h.val = h.val; rw [(idx7 t).1]; omega
        | ⟨1, _⟩ => show ((cfgM (F := Ideal)).win 7).index t 1 * 256 + 1 * r.val = 256 * (qi t).val + r.val; rw [(idx7 t).2.1]; omega
        | ⟨2, _⟩ => show ((cfgM (F := Ideal)).win 7).index t 2 * 128 + 1 * l.val = l.val; rw [(idx7 t).2.2]; omega
      refine Eq.trans ?_ (congrArg (arr7 m c) e).symm
      show (done m c t.val t.isLt).out (ix3 h r l) = (done m c (diagOf (tileOf (row (qi t) r))).val (diagOf (tileOf (row (qi t) r))).isLt).out (ix3 h (inTile (row (qi t) r)) l)
      rw [tile_row, in_row]
      have := only_diag t hd
      simp only [this]
    · exact absurd ((noFlush_7 (F := Ideal) t hd).symm.trans ht) Bool.false_ne_true) fun i => by
    have h0 : (i 0 : Nat) < 8 := (i 0).isLt
    have h1 : (i 1 : Nat) < 2048 := (i 1).isLt
    have h2 : (i 2 : Nat) < 128 := (i 2).isLt
    have k := (diag_of (tileOf (i 1))).2
    refine ⟨diagOf (tileOf (i 1)), flush_7 _, ?_⟩
    show i ∈ ((View.whole main_v61).slice (((cfgM (F := Ideal)).win 7).rect (diagOf (tileOf (i 1))))).set
    rw [View.set_slice_whole, Rect.mem_set_unit]
    have hi := idx7 (diagOf (tileOf (i 1)))
    rw [k] at hi
    clear k
    generalize diagOf (tileOf (i 1)) = u at hi ⊢
    intro a
    match a with
    | ⟨0, _⟩ =>
      show ((cfgM (F := Ideal)).win 7).index u 0 * 8 ≤ (i 0 : Nat) ∧ (i 0 : Nat) < ((cfgM (F := Ideal)).win 7).index u 0 * 8 + 8
      rw [hi.1]; omega
    | ⟨1, _⟩ =>
      show ((cfgM (F := Ideal)).win 7).index u 1 * 256 ≤ (i 1 : Nat) ∧ (i 1 : Nat) < ((cfgM (F := Ideal)).win 7).index u 1 * 256 + 256
      rw [hi.2.1]
      show (i 1 : Nat) / 256 * 256 ≤ _ ∧ _ < (i 1 : Nat) / 256 * 256 + 256
      omega
    | ⟨2, _⟩ =>
      show ((cfgM (F := Ideal)).win 7).index u 2 * 128 ≤ (i 2 : Nat) ∧ (i 2 : Nat) < ((cfgM (F := Ideal)).win 7).index u 2 * 128 + 128
      rw [hi.2.2]; omega

variable (ρ : Dev nD → PrngReg)

/-- The kernel's run: its result. -/
theorem kernel_run : θ_run (defs (F := Ideal)) (onTc (τ := τ) (main (F := Ideal))) ⟨m, fun _ => 0, ρ⟩ (fun r => ∀ c : Dev nD,
      r.2.mem ((c.tc : Thread nD τ).loc main_v61) = arr7 m c) :=
  (θ_run _ _ _).mono (fun r h c => ((h.1 c).1 7).trans (final7 m c)) (run_main m ρ)

end

end Cert.Rowdot

end
-- ==== Proof.RowdotResults.lean ====
/-
  What the row-sum kernel leaves in its result: each row's product of the cotangent and the attention's output.
-/
module

public import proofs.«01_k».proof.Proof.RowdotInputs
public import proofs.«01_k».proof.Proof.RowdotArrays

@[expose] public section

set_option maxRecDepth 16384

noncomputable section

namespace Cert.Rowdot

open Cert.Attn (Data)
open Cert.Kernel6Ideal Cert.Kernel6Ideal.Gen Idealize.ShloMosaic Idealize.ShloMosaic.TcCoe Idealize.SL.Sem Idealize.ShloMosaic.Tactic

/-! ## A sum over the rows, tile by tile -/

theorem rows_split (f : Fin 2048 → ℝ) : ∑ r, f r = ∑ i : Fin 8, ∑ r : Fin 256, f (row i r) := by
  rw [← Fintype.sum_prod_type' (f := fun i r => f (row i r))]
  refine (Fintype.sum_equiv (finProdFinEquiv (m := 8) (n := 256)) _ _ fun x => ?_).symm
  congr 1
  apply Fin.ext
  show 256 * x.1.val + x.2.val = x.2.val + 256 * x.1.val
  omega

theorem row_le (i j : Fin 8) (r s : Fin 256) (h : j < i) : (row j s).val ≤ (row i r).val := by
  show 256 * j.val + s.val ≤ 256 * i.val + r.val
  have : j.val < i.val := h
  omega
theorem row_diag (i : Fin 8) (r s : Fin 256) : (row i s).val ≤ (row i r).val ↔ s.val ≤ r.val := by
  show 256 * i.val + s.val ≤ 256 * i.val + r.val ↔ _
  omega
theorem row_gt (i j : Fin 8) (r s : Fin 256) (h : ¬j ≤ i) : ¬(row j s).val ≤ (row i r).val := by
  show ¬256 * j.val + s.val ≤ 256 * i.val + r.val
  have : ¬j.val ≤ i.val := h
  omega

section
variable (D : Data) (h : Fin 8)

theorem p_above (r s : Fin 2048) (g : ¬s.val ≤ r.val) : D.p h r s = 0 := if_neg g
/-- Which entries of a point's tile the mask keeps. -/
def keepAt (t : Fin grid0.N) (r s : Fin 256) : Prop := Diag t → s.val ≤ r.val
instance (t : Fin grid0.N) (r s : Fin 256) : Decidable (keepAt t r s) := inferInstanceAs (Decidable (_ → _))

theorem keeps_at (t : Fin grid0.N) : Keeps (maskAt t) (keepAt t) := fun x r s => by
  unfold maskAt keepAt
  by_cases d : Diag t
  · rw [if_pos d, keeps_causal]
    exact if_congr ⟨fun g _ => g, fun g => g d⟩ rfl rfl
  · rw [if_neg d, keeps_whole]
    simp only [d, false_imp_iff]

theorem keep_iff (t : Fin grid0.N) (r s : Fin 256) : keepAt t r s ↔ (row (ki t) s).val ≤ (row (qi t) r).val := by
  unfold keepAt
  by_cases d : Diag t
  · have w : (row (ki t) s).val ≤ (row (qi t) r).val ↔ s.val ≤ r.val := by rw [(diag_iff t).mp d, row_diag]
    exact ⟨fun g => w.mpr (g d), fun g _ => w.mp g⟩
  · simp only [d, false_imp_iff, true_iff]
    exact row_le _ _ _ _ (lt_of_le_of_ne (tiles_le t) fun e => d ((diag_iff t).mpr e.symm))

/-! ## A point's part over the reals -/

theorem point_weight (t : Fin grid0.N) (r s : Fin 256) : (pointOf D t).weight (keepAt t) h r s = D.p h (row (qi t) r) (row (ki t) s) := by
  unfold Point.weight Data.p
  refine if_congr (keep_iff t r s) ?_ rfl
  congr 2
  unfold Point.logit Data.logit pointOf
  dsimp only
  simp only [hd_lane, dm_lane]
  rw [Finset.sum_div, add_sub_assoc]
  congr 1
  exact Finset.sum_congr rfl fun d _ => div_mul_eq_mul_div _ _ _

end

/-- The real numbers a tile gives a result. -/
def tileSum (f : Fin 256 → ℝ) : EReal := ((∑ r, f r : ℝ) : EReal)

section
variable {m : (ℓ : Loc nD τ sig) → Buf (Elt Ideal) ℓ} {c : Dev nD} {D : Data} (H : Given m c D) (h : Fin 8)
include H

theorem add_real (t : Fin grid0.N) (r : Fin 256) (l : Fin 128) : addAt m c t h (ix2 r l)
    = tileSum fun s => D.p h (row (qi t) r) (row (ki t) s) * D.dot h (row (qi t) r) (row (ki t) s) := by
  refine (addD_real h (holds H t) (keeps_at t) r l).trans ?_
  unfold tileSum
  congr 1
  refine Finset.sum_congr rfl fun s _ => ?_
  unfold Point.dots
  rw [point_weight]
  unfold Data.dot pointOf
  dsimp only
  simp only [hd_lane, dm_lane]

end

/-- Tiles on and below the diagonal, of numbers that are zero above it, give the sum over all rows. -/
theorem tiles_down (f : Fin 2048 → ℝ) (P : Fin 8 → Prop) [DecidablePred P] (z : ∀ i, ¬P i → ∀ r, f (row i r) = 0) :
    (∑ i : Fin 8, if P i then tileSum (fun r => f (row i r)) else 0) = ((∑ r, f r : ℝ) : EReal) := by
  rw [rows_split, ← Reals.sum_coe]
  refine Finset.sum_congr rfl fun i _ => ?_
  by_cases g : P i
  · rw [if_pos g]; rfl
  · rw [if_neg g, Finset.sum_eq_zero fun r _ => z i g r, EReal.coe_zero]

/-! ## The result over the reals -/

theorem arr7_at {m : (ℓ : Loc nD τ sig) → Buf (Elt Ideal) ℓ} {c : Dev nD} {D : Data} (H : Given m c D) (h : Fin 8) (r : Fin 2048) (l : Fin 128) :
    arr7 m c (ix3 h r l) = ((D.dd h r : ℝ) : EReal) := by
  obtain ⟨i, r, rfl⟩ := row_surj r
  show (done m c (diagOf (tileOf (row i r))).val (diagOf (tileOf (row i r))).isLt).out (ix3 h (inTile (row i r)) l) = _
  rw [tile_row, in_row]
  refine (out_sum m c (diagOf i) (diag_of i).1 h r l).trans ?_
  rw [(diag_of i).2]
  refine Eq.trans (b := ∑ u : Fin grid0.N, if qi u = i then tileSum (fun s => D.p h (row (qi u) r) (row (ki u) s) * D.dot h (row (qi u) r) (row (ki u) s)) else 0)
    (Finset.sum_congr rfl fun u _ => if_congr Iff.rfl (add_real H h u r l) rfl) ?_
  refine (sum_row (fun i j => tileSum fun s => D.p h (row i r) (row j s) * D.dot h (row i r) (row j s)) i).trans ?_
  refine (tiles_down (fun s => D.p h (row i r) s * D.dot h (row i r) s) (fun j => j ≤ i) fun j g s => ?_).trans ?_
  · rw [p_above D h _ _ (row_gt i j r s g), zero_mul]
  · rw [D.dd_eq]

end Cert.Rowdot

end
-- ==== Proof.RowdotReference.lean ====
/-
  The reference of the attention's row-sum call read at an index: the attention's output times the cotangent, summed
  along each head's lanes.
-/
module

public import proofs.«01_k».proof.Proof.Gen.Reference6Ideal.Read
public import proofs.«01_k».proof.Proof.AttnReal
public import proofs.«01_k».proof.Proof.HostSums

@[expose] public section

set_option maxRecDepth 16384

noncomputable section

namespace Cert.Rowdot

open Cert.Attn (Data lit_eighth lit_bot sge_rows select_one fold_max_real exp_masked)
open Cert.Reference6Ideal Cert.Reference6Ideal.Gen Cert.Reference6Ideal.Read
open Idealize.ShloMosaic Idealize.ShloMosaic.TcCoe Idealize.SL.Sem

variable (x0 x1 x2 x4 : FVec Ideal S1x8x2048x64 .f32) (x3 : FVec Ideal S1x8x2048 .f32)

/-- The reference's arguments are real. -/
structure Finite (D : Data) : Prop where
  q : ∀ h r d, x0 (ix4 0 h r d) = ((D.Q h r d : ℝ) : EReal)
  k : ∀ h r d, x1 (ix4 0 h r d) = ((D.K h r d : ℝ) : EReal)
  v : ∀ h r d, x2 (ix4 0 h r d) = ((D.V h r d : ℝ) : EReal)
  c : ∀ h r, x3 (ix3 0 h r) = ((D.C h r : ℝ) : EReal)
  o : ∀ h r d, x4 (ix4 0 h r d) = ((D.O h r d : ℝ) : EReal)

section
variable (h : Fin 8) (r s : Fin 2048) (d : Fin 64)

/-- The causal mask. -/
theorem mask_at : val_main_call0_v1 (F := Ideal) (ix4 0 h r s) = if s.val ≤ r.val then 1#1 else 0#1 := by
  rw [← sge_rows]
  unfold val_main_call0_v1 val_main_v16 val_main_v15 val_main_v14 val_main_v13 val_main_v12 val_main_v11 val_main_v10
  pointwise

theorem logit_at : val_main_v9 (F := Ideal) x0 x1 x3 (ix4 0 h r s)
    = ((∑ d, x0 (ix4 0 h r d) * x1 (ix4 0 h s d)) * Ideal.ofBits .f32 0x3E000000#32 + x3 (ix3 0 h r) - x3 (ix3 0 h s) : EReal) := by
  unfold val_main_v9 val_main_v8 val_main_v7 val_main_v6 val_main_v5 val_main_v4 val_main_v3 val_main_v2 val_main_v1 val_main_cst_0
  pointwise

theorem masked_at : val_main_v17 (F := Ideal) x0 x1 x3 (ix4 0 h r s)
    = if s.val ≤ r.val then val_main_v9 (F := Ideal) x0 x1 x3 (ix4 0 h r s) else (⊥ : EReal) := by
  rw [val_main_v17_apply, mask_at, select_one, ← lit_bot]
  rfl

theorem max_at : val_main_v18 (F := Ideal) x0 x1 x3 (ix3 0 h r)
    = Finset.fold max (Ideal.ofBits .f32 0xFF800000#32) (fun s => (val_main_v17 (F := Ideal) x0 x1 x3 (ix4 0 h r s) : EReal)) Finset.univ := by
  unfold val_main_v18 val_main_cst_2
  exact HostSums.max4_3 _ _ _ _ 0 h r

theorem maximumf_eq (x y : Ideal .f32) : FloatOps.maximumf x y = (max x y : EReal) := rfl

theorem level_at : val_main_v22 (F := Ideal) x0 x1 x3 (ix4 0 h r s) = (max (Ideal.ofBits .f32 0xFF800000#32) (val_main_v18 (F := Ideal) x0 x1 x3 (ix3 0 h r)) : EReal) := by
  have e : idx_main_v21 (idx_main_v22 (ix4 0 h r s)) = ix3 0 h r := by
    funext k
    match k with
    | ⟨0, _⟩ => rfl
    | ⟨1, _⟩ => rfl
    | ⟨2, _⟩ => rfl
  rw [val_main_v22_apply, val_main_v21_apply, val_main_v20_apply, e, val_main_v19_apply, val_main_cst_3_apply]
  generalize val_main_v18 (F := Ideal) x0 x1 x3 (ix3 0 h r) = M
  exact maximumf_eq _ M

theorem total_at : val_main_v25 (F := Ideal) x0 x1 x3 (ix3 0 h r) = (∑ s, val_main_v24 (F := Ideal) x0 x1 x3 (ix4 0 h r s) : EReal) := by
  unfold val_main_v25 val_main_cst_4
  pointwise

theorem weight_at : val_main_v28 (F := Ideal) x0 x1 x3 (ix4 0 h r s)
    = Ideal.div (val_main_v24 (F := Ideal) x0 x1 x3 (ix4 0 h r s)) (val_main_v25 (F := Ideal) x0 x1 x3 (ix3 0 h r)) := by
  unfold val_main_v28 val_main_v27 val_main_v26
  pointwise

theorem out_at (l : Fin 128) : val_main_v36 (F := Ideal) x0 x1 x2 x3 x4 (ix3 h r l)
    = (∑ d, (∑ s, val_main_v28 (F := Ideal) x0 x1 x3 (ix4 0 h r s) * x2 (ix4 0 h s d)) * x4 (ix4 0 h r d) : EReal) := by
  unfold val_main_v36 val_main_v35 val_main_v34 val_main_v33 val_main_v32 val_main_v29 val_main_cst_5
  pointwise

end

/-! ## Over the reals -/

section
variable {x0 x1 x2 x4 x3} {D : Data} (H : Finite x0 x1 x2 x4 x3 D) (h : Fin 8) (r s : Fin 2048)
include H

theorem masked_real : val_main_v17 (F := Ideal) x0 x1 x3 (ix4 0 h r s) = if s.val ≤ r.val then ((D.logit h r s : ℝ) : EReal) else ⊥ := by
  rw [masked_at, logit_at, lit_eighth, H.c, H.c]
  refine if_congr Iff.rfl ?_ rfl
  rw [Finset.sum_congr rfl fun d _ => by rw [H.q, H.k, ← EReal.coe_mul], Reals.sum_coe, ← EReal.coe_mul, ← EReal.coe_add, ← EReal.coe_sub, mul_one_div]
  rfl

theorem level_real : ∃ M : ℝ, ∀ s, val_main_v22 (F := Ideal) x0 x1 x3 (ix4 0 h r s) = ((M : ℝ) : EReal) := by
  obtain ⟨M, hM⟩ := fold_max_real (fun s => (val_main_v17 (F := Ideal) x0 x1 x3 (ix4 0 h r s) : EReal)) (fun s => by
    rw [masked_real H]
    split
    · exact EReal.coe_ne_top _
    · exact bot_ne_top) ⟨r, by
    rw [masked_real H, if_pos (le_refl _)]
    exact EReal.coe_ne_bot _⟩
  refine ⟨M, fun s => ?_⟩
  rw [level_at, max_at, lit_bot, hM]
  exact max_eq_right bot_le

/-- A row's exponentials, up to a level, and their total. -/
theorem ex_real : ∃ M : ℝ, (∀ s, val_main_v24 (F := Ideal) x0 x1 x3 (ix4 0 h r s) = ((D.ex h r s M : ℝ) : EReal))
    ∧ val_main_v25 (F := Ideal) x0 x1 x3 (ix3 0 h r) = ((D.total h r M : ℝ) : EReal) := by
  obtain ⟨M, hM⟩ := level_real H h r
  have e : ∀ s, val_main_v24 (F := Ideal) x0 x1 x3 (ix4 0 h r s) = ((D.ex h r s M : ℝ) : EReal) := fun s => by
    rw [val_main_v24_apply, val_main_v23_apply, hM]
    exact exp_masked D h r s M _ (masked_real H h r s)
  refine ⟨M, e, ?_⟩
  rw [total_at, Finset.sum_congr rfl fun s _ => e s, Reals.sum_coe]
  rfl

theorem weight_real : val_main_v28 (F := Ideal) x0 x1 x3 (ix4 0 h r s) = ((D.p h r s : ℝ) : EReal) := by
  obtain ⟨M, e, t⟩ := ex_real H h r
  rw [weight_at, e, t, Reals.div_real _ _ (D.total_pos h r M).ne', D.p_level]

theorem ref (l : Fin 128) : val_main_v36 (F := Ideal) x0 x1 x2 x3 x4 (ix3 h r l) = ((D.dd h r : ℝ) : EReal) := by
  rw [out_at]
  refine Eq.trans (b := (∑ d, ((D.O h r d * ∑ s, D.p h r s * D.V h s d : ℝ) : EReal) : EReal)) ?_ (Reals.sum_coe _ _)
  refine Finset.sum_congr rfl fun d _ => ?_
  rw [H.o, Finset.sum_congr rfl fun s _ => by rw [weight_real H, H.v, ← EReal.coe_mul], Reals.sum_coe, ← EReal.coe_mul, mul_comm]

end

end Cert.Rowdot

end
-- ==== Proof.RowdotClaim.lean ====
/-
  The claims about the attention's row-sum call: the frames, the named constant, and on finite arguments equal sums of
  the cotangent times the attention's output.
-/
module

public import proofs.«01_k».proof.Defs
public import proofs.«01_k».proof.Proof.TopArray
public import proofs.«01_k».proof.Proof.RowdotResults
public import proofs.«01_k».proof.Proof.RowdotReference
public import proofs.«01_k».proof.Proof.AttnClaim
public import proofs.«01_k».proof.Proof.Gen.Kernel6
public import Idealize.ShloMosaic.Lib.Quiescent

@[expose] public section

set_option maxRecDepth 16384

noncomputable section

namespace Cert.Rowdot

open Cert.Attn (Data dataOf printed)

open Idealize.ShloMosaic Idealize.ShloMosaic.TcCoe Idealize.SL.Sem Idealize.ShloMosaic.Tactic

/-- The program as written is the program with the mask named, read with the printed constant. -/
theorem frame_kernel : Cert.quiescent_Kernel6 := fun m ρ _ => by
  have h := @frame Bits _ printed m ρ
  refine Eq.mp (?_ : _ = _) h
  sl_kernel_rfl

theorem frame_ideal : Cert.quiescent_Kernel6Ideal := fun m ρ _ => frame m ρ

theorem reference_frame : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

/-- The one constant the idealization replaces: the mask's −1e30, read as −∞. -/
theorem preserves : Cert.preserves_Kernel6_Kernel6Ideal :=
  IdealRules.named_const.statement Cert.Kernel6Ideal.κ "mask" .f32 0xF149F2CA#32 ⊥ rfl

/-! ## The result -/

open Cert.Kernel6Ideal (nD τ sig S1x8x2048x64 S1x8x2048)

section
variable (m : (ℓ : Loc Cert.Reference6Ideal.nD Cert.Reference6Ideal.τ Cert.Reference6Ideal.sig) → Buf (Elt Ideal) ℓ) (c : Dev Cert.Reference6Ideal.nD)

abbrev b0 : FVec Ideal S1x8x2048x64 .f32 := m ((c.tc : Thread Cert.Reference6Ideal.nD Cert.Reference6Ideal.τ).loc Cert.Reference6Ideal.main_arg0)
abbrev b1 : FVec Ideal S1x8x2048x64 .f32 := m ((c.tc : Thread Cert.Reference6Ideal.nD Cert.Reference6Ideal.τ).loc Cert.Reference6Ideal.main_arg1)
abbrev b2 : FVec Ideal S1x8x2048x64 .f32 := m ((c.tc : Thread Cert.Reference6Ideal.nD Cert.Reference6Ideal.τ).loc Cert.Reference6Ideal.main_arg2)
abbrev b3 : FVec Ideal S1x8x2048 .f32 := m ((c.tc : Thread Cert.Reference6Ideal.nD Cert.Reference6Ideal.τ).loc Cert.Reference6Ideal.main_arg3)
abbrev b4 : FVec Ideal S1x8x2048x64 .f32 := m ((c.tc : Thread Cert.Reference6Ideal.nD Cert.Reference6Ideal.τ).loc Cert.Reference6Ideal.main_arg4)
end

theorem algebraic : Cert.algebraic_Kernel6Ideal_Reference6Ideal_pre_finite_attn := by
  intro m ρ m' ρ' hpre hag
  refine ⟨fun c => arr7 m c, ?_, ?_⟩
  · refine (θ_run _ _ _).mono (fun r h c => ?_) (θ_run_and (kernel_run m ρ) (frame (F := Ideal) m ρ))
    exact ⟨h.1 c, h.2.1 c⟩
  · refine (θ_run _ _ _).mono (fun r h c => ?_) (Cert.Reference6Ideal.Value.run (F := Ideal) m' ρ')
    obtain ⟨e0, e1, e2, e3, e4⟩ := hag c
    replace e0 : b0 m' c = aQ m c := e0
    replace e1 : b1 m' c = aK m c := e1
    replace e2 : b2 m' c = aV m c := e2
    replace e3 : b3 m' c = aC m c := e3
    replace e4 : b4 m' c = aO m c := e4
    obtain ⟨p0, p1, p2, p3, p4⟩ := hpre c
    obtain ⟨X0, h0⟩ := Reals.real_of_abs_lt _ _ (Reals.top_array _) p0
    obtain ⟨X1, h1⟩ := Reals.real_of_abs_lt _ _ (Reals.top_array _) p1
    obtain ⟨X2, h2⟩ := Reals.real_of_abs_lt _ _ (Reals.top_array _) p2
    obtain ⟨X3, h3⟩ := Reals.real_of_abs_lt _ _ (Reals.top_array _) p3
    obtain ⟨X4, h4⟩ := Reals.real_of_abs_lt _ _ (Reals.top_array _) p4
    have K : Given m c (dataOf X0 X1 X2 X4 X3) := ⟨fun _ _ _ => congrFun h0 _, fun _ _ _ => congrFun h1 _, fun _ _ _ => congrFun h2 _,
      fun _ _ _ => congrFun h4 _, fun _ _ => congrFun h3 _⟩
    have R : Finite (b0 m' c) (b1 m' c) (b2 m' c) (b4 m' c) (b3 m' c) (dataOf X0 X1 X2 X4 X3) := by
      rw [e0, e1, e2, e3, e4]
      exact ⟨K.q, K.k, K.v, K.c, K.o⟩
    obtain ⟨r0, rest⟩ := h c
    refine ⟨r0.trans ((Cert.Reference6Ideal.Read.val_main_v36_eq (F := Ideal) m' c).trans ?_), rest⟩
    funext j
    obtain ⟨h, r, l, rfl⟩ : ∃ (h : Fin 8) (r : Fin 2048) (l : Fin 128), j = ix3 h r l := ⟨j 0, j 1, j 2, (ix3_eta (n0 := 8) (n1 := 2048) (n2 := 128) j).symm⟩
    exact (ref R h r l).trans (arr7_at K h r l).symm

end Cert.Rowdot

end
-- ==== Proof.lean ====
/- The proof of every claim about the programs of this directory, put together from the files under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal.Run
public import proofs.«01_k».proof.Proof.Gen.Reference2Ideal.Read
public import proofs.«01_k».proof.Proof.InprojClaim
public import proofs.«01_k».proof.Proof.FoxClaim
public import proofs.«01_k».proof.Proof.AttnClaim
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Launch
public import proofs.«01_k».proof.Proof.Gen.Kernel3.Skeleton
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.RwkvClaim
public import proofs.«01_k».proof.Proof.MergeClaim
public import proofs.«01_k».proof.Proof.RowdotClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Skeleton
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Inproj.preFacts, Cert.Fox.preFacts, Cert.Attn.preFacts, Cert.Rwkv.preFacts, Cert.Merge.preFacts,
  fun m ρ _ => Cert.Kernel.Gen.frame m ρ, fun m ρ _ => Cert.KernelIdeal.Gen.frame m ρ, fun m ρ _ => Cert.KernelIdeal.Gen.frame m ρ,
  Cert.Inproj.reference_frame, fun m ρ _ => Cert.Inproj.reference_frame m ρ trivial,
  fun m ρ _ => Cert.Kernel2.Gen.frame m ρ, fun m ρ _ => Cert.Kernel2Ideal.Gen.frame m ρ, fun m ρ _ => Cert.Kernel2Ideal.Gen.frame m ρ,
  Cert.Fox.reference_frame, fun m ρ _ => Cert.Fox.reference_frame m ρ trivial,
  Cert.Attn.frame_kernel, Cert.Attn.frame_ideal, fun m ρ _ => Cert.Attn.frame_ideal m ρ trivial,
  Cert.Attn.reference_frame, fun m ρ _ => Cert.Attn.reference_frame m ρ trivial,
  Cert.Rwkv.frame_kernel, Cert.Rwkv.frame_ideal, fun m ρ _ => Cert.Rwkv.frame_ideal m ρ trivial,
  Cert.Rwkv.reference_frame, fun m ρ _ => Cert.Rwkv.reference_frame m ρ trivial,
  Cert.Merge.frame_kernel, Cert.Merge.frame_ideal, fun m ρ _ => Cert.Merge.frame_ideal m ρ trivial,
  Cert.Merge.reference_frame, fun m ρ _ => Cert.Merge.reference_frame m ρ trivial,
  Cert.Rowdot.frame_kernel, Cert.Rowdot.frame_ideal, fun m ρ _ => Cert.Rowdot.frame_ideal m ρ trivial,
  Cert.Rowdot.reference_frame, fun m ρ _ => Cert.Rowdot.reference_frame m ρ trivial,
  trivial, Cert.Inproj.algebraic, trivial, Cert.Fox.algebraic, Cert.Attn.preserves, Cert.Attn.algebraic, trivial, Cert.Rwkv.algebraic,
  trivial, Cert.Merge.algebraic, Cert.Rowdot.preserves, Cert.Rowdot.algebraic⟩

end Cert.Proof

end
